-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))) = (fun _ => 1#1)

def Pre_Rmsb (m : (ℓ : Loc Cert.Rmsb.nD Cert.Rmsb.τ Cert.Rmsb.sig) → Buf (Elt Bits) ℓ) : Prop :=
  True

def Pre_RmsbIdeal (m : (ℓ : Loc Cert.RmsbIdeal.nD Cert.RmsbIdeal.τ Cert.RmsbIdeal.sig) → Buf (Elt Ideal) ℓ) : Prop :=
  True

def Pre_RmsbIdeal_rmsb_finite [hPre_rmsb_finite : Cert.Pre_rmsb_finite.Facts] (m : (ℓ : Loc Cert.RmsbIdeal.nD Cert.RmsbIdeal.τ Cert.RmsbIdeal.sig) → Buf (Elt Ideal) ℓ) : Prop :=
  ∀ c : Dev Cert.RmsbIdeal.nD,
    (Cert.Pre_rmsb_finite.fn (F := Ideal) (m ((c.tc : Thread Cert.RmsbIdeal.nD Cert.RmsbIdeal.τ).loc Cert.RmsbIdeal.main_arg0)) (m ((c.tc : Thread Cert.RmsbIdeal.nD Cert.RmsbIdeal.τ).loc Cert.RmsbIdeal.main_arg1)) (m ((c.tc : Thread Cert.RmsbIdeal.nD Cert.RmsbIdeal.τ).loc Cert.RmsbIdeal.main_arg2)) (m ((c.tc : Thread Cert.RmsbIdeal.nD Cert.RmsbIdeal.τ).loc Cert.RmsbIdeal.main_arg3)) (m ((c.tc : Thread Cert.RmsbIdeal.nD Cert.RmsbIdeal.τ).loc Cert.RmsbIdeal.main_arg4))) = (fun _ => 1#1)

def Pre_RmsbRefIdeal (m : (ℓ : Loc Cert.RmsbRefIdeal.nD Cert.RmsbRefIdeal.τ Cert.RmsbRefIdeal.sig) → Buf (Elt Ideal) ℓ) : Prop :=
  True

def Pre_RmsbRefIdeal_rmsb_finite [hPre_rmsb_finite : Cert.Pre_rmsb_finite.Facts] (m : (ℓ : Loc Cert.RmsbRefIdeal.nD Cert.RmsbRefIdeal.τ Cert.RmsbRefIdeal.sig) → Buf (Elt Ideal) ℓ) : Prop :=
  ∀ c : Dev Cert.RmsbRefIdeal.nD,
    (Cert.Pre_rmsb_finite.fn (F := Ideal) (m ((c.tc : Thread Cert.RmsbRefIdeal.nD Cert.RmsbRefIdeal.τ).loc Cert.RmsbRefIdeal.main_arg0)) (m ((c.tc : Thread Cert.RmsbRefIdeal.nD Cert.RmsbRefIdeal.τ).loc Cert.RmsbRefIdeal.main_arg1)) (m ((c.tc : Thread Cert.RmsbRefIdeal.nD Cert.RmsbRefIdeal.τ).loc Cert.RmsbRefIdeal.main_arg2)) (m ((c.tc : Thread Cert.RmsbRefIdeal.nD Cert.RmsbRefIdeal.τ).loc Cert.RmsbRefIdeal.main_arg3)) (m ((c.tc : Thread Cert.RmsbRefIdeal.nD Cert.RmsbRefIdeal.τ).loc Cert.RmsbRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_sgu_finite [hPre_sgu_finite : Cert.Pre_sgu_finite.Facts] (m : (ℓ : Loc Cert.SguIdeal.nD Cert.SguIdeal.τ Cert.SguIdeal.sig) → Buf (Elt Ideal) ℓ) : Prop :=
  ∀ c : Dev Cert.SguIdeal.nD,
    (Cert.Pre_sgu_finite.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_sgu_finite [hPre_sgu_finite : Cert.Pre_sgu_finite.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_sgu_finite.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5))) = (fun _ => 1#1)

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_att_finite [hPre_att_finite : Cert.Pre_att_finite.Facts] (m : (ℓ : Loc Cert.AttIdeal.nD Cert.AttIdeal.τ Cert.AttIdeal.sig) → Buf (Elt Ideal) ℓ) : Prop :=
  ∀ c : Dev Cert.AttIdeal.nD,
    (Cert.Pre_att_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_att_finite [hPre_att_finite : Cert.Pre_att_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_att_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))) = (fun _ => 1#1)

def Pre_Bra (m : (ℓ : Loc Cert.Bra.nD Cert.Bra.τ Cert.Bra.sig) → Buf (Elt Bits) ℓ) : Prop :=
  True

def Pre_BraIdeal (m : (ℓ : Loc Cert.BraIdeal.nD Cert.BraIdeal.τ Cert.BraIdeal.sig) → Buf (Elt Ideal) ℓ) : Prop :=
  True

def Pre_BraIdeal_bra_finite [hPre_bra_finite : Cert.Pre_bra_finite.Facts] (m : (ℓ : Loc Cert.BraIdeal.nD Cert.BraIdeal.τ Cert.BraIdeal.sig) → Buf (Elt Ideal) ℓ) : Prop :=
  ∀ c : Dev Cert.BraIdeal.nD,
    (Cert.Pre_bra_finite.fn (F := Ideal) (m ((c.tc : Thread Cert.BraIdeal.nD Cert.BraIdeal.τ).loc Cert.BraIdeal.main_arg0)) (m ((c.tc : Thread Cert.BraIdeal.nD Cert.BraIdeal.τ).loc Cert.BraIdeal.main_arg1)) (m ((c.tc : Thread Cert.BraIdeal.nD Cert.BraIdeal.τ).loc Cert.BraIdeal.main_arg2))) = (fun _ => 1#1)

def Pre_BraRefIdeal (m : (ℓ : Loc Cert.BraRefIdeal.nD Cert.BraRefIdeal.τ Cert.BraRefIdeal.sig) → Buf (Elt Ideal) ℓ) : Prop :=
  True

def Pre_BraRefIdeal_bra_finite [hPre_bra_finite : Cert.Pre_bra_finite.Facts] (m : (ℓ : Loc Cert.BraRefIdeal.nD Cert.BraRefIdeal.τ Cert.BraRefIdeal.sig) → Buf (Elt Ideal) ℓ) : Prop :=
  ∀ c : Dev Cert.BraRefIdeal.nD,
    (Cert.Pre_bra_finite.fn (F := Ideal) (m ((c.tc : Thread Cert.BraRefIdeal.nD Cert.BraRefIdeal.τ).loc Cert.BraRefIdeal.main_arg0)) (m ((c.tc : Thread Cert.BraRefIdeal.nD Cert.BraRefIdeal.τ).loc Cert.BraRefIdeal.main_arg1)) (m ((c.tc : Thread Cert.BraRefIdeal.nD Cert.BraRefIdeal.τ).loc Cert.BraRefIdeal.main_arg2))) = (fun _ => 1#1)

def Pre_Sguf (m : (ℓ : Loc Cert.Sguf.nD Cert.Sguf.τ Cert.Sguf.sig) → Buf (Elt Bits) ℓ) : Prop :=
  True

def Pre_SgufIdeal (m : (ℓ : Loc Cert.SgufIdeal.nD Cert.SgufIdeal.τ Cert.SgufIdeal.sig) → Buf (Elt Ideal) ℓ) : Prop :=
  True

def Pre_SgufIdeal_sguf_finite [hPre_sguf_finite : Cert.Pre_sguf_finite.Facts] (m : (ℓ : Loc Cert.SgufIdeal.nD Cert.SgufIdeal.τ Cert.SgufIdeal.sig) → Buf (Elt Ideal) ℓ) : Prop :=
  ∀ c : Dev Cert.SgufIdeal.nD,
    (Cert.Pre_sguf_finite.fn (F := Ideal) (m ((c.tc : Thread Cert.SgufIdeal.nD Cert.SgufIdeal.τ).loc Cert.SgufIdeal.main_arg0)) (m ((c.tc : Thread Cert.SgufIdeal.nD Cert.SgufIdeal.τ).loc Cert.SgufIdeal.main_arg1)) (m ((c.tc : Thread Cert.SgufIdeal.nD Cert.SgufIdeal.τ).loc Cert.SgufIdeal.main_arg2)) (m ((c.tc : Thread Cert.SgufIdeal.nD Cert.SgufIdeal.τ).loc Cert.SgufIdeal.main_arg3)) (m ((c.tc : Thread Cert.SgufIdeal.nD Cert.SgufIdeal.τ).loc Cert.SgufIdeal.main_arg4))) = (fun _ => 1#1)

def Pre_SgufRefIdeal (m : (ℓ : Loc Cert.SgufRefIdeal.nD Cert.SgufRefIdeal.τ Cert.SgufRefIdeal.sig) → Buf (Elt Ideal) ℓ) : Prop :=
  True

def Pre_SgufRefIdeal_sguf_finite [hPre_sguf_finite : Cert.Pre_sguf_finite.Facts] (m : (ℓ : Loc Cert.SgufRefIdeal.nD Cert.SgufRefIdeal.τ Cert.SgufRefIdeal.sig) → Buf (Elt Ideal) ℓ) : Prop :=
  ∀ c : Dev Cert.SgufRefIdeal.nD,
    (Cert.Pre_sguf_finite.fn (F := Ideal) (m ((c.tc : Thread Cert.SgufRefIdeal.nD Cert.SgufRefIdeal.τ).loc Cert.SgufRefIdeal.main_arg0)) (m ((c.tc : Thread Cert.SgufRefIdeal.nD Cert.SgufRefIdeal.τ).loc Cert.SgufRefIdeal.main_arg1)) (m ((c.tc : Thread Cert.SgufRefIdeal.nD Cert.SgufRefIdeal.τ).loc Cert.SgufRefIdeal.main_arg2)) (m ((c.tc : Thread Cert.SgufRefIdeal.nD Cert.SgufRefIdeal.τ).loc Cert.SgufRefIdeal.main_arg3)) (m ((c.tc : Thread Cert.SgufRefIdeal.nD Cert.SgufRefIdeal.τ).loc Cert.SgufRefIdeal.main_arg4))) = (fun _ => 1#1)

def Pre_Braf (m : (ℓ : Loc Cert.Braf.nD Cert.Braf.τ Cert.Braf.sig) → Buf (Elt Bits) ℓ) : Prop :=
  True

def Pre_BrafIdeal (m : (ℓ : Loc Cert.BrafIdeal.nD Cert.BrafIdeal.τ Cert.BrafIdeal.sig) → Buf (Elt Ideal) ℓ) : Prop :=
  True

def Pre_BrafIdeal_braf_finite [hPre_braf_finite : Cert.Pre_braf_finite.Facts] (m : (ℓ : Loc Cert.BrafIdeal.nD Cert.BrafIdeal.τ Cert.BrafIdeal.sig) → Buf (Elt Ideal) ℓ) : Prop :=
  ∀ c : Dev Cert.BrafIdeal.nD,
    (Cert.Pre_braf_finite.fn (F := Ideal) (m ((c.tc : Thread Cert.BrafIdeal.nD Cert.BrafIdeal.τ).loc Cert.BrafIdeal.main_arg0)) (m ((c.tc : Thread Cert.BrafIdeal.nD Cert.BrafIdeal.τ).loc Cert.BrafIdeal.main_arg1))) = (fun _ => 1#1)

def Pre_BrafRefIdeal (m : (ℓ : Loc Cert.BrafRefIdeal.nD Cert.BrafRefIdeal.τ Cert.BrafRefIdeal.sig) → Buf (Elt Ideal) ℓ) : Prop :=
  True

def Pre_BrafRefIdeal_braf_finite [hPre_braf_finite : Cert.Pre_braf_finite.Facts] (m : (ℓ : Loc Cert.BrafRefIdeal.nD Cert.BrafRefIdeal.τ Cert.BrafRefIdeal.sig) → Buf (Elt Ideal) ℓ) : Prop :=
  ∀ c : Dev Cert.BrafRefIdeal.nD,
    (Cert.Pre_braf_finite.fn (F := Ideal) (m ((c.tc : Thread Cert.BrafRefIdeal.nD Cert.BrafRefIdeal.τ).loc Cert.BrafRefIdeal.main_arg0)) (m ((c.tc : Thread Cert.BrafRefIdeal.nD Cert.BrafRefIdeal.τ).loc Cert.BrafRefIdeal.main_arg1))) = (fun _ => 1#1)

def Pre_Mergef (m : (ℓ : Loc Cert.Mergef.nD Cert.Mergef.τ Cert.Mergef.sig) → Buf (Elt Bits) ℓ) : Prop :=
  True

def Pre_MergefIdeal (m : (ℓ : Loc Cert.MergefIdeal.nD Cert.MergefIdeal.τ Cert.MergefIdeal.sig) → Buf (Elt Ideal) ℓ) : Prop :=
  True

def Pre_MergefIdeal_mergef_finite [hPre_mergef_finite : Cert.Pre_mergef_finite.Facts] (m : (ℓ : Loc Cert.MergefIdeal.nD Cert.MergefIdeal.τ Cert.MergefIdeal.sig) → Buf (Elt Ideal) ℓ) : Prop :=
  ∀ c : Dev Cert.MergefIdeal.nD,
    (Cert.Pre_mergef_finite.fn (F := Ideal) (m ((c.tc : Thread Cert.MergefIdeal.nD Cert.MergefIdeal.τ).loc Cert.MergefIdeal.main_arg0)) (m ((c.tc : Thread Cert.MergefIdeal.nD Cert.MergefIdeal.τ).loc Cert.MergefIdeal.main_arg1)) (m ((c.tc : Thread Cert.MergefIdeal.nD Cert.MergefIdeal.τ).loc Cert.MergefIdeal.main_arg2)) (m ((c.tc : Thread Cert.MergefIdeal.nD Cert.MergefIdeal.τ).loc Cert.MergefIdeal.main_arg3)) (m ((c.tc : Thread Cert.MergefIdeal.nD Cert.MergefIdeal.τ).loc Cert.MergefIdeal.main_arg4)) (m ((c.tc : Thread Cert.MergefIdeal.nD Cert.MergefIdeal.τ).loc Cert.MergefIdeal.main_arg5)) (m ((c.tc : Thread Cert.MergefIdeal.nD Cert.MergefIdeal.τ).loc Cert.MergefIdeal.main_arg6)) (m ((c.tc : Thread Cert.MergefIdeal.nD Cert.MergefIdeal.τ).loc Cert.MergefIdeal.main_arg7))) = (fun _ => 1#1)

def Pre_MergefRefIdeal (m : (ℓ : Loc Cert.MergefRefIdeal.nD Cert.MergefRefIdeal.τ Cert.MergefRefIdeal.sig) → Buf (Elt Ideal) ℓ) : Prop :=
  True

def Pre_MergefRefIdeal_mergef_finite [hPre_mergef_finite : Cert.Pre_mergef_finite.Facts] (m : (ℓ : Loc Cert.MergefRefIdeal.nD Cert.MergefRefIdeal.τ Cert.MergefRefIdeal.sig) → Buf (Elt Ideal) ℓ) : Prop :=
  ∀ c : Dev Cert.MergefRefIdeal.nD,
    (Cert.Pre_mergef_finite.fn (F := Ideal) (m ((c.tc : Thread Cert.MergefRefIdeal.nD Cert.MergefRefIdeal.τ).loc Cert.MergefRefIdeal.main_arg0)) (m ((c.tc : Thread Cert.MergefRefIdeal.nD Cert.MergefRefIdeal.τ).loc Cert.MergefRefIdeal.main_arg1)) (m ((c.tc : Thread Cert.MergefRefIdeal.nD Cert.MergefRefIdeal.τ).loc Cert.MergefRefIdeal.main_arg2)) (m ((c.tc : Thread Cert.MergefRefIdeal.nD Cert.MergefRefIdeal.τ).loc Cert.MergefRefIdeal.main_arg3)) (m ((c.tc : Thread Cert.MergefRefIdeal.nD Cert.MergefRefIdeal.τ).loc Cert.MergefRefIdeal.main_arg4)) (m ((c.tc : Thread Cert.MergefRefIdeal.nD Cert.MergefRefIdeal.τ).loc Cert.MergefRefIdeal.main_arg5)) (m ((c.tc : Thread Cert.MergefRefIdeal.nD Cert.MergefRefIdeal.τ).loc Cert.MergefRefIdeal.main_arg6)) (m ((c.tc : Thread Cert.MergefRefIdeal.nD Cert.MergefRefIdeal.τ).loc Cert.MergefRefIdeal.main_arg7))) = (fun _ => 1#1)

def Pre_Plef (m : (ℓ : Loc Cert.Plef.nD Cert.Plef.τ Cert.Plef.sig) → Buf (Elt Bits) ℓ) : Prop :=
  True

def Pre_PlefIdeal (m : (ℓ : Loc Cert.PlefIdeal.nD Cert.PlefIdeal.τ Cert.PlefIdeal.sig) → Buf (Elt Ideal) ℓ) : Prop :=
  True

def Pre_PlefIdeal_plef_finite [hPre_plef_finite : Cert.Pre_plef_finite.Facts] (m : (ℓ : Loc Cert.PlefIdeal.nD Cert.PlefIdeal.τ Cert.PlefIdeal.sig) → Buf (Elt Ideal) ℓ) : Prop :=
  ∀ c : Dev Cert.PlefIdeal.nD,
    (Cert.Pre_plef_finite.fn (F := Ideal) (m ((c.tc : Thread Cert.PlefIdeal.nD Cert.PlefIdeal.τ).loc Cert.PlefIdeal.main_arg0)) (m ((c.tc : Thread Cert.PlefIdeal.nD Cert.PlefIdeal.τ).loc Cert.PlefIdeal.main_arg1)) (m ((c.tc : Thread Cert.PlefIdeal.nD Cert.PlefIdeal.τ).loc Cert.PlefIdeal.main_arg2)) (m ((c.tc : Thread Cert.PlefIdeal.nD Cert.PlefIdeal.τ).loc Cert.PlefIdeal.main_arg3)) (m ((c.tc : Thread Cert.PlefIdeal.nD Cert.PlefIdeal.τ).loc Cert.PlefIdeal.main_arg4))) = (fun _ => 1#1)

def Pre_PlefRefIdeal (m : (ℓ : Loc Cert.PlefRefIdeal.nD Cert.PlefRefIdeal.τ Cert.PlefRefIdeal.sig) → Buf (Elt Ideal) ℓ) : Prop :=
  True

def Pre_PlefRefIdeal_plef_finite [hPre_plef_finite : Cert.Pre_plef_finite.Facts] (m : (ℓ : Loc Cert.PlefRefIdeal.nD Cert.PlefRefIdeal.τ Cert.PlefRefIdeal.sig) → Buf (Elt Ideal) ℓ) : Prop :=
  ∀ c : Dev Cert.PlefRefIdeal.nD,
    (Cert.Pre_plef_finite.fn (F := Ideal) (m ((c.tc : Thread Cert.PlefRefIdeal.nD Cert.PlefRefIdeal.τ).loc Cert.PlefRefIdeal.main_arg0)) (m ((c.tc : Thread Cert.PlefRefIdeal.nD Cert.PlefRefIdeal.τ).loc Cert.PlefRefIdeal.main_arg1)) (m ((c.tc : Thread Cert.PlefRefIdeal.nD Cert.PlefRefIdeal.τ).loc Cert.PlefRefIdeal.main_arg2)) (m ((c.tc : Thread Cert.PlefRefIdeal.nD Cert.PlefRefIdeal.τ).loc Cert.PlefRefIdeal.main_arg3)) (m ((c.tc : Thread Cert.PlefRefIdeal.nD Cert.PlefRefIdeal.τ).loc Cert.PlefRefIdeal.main_arg4))) = (fun _ => 1#1)

def Pre_Ffnf (m : (ℓ : Loc Cert.Ffnf.nD Cert.Ffnf.τ Cert.Ffnf.sig) → Buf (Elt Bits) ℓ) : Prop :=
  True

def Pre_FfnfIdeal (m : (ℓ : Loc Cert.FfnfIdeal.nD Cert.FfnfIdeal.τ Cert.FfnfIdeal.sig) → Buf (Elt Ideal) ℓ) : Prop :=
  True

def Pre_FfnfIdeal_ffnf_finite [hPre_ffnf_finite : Cert.Pre_ffnf_finite.Facts] (m : (ℓ : Loc Cert.FfnfIdeal.nD Cert.FfnfIdeal.τ Cert.FfnfIdeal.sig) → Buf (Elt Ideal) ℓ) : Prop :=
  ∀ c : Dev Cert.FfnfIdeal.nD,
    (Cert.Pre_ffnf_finite.fn (F := Ideal) (m ((c.tc : Thread Cert.FfnfIdeal.nD Cert.FfnfIdeal.τ).loc Cert.FfnfIdeal.main_arg0)) (m ((c.tc : Thread Cert.FfnfIdeal.nD Cert.FfnfIdeal.τ).loc Cert.FfnfIdeal.main_arg1)) (m ((c.tc : Thread Cert.FfnfIdeal.nD Cert.FfnfIdeal.τ).loc Cert.FfnfIdeal.main_arg2)) (m ((c.tc : Thread Cert.FfnfIdeal.nD Cert.FfnfIdeal.τ).loc Cert.FfnfIdeal.main_arg3))) = (fun _ => 1#1)

def Pre_FfnfRefIdeal (m : (ℓ : Loc Cert.FfnfRefIdeal.nD Cert.FfnfRefIdeal.τ Cert.FfnfRefIdeal.sig) → Buf (Elt Ideal) ℓ) : Prop :=
  True

def Pre_FfnfRefIdeal_ffnf_finite [hPre_ffnf_finite : Cert.Pre_ffnf_finite.Facts] (m : (ℓ : Loc Cert.FfnfRefIdeal.nD Cert.FfnfRefIdeal.τ Cert.FfnfRefIdeal.sig) → Buf (Elt Ideal) ℓ) : Prop :=
  ∀ c : Dev Cert.FfnfRefIdeal.nD,
    (Cert.Pre_ffnf_finite.fn (F := Ideal) (m ((c.tc : Thread Cert.FfnfRefIdeal.nD Cert.FfnfRefIdeal.τ).loc Cert.FfnfRefIdeal.main_arg0)) (m ((c.tc : Thread Cert.FfnfRefIdeal.nD Cert.FfnfRefIdeal.τ).loc Cert.FfnfRefIdeal.main_arg1)) (m ((c.tc : Thread Cert.FfnfRefIdeal.nD Cert.FfnfRefIdeal.τ).loc Cert.FfnfRefIdeal.main_arg2)) (m ((c.tc : Thread Cert.FfnfRefIdeal.nD Cert.FfnfRefIdeal.τ).loc Cert.FfnfRefIdeal.main_arg3))) = (fun _ => 1#1)

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Rmsb [hRmsb : Cert.Rmsb.Facts] : Prop :=
  ∀ (m : (ℓ : Loc Cert.Rmsb.nD Cert.Rmsb.τ Cert.Rmsb.sig) → Buf (Elt Bits) ℓ) (g : Dev Cert.Rmsb.nD → PrngReg), Pre_Rmsb m →
    θ_run (Cert.Rmsb.defs (F := Bits)) (onTc (τ := Cert.Rmsb.τ) (Cert.Rmsb.main (F := Bits))) ⟨m, fun _ => 0, g⟩ (fun r => (∀ c : Dev Cert.Rmsb.nD,
      r.2.mem ((c.tc : Thread Cert.Rmsb.nD Cert.Rmsb.τ).loc Cert.Rmsb.main_arg0) = m ((c.tc : Thread Cert.Rmsb.nD Cert.Rmsb.τ).loc Cert.Rmsb.main_arg0)
      ∧ r.2.mem ((c.tc : Thread Cert.Rmsb.nD Cert.Rmsb.τ).loc Cert.Rmsb.main_arg1) = m ((c.tc : Thread Cert.Rmsb.nD Cert.Rmsb.τ).loc Cert.Rmsb.main_arg1)
      ∧ r.2.mem ((c.tc : Thread Cert.Rmsb.nD Cert.Rmsb.τ).loc Cert.Rmsb.main_arg2) = m ((c.tc : Thread Cert.Rmsb.nD Cert.Rmsb.τ).loc Cert.Rmsb.main_arg2)
      ∧ r.2.mem ((c.tc : Thread Cert.Rmsb.nD Cert.Rmsb.τ).loc Cert.Rmsb.main_arg3) = m ((c.tc : Thread Cert.Rmsb.nD Cert.Rmsb.τ).loc Cert.Rmsb.main_arg3)
      ∧ r.2.mem ((c.tc : Thread Cert.Rmsb.nD Cert.Rmsb.τ).loc Cert.Rmsb.main_arg4) = m ((c.tc : Thread Cert.Rmsb.nD Cert.Rmsb.τ).loc Cert.Rmsb.main_arg4))
      ∧ r.2.sem = fun _ => 0)

def quiescent_RmsbIdeal [hRmsbIdeal : Cert.RmsbIdeal.Facts] : Prop :=
  ∀ (m : (ℓ : Loc Cert.RmsbIdeal.nD Cert.RmsbIdeal.τ Cert.RmsbIdeal.sig) → Buf (Elt Ideal) ℓ) (g : Dev Cert.RmsbIdeal.nD → PrngReg), Pre_RmsbIdeal m →
    θ_run (Cert.RmsbIdeal.defs (F := Ideal)) (onTc (τ := Cert.RmsbIdeal.τ) (Cert.RmsbIdeal.main (F := Ideal))) ⟨m, fun _ => 0, g⟩ (fun r => (∀ c : Dev Cert.RmsbIdeal.nD,
      r.2.mem ((c.tc : Thread Cert.RmsbIdeal.nD Cert.RmsbIdeal.τ).loc Cert.RmsbIdeal.main_arg0) = m ((c.tc : Thread Cert.RmsbIdeal.nD Cert.RmsbIdeal.τ).loc Cert.RmsbIdeal.main_arg0)
      ∧ r.2.mem ((c.tc : Thread Cert.RmsbIdeal.nD Cert.RmsbIdeal.τ).loc Cert.RmsbIdeal.main_arg1) = m ((c.tc : Thread Cert.RmsbIdeal.nD Cert.RmsbIdeal.τ).loc Cert.RmsbIdeal.main_arg1)
      ∧ r.2.mem ((c.tc : Thread Cert.RmsbIdeal.nD Cert.RmsbIdeal.τ).loc Cert.RmsbIdeal.main_arg2) = m ((c.tc : Thread Cert.RmsbIdeal.nD Cert.RmsbIdeal.τ).loc Cert.RmsbIdeal.main_arg2)
      ∧ r.2.mem ((c.tc : Thread Cert.RmsbIdeal.nD Cert.RmsbIdeal.τ).loc Cert.RmsbIdeal.main_arg3) = m ((c.tc : Thread Cert.RmsbIdeal.nD Cert.RmsbIdeal.τ).loc Cert.RmsbIdeal.main_arg3)
      ∧ r.2.mem ((c.tc : Thread Cert.RmsbIdeal.nD Cert.RmsbIdeal.τ).loc Cert.RmsbIdeal.main_arg4) = m ((c.tc : Thread Cert.RmsbIdeal.nD Cert.RmsbIdeal.τ).loc Cert.RmsbIdeal.main_arg4))
      ∧ r.2.sem = fun _ => 0)

def quiescent_RmsbIdeal_pre_rmsb_finite [hRmsbIdeal : Cert.RmsbIdeal.Facts] [hPre_rmsb_finite : Cert.Pre_rmsb_finite.Facts] : Prop :=
  ∀ (m : (ℓ : Loc Cert.RmsbIdeal.nD Cert.RmsbIdeal.τ Cert.RmsbIdeal.sig) → Buf (Elt Ideal) ℓ) (g : Dev Cert.RmsbIdeal.nD → PrngReg), Pre_RmsbIdeal_rmsb_finite m →
    θ_run (Cert.RmsbIdeal.defs (F := Ideal)) (onTc (τ := Cert.RmsbIdeal.τ) (Cert.RmsbIdeal.main (F := Ideal))) ⟨m, fun _ => 0, g⟩ (fun r => (∀ c : Dev Cert.RmsbIdeal.nD,
      r.2.mem ((c.tc : Thread Cert.RmsbIdeal.nD Cert.RmsbIdeal.τ).loc Cert.RmsbIdeal.main_arg0) = m ((c.tc : Thread Cert.RmsbIdeal.nD Cert.RmsbIdeal.τ).loc Cert.RmsbIdeal.main_arg0)
      ∧ r.2.mem ((c.tc : Thread Cert.RmsbIdeal.nD Cert.RmsbIdeal.τ).loc Cert.RmsbIdeal.main_arg1) = m ((c.tc : Thread Cert.RmsbIdeal.nD Cert.RmsbIdeal.τ).loc Cert.RmsbIdeal.main_arg1)
      ∧ r.2.mem ((c.tc : Thread Cert.RmsbIdeal.nD Cert.RmsbIdeal.τ).loc Cert.RmsbIdeal.main_arg2) = m ((c.tc : Thread Cert.RmsbIdeal.nD Cert.RmsbIdeal.τ).loc Cert.RmsbIdeal.main_arg2)
      ∧ r.2.mem ((c.tc : Thread Cert.RmsbIdeal.nD Cert.RmsbIdeal.τ).loc Cert.RmsbIdeal.main_arg3) = m ((c.tc : Thread Cert.RmsbIdeal.nD Cert.RmsbIdeal.τ).loc Cert.RmsbIdeal.main_arg3)
      ∧ r.2.mem ((c.tc : Thread Cert.RmsbIdeal.nD Cert.RmsbIdeal.τ).loc Cert.RmsbIdeal.main_arg4) = m ((c.tc : Thread Cert.RmsbIdeal.nD Cert.RmsbIdeal.τ).loc Cert.RmsbIdeal.main_arg4))
      ∧ r.2.sem = fun _ => 0)

def quiescent_RmsbRefIdeal [hRmsbRefIdeal : Cert.RmsbRefIdeal.Facts] : Prop :=
  ∀ (m : (ℓ : Loc Cert.RmsbRefIdeal.nD Cert.RmsbRefIdeal.τ Cert.RmsbRefIdeal.sig) → Buf (Elt Ideal) ℓ) (g : Dev Cert.RmsbRefIdeal.nD → PrngReg), Pre_RmsbRefIdeal m →
    θ_run (Cert.RmsbRefIdeal.defs (F := Ideal)) (onTc (τ := Cert.RmsbRefIdeal.τ) (Cert.RmsbRefIdeal.main (F := Ideal))) ⟨m, fun _ => 0, g⟩ (fun r => (∀ c : Dev Cert.RmsbRefIdeal.nD,
      r.2.mem ((c.tc : Thread Cert.RmsbRefIdeal.nD Cert.RmsbRefIdeal.τ).loc Cert.RmsbRefIdeal.main_arg0) = m ((c.tc : Thread Cert.RmsbRefIdeal.nD Cert.RmsbRefIdeal.τ).loc Cert.RmsbRefIdeal.main_arg0)
      ∧ r.2.mem ((c.tc : Thread Cert.RmsbRefIdeal.nD Cert.RmsbRefIdeal.τ).loc Cert.RmsbRefIdeal.main_arg1) = m ((c.tc : Thread Cert.RmsbRefIdeal.nD Cert.RmsbRefIdeal.τ).loc Cert.RmsbRefIdeal.main_arg1)
      ∧ r.2.mem ((c.tc : Thread Cert.RmsbRefIdeal.nD Cert.RmsbRefIdeal.τ).loc Cert.RmsbRefIdeal.main_arg2) = m ((c.tc : Thread Cert.RmsbRefIdeal.nD Cert.RmsbRefIdeal.τ).loc Cert.RmsbRefIdeal.main_arg2)
      ∧ r.2.mem ((c.tc : Thread Cert.RmsbRefIdeal.nD Cert.RmsbRefIdeal.τ).loc Cert.RmsbRefIdeal.main_arg3) = m ((c.tc : Thread Cert.RmsbRefIdeal.nD Cert.RmsbRefIdeal.τ).loc Cert.RmsbRefIdeal.main_arg3)
      ∧ r.2.mem ((c.tc : Thread Cert.RmsbRefIdeal.nD Cert.RmsbRefIdeal.τ).loc Cert.RmsbRefIdeal.main_arg4) = m ((c.tc : Thread Cert.RmsbRefIdeal.nD Cert.RmsbRefIdeal.τ).loc Cert.RmsbRefIdeal.main_arg4))
      ∧ r.2.sem = fun _ => 0)

def quiescent_RmsbRefIdeal_pre_rmsb_finite [hRmsbRefIdeal : Cert.RmsbRefIdeal.Facts] [hPre_rmsb_finite : Cert.Pre_rmsb_finite.Facts] : Prop :=
  ∀ (m : (ℓ : Loc Cert.RmsbRefIdeal.nD Cert.RmsbRefIdeal.τ Cert.RmsbRefIdeal.sig) → Buf (Elt Ideal) ℓ) (g : Dev Cert.RmsbRefIdeal.nD → PrngReg), Pre_RmsbRefIdeal_rmsb_finite m →
    θ_run (Cert.RmsbRefIdeal.defs (F := Ideal)) (onTc (τ := Cert.RmsbRefIdeal.τ) (Cert.RmsbRefIdeal.main (F := Ideal))) ⟨m, fun _ => 0, g⟩ (fun r => (∀ c : Dev Cert.RmsbRefIdeal.nD,
      r.2.mem ((c.tc : Thread Cert.RmsbRefIdeal.nD Cert.RmsbRefIdeal.τ).loc Cert.RmsbRefIdeal.main_arg0) = m ((c.tc : Thread Cert.RmsbRefIdeal.nD Cert.RmsbRefIdeal.τ).loc Cert.RmsbRefIdeal.main_arg0)
      ∧ r.2.mem ((c.tc : Thread Cert.RmsbRefIdeal.nD Cert.RmsbRefIdeal.τ).loc Cert.RmsbRefIdeal.main_arg1) = m ((c.tc : Thread Cert.RmsbRefIdeal.nD Cert.RmsbRefIdeal.τ).loc Cert.RmsbRefIdeal.main_arg1)
      ∧ r.2.mem ((c.tc : Thread Cert.RmsbRefIdeal.nD Cert.RmsbRefIdeal.τ).loc Cert.RmsbRefIdeal.main_arg2) = m ((c.tc : Thread Cert.RmsbRefIdeal.nD Cert.RmsbRefIdeal.τ).loc Cert.RmsbRefIdeal.main_arg2)
      ∧ r.2.mem ((c.tc : Thread Cert.RmsbRefIdeal.nD Cert.RmsbRefIdeal.τ).loc Cert.RmsbRefIdeal.main_arg3) = m ((c.tc : Thread Cert.RmsbRefIdeal.nD Cert.RmsbRefIdeal.τ).loc Cert.RmsbRefIdeal.main_arg3)
      ∧ r.2.mem ((c.tc : Thread Cert.RmsbRefIdeal.nD Cert.RmsbRefIdeal.τ).loc Cert.RmsbRefIdeal.main_arg4) = m ((c.tc : Thread Cert.RmsbRefIdeal.nD Cert.RmsbRefIdeal.τ).loc Cert.RmsbRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguIdeal_pre_sgu_finite [hSguIdeal : Cert.SguIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg), Pre_SguIdeal_sgu_finite m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_SguRefIdeal_pre_sgu_finite [hSguRefIdeal : Cert.SguRefIdeal.Facts] [hPre_sgu_finite : Cert.Pre_sgu_finite.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_sgu_finite m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttIdeal_pre_att_finite [hAttIdeal : Cert.AttIdeal.Facts] [hPre_att_finite : Cert.Pre_att_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_att_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_AttRefIdeal_pre_att_finite [hAttRefIdeal : Cert.AttRefIdeal.Facts] [hPre_att_finite : Cert.Pre_att_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_att_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Bra [hBra : Cert.Bra.Facts] : Prop :=
  ∀ (m : (ℓ : Loc Cert.Bra.nD Cert.Bra.τ Cert.Bra.sig) → Buf (Elt Bits) ℓ) (g : Dev Cert.Bra.nD → PrngReg), Pre_Bra m →
    θ_run (Cert.Bra.defs (F := Bits)) (onTc (τ := Cert.Bra.τ) (Cert.Bra.main (F := Bits))) ⟨m, fun _ => 0, g⟩ (fun r => (∀ c : Dev Cert.Bra.nD,
      r.2.mem ((c.tc : Thread Cert.Bra.nD Cert.Bra.τ).loc Cert.Bra.main_arg0) = m ((c.tc : Thread Cert.Bra.nD Cert.Bra.τ).loc Cert.Bra.main_arg0)
      ∧ r.2.mem ((c.tc : Thread Cert.Bra.nD Cert.Bra.τ).loc Cert.Bra.main_arg1) = m ((c.tc : Thread Cert.Bra.nD Cert.Bra.τ).loc Cert.Bra.main_arg1)
      ∧ r.2.mem ((c.tc : Thread Cert.Bra.nD Cert.Bra.τ).loc Cert.Bra.main_arg2) = m ((c.tc : Thread Cert.Bra.nD Cert.Bra.τ).loc Cert.Bra.main_arg2))
      ∧ r.2.sem = fun _ => 0)

def quiescent_BraIdeal [hBraIdeal : Cert.BraIdeal.Facts] : Prop :=
  ∀ (m : (ℓ : Loc Cert.BraIdeal.nD Cert.BraIdeal.τ Cert.BraIdeal.sig) → Buf (Elt Ideal) ℓ) (g : Dev Cert.BraIdeal.nD → PrngReg), Pre_BraIdeal m →
    θ_run (Cert.BraIdeal.defs (F := Ideal)) (onTc (τ := Cert.BraIdeal.τ) (Cert.BraIdeal.main (F := Ideal))) ⟨m, fun _ => 0, g⟩ (fun r => (∀ c : Dev Cert.BraIdeal.nD,
      r.2.mem ((c.tc : Thread Cert.BraIdeal.nD Cert.BraIdeal.τ).loc Cert.BraIdeal.main_arg0) = m ((c.tc : Thread Cert.BraIdeal.nD Cert.BraIdeal.τ).loc Cert.BraIdeal.main_arg0)
      ∧ r.2.mem ((c.tc : Thread Cert.BraIdeal.nD Cert.BraIdeal.τ).loc Cert.BraIdeal.main_arg1) = m ((c.tc : Thread Cert.BraIdeal.nD Cert.BraIdeal.τ).loc Cert.BraIdeal.main_arg1)
      ∧ r.2.mem ((c.tc : Thread Cert.BraIdeal.nD Cert.BraIdeal.τ).loc Cert.BraIdeal.main_arg2) = m ((c.tc : Thread Cert.BraIdeal.nD Cert.BraIdeal.τ).loc Cert.BraIdeal.main_arg2))
      ∧ r.2.sem = fun _ => 0)

def quiescent_BraIdeal_pre_bra_finite [hBraIdeal : Cert.BraIdeal.Facts] [hPre_bra_finite : Cert.Pre_bra_finite.Facts] : Prop :=
  ∀ (m : (ℓ : Loc Cert.BraIdeal.nD Cert.BraIdeal.τ Cert.BraIdeal.sig) → Buf (Elt Ideal) ℓ) (g : Dev Cert.BraIdeal.nD → PrngReg), Pre_BraIdeal_bra_finite m →
    θ_run (Cert.BraIdeal.defs (F := Ideal)) (onTc (τ := Cert.BraIdeal.τ) (Cert.BraIdeal.main (F := Ideal))) ⟨m, fun _ => 0, g⟩ (fun r => (∀ c : Dev Cert.BraIdeal.nD,
      r.2.mem ((c.tc : Thread Cert.BraIdeal.nD Cert.BraIdeal.τ).loc Cert.BraIdeal.main_arg0) = m ((c.tc : Thread Cert.BraIdeal.nD Cert.BraIdeal.τ).loc Cert.BraIdeal.main_arg0)
      ∧ r.2.mem ((c.tc : Thread Cert.BraIdeal.nD Cert.BraIdeal.τ).loc Cert.BraIdeal.main_arg1) = m ((c.tc : Thread Cert.BraIdeal.nD Cert.BraIdeal.τ).loc Cert.BraIdeal.main_arg1)
      ∧ r.2.mem ((c.tc : Thread Cert.BraIdeal.nD Cert.BraIdeal.τ).loc Cert.BraIdeal.main_arg2) = m ((c.tc : Thread Cert.BraIdeal.nD Cert.BraIdeal.τ).loc Cert.BraIdeal.main_arg2))
      ∧ r.2.sem = fun _ => 0)

def quiescent_BraRefIdeal [hBraRefIdeal : Cert.BraRefIdeal.Facts] : Prop :=
  ∀ (m : (ℓ : Loc Cert.BraRefIdeal.nD Cert.BraRefIdeal.τ Cert.BraRefIdeal.sig) → Buf (Elt Ideal) ℓ) (g : Dev Cert.BraRefIdeal.nD → PrngReg), Pre_BraRefIdeal m →
    θ_run (Cert.BraRefIdeal.defs (F := Ideal)) (onTc (τ := Cert.BraRefIdeal.τ) (Cert.BraRefIdeal.main (F := Ideal))) ⟨m, fun _ => 0, g⟩ (fun r => (∀ c : Dev Cert.BraRefIdeal.nD,
      r.2.mem ((c.tc : Thread Cert.BraRefIdeal.nD Cert.BraRefIdeal.τ).loc Cert.BraRefIdeal.main_arg0) = m ((c.tc : Thread Cert.BraRefIdeal.nD Cert.BraRefIdeal.τ).loc Cert.BraRefIdeal.main_arg0)
      ∧ r.2.mem ((c.tc : Thread Cert.BraRefIdeal.nD Cert.BraRefIdeal.τ).loc Cert.BraRefIdeal.main_arg1) = m ((c.tc : Thread Cert.BraRefIdeal.nD Cert.BraRefIdeal.τ).loc Cert.BraRefIdeal.main_arg1)
      ∧ r.2.mem ((c.tc : Thread Cert.BraRefIdeal.nD Cert.BraRefIdeal.τ).loc Cert.BraRefIdeal.main_arg2) = m ((c.tc : Thread Cert.BraRefIdeal.nD Cert.BraRefIdeal.τ).loc Cert.BraRefIdeal.main_arg2))
      ∧ r.2.sem = fun _ => 0)

def quiescent_BraRefIdeal_pre_bra_finite [hBraRefIdeal : Cert.BraRefIdeal.Facts] [hPre_bra_finite : Cert.Pre_bra_finite.Facts] : Prop :=
  ∀ (m : (ℓ : Loc Cert.BraRefIdeal.nD Cert.BraRefIdeal.τ Cert.BraRefIdeal.sig) → Buf (Elt Ideal) ℓ) (g : Dev Cert.BraRefIdeal.nD → PrngReg), Pre_BraRefIdeal_bra_finite m →
    θ_run (Cert.BraRefIdeal.defs (F := Ideal)) (onTc (τ := Cert.BraRefIdeal.τ) (Cert.BraRefIdeal.main (F := Ideal))) ⟨m, fun _ => 0, g⟩ (fun r => (∀ c : Dev Cert.BraRefIdeal.nD,
      r.2.mem ((c.tc : Thread Cert.BraRefIdeal.nD Cert.BraRefIdeal.τ).loc Cert.BraRefIdeal.main_arg0) = m ((c.tc : Thread Cert.BraRefIdeal.nD Cert.BraRefIdeal.τ).loc Cert.BraRefIdeal.main_arg0)
      ∧ r.2.mem ((c.tc : Thread Cert.BraRefIdeal.nD Cert.BraRefIdeal.τ).loc Cert.BraRefIdeal.main_arg1) = m ((c.tc : Thread Cert.BraRefIdeal.nD Cert.BraRefIdeal.τ).loc Cert.BraRefIdeal.main_arg1)
      ∧ r.2.mem ((c.tc : Thread Cert.BraRefIdeal.nD Cert.BraRefIdeal.τ).loc Cert.BraRefIdeal.main_arg2) = m ((c.tc : Thread Cert.BraRefIdeal.nD Cert.BraRefIdeal.τ).loc Cert.BraRefIdeal.main_arg2))
      ∧ r.2.sem = fun _ => 0)

def quiescent_Sguf [hSguf : Cert.Sguf.Facts] : Prop :=
  ∀ (m : (ℓ : Loc Cert.Sguf.nD Cert.Sguf.τ Cert.Sguf.sig) → Buf (Elt Bits) ℓ) (g : Dev Cert.Sguf.nD → PrngReg), Pre_Sguf m →
    θ_run (Cert.Sguf.defs (F := Bits)) (onTc (τ := Cert.Sguf.τ) (Cert.Sguf.main (F := Bits))) ⟨m, fun _ => 0, g⟩ (fun r => (∀ c : Dev Cert.Sguf.nD,
      r.2.mem ((c.tc : Thread Cert.Sguf.nD Cert.Sguf.τ).loc Cert.Sguf.main_arg0) = m ((c.tc : Thread Cert.Sguf.nD Cert.Sguf.τ).loc Cert.Sguf.main_arg0)
      ∧ r.2.mem ((c.tc : Thread Cert.Sguf.nD Cert.Sguf.τ).loc Cert.Sguf.main_arg1) = m ((c.tc : Thread Cert.Sguf.nD Cert.Sguf.τ).loc Cert.Sguf.main_arg1)
      ∧ r.2.mem ((c.tc : Thread Cert.Sguf.nD Cert.Sguf.τ).loc Cert.Sguf.main_arg2) = m ((c.tc : Thread Cert.Sguf.nD Cert.Sguf.τ).loc Cert.Sguf.main_arg2)
      ∧ r.2.mem ((c.tc : Thread Cert.Sguf.nD Cert.Sguf.τ).loc Cert.Sguf.main_arg3) = m ((c.tc : Thread Cert.Sguf.nD Cert.Sguf.τ).loc Cert.Sguf.main_arg3)
      ∧ r.2.mem ((c.tc : Thread Cert.Sguf.nD Cert.Sguf.τ).loc Cert.Sguf.main_arg4) = m ((c.tc : Thread Cert.Sguf.nD Cert.Sguf.τ).loc Cert.Sguf.main_arg4))
      ∧ r.2.sem = fun _ => 0)

def quiescent_SgufIdeal [hSgufIdeal : Cert.SgufIdeal.Facts] : Prop :=
  ∀ (m : (ℓ : Loc Cert.SgufIdeal.nD Cert.SgufIdeal.τ Cert.SgufIdeal.sig) → Buf (Elt Ideal) ℓ) (g : Dev Cert.SgufIdeal.nD → PrngReg), Pre_SgufIdeal m →
    θ_run (Cert.SgufIdeal.defs (F := Ideal)) (onTc (τ := Cert.SgufIdeal.τ) (Cert.SgufIdeal.main (F := Ideal))) ⟨m, fun _ => 0, g⟩ (fun r => (∀ c : Dev Cert.SgufIdeal.nD,
      r.2.mem ((c.tc : Thread Cert.SgufIdeal.nD Cert.SgufIdeal.τ).loc Cert.SgufIdeal.main_arg0) = m ((c.tc : Thread Cert.SgufIdeal.nD Cert.SgufIdeal.τ).loc Cert.SgufIdeal.main_arg0)
      ∧ r.2.mem ((c.tc : Thread Cert.SgufIdeal.nD Cert.SgufIdeal.τ).loc Cert.SgufIdeal.main_arg1) = m ((c.tc : Thread Cert.SgufIdeal.nD Cert.SgufIdeal.τ).loc Cert.SgufIdeal.main_arg1)
      ∧ r.2.mem ((c.tc : Thread Cert.SgufIdeal.nD Cert.SgufIdeal.τ).loc Cert.SgufIdeal.main_arg2) = m ((c.tc : Thread Cert.SgufIdeal.nD Cert.SgufIdeal.τ).loc Cert.SgufIdeal.main_arg2)
      ∧ r.2.mem ((c.tc : Thread Cert.SgufIdeal.nD Cert.SgufIdeal.τ).loc Cert.SgufIdeal.main_arg3) = m ((c.tc : Thread Cert.SgufIdeal.nD Cert.SgufIdeal.τ).loc Cert.SgufIdeal.main_arg3)
      ∧ r.2.mem ((c.tc : Thread Cert.SgufIdeal.nD Cert.SgufIdeal.τ).loc Cert.SgufIdeal.main_arg4) = m ((c.tc : Thread Cert.SgufIdeal.nD Cert.SgufIdeal.τ).loc Cert.SgufIdeal.main_arg4))
      ∧ r.2.sem = fun _ => 0)

def quiescent_SgufIdeal_pre_sguf_finite [hSgufIdeal : Cert.SgufIdeal.Facts] [hPre_sguf_finite : Cert.Pre_sguf_finite.Facts] : Prop :=
  ∀ (m : (ℓ : Loc Cert.SgufIdeal.nD Cert.SgufIdeal.τ Cert.SgufIdeal.sig) → Buf (Elt Ideal) ℓ) (g : Dev Cert.SgufIdeal.nD → PrngReg), Pre_SgufIdeal_sguf_finite m →
    θ_run (Cert.SgufIdeal.defs (F := Ideal)) (onTc (τ := Cert.SgufIdeal.τ) (Cert.SgufIdeal.main (F := Ideal))) ⟨m, fun _ => 0, g⟩ (fun r => (∀ c : Dev Cert.SgufIdeal.nD,
      r.2.mem ((c.tc : Thread Cert.SgufIdeal.nD Cert.SgufIdeal.τ).loc Cert.SgufIdeal.main_arg0) = m ((c.tc : Thread Cert.SgufIdeal.nD Cert.SgufIdeal.τ).loc Cert.SgufIdeal.main_arg0)
      ∧ r.2.mem ((c.tc : Thread Cert.SgufIdeal.nD Cert.SgufIdeal.τ).loc Cert.SgufIdeal.main_arg1) = m ((c.tc : Thread Cert.SgufIdeal.nD Cert.SgufIdeal.τ).loc Cert.SgufIdeal.main_arg1)
      ∧ r.2.mem ((c.tc : Thread Cert.SgufIdeal.nD Cert.SgufIdeal.τ).loc Cert.SgufIdeal.main_arg2) = m ((c.tc : Thread Cert.SgufIdeal.nD Cert.SgufIdeal.τ).loc Cert.SgufIdeal.main_arg2)
      ∧ r.2.mem ((c.tc : Thread Cert.SgufIdeal.nD Cert.SgufIdeal.τ).loc Cert.SgufIdeal.main_arg3) = m ((c.tc : Thread Cert.SgufIdeal.nD Cert.SgufIdeal.τ).loc Cert.SgufIdeal.main_arg3)
      ∧ r.2.mem ((c.tc : Thread Cert.SgufIdeal.nD Cert.SgufIdeal.τ).loc Cert.SgufIdeal.main_arg4) = m ((c.tc : Thread Cert.SgufIdeal.nD Cert.SgufIdeal.τ).loc Cert.SgufIdeal.main_arg4))
      ∧ r.2.sem = fun _ => 0)

def quiescent_SgufRefIdeal [hSgufRefIdeal : Cert.SgufRefIdeal.Facts] : Prop :=
  ∀ (m : (ℓ : Loc Cert.SgufRefIdeal.nD Cert.SgufRefIdeal.τ Cert.SgufRefIdeal.sig) → Buf (Elt Ideal) ℓ) (g : Dev Cert.SgufRefIdeal.nD → PrngReg), Pre_SgufRefIdeal m →
    θ_run (Cert.SgufRefIdeal.defs (F := Ideal)) (onTc (τ := Cert.SgufRefIdeal.τ) (Cert.SgufRefIdeal.main (F := Ideal))) ⟨m, fun _ => 0, g⟩ (fun r => (∀ c : Dev Cert.SgufRefIdeal.nD,
      r.2.mem ((c.tc : Thread Cert.SgufRefIdeal.nD Cert.SgufRefIdeal.τ).loc Cert.SgufRefIdeal.main_arg0) = m ((c.tc : Thread Cert.SgufRefIdeal.nD Cert.SgufRefIdeal.τ).loc Cert.SgufRefIdeal.main_arg0)
      ∧ r.2.mem ((c.tc : Thread Cert.SgufRefIdeal.nD Cert.SgufRefIdeal.τ).loc Cert.SgufRefIdeal.main_arg1) = m ((c.tc : Thread Cert.SgufRefIdeal.nD Cert.SgufRefIdeal.τ).loc Cert.SgufRefIdeal.main_arg1)
      ∧ r.2.mem ((c.tc : Thread Cert.SgufRefIdeal.nD Cert.SgufRefIdeal.τ).loc Cert.SgufRefIdeal.main_arg2) = m ((c.tc : Thread Cert.SgufRefIdeal.nD Cert.SgufRefIdeal.τ).loc Cert.SgufRefIdeal.main_arg2)
      ∧ r.2.mem ((c.tc : Thread Cert.SgufRefIdeal.nD Cert.SgufRefIdeal.τ).loc Cert.SgufRefIdeal.main_arg3) = m ((c.tc : Thread Cert.SgufRefIdeal.nD Cert.SgufRefIdeal.τ).loc Cert.SgufRefIdeal.main_arg3)
      ∧ r.2.mem ((c.tc : Thread Cert.SgufRefIdeal.nD Cert.SgufRefIdeal.τ).loc Cert.SgufRefIdeal.main_arg4) = m ((c.tc : Thread Cert.SgufRefIdeal.nD Cert.SgufRefIdeal.τ).loc Cert.SgufRefIdeal.main_arg4))
      ∧ r.2.sem = fun _ => 0)

def quiescent_SgufRefIdeal_pre_sguf_finite [hSgufRefIdeal : Cert.SgufRefIdeal.Facts] [hPre_sguf_finite : Cert.Pre_sguf_finite.Facts] : Prop :=
  ∀ (m : (ℓ : Loc Cert.SgufRefIdeal.nD Cert.SgufRefIdeal.τ Cert.SgufRefIdeal.sig) → Buf (Elt Ideal) ℓ) (g : Dev Cert.SgufRefIdeal.nD → PrngReg), Pre_SgufRefIdeal_sguf_finite m →
    θ_run (Cert.SgufRefIdeal.defs (F := Ideal)) (onTc (τ := Cert.SgufRefIdeal.τ) (Cert.SgufRefIdeal.main (F := Ideal))) ⟨m, fun _ => 0, g⟩ (fun r => (∀ c : Dev Cert.SgufRefIdeal.nD,
      r.2.mem ((c.tc : Thread Cert.SgufRefIdeal.nD Cert.SgufRefIdeal.τ).loc Cert.SgufRefIdeal.main_arg0) = m ((c.tc : Thread Cert.SgufRefIdeal.nD Cert.SgufRefIdeal.τ).loc Cert.SgufRefIdeal.main_arg0)
      ∧ r.2.mem ((c.tc : Thread Cert.SgufRefIdeal.nD Cert.SgufRefIdeal.τ).loc Cert.SgufRefIdeal.main_arg1) = m ((c.tc : Thread Cert.SgufRefIdeal.nD Cert.SgufRefIdeal.τ).loc Cert.SgufRefIdeal.main_arg1)
      ∧ r.2.mem ((c.tc : Thread Cert.SgufRefIdeal.nD Cert.SgufRefIdeal.τ).loc Cert.SgufRefIdeal.main_arg2) = m ((c.tc : Thread Cert.SgufRefIdeal.nD Cert.SgufRefIdeal.τ).loc Cert.SgufRefIdeal.main_arg2)
      ∧ r.2.mem ((c.tc : Thread Cert.SgufRefIdeal.nD Cert.SgufRefIdeal.τ).loc Cert.SgufRefIdeal.main_arg3) = m ((c.tc : Thread Cert.SgufRefIdeal.nD Cert.SgufRefIdeal.τ).loc Cert.SgufRefIdeal.main_arg3)
      ∧ r.2.mem ((c.tc : Thread Cert.SgufRefIdeal.nD Cert.SgufRefIdeal.τ).loc Cert.SgufRefIdeal.main_arg4) = m ((c.tc : Thread Cert.SgufRefIdeal.nD Cert.SgufRefIdeal.τ).loc Cert.SgufRefIdeal.main_arg4))
      ∧ r.2.sem = fun _ => 0)

def quiescent_Braf [hBraf : Cert.Braf.Facts] : Prop :=
  ∀ (m : (ℓ : Loc Cert.Braf.nD Cert.Braf.τ Cert.Braf.sig) → Buf (Elt Bits) ℓ) (g : Dev Cert.Braf.nD → PrngReg), Pre_Braf m →
    θ_run (Cert.Braf.defs (F := Bits)) (onTc (τ := Cert.Braf.τ) (Cert.Braf.main (F := Bits))) ⟨m, fun _ => 0, g⟩ (fun r => (∀ c : Dev Cert.Braf.nD,
      r.2.mem ((c.tc : Thread Cert.Braf.nD Cert.Braf.τ).loc Cert.Braf.main_arg0) = m ((c.tc : Thread Cert.Braf.nD Cert.Braf.τ).loc Cert.Braf.main_arg0)
      ∧ r.2.mem ((c.tc : Thread Cert.Braf.nD Cert.Braf.τ).loc Cert.Braf.main_arg1) = m ((c.tc : Thread Cert.Braf.nD Cert.Braf.τ).loc Cert.Braf.main_arg1))
      ∧ r.2.sem = fun _ => 0)

def quiescent_BrafIdeal [hBrafIdeal : Cert.BrafIdeal.Facts] : Prop :=
  ∀ (m : (ℓ : Loc Cert.BrafIdeal.nD Cert.BrafIdeal.τ Cert.BrafIdeal.sig) → Buf (Elt Ideal) ℓ) (g : Dev Cert.BrafIdeal.nD → PrngReg), Pre_BrafIdeal m →
    θ_run (Cert.BrafIdeal.defs (F := Ideal)) (onTc (τ := Cert.BrafIdeal.τ) (Cert.BrafIdeal.main (F := Ideal))) ⟨m, fun _ => 0, g⟩ (fun r => (∀ c : Dev Cert.BrafIdeal.nD,
      r.2.mem ((c.tc : Thread Cert.BrafIdeal.nD Cert.BrafIdeal.τ).loc Cert.BrafIdeal.main_arg0) = m ((c.tc : Thread Cert.BrafIdeal.nD Cert.BrafIdeal.τ).loc Cert.BrafIdeal.main_arg0)
      ∧ r.2.mem ((c.tc : Thread Cert.BrafIdeal.nD Cert.BrafIdeal.τ).loc Cert.BrafIdeal.main_arg1) = m ((c.tc : Thread Cert.BrafIdeal.nD Cert.BrafIdeal.τ).loc Cert.BrafIdeal.main_arg1))
      ∧ r.2.sem = fun _ => 0)

def quiescent_BrafIdeal_pre_braf_finite [hBrafIdeal : Cert.BrafIdeal.Facts] [hPre_braf_finite : Cert.Pre_braf_finite.Facts] : Prop :=
  ∀ (m : (ℓ : Loc Cert.BrafIdeal.nD Cert.BrafIdeal.τ Cert.BrafIdeal.sig) → Buf (Elt Ideal) ℓ) (g : Dev Cert.BrafIdeal.nD → PrngReg), Pre_BrafIdeal_braf_finite m →
    θ_run (Cert.BrafIdeal.defs (F := Ideal)) (onTc (τ := Cert.BrafIdeal.τ) (Cert.BrafIdeal.main (F := Ideal))) ⟨m, fun _ => 0, g⟩ (fun r => (∀ c : Dev Cert.BrafIdeal.nD,
      r.2.mem ((c.tc : Thread Cert.BrafIdeal.nD Cert.BrafIdeal.τ).loc Cert.BrafIdeal.main_arg0) = m ((c.tc : Thread Cert.BrafIdeal.nD Cert.BrafIdeal.τ).loc Cert.BrafIdeal.main_arg0)
      ∧ r.2.mem ((c.tc : Thread Cert.BrafIdeal.nD Cert.BrafIdeal.τ).loc Cert.BrafIdeal.main_arg1) = m ((c.tc : Thread Cert.BrafIdeal.nD Cert.BrafIdeal.τ).loc Cert.BrafIdeal.main_arg1))
      ∧ r.2.sem = fun _ => 0)

def quiescent_BrafRefIdeal [hBrafRefIdeal : Cert.BrafRefIdeal.Facts] : Prop :=
  ∀ (m : (ℓ : Loc Cert.BrafRefIdeal.nD Cert.BrafRefIdeal.τ Cert.BrafRefIdeal.sig) → Buf (Elt Ideal) ℓ) (g : Dev Cert.BrafRefIdeal.nD → PrngReg), Pre_BrafRefIdeal m →
    θ_run (Cert.BrafRefIdeal.defs (F := Ideal)) (onTc (τ := Cert.BrafRefIdeal.τ) (Cert.BrafRefIdeal.main (F := Ideal))) ⟨m, fun _ => 0, g⟩ (fun r => (∀ c : Dev Cert.BrafRefIdeal.nD,
      r.2.mem ((c.tc : Thread Cert.BrafRefIdeal.nD Cert.BrafRefIdeal.τ).loc Cert.BrafRefIdeal.main_arg0) = m ((c.tc : Thread Cert.BrafRefIdeal.nD Cert.BrafRefIdeal.τ).loc Cert.BrafRefIdeal.main_arg0)
      ∧ r.2.mem ((c.tc : Thread Cert.BrafRefIdeal.nD Cert.BrafRefIdeal.τ).loc Cert.BrafRefIdeal.main_arg1) = m ((c.tc : Thread Cert.BrafRefIdeal.nD Cert.BrafRefIdeal.τ).loc Cert.BrafRefIdeal.main_arg1))
      ∧ r.2.sem = fun _ => 0)

def quiescent_BrafRefIdeal_pre_braf_finite [hBrafRefIdeal : Cert.BrafRefIdeal.Facts] [hPre_braf_finite : Cert.Pre_braf_finite.Facts] : Prop :=
  ∀ (m : (ℓ : Loc Cert.BrafRefIdeal.nD Cert.BrafRefIdeal.τ Cert.BrafRefIdeal.sig) → Buf (Elt Ideal) ℓ) (g : Dev Cert.BrafRefIdeal.nD → PrngReg), Pre_BrafRefIdeal_braf_finite m →
    θ_run (Cert.BrafRefIdeal.defs (F := Ideal)) (onTc (τ := Cert.BrafRefIdeal.τ) (Cert.BrafRefIdeal.main (F := Ideal))) ⟨m, fun _ => 0, g⟩ (fun r => (∀ c : Dev Cert.BrafRefIdeal.nD,
      r.2.mem ((c.tc : Thread Cert.BrafRefIdeal.nD Cert.BrafRefIdeal.τ).loc Cert.BrafRefIdeal.main_arg0) = m ((c.tc : Thread Cert.BrafRefIdeal.nD Cert.BrafRefIdeal.τ).loc Cert.BrafRefIdeal.main_arg0)
      ∧ r.2.mem ((c.tc : Thread Cert.BrafRefIdeal.nD Cert.BrafRefIdeal.τ).loc Cert.BrafRefIdeal.main_arg1) = m ((c.tc : Thread Cert.BrafRefIdeal.nD Cert.BrafRefIdeal.τ).loc Cert.BrafRefIdeal.main_arg1))
      ∧ r.2.sem = fun _ => 0)

def quiescent_Mergef [hMergef : Cert.Mergef.Facts] : Prop :=
  ∀ (m : (ℓ : Loc Cert.Mergef.nD Cert.Mergef.τ Cert.Mergef.sig) → Buf (Elt Bits) ℓ) (g : Dev Cert.Mergef.nD → PrngReg), Pre_Mergef m →
    θ_run (Cert.Mergef.defs (F := Bits)) (onTc (τ := Cert.Mergef.τ) (Cert.Mergef.main (F := Bits))) ⟨m, fun _ => 0, g⟩ (fun r => (∀ c : Dev Cert.Mergef.nD,
      r.2.mem ((c.tc : Thread Cert.Mergef.nD Cert.Mergef.τ).loc Cert.Mergef.main_arg0) = m ((c.tc : Thread Cert.Mergef.nD Cert.Mergef.τ).loc Cert.Mergef.main_arg0)
      ∧ r.2.mem ((c.tc : Thread Cert.Mergef.nD Cert.Mergef.τ).loc Cert.Mergef.main_arg1) = m ((c.tc : Thread Cert.Mergef.nD Cert.Mergef.τ).loc Cert.Mergef.main_arg1)
      ∧ r.2.mem ((c.tc : Thread Cert.Mergef.nD Cert.Mergef.τ).loc Cert.Mergef.main_arg2) = m ((c.tc : Thread Cert.Mergef.nD Cert.Mergef.τ).loc Cert.Mergef.main_arg2)
      ∧ r.2.mem ((c.tc : Thread Cert.Mergef.nD Cert.Mergef.τ).loc Cert.Mergef.main_arg3) = m ((c.tc : Thread Cert.Mergef.nD Cert.Mergef.τ).loc Cert.Mergef.main_arg3)
      ∧ r.2.mem ((c.tc : Thread Cert.Mergef.nD Cert.Mergef.τ).loc Cert.Mergef.main_arg4) = m ((c.tc : Thread Cert.Mergef.nD Cert.Mergef.τ).loc Cert.Mergef.main_arg4)
      ∧ r.2.mem ((c.tc : Thread Cert.Mergef.nD Cert.Mergef.τ).loc Cert.Mergef.main_arg5) = m ((c.tc : Thread Cert.Mergef.nD Cert.Mergef.τ).loc Cert.Mergef.main_arg5)
      ∧ r.2.mem ((c.tc : Thread Cert.Mergef.nD Cert.Mergef.τ).loc Cert.Mergef.main_arg6) = m ((c.tc : Thread Cert.Mergef.nD Cert.Mergef.τ).loc Cert.Mergef.main_arg6)
      ∧ r.2.mem ((c.tc : Thread Cert.Mergef.nD Cert.Mergef.τ).loc Cert.Mergef.main_arg7) = m ((c.tc : Thread Cert.Mergef.nD Cert.Mergef.τ).loc Cert.Mergef.main_arg7))
      ∧ r.2.sem = fun _ => 0)

def quiescent_MergefIdeal [hMergefIdeal : Cert.MergefIdeal.Facts] : Prop :=
  ∀ (m : (ℓ : Loc Cert.MergefIdeal.nD Cert.MergefIdeal.τ Cert.MergefIdeal.sig) → Buf (Elt Ideal) ℓ) (g : Dev Cert.MergefIdeal.nD → PrngReg), Pre_MergefIdeal m →
    θ_run (Cert.MergefIdeal.defs (F := Ideal)) (onTc (τ := Cert.MergefIdeal.τ) (Cert.MergefIdeal.main (F := Ideal))) ⟨m, fun _ => 0, g⟩ (fun r => (∀ c : Dev Cert.MergefIdeal.nD,
      r.2.mem ((c.tc : Thread Cert.MergefIdeal.nD Cert.MergefIdeal.τ).loc Cert.MergefIdeal.main_arg0) = m ((c.tc : Thread Cert.MergefIdeal.nD Cert.MergefIdeal.τ).loc Cert.MergefIdeal.main_arg0)
      ∧ r.2.mem ((c.tc : Thread Cert.MergefIdeal.nD Cert.MergefIdeal.τ).loc Cert.MergefIdeal.main_arg1) = m ((c.tc : Thread Cert.MergefIdeal.nD Cert.MergefIdeal.τ).loc Cert.MergefIdeal.main_arg1)
      ∧ r.2.mem ((c.tc : Thread Cert.MergefIdeal.nD Cert.MergefIdeal.τ).loc Cert.MergefIdeal.main_arg2) = m ((c.tc : Thread Cert.MergefIdeal.nD Cert.MergefIdeal.τ).loc Cert.MergefIdeal.main_arg2)
      ∧ r.2.mem ((c.tc : Thread Cert.MergefIdeal.nD Cert.MergefIdeal.τ).loc Cert.MergefIdeal.main_arg3) = m ((c.tc : Thread Cert.MergefIdeal.nD Cert.MergefIdeal.τ).loc Cert.MergefIdeal.main_arg3)
      ∧ r.2.mem ((c.tc : Thread Cert.MergefIdeal.nD Cert.MergefIdeal.τ).loc Cert.MergefIdeal.main_arg4) = m ((c.tc : Thread Cert.MergefIdeal.nD Cert.MergefIdeal.τ).loc Cert.MergefIdeal.main_arg4)
      ∧ r.2.mem ((c.tc : Thread Cert.MergefIdeal.nD Cert.MergefIdeal.τ).loc Cert.MergefIdeal.main_arg5) = m ((c.tc : Thread Cert.MergefIdeal.nD Cert.MergefIdeal.τ).loc Cert.MergefIdeal.main_arg5)
      ∧ r.2.mem ((c.tc : Thread Cert.MergefIdeal.nD Cert.MergefIdeal.τ).loc Cert.MergefIdeal.main_arg6) = m ((c.tc : Thread Cert.MergefIdeal.nD Cert.MergefIdeal.τ).loc Cert.MergefIdeal.main_arg6)
      ∧ r.2.mem ((c.tc : Thread Cert.MergefIdeal.nD Cert.MergefIdeal.τ).loc Cert.MergefIdeal.main_arg7) = m ((c.tc : Thread Cert.MergefIdeal.nD Cert.MergefIdeal.τ).loc Cert.MergefIdeal.main_arg7))
      ∧ r.2.sem = fun _ => 0)

def quiescent_MergefIdeal_pre_mergef_finite [hMergefIdeal : Cert.MergefIdeal.Facts] [hPre_mergef_finite : Cert.Pre_mergef_finite.Facts] : Prop :=
  ∀ (m : (ℓ : Loc Cert.MergefIdeal.nD Cert.MergefIdeal.τ Cert.MergefIdeal.sig) → Buf (Elt Ideal) ℓ) (g : Dev Cert.MergefIdeal.nD → PrngReg), Pre_MergefIdeal_mergef_finite m →
    θ_run (Cert.MergefIdeal.defs (F := Ideal)) (onTc (τ := Cert.MergefIdeal.τ) (Cert.MergefIdeal.main (F := Ideal))) ⟨m, fun _ => 0, g⟩ (fun r => (∀ c : Dev Cert.MergefIdeal.nD,
      r.2.mem ((c.tc : Thread Cert.MergefIdeal.nD Cert.MergefIdeal.τ).loc Cert.MergefIdeal.main_arg0) = m ((c.tc : Thread Cert.MergefIdeal.nD Cert.MergefIdeal.τ).loc Cert.MergefIdeal.main_arg0)
      ∧ r.2.mem ((c.tc : Thread Cert.MergefIdeal.nD Cert.MergefIdeal.τ).loc Cert.MergefIdeal.main_arg1) = m ((c.tc : Thread Cert.MergefIdeal.nD Cert.MergefIdeal.τ).loc Cert.MergefIdeal.main_arg1)
      ∧ r.2.mem ((c.tc : Thread Cert.MergefIdeal.nD Cert.MergefIdeal.τ).loc Cert.MergefIdeal.main_arg2) = m ((c.tc : Thread Cert.MergefIdeal.nD Cert.MergefIdeal.τ).loc Cert.MergefIdeal.main_arg2)
      ∧ r.2.mem ((c.tc : Thread Cert.MergefIdeal.nD Cert.MergefIdeal.τ).loc Cert.MergefIdeal.main_arg3) = m ((c.tc : Thread Cert.MergefIdeal.nD Cert.MergefIdeal.τ).loc Cert.MergefIdeal.main_arg3)
      ∧ r.2.mem ((c.tc : Thread Cert.MergefIdeal.nD Cert.MergefIdeal.τ).loc Cert.MergefIdeal.main_arg4) = m ((c.tc : Thread Cert.MergefIdeal.nD Cert.MergefIdeal.τ).loc Cert.MergefIdeal.main_arg4)
      ∧ r.2.mem ((c.tc : Thread Cert.MergefIdeal.nD Cert.MergefIdeal.τ).loc Cert.MergefIdeal.main_arg5) = m ((c.tc : Thread Cert.MergefIdeal.nD Cert.MergefIdeal.τ).loc Cert.MergefIdeal.main_arg5)
      ∧ r.2.mem ((c.tc : Thread Cert.MergefIdeal.nD Cert.MergefIdeal.τ).loc Cert.MergefIdeal.main_arg6) = m ((c.tc : Thread Cert.MergefIdeal.nD Cert.MergefIdeal.τ).loc Cert.MergefIdeal.main_arg6)
      ∧ r.2.mem ((c.tc : Thread Cert.MergefIdeal.nD Cert.MergefIdeal.τ).loc Cert.MergefIdeal.main_arg7) = m ((c.tc : Thread Cert.MergefIdeal.nD Cert.MergefIdeal.τ).loc Cert.MergefIdeal.main_arg7))
      ∧ r.2.sem = fun _ => 0)

def quiescent_MergefRefIdeal [hMergefRefIdeal : Cert.MergefRefIdeal.Facts] : Prop :=
  ∀ (m : (ℓ : Loc Cert.MergefRefIdeal.nD Cert.MergefRefIdeal.τ Cert.MergefRefIdeal.sig) → Buf (Elt Ideal) ℓ) (g : Dev Cert.MergefRefIdeal.nD → PrngReg), Pre_MergefRefIdeal m →
    θ_run (Cert.MergefRefIdeal.defs (F := Ideal)) (onTc (τ := Cert.MergefRefIdeal.τ) (Cert.MergefRefIdeal.main (F := Ideal))) ⟨m, fun _ => 0, g⟩ (fun r => (∀ c : Dev Cert.MergefRefIdeal.nD,
      r.2.mem ((c.tc : Thread Cert.MergefRefIdeal.nD Cert.MergefRefIdeal.τ).loc Cert.MergefRefIdeal.main_arg0) = m ((c.tc : Thread Cert.MergefRefIdeal.nD Cert.MergefRefIdeal.τ).loc Cert.MergefRefIdeal.main_arg0)
      ∧ r.2.mem ((c.tc : Thread Cert.MergefRefIdeal.nD Cert.MergefRefIdeal.τ).loc Cert.MergefRefIdeal.main_arg1) = m ((c.tc : Thread Cert.MergefRefIdeal.nD Cert.MergefRefIdeal.τ).loc Cert.MergefRefIdeal.main_arg1)
      ∧ r.2.mem ((c.tc : Thread Cert.MergefRefIdeal.nD Cert.MergefRefIdeal.τ).loc Cert.MergefRefIdeal.main_arg2) = m ((c.tc : Thread Cert.MergefRefIdeal.nD Cert.MergefRefIdeal.τ).loc Cert.MergefRefIdeal.main_arg2)
      ∧ r.2.mem ((c.tc : Thread Cert.MergefRefIdeal.nD Cert.MergefRefIdeal.τ).loc Cert.MergefRefIdeal.main_arg3) = m ((c.tc : Thread Cert.MergefRefIdeal.nD Cert.MergefRefIdeal.τ).loc Cert.MergefRefIdeal.main_arg3)
      ∧ r.2.mem ((c.tc : Thread Cert.MergefRefIdeal.nD Cert.MergefRefIdeal.τ).loc Cert.MergefRefIdeal.main_arg4) = m ((c.tc : Thread Cert.MergefRefIdeal.nD Cert.MergefRefIdeal.τ).loc Cert.MergefRefIdeal.main_arg4)
      ∧ r.2.mem ((c.tc : Thread Cert.MergefRefIdeal.nD Cert.MergefRefIdeal.τ).loc Cert.MergefRefIdeal.main_arg5) = m ((c.tc : Thread Cert.MergefRefIdeal.nD Cert.MergefRefIdeal.τ).loc Cert.MergefRefIdeal.main_arg5)
      ∧ r.2.mem ((c.tc : Thread Cert.MergefRefIdeal.nD Cert.MergefRefIdeal.τ).loc Cert.MergefRefIdeal.main_arg6) = m ((c.tc : Thread Cert.MergefRefIdeal.nD Cert.MergefRefIdeal.τ).loc Cert.MergefRefIdeal.main_arg6)
      ∧ r.2.mem ((c.tc : Thread Cert.MergefRefIdeal.nD Cert.MergefRefIdeal.τ).loc Cert.MergefRefIdeal.main_arg7) = m ((c.tc : Thread Cert.MergefRefIdeal.nD Cert.MergefRefIdeal.τ).loc Cert.MergefRefIdeal.main_arg7))
      ∧ r.2.sem = fun _ => 0)

def quiescent_MergefRefIdeal_pre_mergef_finite [hMergefRefIdeal : Cert.MergefRefIdeal.Facts] [hPre_mergef_finite : Cert.Pre_mergef_finite.Facts] : Prop :=
  ∀ (m : (ℓ : Loc Cert.MergefRefIdeal.nD Cert.MergefRefIdeal.τ Cert.MergefRefIdeal.sig) → Buf (Elt Ideal) ℓ) (g : Dev Cert.MergefRefIdeal.nD → PrngReg), Pre_MergefRefIdeal_mergef_finite m →
    θ_run (Cert.MergefRefIdeal.defs (F := Ideal)) (onTc (τ := Cert.MergefRefIdeal.τ) (Cert.MergefRefIdeal.main (F := Ideal))) ⟨m, fun _ => 0, g⟩ (fun r => (∀ c : Dev Cert.MergefRefIdeal.nD,
      r.2.mem ((c.tc : Thread Cert.MergefRefIdeal.nD Cert.MergefRefIdeal.τ).loc Cert.MergefRefIdeal.main_arg0) = m ((c.tc : Thread Cert.MergefRefIdeal.nD Cert.MergefRefIdeal.τ).loc Cert.MergefRefIdeal.main_arg0)
      ∧ r.2.mem ((c.tc : Thread Cert.MergefRefIdeal.nD Cert.MergefRefIdeal.τ).loc Cert.MergefRefIdeal.main_arg1) = m ((c.tc : Thread Cert.MergefRefIdeal.nD Cert.MergefRefIdeal.τ).loc Cert.MergefRefIdeal.main_arg1)
      ∧ r.2.mem ((c.tc : Thread Cert.MergefRefIdeal.nD Cert.MergefRefIdeal.τ).loc Cert.MergefRefIdeal.main_arg2) = m ((c.tc : Thread Cert.MergefRefIdeal.nD Cert.MergefRefIdeal.τ).loc Cert.MergefRefIdeal.main_arg2)
      ∧ r.2.mem ((c.tc : Thread Cert.MergefRefIdeal.nD Cert.MergefRefIdeal.τ).loc Cert.MergefRefIdeal.main_arg3) = m ((c.tc : Thread Cert.MergefRefIdeal.nD Cert.MergefRefIdeal.τ).loc Cert.MergefRefIdeal.main_arg3)
      ∧ r.2.mem ((c.tc : Thread Cert.MergefRefIdeal.nD Cert.MergefRefIdeal.τ).loc Cert.MergefRefIdeal.main_arg4) = m ((c.tc : Thread Cert.MergefRefIdeal.nD Cert.MergefRefIdeal.τ).loc Cert.MergefRefIdeal.main_arg4)
      ∧ r.2.mem ((c.tc : Thread Cert.MergefRefIdeal.nD Cert.MergefRefIdeal.τ).loc Cert.MergefRefIdeal.main_arg5) = m ((c.tc : Thread Cert.MergefRefIdeal.nD Cert.MergefRefIdeal.τ).loc Cert.MergefRefIdeal.main_arg5)
      ∧ r.2.mem ((c.tc : Thread Cert.MergefRefIdeal.nD Cert.MergefRefIdeal.τ).loc Cert.MergefRefIdeal.main_arg6) = m ((c.tc : Thread Cert.MergefRefIdeal.nD Cert.MergefRefIdeal.τ).loc Cert.MergefRefIdeal.main_arg6)
      ∧ r.2.mem ((c.tc : Thread Cert.MergefRefIdeal.nD Cert.MergefRefIdeal.τ).loc Cert.MergefRefIdeal.main_arg7) = m ((c.tc : Thread Cert.MergefRefIdeal.nD Cert.MergefRefIdeal.τ).loc Cert.MergefRefIdeal.main_arg7))
      ∧ r.2.sem = fun _ => 0)

def quiescent_Plef [hPlef : Cert.Plef.Facts] : Prop :=
  ∀ (m : (ℓ : Loc Cert.Plef.nD Cert.Plef.τ Cert.Plef.sig) → Buf (Elt Bits) ℓ) (g : Dev Cert.Plef.nD → PrngReg), Pre_Plef m →
    θ_run (Cert.Plef.defs (F := Bits)) (onTc (τ := Cert.Plef.τ) (Cert.Plef.main (F := Bits))) ⟨m, fun _ => 0, g⟩ (fun r => (∀ c : Dev Cert.Plef.nD,
      r.2.mem ((c.tc : Thread Cert.Plef.nD Cert.Plef.τ).loc Cert.Plef.main_arg0) = m ((c.tc : Thread Cert.Plef.nD Cert.Plef.τ).loc Cert.Plef.main_arg0)
      ∧ r.2.mem ((c.tc : Thread Cert.Plef.nD Cert.Plef.τ).loc Cert.Plef.main_arg1) = m ((c.tc : Thread Cert.Plef.nD Cert.Plef.τ).loc Cert.Plef.main_arg1)
      ∧ r.2.mem ((c.tc : Thread Cert.Plef.nD Cert.Plef.τ).loc Cert.Plef.main_arg2) = m ((c.tc : Thread Cert.Plef.nD Cert.Plef.τ).loc Cert.Plef.main_arg2)
      ∧ r.2.mem ((c.tc : Thread Cert.Plef.nD Cert.Plef.τ).loc Cert.Plef.main_arg3) = m ((c.tc : Thread Cert.Plef.nD Cert.Plef.τ).loc Cert.Plef.main_arg3)
      ∧ r.2.mem ((c.tc : Thread Cert.Plef.nD Cert.Plef.τ).loc Cert.Plef.main_arg4) = m ((c.tc : Thread Cert.Plef.nD Cert.Plef.τ).loc Cert.Plef.main_arg4))
      ∧ r.2.sem = fun _ => 0)

def quiescent_PlefIdeal [hPlefIdeal : Cert.PlefIdeal.Facts] : Prop :=
  ∀ (m : (ℓ : Loc Cert.PlefIdeal.nD Cert.PlefIdeal.τ Cert.PlefIdeal.sig) → Buf (Elt Ideal) ℓ) (g : Dev Cert.PlefIdeal.nD → PrngReg), Pre_PlefIdeal m →
    θ_run (Cert.PlefIdeal.defs (F := Ideal)) (onTc (τ := Cert.PlefIdeal.τ) (Cert.PlefIdeal.main (F := Ideal))) ⟨m, fun _ => 0, g⟩ (fun r => (∀ c : Dev Cert.PlefIdeal.nD,
      r.2.mem ((c.tc : Thread Cert.PlefIdeal.nD Cert.PlefIdeal.τ).loc Cert.PlefIdeal.main_arg0) = m ((c.tc : Thread Cert.PlefIdeal.nD Cert.PlefIdeal.τ).loc Cert.PlefIdeal.main_arg0)
      ∧ r.2.mem ((c.tc : Thread Cert.PlefIdeal.nD Cert.PlefIdeal.τ).loc Cert.PlefIdeal.main_arg1) = m ((c.tc : Thread Cert.PlefIdeal.nD Cert.PlefIdeal.τ).loc Cert.PlefIdeal.main_arg1)
      ∧ r.2.mem ((c.tc : Thread Cert.PlefIdeal.nD Cert.PlefIdeal.τ).loc Cert.PlefIdeal.main_arg2) = m ((c.tc : Thread Cert.PlefIdeal.nD Cert.PlefIdeal.τ).loc Cert.PlefIdeal.main_arg2)
      ∧ r.2.mem ((c.tc : Thread Cert.PlefIdeal.nD Cert.PlefIdeal.τ).loc Cert.PlefIdeal.main_arg3) = m ((c.tc : Thread Cert.PlefIdeal.nD Cert.PlefIdeal.τ).loc Cert.PlefIdeal.main_arg3)
      ∧ r.2.mem ((c.tc : Thread Cert.PlefIdeal.nD Cert.PlefIdeal.τ).loc Cert.PlefIdeal.main_arg4) = m ((c.tc : Thread Cert.PlefIdeal.nD Cert.PlefIdeal.τ).loc Cert.PlefIdeal.main_arg4))
      ∧ r.2.sem = fun _ => 0)

def quiescent_PlefIdeal_pre_plef_finite [hPlefIdeal : Cert.PlefIdeal.Facts] [hPre_plef_finite : Cert.Pre_plef_finite.Facts] : Prop :=
  ∀ (m : (ℓ : Loc Cert.PlefIdeal.nD Cert.PlefIdeal.τ Cert.PlefIdeal.sig) → Buf (Elt Ideal) ℓ) (g : Dev Cert.PlefIdeal.nD → PrngReg), Pre_PlefIdeal_plef_finite m →
    θ_run (Cert.PlefIdeal.defs (F := Ideal)) (onTc (τ := Cert.PlefIdeal.τ) (Cert.PlefIdeal.main (F := Ideal))) ⟨m, fun _ => 0, g⟩ (fun r => (∀ c : Dev Cert.PlefIdeal.nD,
      r.2.mem ((c.tc : Thread Cert.PlefIdeal.nD Cert.PlefIdeal.τ).loc Cert.PlefIdeal.main_arg0) = m ((c.tc : Thread Cert.PlefIdeal.nD Cert.PlefIdeal.τ).loc Cert.PlefIdeal.main_arg0)
      ∧ r.2.mem ((c.tc : Thread Cert.PlefIdeal.nD Cert.PlefIdeal.τ).loc Cert.PlefIdeal.main_arg1) = m ((c.tc : Thread Cert.PlefIdeal.nD Cert.PlefIdeal.τ).loc Cert.PlefIdeal.main_arg1)
      ∧ r.2.mem ((c.tc : Thread Cert.PlefIdeal.nD Cert.PlefIdeal.τ).loc Cert.PlefIdeal.main_arg2) = m ((c.tc : Thread Cert.PlefIdeal.nD Cert.PlefIdeal.τ).loc Cert.PlefIdeal.main_arg2)
      ∧ r.2.mem ((c.tc : Thread Cert.PlefIdeal.nD Cert.PlefIdeal.τ).loc Cert.PlefIdeal.main_arg3) = m ((c.tc : Thread Cert.PlefIdeal.nD Cert.PlefIdeal.τ).loc Cert.PlefIdeal.main_arg3)
      ∧ r.2.mem ((c.tc : Thread Cert.PlefIdeal.nD Cert.PlefIdeal.τ).loc Cert.PlefIdeal.main_arg4) = m ((c.tc : Thread Cert.PlefIdeal.nD Cert.PlefIdeal.τ).loc Cert.PlefIdeal.main_arg4))
      ∧ r.2.sem = fun _ => 0)

def quiescent_PlefRefIdeal [hPlefRefIdeal : Cert.PlefRefIdeal.Facts] : Prop :=
  ∀ (m : (ℓ : Loc Cert.PlefRefIdeal.nD Cert.PlefRefIdeal.τ Cert.PlefRefIdeal.sig) → Buf (Elt Ideal) ℓ) (g : Dev Cert.PlefRefIdeal.nD → PrngReg), Pre_PlefRefIdeal m →
    θ_run (Cert.PlefRefIdeal.defs (F := Ideal)) (onTc (τ := Cert.PlefRefIdeal.τ) (Cert.PlefRefIdeal.main (F := Ideal))) ⟨m, fun _ => 0, g⟩ (fun r => (∀ c : Dev Cert.PlefRefIdeal.nD,
      r.2.mem ((c.tc : Thread Cert.PlefRefIdeal.nD Cert.PlefRefIdeal.τ).loc Cert.PlefRefIdeal.main_arg0) = m ((c.tc : Thread Cert.PlefRefIdeal.nD Cert.PlefRefIdeal.τ).loc Cert.PlefRefIdeal.main_arg0)
      ∧ r.2.mem ((c.tc : Thread Cert.PlefRefIdeal.nD Cert.PlefRefIdeal.τ).loc Cert.PlefRefIdeal.main_arg1) = m ((c.tc : Thread Cert.PlefRefIdeal.nD Cert.PlefRefIdeal.τ).loc Cert.PlefRefIdeal.main_arg1)
      ∧ r.2.mem ((c.tc : Thread Cert.PlefRefIdeal.nD Cert.PlefRefIdeal.τ).loc Cert.PlefRefIdeal.main_arg2) = m ((c.tc : Thread Cert.PlefRefIdeal.nD Cert.PlefRefIdeal.τ).loc Cert.PlefRefIdeal.main_arg2)
      ∧ r.2.mem ((c.tc : Thread Cert.PlefRefIdeal.nD Cert.PlefRefIdeal.τ).loc Cert.PlefRefIdeal.main_arg3) = m ((c.tc : Thread Cert.PlefRefIdeal.nD Cert.PlefRefIdeal.τ).loc Cert.PlefRefIdeal.main_arg3)
      ∧ r.2.mem ((c.tc : Thread Cert.PlefRefIdeal.nD Cert.PlefRefIdeal.τ).loc Cert.PlefRefIdeal.main_arg4) = m ((c.tc : Thread Cert.PlefRefIdeal.nD Cert.PlefRefIdeal.τ).loc Cert.PlefRefIdeal.main_arg4))
      ∧ r.2.sem = fun _ => 0)

def quiescent_PlefRefIdeal_pre_plef_finite [hPlefRefIdeal : Cert.PlefRefIdeal.Facts] [hPre_plef_finite : Cert.Pre_plef_finite.Facts] : Prop :=
  ∀ (m : (ℓ : Loc Cert.PlefRefIdeal.nD Cert.PlefRefIdeal.τ Cert.PlefRefIdeal.sig) → Buf (Elt Ideal) ℓ) (g : Dev Cert.PlefRefIdeal.nD → PrngReg), Pre_PlefRefIdeal_plef_finite m →
    θ_run (Cert.PlefRefIdeal.defs (F := Ideal)) (onTc (τ := Cert.PlefRefIdeal.τ) (Cert.PlefRefIdeal.main (F := Ideal))) ⟨m, fun _ => 0, g⟩ (fun r => (∀ c : Dev Cert.PlefRefIdeal.nD,
      r.2.mem ((c.tc : Thread Cert.PlefRefIdeal.nD Cert.PlefRefIdeal.τ).loc Cert.PlefRefIdeal.main_arg0) = m ((c.tc : Thread Cert.PlefRefIdeal.nD Cert.PlefRefIdeal.τ).loc Cert.PlefRefIdeal.main_arg0)
      ∧ r.2.mem ((c.tc : Thread Cert.PlefRefIdeal.nD Cert.PlefRefIdeal.τ).loc Cert.PlefRefIdeal.main_arg1) = m ((c.tc : Thread Cert.PlefRefIdeal.nD Cert.PlefRefIdeal.τ).loc Cert.PlefRefIdeal.main_arg1)
      ∧ r.2.mem ((c.tc : Thread Cert.PlefRefIdeal.nD Cert.PlefRefIdeal.τ).loc Cert.PlefRefIdeal.main_arg2) = m ((c.tc : Thread Cert.PlefRefIdeal.nD Cert.PlefRefIdeal.τ).loc Cert.PlefRefIdeal.main_arg2)
      ∧ r.2.mem ((c.tc : Thread Cert.PlefRefIdeal.nD Cert.PlefRefIdeal.τ).loc Cert.PlefRefIdeal.main_arg3) = m ((c.tc : Thread Cert.PlefRefIdeal.nD Cert.PlefRefIdeal.τ).loc Cert.PlefRefIdeal.main_arg3)
      ∧ r.2.mem ((c.tc : Thread Cert.PlefRefIdeal.nD Cert.PlefRefIdeal.τ).loc Cert.PlefRefIdeal.main_arg4) = m ((c.tc : Thread Cert.PlefRefIdeal.nD Cert.PlefRefIdeal.τ).loc Cert.PlefRefIdeal.main_arg4))
      ∧ r.2.sem = fun _ => 0)

def quiescent_Ffnf [hFfnf : Cert.Ffnf.Facts] : Prop :=
  ∀ (m : (ℓ : Loc Cert.Ffnf.nD Cert.Ffnf.τ Cert.Ffnf.sig) → Buf (Elt Bits) ℓ) (g : Dev Cert.Ffnf.nD → PrngReg), Pre_Ffnf m →
    θ_run (Cert.Ffnf.defs (F := Bits)) (onTc (τ := Cert.Ffnf.τ) (Cert.Ffnf.main (F := Bits))) ⟨m, fun _ => 0, g⟩ (fun r => (∀ c : Dev Cert.Ffnf.nD,
      r.2.mem ((c.tc : Thread Cert.Ffnf.nD Cert.Ffnf.τ).loc Cert.Ffnf.main_arg0) = m ((c.tc : Thread Cert.Ffnf.nD Cert.Ffnf.τ).loc Cert.Ffnf.main_arg0)
      ∧ r.2.mem ((c.tc : Thread Cert.Ffnf.nD Cert.Ffnf.τ).loc Cert.Ffnf.main_arg1) = m ((c.tc : Thread Cert.Ffnf.nD Cert.Ffnf.τ).loc Cert.Ffnf.main_arg1)
      ∧ r.2.mem ((c.tc : Thread Cert.Ffnf.nD Cert.Ffnf.τ).loc Cert.Ffnf.main_arg2) = m ((c.tc : Thread Cert.Ffnf.nD Cert.Ffnf.τ).loc Cert.Ffnf.main_arg2)
      ∧ r.2.mem ((c.tc : Thread Cert.Ffnf.nD Cert.Ffnf.τ).loc Cert.Ffnf.main_arg3) = m ((c.tc : Thread Cert.Ffnf.nD Cert.Ffnf.τ).loc Cert.Ffnf.main_arg3))
      ∧ r.2.sem = fun _ => 0)

def quiescent_FfnfIdeal [hFfnfIdeal : Cert.FfnfIdeal.Facts] : Prop :=
  ∀ (m : (ℓ : Loc Cert.FfnfIdeal.nD Cert.FfnfIdeal.τ Cert.FfnfIdeal.sig) → Buf (Elt Ideal) ℓ) (g : Dev Cert.FfnfIdeal.nD → PrngReg), Pre_FfnfIdeal m →
    θ_run (Cert.FfnfIdeal.defs (F := Ideal)) (onTc (τ := Cert.FfnfIdeal.τ) (Cert.FfnfIdeal.main (F := Ideal))) ⟨m, fun _ => 0, g⟩ (fun r => (∀ c : Dev Cert.FfnfIdeal.nD,
      r.2.mem ((c.tc : Thread Cert.FfnfIdeal.nD Cert.FfnfIdeal.τ).loc Cert.FfnfIdeal.main_arg0) = m ((c.tc : Thread Cert.FfnfIdeal.nD Cert.FfnfIdeal.τ).loc Cert.FfnfIdeal.main_arg0)
      ∧ r.2.mem ((c.tc : Thread Cert.FfnfIdeal.nD Cert.FfnfIdeal.τ).loc Cert.FfnfIdeal.main_arg1) = m ((c.tc : Thread Cert.FfnfIdeal.nD Cert.FfnfIdeal.τ).loc Cert.FfnfIdeal.main_arg1)
      ∧ r.2.mem ((c.tc : Thread Cert.FfnfIdeal.nD Cert.FfnfIdeal.τ).loc Cert.FfnfIdeal.main_arg2) = m ((c.tc : Thread Cert.FfnfIdeal.nD Cert.FfnfIdeal.τ).loc Cert.FfnfIdeal.main_arg2)
      ∧ r.2.mem ((c.tc : Thread Cert.FfnfIdeal.nD Cert.FfnfIdeal.τ).loc Cert.FfnfIdeal.main_arg3) = m ((c.tc : Thread Cert.FfnfIdeal.nD Cert.FfnfIdeal.τ).loc Cert.FfnfIdeal.main_arg3))
      ∧ r.2.sem = fun _ => 0)

def quiescent_FfnfIdeal_pre_ffnf_finite [hFfnfIdeal : Cert.FfnfIdeal.Facts] [hPre_ffnf_finite : Cert.Pre_ffnf_finite.Facts] : Prop :=
  ∀ (m : (ℓ : Loc Cert.FfnfIdeal.nD Cert.FfnfIdeal.τ Cert.FfnfIdeal.sig) → Buf (Elt Ideal) ℓ) (g : Dev Cert.FfnfIdeal.nD → PrngReg), Pre_FfnfIdeal_ffnf_finite m →
    θ_run (Cert.FfnfIdeal.defs (F := Ideal)) (onTc (τ := Cert.FfnfIdeal.τ) (Cert.FfnfIdeal.main (F := Ideal))) ⟨m, fun _ => 0, g⟩ (fun r => (∀ c : Dev Cert.FfnfIdeal.nD,
      r.2.mem ((c.tc : Thread Cert.FfnfIdeal.nD Cert.FfnfIdeal.τ).loc Cert.FfnfIdeal.main_arg0) = m ((c.tc : Thread Cert.FfnfIdeal.nD Cert.FfnfIdeal.τ).loc Cert.FfnfIdeal.main_arg0)
      ∧ r.2.mem ((c.tc : Thread Cert.FfnfIdeal.nD Cert.FfnfIdeal.τ).loc Cert.FfnfIdeal.main_arg1) = m ((c.tc : Thread Cert.FfnfIdeal.nD Cert.FfnfIdeal.τ).loc Cert.FfnfIdeal.main_arg1)
      ∧ r.2.mem ((c.tc : Thread Cert.FfnfIdeal.nD Cert.FfnfIdeal.τ).loc Cert.FfnfIdeal.main_arg2) = m ((c.tc : Thread Cert.FfnfIdeal.nD Cert.FfnfIdeal.τ).loc Cert.FfnfIdeal.main_arg2)
      ∧ r.2.mem ((c.tc : Thread Cert.FfnfIdeal.nD Cert.FfnfIdeal.τ).loc Cert.FfnfIdeal.main_arg3) = m ((c.tc : Thread Cert.FfnfIdeal.nD Cert.FfnfIdeal.τ).loc Cert.FfnfIdeal.main_arg3))
      ∧ r.2.sem = fun _ => 0)

def quiescent_FfnfRefIdeal [hFfnfRefIdeal : Cert.FfnfRefIdeal.Facts] : Prop :=
  ∀ (m : (ℓ : Loc Cert.FfnfRefIdeal.nD Cert.FfnfRefIdeal.τ Cert.FfnfRefIdeal.sig) → Buf (Elt Ideal) ℓ) (g : Dev Cert.FfnfRefIdeal.nD → PrngReg), Pre_FfnfRefIdeal m →
    θ_run (Cert.FfnfRefIdeal.defs (F := Ideal)) (onTc (τ := Cert.FfnfRefIdeal.τ) (Cert.FfnfRefIdeal.main (F := Ideal))) ⟨m, fun _ => 0, g⟩ (fun r => (∀ c : Dev Cert.FfnfRefIdeal.nD,
      r.2.mem ((c.tc : Thread Cert.FfnfRefIdeal.nD Cert.FfnfRefIdeal.τ).loc Cert.FfnfRefIdeal.main_arg0) = m ((c.tc : Thread Cert.FfnfRefIdeal.nD Cert.FfnfRefIdeal.τ).loc Cert.FfnfRefIdeal.main_arg0)
      ∧ r.2.mem ((c.tc : Thread Cert.FfnfRefIdeal.nD Cert.FfnfRefIdeal.τ).loc Cert.FfnfRefIdeal.main_arg1) = m ((c.tc : Thread Cert.FfnfRefIdeal.nD Cert.FfnfRefIdeal.τ).loc Cert.FfnfRefIdeal.main_arg1)
      ∧ r.2.mem ((c.tc : Thread Cert.FfnfRefIdeal.nD Cert.FfnfRefIdeal.τ).loc Cert.FfnfRefIdeal.main_arg2) = m ((c.tc : Thread Cert.FfnfRefIdeal.nD Cert.FfnfRefIdeal.τ).loc Cert.FfnfRefIdeal.main_arg2)
      ∧ r.2.mem ((c.tc : Thread Cert.FfnfRefIdeal.nD Cert.FfnfRefIdeal.τ).loc Cert.FfnfRefIdeal.main_arg3) = m ((c.tc : Thread Cert.FfnfRefIdeal.nD Cert.FfnfRefIdeal.τ).loc Cert.FfnfRefIdeal.main_arg3))
      ∧ r.2.sem = fun _ => 0)

def quiescent_FfnfRefIdeal_pre_ffnf_finite [hFfnfRefIdeal : Cert.FfnfRefIdeal.Facts] [hPre_ffnf_finite : Cert.Pre_ffnf_finite.Facts] : Prop :=
  ∀ (m : (ℓ : Loc Cert.FfnfRefIdeal.nD Cert.FfnfRefIdeal.τ Cert.FfnfRefIdeal.sig) → Buf (Elt Ideal) ℓ) (g : Dev Cert.FfnfRefIdeal.nD → PrngReg), Pre_FfnfRefIdeal_ffnf_finite m →
    θ_run (Cert.FfnfRefIdeal.defs (F := Ideal)) (onTc (τ := Cert.FfnfRefIdeal.τ) (Cert.FfnfRefIdeal.main (F := Ideal))) ⟨m, fun _ => 0, g⟩ (fun r => (∀ c : Dev Cert.FfnfRefIdeal.nD,
      r.2.mem ((c.tc : Thread Cert.FfnfRefIdeal.nD Cert.FfnfRefIdeal.τ).loc Cert.FfnfRefIdeal.main_arg0) = m ((c.tc : Thread Cert.FfnfRefIdeal.nD Cert.FfnfRefIdeal.τ).loc Cert.FfnfRefIdeal.main_arg0)
      ∧ r.2.mem ((c.tc : Thread Cert.FfnfRefIdeal.nD Cert.FfnfRefIdeal.τ).loc Cert.FfnfRefIdeal.main_arg1) = m ((c.tc : Thread Cert.FfnfRefIdeal.nD Cert.FfnfRefIdeal.τ).loc Cert.FfnfRefIdeal.main_arg1)
      ∧ r.2.mem ((c.tc : Thread Cert.FfnfRefIdeal.nD Cert.FfnfRefIdeal.τ).loc Cert.FfnfRefIdeal.main_arg2) = m ((c.tc : Thread Cert.FfnfRefIdeal.nD Cert.FfnfRefIdeal.τ).loc Cert.FfnfRefIdeal.main_arg2)
      ∧ r.2.mem ((c.tc : Thread Cert.FfnfRefIdeal.nD Cert.FfnfRefIdeal.τ).loc Cert.FfnfRefIdeal.main_arg3) = m ((c.tc : Thread Cert.FfnfRefIdeal.nD Cert.FfnfRefIdeal.τ).loc Cert.FfnfRefIdeal.main_arg3))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2))
      ∧ r.2.sem = fun _ => 0)

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v2_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v63) = v0 c
          ∧ r.2.mem ((c.tc : Thread Cert.NormRefIdeal.nD Cert.NormRefIdeal.τ).loc Cert.NormRefIdeal.main_v64) = v1 c
          ∧ r.2.mem ((c.tc : Thread Cert.NormRefIdeal.nD Cert.NormRefIdeal.τ).loc Cert.NormRefIdeal.main_v65) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v24_0)) (v1 : (c : Dev Cert.PleIdeal.nD) → Buf (Elt Ideal) ((c.tc : Thread Cert.PleIdeal.nD Cert.PleIdeal.τ).loc Cert.PleIdeal.main_v24_1)) (v2 : (c : Dev Cert.PleIdeal.nD) → Buf (Elt Ideal) ((c.tc : Thread Cert.PleIdeal.nD Cert.PleIdeal.τ).loc Cert.PleIdeal.main_v24_2)) (v3 : (c : Dev Cert.PleIdeal.nD) → Buf (Elt Ideal) ((c.tc : Thread Cert.PleIdeal.nD Cert.PleIdeal.τ).loc Cert.PleIdeal.main_v24_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v24_0) = v0 c
          ∧ r.2.mem ((c.tc : Thread Cert.PleIdeal.nD Cert.PleIdeal.τ).loc Cert.PleIdeal.main_v24_1) = v1 c
          ∧ r.2.mem ((c.tc : Thread Cert.PleIdeal.nD Cert.PleIdeal.τ).loc Cert.PleIdeal.main_v24_2) = v2 c
          ∧ r.2.mem ((c.tc : Thread Cert.PleIdeal.nD Cert.PleIdeal.τ).loc Cert.PleIdeal.main_v24_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v58) = v0 c
          ∧ r.2.mem ((c.tc : Thread Cert.PleRefIdeal.nD Cert.PleRefIdeal.τ).loc Cert.PleRefIdeal.main_v59) = v1 c
          ∧ r.2.mem ((c.tc : Thread Cert.PleRefIdeal.nD Cert.PleRefIdeal.τ).loc Cert.PleRefIdeal.main_v33) = v2 c
          ∧ r.2.mem ((c.tc : Thread Cert.PleRefIdeal.nD Cert.PleRefIdeal.τ).loc Cert.PleRefIdeal.main_v36) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Rmsb_RmsbIdeal : Prop :=
  True

def algebraic_RmsbIdeal_RmsbRefIdeal_pre_rmsb_finite [hRmsbIdeal : Cert.RmsbIdeal.Facts] [hRmsbRefIdeal : Cert.RmsbRefIdeal.Facts] [hPre_rmsb_finite : Cert.Pre_rmsb_finite.Facts] : Prop :=
  ∀ (m : (ℓ : Loc Cert.RmsbIdeal.nD Cert.RmsbIdeal.τ Cert.RmsbIdeal.sig) → Buf (Elt Ideal) ℓ) (g : Dev Cert.RmsbIdeal.nD → PrngReg)
    (m' : (ℓ : Loc Cert.RmsbRefIdeal.nD Cert.RmsbRefIdeal.τ Cert.RmsbRefIdeal.sig) → Buf (Elt Ideal) ℓ) (g' : Dev Cert.RmsbRefIdeal.nD → PrngReg), Pre_RmsbIdeal_rmsb_finite m →
    (∀ c : Dev Cert.RmsbIdeal.nD,
      m' ((c.tc : Thread Cert.RmsbRefIdeal.nD Cert.RmsbRefIdeal.τ).loc Cert.RmsbRefIdeal.main_arg0) = m ((c.tc : Thread Cert.RmsbIdeal.nD Cert.RmsbIdeal.τ).loc Cert.RmsbIdeal.main_arg0)
      ∧ m' ((c.tc : Thread Cert.RmsbRefIdeal.nD Cert.RmsbRefIdeal.τ).loc Cert.RmsbRefIdeal.main_arg1) = m ((c.tc : Thread Cert.RmsbIdeal.nD Cert.RmsbIdeal.τ).loc Cert.RmsbIdeal.main_arg1)
      ∧ m' ((c.tc : Thread Cert.RmsbRefIdeal.nD Cert.RmsbRefIdeal.τ).loc Cert.RmsbRefIdeal.main_arg2) = m ((c.tc : Thread Cert.RmsbIdeal.nD Cert.RmsbIdeal.τ).loc Cert.RmsbIdeal.main_arg2)
      ∧ m' ((c.tc : Thread Cert.RmsbRefIdeal.nD Cert.RmsbRefIdeal.τ).loc Cert.RmsbRefIdeal.main_arg3) = m ((c.tc : Thread Cert.RmsbIdeal.nD Cert.RmsbIdeal.τ).loc Cert.RmsbIdeal.main_arg3)
      ∧ m' ((c.tc : Thread Cert.RmsbRefIdeal.nD Cert.RmsbRefIdeal.τ).loc Cert.RmsbRefIdeal.main_arg4) = m ((c.tc : Thread Cert.RmsbIdeal.nD Cert.RmsbIdeal.τ).loc Cert.RmsbIdeal.main_arg4)) →
    ∃ (v0 : (c : Dev Cert.RmsbIdeal.nD) → Buf (Elt Ideal) ((c.tc : Thread Cert.RmsbIdeal.nD Cert.RmsbIdeal.τ).loc Cert.RmsbIdeal.main_v17_0)) (v1 : (c : Dev Cert.RmsbIdeal.nD) → Buf (Elt Ideal) ((c.tc : Thread Cert.RmsbIdeal.nD Cert.RmsbIdeal.τ).loc Cert.RmsbIdeal.main_v17_1)),
      θ_run (Cert.RmsbIdeal.defs (F := Ideal)) (onTc (τ := Cert.RmsbIdeal.τ) (Cert.RmsbIdeal.main (F := Ideal))) ⟨m, fun _ => 0, g⟩ (fun r => ∀ c : Dev Cert.RmsbIdeal.nD,
          r.2.mem ((c.tc : Thread Cert.RmsbIdeal.nD Cert.RmsbIdeal.τ).loc Cert.RmsbIdeal.main_v17_0) = v0 c
          ∧ r.2.mem ((c.tc : Thread Cert.RmsbIdeal.nD Cert.RmsbIdeal.τ).loc Cert.RmsbIdeal.main_v17_1) = v1 c
          ∧ r.2.mem ((c.tc : Thread Cert.RmsbIdeal.nD Cert.RmsbIdeal.τ).loc Cert.RmsbIdeal.main_arg0) = m ((c.tc : Thread Cert.RmsbIdeal.nD Cert.RmsbIdeal.τ).loc Cert.RmsbIdeal.main_arg0)
          ∧ r.2.mem ((c.tc : Thread Cert.RmsbIdeal.nD Cert.RmsbIdeal.τ).loc Cert.RmsbIdeal.main_arg1) = m ((c.tc : Thread Cert.RmsbIdeal.nD Cert.RmsbIdeal.τ).loc Cert.RmsbIdeal.main_arg1)
          ∧ r.2.mem ((c.tc : Thread Cert.RmsbIdeal.nD Cert.RmsbIdeal.τ).loc Cert.RmsbIdeal.main_arg2) = m ((c.tc : Thread Cert.RmsbIdeal.nD Cert.RmsbIdeal.τ).loc Cert.RmsbIdeal.main_arg2)
          ∧ r.2.mem ((c.tc : Thread Cert.RmsbIdeal.nD Cert.RmsbIdeal.τ).loc Cert.RmsbIdeal.main_arg3) = m ((c.tc : Thread Cert.RmsbIdeal.nD Cert.RmsbIdeal.τ).loc Cert.RmsbIdeal.main_arg3)
          ∧ r.2.mem ((c.tc : Thread Cert.RmsbIdeal.nD Cert.RmsbIdeal.τ).loc Cert.RmsbIdeal.main_arg4) = m ((c.tc : Thread Cert.RmsbIdeal.nD Cert.RmsbIdeal.τ).loc Cert.RmsbIdeal.main_arg4))
      ∧ θ_run (Cert.RmsbRefIdeal.defs (F := Ideal)) (onTc (τ := Cert.RmsbRefIdeal.τ) (Cert.RmsbRefIdeal.main (F := Ideal))) ⟨m', fun _ => 0, g'⟩ (fun r => ∀ c : Dev Cert.RmsbRefIdeal.nD,
          r.2.mem ((c.tc : Thread Cert.RmsbRefIdeal.nD Cert.RmsbRefIdeal.τ).loc Cert.RmsbRefIdeal.main_v38) = v0 c
          ∧ r.2.mem ((c.tc : Thread Cert.RmsbRefIdeal.nD Cert.RmsbRefIdeal.τ).loc Cert.RmsbRefIdeal.main_v39) = v1 c
          ∧ r.2.mem ((c.tc : Thread Cert.RmsbRefIdeal.nD Cert.RmsbRefIdeal.τ).loc Cert.RmsbRefIdeal.main_arg0) = m' ((c.tc : Thread Cert.RmsbRefIdeal.nD Cert.RmsbRefIdeal.τ).loc Cert.RmsbRefIdeal.main_arg0)
          ∧ r.2.mem ((c.tc : Thread Cert.RmsbRefIdeal.nD Cert.RmsbRefIdeal.τ).loc Cert.RmsbRefIdeal.main_arg1) = m' ((c.tc : Thread Cert.RmsbRefIdeal.nD Cert.RmsbRefIdeal.τ).loc Cert.RmsbRefIdeal.main_arg1)
          ∧ r.2.mem ((c.tc : Thread Cert.RmsbRefIdeal.nD Cert.RmsbRefIdeal.τ).loc Cert.RmsbRefIdeal.main_arg2) = m' ((c.tc : Thread Cert.RmsbRefIdeal.nD Cert.RmsbRefIdeal.τ).loc Cert.RmsbRefIdeal.main_arg2)
          ∧ r.2.mem ((c.tc : Thread Cert.RmsbRefIdeal.nD Cert.RmsbRefIdeal.τ).loc Cert.RmsbRefIdeal.main_arg3) = m' ((c.tc : Thread Cert.RmsbRefIdeal.nD Cert.RmsbRefIdeal.τ).loc Cert.RmsbRefIdeal.main_arg3)
          ∧ r.2.mem ((c.tc : Thread Cert.RmsbRefIdeal.nD Cert.RmsbRefIdeal.τ).loc Cert.RmsbRefIdeal.main_arg4) = m' ((c.tc : Thread Cert.RmsbRefIdeal.nD Cert.RmsbRefIdeal.τ).loc Cert.RmsbRefIdeal.main_arg4))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v45_0)) (v1 : (c : Dev Cert.MergeIdeal.nD) → Buf (Elt Ideal) ((c.tc : Thread Cert.MergeIdeal.nD Cert.MergeIdeal.τ).loc Cert.MergeIdeal.main_v45_1)) (v2 : (c : Dev Cert.MergeIdeal.nD) → Buf (Elt Ideal) ((c.tc : Thread Cert.MergeIdeal.nD Cert.MergeIdeal.τ).loc Cert.MergeIdeal.main_v45_2)) (v3 : (c : Dev Cert.MergeIdeal.nD) → Buf (Elt Ideal) ((c.tc : Thread Cert.MergeIdeal.nD Cert.MergeIdeal.τ).loc Cert.MergeIdeal.main_v45_3)) (v4 : (c : Dev Cert.MergeIdeal.nD) → Buf (Elt Ideal) ((c.tc : Thread Cert.MergeIdeal.nD Cert.MergeIdeal.τ).loc Cert.MergeIdeal.main_v45_4)) (v5 : (c : Dev Cert.MergeIdeal.nD) → Buf (Elt Ideal) ((c.tc : Thread Cert.MergeIdeal.nD Cert.MergeIdeal.τ).loc Cert.MergeIdeal.main_v45_5)) (v6 : (c : Dev Cert.MergeIdeal.nD) → Buf (Elt Ideal) ((c.tc : Thread Cert.MergeIdeal.nD Cert.MergeIdeal.τ).loc Cert.MergeIdeal.main_v45_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v45_0) = v0 c
          ∧ r.2.mem ((c.tc : Thread Cert.MergeIdeal.nD Cert.MergeIdeal.τ).loc Cert.MergeIdeal.main_v45_1) = v1 c
          ∧ r.2.mem ((c.tc : Thread Cert.MergeIdeal.nD Cert.MergeIdeal.τ).loc Cert.MergeIdeal.main_v45_2) = v2 c
          ∧ r.2.mem ((c.tc : Thread Cert.MergeIdeal.nD Cert.MergeIdeal.τ).loc Cert.MergeIdeal.main_v45_3) = v3 c
          ∧ r.2.mem ((c.tc : Thread Cert.MergeIdeal.nD Cert.MergeIdeal.τ).loc Cert.MergeIdeal.main_v45_4) = v4 c
          ∧ r.2.mem ((c.tc : Thread Cert.MergeIdeal.nD Cert.MergeIdeal.τ).loc Cert.MergeIdeal.main_v45_5) = v5 c
          ∧ r.2.mem ((c.tc : Thread Cert.MergeIdeal.nD Cert.MergeIdeal.τ).loc Cert.MergeIdeal.main_v45_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v77) = v0 c
          ∧ r.2.mem ((c.tc : Thread Cert.MergeRefIdeal.nD Cert.MergeRefIdeal.τ).loc Cert.MergeRefIdeal.main_v70) = v1 c
          ∧ r.2.mem ((c.tc : Thread Cert.MergeRefIdeal.nD Cert.MergeRefIdeal.τ).loc Cert.MergeRefIdeal.main_v60) = v2 c
          ∧ r.2.mem ((c.tc : Thread Cert.MergeRefIdeal.nD Cert.MergeRefIdeal.τ).loc Cert.MergeRefIdeal.main_v50) = v3 c
          ∧ r.2.mem ((c.tc : Thread Cert.MergeRefIdeal.nD Cert.MergeRefIdeal.τ).loc Cert.MergeRefIdeal.main_v42) = v4 c
          ∧ r.2.mem ((c.tc : Thread Cert.MergeRefIdeal.nD Cert.MergeRefIdeal.τ).loc Cert.MergeRefIdeal.main_v73) = v5 c
          ∧ r.2.mem ((c.tc : Thread Cert.MergeRefIdeal.nD Cert.MergeRefIdeal.τ).loc Cert.MergeRefIdeal.main_v36) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v17) = v0 c
          ∧ r.2.mem ((c.tc : Thread Cert.FfnRefIdeal.nD Cert.FfnRefIdeal.τ).loc Cert.FfnRefIdeal.main_v6) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Sgu_SguIdeal : Prop :=
  True

def algebraic_SguIdeal_SguRefIdeal_pre_sgu_finite [hSguIdeal : Cert.SguIdeal.Facts] [hSguRefIdeal : Cert.SguRefIdeal.Facts] [hPre_sgu_finite : Cert.Pre_sgu_finite.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_sgu_finite m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v11_0)) (v1 : (c : Dev Cert.SguIdeal.nD) → Buf (Elt Ideal) ((c.tc : Thread Cert.SguIdeal.nD Cert.SguIdeal.τ).loc Cert.SguIdeal.main_v11_1)) (v2 : (c : Dev Cert.SguIdeal.nD) → Buf (Elt Ideal) ((c.tc : Thread Cert.SguIdeal.nD Cert.SguIdeal.τ).loc Cert.SguIdeal.main_v11_2)) (v3 : (c : Dev Cert.SguIdeal.nD) → Buf (Elt Ideal) ((c.tc : Thread Cert.SguIdeal.nD Cert.SguIdeal.τ).loc Cert.SguIdeal.main_v11_3)) (v4 : (c : Dev Cert.SguIdeal.nD) → Buf (Elt Ideal) ((c.tc : Thread Cert.SguIdeal.nD Cert.SguIdeal.τ).loc Cert.SguIdeal.main_v11_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v11_0) = v0 c
          ∧ r.2.mem ((c.tc : Thread Cert.SguIdeal.nD Cert.SguIdeal.τ).loc Cert.SguIdeal.main_v11_1) = v1 c
          ∧ r.2.mem ((c.tc : Thread Cert.SguIdeal.nD Cert.SguIdeal.τ).loc Cert.SguIdeal.main_v11_2) = v2 c
          ∧ r.2.mem ((c.tc : Thread Cert.SguIdeal.nD Cert.SguIdeal.τ).loc Cert.SguIdeal.main_v11_3) = v3 c
          ∧ r.2.mem ((c.tc : Thread Cert.SguIdeal.nD Cert.SguIdeal.τ).loc Cert.SguIdeal.main_v11_4) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v100) = v0 c
          ∧ r.2.mem ((c.tc : Thread Cert.SguRefIdeal.nD Cert.SguRefIdeal.τ).loc Cert.SguRefIdeal.main_v64) = v1 c
          ∧ r.2.mem ((c.tc : Thread Cert.SguRefIdeal.nD Cert.SguRefIdeal.τ).loc Cert.SguRefIdeal.main_v101) = v2 c
          ∧ r.2.mem ((c.tc : Thread Cert.SguRefIdeal.nD Cert.SguRefIdeal.τ).loc Cert.SguRefIdeal.main_v102) = v3 c
          ∧ r.2.mem ((c.tc : Thread Cert.SguRefIdeal.nD Cert.SguRefIdeal.τ).loc Cert.SguRefIdeal.main_v103) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Att_AttIdeal : Prop :=
  IdealRules.named_const.Statement Cert.AttIdeal.κ "mask" .f32 0xF149F2CA#32 ⊥

def algebraic_AttIdeal_AttRefIdeal_pre_att_finite [hAttIdeal : Cert.AttIdeal.Facts] [hAttRefIdeal : Cert.AttRefIdeal.Facts] [hPre_att_finite : Cert.Pre_att_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_att_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v56_0)) (v1 : (c : Dev Cert.AttIdeal.nD) → Buf (Elt Ideal) ((c.tc : Thread Cert.AttIdeal.nD Cert.AttIdeal.τ).loc Cert.AttIdeal.main_v56_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v56_0) = v0 c
          ∧ r.2.mem ((c.tc : Thread Cert.AttIdeal.nD Cert.AttIdeal.τ).loc Cert.AttIdeal.main_v56_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v117) = v0 c
          ∧ r.2.mem ((c.tc : Thread Cert.AttRefIdeal.nD Cert.AttRefIdeal.τ).loc Cert.AttRefIdeal.main_v121) = v1 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v40_0)) (v1 : (c : Dev Cert.MixIdeal.nD) → Buf (Elt Ideal) ((c.tc : Thread Cert.MixIdeal.nD Cert.MixIdeal.τ).loc Cert.MixIdeal.main_v40_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v40_0) = v0 c
          ∧ r.2.mem ((c.tc : Thread Cert.MixIdeal.nD Cert.MixIdeal.τ).loc Cert.MixIdeal.main_v40_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v62) = v0 c
          ∧ r.2.mem ((c.tc : Thread Cert.MixRefIdeal.nD Cert.MixRefIdeal.τ).loc Cert.MixRefIdeal.main_v63) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Bra_BraIdeal : Prop :=
  True

def algebraic_BraIdeal_BraRefIdeal_pre_bra_finite [hBraIdeal : Cert.BraIdeal.Facts] [hBraRefIdeal : Cert.BraRefIdeal.Facts] [hPre_bra_finite : Cert.Pre_bra_finite.Facts] : Prop :=
  ∀ (m : (ℓ : Loc Cert.BraIdeal.nD Cert.BraIdeal.τ Cert.BraIdeal.sig) → Buf (Elt Ideal) ℓ) (g : Dev Cert.BraIdeal.nD → PrngReg)
    (m' : (ℓ : Loc Cert.BraRefIdeal.nD Cert.BraRefIdeal.τ Cert.BraRefIdeal.sig) → Buf (Elt Ideal) ℓ) (g' : Dev Cert.BraRefIdeal.nD → PrngReg), Pre_BraIdeal_bra_finite m →
    (∀ c : Dev Cert.BraIdeal.nD,
      m' ((c.tc : Thread Cert.BraRefIdeal.nD Cert.BraRefIdeal.τ).loc Cert.BraRefIdeal.main_arg0) = m ((c.tc : Thread Cert.BraIdeal.nD Cert.BraIdeal.τ).loc Cert.BraIdeal.main_arg0)
      ∧ m' ((c.tc : Thread Cert.BraRefIdeal.nD Cert.BraRefIdeal.τ).loc Cert.BraRefIdeal.main_arg1) = m ((c.tc : Thread Cert.BraIdeal.nD Cert.BraIdeal.τ).loc Cert.BraIdeal.main_arg1)
      ∧ m' ((c.tc : Thread Cert.BraRefIdeal.nD Cert.BraRefIdeal.τ).loc Cert.BraRefIdeal.main_arg2) = m ((c.tc : Thread Cert.BraIdeal.nD Cert.BraIdeal.τ).loc Cert.BraIdeal.main_arg2)) →
    ∃ (v0 : (c : Dev Cert.BraIdeal.nD) → Buf (Elt Ideal) ((c.tc : Thread Cert.BraIdeal.nD Cert.BraIdeal.τ).loc Cert.BraIdeal.main_v8_0)) (v1 : (c : Dev Cert.BraIdeal.nD) → Buf (Elt Ideal) ((c.tc : Thread Cert.BraIdeal.nD Cert.BraIdeal.τ).loc Cert.BraIdeal.main_v8_1)),
      θ_run (Cert.BraIdeal.defs (F := Ideal)) (onTc (τ := Cert.BraIdeal.τ) (Cert.BraIdeal.main (F := Ideal))) ⟨m, fun _ => 0, g⟩ (fun r => ∀ c : Dev Cert.BraIdeal.nD,
          r.2.mem ((c.tc : Thread Cert.BraIdeal.nD Cert.BraIdeal.τ).loc Cert.BraIdeal.main_v8_0) = v0 c
          ∧ r.2.mem ((c.tc : Thread Cert.BraIdeal.nD Cert.BraIdeal.τ).loc Cert.BraIdeal.main_v8_1) = v1 c
          ∧ r.2.mem ((c.tc : Thread Cert.BraIdeal.nD Cert.BraIdeal.τ).loc Cert.BraIdeal.main_arg0) = m ((c.tc : Thread Cert.BraIdeal.nD Cert.BraIdeal.τ).loc Cert.BraIdeal.main_arg0)
          ∧ r.2.mem ((c.tc : Thread Cert.BraIdeal.nD Cert.BraIdeal.τ).loc Cert.BraIdeal.main_arg1) = m ((c.tc : Thread Cert.BraIdeal.nD Cert.BraIdeal.τ).loc Cert.BraIdeal.main_arg1)
          ∧ r.2.mem ((c.tc : Thread Cert.BraIdeal.nD Cert.BraIdeal.τ).loc Cert.BraIdeal.main_arg2) = m ((c.tc : Thread Cert.BraIdeal.nD Cert.BraIdeal.τ).loc Cert.BraIdeal.main_arg2))
      ∧ θ_run (Cert.BraRefIdeal.defs (F := Ideal)) (onTc (τ := Cert.BraRefIdeal.τ) (Cert.BraRefIdeal.main (F := Ideal))) ⟨m', fun _ => 0, g'⟩ (fun r => ∀ c : Dev Cert.BraRefIdeal.nD,
          r.2.mem ((c.tc : Thread Cert.BraRefIdeal.nD Cert.BraRefIdeal.τ).loc Cert.BraRefIdeal.main_v75) = v0 c
          ∧ r.2.mem ((c.tc : Thread Cert.BraRefIdeal.nD Cert.BraRefIdeal.τ).loc Cert.BraRefIdeal.main_v77) = v1 c
          ∧ r.2.mem ((c.tc : Thread Cert.BraRefIdeal.nD Cert.BraRefIdeal.τ).loc Cert.BraRefIdeal.main_arg0) = m' ((c.tc : Thread Cert.BraRefIdeal.nD Cert.BraRefIdeal.τ).loc Cert.BraRefIdeal.main_arg0)
          ∧ r.2.mem ((c.tc : Thread Cert.BraRefIdeal.nD Cert.BraRefIdeal.τ).loc Cert.BraRefIdeal.main_arg1) = m' ((c.tc : Thread Cert.BraRefIdeal.nD Cert.BraRefIdeal.τ).loc Cert.BraRefIdeal.main_arg1)
          ∧ r.2.mem ((c.tc : Thread Cert.BraRefIdeal.nD Cert.BraRefIdeal.τ).loc Cert.BraRefIdeal.main_arg2) = m' ((c.tc : Thread Cert.BraRefIdeal.nD Cert.BraRefIdeal.τ).loc Cert.BraRefIdeal.main_arg2))

def preserves_Sguf_SgufIdeal : Prop :=
  True

def algebraic_SgufIdeal_SgufRefIdeal_pre_sguf_finite [hSgufIdeal : Cert.SgufIdeal.Facts] [hSgufRefIdeal : Cert.SgufRefIdeal.Facts] [hPre_sguf_finite : Cert.Pre_sguf_finite.Facts] : Prop :=
  ∀ (m : (ℓ : Loc Cert.SgufIdeal.nD Cert.SgufIdeal.τ Cert.SgufIdeal.sig) → Buf (Elt Ideal) ℓ) (g : Dev Cert.SgufIdeal.nD → PrngReg)
    (m' : (ℓ : Loc Cert.SgufRefIdeal.nD Cert.SgufRefIdeal.τ Cert.SgufRefIdeal.sig) → Buf (Elt Ideal) ℓ) (g' : Dev Cert.SgufRefIdeal.nD → PrngReg), Pre_SgufIdeal_sguf_finite m →
    (∀ c : Dev Cert.SgufIdeal.nD,
      m' ((c.tc : Thread Cert.SgufRefIdeal.nD Cert.SgufRefIdeal.τ).loc Cert.SgufRefIdeal.main_arg0) = m ((c.tc : Thread Cert.SgufIdeal.nD Cert.SgufIdeal.τ).loc Cert.SgufIdeal.main_arg0)
      ∧ m' ((c.tc : Thread Cert.SgufRefIdeal.nD Cert.SgufRefIdeal.τ).loc Cert.SgufRefIdeal.main_arg1) = m ((c.tc : Thread Cert.SgufIdeal.nD Cert.SgufIdeal.τ).loc Cert.SgufIdeal.main_arg1)
      ∧ m' ((c.tc : Thread Cert.SgufRefIdeal.nD Cert.SgufRefIdeal.τ).loc Cert.SgufRefIdeal.main_arg2) = m ((c.tc : Thread Cert.SgufIdeal.nD Cert.SgufIdeal.τ).loc Cert.SgufIdeal.main_arg2)
      ∧ m' ((c.tc : Thread Cert.SgufRefIdeal.nD Cert.SgufRefIdeal.τ).loc Cert.SgufRefIdeal.main_arg3) = m ((c.tc : Thread Cert.SgufIdeal.nD Cert.SgufIdeal.τ).loc Cert.SgufIdeal.main_arg3)
      ∧ m' ((c.tc : Thread Cert.SgufRefIdeal.nD Cert.SgufRefIdeal.τ).loc Cert.SgufRefIdeal.main_arg4) = m ((c.tc : Thread Cert.SgufIdeal.nD Cert.SgufIdeal.τ).loc Cert.SgufIdeal.main_arg4)) →
    ∃ (v0 : (c : Dev Cert.SgufIdeal.nD) → Buf (Elt Ideal) ((c.tc : Thread Cert.SgufIdeal.nD Cert.SgufIdeal.τ).loc Cert.SgufIdeal.main_v11)),
      θ_run (Cert.SgufIdeal.defs (F := Ideal)) (onTc (τ := Cert.SgufIdeal.τ) (Cert.SgufIdeal.main (F := Ideal))) ⟨m, fun _ => 0, g⟩ (fun r => ∀ c : Dev Cert.SgufIdeal.nD,
          r.2.mem ((c.tc : Thread Cert.SgufIdeal.nD Cert.SgufIdeal.τ).loc Cert.SgufIdeal.main_v11) = v0 c
          ∧ r.2.mem ((c.tc : Thread Cert.SgufIdeal.nD Cert.SgufIdeal.τ).loc Cert.SgufIdeal.main_arg0) = m ((c.tc : Thread Cert.SgufIdeal.nD Cert.SgufIdeal.τ).loc Cert.SgufIdeal.main_arg0)
          ∧ r.2.mem ((c.tc : Thread Cert.SgufIdeal.nD Cert.SgufIdeal.τ).loc Cert.SgufIdeal.main_arg1) = m ((c.tc : Thread Cert.SgufIdeal.nD Cert.SgufIdeal.τ).loc Cert.SgufIdeal.main_arg1)
          ∧ r.2.mem ((c.tc : Thread Cert.SgufIdeal.nD Cert.SgufIdeal.τ).loc Cert.SgufIdeal.main_arg2) = m ((c.tc : Thread Cert.SgufIdeal.nD Cert.SgufIdeal.τ).loc Cert.SgufIdeal.main_arg2)
          ∧ r.2.mem ((c.tc : Thread Cert.SgufIdeal.nD Cert.SgufIdeal.τ).loc Cert.SgufIdeal.main_arg3) = m ((c.tc : Thread Cert.SgufIdeal.nD Cert.SgufIdeal.τ).loc Cert.SgufIdeal.main_arg3)
          ∧ r.2.mem ((c.tc : Thread Cert.SgufIdeal.nD Cert.SgufIdeal.τ).loc Cert.SgufIdeal.main_arg4) = m ((c.tc : Thread Cert.SgufIdeal.nD Cert.SgufIdeal.τ).loc Cert.SgufIdeal.main_arg4))
      ∧ θ_run (Cert.SgufRefIdeal.defs (F := Ideal)) (onTc (τ := Cert.SgufRefIdeal.τ) (Cert.SgufRefIdeal.main (F := Ideal))) ⟨m', fun _ => 0, g'⟩ (fun r => ∀ c : Dev Cert.SgufRefIdeal.nD,
          r.2.mem ((c.tc : Thread Cert.SgufRefIdeal.nD Cert.SgufRefIdeal.τ).loc Cert.SgufRefIdeal.main_v48) = v0 c
          ∧ r.2.mem ((c.tc : Thread Cert.SgufRefIdeal.nD Cert.SgufRefIdeal.τ).loc Cert.SgufRefIdeal.main_arg0) = m' ((c.tc : Thread Cert.SgufRefIdeal.nD Cert.SgufRefIdeal.τ).loc Cert.SgufRefIdeal.main_arg0)
          ∧ r.2.mem ((c.tc : Thread Cert.SgufRefIdeal.nD Cert.SgufRefIdeal.τ).loc Cert.SgufRefIdeal.main_arg1) = m' ((c.tc : Thread Cert.SgufRefIdeal.nD Cert.SgufRefIdeal.τ).loc Cert.SgufRefIdeal.main_arg1)
          ∧ r.2.mem ((c.tc : Thread Cert.SgufRefIdeal.nD Cert.SgufRefIdeal.τ).loc Cert.SgufRefIdeal.main_arg2) = m' ((c.tc : Thread Cert.SgufRefIdeal.nD Cert.SgufRefIdeal.τ).loc Cert.SgufRefIdeal.main_arg2)
          ∧ r.2.mem ((c.tc : Thread Cert.SgufRefIdeal.nD Cert.SgufRefIdeal.τ).loc Cert.SgufRefIdeal.main_arg3) = m' ((c.tc : Thread Cert.SgufRefIdeal.nD Cert.SgufRefIdeal.τ).loc Cert.SgufRefIdeal.main_arg3)
          ∧ r.2.mem ((c.tc : Thread Cert.SgufRefIdeal.nD Cert.SgufRefIdeal.τ).loc Cert.SgufRefIdeal.main_arg4) = m' ((c.tc : Thread Cert.SgufRefIdeal.nD Cert.SgufRefIdeal.τ).loc Cert.SgufRefIdeal.main_arg4))

def preserves_Braf_BrafIdeal : Prop :=
  True

def algebraic_BrafIdeal_BrafRefIdeal_pre_braf_finite [hBrafIdeal : Cert.BrafIdeal.Facts] [hBrafRefIdeal : Cert.BrafRefIdeal.Facts] [hPre_braf_finite : Cert.Pre_braf_finite.Facts] : Prop :=
  ∀ (m : (ℓ : Loc Cert.BrafIdeal.nD Cert.BrafIdeal.τ Cert.BrafIdeal.sig) → Buf (Elt Ideal) ℓ) (g : Dev Cert.BrafIdeal.nD → PrngReg)
    (m' : (ℓ : Loc Cert.BrafRefIdeal.nD Cert.BrafRefIdeal.τ Cert.BrafRefIdeal.sig) → Buf (Elt Ideal) ℓ) (g' : Dev Cert.BrafRefIdeal.nD → PrngReg), Pre_BrafIdeal_braf_finite m →
    (∀ c : Dev Cert.BrafIdeal.nD,
      m' ((c.tc : Thread Cert.BrafRefIdeal.nD Cert.BrafRefIdeal.τ).loc Cert.BrafRefIdeal.main_arg0) = m ((c.tc : Thread Cert.BrafIdeal.nD Cert.BrafIdeal.τ).loc Cert.BrafIdeal.main_arg0)
      ∧ m' ((c.tc : Thread Cert.BrafRefIdeal.nD Cert.BrafRefIdeal.τ).loc Cert.BrafRefIdeal.main_arg1) = m ((c.tc : Thread Cert.BrafIdeal.nD Cert.BrafIdeal.τ).loc Cert.BrafIdeal.main_arg1)) →
    ∃ (v0 : (c : Dev Cert.BrafIdeal.nD) → Buf (Elt Ideal) ((c.tc : Thread Cert.BrafIdeal.nD Cert.BrafIdeal.τ).loc Cert.BrafIdeal.main_v8)),
      θ_run (Cert.BrafIdeal.defs (F := Ideal)) (onTc (τ := Cert.BrafIdeal.τ) (Cert.BrafIdeal.main (F := Ideal))) ⟨m, fun _ => 0, g⟩ (fun r => ∀ c : Dev Cert.BrafIdeal.nD,
          r.2.mem ((c.tc : Thread Cert.BrafIdeal.nD Cert.BrafIdeal.τ).loc Cert.BrafIdeal.main_v8) = v0 c
          ∧ r.2.mem ((c.tc : Thread Cert.BrafIdeal.nD Cert.BrafIdeal.τ).loc Cert.BrafIdeal.main_arg0) = m ((c.tc : Thread Cert.BrafIdeal.nD Cert.BrafIdeal.τ).loc Cert.BrafIdeal.main_arg0)
          ∧ r.2.mem ((c.tc : Thread Cert.BrafIdeal.nD Cert.BrafIdeal.τ).loc Cert.BrafIdeal.main_arg1) = m ((c.tc : Thread Cert.BrafIdeal.nD Cert.BrafIdeal.τ).loc Cert.BrafIdeal.main_arg1))
      ∧ θ_run (Cert.BrafRefIdeal.defs (F := Ideal)) (onTc (τ := Cert.BrafRefIdeal.τ) (Cert.BrafRefIdeal.main (F := Ideal))) ⟨m', fun _ => 0, g'⟩ (fun r => ∀ c : Dev Cert.BrafRefIdeal.nD,
          r.2.mem ((c.tc : Thread Cert.BrafRefIdeal.nD Cert.BrafRefIdeal.τ).loc Cert.BrafRefIdeal.main_v36) = v0 c
          ∧ r.2.mem ((c.tc : Thread Cert.BrafRefIdeal.nD Cert.BrafRefIdeal.τ).loc Cert.BrafRefIdeal.main_arg0) = m' ((c.tc : Thread Cert.BrafRefIdeal.nD Cert.BrafRefIdeal.τ).loc Cert.BrafRefIdeal.main_arg0)
          ∧ r.2.mem ((c.tc : Thread Cert.BrafRefIdeal.nD Cert.BrafRefIdeal.τ).loc Cert.BrafRefIdeal.main_arg1) = m' ((c.tc : Thread Cert.BrafRefIdeal.nD Cert.BrafRefIdeal.τ).loc Cert.BrafRefIdeal.main_arg1))

def preserves_Mergef_MergefIdeal : Prop :=
  True

def algebraic_MergefIdeal_MergefRefIdeal_pre_mergef_finite [hMergefIdeal : Cert.MergefIdeal.Facts] [hMergefRefIdeal : Cert.MergefRefIdeal.Facts] [hPre_mergef_finite : Cert.Pre_mergef_finite.Facts] : Prop :=
  ∀ (m : (ℓ : Loc Cert.MergefIdeal.nD Cert.MergefIdeal.τ Cert.MergefIdeal.sig) → Buf (Elt Ideal) ℓ) (g : Dev Cert.MergefIdeal.nD → PrngReg)
    (m' : (ℓ : Loc Cert.MergefRefIdeal.nD Cert.MergefRefIdeal.τ Cert.MergefRefIdeal.sig) → Buf (Elt Ideal) ℓ) (g' : Dev Cert.MergefRefIdeal.nD → PrngReg), Pre_MergefIdeal_mergef_finite m →
    (∀ c : Dev Cert.MergefIdeal.nD,
      m' ((c.tc : Thread Cert.MergefRefIdeal.nD Cert.MergefRefIdeal.τ).loc Cert.MergefRefIdeal.main_arg0) = m ((c.tc : Thread Cert.MergefIdeal.nD Cert.MergefIdeal.τ).loc Cert.MergefIdeal.main_arg0)
      ∧ m' ((c.tc : Thread Cert.MergefRefIdeal.nD Cert.MergefRefIdeal.τ).loc Cert.MergefRefIdeal.main_arg1) = m ((c.tc : Thread Cert.MergefIdeal.nD Cert.MergefIdeal.τ).loc Cert.MergefIdeal.main_arg1)
      ∧ m' ((c.tc : Thread Cert.MergefRefIdeal.nD Cert.MergefRefIdeal.τ).loc Cert.MergefRefIdeal.main_arg2) = m ((c.tc : Thread Cert.MergefIdeal.nD Cert.MergefIdeal.τ).loc Cert.MergefIdeal.main_arg2)
      ∧ m' ((c.tc : Thread Cert.MergefRefIdeal.nD Cert.MergefRefIdeal.τ).loc Cert.MergefRefIdeal.main_arg3) = m ((c.tc : Thread Cert.MergefIdeal.nD Cert.MergefIdeal.τ).loc Cert.MergefIdeal.main_arg3)
      ∧ m' ((c.tc : Thread Cert.MergefRefIdeal.nD Cert.MergefRefIdeal.τ).loc Cert.MergefRefIdeal.main_arg4) = m ((c.tc : Thread Cert.MergefIdeal.nD Cert.MergefIdeal.τ).loc Cert.MergefIdeal.main_arg4)
      ∧ m' ((c.tc : Thread Cert.MergefRefIdeal.nD Cert.MergefRefIdeal.τ).loc Cert.MergefRefIdeal.main_arg5) = m ((c.tc : Thread Cert.MergefIdeal.nD Cert.MergefIdeal.τ).loc Cert.MergefIdeal.main_arg5)
      ∧ m' ((c.tc : Thread Cert.MergefRefIdeal.nD Cert.MergefRefIdeal.τ).loc Cert.MergefRefIdeal.main_arg6) = m ((c.tc : Thread Cert.MergefIdeal.nD Cert.MergefIdeal.τ).loc Cert.MergefIdeal.main_arg6)
      ∧ m' ((c.tc : Thread Cert.MergefRefIdeal.nD Cert.MergefRefIdeal.τ).loc Cert.MergefRefIdeal.main_arg7) = m ((c.tc : Thread Cert.MergefIdeal.nD Cert.MergefIdeal.τ).loc Cert.MergefIdeal.main_arg7)) →
    ∃ (v0 : (c : Dev Cert.MergefIdeal.nD) → Buf (Elt Ideal) ((c.tc : Thread Cert.MergefIdeal.nD Cert.MergefIdeal.τ).loc Cert.MergefIdeal.main_v12_0)) (v1 : (c : Dev Cert.MergefIdeal.nD) → Buf (Elt Ideal) ((c.tc : Thread Cert.MergefIdeal.nD Cert.MergefIdeal.τ).loc Cert.MergefIdeal.main_v12_1)),
      θ_run (Cert.MergefIdeal.defs (F := Ideal)) (onTc (τ := Cert.MergefIdeal.τ) (Cert.MergefIdeal.main (F := Ideal))) ⟨m, fun _ => 0, g⟩ (fun r => ∀ c : Dev Cert.MergefIdeal.nD,
          r.2.mem ((c.tc : Thread Cert.MergefIdeal.nD Cert.MergefIdeal.τ).loc Cert.MergefIdeal.main_v12_0) = v0 c
          ∧ r.2.mem ((c.tc : Thread Cert.MergefIdeal.nD Cert.MergefIdeal.τ).loc Cert.MergefIdeal.main_v12_1) = v1 c
          ∧ r.2.mem ((c.tc : Thread Cert.MergefIdeal.nD Cert.MergefIdeal.τ).loc Cert.MergefIdeal.main_arg0) = m ((c.tc : Thread Cert.MergefIdeal.nD Cert.MergefIdeal.τ).loc Cert.MergefIdeal.main_arg0)
          ∧ r.2.mem ((c.tc : Thread Cert.MergefIdeal.nD Cert.MergefIdeal.τ).loc Cert.MergefIdeal.main_arg1) = m ((c.tc : Thread Cert.MergefIdeal.nD Cert.MergefIdeal.τ).loc Cert.MergefIdeal.main_arg1)
          ∧ r.2.mem ((c.tc : Thread Cert.MergefIdeal.nD Cert.MergefIdeal.τ).loc Cert.MergefIdeal.main_arg2) = m ((c.tc : Thread Cert.MergefIdeal.nD Cert.MergefIdeal.τ).loc Cert.MergefIdeal.main_arg2)
          ∧ r.2.mem ((c.tc : Thread Cert.MergefIdeal.nD Cert.MergefIdeal.τ).loc Cert.MergefIdeal.main_arg3) = m ((c.tc : Thread Cert.MergefIdeal.nD Cert.MergefIdeal.τ).loc Cert.MergefIdeal.main_arg3)
          ∧ r.2.mem ((c.tc : Thread Cert.MergefIdeal.nD Cert.MergefIdeal.τ).loc Cert.MergefIdeal.main_arg4) = m ((c.tc : Thread Cert.MergefIdeal.nD Cert.MergefIdeal.τ).loc Cert.MergefIdeal.main_arg4)
          ∧ r.2.mem ((c.tc : Thread Cert.MergefIdeal.nD Cert.MergefIdeal.τ).loc Cert.MergefIdeal.main_arg5) = m ((c.tc : Thread Cert.MergefIdeal.nD Cert.MergefIdeal.τ).loc Cert.MergefIdeal.main_arg5)
          ∧ r.2.mem ((c.tc : Thread Cert.MergefIdeal.nD Cert.MergefIdeal.τ).loc Cert.MergefIdeal.main_arg6) = m ((c.tc : Thread Cert.MergefIdeal.nD Cert.MergefIdeal.τ).loc Cert.MergefIdeal.main_arg6)
          ∧ r.2.mem ((c.tc : Thread Cert.MergefIdeal.nD Cert.MergefIdeal.τ).loc Cert.MergefIdeal.main_arg7) = m ((c.tc : Thread Cert.MergefIdeal.nD Cert.MergefIdeal.τ).loc Cert.MergefIdeal.main_arg7))
      ∧ θ_run (Cert.MergefRefIdeal.defs (F := Ideal)) (onTc (τ := Cert.MergefRefIdeal.τ) (Cert.MergefRefIdeal.main (F := Ideal))) ⟨m', fun _ => 0, g'⟩ (fun r => ∀ c : Dev Cert.MergefRefIdeal.nD,
          r.2.mem ((c.tc : Thread Cert.MergefRefIdeal.nD Cert.MergefRefIdeal.τ).loc Cert.MergefRefIdeal.main_v32) = v0 c
          ∧ r.2.mem ((c.tc : Thread Cert.MergefRefIdeal.nD Cert.MergefRefIdeal.τ).loc Cert.MergefRefIdeal.main_v33) = v1 c
          ∧ r.2.mem ((c.tc : Thread Cert.MergefRefIdeal.nD Cert.MergefRefIdeal.τ).loc Cert.MergefRefIdeal.main_arg0) = m' ((c.tc : Thread Cert.MergefRefIdeal.nD Cert.MergefRefIdeal.τ).loc Cert.MergefRefIdeal.main_arg0)
          ∧ r.2.mem ((c.tc : Thread Cert.MergefRefIdeal.nD Cert.MergefRefIdeal.τ).loc Cert.MergefRefIdeal.main_arg1) = m' ((c.tc : Thread Cert.MergefRefIdeal.nD Cert.MergefRefIdeal.τ).loc Cert.MergefRefIdeal.main_arg1)
          ∧ r.2.mem ((c.tc : Thread Cert.MergefRefIdeal.nD Cert.MergefRefIdeal.τ).loc Cert.MergefRefIdeal.main_arg2) = m' ((c.tc : Thread Cert.MergefRefIdeal.nD Cert.MergefRefIdeal.τ).loc Cert.MergefRefIdeal.main_arg2)
          ∧ r.2.mem ((c.tc : Thread Cert.MergefRefIdeal.nD Cert.MergefRefIdeal.τ).loc Cert.MergefRefIdeal.main_arg3) = m' ((c.tc : Thread Cert.MergefRefIdeal.nD Cert.MergefRefIdeal.τ).loc Cert.MergefRefIdeal.main_arg3)
          ∧ r.2.mem ((c.tc : Thread Cert.MergefRefIdeal.nD Cert.MergefRefIdeal.τ).loc Cert.MergefRefIdeal.main_arg4) = m' ((c.tc : Thread Cert.MergefRefIdeal.nD Cert.MergefRefIdeal.τ).loc Cert.MergefRefIdeal.main_arg4)
          ∧ r.2.mem ((c.tc : Thread Cert.MergefRefIdeal.nD Cert.MergefRefIdeal.τ).loc Cert.MergefRefIdeal.main_arg5) = m' ((c.tc : Thread Cert.MergefRefIdeal.nD Cert.MergefRefIdeal.τ).loc Cert.MergefRefIdeal.main_arg5)
          ∧ r.2.mem ((c.tc : Thread Cert.MergefRefIdeal.nD Cert.MergefRefIdeal.τ).loc Cert.MergefRefIdeal.main_arg6) = m' ((c.tc : Thread Cert.MergefRefIdeal.nD Cert.MergefRefIdeal.τ).loc Cert.MergefRefIdeal.main_arg6)
          ∧ r.2.mem ((c.tc : Thread Cert.MergefRefIdeal.nD Cert.MergefRefIdeal.τ).loc Cert.MergefRefIdeal.main_arg7) = m' ((c.tc : Thread Cert.MergefRefIdeal.nD Cert.MergefRefIdeal.τ).loc Cert.MergefRefIdeal.main_arg7))

def preserves_Plef_PlefIdeal : Prop :=
  True

def algebraic_PlefIdeal_PlefRefIdeal_pre_plef_finite [hPlefIdeal : Cert.PlefIdeal.Facts] [hPlefRefIdeal : Cert.PlefRefIdeal.Facts] [hPre_plef_finite : Cert.Pre_plef_finite.Facts] : Prop :=
  ∀ (m : (ℓ : Loc Cert.PlefIdeal.nD Cert.PlefIdeal.τ Cert.PlefIdeal.sig) → Buf (Elt Ideal) ℓ) (g : Dev Cert.PlefIdeal.nD → PrngReg)
    (m' : (ℓ : Loc Cert.PlefRefIdeal.nD Cert.PlefRefIdeal.τ Cert.PlefRefIdeal.sig) → Buf (Elt Ideal) ℓ) (g' : Dev Cert.PlefRefIdeal.nD → PrngReg), Pre_PlefIdeal_plef_finite m →
    (∀ c : Dev Cert.PlefIdeal.nD,
      m' ((c.tc : Thread Cert.PlefRefIdeal.nD Cert.PlefRefIdeal.τ).loc Cert.PlefRefIdeal.main_arg0) = m ((c.tc : Thread Cert.PlefIdeal.nD Cert.PlefIdeal.τ).loc Cert.PlefIdeal.main_arg0)
      ∧ m' ((c.tc : Thread Cert.PlefRefIdeal.nD Cert.PlefRefIdeal.τ).loc Cert.PlefRefIdeal.main_arg1) = m ((c.tc : Thread Cert.PlefIdeal.nD Cert.PlefIdeal.τ).loc Cert.PlefIdeal.main_arg1)
      ∧ m' ((c.tc : Thread Cert.PlefRefIdeal.nD Cert.PlefRefIdeal.τ).loc Cert.PlefRefIdeal.main_arg2) = m ((c.tc : Thread Cert.PlefIdeal.nD Cert.PlefIdeal.τ).loc Cert.PlefIdeal.main_arg2)
      ∧ m' ((c.tc : Thread Cert.PlefRefIdeal.nD Cert.PlefRefIdeal.τ).loc Cert.PlefRefIdeal.main_arg3) = m ((c.tc : Thread Cert.PlefIdeal.nD Cert.PlefIdeal.τ).loc Cert.PlefIdeal.main_arg3)
      ∧ m' ((c.tc : Thread Cert.PlefRefIdeal.nD Cert.PlefRefIdeal.τ).loc Cert.PlefRefIdeal.main_arg4) = m ((c.tc : Thread Cert.PlefIdeal.nD Cert.PlefIdeal.τ).loc Cert.PlefIdeal.main_arg4)) →
    ∃ (v0 : (c : Dev Cert.PlefIdeal.nD) → Buf (Elt Ideal) ((c.tc : Thread Cert.PlefIdeal.nD Cert.PlefIdeal.τ).loc Cert.PlefIdeal.main_v3_0)) (v1 : (c : Dev Cert.PlefIdeal.nD) → Buf (Elt Ideal) ((c.tc : Thread Cert.PlefIdeal.nD Cert.PlefIdeal.τ).loc Cert.PlefIdeal.main_v3_1)) (v2 : (c : Dev Cert.PlefIdeal.nD) → Buf (Elt Ideal) ((c.tc : Thread Cert.PlefIdeal.nD Cert.PlefIdeal.τ).loc Cert.PlefIdeal.main_v3_2)),
      θ_run (Cert.PlefIdeal.defs (F := Ideal)) (onTc (τ := Cert.PlefIdeal.τ) (Cert.PlefIdeal.main (F := Ideal))) ⟨m, fun _ => 0, g⟩ (fun r => ∀ c : Dev Cert.PlefIdeal.nD,
          r.2.mem ((c.tc : Thread Cert.PlefIdeal.nD Cert.PlefIdeal.τ).loc Cert.PlefIdeal.main_v3_0) = v0 c
          ∧ r.2.mem ((c.tc : Thread Cert.PlefIdeal.nD Cert.PlefIdeal.τ).loc Cert.PlefIdeal.main_v3_1) = v1 c
          ∧ r.2.mem ((c.tc : Thread Cert.PlefIdeal.nD Cert.PlefIdeal.τ).loc Cert.PlefIdeal.main_v3_2) = v2 c
          ∧ r.2.mem ((c.tc : Thread Cert.PlefIdeal.nD Cert.PlefIdeal.τ).loc Cert.PlefIdeal.main_arg0) = m ((c.tc : Thread Cert.PlefIdeal.nD Cert.PlefIdeal.τ).loc Cert.PlefIdeal.main_arg0)
          ∧ r.2.mem ((c.tc : Thread Cert.PlefIdeal.nD Cert.PlefIdeal.τ).loc Cert.PlefIdeal.main_arg1) = m ((c.tc : Thread Cert.PlefIdeal.nD Cert.PlefIdeal.τ).loc Cert.PlefIdeal.main_arg1)
          ∧ r.2.mem ((c.tc : Thread Cert.PlefIdeal.nD Cert.PlefIdeal.τ).loc Cert.PlefIdeal.main_arg2) = m ((c.tc : Thread Cert.PlefIdeal.nD Cert.PlefIdeal.τ).loc Cert.PlefIdeal.main_arg2)
          ∧ r.2.mem ((c.tc : Thread Cert.PlefIdeal.nD Cert.PlefIdeal.τ).loc Cert.PlefIdeal.main_arg3) = m ((c.tc : Thread Cert.PlefIdeal.nD Cert.PlefIdeal.τ).loc Cert.PlefIdeal.main_arg3)
          ∧ r.2.mem ((c.tc : Thread Cert.PlefIdeal.nD Cert.PlefIdeal.τ).loc Cert.PlefIdeal.main_arg4) = m ((c.tc : Thread Cert.PlefIdeal.nD Cert.PlefIdeal.τ).loc Cert.PlefIdeal.main_arg4))
      ∧ θ_run (Cert.PlefRefIdeal.defs (F := Ideal)) (onTc (τ := Cert.PlefRefIdeal.τ) (Cert.PlefRefIdeal.main (F := Ideal))) ⟨m', fun _ => 0, g'⟩ (fun r => ∀ c : Dev Cert.PlefRefIdeal.nD,
          r.2.mem ((c.tc : Thread Cert.PlefRefIdeal.nD Cert.PlefRefIdeal.τ).loc Cert.PlefRefIdeal.main_v22) = v0 c
          ∧ r.2.mem ((c.tc : Thread Cert.PlefRefIdeal.nD Cert.PlefRefIdeal.τ).loc Cert.PlefRefIdeal.main_v19) = v1 c
          ∧ r.2.mem ((c.tc : Thread Cert.PlefRefIdeal.nD Cert.PlefRefIdeal.τ).loc Cert.PlefRefIdeal.main_v23) = v2 c
          ∧ r.2.mem ((c.tc : Thread Cert.PlefRefIdeal.nD Cert.PlefRefIdeal.τ).loc Cert.PlefRefIdeal.main_arg0) = m' ((c.tc : Thread Cert.PlefRefIdeal.nD Cert.PlefRefIdeal.τ).loc Cert.PlefRefIdeal.main_arg0)
          ∧ r.2.mem ((c.tc : Thread Cert.PlefRefIdeal.nD Cert.PlefRefIdeal.τ).loc Cert.PlefRefIdeal.main_arg1) = m' ((c.tc : Thread Cert.PlefRefIdeal.nD Cert.PlefRefIdeal.τ).loc Cert.PlefRefIdeal.main_arg1)
          ∧ r.2.mem ((c.tc : Thread Cert.PlefRefIdeal.nD Cert.PlefRefIdeal.τ).loc Cert.PlefRefIdeal.main_arg2) = m' ((c.tc : Thread Cert.PlefRefIdeal.nD Cert.PlefRefIdeal.τ).loc Cert.PlefRefIdeal.main_arg2)
          ∧ r.2.mem ((c.tc : Thread Cert.PlefRefIdeal.nD Cert.PlefRefIdeal.τ).loc Cert.PlefRefIdeal.main_arg3) = m' ((c.tc : Thread Cert.PlefRefIdeal.nD Cert.PlefRefIdeal.τ).loc Cert.PlefRefIdeal.main_arg3)
          ∧ r.2.mem ((c.tc : Thread Cert.PlefRefIdeal.nD Cert.PlefRefIdeal.τ).loc Cert.PlefRefIdeal.main_arg4) = m' ((c.tc : Thread Cert.PlefRefIdeal.nD Cert.PlefRefIdeal.τ).loc Cert.PlefRefIdeal.main_arg4))

def preserves_Ffnf_FfnfIdeal : Prop :=
  True

def algebraic_FfnfIdeal_FfnfRefIdeal_pre_ffnf_finite [hFfnfIdeal : Cert.FfnfIdeal.Facts] [hFfnfRefIdeal : Cert.FfnfRefIdeal.Facts] [hPre_ffnf_finite : Cert.Pre_ffnf_finite.Facts] : Prop :=
  ∀ (m : (ℓ : Loc Cert.FfnfIdeal.nD Cert.FfnfIdeal.τ Cert.FfnfIdeal.sig) → Buf (Elt Ideal) ℓ) (g : Dev Cert.FfnfIdeal.nD → PrngReg)
    (m' : (ℓ : Loc Cert.FfnfRefIdeal.nD Cert.FfnfRefIdeal.τ Cert.FfnfRefIdeal.sig) → Buf (Elt Ideal) ℓ) (g' : Dev Cert.FfnfRefIdeal.nD → PrngReg), Pre_FfnfIdeal_ffnf_finite m →
    (∀ c : Dev Cert.FfnfIdeal.nD,
      m' ((c.tc : Thread Cert.FfnfRefIdeal.nD Cert.FfnfRefIdeal.τ).loc Cert.FfnfRefIdeal.main_arg0) = m ((c.tc : Thread Cert.FfnfIdeal.nD Cert.FfnfIdeal.τ).loc Cert.FfnfIdeal.main_arg0)
      ∧ m' ((c.tc : Thread Cert.FfnfRefIdeal.nD Cert.FfnfRefIdeal.τ).loc Cert.FfnfRefIdeal.main_arg1) = m ((c.tc : Thread Cert.FfnfIdeal.nD Cert.FfnfIdeal.τ).loc Cert.FfnfIdeal.main_arg1)
      ∧ m' ((c.tc : Thread Cert.FfnfRefIdeal.nD Cert.FfnfRefIdeal.τ).loc Cert.FfnfRefIdeal.main_arg2) = m ((c.tc : Thread Cert.FfnfIdeal.nD Cert.FfnfIdeal.τ).loc Cert.FfnfIdeal.main_arg2)
      ∧ m' ((c.tc : Thread Cert.FfnfRefIdeal.nD Cert.FfnfRefIdeal.τ).loc Cert.FfnfRefIdeal.main_arg3) = m ((c.tc : Thread Cert.FfnfIdeal.nD Cert.FfnfIdeal.τ).loc Cert.FfnfIdeal.main_arg3)) →
    ∃ (v0 : (c : Dev Cert.FfnfIdeal.nD) → Buf (Elt Ideal) ((c.tc : Thread Cert.FfnfIdeal.nD Cert.FfnfIdeal.τ).loc Cert.FfnfIdeal.main_v10_0)) (v1 : (c : Dev Cert.FfnfIdeal.nD) → Buf (Elt Ideal) ((c.tc : Thread Cert.FfnfIdeal.nD Cert.FfnfIdeal.τ).loc Cert.FfnfIdeal.main_v10_1)) (v2 : (c : Dev Cert.FfnfIdeal.nD) → Buf (Elt Ideal) ((c.tc : Thread Cert.FfnfIdeal.nD Cert.FfnfIdeal.τ).loc Cert.FfnfIdeal.main_v10_2)),
      θ_run (Cert.FfnfIdeal.defs (F := Ideal)) (onTc (τ := Cert.FfnfIdeal.τ) (Cert.FfnfIdeal.main (F := Ideal))) ⟨m, fun _ => 0, g⟩ (fun r => ∀ c : Dev Cert.FfnfIdeal.nD,
          r.2.mem ((c.tc : Thread Cert.FfnfIdeal.nD Cert.FfnfIdeal.τ).loc Cert.FfnfIdeal.main_v10_0) = v0 c
          ∧ r.2.mem ((c.tc : Thread Cert.FfnfIdeal.nD Cert.FfnfIdeal.τ).loc Cert.FfnfIdeal.main_v10_1) = v1 c
          ∧ r.2.mem ((c.tc : Thread Cert.FfnfIdeal.nD Cert.FfnfIdeal.τ).loc Cert.FfnfIdeal.main_v10_2) = v2 c
          ∧ r.2.mem ((c.tc : Thread Cert.FfnfIdeal.nD Cert.FfnfIdeal.τ).loc Cert.FfnfIdeal.main_arg0) = m ((c.tc : Thread Cert.FfnfIdeal.nD Cert.FfnfIdeal.τ).loc Cert.FfnfIdeal.main_arg0)
          ∧ r.2.mem ((c.tc : Thread Cert.FfnfIdeal.nD Cert.FfnfIdeal.τ).loc Cert.FfnfIdeal.main_arg1) = m ((c.tc : Thread Cert.FfnfIdeal.nD Cert.FfnfIdeal.τ).loc Cert.FfnfIdeal.main_arg1)
          ∧ r.2.mem ((c.tc : Thread Cert.FfnfIdeal.nD Cert.FfnfIdeal.τ).loc Cert.FfnfIdeal.main_arg2) = m ((c.tc : Thread Cert.FfnfIdeal.nD Cert.FfnfIdeal.τ).loc Cert.FfnfIdeal.main_arg2)
          ∧ r.2.mem ((c.tc : Thread Cert.FfnfIdeal.nD Cert.FfnfIdeal.τ).loc Cert.FfnfIdeal.main_arg3) = m ((c.tc : Thread Cert.FfnfIdeal.nD Cert.FfnfIdeal.τ).loc Cert.FfnfIdeal.main_arg3))
      ∧ θ_run (Cert.FfnfRefIdeal.defs (F := Ideal)) (onTc (τ := Cert.FfnfRefIdeal.τ) (Cert.FfnfRefIdeal.main (F := Ideal))) ⟨m', fun _ => 0, g'⟩ (fun r => ∀ c : Dev Cert.FfnfRefIdeal.nD,
          r.2.mem ((c.tc : Thread Cert.FfnfRefIdeal.nD Cert.FfnfRefIdeal.τ).loc Cert.FfnfRefIdeal.main_v23) = v0 c
          ∧ r.2.mem ((c.tc : Thread Cert.FfnfRefIdeal.nD Cert.FfnfRefIdeal.τ).loc Cert.FfnfRefIdeal.main_v25) = v1 c
          ∧ r.2.mem ((c.tc : Thread Cert.FfnfRefIdeal.nD Cert.FfnfRefIdeal.τ).loc Cert.FfnfRefIdeal.main_v26) = v2 c
          ∧ r.2.mem ((c.tc : Thread Cert.FfnfRefIdeal.nD Cert.FfnfRefIdeal.τ).loc Cert.FfnfRefIdeal.main_arg0) = m' ((c.tc : Thread Cert.FfnfRefIdeal.nD Cert.FfnfRefIdeal.τ).loc Cert.FfnfRefIdeal.main_arg0)
          ∧ r.2.mem ((c.tc : Thread Cert.FfnfRefIdeal.nD Cert.FfnfRefIdeal.τ).loc Cert.FfnfRefIdeal.main_arg1) = m' ((c.tc : Thread Cert.FfnfRefIdeal.nD Cert.FfnfRefIdeal.τ).loc Cert.FfnfRefIdeal.main_arg1)
          ∧ r.2.mem ((c.tc : Thread Cert.FfnfRefIdeal.nD Cert.FfnfRefIdeal.τ).loc Cert.FfnfRefIdeal.main_arg2) = m' ((c.tc : Thread Cert.FfnfRefIdeal.nD Cert.FfnfRefIdeal.τ).loc Cert.FfnfRefIdeal.main_arg2)
          ∧ r.2.mem ((c.tc : Thread Cert.FfnfRefIdeal.nD Cert.FfnfRefIdeal.τ).loc Cert.FfnfRefIdeal.main_arg3) = m' ((c.tc : Thread Cert.FfnfRefIdeal.nD Cert.FfnfRefIdeal.τ).loc Cert.FfnfRefIdeal.main_arg3))

def preserves_Conf_ConfIdeal : Prop :=
  True

def Claim : Prop :=
  ∃ (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hPle : Cert.Ple.Facts) (hPleIdeal : Cert.PleIdeal.Facts) (hPleRefIdeal : Cert.PleRefIdeal.Facts) (hRmsb : Cert.Rmsb.Facts) (hRmsbIdeal : Cert.RmsbIdeal.Facts) (hRmsbRefIdeal : Cert.RmsbRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hSgu : Cert.Sgu.Facts) (hSguIdeal : Cert.SguIdeal.Facts) (hSguRefIdeal : Cert.SguRefIdeal.Facts) (hAtt : Cert.Att.Facts) (hAttIdeal : Cert.AttIdeal.Facts) (hAttRefIdeal : Cert.AttRefIdeal.Facts) (hMix : Cert.Mix.Facts) (hMixIdeal : Cert.MixIdeal.Facts) (hMixRefIdeal : Cert.MixRefIdeal.Facts) (hBra : Cert.Bra.Facts) (hBraIdeal : Cert.BraIdeal.Facts) (hBraRefIdeal : Cert.BraRefIdeal.Facts) (hSguf : Cert.Sguf.Facts) (hSgufIdeal : Cert.SgufIdeal.Facts) (hSgufRefIdeal : Cert.SgufRefIdeal.Facts) (hBraf : Cert.Braf.Facts) (hBrafIdeal : Cert.BrafIdeal.Facts) (hBrafRefIdeal : Cert.BrafRefIdeal.Facts) (hMergef : Cert.Mergef.Facts) (hMergefIdeal : Cert.MergefIdeal.Facts) (hMergefRefIdeal : Cert.MergefRefIdeal.Facts) (hPlef : Cert.Plef.Facts) (hPlefIdeal : Cert.PlefIdeal.Facts) (hPlefRefIdeal : Cert.PlefRefIdeal.Facts) (hFfnf : Cert.Ffnf.Facts) (hFfnfIdeal : Cert.FfnfIdeal.Facts) (hFfnfRefIdeal : Cert.FfnfRefIdeal.Facts) (hConf : Cert.Conf.Facts) (hConfIdeal : Cert.ConfIdeal.Facts) (hPre_norm_finite : Cert.Pre_norm_finite.Facts) (hPre_loss_finite : Cert.Pre_loss_finite.Facts) (hPre_ple_finite : Cert.Pre_ple_finite.Facts) (hPre_rmsb_finite : Cert.Pre_rmsb_finite.Facts) (hPre_merge_finite : Cert.Pre_merge_finite.Facts) (hPre_ffn_finite : Cert.Pre_ffn_finite.Facts) (hPre_sgu_finite : Cert.Pre_sgu_finite.Facts) (hPre_att_finite : Cert.Pre_att_finite.Facts) (hPre_mix_finite : Cert.Pre_mix_finite.Facts) (hPre_bra_finite : Cert.Pre_bra_finite.Facts) (hPre_sguf_finite : Cert.Pre_sguf_finite.Facts) (hPre_braf_finite : Cert.Pre_braf_finite.Facts) (hPre_mergef_finite : Cert.Pre_mergef_finite.Facts) (hPre_plef_finite : Cert.Pre_plef_finite.Facts) (hPre_ffnf_finite : Cert.Pre_ffnf_finite.Facts),
    quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_Rmsb (hRmsb := hRmsb)
    ∧ quiescent_RmsbIdeal (hRmsbIdeal := hRmsbIdeal)
    ∧ quiescent_RmsbIdeal_pre_rmsb_finite (hRmsbIdeal := hRmsbIdeal) (hPre_rmsb_finite := hPre_rmsb_finite)
    ∧ quiescent_RmsbRefIdeal (hRmsbRefIdeal := hRmsbRefIdeal)
    ∧ quiescent_RmsbRefIdeal_pre_rmsb_finite (hRmsbRefIdeal := hRmsbRefIdeal) (hPre_rmsb_finite := hPre_rmsb_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Sgu (hSgu := hSgu)
    ∧ quiescent_SguIdeal (hSguIdeal := hSguIdeal)
    ∧ quiescent_SguIdeal_pre_sgu_finite (hSguIdeal := hSguIdeal) (hPre_sgu_finite := hPre_sgu_finite)
    ∧ quiescent_SguRefIdeal (hSguRefIdeal := hSguRefIdeal)
    ∧ quiescent_SguRefIdeal_pre_sgu_finite (hSguRefIdeal := hSguRefIdeal) (hPre_sgu_finite := hPre_sgu_finite)
    ∧ quiescent_Att (hAtt := hAtt)
    ∧ quiescent_AttIdeal (hAttIdeal := hAttIdeal)
    ∧ quiescent_AttIdeal_pre_att_finite (hAttIdeal := hAttIdeal) (hPre_att_finite := hPre_att_finite)
    ∧ quiescent_AttRefIdeal (hAttRefIdeal := hAttRefIdeal)
    ∧ quiescent_AttRefIdeal_pre_att_finite (hAttRefIdeal := hAttRefIdeal) (hPre_att_finite := hPre_att_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Bra (hBra := hBra)
    ∧ quiescent_BraIdeal (hBraIdeal := hBraIdeal)
    ∧ quiescent_BraIdeal_pre_bra_finite (hBraIdeal := hBraIdeal) (hPre_bra_finite := hPre_bra_finite)
    ∧ quiescent_BraRefIdeal (hBraRefIdeal := hBraRefIdeal)
    ∧ quiescent_BraRefIdeal_pre_bra_finite (hBraRefIdeal := hBraRefIdeal) (hPre_bra_finite := hPre_bra_finite)
    ∧ quiescent_Sguf (hSguf := hSguf)
    ∧ quiescent_SgufIdeal (hSgufIdeal := hSgufIdeal)
    ∧ quiescent_SgufIdeal_pre_sguf_finite (hSgufIdeal := hSgufIdeal) (hPre_sguf_finite := hPre_sguf_finite)
    ∧ quiescent_SgufRefIdeal (hSgufRefIdeal := hSgufRefIdeal)
    ∧ quiescent_SgufRefIdeal_pre_sguf_finite (hSgufRefIdeal := hSgufRefIdeal) (hPre_sguf_finite := hPre_sguf_finite)
    ∧ quiescent_Braf (hBraf := hBraf)
    ∧ quiescent_BrafIdeal (hBrafIdeal := hBrafIdeal)
    ∧ quiescent_BrafIdeal_pre_braf_finite (hBrafIdeal := hBrafIdeal) (hPre_braf_finite := hPre_braf_finite)
    ∧ quiescent_BrafRefIdeal (hBrafRefIdeal := hBrafRefIdeal)
    ∧ quiescent_BrafRefIdeal_pre_braf_finite (hBrafRefIdeal := hBrafRefIdeal) (hPre_braf_finite := hPre_braf_finite)
    ∧ quiescent_Mergef (hMergef := hMergef)
    ∧ quiescent_MergefIdeal (hMergefIdeal := hMergefIdeal)
    ∧ quiescent_MergefIdeal_pre_mergef_finite (hMergefIdeal := hMergefIdeal) (hPre_mergef_finite := hPre_mergef_finite)
    ∧ quiescent_MergefRefIdeal (hMergefRefIdeal := hMergefRefIdeal)
    ∧ quiescent_MergefRefIdeal_pre_mergef_finite (hMergefRefIdeal := hMergefRefIdeal) (hPre_mergef_finite := hPre_mergef_finite)
    ∧ quiescent_Plef (hPlef := hPlef)
    ∧ quiescent_PlefIdeal (hPlefIdeal := hPlefIdeal)
    ∧ quiescent_PlefIdeal_pre_plef_finite (hPlefIdeal := hPlefIdeal) (hPre_plef_finite := hPre_plef_finite)
    ∧ quiescent_PlefRefIdeal (hPlefRefIdeal := hPlefRefIdeal)
    ∧ quiescent_PlefRefIdeal_pre_plef_finite (hPlefRefIdeal := hPlefRefIdeal) (hPre_plef_finite := hPre_plef_finite)
    ∧ quiescent_Ffnf (hFfnf := hFfnf)
    ∧ quiescent_FfnfIdeal (hFfnfIdeal := hFfnfIdeal)
    ∧ quiescent_FfnfIdeal_pre_ffnf_finite (hFfnfIdeal := hFfnfIdeal) (hPre_ffnf_finite := hPre_ffnf_finite)
    ∧ quiescent_FfnfRefIdeal (hFfnfRefIdeal := hFfnfRefIdeal)
    ∧ quiescent_FfnfRefIdeal_pre_ffnf_finite (hFfnfRefIdeal := hFfnfRefIdeal) (hPre_ffnf_finite := hPre_ffnf_finite)
    ∧ quiescent_Conf (hConf := hConf)
    ∧ quiescent_ConfIdeal (hConfIdeal := hConfIdeal)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_Rmsb_RmsbIdeal
    ∧ algebraic_RmsbIdeal_RmsbRefIdeal_pre_rmsb_finite (hRmsbIdeal := hRmsbIdeal) (hRmsbRefIdeal := hRmsbRefIdeal) (hPre_rmsb_finite := hPre_rmsb_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Sgu_SguIdeal
    ∧ algebraic_SguIdeal_SguRefIdeal_pre_sgu_finite (hSguIdeal := hSguIdeal) (hSguRefIdeal := hSguRefIdeal) (hPre_sgu_finite := hPre_sgu_finite)
    ∧ preserves_Att_AttIdeal
    ∧ algebraic_AttIdeal_AttRefIdeal_pre_att_finite (hAttIdeal := hAttIdeal) (hAttRefIdeal := hAttRefIdeal) (hPre_att_finite := hPre_att_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Bra_BraIdeal
    ∧ algebraic_BraIdeal_BraRefIdeal_pre_bra_finite (hBraIdeal := hBraIdeal) (hBraRefIdeal := hBraRefIdeal) (hPre_bra_finite := hPre_bra_finite)
    ∧ preserves_Sguf_SgufIdeal
    ∧ algebraic_SgufIdeal_SgufRefIdeal_pre_sguf_finite (hSgufIdeal := hSgufIdeal) (hSgufRefIdeal := hSgufRefIdeal) (hPre_sguf_finite := hPre_sguf_finite)
    ∧ preserves_Braf_BrafIdeal
    ∧ algebraic_BrafIdeal_BrafRefIdeal_pre_braf_finite (hBrafIdeal := hBrafIdeal) (hBrafRefIdeal := hBrafRefIdeal) (hPre_braf_finite := hPre_braf_finite)
    ∧ preserves_Mergef_MergefIdeal
    ∧ algebraic_MergefIdeal_MergefRefIdeal_pre_mergef_finite (hMergefIdeal := hMergefIdeal) (hMergefRefIdeal := hMergefRefIdeal) (hPre_mergef_finite := hPre_mergef_finite)
    ∧ preserves_Plef_PlefIdeal
    ∧ algebraic_PlefIdeal_PlefRefIdeal_pre_plef_finite (hPlefIdeal := hPlefIdeal) (hPlefRefIdeal := hPlefRefIdeal) (hPre_plef_finite := hPre_plef_finite)
    ∧ preserves_Ffnf_FfnfIdeal
    ∧ algebraic_FfnfIdeal_FfnfRefIdeal_pre_ffnf_finite (hFfnfIdeal := hFfnfIdeal) (hFfnfRefIdeal := hFfnfRefIdeal) (hPre_ffnf_finite := hPre_ffnf_finite)
    ∧ preserves_Conf_ConfIdeal
-- ==== Pre_att_finite.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S8192x256 .f32 := Host.absf main_arg2
  let main_cst_2 : FVec F S_ .f32 := constant S_ .f32 0x7F800000#32
  let main_v9 : FVec F S8192x256 .f32 := broadcastInDim S8192x256 ![] bcast_S_S8192x256 main_cst_2
  let main_v10 : IVec S8192x256 1 := cmpf .olt main_v8 main_v9
  let main_c_3 : IVec S_ 1 := constantI S_ 1 1#1
  let main_v11 : IVec S_ 1 := (fun x v => Host.reduce IntOp.andi x v reducesTo_S8192x256_S_d0_1 h_S_) main_v10 main_c_3
  let main_v12 : IVec S_ 1 := andi main_v3 main_v7
  let main_v13 : IVec S_ 1 := andi main_v12 main_v11
  main_v13
-- ==== Pre_bra_finite.lean ====
abbrev S8192x256 : Shape := ⟨2, ![8192, 256]⟩
abbrev S8192x2560 : Shape := ⟨2, ![8192, 2560]⟩
abbrev S3x256 : Shape := ⟨2, ![3, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x2560 : S_.BroadcastsInDim S8192x2560 (![] : Fin 0 → Fin S8192x2560.rank)
  reducesTo_S8192x2560_S_d0_1 : S8192x2560.ReducesTo [0, 1] S_
  bcast_S_S3x256 : S_.BroadcastsInDim S3x256 (![] : Fin 0 → Fin S3x256.rank)
  reducesTo_S3x256_S_d0_1 : S3x256.ReducesTo [0, 1] S_

variable [Facts]

def fn {F : FTy → Type} [FloatOps F] (main_arg0 : FVec F S8192x256 .f32) (main_arg1 : FVec F S8192x2560 .f32) (main_arg2 : FVec F S3x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x2560 .f32 := Host.absf main_arg1
  let main_cst_0 : FVec F S_ .f32 := constant S_ .f32 0x7F800000#32
  let main_v5 : FVec F S8192x2560 .f32 := broadcastInDim S8192x2560 ![] bcast_S_S8192x2560 main_cst_0
  let main_v6 : IVec S8192x2560 1 := cmpf .olt main_v4 main_v5
  let main_c_1 : IVec S_ 1 := constantI S_ 1 1#1
  let main_v7 : IVec S_ 1 := (fun x v => Host.reduce IntOp.andi x v reducesTo_S8192x2560_S_d0_1 h_S_) main_v6 main_c_1
  let main_v8 : FVec F S3x256 .f32 := Host.absf main_arg2
  let main_cst_2 : FVec F S_ .f32 := constant S_ .f32 0x7F800000#32
  let main_v9 : FVec F S3x256 .f32 := broadcastInDim S3x256 ![] bcast_S_S3x256 main_cst_2
  let main_v10 : IVec S3x256 1 := cmpf .olt main_v8 main_v9
  let main_c_3 : IVec S_ 1 := constantI S_ 1 1#1
  let main_v11 : IVec S_ 1 := (fun x v => Host.reduce IntOp.andi x v reducesTo_S3x256_S_d0_1 h_S_) main_v10 main_c_3
  let main_v12 : IVec S_ 1 := andi main_v3 main_v7
  let main_v13 : IVec S_ 1 := andi main_v12 main_v11
  main_v13
-- ==== Pre_braf_finite.lean ====
abbrev S8192x2560 : Shape := ⟨2, ![8192, 2560]⟩
abbrev S3x256 : Shape := ⟨2, ![3, 256]⟩
abbrev S_ : Shape := ⟨0, ![]⟩

class Facts : Prop where
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_

variable [Facts]

def fn {F : FTy → Type} [FloatOps F] (main_arg0 : FVec F S8192x2560 .f32) (main_arg1 : FVec F S3x256 .f32) : IVec S_ 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_c : IVec S_ 1 := constantI S_ 1 1#1
  let main_v3 : IVec S_ 1 := (fun x v => Host.reduce IntOp.andi x v reducesTo_S8192x2560_S_d0_1 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  main_v8
-- ==== Pre_ffn_finite.lean ====
abbrev S8192x1024 : Shape := ⟨2, ![8192, 1024]⟩
abbrev S2816x1024 : Shape := ⟨2, ![2816, 1024]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x1024 .f32) (main_arg1 : FVec F S2816x1024 .f32) (main_arg2 : FVec F S8192x5632 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S8192x5632 .f32 := Host.absf main_arg2
  let main_cst_2 : FVec F S_ .f32 := constant S_ .f32 0x7F800000#32
  let main_v9 : FVec F S8192x5632 .f32 := broadcastInDim S8192x5632 ![] bcast_S_S8192x5632 main_cst_2
  let main_v10 : IVec S8192x5632 1 := cmpf .olt main_v8 main_v9
  let main_c_3 : IVec S_ 1 := constantI S_ 1 1#1
  let main_v11 : IVec S_ 1 := (fun x v => Host.reduce IntOp.andi x v reducesTo_S8192x5632_S_d0_1 h_S_) main_v10 main_c_3
  let main_v12 : IVec S_ 1 := andi main_v3 main_v7
  let main_v13 : IVec S_ 1 := andi main_v12 main_v11
  main_v13
-- ==== Pre_ffnf_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S1024 .f32) (main_arg2 : FVec F S1024x5632 .f32) (main_arg3 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_v3 main_v7 main_v11 main_v15
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v3 main_v7
  let main_v13 : IVec S_ 1 := andi main_v12 main_v11
  main_v13
-- ==== Pre_merge_finite.lean ====
abbrev S8192x1024 : Shape := ⟨2, ![8192, 1024]⟩
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S4x256x1024 : S_.BroadcastsInDim S4x256x1024 (![] : Fin 0 → Fin S4x256x1024.rank)
  reducesTo_S4x256x1024_S_d0_1_2 : S4x256x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S8192x256 .f32) (main_arg5 : FVec F S8192x4096 .f32) (main_arg6 : FVec F S4x256x1024 .f32) (main_arg7 : FVec F S1024x1024 .f32) (main_v3 : IVec S_ 1) (main_v7 : IVec S_ 1) (main_v11 : IVec S_ 1) (main_v15 : IVec S_ 1) : IVec S_ 1 :=
  let main_v16 : FVec F S8192x256 .f32 := Host.absf main_arg4
  let main_cst_6 : FVec F S_ .f32 := constant S_ .f32 0x7F800000#32
  let main_v17 : FVec F S8192x256 .f32 := broadcastInDim S8192x256 ![] bcast_S_S8192x256 main_cst_6
  let main_v18 : IVec S8192x256 1 := cmpf .olt main_v16 main_v17
  let main_c_7 : IVec S_ 1 := constantI S_ 1 1#1
  let main_v19 : IVec S_ 1 := (fun x v => Host.reduce IntOp.andi x v reducesTo_S8192x256_S_d0_1 h_S_) main_v18 main_c_7
  let main_v20 : FVec F S8192x4096 .f32 := Host.absf main_arg5
  let main_cst_8 : FVec F S_ .f32 := constant S_ .f32 0x7F800000#32
  let main_v21 : FVec F S8192x4096 .f32 := broadcastInDim S8192x4096 ![] bcast_S_S8192x4096 main_cst_8
  let main_v22 : IVec S8192x4096 1 := cmpf .olt main_v20 main_v21
  let main_c_9 : IVec S_ 1 := constantI S_ 1 1#1
  let main_v23 : IVec S_ 1 := (fun x v => Host.reduce IntOp.andi x v reducesTo_S8192x4096_S_d0_1 h_S_) main_v22 main_c_9
  let main_v24 : FVec F S4x256x1024 .f32 := Host.absf main_arg6
  let main_cst_10 : FVec F S_ .f32 := constant S_ .f32 0x7F800000#32
  let main_v25 : FVec F S4x256x1024 .f32 := broadcastInDim S4x256x1024 ![] bcast_S_S4x256x1024 main_cst_10
  let main_v26 : IVec S4x256x1024 1 := cmpf .olt main_v24 main_v25
  let main_c_11 : IVec S_ 1 := constantI S_ 1 1#1
  let main_v27 : IVec S_ 1 := (fun x v => Host.reduce IntOp.andi x v reducesTo_S4x256x1024_S_d0_1_2 h_S_) main_v26 main_c_11
  let main_v28 : FVec F S1024x1024 .f32 := Host.absf main_arg7
  let main_cst_12 : FVec F S_ .f32 := constant S_ .f32 0x7F800000#32
  let main_v29 : FVec F S1024x1024 .f32 := broadcastInDim S1024x1024 ![] bcast_S_S1024x1024 main_cst_12
  let main_v30 : IVec S1024x1024 1 := cmpf .olt main_v28 main_v29
  let main_c_13 : IVec S_ 1 := constantI S_ 1 1#1
  let main_v31 : IVec S_ 1 := (fun x v => Host.reduce IntOp.andi x v reducesTo_S1024x1024_S_d0_1 h_S_) main_v30 main_c_13
  fn_part2 (F := F) main_v3 main_v7 main_v11 main_v15 main_v19 main_v23 main_v27 main_v31

def fn {F : FTy → Type} [FloatOps F] (main_arg0 : FVec F S8192x1024 .f32) (main_arg1 : FVec F S8192x256 .f32) (main_arg2 : FVec F S8192x256 .f32) (main_arg3 : FVec F S8192x256 .f32) (main_arg4 : FVec F S8192x256 .f32) (main_arg5 : FVec F S8192x4096 .f32) (main_arg6 : FVec F S4x256x1024 .f32) (main_arg7 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S8192x256 .f32 := Host.absf main_arg2
  let main_cst_2 : FVec F S_ .f32 := constant S_ .f32 0x7F800000#32
  let main_v9 : FVec F S8192x256 .f32 := broadcastInDim S8192x256 ![] bcast_S_S8192x256 main_cst_2
  let main_v10 : IVec S8192x256 1 := cmpf .olt main_v8 main_v9
  let main_c_3 : IVec S_ 1 := constantI S_ 1 1#1
  let main_v11 : IVec S_ 1 := (fun x v => Host.reduce IntOp.andi x v reducesTo_S8192x256_S_d0_1 h_S_) main_v10 main_c_3
  let main_v12 : FVec F S8192x256 .f32 := Host.absf main_arg3
  let main_cst_4 : FVec F S_ .f32 := constant S_ .f32 0x7F800000#32
  let main_v13 : FVec F S8192x256 .f32 := broadcastInDim S8192x256 ![] bcast_S_S8192x256 main_cst_4
  let main_v14 : IVec S8192x256 1 := cmpf .olt main_v12 main_v13
  let main_c_5 : IVec S_ 1 := constantI S_ 1 1#1
  let main_v15 : IVec S_ 1 := (fun x v => Host.reduce IntOp.andi x v reducesTo_S8192x256_S_d0_1 h_S_) main_v14 main_c_5
  fn_part1 (F := F) main_arg4 main_arg5 main_arg6 main_arg7 main_v3 main_v7 main_v11 main_v15
-- ==== Pre_mergef_finite.lean ====
abbrev S8192x1024 : Shape := ⟨2, ![8192, 1024]⟩
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S4x256x1024 : S_.BroadcastsInDim S4x256x1024 (![] : Fin 0 → Fin S4x256x1024.rank)
  reducesTo_S4x256x1024_S_d0_1_2 : S4x256x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S8192x256 .f32) (main_arg5 : FVec F S8192x4096 .f32) (main_arg6 : FVec F S4x256x1024 .f32) (main_arg7 : FVec F S1024x1024 .f32) (main_v3 : IVec S_ 1) (main_v7 : IVec S_ 1) (main_v11 : IVec S_ 1) (main_v15 : IVec S_ 1) : IVec S_ 1 :=
  let main_v16 : FVec F S8192x256 .f32 := Host.absf main_arg4
  let main_cst_6 : FVec F S_ .f32 := constant S_ .f32 0x7F800000#32
  let main_v17 : FVec F S8192x256 .f32 := broadcastInDim S8192x256 ![] bcast_S_S8192x256 main_cst_6
  let main_v18 : IVec S8192x256 1 := cmpf .olt main_v16 main_v17
  let main_c_7 : IVec S_ 1 := constantI S_ 1 1#1
  let main_v19 : IVec S_ 1 := (fun x v => Host.reduce IntOp.andi x v reducesTo_S8192x256_S_d0_1 h_S_) main_v18 main_c_7
  let main_v20 : FVec F S8192x4096 .f32 := Host.absf main_arg5
  let main_cst_8 : FVec F S_ .f32 := constant S_ .f32 0x7F800000#32
  let main_v21 : FVec F S8192x4096 .f32 := broadcastInDim S8192x4096 ![] bcast_S_S8192x4096 main_cst_8
  let main_v22 : IVec S8192x4096 1 := cmpf .olt main_v20 main_v21
  let main_c_9 : IVec S_ 1 := constantI S_ 1 1#1
  let main_v23 : IVec S_ 1 := (fun x v => Host.reduce IntOp.andi x v reducesTo_S8192x4096_S_d0_1 h_S_) main_v22 main_c_9
  let main_v24 : FVec F S4x256x1024 .f32 := Host.absf main_arg6
  let main_cst_10 : FVec F S_ .f32 := constant S_ .f32 0x7F800000#32
  let main_v25 : FVec F S4x256x1024 .f32 := broadcastInDim S4x256x1024 ![] bcast_S_S4x256x1024 main_cst_10
  let main_v26 : IVec S4x256x1024 1 := cmpf .olt main_v24 main_v25
  let main_c_11 : IVec S_ 1 := constantI S_ 1 1#1
  let main_v27 : IVec S_ 1 := (fun x v => Host.reduce IntOp.andi x v reducesTo_S4x256x1024_S_d0_1_2 h_S_) main_v26 main_c_11
  let main_v28 : FVec F S1024x1024 .f32 := Host.absf main_arg7
  let main_cst_12 : FVec F S_ .f32 := constant S_ .f32 0x7F800000#32
  let main_v29 : FVec F S1024x1024 .f32 := broadcastInDim S1024x1024 ![] bcast_S_S1024x1024 main_cst_12
  let main_v30 : IVec S1024x1024 1 := cmpf .olt main_v28 main_v29
  let main_c_13 : IVec S_ 1 := constantI S_ 1 1#1
  let main_v31 : IVec S_ 1 := (fun x v => Host.reduce IntOp.andi x v reducesTo_S1024x1024_S_d0_1 h_S_) main_v30 main_c_13
  fn_part2 (F := F) main_v3 main_v7 main_v11 main_v15 main_v19 main_v23 main_v27 main_v31

def fn {F : FTy → Type} [FloatOps F] (main_arg0 : FVec F S8192x1024 .f32) (main_arg1 : FVec F S8192x256 .f32) (main_arg2 : FVec F S8192x256 .f32) (main_arg3 : FVec F S8192x256 .f32) (main_arg4 : FVec F S8192x256 .f32) (main_arg5 : FVec F S8192x4096 .f32) (main_arg6 : FVec F S4x256x1024 .f32) (main_arg7 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S8192x256 .f32 := Host.absf main_arg2
  let main_cst_2 : FVec F S_ .f32 := constant S_ .f32 0x7F800000#32
  let main_v9 : FVec F S8192x256 .f32 := broadcastInDim S8192x256 ![] bcast_S_S8192x256 main_cst_2
  let main_v10 : IVec S8192x256 1 := cmpf .olt main_v8 main_v9
  let main_c_3 : IVec S_ 1 := constantI S_ 1 1#1
  let main_v11 : IVec S_ 1 := (fun x v => Host.reduce IntOp.andi x v reducesTo_S8192x256_S_d0_1 h_S_) main_v10 main_c_3
  let main_v12 : FVec F S8192x256 .f32 := Host.absf main_arg3
  let main_cst_4 : FVec F S_ .f32 := constant S_ .f32 0x7F800000#32
  let main_v13 : FVec F S8192x256 .f32 := broadcastInDim S8192x256 ![] bcast_S_S8192x256 main_cst_4
  let main_v14 : IVec S8192x256 1 := cmpf .olt main_v12 main_v13
  let main_c_5 : IVec S_ 1 := constantI S_ 1 1#1
  let main_v15 : IVec S_ 1 := (fun x v => Host.reduce IntOp.andi x v reducesTo_S8192x256_S_d0_1 h_S_) main_v14 main_c_5
  fn_part1 (F := F) main_arg4 main_arg5 main_arg6 main_arg7 main_v3 main_v7 main_v11 main_v15
-- ==== Pre_mix_finite.lean ====
abbrev S8192x2560 : Shape := ⟨2, ![8192, 2560]⟩
abbrev S8192x4096 : Shape := ⟨2, ![8192, 4096]⟩
abbrev S1024x2560 : Shape := ⟨2, ![1024, 2560]⟩
abbrev S4x1024x1024 : Shape := ⟨3, ![4, 1024, 1024]⟩
abbrev S8192x1024 : Shape := ⟨2, ![8192, 1024]⟩
abbrev S1024 : Shape := ⟨1, ![1024]⟩
abbrev S_ : Shape := ⟨0, ![]⟩

class Facts : Prop where
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S1024x2560 : S_.BroadcastsInDim S1024x2560 (![] : Fin 0 → Fin S1024x2560.rank)
  reducesTo_S1024x2560_S_d0_1 : S1024x2560.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_arg5 : FVec F S1024 .f32) (main_arg6 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x2560 .f32) (main_arg1 : FVec F S8192x4096 .f32) (main_arg2 : FVec F S1024x2560 .f32) (main_arg3 : FVec F S4x1024x1024 .f32) (main_arg4 : FVec F S8192x1024 .f32) (main_arg5 : FVec F S1024 .f32) (main_arg6 : FVec F S8192x1024 .f32) : IVec S_ 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_c : IVec S_ 1 := constantI S_ 1 1#1
  let main_v3 : IVec S_ 1 := (fun x v => Host.reduce IntOp.andi x v reducesTo_S8192x2560_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : FVec F S1024x2560 .f32 := Host.absf main_arg2
  let main_cst_2 : FVec F S_ .f32 := constant S_ .f32 0x7F800000#32
  let main_v9 : FVec F S1024x2560 .f32 := broadcastInDim S1024x2560 ![] bcast_S_S1024x2560 main_cst_2
  let main_v10 : IVec S1024x2560 1 := cmpf .olt main_v8 main_v9
  let main_c_3 : IVec S_ 1 := constantI S_ 1 1#1
  let main_v11 : IVec S_ 1 := (fun x v => Host.reduce IntOp.andi x v reducesTo_S1024x2560_S_d0_1 h_S_) main_v10 main_c_3
  let main_v12 : FVec F S4x1024x1024 .f32 := Host.absf main_arg3
  let main_cst_4 : FVec F S_ .f32 := constant S_ .f32 0x7F800000#32
  let main_v13 : FVec F S4x1024x1024 .f32 := broadcastInDim S4x1024x1024 ![] bcast_S_S4x1024x1024 main_cst_4
  let main_v14 : IVec S4x1024x1024 1 := cmpf .olt main_v12 main_v13
  let main_c_5 : IVec S_ 1 := constantI S_ 1 1#1
  let main_v15 : IVec S_ 1 := (fun x v => Host.reduce IntOp.andi x v reducesTo_S4x1024x1024_S_d0_1_2 h_S_) main_v14 main_c_5
  fn_part1 (F := F) main_arg4 main_arg5 main_arg6 main_v3 main_v7 main_v11 main_v15
-- ==== Pre_norm_finite.lean ====
abbrev S8192x256 : Shape := ⟨2, ![8192, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x256 .f32) (main_arg1 : FVec F S8192x256 .f32) (main_arg2 : FVec F S256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S256 .f32 := Host.absf main_arg2
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : FVec F S256 .f32 := Host.absf main_arg3
  let main_cst_4 : FVec F S_ .f32 := constant S_ .f32 0x7F800000#32
  let main_v13 : FVec F S256 .f32 := broadcastInDim S256 ![] bcast_S_S256 main_cst_4
  let main_v14 : IVec S256 1 := cmpf .olt main_v12 main_v13
  let main_c_5 : IVec S_ 1 := constantI S_ 1 1#1
  let main_v15 : IVec S_ 1 := (fun x v => Host.reduce IntOp.andi x v reducesTo_S256_S_d0 h_S_) main_v14 main_c_5
  fn_part1 (F := F) main_v3 main_v7 main_v11 main_v15
-- ==== Pre_ple_finite.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_arg5 : FVec F S1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x256 .f32) (main_arg2 : FVec F S256x1024 .f32) (main_arg3 : FVec F S1024x1024 .f32) (main_arg4 : FVec F S8192x1024 .f32) (main_arg5 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S256x1024 .f32 := Host.absf main_arg2
  let main_cst_2 : FVec F S_ .f32 := constant S_ .f32 0x7F800000#32
  let main_v9 : FVec F S256x1024 .f32 := broadcastInDim S256x1024 ![] bcast_S_S256x1024 main_cst_2
  let main_v10 : IVec S256x1024 1 := cmpf .olt main_v8 main_v9
  let main_c_3 : IVec S_ 1 := constantI S_ 1 1#1
  let main_v11 : IVec S_ 1 := (fun x v => Host.reduce IntOp.andi x v reducesTo_S256x1024_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_v3 main_v7 main_v11 main_v15
-- ==== Pre_plef_finite.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_v3 : IVec S_ 1) (main_v7 : IVec S_ 1) (main_v11 : IVec S_ 1) (main_v15 : IVec S_ 1) : IVec S_ 1 :=
  let main_v16 : FVec F S256x1024 .f32 := Host.absf main_arg4
  let main_cst_6 : FVec F S_ .f32 := constant S_ .f32 0x7F800000#32
  let main_v17 : FVec F S256x1024 .f32 := broadcastInDim S256x1024 ![] bcast_S_S256x1024 main_cst_6
  let main_v18 : IVec S256x1024 1 := cmpf .olt main_v16 main_v17
  let main_c_7 : IVec S_ 1 := constantI S_ 1 1#1
  let main_v19 : IVec S_ 1 := (fun x v => Host.reduce IntOp.andi x v reducesTo_S256x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S1024 .f32) (main_arg2 : FVec F S1024x1024 .f32) (main_arg3 : FVec F S8192x256 .f32) (main_arg4 : FVec F S256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S8192x256 .f32 := Host.absf main_arg3
  let main_cst_4 : FVec F S_ .f32 := constant S_ .f32 0x7F800000#32
  let main_v13 : FVec F S8192x256 .f32 := broadcastInDim S8192x256 ![] bcast_S_S8192x256 main_cst_4
  let main_v14 : IVec S8192x256 1 := cmpf .olt main_v12 main_v13
  let main_c_5 : IVec S_ 1 := constantI S_ 1 1#1
  let main_v15 : IVec S_ 1 := (fun x v => Host.reduce IntOp.andi x v reducesTo_S8192x256_S_d0_1 h_S_) main_v14 main_c_5
  fn_part1 (F := F) main_arg4 main_v3 main_v7 main_v11 main_v15
-- ==== Pre_rmsb_finite.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x5632 .f32) (main_arg1 : FVec F S1024x5632 .f32) (main_arg2 : FVec F S8192x1024 .f32) (main_arg3 : FVec F S1024 .f32) (main_arg4 : FVec F S8192x1024 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== Pre_sgu_finite.lean ====
abbrev S8192x256 : Shape := ⟨2, ![8192, 256]⟩
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x2560 : S_.BroadcastsInDim S8192x2560 (![] : Fin 0 → Fin S8192x2560.rank)
  reducesTo_S8192x2560_S_d0_1 : S8192x2560.ReducesTo [0, 1] S_
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128x128 .f32) (main_arg5 : FVec F S4x128 .f32) (main_v3 : IVec S_ 1) (main_v7 : IVec S_ 1) (main_v11 : IVec S_ 1) (main_v15 : IVec S_ 1) : IVec S_ 1 :=
  let main_v16 : FVec F S4x128x128 .f32 := Host.absf main_arg4
  let main_cst_6 : FVec F S_ .f32 := constant S_ .f32 0x7F800000#32
  let main_v17 : FVec F S4x128x128 .f32 := broadcastInDim S4x128x128 ![] bcast_S_S4x128x128 main_cst_6
  let main_v18 : IVec S4x128x128 1 := cmpf .olt main_v16 main_v17
  let main_c_7 : IVec S_ 1 := constantI S_ 1 1#1
  let main_v19 : IVec S_ 1 := (fun x v => Host.reduce IntOp.andi x v reducesTo_S4x128x128_S_d0_1_2 h_S_) main_v18 main_c_7
  let main_v20 : FVec F S4x128 .f32 := Host.absf main_arg5
  let main_cst_8 : FVec F S_ .f32 := constant S_ .f32 0x7F800000#32
  let main_v21 : FVec F S4x128 .f32 := broadcastInDim S4x128 ![] bcast_S_S4x128 main_cst_8
  let main_v22 : IVec S4x128 1 := cmpf .olt main_v20 main_v21
  let main_c_9 : IVec S_ 1 := constantI S_ 1 1#1
  let main_v23 : IVec S_ 1 := (fun x v => Host.reduce IntOp.andi x v reducesTo_S4x128_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x256 .f32) (main_arg1 : FVec F S8192x2560 .f32) (main_arg2 : FVec F S256 .f32) (main_arg3 : FVec F S256 .f32) (main_arg4 : FVec F S4x128x128 .f32) (main_arg5 : FVec F S4x128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x2560 .f32 := Host.absf main_arg1
  let main_cst_0 : FVec F S_ .f32 := constant S_ .f32 0x7F800000#32
  let main_v5 : FVec F S8192x2560 .f32 := broadcastInDim S8192x2560 ![] bcast_S_S8192x2560 main_cst_0
  let main_v6 : IVec S8192x2560 1 := cmpf .olt main_v4 main_v5
  let main_c_1 : IVec S_ 1 := constantI S_ 1 1#1
  let main_v7 : IVec S_ 1 := (fun x v => Host.reduce IntOp.andi x v reducesTo_S8192x2560_S_d0_1 h_S_) main_v6 main_c_1
  let main_v8 : FVec F S256 .f32 := Host.absf main_arg2
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : FVec F S256 .f32 := Host.absf main_arg3
  let main_cst_4 : FVec F S_ .f32 := constant S_ .f32 0x7F800000#32
  let main_v13 : FVec F S256 .f32 := broadcastInDim S256 ![] bcast_S_S256 main_cst_4
  let main_v14 : IVec S256 1 := cmpf .olt main_v12 main_v13
  let main_c_5 : IVec S_ 1 := constantI S_ 1 1#1
  let main_v15 : IVec S_ 1 := (fun x v => Host.reduce IntOp.andi x v reducesTo_S256_S_d0 h_S_) main_v14 main_c_5
  fn_part1 (F := F) main_arg4 main_arg5 main_v3 main_v7 main_v11 main_v15
-- ==== Pre_sguf_finite.lean ====
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S_ : Shape := ⟨0, ![]⟩

class Facts : Prop where
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_v3 : IVec S_ 1) (main_v7 : IVec S_ 1) (main_v11 : IVec S_ 1) (main_v15 : IVec S_ 1) : IVec S_ 1 :=
  let main_v16 : FVec F S4x128 .f32 := Host.absf main_arg4
  let main_cst_6 : FVec F S_ .f32 := constant S_ .f32 0x7F800000#32
  let main_v17 : FVec F S4x128 .f32 := broadcastInDim S4x128 ![] bcast_S_S4x128 main_cst_6
  let main_v18 : IVec S4x128 1 := cmpf .olt main_v16 main_v17
  let main_c_7 : IVec S_ 1 := constantI S_ 1 1#1
  let main_v19 : IVec S_ 1 := (fun x v => Host.reduce IntOp.andi x v reducesTo_S4x128_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x2560 .f32) (main_arg1 : FVec F S256 .f32) (main_arg2 : FVec F S256 .f32) (main_arg3 : FVec F S4x128x128 .f32) (main_arg4 : FVec F S4x128 .f32) : IVec S_ 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_c : IVec S_ 1 := constantI S_ 1 1#1
  let main_v3 : IVec S_ 1 := (fun x v => Host.reduce IntOp.andi x v reducesTo_S8192x2560_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : FVec F S256 .f32 := Host.absf main_arg2
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : FVec F S4x128x128 .f32 := Host.absf main_arg3
  let main_cst_4 : FVec F S_ .f32 := constant S_ .f32 0x7F800000#32
  let main_v13 : FVec F S4x128x128 .f32 := broadcastInDim S4x128x128 ![] bcast_S_S4x128x128 main_cst_4
  let main_v14 : IVec S4x128x128 1 := cmpf .olt main_v12 main_v13
  let main_c_5 : IVec S_ 1 := constantI S_ 1 1#1
  let main_v15 : IVec S_ 1 := (fun x v => Host.reduce IntOp.andi x v reducesTo_S4x128x128_S_d0_1_2 h_S_) main_v14 main_c_5
  fn_part1 (F := F) main_arg4 main_v3 main_v7 main_v11 main_v15
-- ==== Norm.lean ====
abbrev S8192x256 : Shape := ⟨2, ![8192, 256]⟩
abbrev S256 : Shape := ⟨1, ![256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256, .f32⟩
  | .hbm, ⟨3, _⟩ => ⟨S256, .f32⟩
  | .hbm, ⟨4, _⟩ => ⟨S1x256, .f32⟩
  | .hbm, ⟨5, _⟩ => ⟨S1x256, .f32⟩
  | .hbm, ⟨6, _⟩ => ⟨S8192x256, .f32⟩
  | .hbm, ⟨7, _⟩ => ⟨S1x256, .f32⟩
  | .hbm, ⟨8, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S8192x256 : Shape := ⟨2, ![8192, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 103
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x256, .f32⟩
  | .hbm, ⟨33, _⟩ => ⟨S8192x256, .f32⟩
  | .hbm, ⟨34, _⟩ => ⟨S1x256, .f32⟩
  | .hbm, ⟨35, _⟩ => ⟨S8192x256, .f32⟩
  | .hbm, ⟨36, _⟩ => ⟨S8192x256, .f32⟩
  | .hbm, ⟨37, _⟩ => ⟨S1x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S8192x256, .f32⟩
  | .hbm, ⟨57, _⟩ => ⟨S_, .f32⟩
  | .hbm, ⟨58, _⟩ => ⟨S256, .f32⟩
  | .hbm, ⟨59, _⟩ => ⟨S1x256, .f32⟩
  | .hbm, ⟨60, _⟩ => ⟨S_, .f32⟩
  | .hbm, ⟨61, _⟩ => ⟨S256, .f32⟩
  | .hbm, ⟨62, _⟩ => ⟨S8192x256, .f32⟩
  | .hbm, ⟨63, _⟩ => ⟨S_, .f32⟩
  | .hbm, ⟨64, _⟩ => ⟨S256, .f32⟩
  | .hbm, ⟨65, _⟩ => ⟨S1x256, .f32⟩
  | .hbm, ⟨66, _⟩ => ⟨S8192x256, .f32⟩
  | .hbm, ⟨67, _⟩ => ⟨S8192x256, .f32⟩
  | .hbm, ⟨68, _⟩ => ⟨S_, .f32⟩
  | .hbm, ⟨69, _⟩ => ⟨S256, .f32⟩
  | .hbm, ⟨70, _⟩ => ⟨S8192x256, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x256, .f32⟩
  | .hbm, ⟨75, _⟩ => ⟨S8192x256, .f32⟩
  | .hbm, ⟨76, _⟩ => ⟨S8192x1, .f32⟩
  | .hbm, ⟨77, _⟩ => ⟨S8192x256, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x256, .f32⟩
  | .hbm, ⟨87, _⟩ => ⟨S8192x256, .f32⟩
  | .hbm, ⟨88, _⟩ => ⟨S8192x256, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x256, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x256, .f32⟩
  | .hbm, ⟨100, _⟩ => ⟨S8192x256, .f32⟩
  | .hbm, ⟨101, _⟩ => ⟨S1x256, .f32⟩
  | .hbm, ⟨102, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v29_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v29_1 : Ref sig .tc := ⟨.hbm, 51, rfl⟩
abbrev main_v29_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_15 : Ref sig .tc := ⟨.hbm, 94, rfl⟩
abbrev main_v59 : Ref sig .tc := ⟨.hbm, 95, rfl⟩
abbrev main_v60 : Ref sig .tc := ⟨.hbm, 96, rfl⟩
abbrev main_cst_16 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_13 : BitVec 32 := 0#32
  let v33 : BitVec 1 := Scalar.cmpi .ne v32 c0_i32_13
  v33

def k0_cond2 (i : grid0.Coords) : BitVec 1 :=
  let arg0 : BitVec 32 := BitVec.ofNat 32 (i 0).val
  let c0_i32_14 : BitVec 32 := 0#32
  let v34 : BitVec 1 := Scalar.cmpi .sgt arg0 c0_i32_14
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 39
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .f32⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S256x1024, .bf16⟩
  | .hbm, ⟨33, _⟩ => ⟨S1024x1024, .bf16⟩
  | .hbm, ⟨34, _⟩ => ⟨S1x1024, .f32⟩
  | .hbm, ⟨35, _⟩ => ⟨S8192x1024, .f32⟩
  | .hbm, ⟨36, _⟩ => ⟨S1x1024, .f32⟩
  | .hbm, ⟨37, _⟩ => ⟨S256x1024, .f32⟩
  | .hbm, ⟨38, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x1024, .bf16⟩
  | .local _ .vmem, ⟨7, _⟩ => ⟨S512x1024, .bf16⟩
  | .local _ .vmem, ⟨8, _⟩ => ⟨S256x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S256x1024, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_27 : BitVec 32 := 0#32
  let v55 : BitVec 1 := Scalar.cmpi .ne v54 c0_i32_27
  v55

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v56 : BitVec 1 := Scalar.xori v0 v_true
  let v57 : BitVec 32 := Scalar.extui v56
  let c0_i32_28 : BitVec 32 := 0#32
  let v58 : BitVec 1 := Scalar.cmpi .ne v57 c0_i32_28
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PleRefIdeal.lean ====
abbrev S8192x1024 : Shape := ⟨2, ![8192, 1024]⟩
abbrev S8192x256 : Shape := ⟨2, ![8192, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .f32⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x256, .f32⟩
  | .hbm, ⟨46, _⟩ => ⟨S256x1024, .f32⟩
  | .hbm, ⟨47, _⟩ => ⟨S8192x1024, .f32⟩
  | .hbm, ⟨48, _⟩ => ⟨S1024x1024, .f32⟩
  | .hbm, ⟨49, _⟩ => ⟨S1024x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Rmsb.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S8192x2816 : Shape := ⟨2, ![8192, 2816]⟩
abbrev S8192x1408 : Shape := ⟨2, ![8192, 1408]⟩
abbrev S1024x2816 : Shape := ⟨2, ![1024, 2816]⟩
abbrev S1024x1408 : Shape := ⟨2, ![1024, 1408]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 11
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S8192x5632, .f32⟩
  | .hbm, ⟨12, _⟩ => ⟨S8192x5632, .bf16⟩
  | .hbm, ⟨13, _⟩ => ⟨S1024x2816, .f32⟩
  | .hbm, ⟨14, _⟩ => ⟨S1024x2816, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S1024x5632, .f32⟩
  | .hbm, ⟨20, _⟩ => ⟨S1024x5632, .bf16⟩
  | .hbm, ⟨21, _⟩ => ⟨S1x1024, .f32⟩
  | .hbm, ⟨22, _⟩ => ⟨S8192x1024, .f32⟩
  | .hbm, ⟨23, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_9 : BitVec 32 := 0#32
  let v21 : BitVec 1 := Scalar.cmpi .ne v20 c0_i32_9
  v21

def k0_cond2 (i : grid0.Coords) : BitVec 1 :=
  let arg0 : BitVec 32 := BitVec.ofNat 32 (i 0).val
  let c0_i32_10 : BitVec 32 := 0#32
  let v22 : BitVec 1 := Scalar.cmpi .sgt arg0 c0_i32_10
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsbRefIdeal.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Merge.lean ====
abbrev S8192x1024 : Shape := ⟨2, ![8192, 1024]⟩
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S_ : Shape := ⟨0, ![]⟩
abbrev S1x256x1024 : Shape := ⟨3, ![1, 256, 1024]⟩
abbrev S256x1024 : Shape := ⟨2, ![256, 1024]⟩
abbrev S512x1024 : Shape := ⟨2, ![512, 1024]⟩
abbrev S512x256 : Shape := ⟨2, ![512, 256]⟩
abbrev S512x4096 : Shape := ⟨2, ![512, 4096]⟩

abbrev nBuf : Space → Nat
  | .hbm => 65
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x4096, .f32⟩
  | .hbm, ⟨6, _⟩ => ⟨S4x256x1024, .f32⟩
  | .hbm, ⟨7, _⟩ => ⟨S1024x1024, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S1x256x1024, .f32⟩
  | .hbm, ⟨18, _⟩ => ⟨S256x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x256x1024, .f32⟩
  | .hbm, ⟨26, _⟩ => ⟨S256x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x256x1024, .f32⟩
  | .hbm, ⟨32, _⟩ => ⟨S256x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x256x1024, .f32⟩
  | .hbm, ⟨38, _⟩ => ⟨S256x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x256, .bf16⟩
  | .hbm, ⟨44, _⟩ => ⟨S8192x256, .bf16⟩
  | .hbm, ⟨45, _⟩ => ⟨S8192x256, .bf16⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S8192x4096, .bf16⟩
  | .hbm, ⟨55, _⟩ => ⟨S8192x1024, .bf16⟩
  | .hbm, ⟨56, _⟩ => ⟨S4x256x1024, .bf16⟩
  | .hbm, ⟨57, _⟩ => ⟨S1024x1024, .bf16⟩
  | .hbm, ⟨58, _⟩ => ⟨S8192x4096, .bf16⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x256, .f32⟩
  | .hbm, ⟨63, _⟩ => ⟨S4x256x1024, .f32⟩
  | .hbm, ⟨64, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .f32⟩
  | .local _ .vmem, ⟨5, _⟩ => ⟨S512x256, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .bf16⟩
  | .local _ .vmem, ⟨13, _⟩ => ⟨S512x1024, .bf16⟩
  | .local _ .vmem, ⟨14, _⟩ => ⟨S4x256x1024, .bf16⟩
  | .local _ .vmem, ⟨15, _⟩ => ⟨S1024x1024, .bf16⟩
  | .local _ .vmem, ⟨16, _⟩ => ⟨S512x4096, .bf16⟩
  | .local _ .vmem, ⟨17, _⟩ => ⟨S512x4096, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S4x256x1024, .f32⟩
  | .local _ .vmem, ⟨27, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev main_v45_2 : Ref sig .tc := ⟨.hbm, 60, rfl⟩
abbrev main_v45_3 : Ref sig .tc := ⟨.hbm, 61, rfl⟩
abbrev main_v45_4 : Ref sig .tc := ⟨.hbm, 62, rfl⟩
abbrev main_v45_5 : Ref sig .tc := ⟨.hbm, 63, rfl⟩
abbrev main_v45_6 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_26 : BitVec 32 := 0#32
  let v37 : BitVec 1 := Scalar.cmpi .ne v36 c0_i32_26
  v37

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_27 : BitVec 1 := 1#1
  let v38 : BitVec 1 := Scalar.xori v0 true_27
  let v39 : BitVec 32 := Scalar.extui v38
  let c0_i32_28 : BitVec 32 := 0#32
  let v40 : BitVec 1 := Scalar.cmpi .ne v39 c0_i32_28
  v40

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v63 : BitVec 32 := Scalar.extui v0
  let c0_i32_45 : BitVec 32 := 0#32
  let v64 : BitVec 1 := Scalar.cmpi .ne v63 c0_i32_45
  v64

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_46 : BitVec 1 := 1#1
  let v65 : BitVec 1 := Scalar.xori v0 true_46
  let v66 : BitVec 32 := Scalar.extui v65
  let c0_i32_47 : BitVec 32 := 0#32
  let v67 : BitVec 1 := Scalar.cmpi .ne v66 c0_i32_47
  v67

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v90 : BitVec 32 := Scalar.extui v0
  let c0_i32_64 : BitVec 32 := 0#32
  let v91 : BitVec 1 := Scalar.cmpi .ne v90 c0_i32_64
  v91

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_65 : BitVec 1 := 1#1
  let v92 : BitVec 1 := Scalar.xori v0 true_65
  let v93 : BitVec 32 := Scalar.extui v92
  let c0_i32_66 : BitVec 32 := 0#32
  let v94 : BitVec 1 := Scalar.cmpi .ne v93 c0_i32_66
  v94

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v117 : BitVec 32 := Scalar.extui v0
  let c0_i32_83 : BitVec 32 := 0#32
  let v118 : BitVec 1 := Scalar.cmpi .ne v117 c0_i32_83
  v118

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_84 : BitVec 1 := 1#1
  let v119 : BitVec 1 := Scalar.xori v0 true_84
  let v120 : BitVec 32 := Scalar.extui v119
  let c0_i32_85 : BitVec 32 := 0#32
  let v121 : BitVec 1 := Scalar.cmpi .ne v120 c0_i32_85
  v121

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v9 : BitVec 32 := Scalar.extui v0
  let c0_i32_6 : BitVec 32 := 0#32
  let v10 : BitVec 1 := Scalar.cmpi .ne v9 c0_i32_6
  v10

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v11 : BitVec 1 := Scalar.xori v0 v_true
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MergeRefIdeal.lean ====
abbrev S8192x1024 : Shape := ⟨2, ![8192, 1024]⟩
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S_ : Shape := ⟨0, ![]⟩
abbrev S1x256x1024 : Shape := ⟨3, ![1, 256, 1024]⟩
abbrev S256x1024 : Shape := ⟨2, ![256, 1024]⟩
abbrev S1024x256 : Shape := ⟨2, ![1024, 256]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x4096, .f32⟩
  | .hbm, ⟨6, _⟩ => ⟨S4x256x1024, .f32⟩
  | .hbm, ⟨7, _⟩ => ⟨S1024x1024, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x1024, .f32⟩
  | .hbm, ⟨21, _⟩ => ⟨S1x256x1024, .f32⟩
  | .hbm, ⟨22, _⟩ => ⟨S256x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x256x1024, .f32⟩
  | .hbm, ⟨30, _⟩ => ⟨S256x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x256x1024, .f32⟩
  | .hbm, ⟨36, _⟩ => ⟨S256x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1x256x1024, .f32⟩
  | .hbm, ⟨42, _⟩ => ⟨S256x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1024x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1024x256, .f32⟩
  | .hbm, ⟨53, _⟩ => ⟨S256x1024, .f32⟩
  | .hbm, ⟨54, _⟩ => ⟨S8192x256, .f32⟩
  | .hbm, ⟨55, _⟩ => ⟨S1x256x1024, .f32⟩
  | .hbm, ⟨56, _⟩ => ⟨S_, .f32⟩
  | .hbm, ⟨57, _⟩ => ⟨S4x256x1024, .f32⟩
  | .hbm, ⟨58, _⟩ => ⟨S_, .f32⟩
  | .hbm, ⟨59, _⟩ => ⟨S8192x4096, .f32⟩
  | .hbm, ⟨60, _⟩ => ⟨S8192x1024, .f32⟩
  | .hbm, ⟨61, _⟩ => ⟨S8192x1024, .f32⟩
  | .hbm, ⟨62, _⟩ => ⟨S1024x256, .f32⟩
  | .hbm, ⟨63, _⟩ => ⟨S256x1024, .f32⟩
  | .hbm, ⟨64, _⟩ => ⟨S8192x256, .f32⟩
  | .hbm, ⟨65, _⟩ => ⟨S1x256x1024, .f32⟩
  | .hbm, ⟨66, _⟩ => ⟨S_, .f32⟩
  | .hbm, ⟨67, _⟩ => ⟨S4x256x1024, .f32⟩
  | .hbm, ⟨68, _⟩ => ⟨S4x256x1024, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S8192x1024, .f32⟩
  | .hbm, ⟨73, _⟩ => ⟨S8192x1024, .f32⟩
  | .hbm, ⟨74, _⟩ => ⟨S1024x256, .f32⟩
  | .hbm, ⟨75, _⟩ => ⟨S256x1024, .f32⟩
  | .hbm, ⟨76, _⟩ => ⟨S8192x256, .f32⟩
  | .hbm, ⟨77, _⟩ => ⟨S1x256x1024, .f32⟩
  | .hbm, ⟨78, _⟩ => ⟨S_, .f32⟩
  | .hbm, ⟨79, _⟩ => ⟨S4x256x1024, .f32⟩
  | .hbm, ⟨80, _⟩ => ⟨S4x256x1024, .f32⟩
  | .hbm, ⟨81, _⟩ => ⟨S_, .f32⟩
  | .hbm, ⟨82, _⟩ => ⟨S8192x4096, .f32⟩
  | .hbm, ⟨83, _⟩ => ⟨S8192x4096, .f32⟩
  | .hbm, ⟨84, _⟩ => ⟨S8192x1024, .f32⟩
  | .hbm, ⟨85, _⟩ => ⟨S8192x1024, .f32⟩
  | .hbm, ⟨86, _⟩ => ⟨S1024x256, .f32⟩
  | .hbm, ⟨87, _⟩ => ⟨S256x1024, .f32⟩
  | .hbm, ⟨88, _⟩ => ⟨S8192x256, .f32⟩
  | .hbm, ⟨89, _⟩ => ⟨S1x256x1024, .f32⟩
  | .hbm, ⟨90, _⟩ => ⟨S_, .f32⟩
  | .hbm, ⟨91, _⟩ => ⟨S4x256x1024, .f32⟩
  | .hbm, ⟨92, _⟩ => ⟨S4x256x1024, .f32⟩
  | .hbm, ⟨93, _⟩ => ⟨S_, .f32⟩
  | .hbm, ⟨94, _⟩ => ⟨S8192x4096, .f32⟩
  | .hbm, ⟨95, _⟩ => ⟨S8192x4096, .f32⟩
  | .hbm, ⟨96, _⟩ => ⟨S8192x4096, .f32⟩
  | .hbm, ⟨97, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Ffn.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S8192x1408 : Shape := ⟨2, ![8192, 1408]⟩
abbrev S512x1024 : Shape := ⟨2, ![512, 1024]⟩
abbrev S512x5632 : Shape := ⟨2, ![512, 5632]⟩
abbrev S_ : Shape := ⟨0, ![]⟩
abbrev S1408x1024 : Shape := ⟨2, ![1408, 1024]⟩
abbrev S512x1408 : Shape := ⟨2, ![512, 1408]⟩

abbrev nBuf : Space → Nat
  | .hbm => 14
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x5632, .f32⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x1408, .f32⟩
  | .hbm, ⟨10, _⟩ => ⟨S8192x5632, .f32⟩
  | .hbm, ⟨11, _⟩ => ⟨S8192x5632, .bf16⟩
  | .hbm, ⟨12, _⟩ => ⟨S8192x5632, .bf16⟩
  | .hbm, ⟨13, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | .local _ .vmem, ⟨7, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩
abbrev S1024x2816 : Shape := ⟨2, ![1024, 2816]⟩
abbrev S8192x1408 : Shape := ⟨2, ![8192, 1408]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S1024x2816, .f32⟩
  | .hbm, ⟨21, _⟩ => ⟨S2816x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x1408, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S8192x5632, .f32⟩
  | .hbm, ⟨35, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Sgu.lean ====
abbrev S8192x256 : Shape := ⟨2, ![8192, 256]⟩
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S8192x1792 : Shape := ⟨2, ![8192, 1792]⟩
abbrev S128x4 : Shape := ⟨2, ![128, 4]⟩
abbrev S1x256 : Shape := ⟨2, ![1, 256]⟩
abbrev S8192x512 : Shape := ⟨2, ![8192, 512]⟩
abbrev S512x256 : Shape := ⟨2, ![512, 256]⟩
abbrev S512x512 : Shape := ⟨2, ![512, 512]⟩
abbrev S128x256 : Shape := ⟨2, ![128, 256]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 22
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S8192x2560, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x1792, .f32⟩
  | .hbm, ⟨14, _⟩ => ⟨S128x4, .f32⟩
  | .hbm, ⟨15, _⟩ => ⟨S1x256, .f32⟩
  | .hbm, ⟨16, _⟩ => ⟨S1x256, .f32⟩
  | .hbm, ⟨17, _⟩ => ⟨S8192x512, .bf16⟩
  | .hbm, ⟨18, _⟩ => ⟨S4x128x128, .f32⟩
  | .hbm, ⟨19, _⟩ => ⟨S128x4, .f32⟩
  | .hbm, ⟨20, _⟩ => ⟨S1x256, .f32⟩
  | .hbm, ⟨21, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S4x128x128, .f32⟩
  | .local _ .vmem, ⟨9, _⟩ => ⟨S128x4, .f32⟩
  | .local _ .vmem, ⟨10, _⟩ => ⟨S512x512, .bf16⟩
  | .local _ .vmem, ⟨11, _⟩ => ⟨S512x512, .bf16⟩
  | .local _ .vmem, ⟨12, _⟩ => ⟨S4x128x128, .f32⟩
  | .local _ .vmem, ⟨13, _⟩ => ⟨S128x4, .f32⟩
  | .local _ .vmem, ⟨14, _⟩ => ⟨S1x256, .f32⟩
  | .local _ .vmem, ⟨15, _⟩ => ⟨S1x256, .f32⟩
  | .local _ .vmem, ⟨16, _⟩ => ⟨S128x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v688 : BitVec 1 := Scalar.cmpi .eq arg0 c15_i32
  let v689 : BitVec 32 := Scalar.extui v688
  let c0_i32_342 : BitVec 32 := 0#32
  let v690 : BitVec 1 := Scalar.cmpi .ne v689 c0_i32_342
  v690

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SguRefIdeal.lean ====
abbrev S8192x256 : Shape := ⟨2, ![8192, 256]⟩
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩
abbrev S8192x512 : Shape := ⟨2, ![8192, 512]⟩

abbrev nBuf : Space → Nat
  | .hbm => 145
  | .vmem => 0
  | .smem => 0
  | _ => 0

abbrev hbmTy0_0 (i : Nat) : BufTy := match i % 128 with
  | 0 => ⟨S8192x256, .f32⟩
  | 1 => ⟨S8192x2560, .f32⟩
  | 2 => ⟨S256, .f32⟩
  | 3 => ⟨S256, .f32⟩
  | 4 => ⟨S4x128x128, .f32⟩
  | 5 => ⟨S4x128, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S8192x256, .f32⟩
  | 14 => ⟨S8192x256, .f32⟩
  | 15 => ⟨S8192x256, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x256, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S8192x256, .f32⟩
  | 35 => ⟨S8192x256, .f32⟩
  | 36 => ⟨S_, .f32⟩
  | 37 => ⟨S8192x1, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x256, .f32⟩
  | 45 => ⟨S8192x256, .f32⟩
  | 46 => ⟨S1x256, .f32⟩
  | 47 => ⟨S8192x256, .f32⟩
  | 48 => ⟨S8192x256, .f32⟩
  | 49 => ⟨S1x256, .f32⟩
  | 50 => ⟨S8192x256, .f32⟩
  | 51 => ⟨S8192x256, .f32⟩
  | 52 => ⟨S64x128x4x64, .f32⟩
  | 53 => ⟨S_, .i1⟩
  | 54 => ⟨S128x128, .i1⟩
  | 55 => ⟨S128x128, .i32⟩
  | 56 => ⟨S_, .i32⟩
  | 57 => ⟨S128x128, .i32⟩
  | 58 => ⟨S128x128, .i32⟩
  | 59 => ⟨S128x128, .i32⟩
  | 60 => ⟨S128x128, .i1⟩
  | 61 => ⟨S_, .i1⟩
  | 62 => ⟨S128x128, .i1⟩
  | 63 => ⟨S128x128, .i1⟩
  | 64 => ⟨S1x128x128, .i1⟩
  | 65 => ⟨S_, .f32⟩
  | 66 => ⟨S4x128x128, .f32⟩
  | 67 => ⟨S4x128x128, .i1⟩
  | 68 => ⟨S4x128x128, .f32⟩
  | 69 => ⟨S_, .f32⟩
  | 70 => ⟨S4x128x128, .f32⟩
  | 71 => ⟨S4x64x64x128, .f32⟩
  | 72 => ⟨S64x128x4x64, .f32⟩
  | 73 => ⟨S128x4, .f32⟩
  | 74 => ⟨S1x128x4x1, .f32⟩
  | 75 => ⟨S64x128x4x64, .f32⟩
  | 76 => ⟨S64x128x4x64, .f32⟩
  | 77 => ⟨S8192x256, .f32⟩
  | 78 => ⟨S8192x256, .f32⟩
  | 79 => ⟨S8192x256, .f32⟩
  | 80 => ⟨S8192x256, .f32⟩
  | 81 => ⟨S64x128x4x64, .f32⟩
  | 82 => ⟨S_, .f32⟩
  | 83 => ⟨S128x4, .f32⟩
  | 84 => ⟨S1x128x4x1, .f32⟩
  | 85 => ⟨S_, .f32⟩
  | 86 => ⟨S128x4, .f32⟩
  | 87 => ⟨S4x128, .f32⟩
  | 88 => ⟨S4x64x64x128, .f32⟩
  | 89 => ⟨S4x128x128, .f32⟩
  | 90 => ⟨S4x64x64x128, .f32⟩
  | 91 => ⟨S64x128x4x64, .f32⟩
  | 92 => ⟨S_, .f32⟩
  | 93 => ⟨S4x128x128, .f32⟩
  | 94 => ⟨S4x128x128, .f32⟩
  | 95 => ⟨S8192x256, .f32⟩
  | 96 => ⟨S_, .f32⟩
  | 97 => ⟨S256, .f32⟩
  | 98 => ⟨S1x256, .f32⟩
  | 99 => ⟨S_, .f32⟩
  | 100 => ⟨S256, .f32⟩
  | 101 => ⟨S8192x256, .f32⟩
  | 102 => ⟨S_, .f32⟩
  | 103 => ⟨S256, .f32⟩
  | 104 => ⟨S1x256, .f32⟩
  | 105 => ⟨S8192x256, .f32⟩
  | 106 => ⟨S8192x256, .f32⟩
  | 107 => ⟨S_, .f32⟩
  | 108 => ⟨S256, .f32⟩
  | 109 => ⟨S8192x256, .f32⟩
  | 110 => ⟨S_, .f32⟩
  | 111 => ⟨S8192, .f32⟩
  | 112 => ⟨S8192x1, .f32⟩
  | 113 => ⟨S8192x256, .f32⟩
  | 114 => ⟨S8192x256, .f32⟩
  | 115 => ⟨S8192x1, .f32⟩
  | 116 => ⟨S8192x256, .f32⟩
  | 117 => ⟨S_, .f32⟩
  | 118 => ⟨S8192, .f32⟩
  | 119 => ⟨S8192x1, .f32⟩
  | 120 => ⟨S_, .f32⟩
  | 121 => ⟨S8192x1, .f32⟩
  | 122 => ⟨S8192x1, .f32⟩
  | 123 => ⟨S_, .f32⟩
  | 124 => ⟨S8192, .f32⟩
  | 125 => ⟨S8192x256, .f32⟩
  | 126 => ⟨S8192x256, .f32⟩
  | 127 => ⟨S8192x256, .f32⟩
  | _ => ⟨S8192x256, .f32⟩

abbrev hbmTy0_1 (i : Nat) : BufTy := match i % 128 with
  | 0 => ⟨S_, .f32⟩
  | 1 => ⟨S8192, .f32⟩
  | 2 => ⟨S8192x1, .f32⟩
  | 3 => ⟨S8192x256, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x256, .f32⟩
  | 11 => ⟨S8192x256, .f32⟩
  | 12 => ⟨S8192x512, .f32⟩
  | 13 => ⟨S8192x512, .bf16⟩
  | 14 => ⟨S128x4, .f32⟩
  | 15 => ⟨S1x256, .f32⟩
  | 16 => ⟨S1x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_v40 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44_1 : Ref sig .tc := ⟨.hbm, 67, rfl⟩
abbrev main_v44_0 : Ref sig .tc := ⟨.hbm, 68, rfl⟩
abbrev main_call1_cst : Ref sig .tc := ⟨.hbm, 69, rfl⟩
abbrev main_v44_2 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_cst_9 : Ref sig .tc := ⟨.hbm, 96, rfl⟩
abbrev main_v66 : Ref sig .tc := ⟨.hbm, 97, rfl⟩
abbrev main_v67 : Ref sig .tc := ⟨.hbm, 98, rfl⟩
abbrev main_cst_10 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_12 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_17 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_18 : Ref sig .tc := ⟨.hbm, 133, rfl⟩
abbrev main_v94 : Ref sig .tc := ⟨.hbm, 134, rfl⟩
abbrev main_v95 : Ref sig .tc := ⟨.hbm, 135, rfl⟩
abbrev main_cst_19 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]
-- ==== Att.lean ====
abbrev S8192x256 : Shape := ⟨2, ![8192, 256]⟩
abbrev S128 : Shape := ⟨1, ![128]⟩
abbrev S128x1 : Shape := ⟨2, ![128, 1]⟩
abbrev S_ : Shape := ⟨0, ![]⟩
abbrev S2176 : Shape := ⟨1, ![2176]⟩
abbrev S1x2176 : Shape := ⟨2, ![1, 2176]⟩
abbrev S128x2176 : Shape := ⟨2, ![128, 2176]⟩
abbrev S2048x256 : Shape := ⟨2, ![2048, 256]⟩
abbrev S10240x256 : Shape := ⟨2, ![10240, 256]⟩
abbrev S8192x4 : Shape := ⟨2, ![8192, 4]⟩
abbrev S128x256 : Shape := ⟨2, ![128, 256]⟩
abbrev S128x4 : Shape := ⟨2, ![128, 4]⟩
abbrev S128x64 : Shape := ⟨2, ![128, 64]⟩
abbrev S2176x64 : Shape := ⟨2, ![2176, 64]⟩

abbrev nBuf : Space → Nat
  | .hbm => 142
  | .vmem => 9
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S128, .i32⟩
  | 4 => ⟨S128x1, .i32⟩
  | 5 => ⟨S_, .i32⟩
  | 6 => ⟨S128x1, .i32⟩
  | 7 => ⟨S128x1, .i32⟩
  | 8 => ⟨S2176, .i32⟩
  | 9 => ⟨S1x2176, .i32⟩
  | 10 => ⟨S128x2176, .i32⟩
  | 11 => ⟨S128x2176, .i32⟩
  | 12 => ⟨S128x2176, .i32⟩
  | 13 => ⟨S_, .i32⟩
  | 14 => ⟨S128x2176, .i32⟩
  | 15 => ⟨S128x2176, .i1⟩
  | 16 => ⟨S_, .i32⟩
  | 17 => ⟨S128x2176, .i32⟩
  | 18 => ⟨S128x2176, .i1⟩
  | 19 => ⟨S128x2176, .i1⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S128x2176, .i32⟩
  | 27 => ⟨S128x2176, .i32⟩
  | 28 => ⟨S_, .i32⟩
  | 29 => ⟨S128x2176, .i32⟩
  | 30 => ⟨S128x2176, .i1⟩
  | 31 => ⟨S_, .i32⟩
  | 32 => ⟨S128x2176, .i32⟩
  | 33 => ⟨S128x2176, .i1⟩
  | 34 => ⟨S_, .i32⟩
  | 35 => ⟨S_, .i1⟩
  | 36 => ⟨S128x2176, .i1⟩
  | 37 => ⟨S128x2176, .i1⟩
  | 38 => ⟨S128x2176, .i1⟩
  | 39 => ⟨S128x2176, .i32⟩
  | 40 => ⟨S128x2176, .i32⟩
  | 41 => ⟨S128x2176, .i32⟩
  | 42 => ⟨S_, .i32⟩
  | 43 => ⟨S128x2176, .i32⟩
  | 44 => ⟨S128x2176, .i1⟩
  | 45 => ⟨S128x2176, .i1⟩
  | 46 => ⟨S128x2176, .f32⟩
  | 47 => ⟨S_, .f32⟩
  | 48 => ⟨S128x2176, .f32⟩
  | 49 => ⟨S128x2176, .f32⟩
  | 50 => ⟨S_, .i32⟩
  | 51 => ⟨S128x2176, .i32⟩
  | 52 => ⟨S128x2176, .i1⟩
  | 53 => ⟨S_, .i32⟩
  | 54 => ⟨S128x2176, .i32⟩
  | 55 => ⟨S128x2176, .i1⟩
  | 56 => ⟨S128x2176, .i1⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S128x2176, .i32⟩
  | 64 => ⟨S128x2176, .i32⟩
  | 65 => ⟨S_, .i32⟩
  | 66 => ⟨S128x2176, .i32⟩
  | 67 => ⟨S128x2176, .i1⟩
  | 68 => ⟨S_, .i32⟩
  | 69 => ⟨S128x2176, .i32⟩
  | 70 => ⟨S128x2176, .i1⟩
  | 71 => ⟨S_, .i32⟩
  | 72 => ⟨S_, .i1⟩
  | 73 => ⟨S128x2176, .i1⟩
  | 74 => ⟨S128x2176, .i1⟩
  | 75 => ⟨S128x2176, .i1⟩
  | 76 => ⟨S128x2176, .i32⟩
  | 77 => ⟨S128x2176, .i32⟩
  | 78 => ⟨S128x2176, .i32⟩
  | 79 => ⟨S_, .i32⟩
  | 80 => ⟨S128x2176, .i32⟩
  | 81 => ⟨S128x2176, .i1⟩
  | 82 => ⟨S128x2176, .i1⟩
  | 83 => ⟨S128x2176, .f32⟩
  | 84 => ⟨S128x2176, .f32⟩
  | 85 => ⟨S_, .i32⟩
  | 86 => ⟨S128x2176, .i32⟩
  | 87 => ⟨S128x2176, .i1⟩
  | 88 => ⟨S_, .i32⟩
  | 89 => ⟨S128x2176, .i32⟩
  | 90 => ⟨S128x2176, .i1⟩
  | 91 => ⟨S128x2176, .i1⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S128x2176, .i32⟩
  | 99 => ⟨S128x2176, .i32⟩
  | 100 => ⟨S_, .i32⟩
  | 101 => ⟨S128x2176, .i32⟩
  | 102 => ⟨S128x2176, .i1⟩
  | 103 => ⟨S_, .i32⟩
  | 104 => ⟨S128x2176, .i32⟩
  | 105 => ⟨S128x2176, .i1⟩
  | 106 => ⟨S_, .i32⟩
  | 107 => ⟨S_, .i1⟩
  | 108 => ⟨S128x2176, .i1⟩
  | 109 => ⟨S128x2176, .i1⟩
  | 110 => ⟨S128x2176, .i1⟩
  | 111 => ⟨S128x2176, .i32⟩
  | 112 => ⟨S128x2176, .i32⟩
  | 113 => ⟨S128x2176, .i32⟩
  | 114 => ⟨S_, .i32⟩
  | 115 => ⟨S128x2176, .i32⟩
  | 116 => ⟨S128x2176, .i1⟩
  | 117 => ⟨S128x2176, .i1⟩
  | 118 => ⟨S128x2176, .f32⟩
  | 119 => ⟨S128x2176, .f32⟩
  | 120 => ⟨S_, .f32⟩
  | 121 => ⟨S128x2176, .f32⟩
  | 122 => ⟨S128x2176, .i1⟩
  | 123 => ⟨S_, .f32⟩
  | 124 => ⟨S128x2176, .f32⟩
  | 125 => ⟨S128x2176, .f32⟩
  | 126 => ⟨S128x2176, .f32⟩
  | 127 => ⟨S_, .f32⟩
  | _ => ⟨S8192x256, .f32⟩

abbrev hbmTy0_1 (i : Nat) : BufTy := match i % 128 with
  | 0 => ⟨S_, .f32⟩
  | 1 => ⟨S128x2176, .f32⟩
  | 2 => ⟨S128x2176, .f32⟩
  | 3 => ⟨S8192x256, .bf16⟩
  | 4 => ⟨S_, .bf16⟩
  | 5 => ⟨S2048x256, .bf16⟩
  | 6 => ⟨S8192x256, .bf16⟩
  | 7 => ⟨S10240x256, .bf16⟩
  | 8 => ⟨S_, .bf16⟩
  | 9 => ⟨S2048x256, .bf16⟩
  | 10 => ⟨S8192x256, .bf16⟩
  | 11 => ⟨S10240x256, .bf16⟩
  | 12 => ⟨S8192x256, .f32⟩
  | 13 => ⟨S8192x4, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | .local _ .vmem, ⟨0, _⟩ => ⟨S128x256, .bf16⟩
  | .local _ .vmem, ⟨1, _⟩ => ⟨S128x256, .bf16⟩
  | .local _ .vmem, ⟨2, _⟩ => ⟨S10240x256, .bf16⟩
  | .local _ .vmem, ⟨3, _⟩ => ⟨S10240x256, .bf16⟩
  | .local _ .vmem, ⟨4, _⟩ => ⟨S128x2176, .f32⟩
  | .local _ .vmem, ⟨5, _⟩ => ⟨S128x256, .f32⟩
  | .local _ .vmem, ⟨6, _⟩ => ⟨S128x256, .f32⟩
  | .local _ .vmem, ⟨7, _⟩ => ⟨S128x4, .f32⟩
  | .local _ .vmem, ⟨8, _⟩ => ⟨S128x4, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_v22 : Ref sig .tc := ⟨.hbm, 52, rfl⟩
abbrev main_c_5 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v26 : Ref sig .tc := ⟨.hbm, 78, rfl⟩
abbrev main_c_7 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_c_8 : Ref sig .tc := ⟨.hbm, 85, rfl⟩
abbrev main_v32 : Ref sig .tc := ⟨.hbm, 86, rfl⟩
abbrev main_v33 : Ref sig .tc := ⟨.hbm, 87, rfl⟩
abbrev main_c_9 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_c_10 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_1 : Ref sig .tc := ⟨.hbm, 100, rfl⟩
abbrev main_call2_v5 : Ref sig .tc := ⟨.hbm, 101, rfl⟩
abbrev main_call2_v6 : Ref sig .tc := ⟨.hbm, 102, rfl⟩
abbrev main_call2_c_2 : Ref sig .tc := ⟨.hbm, 103, rfl⟩
abbrev main_call2_v7 : Ref sig .tc := ⟨.hbm, 104, rfl⟩
abbrev main_call2_v8 : Ref sig .tc := ⟨.hbm, 105, rfl⟩
abbrev main_call2_c_3 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_v37 : Ref sig .tc := ⟨.hbm, 113, rfl⟩
abbrev main_c_11 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_cst_12 : Ref sig .tc := ⟨.hbm, 120, rfl⟩
abbrev main_v43 : Ref sig .tc := ⟨.hbm, 121, rfl⟩
abbrev main_v44 : Ref sig .tc := ⟨.hbm, 122, rfl⟩
abbrev main_cst_13 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_cst_14 : Ref sig .tc := ⟨.hbm, 127, rfl⟩
abbrev main_call3_v0 : Ref sig .tc := ⟨.hbm, 128, rfl⟩
abbrev main_call3_v1 : Ref sig .tc := ⟨.hbm, 129, rfl⟩
abbrev main_v48 : Ref sig .tc := ⟨.hbm, 130, rfl⟩
abbrev main_v49 : Ref sig .tc := ⟨.hbm, 131, rfl⟩
abbrev main_cst_15 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_cst_16 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56_0 : Ref sig .tc := ⟨.hbm, 140, rfl⟩
abbrev main_v56_1 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v15 : Index := Scalar.indexCast v1
  let c0_4 : Index := 0#32
  ![v15.toNat, 0]
def k0_off2 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v42 : Index := Scalar.indexCast v1
  let c64_16 : Index := 64#32
  ![v42.toNat, 64]
def k0_off3 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v69 : Index := Scalar.indexCast v1
  let c128_27 : Index := 128#32
  ![v69.toNat, 128]
def k0_off4 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v96 : Index := Scalar.indexCast v1
  let c192_38 : Index := 192#32
  ![v96.toNat, 192]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10240x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttIdeal.lean ====
variable {F : FTy → Type} [FloatOps F] [Named F]
def κ : String → Option EReal := fun
  | "mask" => some ⊥
  | _ => none
-- ==== AttRefIdeal.lean ====
abbrev S8192x256 : Shape := ⟨2, ![8192, 256]⟩
abbrev S8192x4x64 : Shape := ⟨3, ![8192, 4, 64]⟩
abbrev S4x8192x64 : Shape := ⟨3, ![4, 8192, 64]⟩
abbrev S4x8192x8192 : Shape := ⟨3, ![4, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8192 : Shape := ⟨2, ![4, 8192]⟩
abbrev S4x8192x1 : Shape := ⟨3, ![4, 8192, 1]⟩
abbrev S8192x4 : Shape := ⟨2, ![8192, 4]⟩

abbrev nBuf : Space → Nat
  | .hbm => 149
  | .vmem => 0
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S8192x4x64, .f32⟩
  | 4 => ⟨S4x8192x64, .f32⟩
  | 5 => ⟨S8192x4x64, .f32⟩
  | 6 => ⟨S4x8192x64, .f32⟩
  | 7 => ⟨S8192x4x64, .f32⟩
  | 8 => ⟨S4x8192x64, .f32⟩
  | 9 => ⟨S4x8192x8192, .f32⟩
  | 10 => ⟨S_, .f32⟩
  | 11 => ⟨S4x8192x8192, .f32⟩
  | 12 => ⟨S4x8192x8192, .f32⟩
  | 13 => ⟨S8192, .i32⟩
  | 14 => ⟨S8192x1, .i32⟩
  | 15 => ⟨S8192, .i32⟩
  | 16 => ⟨S1x8192, .i32⟩
  | 17 => ⟨S8192x8192, .i32⟩
  | 18 => ⟨S8192x8192, .i32⟩
  | 19 => ⟨S8192x8192, .i32⟩
  | 20 => ⟨S_, .i32⟩
  | 21 => ⟨S8192x8192, .i32⟩
  | 22 => ⟨S8192x8192, .i1⟩
  | 23 => ⟨S_, .i32⟩
  | 24 => ⟨S8192x8192, .i32⟩
  | 25 => ⟨S8192x8192, .i1⟩
  | 26 => ⟨S8192x8192, .i1⟩
  | 27 => ⟨S_, .i32⟩
  | 28 => ⟨S8192x8192, .i32⟩
  | 29 => ⟨S8192x8192, .i32⟩
  | 30 => ⟨S_, .i32⟩
  | 31 => ⟨S8192x8192, .i32⟩
  | 32 => ⟨S8192x8192, .i1⟩
  | 33 => ⟨S8192x8192, .i1⟩
  | 34 => ⟨S4x8192x8192, .i1⟩
  | 35 => ⟨S_, .f32⟩
  | 36 => ⟨S4x8192x8192, .f32⟩
  | 37 => ⟨S4x8192x8192, .f32⟩
  | 38 => ⟨S_, .f32⟩
  | 39 => ⟨S4x8192, .f32⟩
  | 40 => ⟨S4x8192x1, .f32⟩
  | 41 => ⟨S4x8192x8192, .f32⟩
  | 42 => ⟨S4x8192x8192, .f32⟩
  | 43 => ⟨S4x8192x8192, .f32⟩
  | 44 => ⟨S_, .f32⟩
  | 45 => ⟨S4x8192, .f32⟩
  | 46 => ⟨S4x8192x1, .f32⟩
  | 47 => ⟨S4x8192x64, .f32⟩
  | 48 => ⟨S4x8192x64, .f32⟩
  | 49 => ⟨S4x8192x64, .f32⟩
  | 50 => ⟨S4x8192x1, .f32⟩
  | 51 => ⟨S4x8192x1, .f32⟩
  | 52 => ⟨S_, .i32⟩
  | 53 => ⟨S8192x8192, .i32⟩
  | 54 => ⟨S8192x8192, .i1⟩
  | 55 => ⟨S_, .i32⟩
  | 56 => ⟨S8192x8192, .i32⟩
  | 57 => ⟨S8192x8192, .i1⟩
  | 58 => ⟨S8192x8192, .i1⟩
  | 59 => ⟨S_, .i32⟩
  | 60 => ⟨S8192x8192, .i32⟩
  | 61 => ⟨S8192x8192, .i32⟩
  | 62 => ⟨S_, .i32⟩
  | 63 => ⟨S8192x8192, .i32⟩
  | 64 => ⟨S8192x8192, .i1⟩
  | 65 => ⟨S8192x8192, .i1⟩
  | 66 => ⟨S4x8192x8192, .i1⟩
  | 67 => ⟨S_, .f32⟩
  | 68 => ⟨S4x8192x8192, .f32⟩
  | 69 => ⟨S4x8192x8192, .f32⟩
  | 70 => ⟨S_, .f32⟩
  | 71 => ⟨S4x8192, .f32⟩
  | 72 => ⟨S4x8192x1, .f32⟩
  | 73 => ⟨S4x8192x8192, .f32⟩
  | 74 => ⟨S4x8192x8192, .f32⟩
  | 75 => ⟨S4x8192x8192, .f32⟩
  | 76 => ⟨S_, .f32⟩
  | 77 => ⟨S4x8192, .f32⟩
  | 78 => ⟨S4x8192x1, .f32⟩
  | 79 => ⟨S4x8192x64, .f32⟩
  | 80 => ⟨S4x8192x64, .f32⟩
  | 81 => ⟨S4x8192x64, .f32⟩
  | 82 => ⟨S4x8192x1, .f32⟩
  | 83 => ⟨S4x8192x1, .f32⟩
  | 84 => ⟨S_, .i32⟩
  | 85 => ⟨S8192x8192, .i32⟩
  | 86 => ⟨S8192x8192, .i1⟩
  | 87 => ⟨S_, .i32⟩
  | 88 => ⟨S8192x8192, .i32⟩
  | 89 => ⟨S8192x8192, .i1⟩
  | 90 => ⟨S8192x8192, .i1⟩
  | 91 => ⟨S_, .i32⟩
  | 92 => ⟨S8192x8192, .i32⟩
  | 93 => ⟨S8192x8192, .i32⟩
  | 94 => ⟨S_, .i32⟩
  | 95 => ⟨S8192x8192, .i32⟩
  | 96 => ⟨S8192x8192, .i1⟩
  | 97 => ⟨S8192x8192, .i1⟩
  | 98 => ⟨S4x8192x8192, .i1⟩
  | 99 => ⟨S_, .f32⟩
  | 100 => ⟨S4x8192x8192, .f32⟩
  | 101 => ⟨S4x8192x8192, .f32⟩
  | 102 => ⟨S_, .f32⟩
  | 103 => ⟨S4x8192, .f32⟩
  | 104 => ⟨S4x8192x1, .f32⟩
  | 105 => ⟨S4x8192x8192, .f32⟩
  | 106 => ⟨S4x8192x8192, .f32⟩
  | 107 => ⟨S4x8192x8192, .f32⟩
  | 108 => ⟨S_, .f32⟩
  | 109 => ⟨S4x8192, .f32⟩
  | 110 => ⟨S4x8192x1, .f32⟩
  | 111 => ⟨S4x8192x64, .f32⟩
  | 112 => ⟨S4x8192x64, .f32⟩
  | 113 => ⟨S4x8192x64, .f32⟩
  | 114 => ⟨S4x8192x1, .f32⟩
  | 115 => ⟨S4x8192x1, .f32⟩
  | 116 => ⟨S4x8192x1, .f32⟩
  | 117 => ⟨S4x8192x1, .f32⟩
  | 118 => ⟨S4x8192x1, .f32⟩
  | 119 => ⟨S4x8192x1, .f32⟩
  | 120 => ⟨S4x8192x1, .f32⟩
  | 121 => ⟨S4x8192x1, .f32⟩
  | 122 => ⟨S4x8192x1, .f32⟩
  | 123 => ⟨S4x8192x1, .f32⟩
  | 124 => ⟨S_, .f32⟩
  | 125 => ⟨S4x8192x1, .f32⟩
  | 126 => ⟨S4x8192x1, .f32⟩
  | 127 => ⟨S4x8192x1, .f32⟩
  | _ => ⟨S8192x256, .f32⟩

abbrev hbmTy0_1 (i : Nat) : BufTy := match i % 128 with
  | 0 => ⟨S4x8192x1, .f32⟩
  | 1 => ⟨S4x8192x1, .f32⟩
  | 2 => ⟨S4x8192x64, .f32⟩
  | 3 => ⟨S4x8192x64, .f32⟩
  | 4 => ⟨S_, .f32⟩
  | 5 => ⟨S4x8192x64, .f32⟩
  | 6 => ⟨S4x8192x64, .f32⟩
  | 7 => ⟨S4x8192x1, .f32⟩
  | 8 => ⟨S4x8192x64, .f32⟩
  | 9 => ⟨S4x8192x64, .f32⟩
  | 10 => ⟨S4x8192x64, .f32⟩
  | 11 => ⟨S4x8192x1, .f32⟩
  | 12 => ⟨S4x8192x64, .f32⟩
  | 13 => ⟨S4x8192x64, .f32⟩
  | 14 => ⟨S4x8192x64, .f32⟩
  | 15 => ⟨S8192x4x64, .f32⟩
  | 16 => ⟨S8192x256, .f32⟩
  | 17 => ⟨S4x8192x1, .f32⟩
  | 18 => ⟨S4x8192x1, .f32⟩
  | 19 => ⟨S4x8192, .f32⟩
  | 20 => ⟨S8192x4, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_6 : Ref sig .tc := ⟨.hbm, 52, rfl⟩
abbrev main_v41 : Ref sig .tc := ⟨.hbm, 53, rfl⟩
abbrev main_v42 : Ref sig .tc := ⟨.hbm, 54, rfl⟩
abbrev main_c_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_13 : Ref sig .tc := ⟨.hbm, 84, rfl⟩
abbrev main_v66 : Ref sig .tc := ⟨.hbm, 85, rfl⟩
abbrev main_v67 : Ref sig .tc := ⟨.hbm, 86, rfl⟩
abbrev main_c_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_15 : Ref sig .tc := ⟨.hbm, 91, rfl⟩
abbrev main_v71 : Ref sig .tc := ⟨.hbm, 92, rfl⟩
abbrev main_v72 : Ref sig .tc := ⟨.hbm, 93, rfl⟩
abbrev main_c_16 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_v78 : Ref sig .tc := ⟨.hbm, 101, rfl⟩
abbrev main_cst_18 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_19 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_20 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_21 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩

abbrev nD : Nat := 1
abbrev τ : Topo := Topo.v7x

variable {F : FTy → Type} [FloatOps F]
-- ==== Mix.lean ====
abbrev S8192x2560 : Shape := ⟨2, ![8192, 2560]⟩
abbrev S8192x4096 : Shape := ⟨2, ![8192, 4096]⟩
abbrev S1024x2560 : Shape := ⟨2, ![1024, 2560]⟩
abbrev S4x1024x1024 : Shape := ⟨3, ![4, 1024, 1024]⟩
abbrev S8192x1024 : Shape := ⟨2, ![8192, 1024]⟩
abbrev S1024 : Shape := ⟨1, ![1024]⟩
abbrev S8192x256 : Shape := ⟨2, ![8192, 256]⟩
abbrev S8192x768 : Shape := ⟨2, ![8192, 768]⟩
abbrev S1024x256 : Shape := ⟨2, ![1024, 256]⟩
abbrev S1024x1792 : Shape := ⟨2, ![1024, 1792]⟩
abbrev S1024x768 : Shape := ⟨2, ![1024, 768]⟩
abbrev S1x1024x1024 : Shape := ⟨3, ![1, 1024, 1024]⟩
abbrev S1024x1024 : Shape := ⟨2, ![1024, 1024]⟩
abbrev S1024x4096 : Shape := ⟨2, ![1024, 4096]⟩
abbrev S8192x1792 : Shape := ⟨2, ![8192, 1792]⟩
abbrev S1x1024 : Shape := ⟨2, ![1, 1024]⟩
abbrev S512x1792 : Shape := ⟨2, ![512, 1792]⟩
abbrev S512x768 : Shape := ⟨2, ![512, 768]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 49
  | .vmem => 17
  | .smem => 0
  | _ => 0

abbrev bufTy : (tb : Table) → Fin (tcTables nBuf tb) → BufTy
  | .hbm, ⟨0, _⟩ => ⟨S8192x2560, .f32⟩
  | .hbm, ⟨1, _⟩ => ⟨S8192x4096, .f32⟩
  | .hbm, ⟨2, _⟩ => ⟨S1024x2560, .f32⟩
  | .hbm, ⟨3, _⟩ => ⟨S4x1024x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x768, .f32⟩
  | .hbm, ⟨11, _⟩ => ⟨S8192x768, .bf16⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x1792, .f32⟩
  | .hbm, ⟨20, _⟩ => ⟨S1024x1792, .bf16⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S1024x768, .f32⟩
  | .hbm, ⟨25, _⟩ => ⟨S1024x768, .bf16⟩
  | .hbm, ⟨26, _⟩ => ⟨S1x1024x1024, .f32⟩
  | .hbm, ⟨27, _⟩ => ⟨S1024x1024, .f32⟩
  | .hbm, ⟨28, _⟩ => ⟨S1x1024x1024, .f32⟩
  | .hbm, ⟨29, _⟩ => ⟨S1024x1024, .f32⟩
  | .hbm, ⟨30, _⟩ => ⟨S1x1024x1024, .f32⟩
  | .hbm, ⟨31, _⟩ => ⟨S1024x1024, .f32⟩
  | .hbm, ⟨32, _⟩ => ⟨S1x1024x1024, .f32⟩
  | .hbm, ⟨33, _⟩ => ⟨S1024x1024, .f32⟩
  | .hbm, ⟨34, _⟩ => ⟨S1024x4096, .f32⟩
  | .hbm, ⟨35, _⟩ => ⟨S1024x4096, .bf16⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x1792, .f32⟩
  | .hbm, ⟨44, _⟩ => ⟨S8192x1792, .bf16⟩
  | .hbm, ⟨45, _⟩ => ⟨S8192x4096, .bf16⟩
  | .hbm, ⟨46, _⟩ => ⟨S1x1024, .f32⟩
  | .hbm, ⟨47, _⟩ => ⟨S8192x1024, .f32⟩
  | .hbm, ⟨48, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1024x1792, .bf16⟩
  | .local _ .vmem, ⟨3, _⟩ => ⟨S512x768, .bf16⟩
  | .local _ .vmem, ⟨4, _⟩ => ⟨S512x768, .bf16⟩
  | .local _ .vmem, ⟨5, _⟩ => ⟨S1024x768, .bf16⟩
  | .local _ .vmem, ⟨6, _⟩ => ⟨S512x4096, .bf16⟩
  | .local _ .vmem, ⟨7, _⟩ => ⟨S512x4096, .bf16⟩
  | .local _ .vmem, ⟨8, _⟩ => ⟨S1024x4096, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40_0 : Ref sig .tc := ⟨.hbm, 47, rfl⟩
abbrev main_v40_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_19 : BitVec 32 := 0#32
  let v33 : BitVec 1 := Scalar.cmpi .ne v32 c0_i32_19
  v33

def k0_cond2 (i : grid0.Coords) : BitVec 1 :=
  let arg0 : BitVec 32 := BitVec.ofNat 32 (i 0).val
  let c0_i32_20 : BitVec 32 := 0#32
  let v34 : BitVec 1 := Scalar.cmpi .sgt arg0 c0_i32_20
  let v35 : BitVec 32 := Scalar.extui v34
  let c0_i32_21 : BitVec 32 := 0#32
  let v36 : BitVec 1 := Scalar.cmpi .ne v35 c0_i32_21
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixRefIdeal.lean ====
abbrev S8192x2560 : Shape := ⟨2, ![8192, 2560]⟩
abbrev S8192x4096 : Shape := ⟨2, ![8192, 4096]⟩
abbrev S1024x2560 : Shape := ⟨2, ![1024, 2560]⟩
abbrev S4x1024x1024 : Shape := ⟨3, ![4, 1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S8192x4096, .f32⟩
  | .hbm, ⟨2, _⟩ => ⟨S1024x2560, .f32⟩
  | .hbm, ⟨3, _⟩ => ⟨S4x1024x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2560, .f32⟩
  | .hbm, ⟨28, _⟩ => ⟨S1x1024x1024, .f32⟩
  | .hbm, ⟨29, _⟩ => ⟨S1024x1024, .f32⟩
  | .hbm, ⟨30, _⟩ => ⟨S8192x1024, .f32⟩
  | .hbm, ⟨31, _⟩ => ⟨S1x1024x1024, .f32⟩
  | .hbm, ⟨32, _⟩ => ⟨S1024x1024, .f32⟩
  | .hbm, ⟨33, _⟩ => ⟨S8192x1024, .f32⟩
  | .hbm, ⟨34, _⟩ => ⟨S1x1024x1024, .f32⟩
  | .hbm, ⟨35, _⟩ => ⟨S1024x1024, .f32⟩
  | .hbm, ⟨36, _⟩ => ⟨S8192x1024, .f32⟩
  | .hbm, ⟨37, _⟩ => ⟨S1x1024x1024, .f32⟩
  | .hbm, ⟨38, _⟩ => ⟨S1024x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1x1024, .f32⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Bra.lean ====
abbrev S8192x256 : Shape := ⟨2, ![8192, 256]⟩
abbrev S8192x2560 : Shape := ⟨2, ![8192, 2560]⟩
abbrev S3x256 : Shape := ⟨2, ![3, 256]⟩
abbrev S8192x1792 : Shape := ⟨2, ![8192, 1792]⟩
abbrev S8192x768 : Shape := ⟨2, ![8192, 768]⟩
abbrev S8x256 : Shape := ⟨2, ![8, 256]⟩
abbrev S512x256 : Shape := ⟨2, ![512, 256]⟩
abbrev S512x768 : Shape := ⟨2, ![512, 768]⟩
abbrev S520x256 : Shape := ⟨2, ![520, 256]⟩
abbrev S7x520x256 : Shape := ⟨3, ![7, 520, 256]⟩
abbrev S1x512x256 : Shape := ⟨3, ![1, 512, 256]⟩
abbrev S1x256 : Shape := ⟨2, ![1, 256]⟩
abbrev S1x64x256 : Shape := ⟨3, ![1, 64, 256]⟩
abbrev S64x256 : Shape := ⟨2, ![64, 256]⟩
abbrev S256 : Shape := ⟨1, ![256]⟩

abbrev nBuf : Space → Nat
  | .hbm => 13
  | .vmem => 25
  | .smem => 0
  | _ => 0

abbrev bufTy : (tb : Table) → Fin (tcTables nBuf tb) → BufTy
  | .hbm, ⟨0, _⟩ => ⟨S8192x256, .f32⟩
  | .hbm, ⟨1, _⟩ => ⟨S8192x2560, .f32⟩
  | .hbm, ⟨2, _⟩ => ⟨S3x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x1792, .f32⟩
  | .hbm, ⟨11, _⟩ => ⟨S8192x768, .bf16⟩
  | .hbm, ⟨12, _⟩ => ⟨S8x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S8x256, .f32⟩
  | .local _ .vmem, ⟨15, _⟩ => ⟨S8x256, .f32⟩
  | .local _ .vmem, ⟨16, _⟩ => ⟨S3x256, .f32⟩
  | .local _ .vmem, ⟨17, _⟩ => ⟨S512x768, .bf16⟩
  | .local _ .vmem, ⟨18, _⟩ => ⟨S512x768, .bf16⟩
  | .local _ .vmem, ⟨19, _⟩ => ⟨S8x256, .f32⟩
  | .local _ .vmem, ⟨20, _⟩ => ⟨S520x256, .f32⟩
  | .local _ .vmem, ⟨21, _⟩ => ⟨S520x256, .f32⟩
  | .local _ .vmem, ⟨22, _⟩ => ⟨S512x256, .f32⟩
  | .local _ .vmem, ⟨23, _⟩ => ⟨S7x520x256, .f32⟩
  | .local _ .vmem, ⟨24, _⟩ => ⟨S7x520x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BraRefIdeal.lean ====
abbrev S8192x256 : Shape := ⟨2, ![8192, 256]⟩
abbrev S8192x2560 : Shape := ⟨2, ![8192, 2560]⟩
abbrev S3x256 : Shape := ⟨2, ![3, 256]⟩
abbrev S_ : Shape := ⟨0, ![]⟩
abbrev S2x256 : Shape := ⟨2, ![2, 256]⟩
abbrev S8194x256 : Shape := ⟨2, ![8194, 256]⟩
abbrev S1x256 : Shape := ⟨2, ![1, 256]⟩
abbrev S256 : Shape := ⟨1, ![256]⟩
abbrev S8192x768 : Shape := ⟨2, ![8192, 768]⟩
abbrev S5x256 : Shape := ⟨2, ![5, 256]⟩
abbrev S8x256 : Shape := ⟨2, ![8, 256]⟩

abbrev nBuf : Space → Nat
  | .hbm => 97
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2560, .f32⟩
  | .hbm, ⟨2, _⟩ => ⟨S3x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S2x256, .f32⟩
  | .hbm, ⟨16, _⟩ => ⟨S8194x256, .f32⟩
  | .hbm, ⟨17, _⟩ => ⟨S_, .f32⟩
  | .hbm, ⟨18, _⟩ => ⟨S2x256, .f32⟩
  | .hbm, ⟨19, _⟩ => ⟨S1x256, .f32⟩
  | .hbm, ⟨20, _⟩ => ⟨S256, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S1x256, .f32⟩
  | .hbm, ⟨29, _⟩ => ⟨S256, .f32⟩
  | .hbm, ⟨30, _⟩ => ⟨S8192x256, .f32⟩
  | .hbm, ⟨31, _⟩ => ⟨S1x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S1x256, .f32⟩
  | .hbm, ⟨36, _⟩ => ⟨S256, .f32⟩
  | .hbm, ⟨37, _⟩ => ⟨S8192x256, .f32⟩
  | .hbm, ⟨38, _⟩ => ⟨S1x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S256, .f32⟩
  | .hbm, ⟨50, _⟩ => ⟨S1x256, .f32⟩
  | .hbm, ⟨51, _⟩ => ⟨S_, .f32⟩
  | .hbm, ⟨52, _⟩ => ⟨S256, .f32⟩
  | .hbm, ⟨53, _⟩ => ⟨S_, .f32⟩
  | .hbm, ⟨54, _⟩ => ⟨S8194x256, .f32⟩
  | .hbm, ⟨55, _⟩ => ⟨S1x256, .f32⟩
  | .hbm, ⟨56, _⟩ => ⟨S_, .f32⟩
  | .hbm, ⟨57, _⟩ => ⟨S3x256, .f32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S_, .f32⟩
  | .hbm, ⟨62, _⟩ => ⟨S256, .f32⟩
  | .hbm, ⟨63, _⟩ => ⟨S1x256, .f32⟩
  | .hbm, ⟨64, _⟩ => ⟨S_, .f32⟩
  | .hbm, ⟨65, _⟩ => ⟨S256, .f32⟩
  | .hbm, ⟨66, _⟩ => ⟨S_, .f32⟩
  | .hbm, ⟨67, _⟩ => ⟨S8194x256, .f32⟩
  | .hbm, ⟨68, _⟩ => ⟨S8194x256, .f32⟩
  | .hbm, ⟨69, _⟩ => ⟨S1x256, .f32⟩
  | .hbm, ⟨70, _⟩ => ⟨S_, .f32⟩
  | .hbm, ⟨71, _⟩ => ⟨S3x256, .f32⟩
  | .hbm, ⟨72, _⟩ => ⟨S3x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S256, .f32⟩
  | .hbm, ⟨78, _⟩ => ⟨S1x256, .f32⟩
  | .hbm, ⟨79, _⟩ => ⟨S_, .f32⟩
  | .hbm, ⟨80, _⟩ => ⟨S256, .f32⟩
  | .hbm, ⟨81, _⟩ => ⟨S_, .f32⟩
  | .hbm, ⟨82, _⟩ => ⟨S8194x256, .f32⟩
  | .hbm, ⟨83, _⟩ => ⟨S8194x256, .f32⟩
  | .hbm, ⟨84, _⟩ => ⟨S1x256, .f32⟩
  | .hbm, ⟨85, _⟩ => ⟨S_, .f32⟩
  | .hbm, ⟨86, _⟩ => ⟨S3x256, .f32⟩
  | .hbm, ⟨87, _⟩ => ⟨S3x256, .f32⟩
  | .hbm, ⟨88, _⟩ => ⟨S2x256, .f32⟩
  | .hbm, ⟨89, _⟩ => ⟨S8192x256, .f32⟩
  | .hbm, ⟨90, _⟩ => ⟨S8192x256, .f32⟩
  | .hbm, ⟨91, _⟩ => ⟨S8192x256, .f32⟩
  | .hbm, ⟨92, _⟩ => ⟨S8192x768, .f32⟩
  | .hbm, ⟨93, _⟩ => ⟨S8192x768, .bf16⟩
  | .hbm, ⟨94, _⟩ => ⟨S_, .f32⟩
  | .hbm, ⟨95, _⟩ => ⟨S5x256, .f32⟩
  | .hbm, ⟨96, _⟩ => ⟨S8x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_14 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== Sguf.lean ====
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S8192x1792 : Shape := ⟨2, ![8192, 1792]⟩
abbrev S128x4 : Shape := ⟨2, ![128, 4]⟩
abbrev S1x256 : Shape := ⟨2, ![1, 256]⟩
abbrev S512x256 : Shape := ⟨2, ![512, 256]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S128 : Shape := ⟨1, ![128]⟩

abbrev nBuf : Space → Nat
  | .hbm => 17
  | .vmem => 10
  | .smem => 0
  | _ => 0

abbrev bufTy : (tb : Table) → Fin (tcTables nBuf tb) → BufTy
  | .hbm, ⟨0, _⟩ => ⟨S8192x2560, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x1792, .f32⟩
  | .hbm, ⟨13, _⟩ => ⟨S128x4, .f32⟩
  | .hbm, ⟨14, _⟩ => ⟨S1x256, .f32⟩
  | .hbm, ⟨15, _⟩ => ⟨S1x256, .f32⟩
  | .hbm, ⟨16, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x4, .f32⟩
  | .local _ .vmem, ⟨8, _⟩ => ⟨S512x256, .bf16⟩
  | .local _ .vmem, ⟨9, _⟩ => ⟨S512x256, .bf16⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SgufRefIdeal.lean ====
abbrev S8192x2560 : Shape := ⟨2, ![8192, 2560]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x256, .f32⟩
  | .hbm, ⟨31, _⟩ => ⟨S8192x256, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S1x256, .f32⟩
  | .hbm, ⟨39, _⟩ => ⟨S8192x256, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S64x128x4x64, .f32⟩
  | .hbm, ⟨45, _⟩ => ⟨S_, .i1⟩
  | .hbm, ⟨46, _⟩ => ⟨S128x128, .i1⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S_, .i1⟩
  | .hbm, ⟨54, _⟩ => ⟨S128x128, .i1⟩
  | .hbm, ⟨55, _⟩ => ⟨S128x128, .i1⟩
  | .hbm, ⟨56, _⟩ => ⟨S1x128x128, .i1⟩
  | .hbm, ⟨57, _⟩ => ⟨S_, .f32⟩
  | .hbm, ⟨58, _⟩ => ⟨S4x128x128, .f32⟩
  | .hbm, ⟨59, _⟩ => ⟨S4x128x128, .i1⟩
  | .hbm, ⟨60, _⟩ => ⟨S4x128x128, .f32⟩
  | .hbm, ⟨61, _⟩ => ⟨S4x64x64x128, .f32⟩
  | .hbm, ⟨62, _⟩ => ⟨S64x128x4x64, .f32⟩
  | .hbm, ⟨63, _⟩ => ⟨S128x4, .f32⟩
  | .hbm, ⟨64, _⟩ => ⟨S1x128x4x1, .f32⟩
  | .hbm, ⟨65, _⟩ => ⟨S64x128x4x64, .f32⟩
  | .hbm, ⟨66, _⟩ => ⟨S64x128x4x64, .f32⟩
  | .hbm, ⟨67, _⟩ => ⟨S8192x256, .f32⟩
  | .hbm, ⟨68, _⟩ => ⟨S8192x256, .f32⟩
  | .hbm, ⟨69, _⟩ => ⟨S8192x256, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_v35 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_0 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Braf.lean ====
abbrev S8192x2560 : Shape := ⟨2, ![8192, 2560]⟩
abbrev S3x256 : Shape := ⟨2, ![3, 256]⟩
abbrev S8192x256 : Shape := ⟨2, ![8192, 256]⟩
abbrev S8192x1792 : Shape := ⟨2, ![8192, 1792]⟩
abbrev S512x256 : Shape := ⟨2, ![512, 256]⟩
abbrev S8x256 : Shape := ⟨2, ![8, 256]⟩
abbrev S520x256 : Shape := ⟨2, ![520, 256]⟩
abbrev S7x520x256 : Shape := ⟨3, ![7, 520, 256]⟩
abbrev S1x512x256 : Shape := ⟨3, ![1, 512, 256]⟩
abbrev S1x256 : Shape := ⟨2, ![1, 256]⟩
abbrev S1x64x256 : Shape := ⟨3, ![1, 64, 256]⟩
abbrev S64x256 : Shape := ⟨2, ![64, 256]⟩

abbrev nBuf : Space → Nat
  | .hbm => 11
  | .vmem => 15
  | .smem => 0
  | _ => 0

abbrev bufTy : (tb : Table) → Fin (tcTables nBuf tb) → BufTy
  | .hbm, ⟨0, _⟩ => ⟨S8192x2560, .f32⟩
  | .hbm, ⟨1, _⟩ => ⟨S3x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x1792, .f32⟩
  | .hbm, ⟨10, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S3x256, .f32⟩
  | .local _ .vmem, ⟨11, _⟩ => ⟨S512x256, .bf16⟩
  | .local _ .vmem, ⟨12, _⟩ => ⟨S512x256, .bf16⟩
  | .local _ .vmem, ⟨13, _⟩ => ⟨S520x256, .f32⟩
  | .local _ .vmem, ⟨14, _⟩ => ⟨S7x520x256, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BrafRefIdeal.lean ====
abbrev S8192x2560 : Shape := ⟨2, ![8192, 2560]⟩
abbrev S3x256 : Shape := ⟨2, ![3, 256]⟩
abbrev S8192x256 : Shape := ⟨2, ![8192, 256]⟩
abbrev S_ : Shape := ⟨0, ![]⟩
abbrev S2x256 : Shape := ⟨2, ![2, 256]⟩
abbrev S8194x256 : Shape := ⟨2, ![8194, 256]⟩
abbrev S1x256 : Shape := ⟨2, ![1, 256]⟩
abbrev S256 : Shape := ⟨1, ![256]⟩

abbrev nBuf : Space → Nat
  | .hbm => 41
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S3x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S2x256, .f32⟩
  | .hbm, ⟨15, _⟩ => ⟨S8194x256, .f32⟩
  | .hbm, ⟨16, _⟩ => ⟨S1x256, .f32⟩
  | .hbm, ⟨17, _⟩ => ⟨S256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | .hbm, ⟨25, _⟩ => ⟨S1x256, .f32⟩
  | .hbm, ⟨26, _⟩ => ⟨S256, .f32⟩
  | .hbm, ⟨27, _⟩ => ⟨S8192x256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S1x256, .f32⟩
  | .hbm, ⟨33, _⟩ => ⟨S256, .f32⟩
  | .hbm, ⟨34, _⟩ => ⟨S8192x256, .f32⟩
  | .hbm, ⟨35, _⟩ => ⟨S1x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩

abbrev nD : Nat := 1
abbrev τ : Topo := Topo.v7x

variable {F : FTy → Type} [FloatOps F]
-- ==== Mergef.lean ====
abbrev S8192x1024 : Shape := ⟨2, ![8192, 1024]⟩
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S_ : Shape := ⟨0, ![]⟩
abbrev S512x256 : Shape := ⟨2, ![512, 256]⟩
abbrev S512x4096 : Shape := ⟨2, ![512, 4096]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 24
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x4096, .f32⟩
  | .hbm, ⟨6, _⟩ => ⟨S4x256x1024, .f32⟩
  | .hbm, ⟨7, _⟩ => ⟨S1024x1024, .f32⟩
  | .hbm, ⟨8, _⟩ => ⟨S8192x256, .bf16⟩
  | .hbm, ⟨9, _⟩ => ⟨S8192x256, .bf16⟩
  | .hbm, ⟨10, _⟩ => ⟨S8192x256, .bf16⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .bf16⟩
  | .hbm, ⟨20, _⟩ => ⟨S4x256x1024, .bf16⟩
  | .hbm, ⟨21, _⟩ => ⟨S1024x1024, .bf16⟩
  | .hbm, ⟨22, _⟩ => ⟨S8192x1024, .f32⟩
  | .hbm, ⟨23, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .f32⟩
  | .local _ .vmem, ⟨3, _⟩ => ⟨S512x256, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x4096, .bf16⟩
  | .local _ .vmem, ⟨9, _⟩ => ⟨S512x4096, .bf16⟩
  | .local _ .vmem, ⟨10, _⟩ => ⟨S4x256x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergefRefIdeal.lean ====
abbrev S8192x1024 : Shape := ⟨2, ![8192, 1024]⟩
abbrev S8192x256 : Shape := ⟨2, ![8192, 256]⟩
abbrev S8192x4096 : Shape := ⟨2, ![8192, 4096]⟩
abbrev S4x256x1024 : Shape := ⟨3, ![4, 256, 1024]⟩
abbrev S1024x1024 : Shape := ⟨2, ![1024, 1024]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x4096, .f32⟩
  | .hbm, ⟨6, _⟩ => ⟨S4x256x1024, .f32⟩
  | .hbm, ⟨7, _⟩ => ⟨S1024x1024, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S1x256x1024, .f32⟩
  | .hbm, ⟨18, _⟩ => ⟨S256x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x256x1024, .f32⟩
  | .hbm, ⟨26, _⟩ => ⟨S256x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x256x1024, .f32⟩
  | .hbm, ⟨32, _⟩ => ⟨S256x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x256x1024, .f32⟩
  | .hbm, ⟨38, _⟩ => ⟨S256x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Plef.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S1024x1024, .bf16⟩
  | .hbm, ⟨6, _⟩ => ⟨S256x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PlefRefIdeal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Ffnf.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x1408 : Shape := ⟨2, ![1024, 1408]⟩
abbrev S1x1024 : Shape := ⟨2, ![1, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S512x1408 : Shape := ⟨2, ![512, 1408]⟩
abbrev S1408x1024 : Shape := ⟨2, ![1408, 1024]⟩

abbrev nBuf : Space → Nat
  | .hbm => 17
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x5632, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S8192x1024, .f32⟩
  | .hbm, ⟨15, _⟩ => ⟨S8192x5632, .bf16⟩
  | .hbm, ⟨16, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x5632, .bf16⟩
  | .local _ .vmem, ⟨8, _⟩ => ⟨S512x5632, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnfRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x1408 : Shape := ⟨2, ![8192, 1408]⟩
abbrev S8192x2816 : Shape := ⟨2, ![8192, 2816]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x1408, .f32⟩
  | .hbm, ⟨22, _⟩ => ⟨S8192x1408, .f32⟩
  | .hbm, ⟨23, _⟩ => ⟨S8192x1408, .f32⟩
  | .hbm, ⟨24, _⟩ => ⟨S8192x1408, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S8192x1024, .f32⟩
  | .hbm, ⟨39, _⟩ => ⟨S8192x5632, .f32⟩
  | .hbm, ⟨40, _⟩ => ⟨S8192x5632, .bf16⟩
  | .hbm, ⟨41, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Conf.lean ====
abbrev S8192x256 : Shape := ⟨2, ![8192, 256]⟩
abbrev S8192x2560 : Shape := ⟨2, ![8192, 2560]⟩
abbrev S31x256 : Shape := ⟨2, ![31, 256]⟩
abbrev S8192x1792 : Shape := ⟨2, ![8192, 1792]⟩
abbrev S8192x512 : Shape := ⟨2, ![8192, 512]⟩
abbrev S32x256 : Shape := ⟨2, ![32, 256]⟩
abbrev S512x256 : Shape := ⟨2, ![512, 256]⟩
abbrev S512x512 : Shape := ⟨2, ![512, 512]⟩
abbrev S544x256 : Shape := ⟨2, ![544, 256]⟩
abbrev S7x544x256 : Shape := ⟨3, ![7, 544, 256]⟩
abbrev S536x256 : Shape := ⟨2, ![536, 256]⟩
abbrev S1x536x256 : Shape := ⟨3, ![1, 536, 256]⟩
abbrev S1x256 : Shape := ⟨2, ![1, 256]⟩
abbrev S1x64x256 : Shape := ⟨3, ![1, 64, 256]⟩
abbrev S64x256 : Shape := ⟨2, ![64, 256]⟩
abbrev S256 : Shape := ⟨1, ![256]⟩

abbrev nBuf : Space → Nat
  | .hbm => 13
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x2560, .f32⟩
  | .hbm, ⟨2, _⟩ => ⟨S31x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x1792, .f32⟩
  | .hbm, ⟨11, _⟩ => ⟨S8192x512, .bf16⟩
  | .hbm, ⟨12, _⟩ => ⟨S32x256, .f32⟩
  | .local _ .vmem, ⟨0, _⟩ => ⟨S512x256, .f32⟩
  | .local _ .vmem, ⟨1, _⟩ => ⟨S512x256, .f32⟩
  | .local _ .vmem, ⟨2, _⟩ => ⟨S32x256, .f32⟩
  | .local _ .vmem, ⟨3, _⟩ => ⟨S32x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S31x256, .f32⟩
  | .local _ .vmem, ⟨13, _⟩ => ⟨S512x512, .bf16⟩
  | .local _ .vmem, ⟨14, _⟩ => ⟨S512x512, .bf16⟩
  | .local _ .vmem, ⟨15, _⟩ => ⟨S32x256, .f32⟩
  | .local _ .vmem, ⟨16, _⟩ => ⟨S544x256, .f32⟩
  | .local _ .vmem, ⟨17, _⟩ => ⟨S544x256, .f32⟩
  | .local _ .vmem, ⟨18, _⟩ => ⟨S512x256, .f32⟩
  | .local _ .vmem, ⟨19, _⟩ => ⟨S7x544x256, .f32⟩
  | .local _ .vmem, ⟨20, _⟩ => ⟨S7x544x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Proof.Lift.lean ====
/- Extended reals that are reals: the operations of the ideal instance on them, and what a precondition "every entry is finite" gives. -/
module

public import Idealize.ShloMosaic.Lib.Pointwise
public import Idealize.ShloMosaic.Lib.ReduceAll
public import Idealize.ShloMosaic.Lib.IdealHost
public import Idealize.ShloMosaic.Lib.ValueLayoutCasts
public import Idealize.ShloMosaic.Lib.ValueLayout
public import Idealize.ShloMosaic.Init

@[expose] public section

noncomputable section

namespace Cert.Lift

open Idealize.ShloMosaic

/-- A finite sum of reals, taken among the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The quotient of two reals, the divisor nonzero, is the real quotient. -/
theorem div_coe (x : ℝ) {y : ℝ} (h : y ≠ 0) : Ideal.div (x : EReal) (y : EReal) = ((x / y : ℝ) : EReal) := by
  rw [Ideal.div_coe h, ← EReal.coe_mul, mul_one_div]

/-- The reciprocal square root of a positive real is the real one. -/
theorem rsqrt_coe {x : ℝ} (h : 0 < x) : Ideal.rsqrt (x : EReal) = (((Real.sqrt x)⁻¹ : ℝ) : EReal) := by
  rw [Ideal.rsqrt_coe, if_neg (not_lt.mpr h.le), if_neg h.ne']

/-- One over one plus the exponential of a real is a real. -/
theorem sig_coe (x : ℝ) : Ideal.div ((1 : ℝ) : EReal) ((1 + Real.exp x : ℝ) : EReal) = ((1 / (1 + Real.exp x) : ℝ) : EReal) :=
  div_coe 1 (by positivity)

/-- An extended real whose absolute value compares below infinity is a real. -/
theorem real_of_abs_lt {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- An array all of whose entries compare finite is an array of reals. -/
theorem real_of_all {s : Shape} (X : FVec Ideal s .f32) {axes : List (Fin s.rank)} {u : Shape} [Subsingleton u.Idx]
    (hb : (⟨0, ![]⟩ : Shape).BroadcastsInDim s ![]) (hr : s.ReducesTo axes u) {v : Shape} (w : IVec v 1) (hu : 0 < v.numel) (j : u.Idx)
    (h : Host.reduce IntOp.andi (cmpf .olt (Host.absf X) (broadcastInDim s ![] hb (constant (⟨0, ![]⟩ : Shape) .f32 0x7F800000#32))) w hr hu j = 1#1) :
    ∃ f : s.Idx → ℝ, X = fun i => (f i : EReal) := by
  have key : ∀ i, ∃ r : ℝ, X i = r := fun i => real_of_abs_lt (by
    have h1 := Host.reduce_andi_all _ _ hr hu j h i
    exact h1)
  choose f hf using key
  exact ⟨f, funext hf⟩

/-! ## Arrays of reals

`up0 c`, `up1 X`, `up2 X` are the arrays of extended reals with the real `c`, the reals `X r`, the reals `X r k` as entries. Every operation below takes such arrays to such an array. -/

/-- The scalar array with the real `c`. -/
def up0 (c : ℝ) : (⟨0, ![]⟩ : Shape).Idx → EReal := fun _ => (c : EReal)
/-- The vector with the reals `X r`. -/
def up1 {a : ℕ} (X : Fin a → ℝ) : (⟨1, ![a]⟩ : Shape).Idx → EReal := fun i => (X (i 0) : EReal)
/-- The matrix with the reals `X r k`. -/
def up2 {a b : ℕ} (X : Fin a → Fin b → ℝ) : (⟨2, ![a, b]⟩ : Shape).Idx → EReal := fun i => (X (i 0) (i 1) : EReal)

section

variable {a b : ℕ} {φ : FTy}

/-- A vector of reals, whatever its index function, in the form `up1`. -/
theorem eq_up1 (f : (⟨1, ![a]⟩ : Shape).Idx → ℝ) : (fun i => (f i : EReal)) = up1 fun r => f (ValueIdx.ix1 r) := by
  funext i
  exact congrArg (fun j => ((f j : ℝ) : EReal)) (ValueIdx.eq_ix1 i)

/-- A matrix of reals, whatever its index function, in the form `up2`. -/
theorem eq_up2 (f : (⟨2, ![a, b]⟩ : Shape).Idx → ℝ) : (fun i => (f i : EReal)) = up2 fun r k => f (ValueIdx.ix2 r k) := by
  funext i
  exact congrArg (fun j => ((f j : ℝ) : EReal)) (ValueIdx.eq_ix2 i)

/-- The pointwise operations of the kernel on matrices of reals. -/
theorem vec2 : (∀ X Y : Fin a → Fin b → ℝ, mulf (F := Ideal) (φ := φ) (up2 X) (up2 Y) = up2 fun r k => X r k * Y r k)
    ∧ (∀ X Y : Fin a → Fin b → ℝ, addf (F := Ideal) (φ := φ) (up2 X) (up2 Y) = up2 fun r k => X r k + Y r k)
    ∧ (∀ X Y : Fin a → Fin b → ℝ, subf (F := Ideal) (φ := φ) (up2 X) (up2 Y) = up2 fun r k => X r k - Y r k)
    ∧ (∀ X : Fin a → Fin b → ℝ, exp (F := Ideal) (φ := φ) (up2 X) = up2 fun r k => Real.exp (X r k)) := by
  refine ⟨fun X Y => ?_, fun X Y => ?_, fun X Y => ?_, fun X => ?_⟩ <;> funext i
  · exact (EReal.coe_mul _ _).symm
  · exact (EReal.coe_add _ _).symm
  · exact (EReal.coe_sub _ _).symm
  · exact Ideal.exp_coe _

/-- A real in every entry of a matrix. -/
theorem splat2 (c : ℝ) : broadcast (no_index (⟨2, ![a, b]⟩ : Shape)) (c : EReal) = up2 fun _ _ => c := rfl

/-- The kernel's quotient of matrices of reals whose divisor has no zero. -/
theorem divf2 (X Y : Fin a → Fin b → ℝ) (h : ∀ r k, Y r k ≠ 0) :
    divf (F := Ideal) (φ := φ) (up2 X) (up2 Y) = up2 fun r k => X r k / Y r k := by
  funext i
  exact div_coe _ (h _ _)

/-- The kernel's reciprocal square root of a matrix of positive reals. -/
theorem rsqrt2 (X : Fin a → Fin b → ℝ) (h : ∀ r k, 0 < X r k) :
    rsqrt (F := Ideal) (φ := φ) (up2 X) = up2 fun r k => (Real.sqrt (X r k))⁻¹ := by
  funext i
  exact rsqrt_coe (h _ _)

/-- The pointwise operations of the host on matrices of reals. -/
theorem host2 : (∀ X : Fin a → Fin b → ℝ, Host.negf (F := Ideal) (φ := φ) (up2 X) = up2 fun r k => -X r k)
    ∧ (∀ X : Fin a → Fin b → ℝ, Host.exp (F := Ideal) (φ := φ) (up2 X) = up2 fun r k => Real.exp (X r k)) := by
  refine ⟨fun X => ?_, fun X => ?_⟩ <;> funext i
  · exact (EReal.coe_neg _).symm
  · exact Ideal.exp_coe _

/-- The host's quotient of matrices of reals whose divisor has no zero. -/
theorem hostDiv2 (X Y : Fin a → Fin b → ℝ) (h : ∀ r k, Y r k ≠ 0) :
    Host.divf (F := Ideal) (φ := φ) (up2 X) (up2 Y) = up2 fun r k => X r k / Y r k := by
  funext i
  exact div_coe _ (h _ _)

/-- The host's reciprocal square root of a matrix of positive reals. -/
theorem hostRsqrt2 (X : Fin a → Fin b → ℝ) (h : ∀ r k, 0 < X r k) :
    Host.rsqrt (F := Ideal) (φ := φ) (up2 X) = up2 fun r k => (Real.sqrt (X r k))⁻¹ := by
  funext i
  exact rsqrt_coe (h _ _)

/-- The kernel's sum of each row. -/
theorem rowSum (X : Fin a → Fin b → ℝ) (h : (⟨2, ![a, b]⟩ : Shape).Reduces [1] ⟨1, ![a]⟩) :
    multiReduction (F := Ideal) (φ := .f32) .add (no_index [1]) (no_index ⟨1, ![a]⟩) (up2 X) 0x00000000#32 h (.inl rfl) rfl = up1 fun r => ∑ k, X r k := by
  funext j
  exact (Ideal.multiReduction_add_single _ _ h _ _ j).trans (coe_sum _ _)

/-- The kernel's sum of each column. -/
theorem colSum (X : Fin a → Fin b → ℝ) (h : (⟨2, ![a, b]⟩ : Shape).Reduces [0] ⟨1, ![b]⟩) :
    multiReduction (F := Ideal) (φ := .f32) .add (no_index [0]) (no_index ⟨1, ![b]⟩) (up2 X) 0x00000000#32 h (.inl rfl) rfl = up1 fun k => ∑ r, X r k := by
  funext j
  exact (Ideal.multiReduction_add_single _ _ h _ _ j).trans (coe_sum _ _)

/-- The kernel's changes of layout of vectors and matrices of reals. -/
theorem lay2 : (∀ (X : Fin a → ℝ) (h : (⟨1, ![a]⟩ : Shape).ShapeCasts ⟨2, ![a, 1]⟩), shapeCast (no_index ⟨2, ![a, 1]⟩) (up1 X) h = up2 fun r _ => X r)
    ∧ (∀ (X : Fin a → ℝ) (h : (⟨1, ![a]⟩ : Shape).ShapeCasts ⟨2, ![1, a]⟩), shapeCast (no_index ⟨2, ![1, a]⟩) (up1 X) h = up2 fun _ k => X k) := by
  refine ⟨fun X h => ?_, fun X h => ?_⟩
  · funext i
    rw [ValueIdx.eq_ix2 i]
    exact ValueIdx.shapeCast_a_a1_apply _ h _ _
  · funext i
    rw [ValueIdx.eq_ix2 i]
    exact ValueIdx.shapeCast_a_1a_apply _ h _ _
/-- A matrix cast to its own shape. -/
theorem castSelf (X : Fin a → Fin b → ℝ) (h : (⟨2, ![a, b]⟩ : Shape).ShapeCasts ⟨2, ![a, b]⟩) : shapeCast (no_index ⟨2, ![a, b]⟩) (up2 X) h = up2 X :=
  shapeCast_self _ h

/-- A column broadcast along rows. -/
theorem bcCol (X : Fin a → Fin 1 → ℝ) (h : (⟨2, ![a, 1]⟩ : Shape).Broadcasts ⟨2, ![a, b]⟩) :
    broadcastTo (no_index ⟨2, ![a, b]⟩) (up2 X) h = up2 fun r _ => X r 0 := by
  funext i
  rw [broadcastTo_apply (up2 X) h i (ValueIdx.ix2 (i 0) (0 : Fin 1)) fun ax => ?_]
  · rfl
  · match ax with
    | ⟨0, _⟩ =>
      show (i 0).val = if a = 1 then 0 else (i 0).val
      split
      · have := (i 0).isLt
        have h2 : (i 0).val < a := this
        omega
      · rfl
    | ⟨1, _⟩ => rfl

/-- A row broadcast along columns. -/
theorem bcRow (X : Fin 1 → Fin b → ℝ) (h : (⟨2, ![1, b]⟩ : Shape).Broadcasts ⟨2, ![a, b]⟩) :
    broadcastTo (no_index ⟨2, ![a, b]⟩) (up2 X) h = up2 fun _ k => X 0 k := by
  funext i
  rw [ValueIdx.eq_ix2 i]
  exact ValueIdx.broadcastTo_1b_ab_apply _ h _ _

/-- The host's sum of each row. -/
theorem hostRowSum (X : Fin a → Fin b → ℝ)
    (h : (⟨2, ![a, b]⟩ : Shape).ReducesTo [1] ⟨1, ![a]⟩) (hu : 0 < (⟨0, ![]⟩ : Shape).numel) :
    Host.reduceAdd (F := Ideal) (φ := φ) (up2 X) (up0 0) h hu = up1 fun r => ∑ k, X r k := by
  funext j
  rw [ValueIdx.hostReduceAdd_apply, Ideal.hostReduceAdd_single h ⟨h.1, Nat.one_pos, h.2⟩]
  exact (zero_add _).trans (coe_sum _ _)

/-- The host's sum of each column. -/
theorem hostColSum (X : Fin a → Fin b → ℝ)
    (h : (⟨2, ![a, b]⟩ : Shape).ReducesTo [0] ⟨1, ![b]⟩) (hu : 0 < (⟨0, ![]⟩ : Shape).numel) :
    Host.reduceAdd (F := Ideal) (φ := φ) (up2 X) (up0 0) h hu = up1 fun k => ∑ r, X r k := by
  funext j
  rw [ValueIdx.hostReduceAdd_apply, Ideal.hostReduceAdd_single h ⟨h.1, Nat.one_pos, h.2⟩]
  exact (zero_add _).trans (coe_sum _ _)

/-- An index of a unit axis is zero: the reading of a broadcast axis. -/
theorem unit_axis {n : ℕ} (i : Fin n) : i.val = if n = 1 then 0 else i.val := by
  split
  · have := i.isLt
    omega
  · rfl

/-- The host's broadcast of a scalar to a matrix. -/
theorem bcScalar (c : ℝ) (h : (⟨0, ![]⟩ : Shape).BroadcastsInDim ⟨2, ![a, b]⟩ ![]) : broadcastInDim (no_index ⟨2, ![a, b]⟩) (no_index ![]) h (up0 c) = up2 fun _ _ => c := rfl

/-- The host's broadcast of a vector along rows. -/
theorem bcVecRows (X : Fin a → ℝ) (h : (⟨1, ![a]⟩ : Shape).BroadcastsInDim ⟨2, ![a, b]⟩ ![0]) : broadcastInDim (no_index ⟨2, ![a, b]⟩) (no_index ![0]) h (up1 X) = up2 fun r _ => X r := by
  funext i
  rw [broadcastInDim_apply _ h (up1 X) i (ValueIdx.ix1 (i 0)) fun ax => ?_]
  · rfl
  · match ax with | ⟨0, _⟩ => exact unit_axis (n := a) (i 0)

/-- The host's broadcast of a vector along columns. -/
theorem bcVecCols (X : Fin b → ℝ) (h : (⟨1, ![b]⟩ : Shape).BroadcastsInDim ⟨2, ![a, b]⟩ ![1]) : broadcastInDim (no_index ⟨2, ![a, b]⟩) (no_index ![1]) h (up1 X) = up2 fun _ k => X k := by
  funext i
  rw [broadcastInDim_apply _ h (up1 X) i (ValueIdx.ix1 (i 1)) fun ax => ?_]
  · rfl
  · match ax with | ⟨0, _⟩ => exact unit_axis (n := b) (i 1)

/-- The host's broadcast of a one-column matrix along rows. -/
theorem hostBcCol (X : Fin a → Fin 1 → ℝ) (h : (⟨2, ![a, 1]⟩ : Shape).BroadcastsInDim ⟨2, ![a, b]⟩ ![0, 1]) : broadcastInDim (no_index ⟨2, ![a, b]⟩) (no_index ![0, 1]) h (up2 X) = up2 fun r _ => X r 0 := by
  funext i
  rw [broadcastInDim_apply _ h (up2 X) i (ValueIdx.ix2 (i 0) (0 : Fin 1)) fun ax => ?_]
  · rfl
  · match ax with
    | ⟨0, _⟩ => exact unit_axis (n := a) (i 0)
    | ⟨1, _⟩ => rfl

/-- The host's broadcast of a one-row matrix along columns. -/
theorem hostBcRow (X : Fin 1 → Fin b → ℝ) (h : (⟨2, ![1, b]⟩ : Shape).BroadcastsInDim ⟨2, ![a, b]⟩ ![0, 1]) : broadcastInDim (no_index ⟨2, ![a, b]⟩) (no_index ![0, 1]) h (up2 X) = up2 fun _ k => X 0 k := by
  funext i
  rw [broadcastInDim_apply _ h (up2 X) i (ValueIdx.ix2 (0 : Fin 1) (i 1)) fun ax => ?_]
  · rfl
  · match ax with
    | ⟨0, _⟩ => rfl
    | ⟨1, _⟩ => exact unit_axis (n := b) (i 1)

end

/-! ## Constants -/

/-- The stabiliser the norms add to the variance: the value of the float word nearest 1e-6. -/
def eps : ℝ := 8796093 / 2 ^ 43

theorem eps_pos : 0 < eps := by unfold eps; positivity

/-- The float words the programs use, as reals. -/
theorem words : Ideal.ofBits .f32 0x00000000#32 = ((0 : ℝ) : EReal) ∧ Ideal.ofBits .f32 0x3F800000#32 = ((1 : ℝ) : EReal)
    ∧ Ideal.ofBits .f32 0x40000000#32 = ((2 : ℝ) : EReal) ∧ Ideal.ofBits .f32 0x3F000000#32 = ((1 / 2 : ℝ) : EReal)
    ∧ Ideal.ofBits .f32 0xBF000000#32 = ((-(1 / 2) : ℝ) : EReal) ∧ Ideal.ofBits .f32 0x43800000#32 = ((256 : ℝ) : EReal)
    ∧ Ideal.ofBits .f32 0x44800000#32 = ((1024 : ℝ) : EReal) ∧ Ideal.ofBits .f32 0x358637BD#32 = ((eps : ℝ) : EReal) := by
  unfold eps
  refine ⟨?_, ?_, ?_, ?_, ?_, ?_, ?_, ?_⟩ <;>
    simp [Ideal.ofBits, Ideal.ieee, -EReal.coe_mul, -EReal.coe_neg] <;> norm_num [← EReal.coe_neg]

/-- A constant of the kernel. -/
theorem scalar_word (w : BitVec 32) : (Scalar.ofBits (F := Ideal) .f32 w) = Ideal.ofBits .f32 w := rfl

/-- A scalar constant of the host whose word is the real `c`. -/
theorem const_up0 (w : BitVec 32) (c : ℝ) (h : Ideal.ofBits .f32 w = (c : EReal)) :
    constant (F := Ideal) (⟨0, ![]⟩ : Shape) .f32 w = up0 c := funext fun _ => h

/-- The host's scalar constants the programs use. -/
theorem consts : constant (F := Ideal) (⟨0, ![]⟩ : Shape) .f32 0x00000000#32 = up0 0 ∧ constant (F := Ideal) (⟨0, ![]⟩ : Shape) .f32 0x3F800000#32 = up0 1
    ∧ constant (F := Ideal) (⟨0, ![]⟩ : Shape) .f32 0x40000000#32 = up0 2 ∧ constant (F := Ideal) (⟨0, ![]⟩ : Shape) .f32 0x3F000000#32 = up0 (1 / 2)
    ∧ constant (F := Ideal) (⟨0, ![]⟩ : Shape) .f32 0xBF000000#32 = up0 (-(1 / 2)) ∧ constant (F := Ideal) (⟨0, ![]⟩ : Shape) .f32 0x43800000#32 = up0 256
    ∧ constant (F := Ideal) (⟨0, ![]⟩ : Shape) .f32 0x44800000#32 = up0 1024 ∧ constant (F := Ideal) (⟨0, ![]⟩ : Shape) .f32 0x358637BD#32 = up0 eps := by
  obtain ⟨h0, h1, h2, h3, h4, h5, h6, h7⟩ := words
  exact ⟨const_up0 _ _ h0, const_up0 _ _ h1, const_up0 _ _ h2, const_up0 _ _ h3, const_up0 _ _ h4, const_up0 _ _ h5, const_up0 _ _ h6, const_up0 _ _ h7⟩

/-- A conjunction of two bits is set where both are. -/
theorem and_one {s : Shape} (x y : IVec s 1) (j : s.Idx) (h : andi x y j = 1#1) : x j = 1#1 ∧ y j = 1#1 := by
  have h' : x j &&& y j = 1#1 := h
  generalize x j = u at h' ⊢
  generalize y j = v at h' ⊢
  revert u v
  decide

/-- An array of two axes compared finite entry by entry is `up2` of real numbers. -/
theorem real2 {a b : ℕ} (X : FVec Ideal ⟨2, ![a, b]⟩ .f32) (hb : (⟨0, ![]⟩ : Shape).BroadcastsInDim ⟨2, ![a, b]⟩ ![])
    (hr : (⟨2, ![a, b]⟩ : Shape).ReducesTo [0, 1] ⟨0, ![]⟩) {v : Shape} (w : IVec v 1) (hu : 0 < v.numel) (j : (⟨0, ![]⟩ : Shape).Idx)
    (h : Host.reduce IntOp.andi (cmpf .olt (Host.absf X) (broadcastInDim ⟨2, ![a, b]⟩ ![] hb (constant (⟨0, ![]⟩ : Shape) .f32 0x7F800000#32))) w hr hu j = 1#1) :
    ∃ f, X = up2 f := by
  haveI : Subsingleton (⟨0, ![]⟩ : Shape).Idx := ⟨fun _ _ => funext fun i => i.elim0⟩
  obtain ⟨f, rfl⟩ := real_of_all X hb hr w hu j h
  exact ⟨_, eq_up2 f⟩

/-- An array of one axis compared finite entry by entry is `up1` of real numbers. -/
theorem real1 {a : ℕ} (X : FVec Ideal ⟨1, ![a]⟩ .f32) (hb : (⟨0, ![]⟩ : Shape).BroadcastsInDim ⟨1, ![a]⟩ ![])
    (hr : (⟨1, ![a]⟩ : Shape).ReducesTo [0] ⟨0, ![]⟩) {v : Shape} (w : IVec v 1) (hu : 0 < v.numel) (j : (⟨0, ![]⟩ : Shape).Idx)
    (h : Host.reduce IntOp.andi (cmpf .olt (Host.absf X) (broadcastInDim ⟨1, ![a]⟩ ![] hb (constant (⟨0, ![]⟩ : Shape) .f32 0x7F800000#32))) w hr hu j = 1#1) :
    ∃ f, X = up1 f := by
  haveI : Subsingleton (⟨0, ![]⟩ : Shape).Idx := ⟨fun _ _ => funext fun i => i.elim0⟩
  obtain ⟨f, rfl⟩ := real_of_all X hb hr w hu j h
  exact ⟨_, eq_up1 f⟩

/-- The sum over tiles of the sums over a tile's rows is the sum over all rows. -/
theorem tile_sum {N n L : ℕ} (hL : N * n = L) (row : Fin N → Fin n → Fin L) (hrow : ∀ t r, (row t r).val = t.val * n + r.val)
    (f : Fin L → ℝ) : ∑ t : Fin N, ((∑ r : Fin n, f (row t r) : ℝ) : EReal) = ((∑ r : Fin L, f r : ℝ) : EReal) := by
  rw [coe_sum]
  refine congrArg _ ?_
  rw [← Fintype.sum_prod_type' (f := fun t r => f (row t r))]
  subst hL
  refine Fintype.sum_equiv finProdFinEquiv _ _ fun x => congrArg f (Fin.ext ?_)
  rw [hrow]
  simp [finProdFinEquiv, Nat.mul_comm, Nat.add_comm]

end Cert.Lift

end
-- ==== Proof.LayerNorm.lean ====
/- The LayerNorm of a row of 256 reals and its gradient, as real functions, and the algebra between the two spellings of the gradient. -/
module

public import proofs.«01_k».proof.Proof.Lift

@[expose] public section

noncomputable section

namespace Cert.LayerNorm

open Cert.Lift

/-- The mean of a row. -/
def mean (x : Fin 256 → ℝ) : ℝ := (∑ k, x k) / 256
/-- A row less its mean. -/
def cen (x : Fin 256 → ℝ) (k : Fin 256) : ℝ := x k - mean x
/-- The variance of a row plus the stabiliser. -/
def var (x : Fin 256 → ℝ) : ℝ := (∑ k, cen x k * cen x k) / 256 + eps
/-- One over the standard deviation. -/
def rstd (x : Fin 256 → ℝ) : ℝ := (Real.sqrt (var x))⁻¹
/-- The normalised row. -/
def xh (x : Fin 256 → ℝ) (k : Fin 256) : ℝ := cen x k * rstd x
/-- The normalised row times the gain plus the bias. -/
def aff (x g b : Fin 256 → ℝ) (k : Fin 256) : ℝ := xh x k * g k + b k
/-- The logistic function. -/
def sig (z : ℝ) : ℝ := 1 / (1 + Real.exp (-z))
/-- The derivative of `z ↦ z * sig z`. -/
def dsilu (z : ℝ) : ℝ := sig z * (1 + z * (1 - sig z))
/-- The gradient of a normalised row with respect to the row, for the cotangent `e`. -/
def back (x e : Fin 256 → ℝ) (k : Fin 256) : ℝ := rstd x * (e k - mean e - xh x k * mean fun j => e j * xh x j)

theorem var_pos (x : Fin 256 → ℝ) : 0 < var x :=
  add_pos_of_nonneg_of_pos (div_nonneg (Finset.sum_nonneg fun _ _ => mul_self_nonneg _) (by norm_num)) eps_pos

theorem one_add_exp_ne (z : ℝ) : 1 + Real.exp z ≠ 0 := by positivity

/-- The centred row sums to zero. -/
theorem sum_cen (x : Fin 256 → ℝ) : ∑ k, cen x k = 0 := by
  unfold cen mean
  rw [Finset.sum_sub_distrib, Finset.sum_const, Finset.card_univ, Fintype.card_fin, nsmul_eq_mul]
  norm_num
  ring

/-- The square of the reciprocal standard deviation is the reciprocal variance. -/
theorem rstd_mul (x : Fin 256 → ℝ) : rstd x * rstd x = 1 / var x := by
  unfold rstd
  rw [← mul_inv, Real.mul_self_sqrt (var_pos x).le, one_div]

/-- The gradient as reverse-mode differentiation of the four lines of the norm writes it: the part through the quotient,
the part through the variance (`q`, which meets twice the centred row) and minus the mean of both (through the mean). -/
theorem back_eq (x e : Fin 256 → ℝ) (k : Fin 256) (q : ℝ) (hq : q = (∑ j, cen x j * e j) * (-(1 / 2) * (rstd x / var x)) / 256) :
    e k * rstd x + q * (2 * cen x k) + ((∑ j, -(e j * rstd x)) + ∑ j, -(q * (2 * cen x j))) / 256 = back x e k := by
  have h1 : ∑ j, -(q * (2 * cen x j)) = 0 := by
    rw [Finset.sum_neg_distrib, ← Finset.mul_sum, ← Finset.mul_sum, sum_cen]
    ring
  have h2 : ∑ j, -(e j * rstd x) = -((∑ j, e j) * rstd x) := by rw [Finset.sum_neg_distrib, ← Finset.sum_mul]
  have h3 : mean (fun j => e j * xh x j) = (∑ j, cen x j * e j) * rstd x / 256 := by
    unfold mean xh
    rw [Finset.sum_mul]
    exact congrArg (· / 256) (Finset.sum_congr rfl fun j _ => by ring)
  have h4 : rstd x / var x = rstd x * (rstd x * rstd x) := by rw [rstd_mul]; ring
  rw [h1, h2, hq, h4]
  unfold back
  rw [h3]
  unfold xh mean
  ring

end Cert.LayerNorm

end
-- ==== Proof.NormKernel.lean ====
/- The values the LayerNorm-and-SiLU gradient kernel computes from one tile of rows, on reals. -/
module

public import proofs.«01_k».proof.Proof.LayerNorm
public import proofs.«01_k».proof.Proof.Gen.NormIdeal.Skeleton

@[expose] public section

noncomputable section

namespace Cert.NormTile

open Idealize.ShloMosaic Cert.Lift Cert.LayerNorm Cert.NormIdeal Cert.NormIdeal.Gen

variable (X Y E : Fin 512 → Fin 256 → ℝ) (G B : Fin 1 → Fin 256 → ℝ)

/-- The centred rows. -/
theorem pay1 : k0_pay1 (F := Ideal) (up2 X) = up2 fun r k => cen (X r) k := by
  unfold k0_pay1
  simp (disch := norm_num) only [rowSum, lay2, castSelf, vec2, words, scalar_word, splat2, bcCol, divf2]
  rfl

/-- The reciprocal standard deviations. -/
theorem pay2 : k0_pay2 (F := Ideal) (up2 X) = up2 fun r _ => rstd (X r) := by
  unfold k0_pay2
  simp (disch := norm_num) only [pay1, rowSum, lay2, castSelf, vec2, words, scalar_word, splat2, bcCol, divf2]
  exact rsqrt2 _ fun r _ => var_pos (X r)

/-- The normalised rows. -/
theorem pay3 : k0_pay3 (F := Ideal) (up2 X) = up2 fun r k => xh (X r) k := by
  unfold k0_pay3
  simp only [pay1, pay2, vec2, bcCol]
  rfl

/-- The cotangent of the normalised, scaled and shifted rows. -/
theorem pay4 : k0_pay4 (F := Ideal) (up2 X) (up2 G) (up2 B) (up2 Y) = up2 fun r k => Y r k * dsilu (aff (X r) (G 0) (B 0) k) := by
  unfold k0_pay4
  simp (disch := exact fun _ _ => one_add_exp_ne _) only [pay3, lay2, castSelf, vec2, words, scalar_word, splat2, bcRow, divf2, zero_sub]
  rfl

/-- The gradient with respect to the rows. -/
theorem pay5 : k0_pay5 (F := Ideal) (up2 fun r _ => rstd (X r)) (up2 fun r k => xh (X r) k) (up2 E) (up2 G)
    = up2 fun r k => back (X r) (fun j => E r j * G 0 j) k := by
  unfold k0_pay5
  simp (disch := norm_num) only [rowSum, lay2, castSelf, vec2, words, scalar_word, splat2, bcCol, bcRow, divf2]
  rfl

/-- The zero row both sums start from. -/
theorem pay6 : k0_pay6 (F := Ideal) = up2 fun _ _ => 0 := by
  unfold k0_pay6
  simp only [words, scalar_word, splat2, vec2]

/-- The other zero row. -/
theorem pay7 : k0_pay7 (F := Ideal) = up2 fun _ _ => 0 := by
  unfold k0_pay7
  simp only [words, scalar_word, splat2, vec2]

/-- A tile's addition to the gradient of the gain. -/
theorem pay8 (w : Vec Ideal S1x256 .f32) (i : S1x256.Idx) : k0_pay8 (F := Ideal) (up2 X) (up2 E) w i = w i + up2 (fun (_ : Fin 1) k => ∑ r, E r k * X r k) i := by
  unfold k0_pay8
  simp only [lay2, shapeCast_self, vec2, colSum]
  rfl

/-- A tile's addition to the gradient of the bias. -/
theorem pay9 (w : Vec Ideal S1x256 .f32) (i : S1x256.Idx) : k0_pay9 (F := Ideal) (up2 E) w i = w i + up2 (fun (_ : Fin 1) k => ∑ r, E r k) i := by
  unfold k0_pay9
  simp only [lay2, shapeCast_self, colSum]
  rfl

end Cert.NormTile

end
-- ==== Proof.NormFinal.lean ====
/- The arrays the LayerNorm-and-SiLU gradient kernel leaves, on reals. -/
module

public import proofs.«01_k».proof.Proof.NormKernel
public import proofs.«01_k».proof.Proof.Gen.NormIdeal.Value
public import Idealize.ShloMosaic.Lib.Claim
public import Idealize.ShloMosaic.Lib.Pipeline.ValueKit

@[expose] public section

set_option maxRecDepth 16384

noncomputable section

namespace Cert.NormFinal

open Idealize.ShloMosaic Idealize.ShloMosaic.TcCoe Idealize.SL.Sem Cert.Lift Cert.LayerNorm Cert.NormIdeal Cert.NormIdeal.Gen
open Idealize.ShloMosaic.Pipeline (Dat)

variable (m : (ℓ : Loc nD τ sig) → Buf (Elt Ideal) ℓ) (c : Dev nD)
variable (Y X : Fin 8192 → Fin 256 → ℝ) (G B : Fin 256 → ℝ)

/-- Which block each window stages at a point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] :=
  (by decide +kernel : ∀ t : Fin grid0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0])

/-- Row `r` of point `t`'s tile. -/
def row (t : Fin cfg0.N) (r : Fin 512) : Fin 8192 := ⟨t.val * 512 + r.val, by have h := t.isLt; have := r.isLt; have h2 : cfg0.N = 16 := N_0; omega⟩

theorem blk0 (h : m ((c : Thread nD τ).loc main_arg0) = up2 Y) (t : Fin cfg0.N) : iblk m c 0 t = up2 fun r k => Y (row t r) k := by
  funext y
  refine Eq.trans (b := m ((c : Thread nD τ).loc main_arg0) (ValueIdx.ix2 (row t (y 0)) (y 1))) ?_ (congrFun h _)
  blk_point [iblk, V, idx t, row]

theorem blk1 (h : m ((c : Thread nD τ).loc main_arg1) = up2 X) (t : Fin cfg0.N) : iblk m c 1 t = up2 fun r k => X (row t r) k := by
  funext y
  refine Eq.trans (b := m ((c : Thread nD τ).loc main_arg1) (ValueIdx.ix2 (row t (y 0)) (y 1))) ?_ (congrFun h _)
  blk_point [iblk, V, idx t, row]

theorem blk2 (h : m ((c : Thread nD τ).loc main_arg2) = up1 G) (t : Fin cfg0.N) : iblk m c 2 t = up2 fun _ k => G k := by
  funext y
  refine Eq.trans (b := m ((c : Thread nD τ).loc main_arg2) (ValueIdx.ix1 (y 1))) ?_ (congrFun h _)
  blk_point [iblk, V, idx t]

theorem blk3 (h : m ((c : Thread nD τ).loc main_arg3) = up1 B) (t : Fin cfg0.N) : iblk m c 3 t = up2 fun _ k => B k := by
  funext y
  refine Eq.trans (b := m ((c : Thread nD τ).loc main_arg3) (ValueIdx.ix1 (y 1))) ?_ (congrFun h _)
  blk_point [iblk, V, idx t]

/-- The cotangent of the normalised, scaled and shifted row. -/
abbrev dn (r : Fin 8192) (k : Fin 256) : ℝ := Y r k * dsilu (aff (X r) G B k)

variable (h0 : m ((c : Thread nD τ).loc main_arg0) = up2 Y) (h1 : m ((c : Thread nD τ).loc main_arg1) = up2 X)
  (h2 : m ((c : Thread nD τ).loc main_arg2) = up1 G) (h3 : m ((c : Thread nD τ).loc main_arg3) = up1 B)

include h0 h1 h2 h3

/-- The gradient of the rows. -/
theorem final4 : (dats m 0 c).arrAt 4 cfg0.N = up2 fun r k => back (X r) (fun j => dn Y X G B r j * G j) k := by
  refine (dats m 0 c).arrAt_eq_of_covers 4 _ (by decide +kernel) fun t hf y => ?_
  blk_simp
  rw [after0_4]
  by_cases h : t.val % 16 = 0
  · rw [outsAt0_A m c t h]
    frame_out
    rw [blk0 m c Y h0, blk1 m c X h1, blk2 m c G h2, blk3 m c B h3, NormTile.pay2, NormTile.pay3, NormTile.pay4, NormTile.pay5]
    refine Eq.trans (b := up2 (fun r k => back (X r) (fun j => dn Y X G B r j * G j) k) (ValueIdx.ix2 (row t (y 0)) (y 1))) rfl ?_
    blk_point [idx t, row]
  · rw [outsAt0_B m c t h]
    frame_out
    rw [blk0 m c Y h0, blk1 m c X h1, blk2 m c G h2, blk3 m c B h3, NormTile.pay2, NormTile.pay3, NormTile.pay4, NormTile.pay5]
    refine Eq.trans (b := up2 (fun r k => back (X r) (fun j => dn Y X G B r j * G j) k) (ValueIdx.ix2 (row t (y 0)) (y 1))) rfl ?_
    blk_point [idx t, row]

/-- The gradient of the gain. -/
theorem final5 : (dats m 0 c).arrAt 5 cfg0.N = up2 fun _ k => ∑ r, xh (X r) k * dn Y X G B r k := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0)
    (fun t => up2 fun _ k => ∑ r, dn Y X G B (row t r) k * xh (X (row t r)) k)
    (fun t h j => by
      rw [outsAt0_A m c t h]; frame_out
      rw [blk0 m c Y h0, blk1 m c X h1, blk2 m c G h2, blk3 m c B h3, NormTile.pay3, NormTile.pay4, NormTile.pay6, NormTile.pay8]
      rfl)
    (fun t h j => by
      rw [outsAt0_B m c t h]; frame_out
      rw [blk0 m c Y h0, blk1 m c X h1, blk2 m c G h2, blk3 m c B h3, NormTile.pay3, NormTile.pay4, NormTile.pay8])
    (le_of_eq N_0) t0_15 rfl j, zero_add]
  refine (tile_sum (congrArg (· * 512) N_0) row (fun _ _ => rfl) fun r => dn Y X G B r (j 1) * xh (X r) (j 1)).trans ?_
  exact congrArg _ (Finset.sum_congr rfl fun r _ => mul_comm _ _)

/-- The gradient of the bias. -/
theorem final6 : (dats m 0 c).arrAt 6 cfg0.N = up2 fun _ k => ∑ r, dn Y X G B r k := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0)
    (fun t => up2 fun _ k => ∑ r, dn Y X G B (row t r) k)
    (fun t h j => by
      rw [outsAt0_A m c t h]; frame_out
      rw [blk0 m c Y h0, blk1 m c X h1, blk2 m c G h2, blk3 m c B h3, NormTile.pay4, NormTile.pay7, NormTile.pay9]
      rfl)
    (fun t h j => by
      rw [outsAt0_B m c t h]; frame_out
      rw [blk0 m c Y h0, blk1 m c X h1, blk2 m c G h2, blk3 m c B h3, NormTile.pay4, NormTile.pay9])
    (le_of_eq N_0) t0_15 rfl j, zero_add]
  exact tile_sum (congrArg (· * 512) N_0) row (fun _ _ => rfl) fun r => dn Y X G B r (j 1)

end Cert.NormFinal

end
-- ==== Proof.NormRef.lean ====
/- The values of the LayerNorm-and-SiLU reference, one group of lines at a time, on reals. -/
module

public import proofs.«01_k».proof.Proof.LayerNorm
public import proofs.«01_k».proof.Proof.Gen.NormRefIdeal.Read

@[expose] public section

noncomputable section

namespace Cert.NormRef

open Idealize.ShloMosaic Cert.Lift Cert.LayerNorm Cert.NormRefIdeal Cert.NormRefIdeal.Gen Cert.NormRefIdeal.Read

variable (Y X : Fin 8192 → Fin 256 → ℝ) (G B : Fin 256 → ℝ)

/-- The cotangent of the normalised, scaled and shifted row. -/
abbrev dn (r : Fin 8192) (k : Fin 256) : ℝ := Y r k * dsilu (aff (X r) G B k)

/-- The rows' means. -/
theorem mean_eq : val_main_v3 (F := Ideal) (up2 X) = up2 fun r _ => mean (X r) := by
  unfold val_main_v3 val_main_v2 val_main_v1 val_main_v0 val_main_cst val_main_cst_0
  simp (disch := norm_num) only [consts, hostRowSum, bcVecRows, bcScalar, hostDiv2]
  rfl

/-- The centred rows. -/
theorem cen_eq : val_main_v5 (F := Ideal) (up2 X) = up2 fun r k => cen (X r) k := by
  unfold val_main_v5 val_main_v4
  simp only [mean_eq, hostBcCol, vec2]
  rfl

/-- The centred rows, the second time the program forms them. -/
theorem cen_eq' : val_main_v14 (F := Ideal) (up2 X) = up2 fun r k => cen (X r) k := cen_eq X

/-- The variances with the stabiliser. -/
theorem var_eq : val_main_v16 (F := Ideal) (up2 X) = up2 fun r _ => var (X r) := by
  unfold val_main_v16 val_main_v15 val_main_v12 val_main_v11 val_main_v10 val_main_v9 val_main_v6 val_main_cst_2 val_main_cst_3 val_main_cst_4
  simp (disch := norm_num) only [cen_eq, consts, vec2, hostRowSum, bcVecRows, bcScalar, hostDiv2]
  rfl

/-- The reciprocal standard deviations. -/
theorem rstd_eq : val_main_v17 (F := Ideal) (up2 X) = up2 fun r _ => rstd (X r) := by
  unfold val_main_v17
  rw [var_eq]
  exact hostRsqrt2 _ fun r _ => var_pos (X r)

/-- The normalised rows. -/
theorem xh_eq : val_main_v22 (F := Ideal) (up2 X) = up2 fun r k => xh (X r) k := by
  unfold val_main_v22 val_main_v21
  simp only [cen_eq', rstd_eq, hostBcCol, vec2]
  rfl

/-- The normalised, scaled and shifted rows. -/
theorem aff_eq : val_main_v28 (F := Ideal) (up2 X) (up1 G) (up1 B) = up2 fun r k => aff (X r) G B k := by
  unfold val_main_v28 val_main_v27 val_main_v26 val_main_v25 val_main_v24 val_main_v23
  simp only [xh_eq, bcVecCols, hostBcRow, vec2]
  rfl

/-- The logistic function of them. -/
theorem sig_eq : val_main_v29_2 (F := Ideal) (up2 X) (up1 G) (up1 B) = up2 fun r k => sig (aff (X r) G B k) := by
  unfold val_main_v29_2 val_main_call0_v4 val_main_call0_cst_0 val_main_call0_v3 val_main_call0_v2 val_main_call0_v1 val_main_call0_v0 val_main_call0_cst
  simp (disch := exact fun _ _ => one_add_exp_ne _) only [aff_eq, consts, bcScalar, vec2, host2, hostDiv2]
  rfl

/-- The cotangent of them. -/
theorem dn_eq : val_main_v30 (F := Ideal) (up2 Y) (up2 X) (up1 G) (up1 B) = up2 (dn Y X G B) := by
  unfold val_main_v30 val_main_call1_v2 val_main_call1_v1 val_main_call1_v0 val_main_v29_1 val_main_call0_v7 val_main_call0_v6 val_main_call0_cst_1
  simp only [sig_eq, aff_eq, consts, bcScalar, vec2]
  refine congrArg up2 (funext fun r => funext fun k => ?_)
  unfold dn dsilu
  ring

/-- The gradient of the bias. -/
theorem gb_eq : val_main_v65 (F := Ideal) (up2 Y) (up2 X) (up1 G) (up1 B) = up2 fun _ k => ∑ r, dn Y X G B r k := by
  unfold val_main_v65 val_main_v33 val_main_v32 val_main_v31 val_main_cst_6 val_main_cst_7
  simp only [dn_eq, consts, hostColSum, lay2, bcVecCols, Fin.sum_univ_one]

/-- The gradient of the gain. -/
theorem gg_eq : val_main_v64 (F := Ideal) (up2 Y) (up2 X) (up1 G) (up1 B) = up2 fun _ k => ∑ r, xh (X r) k * dn Y X G B r k := by
  unfold val_main_v64 val_main_v39 val_main_v36 val_main_v35 val_main_v34 val_main_cst_8 val_main_cst_9
  simp only [dn_eq, xh_eq, consts, hostColSum, lay2, bcVecCols, vec2, Fin.sum_univ_one]

/-- The cotangent of the normalised rows. -/
theorem e_eq : val_main_v38 (F := Ideal) (up2 Y) (up2 X) (up1 G) (up1 B) = up2 fun r k => dn Y X G B r k * G k := by
  unfold val_main_v38 val_main_v37 val_main_v23
  simp only [dn_eq, bcVecCols, hostBcRow, vec2]

/-- Its part through the quotient. -/
theorem quot_eq : val_main_v44 (F := Ideal) (up2 Y) (up2 X) (up1 G) (up1 B) = up2 fun r k => dn Y X G B r k * G k * rstd (X r) := by
  unfold val_main_v44 val_main_v43
  simp only [e_eq, rstd_eq, hostBcCol, vec2]

/-- Its part through the variance. -/
theorem vpart_eq : val_main_v53 (F := Ideal) (up2 Y) (up2 X) (up1 G) (up1 B)
    = up2 fun r k => (∑ j, cen (X r) j * (dn Y X G B r j * G j)) * (-(1 / 2) * (rstd (X r) / var (X r))) / 256 * (2 * cen (X r) k) := by
  have h18 : val_main_v18 (F := Ideal) (up2 X) = up2 fun r _ => rstd (X r) / var (X r) := by
    unfold val_main_v18
    rw [rstd_eq, var_eq]
    exact hostDiv2 _ _ fun r _ => (var_pos (X r)).ne'
  unfold val_main_v53 val_main_v52 val_main_v51 val_main_v50 val_main_v49 val_main_v45 val_main_v42 val_main_v41 val_main_v40 val_main_v20 val_main_v19
    val_main_v8 val_main_v7 val_main_cst_1 val_main_cst_5 val_main_cst_10 val_main_cst_12 val_main_cst_13
  simp (disch := norm_num) only [e_eq, cen_eq, cen_eq', h18, consts, bcScalar, bcVecRows, hostRowSum, lay2, vec2, hostDiv2, Fin.sum_univ_one]

/-- The gradient of the rows. -/
theorem dc_eq : val_main_v63 (F := Ideal) (up2 Y) (up2 X) (up1 G) (up1 B) = up2 fun r k => back (X r) (fun j => dn Y X G B r j * G j) k := by
  unfold val_main_v63 val_main_v62 val_main_v61 val_main_v60 val_main_v59 val_main_v58 val_main_v57 val_main_v56 val_main_v55 val_main_v54
    val_main_v48 val_main_v47 val_main_v46 val_main_cst_11 val_main_cst_14 val_main_cst_15 val_main_cst_16
  simp (disch := norm_num) only [quot_eq, vpart_eq, consts, bcScalar, bcVecRows, hostRowSum, lay2, vec2, host2, hostDiv2, Fin.sum_univ_one]
  exact congrArg up2 (funext fun r => funext fun k => back_eq (X r) (fun j => dn Y X G B r j * G j) k _ rfl)

end Cert.NormRef

end
-- ==== Proof.NormClaim.lean ====
module

public import proofs.«01_k».proof.Defs
public import proofs.«01_k».proof.Proof.NormFinal
public import proofs.«01_k».proof.Proof.NormRef
public import proofs.«01_k».proof.Proof.Gen.Norm.Frame
public import proofs.«01_k».proof.Proof.Gen.NormIdeal.Frame
public import proofs.«01_k».proof.Proof.Gen.NormRefIdeal.Run
public import proofs.«01_k».proof.Proof.Gen.Pre_norm_finite

@[expose] public section

set_option maxRecDepth 16384

noncomputable section

namespace Cert.NormClaim

open Idealize.ShloMosaic Idealize.SL.Sem Cert.Lift Cert.LayerNorm

/-- The precondition says that the four arguments hold real numbers only. -/
theorem real_args (a0 a1 : Vec Ideal ⟨2, ![8192, 256]⟩ .f32) (a2 a3 : Vec Ideal ⟨1, ![256]⟩ .f32) (j : (⟨0, ![]⟩ : Shape).Idx)
    (h : Cert.Pre_norm_finite.fn (F := Ideal) a0 a1 a2 a3 j = 1#1) :
    (∃ Y, a0 = up2 Y) ∧ (∃ X, a1 = up2 X) ∧ (∃ G, a2 = up1 G) ∧ ∃ B, a3 = up1 B := by
  dsimp only [Cert.Pre_norm_finite.fn, Cert.Pre_norm_finite.fn_part1] at h
  obtain ⟨h, h3⟩ := and_one _ _ _ h
  obtain ⟨h, h2⟩ := and_one _ _ _ h
  obtain ⟨h0, h1⟩ := and_one _ _ _ h
  exact ⟨real2 _ _ _ _ _ _ h0, real2 _ _ _ _ _ _ h1, real1 _ _ _ _ _ _ h2, real1 _ _ _ _ _ _ h3⟩

/-- The reference runs to the end from every memory, and declares no semaphore. -/
theorem frame_ref : Cert.quiescent_NormRefIdeal := fun m ρ _ =>
  (θ_run Cert.NormRefIdeal.defs _ _).mono (fun r h => ⟨fun c => (h c).2.2.2, sem_eq_zero_of_no_sems (by decide) r.2⟩)
    (Cert.NormRefIdeal.Value.run (F := Ideal) m ρ)

/-- Over the reals the kernel's three results are the derivative of the plain forward lines. -/
theorem value : Cert.algebraic_NormIdeal_NormRefIdeal_pre_norm_finite := by
  pair_intro
  run_from Cert.NormIdeal.Gen.run_main m g
  run_from Cert.NormRefIdeal.Value.run m' g'
  all_goals
    obtain ⟨⟨Y, h0⟩, ⟨X, h1⟩, ⟨G, h2⟩, B, h3⟩ := real_args _ _ _ _ _ (congrFun (hpre c) ValueIdx.ix0)
    obtain ⟨e0, e1, e2, e3⟩ := hagree c
  · rw [NormRefIdeal.Read.val_main_v63_eq, e0, e1, e2, e3, h0, h1, h2, h3]
    exact (NormRef.dc_eq Y X G B).trans (NormFinal.final4 m c Y X G B h0 h1 h2 h3).symm
  · rw [NormRefIdeal.Read.val_main_v64_eq, e0, e1, e2, e3, h0, h1, h2, h3]
    exact (NormRef.gg_eq Y X G B).trans (NormFinal.final5 m c Y X G B h0 h1 h2 h3).symm
  · rw [NormRefIdeal.Read.val_main_v65_eq, e0, e1, e2, e3, h0, h1, h2, h3]
    exact (NormRef.gb_eq Y X G B).trans (NormFinal.final6 m c Y X G B h0 h1 h2 h3).symm

end Cert.NormClaim

end
-- ==== Proof.RmsNorm.lean ====
/- The root-mean-square norm of a row of 1024 reals and its gradient, as real functions, and the algebra between the two spellings of the gradient. -/
module

public import proofs.«01_k».proof.Proof.Lift

@[expose] public section

noncomputable section

namespace Cert.RmsNorm

open Cert.Lift

/-- The mean square of a row plus the stabiliser. -/
def ms (x : Fin 1024 → ℝ) : ℝ := (∑ k, x k * x k) / 1024 + eps
/-- One over its root. -/
def rr (x : Fin 1024 → ℝ) : ℝ := (Real.sqrt (ms x))⁻¹
/-- The normalised row. -/
def xh (x : Fin 1024 → ℝ) (k : Fin 1024) : ℝ := x k * rr x
/-- The normalised row times the gain. -/
def nrm (x g : Fin 1024 → ℝ) (k : Fin 1024) : ℝ := xh x k * g k
/-- The gradient of a normalised row with respect to the row, for the cotangent `e`. -/
def back (x e : Fin 1024 → ℝ) (k : Fin 1024) : ℝ := rr x * (e k - xh x k * ((∑ j, e j * xh x j) / 1024))

theorem ms_pos (x : Fin 1024 → ℝ) : 0 < ms x :=
  add_pos_of_nonneg_of_pos (div_nonneg (Finset.sum_nonneg fun _ _ => mul_self_nonneg _) (by norm_num)) eps_pos

theorem ms_ne (x : Fin 1024 → ℝ) : ms x ≠ 0 := (ms_pos x).ne'

/-- The square of the reciprocal root is the reciprocal mean square. -/
theorem rr_mul (x : Fin 1024 → ℝ) : rr x * rr x = 1 / ms x := by
  unfold rr
  rw [← mul_inv, Real.mul_self_sqrt (ms_pos x).le, one_div]

/-- The gradient as reverse-mode differentiation of the norm's lines writes it: the part through the quotient and, twice,
the part through the mean square. -/
theorem back_eq (x e : Fin 1024 → ℝ) (k : Fin 1024) (q : ℝ) (hq : q = (∑ j, x j * e j) * (-(1 / 2) * (rr x / ms x)) / 1024) :
    e k * rr x + x k * q + q * x k = back x e k := by
  have h3 : ∑ j, e j * xh x j = (∑ j, x j * e j) * rr x := by
    unfold xh
    rw [Finset.sum_mul]
    exact Finset.sum_congr rfl fun j _ => by ring
  have h4 : rr x / ms x = rr x * (rr x * rr x) := by rw [rr_mul]; ring
  rw [hq, h4]
  unfold back
  rw [h3]
  unfold xh
  ring

end Cert.RmsNorm

end
-- ==== Proof.LiftDot.lean ====
/- Matrix products, changes of float format and cuts of matrices of reals. -/
module

public import proofs.«01_k».proof.Proof.Lift
public import Idealize.ShloMosaic.Lib.KernelVsHost
public import Idealize.ShloMosaic.Lib.Pointwise.Contract
public import Idealize.ShloMosaic.Lib.Pointwise.Reduce
public import Idealize.ShloMosaic.Lib.Pipeline.Value
public import Idealize.ShloMosaic.Lib.ValueLayout

@[expose] public section

noncomputable section

namespace Cert.Lift

open Idealize.ShloMosaic

section

variable {a b n : ℕ} {φ φ₁ φ₂ : FTy}

/-- Which axes a product of two matrices contracts and keeps. -/
def Axes {sl sr so : Shape} (d : DotDims sl sr so) (x y : List (Fin sl.rank)) (z w : List (Fin sr.rank)) : Prop :=
  (d.lhsContracting, d.rhsContracting, d.lhsNonContracting, d.rhsNonContracting, d.lhsBatch, d.rhsBatch) = (x, z, y, w, [], [])

/-- The kernel's product `X Y` of matrices of reals. -/
theorem mmNN (d : DotDims ⟨2, ![a, n]⟩ ⟨2, ![n, b]⟩ ⟨2, ![a, b]⟩) (X : Fin a → Fin n → ℝ) (Y : Fin n → Fin b → ℝ) (h : Axes d [1] [0] [0] [1]) :
    matmul (F := Ideal) (φ₁ := φ₁) (φ₂ := φ₂) d none (up2 X) (up2 Y) (constant (no_index ⟨2, ![a, b]⟩) .f32 0x00000000#32) = up2 fun r k => ∑ l, X r l * Y l k := by
  obtain ⟨_, _, _, _, _, _, wf⟩ := d
  simp only [Axes, Prod.mk.injEq] at h
  obtain ⟨rfl, rfl, rfl, rfl, rfl, rfl⟩ := h
  funext j
  refine (Ideal.matmul_apply₁_of (a := 1) (K := n) _ rfl rfl (up2 X) (up2 Y) (constant (F := Ideal) (⟨2, ![a, b]⟩ : Shape) .f32 0x00000000#32) j (fun l : Fin n => ValueIdx.ix2 (j 0 : Fin a) l) (fun l : Fin n => ValueIdx.ix2 l (j 1 : Fin b)) (fun l => ?_) fun l => ?_).trans ?_
  · funext ax
    match ax with | ⟨0, _⟩ => rfl | ⟨1, _⟩ => rfl
  · funext ax
    match ax with | ⟨0, _⟩ => rfl | ⟨1, _⟩ => rfl
  · rw [show (constant (F := Ideal) (⟨2, ![a, b]⟩ : Shape) .f32 0x00000000#32) j = ((0 : ℝ) : EReal) from words.1, EReal.coe_zero, zero_add]
    exact coe_sum _ fun l => X (j 0) l * Y l (j 1)

/-- The kernel's product `X Yᵀ`. -/
theorem mmNT (d : DotDims ⟨2, ![a, n]⟩ ⟨2, ![b, n]⟩ ⟨2, ![a, b]⟩) (X : Fin a → Fin n → ℝ) (Y : Fin b → Fin n → ℝ) (h : Axes d [1] [0] [1] [0]) :
    matmul (F := Ideal) (φ₁ := φ₁) (φ₂ := φ₂) d none (up2 X) (up2 Y) (constant (no_index ⟨2, ![a, b]⟩) .f32 0x00000000#32) = up2 fun r k => ∑ l, X r l * Y k l := by
  obtain ⟨_, _, _, _, _, _, wf⟩ := d
  simp only [Axes, Prod.mk.injEq] at h
  obtain ⟨rfl, rfl, rfl, rfl, rfl, rfl⟩ := h
  funext j
  refine (Ideal.matmul_apply₁_of (a := 1) (K := n) _ rfl rfl (up2 X) (up2 Y) (constant (F := Ideal) (⟨2, ![a, b]⟩ : Shape) .f32 0x00000000#32) j (fun l : Fin n => ValueIdx.ix2 (j 0 : Fin a) l) (fun l : Fin n => ValueIdx.ix2 (j 1 : Fin b) l) (fun l => ?_) fun l => ?_).trans ?_
  · funext ax
    match ax with | ⟨0, _⟩ => rfl | ⟨1, _⟩ => rfl
  · funext ax
    match ax with | ⟨0, _⟩ => rfl | ⟨1, _⟩ => rfl
  · rw [show (constant (F := Ideal) (⟨2, ![a, b]⟩ : Shape) .f32 0x00000000#32) j = ((0 : ℝ) : EReal) from words.1, EReal.coe_zero, zero_add]
    exact coe_sum _ fun l => X (j 0) l * Y (j 1) l

/-- The kernel's product `Xᵀ Y`. -/
theorem mmTN (d : DotDims ⟨2, ![n, a]⟩ ⟨2, ![n, b]⟩ ⟨2, ![a, b]⟩) (X : Fin n → Fin a → ℝ) (Y : Fin n → Fin b → ℝ) (h : Axes d [0] [1] [0] [1]) :
    matmul (F := Ideal) (φ₁ := φ₁) (φ₂ := φ₂) d none (up2 X) (up2 Y) (constant (no_index ⟨2, ![a, b]⟩) .f32 0x00000000#32) = up2 fun r k => ∑ l, X l r * Y l k := by
  obtain ⟨_, _, _, _, _, _, wf⟩ := d
  simp only [Axes, Prod.mk.injEq] at h
  obtain ⟨rfl, rfl, rfl, rfl, rfl, rfl⟩ := h
  funext j
  refine (Ideal.matmul_apply₁_of (a := 0) (K := n) _ rfl rfl (up2 X) (up2 Y) (constant (F := Ideal) (⟨2, ![a, b]⟩ : Shape) .f32 0x00000000#32) j (fun l : Fin n => ValueIdx.ix2 l (j 0 : Fin a)) (fun l : Fin n => ValueIdx.ix2 l (j 1 : Fin b)) (fun l => ?_) fun l => ?_).trans ?_
  · funext ax
    match ax with | ⟨0, _⟩ => rfl | ⟨1, _⟩ => rfl
  · funext ax
    match ax with | ⟨0, _⟩ => rfl | ⟨1, _⟩ => rfl
  · rw [show (constant (F := Ideal) (⟨2, ![a, b]⟩ : Shape) .f32 0x00000000#32) j = ((0 : ℝ) : EReal) from words.1, EReal.coe_zero, zero_add]
    exact coe_sum _ fun l => X l (j 0) * Y l (j 1)

/-- The host's product `X Y`. -/
theorem dotNN (d : DotDims ⟨2, ![a, n]⟩ ⟨2, ![n, b]⟩ ⟨2, ![a, b]⟩) (X : Fin a → Fin n → ℝ) (Y : Fin n → Fin b → ℝ) (h : Axes d [1] [0] [0] [1]) :
    Host.dotGeneral (F := Ideal) (φ₁ := φ₁) (φ₂ := φ₂) d none (up2 X) (up2 Y) = up2 fun r k => ∑ l, X r l * Y l k :=
  (matmul_zero_eq_dotGeneral d none _ _).symm.trans (mmNN d X Y h)

/-- The host's product `X Yᵀ`. -/
theorem dotNT (d : DotDims ⟨2, ![a, n]⟩ ⟨2, ![b, n]⟩ ⟨2, ![a, b]⟩) (X : Fin a → Fin n → ℝ) (Y : Fin b → Fin n → ℝ) (h : Axes d [1] [0] [1] [0]) :
    Host.dotGeneral (F := Ideal) (φ₁ := φ₁) (φ₂ := φ₂) d none (up2 X) (up2 Y) = up2 fun r k => ∑ l, X r l * Y k l :=
  (matmul_zero_eq_dotGeneral d none _ _).symm.trans (mmNT d X Y h)

/-- The host's product `Xᵀ Y`. -/
theorem dotTN (d : DotDims ⟨2, ![n, a]⟩ ⟨2, ![n, b]⟩ ⟨2, ![a, b]⟩) (X : Fin n → Fin a → ℝ) (Y : Fin n → Fin b → ℝ) (h : Axes d [0] [1] [0] [1]) :
    Host.dotGeneral (F := Ideal) (φ₁ := φ₁) (φ₂ := φ₂) d none (up2 X) (up2 Y) = up2 fun r k => ∑ l, X l r * Y l k :=
  (matmul_zero_eq_dotGeneral d none _ _).symm.trans (mmTN d X Y h)

/-- A change of float format is the identity over the reals: the kernel's narrowing and widening. -/
theorem casts {ψ : FTy} : (∀ (X : Fin a → Fin b → ℝ) (h : ψ.bits < φ.bits), truncf (F := Ideal) (φ := φ) (no_index ψ) (up2 X) h = up2 X)
    ∧ ∀ (X : Fin a → Fin b → ℝ) (h : φ.bits < ψ.bits), extf (F := Ideal) (φ := φ) (no_index ψ) (up2 X) h = up2 X := ⟨fun _ _ => rfl, fun _ _ => rfl⟩

/-- The transpose of a matrix of reals. -/
theorem transp (X : Fin a → Fin b → ℝ) (h : (⟨2, ![a, b]⟩ : Shape).Transposes [1, 0] ⟨2, ![b, a]⟩) :
    transpose (no_index ⟨2, ![b, a]⟩) (no_index [1, 0]) (up2 X) h = up2 fun r k => X k r := by
  funext i
  rw [ValueIdx.eq_ix2 i]
  exact ValueIdx.transpose_ix2_apply _ h _ _

end

/-! ## Vectors, scalars and one more constant -/

section

variable {a b : ℕ} {φ : FTy}

/-- The product of scalars. -/
theorem mul0 (x y : ℝ) : mulf (F := Ideal) (φ := φ) (up0 x) (up0 y) = up0 (x * y) := by
  funext i
  exact (EReal.coe_mul _ _).symm

/-- The host's quotient of vectors of reals whose divisor has no zero. -/
theorem hostDiv1 (X Y : Fin a → ℝ) (h : ∀ r, Y r ≠ 0) : Host.divf (F := Ideal) (φ := φ) (up1 X) (up1 Y) = up1 fun r => X r / Y r := by
  funext i
  exact div_coe _ (h _)

/-- The host's sum of a vector. -/
theorem hostVecSum (X : Fin a → ℝ) (h : (⟨1, ![a]⟩ : Shape).ReducesTo [0] ⟨0, ![]⟩) (hu : 0 < (⟨0, ![]⟩ : Shape).numel) :
    Host.reduceAdd (F := Ideal) (φ := φ) (up1 X) (up0 0) h hu = up0 (∑ r, X r) := by
  funext j
  rw [ValueIdx.hostReduceAdd_apply]
  refine (Ideal.hostReduceAdd_r1_a0 h _ _ j).trans ?_
  exact (zero_add _).trans (coe_sum _ _)

/-- The host's broadcast of a scalar to a vector. -/
theorem bcScalar1 (c : ℝ) (h : (⟨0, ![]⟩ : Shape).BroadcastsInDim ⟨1, ![a]⟩ ![]) : broadcastInDim (no_index ⟨1, ![a]⟩) (no_index ![]) h (up0 c) = up1 fun _ => c := rfl

/-- The kernel's broadcast of a matrix of one entry. -/
theorem bcUnit (X : Fin 1 → Fin 1 → ℝ) (h : (⟨2, ![1, 1]⟩ : Shape).Broadcasts ⟨2, ![a, b]⟩) :
    broadcastTo (no_index ⟨2, ![a, b]⟩) (up2 X) h = up2 fun _ _ => X 0 0 := by
  funext i
  rw [broadcastTo_apply (up2 X) h i (ValueIdx.ix2 (0 : Fin 1) (0 : Fin 1)) fun ax => ?_]
  · rfl
  · match ax with
    | ⟨0, _⟩ => rfl
    | ⟨1, _⟩ => rfl

/-- The float word of 1/1024. -/
theorem word_inv : Ideal.ofBits .f32 0x3A800000#32 = ((1 / 1024 : ℝ) : EReal) := by
  simp [Ideal.ofBits, Ideal.ieee, -EReal.coe_mul, -EReal.coe_neg]
  norm_num

end

end Cert.Lift

end
-- ==== Proof.LossKernel.lean ====
/- The values the loss kernel computes from one tile of rows, on reals. -/
module

public import proofs.«01_k».proof.Proof.RmsNorm
public import proofs.«01_k».proof.Proof.LiftDot
public import proofs.«01_k».proof.Proof.Gen.LossIdeal.Skeleton

@[expose] public section

noncomputable section

namespace Cert.LossTile

open Idealize.ShloMosaic Cert.Lift Cert.RmsNorm Cert.LossIdeal Cert.LossIdeal.Gen

variable (X T E : Fin 512 → Fin 1024 → ℝ) (G : Fin 1 → Fin 1024 → ℝ)

/-- The prediction less the target. -/
abbrev err (r : Fin 512) (k : Fin 1024) : ℝ := nrm (X r) (G 0) k - T r k

/-- The reciprocal root mean squares. -/
theorem pay2 : k0_pay2 (F := Ideal) (up2 X) = up2 fun r _ => rr (X r) := by
  unfold k0_pay2
  simp (disch := norm_num) only [rowSum, lay2, vec2, words, scalar_word, splat2, divf2]
  exact rsqrt2 _ fun r _ => ms_pos (X r)

/-- The normalised rows. -/
theorem pay3 : k0_pay3 (F := Ideal) (up2 X) = up2 fun r k => xh (X r) k := by
  unfold k0_pay3
  simp only [pay2, bcCol, vec2]
  rfl

/-- The errors. -/
theorem pay4 : k0_pay4 (F := Ideal) (up2 X) (up2 G) (up2 T) = up2 (err X T G) := by
  unfold k0_pay4
  simp only [pay3, castSelf, bcRow, vec2]
  rfl

/-- The tile's part of the loss. -/
theorem pay5 : k0_pay5 (F := Ideal) (up2 X) (up2 G) (up2 T) = up2 fun _ _ => 1 / 2 * ∑ r, (∑ k, err X T G r k * err X T G r k) / 1024 := by
  unfold k0_pay5
  simp (disch := norm_num) only [pay4, rowSum, colSum, lay2, vec2, words, scalar_word, splat2, divf2]

/-- The cotangent of the prediction. -/
theorem pay6 : k0_pay6 (F := Ideal) (up2 X) (up2 G) (up2 T) = up2 fun r k => err X T G r k * (1 / 1024) := by
  unfold k0_pay6
  simp only [pay4, vec2, word_inv, scalar_word, splat2]

/-- The tile's part of the gradient of the gain. -/
theorem pay7 : k0_pay7 (F := Ideal) (up2 X) (up2 G) (up2 T) = up2 fun _ k => ∑ r, err X T G r k * (1 / 1024) * xh (X r) k := by
  unfold k0_pay7
  simp only [pay6, pay3, colSum, lay2, vec2]

/-- The gradient with respect to the rows. -/
theorem pay1 : k0_pay1 (F := Ideal) (up2 fun r _ => rr (X r)) (up2 fun r k => xh (X r) k) (up2 E) (up2 G)
    = up2 fun r k => back (X r) (fun j => E r j * G 0 j) k := by
  unfold k0_pay1
  simp (disch := norm_num) only [rowSum, lay2, castSelf, vec2, words, scalar_word, splat2, bcCol, bcRow, divf2]
  rfl

/-- The first tile's loss. -/
theorem pay8 : k0_pay8 (F := Ideal) (up2 X) (up2 G) (up2 T) = up2 fun _ _ => 1 / 2 * ∑ r, (∑ k, err X T G r k * err X T G r k) / 1024 := by
  unfold k0_pay8
  simp only [pay5, bcUnit, words, scalar_word, splat2, vec2, zero_add]

/-- A further tile's addition to the loss. -/
theorem pay9 (w : Vec Ideal S8x128 .f32) (i : S8x128.Idx) : k0_pay9 (F := Ideal) (up2 X) (up2 G) (up2 T) w i
    = w i + up2 (fun (_ : Fin 8) (_ : Fin 128) => 1 / 2 * ∑ r, (∑ k, err X T G r k * err X T G r k) / 1024) i := by
  unfold k0_pay9
  simp only [pay5, bcUnit, shapeCast_self]
  rfl

/-- A further tile's addition to the gradient of the gain. -/
theorem pay10 (w : Vec Ideal S1x1024 .f32) (i : S1x1024.Idx) : k0_pay10 (F := Ideal) (up2 X) (up2 G) (up2 T) w i
    = w i + up2 (fun (_ : Fin 1) k => ∑ r, err X T G r k * (1 / 1024) * xh (X r) k) i := by
  unfold k0_pay10
  simp only [pay7, shapeCast_self]
  rfl

end Cert.LossTile

end
-- ==== Proof.LossFinal.lean ====
/- The arrays the loss kernel leaves, on reals. -/
module

public import proofs.«01_k».proof.Proof.LossKernel
public import proofs.«01_k».proof.Proof.Gen.LossIdeal.Value
public import Idealize.ShloMosaic.Lib.Claim
public import Idealize.ShloMosaic.Lib.Pipeline.ValueKit

@[expose] public section

set_option maxRecDepth 16384

noncomputable section

namespace Cert.LossFinal

open Idealize.ShloMosaic Idealize.ShloMosaic.TcCoe Idealize.SL.Sem Cert.Lift Cert.RmsNorm Cert.LossIdeal Cert.LossIdeal.Gen
open Idealize.ShloMosaic.Pipeline (Dat)

variable (m : (ℓ : Loc nD τ sig) → Buf (Elt Ideal) ℓ) (c : Dev nD)
variable (X T : Fin 8192 → Fin 1024 → ℝ) (G : Fin 1024 → ℝ)

/-- Which block each window stages at a point. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![0, 0])

/-- Row `r` of point `t`'s tile. -/
def row (t : Fin cfg0.N) (r : Fin 512) : Fin 8192 := ⟨t.val * 512 + r.val, by have h := t.isLt; have := r.isLt; have h2 : cfg0.N = 16 := N_0; omega⟩

/-- The first point is the only one whose number is a multiple of 16. -/
theorem first (t : Fin cfg0.N) (h : t.val % 16 = 0) : ¬1 ≤ t.val := by have h1 := t.isLt; have h2 : cfg0.N = 16 := N_0; omega
theorem later (t : Fin cfg0.N) (h : ¬t.val % 16 = 0) : 1 ≤ t.val := by omega

theorem blk0 (h : m ((c : Thread nD τ).loc main_arg0) = up2 X) (t : Fin cfg0.N) : iblk m c 0 t = up2 fun r k => X (row t r) k := by
  funext y
  refine Eq.trans (b := m ((c : Thread nD τ).loc main_arg0) (ValueIdx.ix2 (row t (y 0)) (y 1))) ?_ (congrFun h _)
  blk_point [iblk, V, idx t, row]

theorem blk1 (h : m ((c : Thread nD τ).loc main_arg1) = up1 G) (t : Fin cfg0.N) : iblk m c 1 t = up2 fun _ k => G k := by
  funext y
  refine Eq.trans (b := m ((c : Thread nD τ).loc main_arg1) (ValueIdx.ix1 (y 1))) ?_ (congrFun h _)
  blk_point [iblk, V, idx t]

theorem blk2 (h : m ((c : Thread nD τ).loc main_arg2) = up2 T) (t : Fin cfg0.N) : iblk m c 2 t = up2 fun r k => T (row t r) k := by
  funext y
  refine Eq.trans (b := m ((c : Thread nD τ).loc main_arg2) (ValueIdx.ix2 (row t (y 0)) (y 1))) ?_ (congrFun h _)
  blk_point [iblk, V, idx t, row]

/-- The prediction less the target. -/
abbrev err (r : Fin 8192) (k : Fin 1024) : ℝ := nrm (X r) G k - T r k

variable (h0 : m ((c : Thread nD τ).loc main_arg0) = up2 X) (h1 : m ((c : Thread nD τ).loc main_arg1) = up1 G)
  (h2 : m ((c : Thread nD τ).loc main_arg2) = up2 T)

include h0 h1 h2

/-- The gradient with respect to the rows. -/
theorem final3 : (dats m 0 c).arrAt 3 cfg0.N = up2 fun r k => back (X r) (fun j => err X T G r j * (1 / 1024) * G j) k := by
  refine (dats m 0 c).arrAt_eq_of_covers 3 _ (by decide +kernel) fun t hf y => ?_
  blk_simp
  rw [after0_3]
  by_cases h : t.val % 16 = 0
  · rw [outsAt0_A m c t h (first t h)]
    frame_out
    rw [blk0 m c X h0, blk1 m c G h1, blk2 m c T h2, LossTile.pay2, LossTile.pay3, LossTile.pay6, LossTile.pay1]
    refine Eq.trans (b := up2 (fun r k => back (X r) (fun j => err X T G r j * (1 / 1024) * G j) k) (ValueIdx.ix2 (row t (y 0)) (y 1))) rfl ?_
    blk_point [idx t, row]
  · rw [outsAt0_B m c t h (later t h)]
    frame_out
    rw [blk0 m c X h0, blk1 m c G h1, blk2 m c T h2, LossTile.pay2, LossTile.pay3, LossTile.pay6, LossTile.pay1]
    refine Eq.trans (b := up2 (fun r k => back (X r) (fun j => err X T G r j * (1 / 1024) * G j) k) (ValueIdx.ix2 (row t (y 0)) (y 1))) rfl ?_
    blk_point [idx t, row]

/-- The loss, in every entry of its tile. -/
theorem final4 : (dats m 0 c).arrAt 4 cfg0.N = up2 fun _ _ => 1 / 2 * ∑ r, (∑ k, err X T G r k * err X T G r k) / 1024 := by
  refine (dats m 0 c).arrAt_eq_of_after_last 4 t0_15 (by decide +kernel) _ fun j => ?_
  blk_simp
  rw [after0_4, Pipeline.eq_sum_fin_of_reset_step_apply_last (fun n h => (outsAt0 m c n h).2.1) 16 (fun _ => 0)
    (fun t => up2 fun _ _ => 1 / 2 * ∑ r, (∑ k, err X T G (row t r) k * err X T G (row t r) k) / 1024)
    (fun t h j => by
      rw [outsAt0_A m c t h (first t h)]; frame_out
      rw [blk0 m c X h0, blk1 m c G h1, blk2 m c T h2, LossTile.pay8]
      exact (zero_add _).symm)
    (fun t h j => by
      rw [outsAt0_B m c t h (later t h)]; frame_out
      rw [blk0 m c X h0, blk1 m c G h1, blk2 m c T h2, LossTile.pay9])
    (le_of_eq N_0) t0_15 rfl j, zero_add]
  simp only [Finset.mul_sum]
  exact tile_sum (congrArg (· * 512) N_0) row (fun _ _ => rfl) fun r => 1 / 2 * ((∑ k, err X T G r k * err X T G r k) / 1024)

/-- The gradient of the gain. -/
theorem final5 : (dats m 0 c).arrAt 5 cfg0.N = up2 fun _ k => ∑ r, xh (X r) k * (err X T G r k * (1 / 1024)) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0)
    (fun t => up2 fun _ k => ∑ r, err X T G (row t r) k * (1 / 1024) * xh (X (row t r)) k)
    (fun t h j => by
      rw [outsAt0_A m c t h (first t h)]; frame_out
      rw [blk0 m c X h0, blk1 m c G h1, blk2 m c T h2, LossTile.pay7]
      exact (zero_add _).symm)
    (fun t h j => by
      rw [outsAt0_B m c t h (later t h)]; frame_out
      rw [blk0 m c X h0, blk1 m c G h1, blk2 m c T h2, LossTile.pay10])
    (le_of_eq N_0) t0_15 rfl j, zero_add]
  refine (tile_sum (congrArg (· * 512) N_0) row (fun _ _ => rfl) fun r => err X T G r (j 1) * (1 / 1024) * xh (X r) (j 1)).trans ?_
  exact congrArg _ (Finset.sum_congr rfl fun r _ => mul_comm _ _)

end Cert.LossFinal

end
-- ==== Proof.LossRef.lean ====
/- The values of the loss reference, one group of lines at a time, on reals. -/
module

public import proofs.«01_k».proof.Proof.RmsNorm
public import proofs.«01_k».proof.Proof.LiftDot
public import proofs.«01_k».proof.Proof.Gen.LossRefIdeal.Read

@[expose] public section

noncomputable section

namespace Cert.LossRef

open Idealize.ShloMosaic Cert.Lift Cert.RmsNorm Cert.LossRefIdeal Cert.LossRefIdeal.Gen Cert.LossRefIdeal.Read

variable (X T : Fin 8192 → Fin 1024 → ℝ) (G : Fin 1024 → ℝ)

/-- The prediction less the target. -/
abbrev err (r : Fin 8192) (k : Fin 1024) : ℝ := nrm (X r) G k - T r k
/-- The loss of a row: half the mean square of its errors. -/
abbrev rowLoss (r : Fin 8192) : ℝ := (∑ k, err X T G r k * err X T G r k) / 1024

/-- The mean squares. -/
theorem ms_eq : val_main_v6 (F := Ideal) (up2 X) = up2 fun r _ => ms (X r) := by
  unfold val_main_v6 val_main_v5 val_main_v4 val_main_v3 val_main_v2 val_main_v1 val_main_v0 val_main_cst val_main_cst_0 val_main_cst_1
  simp (disch := norm_num) only [consts, hostRowSum, bcVecRows, bcScalar, hostDiv2, vec2]
  rfl

/-- The reciprocal root mean squares. -/
theorem rr_eq : val_main_v7 (F := Ideal) (up2 X) = up2 fun r _ => rr (X r) := by
  unfold val_main_v7
  rw [ms_eq]
  exact hostRsqrt2 _ fun r _ => ms_pos (X r)

/-- The derivative of the reciprocal root. -/
theorem drr_eq : val_main_v10 (F := Ideal) (up2 X) = up2 fun r _ => -(1 / 2) * (rr (X r) / ms (X r)) := by
  unfold val_main_v10 val_main_v9 val_main_v8 val_main_cst_2
  simp (disch := exact fun r _ => ms_ne _) only [rr_eq, ms_eq, consts, bcScalar, hostDiv2, vec2]

/-- The normalised rows. -/
theorem xh_eq : val_main_v12 (F := Ideal) (up2 X) = up2 fun r k => xh (X r) k := by
  unfold val_main_v12 val_main_v11
  simp only [rr_eq, hostBcCol, vec2]
  rfl

/-- The errors. -/
theorem err_eq : val_main_v16 (F := Ideal) (up2 X) (up1 G) (up2 T) = up2 (err X T G) := by
  unfold val_main_v16 val_main_v15 val_main_v14 val_main_v13
  simp only [xh_eq, bcVecCols, hostBcRow, vec2]
  rfl

/-- The loss. -/
theorem loss_eq : val_main_v51 (F := Ideal) (up2 X) (up1 G) (up2 T) = up2 fun _ _ => 1 / 2 * ∑ r, rowLoss X T G r := by
  unfold val_main_v51 val_main_v24 val_main_v23 val_main_v22 val_main_v21 val_main_v20 val_main_v17 val_main_cst_4 val_main_cst_5 val_main_cst_6 val_main_cst_7
  simp (disch := norm_num) only [err_eq, consts, hostRowSum, hostVecSum, hostDiv1, bcScalar, bcScalar1, vec2, mul0]

/-- The cotangent of the prediction. -/
theorem dy_eq : val_main_v30 (F := Ideal) (up2 X) (up1 G) (up2 T) = up2 fun r k => err X T G r k * (1 / 1024) := by
  unfold val_main_v30 val_main_v29 val_main_v28 val_main_v27 val_main_v26 val_main_v25 val_main_v19 val_main_v18 val_main_cst_3 val_main_cst_8 val_main_cst_9 val_main_cst_10
  simp (disch := norm_num) only [err_eq, consts, hostDiv1, bcScalar, bcScalar1, bcVecRows, vec2, mul0]
  refine congrArg up2 (funext fun r => funext fun k => ?_)
  ring

/-- The gradient of the gain. -/
theorem gg_eq : val_main_v52 (F := Ideal) (up2 X) (up1 G) (up2 T) = up2 fun _ k => ∑ r, xh (X r) k * (err X T G r k * (1 / 1024)) := by
  unfold val_main_v52 val_main_v36 val_main_v33 val_main_v32 val_main_v31 val_main_cst_11 val_main_cst_12
  simp only [dy_eq, xh_eq, consts, hostColSum, lay2, bcVecCols, vec2, Fin.sum_univ_one]

/-- The cotangent of the normalised rows. -/
theorem e_eq : val_main_v35 (F := Ideal) (up2 X) (up1 G) (up2 T) = up2 fun r k => err X T G r k * (1 / 1024) * G k := by
  unfold val_main_v35 val_main_v34 val_main_v13
  simp only [dy_eq, bcVecCols, hostBcRow, vec2]

/-- The gradient with respect to the rows. -/
theorem dx_eq : val_main_v50 (F := Ideal) (up2 X) (up1 G) (up2 T) = up2 fun r k => back (X r) (fun j => err X T G r j * (1 / 1024) * G j) k := by
  unfold val_main_v50 val_main_v49 val_main_v48 val_main_v47 val_main_v46 val_main_v45 val_main_v44 val_main_v43 val_main_v42 val_main_v41 val_main_v40 val_main_v39 val_main_v38 val_main_v37 val_main_cst_13 val_main_cst_14 val_main_cst_15
  simp (disch := norm_num) only [e_eq, rr_eq, drr_eq, consts, hostRowSum, lay2, bcScalar, bcVecRows, hostBcCol, hostDiv2, vec2, Fin.sum_univ_one]
  exact congrArg up2 (funext fun r => funext fun k => back_eq (X r) (fun j => err X T G r j * (1 / 1024) * G j) k _ rfl)

end Cert.LossRef

end
-- ==== Proof.LossClaim.lean ====
/- The loss: the two claims of its pair that no generated theorem states. -/
module

public import proofs.«01_k».proof.Defs
public import proofs.«01_k».proof.Proof.LossFinal
public import proofs.«01_k».proof.Proof.LossRef
public import proofs.«01_k».proof.Proof.Gen.Loss.Frame
public import proofs.«01_k».proof.Proof.Gen.LossIdeal.Frame
public import proofs.«01_k».proof.Proof.Gen.LossRefIdeal.Run
public import proofs.«01_k».proof.Proof.Gen.Pre_loss_finite

@[expose] public section

set_option maxRecDepth 16384

noncomputable section

namespace Cert.LossClaim

open Idealize.ShloMosaic Idealize.SL.Sem Cert.Lift Cert.RmsNorm

/-- The precondition says that the three arguments hold real numbers only. -/
theorem real_args (a0 a2 : Vec Ideal ⟨2, ![8192, 1024]⟩ .f32) (a1 : Vec Ideal ⟨1, ![1024]⟩ .f32) (j : (⟨0, ![]⟩ : Shape).Idx)
    (h : Cert.Pre_loss_finite.fn (F := Ideal) a0 a1 a2 j = 1#1) :
    (∃ X, a0 = up2 X) ∧ (∃ G, a1 = up1 G) ∧ ∃ T, a2 = up2 T := by
  dsimp only [Cert.Pre_loss_finite.fn] at h
  obtain ⟨h, h2⟩ := and_one _ _ _ h
  obtain ⟨h0, h1⟩ := and_one _ _ _ h
  exact ⟨real2 _ _ _ _ _ _ h0, real1 _ _ _ _ _ _ h1, real2 _ _ _ _ _ _ h2⟩

/-- The reference runs to the end from every memory, and declares no semaphore. -/
theorem frame_ref : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

/-- Over the reals the kernel's three results are the loss and its derivative. -/
theorem value : Cert.algebraic_LossIdeal_LossRefIdeal_pre_loss_finite := by
  pair_intro
  run_from Cert.LossIdeal.Gen.run_main m g
  run_from Cert.LossRefIdeal.Value.run m' g'
  all_goals
    obtain ⟨⟨X, h0⟩, ⟨G, h1⟩, T, h2⟩ := real_args _ _ _ _ (congrFun (hpre c) ValueIdx.ix0)
    obtain ⟨e0, e1, e2⟩ := hagree c
  · rw [LossRefIdeal.Read.val_main_v50_eq, e0, e1, e2, h0, h1, h2]
    exact (LossRef.dx_eq X T G).trans (LossFinal.final3 m c X T G h0 h1 h2).symm
  · rw [LossRefIdeal.Read.val_main_v51_eq, h0, h1, h2]
    exact (LossRef.loss_eq X T G).trans (LossFinal.final4 m c X T G h0 h1 h2).symm
  · rw [LossRefIdeal.Read.val_main_v52_eq, h0, h1, h2]
    exact (LossRef.gg_eq X T G).trans (LossFinal.final5 m c X T G h0 h1 h2).symm

end Cert.LossClaim

end
-- ==== Proof.PleKernel.lean ====
/- The values the gated embedding's gradient kernel computes from one tile of rows, on reals. -/
module

public import proofs.«01_k».proof.Proof.RmsNorm
public import proofs.«01_k».proof.Proof.LiftDot
public import proofs.«01_k».proof.Proof.Gen.PleIdeal.Skeleton

@[expose] public section

noncomputable section

namespace Cert.PleTile

open Idealize.ShloMosaic Cert.Lift Cert.RmsNorm Cert.PleIdeal Cert.PleIdeal.Gen

variable (D S H X : Fin 512 → Fin 1024 → ℝ) (P : Fin 512 → Fin 256 → ℝ) (Wp : Fin 256 → Fin 1024 → ℝ) (Wg : Fin 1024 → Fin 1024 → ℝ) (G : Fin 1 → Fin 1024 → ℝ)

/-- The cotangent of the gate's argument. -/
abbrev dz (r : Fin 512) (k : Fin 1024) : ℝ := D r k * (∑ l, P r l * Wp l k) * S r k * (1 - S r k)
/-- The cotangent of the normalised and scaled rows. -/
abbrev dh (r : Fin 512) (k : Fin 1024) : ℝ := ∑ l, dz D S P Wp r l * Wg k l

theorem pay6 : k0_pay6 (F := Ideal) (up2 S) = up2 S := by
  unfold k0_pay6
  exact castSelf S _

theorem pay7 : k0_pay7 (F := Ideal) (up2 P) = up2 P := rfl

theorem pay8 : k0_pay8 (F := Ideal) (up2 D) (up2 S) (up2 P) (up2 Wp) = up2 (dz D S P Wp) := by
  unfold k0_pay8
  simp (disch := exact rfl) only [pay6, pay7, castSelf, casts, mmNN _ _ _ (rfl : Axes dot_S512x256_S256x1024_S512x1024_1_0_0_1_n_n _ _ _ _), vec2, words, scalar_word, splat2]

/-- The tile's part of the gradient of the embedding's projection. -/
theorem pay9 : k0_pay9 (F := Ideal) (up2 D) (up2 S) (up2 P) = up2 fun l k => ∑ r, P r l * (D r k * S r k) := by
  unfold k0_pay9
  simp (disch := exact rfl) only [pay6, pay7, casts, mmTN _ _ _ (rfl : Axes dot_S512x256_S512x1024_S256x1024_0_0_1_1_n_n _ _ _ _), vec2]

/-- The tile's part of the gradient of the gate's projection. -/
theorem pay10 : k0_pay10 (F := Ideal) (up2 D) (up2 S) (up2 P) (up2 Wp) (up2 H) = up2 fun l k => ∑ r, H r l * dz D S P Wp r k := by
  unfold k0_pay10
  simp (disch := exact rfl) only [pay8, castSelf, mmTN _ _ _ (rfl : Axes dot_S512x1024_S512x1024_S1024x1024_0_0_1_1_n_n _ _ _ _)]

theorem pay11 : k0_pay11 (F := Ideal) (up2 D) (up2 S) (up2 P) (up2 Wp) (up2 Wg) = up2 (dh D S P Wp Wg) := by
  unfold k0_pay11
  simp (disch := exact rfl) only [pay8, castSelf, mmNT _ _ _ (rfl : Axes dot_S512x1024_S1024x1024_S512x1024_1_1_0_0_n_n _ _ _ _)]

/-- The reciprocal root mean squares. -/
theorem pay12 : k0_pay12 (F := Ideal) (up2 X) = up2 fun r _ => rr (X r) := by
  unfold k0_pay12
  simp (disch := norm_num) only [rowSum, lay2, vec2, words, scalar_word, splat2, divf2]
  exact rsqrt2 _ fun r _ => ms_pos (X r)

/-- The normalised rows. -/
theorem pay13 : k0_pay13 (F := Ideal) (up2 X) = up2 fun r k => xh (X r) k := by
  unfold k0_pay13
  simp only [pay12, bcCol, vec2]
  rfl

theorem pay14 : k0_pay14 (F := Ideal) (up2 D) (up2 S) (up2 P) (up2 Wp) (up2 Wg) (up2 X) = up2 fun r k => dh D S P Wp Wg r k * xh (X r) k := by
  unfold k0_pay14
  simp only [pay11, pay13, vec2]

/-- The tile's part of the gradient of the gain. -/
theorem pay1 : k0_pay1 (F := Ideal) (up2 H) = up2 fun _ k => ∑ r, H r k := by
  unfold k0_pay1
  simp only [colSum, lay2]

/-- The gradient with respect to the rows: the cotangent itself plus the norm's gradient. -/
theorem pay2 : k0_pay2 (F := Ideal) (up2 D) (up2 H) (up2 fun r _ => rr (X r)) (up2 fun r k => xh (X r) k) (up2 G)
    = up2 fun r k => D r k + back (X r) (fun j => H r j * G 0 j) k := by
  unfold k0_pay2
  simp (disch := norm_num) only [rowSum, lay2, castSelf, vec2, words, scalar_word, splat2, bcCol, bcRow, divf2]
  rfl

/-- A further tile's additions to the three sums. -/
theorem pay3 (V : Fin 256 → Fin 1024 → ℝ) (w : Vec Ideal S256x1024 .f32) (i : S256x1024.Idx) : k0_pay3 (F := Ideal) (up2 V) w i = w i + up2 V i := by
  unfold k0_pay3
  simp only [shapeCast_self]
  rfl

theorem pay4 (V : Fin 1024 → Fin 1024 → ℝ) (w : Vec Ideal S1024x1024 .f32) (i : S1024x1024.Idx) : k0_pay4 (F := Ideal) (up2 V) w i = w i + up2 V i := by
  unfold k0_pay4
  simp only [shapeCast_self]
  rfl

theorem pay5 (w : Vec Ideal S1x1024 .f32) (i : S1x1024.Idx) : k0_pay5 (F := Ideal) (up2 H) w i = w i + up2 (fun (_ : Fin 1) k => ∑ r, H r k) i := by
  unfold k0_pay5
  simp only [pay1, shapeCast_self]
  rfl

end Cert.PleTile

end
-- ==== Proof.PleRef.lean ====
/- The values of the gated embedding's reference, one group of lines at a time, on reals. -/
module

public import proofs.«01_k».proof.Proof.RmsNorm
public import proofs.«01_k».proof.Proof.LayerNorm
public import proofs.«01_k».proof.Proof.LiftDot
public import proofs.«01_k».proof.Proof.Gen.PleRefIdeal.Read

@[expose] public section

noncomputable section

namespace Cert.PleRef

open Idealize.ShloMosaic Cert.Lift Cert.RmsNorm Cert.PleRefIdeal Cert.PleRefIdeal.Gen Cert.PleRefIdeal.Read
open Cert.LayerNorm (sig one_add_exp_ne)

variable (D X : Fin 8192 → Fin 1024 → ℝ) (P : Fin 8192 → Fin 256 → ℝ) (Wp : Fin 256 → Fin 1024 → ℝ) (Wg : Fin 1024 → Fin 1024 → ℝ) (G : Fin 1024 → ℝ)

/-- The gate. -/
abbrev gate (r : Fin 8192) (k : Fin 1024) : ℝ := sig (∑ l, nrm (X r) G l * Wg l k)
/-- The cotangent of the gate's argument. -/
abbrev dz (r : Fin 8192) (k : Fin 1024) : ℝ := D r k * (∑ l, P r l * Wp l k) * gate X Wg G r k * (1 - gate X Wg G r k)
/-- The cotangent of the normalised and scaled rows. -/
abbrev dh (r : Fin 8192) (k : Fin 1024) : ℝ := ∑ l, dz D X P Wp Wg G r l * Wg k l

/-- The mean squares. -/
theorem ms_eq : val_main_v6 (F := Ideal) (up2 X) = up2 fun r _ => ms (X r) := by
  unfold val_main_v6 val_main_v5 val_main_v4 val_main_v3 val_main_v2 val_main_v1 val_main_v0 val_main_cst val_main_cst_0 val_main_cst_1
  simp (disch := norm_num) only [consts, hostRowSum, bcVecRows, bcScalar, hostDiv2, vec2]
  rfl

/-- The reciprocal root mean squares. -/
theorem rr_eq : val_main_v7 (F := Ideal) (up2 X) = up2 fun r _ => rr (X r) := by
  unfold val_main_v7
  rw [ms_eq]
  exact hostRsqrt2 _ fun r _ => ms_pos (X r)

/-- The derivative of the reciprocal root. -/
theorem drr_eq : val_main_v10 (F := Ideal) (up2 X) = up2 fun r _ => -(1 / 2) * (rr (X r) / ms (X r)) := by
  unfold val_main_v10 val_main_v9 val_main_v8 val_main_cst_2
  simp (disch := exact fun r _ => ms_ne _) only [rr_eq, ms_eq, consts, bcScalar, hostDiv2, vec2]

/-- The normalised rows. -/
theorem xh_eq : val_main_v12 (F := Ideal) (up2 X) = up2 fun r k => xh (X r) k := by
  unfold val_main_v12 val_main_v11
  simp only [rr_eq, hostBcCol, vec2]
  rfl

/-- The normalised and scaled rows. -/
theorem nrm_eq : val_main_v15 (F := Ideal) (up2 X) (up1 G) = up2 fun r k => nrm (X r) G k := by
  unfold val_main_v15 val_main_v14 val_main_v13
  simp only [xh_eq, bcVecCols, hostBcRow, vec2]
  rfl

/-- The gate. -/
theorem gate_eq : val_main_v22 (F := Ideal) (up2 Wg) (up2 X) (up1 G) = up2 (gate X Wg G) := by
  unfold val_main_v22 val_main_v21 val_main_v20 val_main_v19 val_main_v18 val_main_v17 val_main_v16 val_main_cst_3 val_main_cst_4
  simp (disch := first | exact rfl | exact fun _ _ => one_add_exp_ne _) only [nrm_eq, dotNN _ _ _ (rfl : Axes dot_S8192x1024_S1024x1024_S8192x1024_1_0_0_1_n_n _ _ _ _), consts, bcScalar, host2, hostDiv2, vec2]
  rfl

/-- The cotangent of the gate's argument. -/
theorem dz_eq : val_main_v34 (F := Ideal) (up2 D) (up2 P) (up2 Wp) (up2 Wg) (up2 X) (up1 G) = up2 (dz D X P Wp Wg G) := by
  unfold val_main_v34 val_main_v31 val_main_v29 val_main_v26 val_main_v25 val_main_v24 val_main_v23 val_main_cst_5
  simp (disch := exact rfl) only [gate_eq, dotNN _ _ _ (rfl : Axes dot_S8192x256_S256x1024_S8192x1024_1_0_0_1_n_n _ _ _ _), castSelf, consts, bcScalar, vec2]
  refine congrArg up2 (funext fun r => funext fun k => ?_)
  ring

/-- The gradient of the embedding's projection. -/
theorem gpp_eq : val_main_v33 (F := Ideal) (up2 D) (up2 P) (up2 Wg) (up2 X) (up1 G) = up2 fun l k => ∑ r, gate X Wg G r k * D r k * P r l := by
  unfold val_main_v33 val_main_v32 val_main_v30 val_main_v29
  simp (disch := exact rfl) only [gate_eq, dotTN _ _ _ (rfl : Axes dot_S8192x1024_S8192x256_S1024x256_0_0_1_1_n_n _ _ _ _), castSelf, transp, vec2]

/-- The gradient of the gate's projection. -/
theorem gpg_eq : val_main_v36 (F := Ideal) (up2 D) (up2 P) (up2 Wp) (up2 Wg) (up2 X) (up1 G) = up2 fun l k => ∑ r, dz D X P Wp Wg G r k * nrm (X r) G l := by
  unfold val_main_v36 val_main_v35
  simp (disch := exact rfl) only [dz_eq, nrm_eq, dotTN _ _ _ (rfl : Axes dot_S8192x1024_S8192x1024_S1024x1024_0_0_1_1_n_n _ _ _ _), transp]

/-- The cotangent of the normalised and scaled rows. -/
theorem dh_eq : val_main_v37 (F := Ideal) (up2 D) (up2 P) (up2 Wp) (up2 Wg) (up2 X) (up1 G) = up2 (dh D X P Wp Wg G) := by
  unfold val_main_v37
  simp (disch := exact rfl) only [dz_eq, dotNT _ _ _ (rfl : Axes dot_S8192x1024_S1024x1024_S8192x1024_1_1_0_0_n_n _ _ _ _)]

/-- The gradient of the gain. -/
theorem gg_eq : val_main_v59 (F := Ideal) (up2 D) (up2 P) (up2 Wp) (up2 Wg) (up2 X) (up1 G) = up2 fun _ k => ∑ r, xh (X r) k * dh D X P Wp Wg G r k := by
  unfold val_main_v59 val_main_v43 val_main_v40 val_main_v39 val_main_v38 val_main_cst_6 val_main_cst_7
  simp only [dh_eq, xh_eq, consts, hostColSum, lay2, bcVecCols, vec2, Fin.sum_univ_one]

/-- The cotangent of the normalised rows. -/
theorem e_eq : val_main_v42 (F := Ideal) (up2 D) (up2 P) (up2 Wp) (up2 Wg) (up2 X) (up1 G) = up2 fun r k => dh D X P Wp Wg G r k * G k := by
  unfold val_main_v42 val_main_v41 val_main_v13
  simp only [dh_eq, bcVecCols, hostBcRow, vec2]

/-- The gradient with respect to the rows. -/
theorem dx_eq : val_main_v58 (F := Ideal) (up2 D) (up2 P) (up2 Wp) (up2 Wg) (up2 X) (up1 G)
    = up2 fun r k => D r k + back (X r) (fun j => dh D X P Wp Wg G r j * G j) k := by
  unfold val_main_v58 val_main_v57 val_main_v56 val_main_v55 val_main_v54 val_main_v53 val_main_v52 val_main_v51 val_main_v50 val_main_v49 val_main_v48 val_main_v47 val_main_v46 val_main_v45 val_main_v44 val_main_cst_8 val_main_cst_9 val_main_cst_10
  simp (disch := norm_num) only [e_eq, rr_eq, drr_eq, consts, hostRowSum, lay2, bcScalar, bcVecRows, hostBcCol, hostDiv2, vec2, Fin.sum_univ_one]
  refine congrArg up2 (funext fun r => funext fun k => ?_)
  rw [← back_eq (X r) (fun j => dh D X P Wp Wg G r j * G j) k _ rfl]
  ring

end Cert.PleRef

end
-- ==== Proof.PleFinal.lean ====
/- The arrays the gated embedding's gradient kernel leaves, on reals. -/
module

public import proofs.«01_k».proof.Proof.PleKernel
public import proofs.«01_k».proof.Proof.PleRef
public import proofs.«01_k».proof.Proof.Gen.PleIdeal.Value
public import Idealize.ShloMosaic.Lib.Claim
public import Idealize.ShloMosaic.Lib.Pipeline.ValueKit

@[expose] public section

set_option maxRecDepth 16384

noncomputable section

namespace Cert.PleFinal

open Idealize.ShloMosaic Idealize.ShloMosaic.TcCoe Idealize.SL.Sem Cert.Lift Cert.RmsNorm Cert.PleIdeal Cert.PleIdeal.Gen
open Idealize.ShloMosaic.Pipeline (Dat)
open Cert.PleRef (gate dz dh)

variable (m : (ℓ : Loc nD τ sig) → Buf (Elt Ideal) ℓ) (c : Dev nD)
variable (D X : Fin 8192 → Fin 1024 → ℝ) (P : Fin 8192 → Fin 256 → ℝ) (Wp : Fin 256 → Fin 1024 → ℝ) (Wg : Fin 1024 → Fin 1024 → ℝ) (G : Fin 1024 → ℝ)

/-- Which block each window stages at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![0, 0] ∧ win0_8.index t = ![t.val, 0]
    ∧ win0_9.index t = ![0, 0] ∧ win0_10.index t = ![0, 0] ∧ win0_11.index t = ![0, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![0, 0] ∧ win0_8.index t = ![t.val, 0]
    ∧ win0_9.index t = ![0, 0] ∧ win0_10.index t = ![0, 0] ∧ win0_11.index t = ![0, 0])

/-- Row `r` of point `t`'s tile. -/
def row (t : Fin cfg0.N) (r : Fin 512) : Fin 8192 := ⟨t.val * 512 + r.val, by have h := t.isLt; have := r.isLt; have h2 : cfg0.N = 16 := N_0; omega⟩

/-- The first point is the only one whose number is a multiple of 16. -/
theorem first (t : Fin cfg0.N) (h : t.val % 16 = 0) : ¬1 ≤ t.val := by have h1 := t.isLt; have h2 : cfg0.N = 16 := N_0; omega
theorem later (t : Fin cfg0.N) (h : ¬t.val % 16 = 0) : 1 ≤ t.val := by omega

section

variable (h0 : m ((c : Thread nD τ).loc main_arg0) = up2 D) (h1 : m ((c : Thread nD τ).loc main_arg1) = up2 P)
  (h2 : m ((c : Thread nD τ).loc main_arg2) = up2 Wp) (h3 : m ((c : Thread nD τ).loc main_arg3) = up2 Wg)
  (h4 : m ((c : Thread nD τ).loc main_arg4) = up2 X) (h5 : m ((c : Thread nD τ).loc main_arg5) = up1 G)

include h3 h4 h5 in
/-- The gate the host hands to the kernel. -/
theorem hostGate : V m c main_v19 = up2 (gate X Wg G) := by
  have e : V m c main_v19 = PleRefIdeal.Read.val_main_v22 (F := Ideal) (m ((c : Thread nD τ).loc main_arg3)) (m ((c : Thread nD τ).loc main_arg4)) (m ((c : Thread nD τ).loc main_arg5)) := by
    simp only [V, hostOps0, List.flatten_cons, List.flatten_nil, List.append_nil, List.cons_append, List.nil_append]
    after_results_simp
    rfl
  rw [e, h3, h4, h5]
  exact PleRef.gate_eq X Wg G

include h4 h5 in
/-- The normalised and scaled rows the host hands to the kernel. -/
theorem hostRows : V m c main_v20 = up2 fun r k => nrm (X r) G k := by
  have e : V m c main_v20 = PleRefIdeal.Read.val_main_v15 (F := Ideal) (m ((c : Thread nD τ).loc main_arg4)) (m ((c : Thread nD τ).loc main_arg5)) := by
    simp only [V, hostOps0, List.flatten_cons, List.flatten_nil, List.append_nil, List.cons_append, List.nil_append]
    after_results_simp
    rfl
  rw [e, h4, h5]
  exact PleRef.nrm_eq X G

include h0 in
theorem blk0 (t : Fin cfg0.N) : iblk m c 0 t = up2 fun r k => D (row t r) k := by
  funext y
  refine Eq.trans (b := m ((c : Thread nD τ).loc main_arg0) (ValueIdx.ix2 (row t (y 0)) (y 1))) ?_ (congrFun h0 _)
  blk_point [iblk, V, idx t, row]

include h3 h4 h5 in
theorem blk1 (t : Fin cfg0.N) : iblk m c 1 t = up2 fun r k => gate X Wg G (row t r) k := by
  funext y
  refine Eq.trans (b := V m c main_v19 (ValueIdx.ix2 (row t (y 0)) (y 1))) ?_ (congrFun (hostGate m c X Wg G h3 h4 h5) _)
  blk_ext [iblk, idx t, row]

include h1 in
theorem blk2 (t : Fin cfg0.N) : iblk m c 2 t = up2 fun r k => P (row t r) k := by
  funext y
  refine Eq.trans (b := m ((c : Thread nD τ).loc main_arg1) (ValueIdx.ix2 (row t (y 0)) (y 1))) ?_ (congrFun h1 _)
  blk_point [iblk, V, idx t, row]

include h4 h5 in
theorem blk3 (t : Fin cfg0.N) : iblk m c 3 t = up2 fun r k => nrm (X (row t r)) G k := by
  funext y
  refine Eq.trans (b := V m c main_v20 (ValueIdx.ix2 (row t (y 0)) (y 1))) ?_ (congrFun (hostRows m c X G h4 h5) _)
  blk_ext [iblk, idx t, row]

include h2 in
theorem blk4 (t : Fin cfg0.N) : iblk m c 4 t = up2 Wp := by
  funext y
  refine Eq.trans (b := m ((c : Thread nD τ).loc main_arg2) (ValueIdx.ix2 (y 0) (y 1))) ?_ (congrFun h2 _)
  blk_point [iblk, V, idx t]

include h3 in
theorem blk5 (t : Fin cfg0.N) : iblk m c 5 t = up2 Wg := by
  funext y
  refine Eq.trans (b := m ((c : Thread nD τ).loc main_arg3) (ValueIdx.ix2 (y 0) (y 1))) ?_ (congrFun h3 _)
  blk_point [iblk, V, idx t]

include h4 in
theorem blk6 (t : Fin cfg0.N) : iblk m c 6 t = up2 fun r k => X (row t r) k := by
  funext y
  refine Eq.trans (b := m ((c : Thread nD τ).loc main_arg4) (ValueIdx.ix2 (row t (y 0)) (y 1))) ?_ (congrFun h4 _)
  blk_point [iblk, V, idx t, row]

include h5 in
theorem blk7 (t : Fin cfg0.N) : iblk m c 7 t = up2 fun _ k => G k := by
  funext y
  refine Eq.trans (b := m ((c : Thread nD τ).loc main_arg5) (ValueIdx.ix1 (y 1))) ?_ (congrFun h5 _)
  blk_point [iblk, V, idx t]

include h0 h1 h2 h3 h4 h5

/-- The gradient with respect to the rows. -/
theorem final8 : (dats m 0 c).arrAt 8 cfg0.N = up2 fun r k => D r k + back (X r) (fun j => dh D X P Wp Wg G r j * G j) k := by
  refine (dats m 0 c).arrAt_eq_of_covers 8 _ (by decide +kernel) fun t hf y => ?_
  blk_simp
  rw [after0_8]
  by_cases h : t.val % 16 = 0
  · rw [outsAt0_A m c t h (first t h)]
    frame_out
    rw [blk0 m c D h0, blk1 m c X Wg G h3 h4 h5, blk2 m c P h1, blk4 m c Wp h2, blk5 m c Wg h3, blk6 m c X h4, blk7 m c G h5, PleTile.pay12, PleTile.pay13, PleTile.pay11, PleTile.pay2]
    refine Eq.trans (b := up2 (fun r k => D r k + back (X r) (fun j => dh D X P Wp Wg G r j * G j) k) (ValueIdx.ix2 (row t (y 0)) (y 1))) rfl ?_
    blk_point [idx t, row]
  · rw [outsAt0_B m c t h (later t h)]
    frame_out
    rw [blk0 m c D h0, blk1 m c X Wg G h3 h4 h5, blk2 m c P h1, blk4 m c Wp h2, blk5 m c Wg h3, blk6 m c X h4, blk7 m c G h5, PleTile.pay12, PleTile.pay13, PleTile.pay11, PleTile.pay2]
    refine Eq.trans (b := up2 (fun r k => D r k + back (X r) (fun j => dh D X P Wp Wg G r j * G j) k) (ValueIdx.ix2 (row t (y 0)) (y 1))) rfl ?_
    blk_point [idx t, row]

/-- The gradient of the gain. -/
theorem final9 : (dats m 0 c).arrAt 9 cfg0.N = up2 fun _ k => ∑ r, xh (X r) k * dh D X P Wp Wg G r k := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => 0)
    (fun t => up2 fun _ k => ∑ r, dh D X P Wp Wg G (row t r) k * xh (X (row t r)) k)
    (fun t h j => by
      rw [outsAt0_A m c t h (first t h)]; frame_out
      rw [blk0 m c D h0, blk1 m c X Wg G h3 h4 h5, blk2 m c P h1, blk4 m c Wp h2, blk5 m c Wg h3, blk6 m c X h4, PleTile.pay14, PleTile.pay1]
      exact (zero_add _).symm)
    (fun t h j => by
      rw [outsAt0_B m c t h (later t h)]; frame_out
      rw [blk0 m c D h0, blk1 m c X Wg G h3 h4 h5, blk2 m c P h1, blk4 m c Wp h2, blk5 m c Wg h3, blk6 m c X h4, PleTile.pay14, PleTile.pay5])
    (le_of_eq N_0) t0_15 rfl j, zero_add]
  refine (tile_sum (congrArg (· * 512) N_0) row (fun _ _ => rfl) fun r => dh D X P Wp Wg G r (j 1) * xh (X r) (j 1)).trans ?_
  exact congrArg _ (Finset.sum_congr rfl fun r _ => mul_comm _ _)

/-- The gradient of the embedding's projection. -/
theorem final10 : (dats m 0 c).arrAt 10 cfg0.N = up2 fun l k => ∑ r, gate X Wg G r k * D r k * P r l := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0)
    (fun t => up2 fun l k => ∑ r, P (row t r) l * (D (row t r) k * gate X Wg G (row t r) k))
    (fun t h j => by
      rw [outsAt0_A m c t h (first t h)]; frame_out
      rw [blk0 m c D h0, blk1 m c X Wg G h3 h4 h5, blk2 m c P h1, PleTile.pay9]
      exact (zero_add _).symm)
    (fun t h j => by
      rw [outsAt0_B m c t h (later t h)]; frame_out
      rw [blk0 m c D h0, blk1 m c X Wg G h3 h4 h5, blk2 m c P h1, PleTile.pay9, PleTile.pay3])
    (le_of_eq N_0) t0_15 rfl j, zero_add]
  refine (tile_sum (congrArg (· * 512) N_0) row (fun _ _ => rfl) fun r => P r (j 0) * (D r (j 1) * gate X Wg G r (j 1))).trans ?_
  exact congrArg _ (Finset.sum_congr rfl fun r _ => by ring)

/-- The gradient of the gate's projection. -/
theorem final11 : (dats m 0 c).arrAt 11 cfg0.N = up2 fun l k => ∑ r, dz D X P Wp Wg G r k * nrm (X r) G l := by
  refine (dats m 0 c).arrAt_eq_of_after_last 11 t0_15 (by decide +kernel) _ fun j => ?_
  blk_simp
  rw [after0_11, Pipeline.eq_sum_fin_of_reset_step_apply_last (fun n h => (outsAt0 m c n h).2.2.2) 16 (fun _ => 0)
    (fun t => up2 fun l k => ∑ r, nrm (X (row t r)) G l * dz D X P Wp Wg G (row t r) k)
    (fun t h j => by
      rw [outsAt0_A m c t h (first t h)]; frame_out
      rw [blk0 m c D h0, blk1 m c X Wg G h3 h4 h5, blk2 m c P h1, blk3 m c X G h4 h5, blk4 m c Wp h2, PleTile.pay10]
      exact (zero_add _).symm)
    (fun t h j => by
      rw [outsAt0_B m c t h (later t h)]; frame_out
      rw [blk0 m c D h0, blk1 m c X Wg G h3 h4 h5, blk2 m c P h1, blk3 m c X G h4 h5, blk4 m c Wp h2, PleTile.pay10, PleTile.pay4])
    (le_of_eq N_0) t0_15 rfl j, zero_add]
  refine (tile_sum (congrArg (· * 512) N_0) row (fun _ _ => rfl) fun r => nrm (X r) G (j 0) * dz D X P Wp Wg G r (j 1)).trans ?_
  exact congrArg _ (Finset.sum_congr rfl fun r _ => mul_comm _ _)

end

end Cert.PleFinal

end
-- ==== Proof.PleClaim.lean ====
/- The gated embedding's gradient: the two claims of its pair that no generated theorem states. -/
module

public import proofs.«01_k».proof.Defs
public import proofs.«01_k».proof.Proof.PleFinal
public import proofs.«01_k».proof.Proof.Gen.Ple.Frame
public import proofs.«01_k».proof.Proof.Gen.PleIdeal.Frame
public import proofs.«01_k».proof.Proof.Gen.PleRefIdeal.Run
public import proofs.«01_k».proof.Proof.Gen.Pre_ple_finite

@[expose] public section

set_option maxRecDepth 16384
set_option maxHeartbeats 1000000

noncomputable section

namespace Cert.PleClaim

open Idealize.ShloMosaic Idealize.SL.Sem Cert.Lift Cert.RmsNorm

/-- The precondition says that the six arguments hold real numbers only. -/
theorem real_args (a0 a4 : Vec Ideal ⟨2, ![8192, 1024]⟩ .f32) (a1 : Vec Ideal ⟨2, ![8192, 256]⟩ .f32) (a2 : Vec Ideal ⟨2, ![256, 1024]⟩ .f32)
    (a3 : Vec Ideal ⟨2, ![1024, 1024]⟩ .f32) (a5 : Vec Ideal ⟨1, ![1024]⟩ .f32) (j : (⟨0, ![]⟩ : Shape).Idx)
    (h : Cert.Pre_ple_finite.fn (F := Ideal) a0 a1 a2 a3 a4 a5 j = 1#1) :
    (∃ D, a0 = up2 D) ∧ (∃ P, a1 = up2 P) ∧ (∃ Wp, a2 = up2 Wp) ∧ (∃ Wg, a3 = up2 Wg) ∧ (∃ X, a4 = up2 X) ∧ ∃ G, a5 = up1 G := by
  dsimp only [Cert.Pre_ple_finite.fn, Cert.Pre_ple_finite.fn_part1] at h
  obtain ⟨h, h5⟩ := and_one _ _ _ h
  obtain ⟨h, h4⟩ := and_one _ _ _ h
  obtain ⟨h, h3⟩ := and_one _ _ _ h
  obtain ⟨h, h2⟩ := and_one _ _ _ h
  obtain ⟨h0, h1⟩ := and_one _ _ _ h
  exact ⟨real2 _ _ _ _ _ _ h0, real2 _ _ _ _ _ _ h1, real2 _ _ _ _ _ _ h2, real2 _ _ _ _ _ _ h3, real2 _ _ _ _ _ _ h4, real1 _ _ _ _ _ _ h5⟩

/-- The reference runs to the end from every memory, and declares no semaphore. -/
theorem frame_ref : Cert.quiescent_PleRefIdeal := fun m ρ _ =>
  (θ_run Cert.PleRefIdeal.defs _ _).mono (fun r h => ⟨fun c => (h c).2.2.2.2, sem_eq_zero_of_no_sems (by decide) r.2⟩)
    (Cert.PleRefIdeal.Value.run (F := Ideal) m ρ)

/-- Over the reals the kernel's four results are the derivative of the gated embedding. -/
theorem value : Cert.algebraic_PleIdeal_PleRefIdeal_pre_ple_finite := by
  pair_intro
  all_goals have hreal := fun c => real_args _ _ _ _ _ _ _ (congrFun (hpre c) ValueIdx.ix0)
  run_from Cert.PleIdeal.Gen.run_main m g
  run_from Cert.PleRefIdeal.Value.run m' g'
  all_goals
    obtain ⟨⟨D, h0⟩, ⟨P, h1⟩, ⟨Wp, h2⟩, ⟨Wg, h3⟩, ⟨X, h4⟩, G, h5⟩ := hreal c
    obtain ⟨e0, e1, e2, e3, e4, e5⟩ := hagree c
  · rw [PleRefIdeal.Read.val_main_v58_eq, e0, e1, e2, e3, e4, e5, h0, h1, h2, h3, h4, h5]
    exact (PleRef.dx_eq D X P Wp Wg G).trans (PleFinal.final8 m c D X P Wp Wg G h0 h1 h2 h3 h4 h5).symm
  · rw [PleRefIdeal.Read.val_main_v59_eq, h0, h1, h2, h3, h4, h5]
    exact (PleRef.gg_eq D X P Wp Wg G).trans (PleFinal.final9 m c D X P Wp Wg G h0 h1 h2 h3 h4 h5).symm
  · rw [PleRefIdeal.Read.val_main_v33_eq, h0, h1, h3, h4, h5]
    exact (PleRef.gpp_eq D X P Wg G).trans (PleFinal.final10 m c D X P Wp Wg G h0 h1 h2 h3 h4 h5).symm
  · rw [PleRefIdeal.Read.val_main_v36_eq, h0, h1, h2, h3, h4, h5]
    exact (PleRef.gpg_eq D X P Wp Wg G).trans (PleFinal.final11 m c D X P Wp Wg G h0 h1 h2 h3 h4 h5).symm

end Cert.PleClaim

end
-- ==== Proof.RmsbKernel.lean ====
/- The values the feed-forward input product's gradient kernel computes from one tile of rows, on reals. -/
module

public import proofs.«01_k».proof.Proof.RmsNorm
public import proofs.«01_k».proof.Proof.LiftDot
public import proofs.«01_k».proof.Proof.Gen.RmsbIdeal.Skeleton

@[expose] public section

noncomputable section

namespace Cert.RmsbTile

open Idealize.ShloMosaic Cert.Lift Cert.RmsNorm Cert.RmsbIdeal Cert.RmsbIdeal.Gen

variable (U : Fin 512 → Fin 5632 → ℝ) (W : Fin 1024 → Fin 5632 → ℝ) (X D : Fin 512 → Fin 1024 → ℝ) (G : Fin 1 → Fin 1024 → ℝ)

/-- The cotangent of the normalised and scaled rows. -/
abbrev dh (r : Fin 512) (k : Fin 1024) : ℝ := ∑ l, U r l * W k l

theorem pay2 : k0_pay2 (F := Ideal) (up2 U) (up2 W) = up2 (dh U W) := by
  unfold k0_pay2
  simp (disch := exact rfl) only [castSelf, mmNT _ _ _ (rfl : Axes dot_S512x5632_S1024x5632_S512x1024_1_1_0_0_n_n _ _ _ _)]

/-- The reciprocal root mean squares. -/
theorem pay3 : k0_pay3 (F := Ideal) (up2 X) = up2 fun r _ => rr (X r) := by
  unfold k0_pay3
  simp (disch := norm_num) only [rowSum, lay2, vec2, words, scalar_word, splat2, divf2]
  exact rsqrt2 _ fun r _ => ms_pos (X r)

/-- The normalised rows. -/
theorem pay4 : k0_pay4 (F := Ideal) (up2 X) = up2 fun r k => xh (X r) k := by
  unfold k0_pay4
  simp only [pay3, bcCol, vec2]
  rfl

/-- The tile's part of the gradient of the gain. -/
theorem pay5 : k0_pay5 (F := Ideal) (up2 U) (up2 W) (up2 X) = up2 fun _ k => ∑ r, dh U W r k * xh (X r) k := by
  unfold k0_pay5
  simp only [pay2, pay4, vec2, colSum, lay2]

theorem pay6 (w : Vec Ideal S1x1024 .f32) (i : S1x1024.Idx) :
    k0_pay6 (F := Ideal) (up2 U) (up2 W) (up2 X) w i = w i + up2 (fun (_ : Fin 1) k => ∑ r, dh U W r k * xh (X r) k) i := by
  unfold k0_pay6
  simp only [pay5, shapeCast_self]
  rfl

/-- The cotangent of the normalised rows. -/
theorem pay7 : k0_pay7 (F := Ideal) (up2 U) (up2 W) (up2 G) = up2 fun r k => dh U W r k * G 0 k := by
  unfold k0_pay7
  simp only [pay2, castSelf, bcRow, vec2]

theorem pay8 : k0_pay8 (F := Ideal) (up2 U) (up2 W) (up2 X) (up2 G) = up2 fun r _ => (∑ j, dh U W r j * G 0 j * xh (X r) j) / 1024 := by
  unfold k0_pay8
  simp (disch := norm_num) only [pay7, pay4, rowSum, lay2, vec2, words, scalar_word, splat2, bcCol, divf2]

/-- The gradient with respect to the rows: the cotangent of the residual plus the norm's gradient. -/
theorem pay1 : k0_pay1 (F := Ideal) (up2 fun r _ => rr (X r)) (up2 fun r k => xh (X r) k) (up2 fun r k => dh U W r k * G 0 k) (up2 D)
      (up2 fun r _ => (∑ j, dh U W r j * G 0 j * xh (X r) j) / 1024)
    = up2 fun r k => D r k + back (X r) (fun j => dh U W r j * G 0 j) k := by
  unfold k0_pay1
  simp only [vec2, bcCol]
  rfl

end Cert.RmsbTile

end
-- ==== Proof.LiftCut.lean ====
/- Cuts and concatenations of matrices of reals, and the exchange of two column groups. -/
module

public import proofs.«01_k».proof.Proof.LiftDot

@[expose] public section

noncomputable section

namespace Cert.Lift

open Idealize.ShloMosaic

variable {a b n l : ℕ}

theorem row_lt {p q : ℕ} (h : (⟨2, ![a, b]⟩ : Shape).Slices ![p, q] ⟨2, ![n, l]⟩) (i : Fin n) : p + i.val < a :=
  lt_of_lt_of_le (Nat.add_lt_add_left i.isLt p) (h.2 0)

theorem col_lt {p q : ℕ} (h : (⟨2, ![a, b]⟩ : Shape).Slices ![p, q] ⟨2, ![n, l]⟩) (j : Fin l) : q + j.val < b :=
  lt_of_lt_of_le (Nat.add_lt_add_left j.isLt q) (h.2 1)

/-- A rectangle of a matrix of reals. -/
theorem cut2 (X : Fin a → Fin b → ℝ) (p q : ℕ) (h : (⟨2, ![a, b]⟩ : Shape).Slices ![p, q] ⟨2, ![n, l]⟩) :
    extractStridedSlice (no_index ⟨2, ![n, l]⟩) (no_index ![p, q]) (up2 X) h
      = up2 fun i j => X ⟨p + i.val, row_lt h i⟩ ⟨q + j.val, col_lt h j⟩ := by
  funext i
  refine (extractStridedSlice_apply _ _ h i (ValueIdx.ix2 _ _) fun ax => ?_).trans rfl
  match ax with | ⟨0, _⟩ => rfl | ⟨1, _⟩ => rfl

/-- Four matrices of one width side by side: the entries. -/
def beside (X₀ X₁ X₂ X₃ : Fin a → Fin b → ℝ) (hn : n = 4 * b) (r : Fin a) (k : Fin n) : ℝ :=
  if h₁ : k.val < b then X₀ r ⟨k.val, h₁⟩ else if h₂ : k.val < 2 * b then X₁ r ⟨k.val - b, by omega⟩
          else if h₃ : k.val < 3 * b then X₂ r ⟨k.val - 2 * b, by omega⟩ else X₃ r ⟨k.val - 3 * b, by have := k.isLt; omega⟩

/-- Four matrices of one width side by side. -/
theorem cat4 (X₀ X₁ X₂ X₃ : Fin a → Fin b → ℝ)
    (h : Shape.Concatenates [⟨2, ![a, b]⟩, ⟨2, ![a, b]⟩, ⟨2, ![a, b]⟩, ⟨2, ![a, b]⟩] ⟨2, ![a, n]⟩ 1) (hn : n = 4 * b) :
    concatenate (no_index ⟨2, ![a, n]⟩) 1 [⟨⟨2, ![a, b]⟩, up2 X₀⟩, ⟨⟨2, ![a, b]⟩, up2 X₁⟩, ⟨⟨2, ![a, b]⟩, up2 X₂⟩, ⟨⟨2, ![a, b]⟩, up2 X₃⟩] h
      = up2 (beside X₀ X₁ X₂ X₃ hn) := by
  funext j
  obtain ⟨r, k, rfl⟩ : ∃ r k, j = ValueIdx.ix2 r k := ⟨_, _, ValueIdx.eq_ix2 j⟩
  have hk := k.isLt
  show _ = ((beside X₀ X₁ X₂ X₃ hn r k : ℝ) : EReal)
  unfold beside
  by_cases h₁ : k.val < b
  · rw [dif_pos h₁]
    exact concatenate_apply_piece (t := ⟨2, ![a, n]⟩) (1 : Fin 2) [⟨⟨2, ![a, b]⟩, up2 X₀⟩, ⟨⟨2, ![a, b]⟩, up2 X₁⟩, ⟨⟨2, ![a, b]⟩, up2 X₂⟩, ⟨⟨2, ![a, b]⟩, up2 X₃⟩] h (ValueIdx.ix2 r k) 0 (by simp) ⟨2, ![a, b]⟩ (up2 X₀) rfl rfl 0 rfl (ValueIdx.ix2 r ⟨k.val, h₁⟩)
      (fun ax hax => by match ax with | ⟨0, _⟩ => rfl | ⟨1, _⟩ => exact absurd rfl hax) (Nat.zero_add _)
  · by_cases h₂ : k.val < 2 * b
    · rw [dif_neg h₁, dif_pos h₂]
      exact concatenate_apply_piece (t := ⟨2, ![a, n]⟩) (1 : Fin 2) [⟨⟨2, ![a, b]⟩, up2 X₀⟩, ⟨⟨2, ![a, b]⟩, up2 X₁⟩, ⟨⟨2, ![a, b]⟩, up2 X₂⟩, ⟨⟨2, ![a, b]⟩, up2 X₃⟩] h (ValueIdx.ix2 r k) 1 (by simp) ⟨2, ![a, b]⟩ (up2 X₁) rfl rfl b (by simp) (ValueIdx.ix2 r ⟨k.val - b, by omega⟩)
        (fun ax hax => by match ax with | ⟨0, _⟩ => rfl | ⟨1, _⟩ => exact absurd rfl hax) (show b + (k.val - b) = k.val by omega)
    · by_cases h₃ : k.val < 3 * b
      · rw [dif_neg h₁, dif_neg h₂, dif_pos h₃]
        exact concatenate_apply_piece (t := ⟨2, ![a, n]⟩) (1 : Fin 2) [⟨⟨2, ![a, b]⟩, up2 X₀⟩, ⟨⟨2, ![a, b]⟩, up2 X₁⟩, ⟨⟨2, ![a, b]⟩, up2 X₂⟩, ⟨⟨2, ![a, b]⟩, up2 X₃⟩] h (ValueIdx.ix2 r k) 2 (by simp) ⟨2, ![a, b]⟩ (up2 X₂) rfl rfl (2 * b) (by simp; omega) (ValueIdx.ix2 r ⟨k.val - 2 * b, by omega⟩)
          (fun ax hax => by match ax with | ⟨0, _⟩ => rfl | ⟨1, _⟩ => exact absurd rfl hax) (show 2 * b + (k.val - 2 * b) = k.val by omega)
      · rw [dif_neg h₁, dif_neg h₂, dif_neg h₃]
        exact concatenate_apply_piece (t := ⟨2, ![a, n]⟩) (1 : Fin 2) [⟨⟨2, ![a, b]⟩, up2 X₀⟩, ⟨⟨2, ![a, b]⟩, up2 X₁⟩, ⟨⟨2, ![a, b]⟩, up2 X₂⟩, ⟨⟨2, ![a, b]⟩, up2 X₃⟩] h (ValueIdx.ix2 r k) 3 (by simp) ⟨2, ![a, b]⟩ (up2 X₃) rfl rfl (3 * b) (by simp; omega) (ValueIdx.ix2 r ⟨k.val - 3 * b, by omega⟩)
          (fun ax hax => by match ax with | ⟨0, _⟩ => rfl | ⟨1, _⟩ => exact absurd rfl hax) (show 3 * b + (k.val - 3 * b) = k.val by omega)

/-- The column of the problem's arrays that stands at column `k` of the version's: of the four groups of 1408 columns the two in the middle change places. -/
def swap (k : Fin 5632) : Fin 5632 :=
  if k.val < 1408 then k else if h : k.val < 2816 then ⟨k.val + 1408, by omega⟩ else if k.val < 4224 then ⟨k.val - 1408, by omega⟩ else k

theorem swap_val (k : Fin 5632) : (swap k).val = if k.val < 1408 then k.val else if k.val < 2816 then k.val + 1408 else if k.val < 4224 then k.val - 1408 else k.val := by
  unfold swap
  split_ifs <;> rfl

theorem swap_swap (k : Fin 5632) : swap (swap k) = k := by
  apply Fin.ext
  rw [swap_val, swap_val]
  split_ifs <;> omega

/-- A sum over the columns does not depend on their order. -/
theorem sum_swap (f : Fin 5632 → ℝ) : ∑ k, f (swap k) = ∑ k, f k := Equiv.sum_comp (Function.Involutive.toPerm swap swap_swap) f

/-- Two matrices side by side: the entries. -/
def pair {e f : ℕ} (A : Fin a → Fin e → ℝ) (B : Fin a → Fin f → ℝ) (hn : n = e + f) (r : Fin a) (k : Fin n) : ℝ :=
  if hk : k.val < e then A r ⟨k.val, hk⟩ else B r ⟨k.val - e, by have := k.isLt; omega⟩

/-- Two matrices side by side. -/
theorem pairCat {e f : ℕ} (A : Fin a → Fin e → ℝ) (B : Fin a → Fin f → ℝ) (h) (hn : n = e + f) :
    concatenate ⟨2, ![a, n]⟩ 1 [⟨⟨2, ![a, e]⟩, up2 A⟩, ⟨⟨2, ![a, f]⟩, up2 B⟩] h
      = up2 (pair A B hn) := by
  funext j
  obtain ⟨r, k, rfl⟩ : ∃ r k, j = ValueIdx.ix2 r k := ⟨_, _, ValueIdx.eq_ix2 j⟩
  have hk := k.isLt
  show _ = ((pair A B hn r k : ℝ) : EReal)
  unfold pair
  by_cases h₁ : k.val < e
  · rw [dif_pos h₁]
    exact concatenate_apply_piece (t := ⟨2, ![a, n]⟩) (1 : Fin 2) [⟨⟨2, ![a, e]⟩, up2 A⟩, ⟨⟨2, ![a, f]⟩, up2 B⟩] h (ValueIdx.ix2 r k) 0 (by simp) ⟨2, ![a, e]⟩ (up2 A) rfl rfl 0 (by simp) (ValueIdx.ix2 r ⟨k.val, h₁⟩)
      (fun ax hax => by match ax with | ⟨0, _⟩ => rfl | ⟨1, _⟩ => exact absurd rfl hax) (Nat.zero_add _)
  · rw [dif_neg h₁]
    exact concatenate_apply_piece (t := ⟨2, ![a, n]⟩) (1 : Fin 2) [⟨⟨2, ![a, e]⟩, up2 A⟩, ⟨⟨2, ![a, f]⟩, up2 B⟩] h (ValueIdx.ix2 r k) 1 (by simp) ⟨2, ![a, f]⟩ (up2 B) rfl rfl e (by simp) (ValueIdx.ix2 r ⟨k.val - e, by omega⟩)
      (fun ax hax => by match ax with | ⟨0, _⟩ => rfl | ⟨1, _⟩ => exact absurd rfl hax) (show e + (k.val - e) = k.val by omega)

/-- Four groups of columns put together again with the two in the middle exchanged. -/
theorem catSwap (X : Fin a → Fin 5632 → ℝ) (h₀ h₁ h₂ h₃) (h) :
    concatenate ⟨2, ![a, 5632]⟩ 1
      [⟨⟨2, ![a, 1408]⟩, extractStridedSlice ⟨2, ![a, 1408]⟩ ![0, 0] (up2 X) h₀⟩, ⟨⟨2, ![a, 1408]⟩, extractStridedSlice ⟨2, ![a, 1408]⟩ ![0, 2816] (up2 X) h₁⟩,
       ⟨⟨2, ![a, 1408]⟩, extractStridedSlice ⟨2, ![a, 1408]⟩ ![0, 1408] (up2 X) h₂⟩, ⟨⟨2, ![a, 1408]⟩, extractStridedSlice ⟨2, ![a, 1408]⟩ ![0, 4224] (up2 X) h₃⟩] h
      = up2 fun r k => X r (swap k) := by
  rw [cut2 X 0 0, cut2 X 0 2816, cut2 X 0 1408, cut2 X 0 4224]
  refine (cat4 (n := 5632) _ _ _ _ h rfl).trans ?_
  refine congrArg up2 (funext fun r => funext fun k => ?_)
  have hk := k.isLt
  unfold swap beside
  split_ifs <;> first | omega | (refine congrArg₂ X (Fin.ext ?_) (Fin.ext ?_) <;> (dsimp only; omega))

/-- The version's arrangement of the columns: the array is cut in two halves, each half in two, and the four groups are put together again, first halves first. -/
theorem cutSwap (X : Fin a → Fin 5632 → ℝ) (h₀ h₁ h₂ h₃) (h) :
    concatenate ⟨2, ![a, 5632]⟩ 1
      [⟨⟨2, ![a, 1408]⟩, extractStridedSlice ⟨2, ![a, 1408]⟩ ![0, 0] (extractStridedSlice ⟨2, ![a, 2816]⟩ ![0, 0] (up2 X) h₀) h₂⟩,
       ⟨⟨2, ![a, 1408]⟩, extractStridedSlice ⟨2, ![a, 1408]⟩ ![0, 0] (extractStridedSlice ⟨2, ![a, 2816]⟩ ![0, 2816] (up2 X) h₁) h₂⟩,
       ⟨⟨2, ![a, 1408]⟩, extractStridedSlice ⟨2, ![a, 1408]⟩ ![0, 1408] (extractStridedSlice ⟨2, ![a, 2816]⟩ ![0, 0] (up2 X) h₀) h₃⟩,
       ⟨⟨2, ![a, 1408]⟩, extractStridedSlice ⟨2, ![a, 1408]⟩ ![0, 1408] (extractStridedSlice ⟨2, ![a, 2816]⟩ ![0, 2816] (up2 X) h₁) h₃⟩] h
      = up2 fun r k => X r (swap k) := by
  rw [cut2 X 0 0, cut2 X 0 2816, cut2 _ 0 0 h₂, cut2 _ 0 0 h₂, cut2 _ 0 1408 h₃, cut2 _ 0 1408 h₃]
  refine (cat4 (n := 5632) _ _ _ _ h rfl).trans ?_
  refine congrArg up2 (funext fun r => funext fun k => ?_)
  have hk := k.isLt
  unfold swap beside
  split_ifs <;> first | omega | (refine congrArg₂ X (Fin.ext ?_) (Fin.ext ?_) <;> (dsimp only; omega))

end Cert.Lift

end
-- ==== Proof.RmsbFinal.lean ====
/- The arrays the feed-forward input product's gradient kernel leaves, on reals. -/
module

public import proofs.«01_k».proof.Proof.RmsbKernel
public import proofs.«01_k».proof.Proof.LiftCut
public import proofs.«01_k».proof.Proof.Gen.RmsbIdeal.Value
public import Idealize.ShloMosaic.Lib.Claim
public import Idealize.ShloMosaic.Lib.Pipeline.ValueKit

@[expose] public section

set_option maxRecDepth 16384

noncomputable section

namespace Cert.RmsbFinal

open Idealize.ShloMosaic Idealize.ShloMosaic.TcCoe Idealize.SL.Sem Cert.Lift Cert.RmsNorm Cert.RmsbIdeal Cert.RmsbIdeal.Gen
open Idealize.ShloMosaic.Pipeline (Dat)

variable (m : (ℓ : Loc nD τ sig) → Buf (Elt Ideal) ℓ) (c : Dev nD)
variable (U : Fin 8192 → Fin 5632 → ℝ) (W : Fin 1024 → Fin 5632 → ℝ) (X D : Fin 8192 → Fin 1024 → ℝ) (G : Fin 1024 → ℝ)

/-- Which block each window stages at a point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0])

/-- Row `r` of point `t`'s tile. -/
def row (t : Fin cfg0.N) (r : Fin 512) : Fin 8192 := ⟨t.val * 512 + r.val, by have h := t.isLt; have := r.isLt; have h2 : cfg0.N = 16 := N_0; omega⟩

/-- The first point is the only one whose number is a multiple of 16. -/
theorem first (t : Fin cfg0.N) (h : t.val % 16 = 0) : ¬1 ≤ t.val := by have h1 := t.isLt; have h2 : cfg0.N = 16 := N_0; omega
theorem later (t : Fin cfg0.N) (h : ¬t.val % 16 = 0) : 1 ≤ t.val := by omega

section

variable (h0 : m ((c : Thread nD τ).loc main_arg0) = up2 U) (h1 : m ((c : Thread nD τ).loc main_arg1) = up2 W)
  (h2 : m ((c : Thread nD τ).loc main_arg2) = up2 X) (h3 : m ((c : Thread nD τ).loc main_arg3) = up1 G) (h4 : m ((c : Thread nD τ).loc main_arg4) = up2 D)

include h0 in
/-- The cotangent the host hands to the kernel, its columns in the version's order. -/
theorem hostU : V m c main_v7 = up2 fun r k => U r (swap k) := by
  simp only [V, hostOps0, List.flatten_cons, List.flatten_nil, List.append_nil, List.cons_append, List.nil_append]
  after_results_simp
  refine Eq.trans ?_ (cutSwap U slices_S8192x5632_S8192x2816_0_0 slices_S8192x5632_S8192x2816_0_2816 slices_S8192x2816_S8192x1408_0_0 slices_S8192x2816_S8192x1408_0_1408
    concatenates_S8192x1408_S8192x1408_S8192x1408_S8192x1408_S8192x5632_d1)
  rw [← h0]
  rfl

include h1 in
/-- The weights the host hands to the kernel, their columns in the version's order. -/
theorem hostW : V m c main_v15 = up2 fun r k => W r (swap k) := by
  simp only [V, hostOps0, List.flatten_cons, List.flatten_nil, List.append_nil, List.cons_append, List.nil_append]
  after_results_simp
  refine Eq.trans ?_ (cutSwap W slices_S1024x5632_S1024x2816_0_0 slices_S1024x5632_S1024x2816_0_2816 slices_S1024x2816_S1024x1408_0_0 slices_S1024x2816_S1024x1408_0_1408
    concatenates_S1024x1408_S1024x1408_S1024x1408_S1024x1408_S1024x5632_d1)
  rw [← h1]
  rfl

include h0 in
theorem blk0 (t : Fin cfg0.N) : iblk m c 0 t = up2 fun r k => U (row t r) (swap k) := by
  funext y
  refine Eq.trans (b := V m c main_v7 (ValueIdx.ix2 (row t (y 0)) (y 1))) ?_ (congrFun (hostU m c U h0) _)
  blk_ext [iblk, idx t, row]

include h1 in
theorem blk1 (t : Fin cfg0.N) : iblk m c 1 t = up2 fun r k => W r (swap k) := by
  funext y
  refine Eq.trans (b := V m c main_v15 (ValueIdx.ix2 (y 0) (y 1))) ?_ (congrFun (hostW m c W h1) _)
  blk_ext [iblk, idx t]

include h2 in
theorem blk2 (t : Fin cfg0.N) : iblk m c 2 t = up2 fun r k => X (row t r) k := by
  funext y
  refine Eq.trans (b := m ((c : Thread nD τ).loc main_arg2) (ValueIdx.ix2 (row t (y 0)) (y 1))) ?_ (congrFun h2 _)
  blk_point [iblk, V, idx t, row]

include h3 in
theorem blk3 (t : Fin cfg0.N) : iblk m c 3 t = up2 fun _ k => G k := by
  funext y
  refine Eq.trans (b := m ((c : Thread nD τ).loc main_arg3) (ValueIdx.ix1 (y 1))) ?_ (congrFun h3 _)
  blk_point [iblk, V, idx t]

include h4 in
theorem blk4 (t : Fin cfg0.N) : iblk m c 4 t = up2 fun r k => D (row t r) k := by
  funext y
  refine Eq.trans (b := m ((c : Thread nD τ).loc main_arg4) (ValueIdx.ix2 (row t (y 0)) (y 1))) ?_ (congrFun h4 _)
  blk_point [iblk, V, idx t, row]

/-- The cotangent of the normalised and scaled rows. -/
abbrev dh (r : Fin 8192) (k : Fin 1024) : ℝ := ∑ l, U r l * W k l

/-- The tile's product over the exchanged columns is the product over the columns. -/
theorem dh_swap (t : Fin cfg0.N) : RmsbTile.dh (fun r k => U (row t r) (swap k)) (fun r k => W r (swap k)) = fun r k => dh U W (row t r) k := by
  funext r k
  exact sum_swap fun l => U (row t r) l * W k l

include h0 h1 h2 h3 h4

/-- The gradient with respect to the rows. -/
theorem final5 : (dats m 0 c).arrAt 5 cfg0.N = up2 fun r k => D r k + back (X r) (fun j => dh U W r j * G j) k := by
  refine (dats m 0 c).arrAt_eq_of_covers 5 _ (by decide +kernel) fun t hf y => ?_
  blk_simp
  rw [after0_5]
  by_cases h : t.val % 16 = 0
  · rw [outsAt0_A m c t h (first t h)]
    frame_out
    rw [blk0 m c U h0, blk1 m c W h1, blk2 m c X h2, blk3 m c G h3, blk4 m c D h4, RmsbTile.pay3, RmsbTile.pay4, RmsbTile.pay7, RmsbTile.pay8, RmsbTile.pay1 (fun r k => U (row t r) (swap k)) (fun r k => W r (swap k)) (fun r k => X (row t r) k) (fun r k => D (row t r) k) (fun _ k => G k), dh_swap]
    refine Eq.trans (b := up2 (fun r k => D r k + back (X r) (fun j => dh U W r j * G j) k) (ValueIdx.ix2 (row t (y 0)) (y 1))) rfl ?_
    blk_point [idx t, row]
  · rw [outsAt0_B m c t h (later t h)]
    frame_out
    rw [blk0 m c U h0, blk1 m c W h1, blk2 m c X h2, blk3 m c G h3, blk4 m c D h4, RmsbTile.pay3, RmsbTile.pay4, RmsbTile.pay7, RmsbTile.pay8, RmsbTile.pay1 (fun r k => U (row t r) (swap k)) (fun r k => W r (swap k)) (fun r k => X (row t r) k) (fun r k => D (row t r) k) (fun _ k => G k), dh_swap]
    refine Eq.trans (b := up2 (fun r k => D r k + back (X r) (fun j => dh U W r j * G j) k) (ValueIdx.ix2 (row t (y 0)) (y 1))) rfl ?_
    blk_point [idx t, row]

omit h3 h4 in
/-- The gradient of the gain. -/
theorem final6 : (dats m 0 c).arrAt 6 cfg0.N = up2 fun _ k => ∑ r, xh (X r) k * dh U W r k := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t => up2 fun _ k => ∑ r, dh U W (row t r) k * xh (X (row t r)) k)
    (fun t h j => by
      rw [outsAt0_A m c t h (first t h)]; frame_out
      rw [blk0 m c U h0, blk1 m c W h1, blk2 m c X h2, RmsbTile.pay5, dh_swap]
      exact (zero_add _).symm)
    (fun t h j => by
      rw [outsAt0_B m c t h (later t h)]; frame_out
      rw [blk0 m c U h0, blk1 m c W h1, blk2 m c X h2, RmsbTile.pay6, dh_swap])
    (le_of_eq N_0) t0_15 rfl j, zero_add]
  refine (tile_sum (congrArg (· * 512) N_0) row (fun _ _ => rfl) fun r => dh U W r (j 1) * xh (X r) (j 1)).trans ?_
  exact congrArg _ (Finset.sum_congr rfl fun r _ => mul_comm _ _)

end

end Cert.RmsbFinal

end
-- ==== Proof.RmsbRef.lean ====
/- The values of the reference of the feed-forward input product and its norm, one group of lines at a time, on reals. -/
module

public import proofs.«01_k».proof.Proof.RmsNorm
public import proofs.«01_k».proof.Proof.LiftDot
public import proofs.«01_k».proof.Proof.Gen.RmsbRefIdeal.Read

@[expose] public section

noncomputable section

namespace Cert.RmsbRef

open Idealize.ShloMosaic Cert.Lift Cert.RmsNorm Cert.RmsbRefIdeal Cert.RmsbRefIdeal.Gen Cert.RmsbRefIdeal.Read

variable (U : Fin 8192 → Fin 5632 → ℝ) (W : Fin 1024 → Fin 5632 → ℝ) (X D : Fin 8192 → Fin 1024 → ℝ) (G : Fin 1024 → ℝ)

/-- The cotangent of the normalised and scaled rows. -/
abbrev dh (r : Fin 8192) (k : Fin 1024) : ℝ := ∑ l, U r l * W k l

/-- The mean squares. -/
theorem ms_eq : val_main_v6 (F := Ideal) (up2 X) = up2 fun r _ => ms (X r) := by
  unfold val_main_v6 val_main_v5 val_main_v4 val_main_v3 val_main_v2 val_main_v1 val_main_v0 val_main_cst val_main_cst_0 val_main_cst_1
  simp (disch := norm_num) only [consts, hostRowSum, bcVecRows, bcScalar, hostDiv2, vec2]
  rfl

/-- The reciprocal root mean squares. -/
theorem rr_eq : val_main_v7 (F := Ideal) (up2 X) = up2 fun r _ => rr (X r) := by
  unfold val_main_v7
  rw [ms_eq]
  exact hostRsqrt2 _ fun r _ => ms_pos (X r)

/-- The derivative of the reciprocal root. -/
theorem drr_eq : val_main_v10 (F := Ideal) (up2 X) = up2 fun r _ => -(1 / 2) * (rr (X r) / ms (X r)) := by
  unfold val_main_v10 val_main_v9 val_main_v8 val_main_cst_2
  simp (disch := exact fun r _ => ms_ne _) only [rr_eq, ms_eq, consts, bcScalar, hostDiv2, vec2]

/-- The normalised rows. -/
theorem xh_eq : val_main_v12 (F := Ideal) (up2 X) = up2 fun r k => xh (X r) k := by
  unfold val_main_v12 val_main_v11
  simp only [rr_eq, hostBcCol, vec2]
  rfl

/-- The cotangent of the normalised and scaled rows. -/
theorem dh_eq : val_main_v17 (F := Ideal) (up2 U) (up2 W) = up2 (dh U W) := by
  unfold val_main_v17
  exact dotNT _ _ _ rfl

/-- The gradient of the gain. -/
theorem gg_eq : val_main_v39 (F := Ideal) (up2 U) (up2 W) (up2 X) = up2 fun _ k => ∑ r, xh (X r) k * dh U W r k := by
  unfold val_main_v39 val_main_v23 val_main_v20 val_main_v19 val_main_v18 val_main_cst_3 val_main_cst_4
  simp only [dh_eq, xh_eq, consts, hostColSum, lay2, bcVecCols, vec2, Fin.sum_univ_one]

/-- The cotangent of the normalised rows. -/
theorem e_eq : val_main_v22 (F := Ideal) (up2 U) (up2 W) (up1 G) = up2 fun r k => dh U W r k * G k := by
  unfold val_main_v22 val_main_v21 val_main_v13
  simp only [dh_eq, bcVecCols, hostBcRow, vec2]

/-- The gradient with respect to the rows. -/
theorem dx_eq : val_main_v38 (F := Ideal) (up2 U) (up2 W) (up2 X) (up1 G) (up2 D)
    = up2 fun r k => D r k + back (X r) (fun j => dh U W r j * G j) k := by
  unfold val_main_v38 val_main_v37 val_main_v36 val_main_v35 val_main_v34 val_main_v33 val_main_v32 val_main_v31 val_main_v30 val_main_v29 val_main_v28 val_main_v27 val_main_v26 val_main_v25 val_main_v24 val_main_cst_5 val_main_cst_6 val_main_cst_7
  simp (disch := norm_num) only [e_eq, rr_eq, drr_eq, consts, hostRowSum, lay2, bcScalar, bcVecRows, hostBcCol, hostDiv2, vec2, Fin.sum_univ_one]
  refine congrArg up2 (funext fun r => funext fun k => ?_)
  rw [← back_eq (X r) (fun j => dh U W r j * G j) k _ rfl]
  ring

end Cert.RmsbRef

end
-- ==== Proof.RmsbClaim.lean ====
/- The feed-forward input product's gradient with its norm's: the two claims of its pair that no generated theorem states. -/
module

public import proofs.«01_k».proof.Defs
public import proofs.«01_k».proof.Proof.RmsbFinal
public import proofs.«01_k».proof.Proof.RmsbRef
public import proofs.«01_k».proof.Proof.Gen.Rmsb.Frame
public import proofs.«01_k».proof.Proof.Gen.RmsbIdeal.Frame
public import proofs.«01_k».proof.Proof.Gen.RmsbRefIdeal.Run
public import proofs.«01_k».proof.Proof.Gen.Pre_rmsb_finite

@[expose] public section

set_option maxRecDepth 16384
set_option maxHeartbeats 1000000

noncomputable section

namespace Cert.RmsbClaim

open Idealize.ShloMosaic Idealize.SL.Sem Cert.Lift Cert.RmsNorm

/-- The precondition says that the five arguments hold real numbers only. -/
theorem real_args (a0 : Vec Ideal ⟨2, ![8192, 5632]⟩ .f32) (a1 : Vec Ideal ⟨2, ![1024, 5632]⟩ .f32) (a2 a4 : Vec Ideal ⟨2, ![8192, 1024]⟩ .f32)
    (a3 : Vec Ideal ⟨1, ![1024]⟩ .f32) (j : (⟨0, ![]⟩ : Shape).Idx)
    (h : Cert.Pre_rmsb_finite.fn (F := Ideal) a0 a1 a2 a3 a4 j = 1#1) :
    (∃ U, a0 = up2 U) ∧ (∃ W, a1 = up2 W) ∧ (∃ X, a2 = up2 X) ∧ (∃ G, a3 = up1 G) ∧ ∃ D, a4 = up2 D := by
  dsimp only [Cert.Pre_rmsb_finite.fn, Cert.Pre_rmsb_finite.fn_part1] at h
  obtain ⟨h, h4⟩ := and_one _ _ _ h
  obtain ⟨h, h3⟩ := and_one _ _ _ h
  obtain ⟨h, h2⟩ := and_one _ _ _ h
  obtain ⟨h0, h1⟩ := and_one _ _ _ h
  exact ⟨real2 _ _ _ _ _ _ h0, real2 _ _ _ _ _ _ h1, real2 _ _ _ _ _ _ h2, real1 _ _ _ _ _ _ h3, real2 _ _ _ _ _ _ h4⟩

/-- The reference runs to the end from every memory, and declares no semaphore. -/
theorem frame_ref : Cert.quiescent_RmsbRefIdeal := fun m ρ _ =>
  (θ_run Cert.RmsbRefIdeal.defs _ _).mono (fun r h => ⟨fun c => (h c).2.2, sem_eq_zero_of_no_sems (by decide) r.2⟩)
    (Cert.RmsbRefIdeal.Value.run (F := Ideal) m ρ)

/-- Over the reals the kernel's two results are the derivative of the norm followed by the product. -/
theorem value : Cert.algebraic_RmsbIdeal_RmsbRefIdeal_pre_rmsb_finite := by
  pair_intro
  all_goals have hreal := fun c => real_args _ _ _ _ _ _ (congrFun (hpre c) ValueIdx.ix0)
  run_from Cert.RmsbIdeal.Value.run_blocks m g
  run_from Cert.RmsbRefIdeal.Value.run m' g'
  all_goals
    obtain ⟨⟨U, h0⟩, ⟨W, h1⟩, ⟨X, h2⟩, ⟨G, h3⟩, D, h4⟩ := hreal c
    obtain ⟨e0, e1, e2, e3, e4⟩ := hagree c
  · rw [RmsbRefIdeal.Read.val_main_v38_eq, e0, e1, e2, e3, e4, h0, h1, h2, h3, h4]
    exact (RmsbRef.dx_eq U W X D G).trans (RmsbFinal.final5 m c U W X D G h0 h1 h2 h3 h4).symm
  · rw [RmsbRefIdeal.Read.val_main_v39_eq, h0, h1, h2]
    exact (RmsbRef.gg_eq U W X).trans (RmsbFinal.final6 m c U W X h0 h1 h2).symm

end Cert.RmsbClaim

end
-- ==== Proof.LiftLoad.lean ====
/- Loads of rectangles of a matrix of reals. -/
module

public import proofs.«01_k».proof.Proof.LiftCut
public import Idealize.ShloMosaic.Lib.Pipeline.ValueKit

@[expose] public section

noncomputable section

namespace Cert.Lift

open Idealize.ShloMosaic

variable {a b n l : ℕ}

theorem load_row {p q : ℕ} (inb : ∀ ax : Fin 2, (![p, q] : Fin 2 → ℕ) ax + (![n, l] : Fin 2 → ℕ) ax ≤ (⟨2, ![a, b]⟩ : Shape).size ax) (i : Fin n) : p + i.val < a :=
  lt_of_lt_of_le (Nat.add_lt_add_left i.isLt p) (inb 0)

theorem load_col {p q : ℕ} (inb : ∀ ax : Fin 2, (![p, q] : Fin 2 → ℕ) ax + (![n, l] : Fin 2 → ℕ) ax ≤ (⟨2, ![a, b]⟩ : Shape).size ax) (j : Fin l) : q + j.val < b :=
  lt_of_lt_of_le (Nat.add_lt_add_left j.isLt q) (inb 1)

/-- A load of a rectangle of a matrix of reals held in half precision. -/
theorem loadHalf (X : Fin a → Fin b → ℝ) (p q : ℕ) (inb) :
    View.ld (Val := Elt Ideal) (e' := .bf16) (up2 X) (Rect.unit (s := ⟨2, ![a, b]⟩) ![p, q] ![n, l] inb)
      = up2 fun i j => X ⟨p + i.val, load_row inb i⟩ ⟨q + j.val, load_col inb j⟩ := by
  funext x
  refine (View.ld_unit_apply_of _ _ _ inb x (ValueIdx.ix2 ⟨p + (x 0).val, load_row inb (x 0)⟩ ⟨q + (x 1).val, load_col inb (x 1)⟩) fun ax => ?_).trans rfl
  match ax with | ⟨0, _⟩ => rfl | ⟨1, _⟩ => rfl

/-- A load of a rectangle of a matrix of reals. -/
theorem load2 (X : Fin a → Fin b → ℝ) (p q : ℕ) (inb) :
    View.ld (Val := Elt Ideal) (e' := .f32) (up2 X) (Rect.unit (s := ⟨2, ![a, b]⟩) ![p, q] ![n, l] inb)
      = up2 fun i j => X ⟨p + i.val, load_row inb i⟩ ⟨q + j.val, load_col inb j⟩ := loadHalf X p q inb

end Cert.Lift

end
-- ==== Proof.Lift3.lean ====
/- Stacks of matrices of reals: cuts, casts, loads and paddings. -/
module

public import proofs.«01_k».proof.Proof.LiftLoad

@[expose] public section

noncomputable section

namespace Cert.Lift

open Idealize.ShloMosaic

/-- The stack of matrices with the reals `X s r k`. -/
def up3 {d a b : ℕ} (X : Fin d → Fin a → Fin b → ℝ) : (⟨3, ![d, a, b]⟩ : Shape).Idx → EReal := fun i => (X (i 0) (i 1) (i 2) : EReal)

variable {a b d n : ℕ} {φ : FTy}

/-- A stack of matrices of reals, whatever its index function, in the form `up3`. -/
theorem eq_up3 (f : (⟨3, ![d, a, b]⟩ : Shape).Idx → ℝ) : (fun i => (f i : EReal)) = up3 fun s r k => f (ValueIdx.ix3 s r k) := by
  funext i
  exact congrArg (fun j => ((f j : ℝ) : EReal)) (ValueIdx.eq_ix3 i)

/-- An array of three axes compared finite entry by entry is `up3` of real numbers. -/
theorem real3 (X : FVec Ideal ⟨3, ![d, a, b]⟩ .f32) (hb : (⟨0, ![]⟩ : Shape).BroadcastsInDim ⟨3, ![d, a, b]⟩ ![])
    (hr : (⟨3, ![d, a, b]⟩ : Shape).ReducesTo [0, 1, 2] ⟨0, ![]⟩) {v : Shape} (w : IVec v 1) (hu : 0 < v.numel) (j : (⟨0, ![]⟩ : Shape).Idx)
    (h : Host.reduce IntOp.andi (cmpf .olt (Host.absf X) (broadcastInDim ⟨3, ![d, a, b]⟩ ![] hb (constant (⟨0, ![]⟩ : Shape) .f32 0x7F800000#32))) w hr hu j = 1#1) :
    ∃ f, X = up3 f := by
  haveI : Subsingleton (⟨0, ![]⟩ : Shape).Idx := ⟨fun _ _ => funext fun i => i.elim0⟩
  obtain ⟨f, rfl⟩ := real_of_all X hb hr w hu j h
  exact ⟨_, eq_up3 f⟩

/-- The sum of two stacks. -/
theorem add3 (X Y : Fin d → Fin a → Fin b → ℝ) : addf (F := Ideal) (φ := φ) (up3 X) (up3 Y) = up3 fun s r k => X s r k + Y s r k := by
  funext i
  exact (EReal.coe_add _ _).symm

/-- A stack of one matrix as a matrix. -/
theorem castDrop (X : Fin 1 → Fin a → Fin b → ℝ) (h : (⟨3, ![1, a, b]⟩ : Shape).ShapeCasts ⟨2, ![a, b]⟩) :
    shapeCast (no_index ⟨2, ![a, b]⟩) (up3 X) h = up2 (X 0) := by
  funext i
  rw [ValueIdx.eq_ix2 i]
  exact ValueIdx.shapeCast_1ab_ab_apply _ h _ _

/-- A matrix as a stack of one matrix. -/
theorem castAdd (X : Fin a → Fin b → ℝ) (h : (⟨2, ![a, b]⟩ : Shape).ShapeCasts ⟨3, ![1, a, b]⟩) :
    shapeCast (no_index ⟨3, ![1, a, b]⟩) (up2 X) h = up3 fun _ => X := by
  funext i
  rw [ValueIdx.eq_ix3 i]
  exact ValueIdx.shapeCast_ab_1ab_apply _ h _ _ _

/-- One matrix cut out of a stack. -/
theorem cutPage (X : Fin d → Fin a → Fin b → ℝ) (p : ℕ) (hp : p < d) (h : (⟨3, ![d, a, b]⟩ : Shape).Slices ![p, 0, 0] ⟨3, ![1, a, b]⟩) :
    extractStridedSlice (no_index ⟨3, ![1, a, b]⟩) (no_index ![p, 0, 0]) (up3 X) h = up3 fun _ => X ⟨p, hp⟩ := by
  funext i
  refine (extractStridedSlice_apply _ _ h i (ValueIdx.ix3 ⟨p, hp⟩ (i 1) (i 2)) fun ax => ?_).trans rfl
  have h0 : (i 0).val = 0 := Nat.lt_one_iff.mp (i 0).isLt
  match ax with
  | ⟨0, _⟩ => show p = p + (i 0).val; omega
  | ⟨1, _⟩ => exact (Nat.zero_add _).symm
  | ⟨2, _⟩ => exact (Nat.zero_add _).symm

/-- A load of one matrix of a stack held in half precision. -/
theorem loadPage (X : Fin d → Fin a → Fin b → ℝ) (p : ℕ) (hp : p < d) (inb) :
    View.ld (Val := Elt Ideal) (e' := .bf16) (up3 X) (Rect.unit (s := ⟨3, ![d, a, b]⟩) ![p, 0, 0] ![1, a, b] inb) = up3 fun _ => X ⟨p, hp⟩ := by
  funext x
  have h0 : (x 0).val = 0 := Nat.lt_one_iff.mp (x 0).isLt
  refine (View.ld_unit_apply_of _ _ _ inb x (ValueIdx.ix3 ⟨p, hp⟩ (x 1) (x 2)) fun ax => ?_).trans rfl
  match ax with
  | ⟨0, _⟩ => show p = p + (x 0).val; omega
  | ⟨1, _⟩ => exact (Nat.zero_add _).symm
  | ⟨2, _⟩ => exact (Nat.zero_add _).symm

/-- The matrix `X` at columns `p, p + 1, …`, zero elsewhere. -/
def atCols (n p : ℕ) (X : Fin a → Fin b → ℝ) (r : Fin a) (k : Fin n) : ℝ :=
  if h : p ≤ k.val ∧ k.val - p < b then X r ⟨k.val - p, h.2⟩ else 0

/-- The host's padding of a matrix by columns of zeros. -/
theorem padCols (X : Fin a → Fin b → ℝ) (p q : ℕ) (h : (⟨2, ![a, b]⟩ : Shape).Pads ![0, p] ![0, q] ![0, 0] ⟨2, ![a, n]⟩) (hu : 0 < (⟨0, ![]⟩ : Shape).numel) :
    pad (no_index ⟨2, ![a, n]⟩) (no_index ![0, p]) (no_index ![0, q]) (no_index ![0, 0]) (up2 X) (up0 0) h hu = up2 (atCols n p X) := by
  funext i
  show _ = ((atCols n p X (i 0) (i 1) : ℝ) : EReal)
  unfold atCols
  split
  · rename_i hk
    refine (pad_apply_of_inside _ _ _ (up2 X) (up0 0) h hu i (ValueIdx.ix2 (i 0) ⟨(i 1).val - p, hk.2⟩) fun ax => ?_).trans rfl
    match ax with
    | ⟨0, _⟩ => show (i 0).val = 0 + (i 0).val * (0 + 1); omega
    | ⟨1, _⟩ =>
      have e := hk.1
      show (i 1).val = p + ((i 1).val - p) * (0 + 1)
      omega
  · rename_i hk
    refine (pad_apply_of_not_inside _ _ _ (up2 X) (up0 0) h hu i 1 fun hin => hk ⟨hin.1, ?_⟩).trans rfl
    have e := hin.2.2
    exact lt_of_eq_of_lt (Nat.div_one _).symm e

/-- The matrix `X` at place `p` of a stack of zeros. -/
def atPage (d p : ℕ) (X : Fin a → Fin b → ℝ) (s : Fin d) (r : Fin a) (k : Fin b) : ℝ := if s.val = p then X r k else 0

/-- The host's padding of one matrix to a stack. -/
theorem padPages (X : Fin a → Fin b → ℝ) (p q : ℕ) (h : (⟨3, ![1, a, b]⟩ : Shape).Pads ![p, 0, 0] ![q, 0, 0] ![0, 0, 0] ⟨3, ![d, a, b]⟩) (hu : 0 < (⟨0, ![]⟩ : Shape).numel) :
    pad (no_index ⟨3, ![d, a, b]⟩) (no_index ![p, 0, 0]) (no_index ![q, 0, 0]) (no_index ![0, 0, 0]) (up3 fun _ => X) (up0 0) h hu = up3 (atPage d p X) := by
  funext i
  show _ = ((atPage d p X (i 0) (i 1) (i 2) : ℝ) : EReal)
  unfold atPage
  split
  · rename_i hs
    refine (pad_apply_of_inside _ _ _ (up3 fun _ => X) (up0 0) h hu i (ValueIdx.ix3 (0 : Fin 1) (i 1) (i 2)) fun ax => ?_).trans rfl
    match ax with
    | ⟨0, _⟩ => exact hs
    | ⟨1, _⟩ => show (i 1).val = 0 + (i 1).val * (0 + 1); omega
    | ⟨2, _⟩ => show (i 2).val = 0 + (i 2).val * (0 + 1); omega
  · rename_i hs
    refine (pad_apply_of_not_inside _ _ _ (up3 fun _ => X) (up0 0) h hu i 0 fun hin => hs ?_).trans rfl
    have e : p ≤ (i 0).val := hin.1
    have e' : ((i 0).val - p) / (0 + 1) < 1 := hin.2.2
    omega

/-- The host's broadcast of a matrix to a stack of one matrix. -/
theorem bcPage (X : Fin a → Fin b → ℝ) (h : (⟨2, ![a, b]⟩ : Shape).BroadcastsInDim ⟨3, ![1, a, b]⟩ ![1, 2]) :
    broadcastInDim (no_index ⟨3, ![1, a, b]⟩) (no_index ![1, 2]) h (up2 X) = up3 fun _ => X := by
  funext i
  rw [broadcastInDim_apply _ h (up2 X) i (ValueIdx.ix2 (i 1) (i 2)) fun ax => ?_]
  · rfl
  · match ax with
    | ⟨0, _⟩ => exact unit_axis (n := a) (i 1)
    | ⟨1, _⟩ => exact unit_axis (n := b) (i 2)

end Cert.Lift

end
-- ==== Proof.MergeKernel.lean ====
/- The values the gated merge's gradient kernel computes from one tile of rows, on reals. -/
module

public import proofs.«01_k».proof.Proof.Lift3
public import proofs.«01_k».proof.Proof.Gen.MergeIdeal.Skeleton

@[expose] public section

noncomputable section

namespace Cert.MergeTile

open Idealize.ShloMosaic Cert.Lift Cert.MergeIdeal Cert.MergeIdeal.Gen

variable (D M S : Fin 512 → Fin 1024 → ℝ) (O : Fin 1024 → Fin 1024 → ℝ) (Y : Fin 512 → Fin 256 → ℝ) (P : Fin 1 → Fin 256 → Fin 1024 → ℝ)

/-- The cotangent of the merged rows. -/
abbrev dm (r : Fin 512) (k : Fin 1024) : ℝ := ∑ l, D r l * O k l
/-- The gradient of one branch's gate. -/
abbrev dgate (r : Fin 512) (k : Fin 1024) : ℝ := M r k * (∑ l, Y r l * P 0 l k) * S r k * (1 - S r k)
/-- The gradient of one branch's rows. -/
abbrev drow (r : Fin 512) (j : Fin 256) : ℝ := ∑ k, M r k * S r k * P 0 j k
/-- One tile's part of the gradient of one branch's matrix. -/
abbrev dmat (j : Fin 256) (k : Fin 1024) : ℝ := ∑ r, Y r j * (M r k * S r k)

theorem pay1 : k0_pay1 (F := Ideal) (up2 D) = up2 D := rfl

theorem pay2 : k0_pay2 (F := Ideal) (up2 D) (up2 O) = up2 (dm D O) := by
  unfold k0_pay2
  simp (disch := exact rfl) only [pay1, castSelf, mmNT _ _ _ (rfl : Axes dot_S512x1024_S1024x1024_S512x1024_1_1_0_0_n_n _ _ _ _)]

/-- One tile's part of the gradient of the output matrix. -/
theorem pay3 : k0_pay3 (F := Ideal) (up2 D) (up2 M) = up2 (fun j k => ∑ r, M r j * D r k) := by
  unfold k0_pay3
  simp (disch := exact rfl) only [pay1, castSelf, mmTN _ _ _ (rfl : Axes dot_S512x1024_S512x1024_S1024x1024_0_0_1_1_n_n _ _ _ _)]

/-- The same added to what was there. -/
theorem pay4 (v : Vec Ideal S1024x1024 .f32) (y : S1024x1024.Idx) : k0_pay4 (F := Ideal) (up2 D) (up2 M) v y = v y + up2 (fun j k => ∑ r, M r j * D r k) y := by
  unfold k0_pay4
  rw [pay3, shapeCast_self]
  rfl

/-- Widened gates are what they were. -/
theorem wide : k0_pay5 (F := Ideal) (up2 S) = up2 S ∧ k0_pay13 (F := Ideal) (up2 S) = up2 S ∧ k0_pay21 (F := Ideal) (up2 S) = up2 S ∧ k0_pay29 (F := Ideal) (up2 S) = up2 S := by
  unfold k0_pay5 k0_pay13 k0_pay21 k0_pay29
  simp only [castSelf, casts, and_self]

/-- Narrowed rows are what they were. -/
theorem same : k0_pay6 (F := Ideal) (up2 Y) = up2 Y ∧ k0_pay14 (F := Ideal) (up2 Y) = up2 Y ∧ k0_pay22 (F := Ideal) (up2 Y) = up2 Y ∧ k0_pay30 (F := Ideal) (up2 Y) = up2 Y := by
  unfold k0_pay6 k0_pay14 k0_pay22 k0_pay30
  simp only [castSelf, casts, and_self]

/-- The first branch's gates' gradient. -/
theorem gate0 : k0_pay7 (F := Ideal) (up2 D) (up2 O) (up2 S) (up2 Y) (up3 P) = up2 (dgate (dm D O) S Y P) := by
  unfold k0_pay7
  simp (disch := exact rfl) only [pay2, wide, same, castDrop, casts, vec2, words, scalar_word, splat2, mmNN _ _ _ (rfl : Axes dot_S512x256_S256x1024_S512x1024_1_0_0_1_n_n _ _ _ _)]

/-- The other branches' gates' gradients. -/
theorem gates : k0_pay15 (F := Ideal) (up2 M) (up2 S) (up2 Y) (up3 P) = up2 (dgate M S Y P)
    ∧ k0_pay23 (F := Ideal) (up2 M) (up2 S) (up2 Y) (up3 P) = up2 (dgate M S Y P)
    ∧ k0_pay31 (F := Ideal) (up2 M) (up2 S) (up2 Y) (up3 P) = up2 (dgate M S Y P) := by
  unfold k0_pay15 k0_pay23 k0_pay31
  simp (disch := exact rfl) only [pay2, wide, same, castDrop, casts, vec2, words, scalar_word, splat2, mmNN _ _ _ (rfl : Axes dot_S512x256_S256x1024_S512x1024_1_0_0_1_n_n _ _ _ _), and_self]

/-- The cotangent of the first branch's product. -/
theorem cot0 : k0_pay8 (F := Ideal) (up2 D) (up2 O) (up2 S) = up2 (fun r k => dm D O r k * S r k) := by
  unfold k0_pay8
  simp only [pay2, wide, casts, vec2]

/-- The cotangents of the other branches' products. -/
theorem cots : k0_pay16 (F := Ideal) (up2 M) (up2 S) = up2 (fun r k => M r k * S r k)
    ∧ k0_pay24 (F := Ideal) (up2 M) (up2 S) = up2 (fun r k => M r k * S r k) ∧ k0_pay32 (F := Ideal) (up2 M) (up2 S) = up2 (fun r k => M r k * S r k) := by
  unfold k0_pay16 k0_pay24 k0_pay32
  simp only [pay2, wide, casts, vec2, and_self]

/-- The gradients of the branches' rows. -/
theorem rows : k0_pay9 (F := Ideal) (up2 fun r k => M r k * S r k) (up3 P) = up2 (drow M S P) ∧ k0_pay17 (F := Ideal) (up2 M) (up2 S) (up3 P) = up2 (drow M S P)
    ∧ k0_pay25 (F := Ideal) (up2 M) (up2 S) (up3 P) = up2 (drow M S P) ∧ k0_pay33 (F := Ideal) (up2 M) (up2 S) (up3 P) = up2 (drow M S P) := by
  unfold k0_pay9 k0_pay17 k0_pay25 k0_pay33
  simp (disch := exact rfl) only [cots, castDrop, mmNT _ _ _ (rfl : Axes dot_S512x1024_S256x1024_S512x256_1_1_0_0_n_n _ _ _ _), and_self]

/-- One tile's parts of the gradients of the branches' matrices. -/
theorem mats : k0_pay10 (F := Ideal) (up2 Y) (up2 fun r k => M r k * S r k) = up2 (dmat M S Y) ∧ k0_pay18 (F := Ideal) (up2 Y) (up2 fun r k => M r k * S r k) = up2 (dmat M S Y)
    ∧ k0_pay26 (F := Ideal) (up2 M) (up2 S) (up2 Y) = up2 (dmat M S Y) ∧ k0_pay34 (F := Ideal) (up2 M) (up2 S) (up2 Y) = up2 (dmat M S Y) := by
  unfold k0_pay10 k0_pay18 k0_pay26 k0_pay34
  simp (disch := exact rfl) only [cots, same, mmTN _ _ _ (rfl : Axes dot_S512x256_S512x1024_S256x1024_0_0_1_1_n_n _ _ _ _), and_self]

/-- The blocks the first point stores for them. -/
theorem firsts : k0_pay11 (F := Ideal) (up2 Y) (up2 fun r k => M r k * S r k) = up3 (fun _ => dmat M S Y) ∧ k0_pay19 (F := Ideal) (up2 Y) (up2 fun r k => M r k * S r k) = up3 (fun _ => dmat M S Y)
    ∧ k0_pay27 (F := Ideal) (up2 M) (up2 S) (up2 Y) = up3 (fun _ => dmat M S Y) ∧ k0_pay35 (F := Ideal) (up2 M) (up2 S) (up2 Y) = up3 (fun _ => dmat M S Y) := by
  unfold k0_pay11 k0_pay19 k0_pay27 k0_pay35
  simp only [mats, castAdd, and_self]

/-- A block taken out of the stack, added to, and put back. -/
theorem restack (X : Fin 256 → Fin 1024 → ℝ) (B : Vec Ideal S1x256x1024 .f32) (x : S1x256x1024.Idx) :
    shapeCast S1x256x1024 (addf (F := Ideal) (φ := .f32) (shapeCast S256x1024 B shapeCasts_S1x256x1024_S256x1024) (up2 X)) shapeCasts_S256x1024_S1x256x1024 x = B x + up3 (fun _ => X) x := by
  rw [ValueIdx.eq_ix3 x]
  refine (ValueIdx.shapeCast_ab_1ab_apply _ _ _ _ _).trans ?_
  refine congrArg (· + ((X (x 1) (x 2) : ℝ) : EReal)) ((ValueIdx.shapeCast_1ab_ab_apply _ _ _ _).trans (congrArg B ?_))
  funext ax
  match ax with
  | ⟨0, _⟩ => exact Fin.ext (Nat.lt_one_iff.mp (x 0).isLt).symm
  | ⟨1, _⟩ => rfl
  | ⟨2, _⟩ => rfl

/-- The blocks the later points store for them. -/
theorem laters (B : Vec Ideal S1x256x1024 .f32) (x : S1x256x1024.Idx) :
    k0_pay12 (F := Ideal) (up2 Y) (up2 fun r k => M r k * S r k) B x = B x + up3 (fun _ => dmat M S Y) x ∧ k0_pay20 (F := Ideal) (up2 Y) (up2 fun r k => M r k * S r k) B x = B x + up3 (fun _ => dmat M S Y) x
    ∧ k0_pay28 (F := Ideal) (up2 (dmat M S Y)) B x = B x + up3 (fun _ => dmat M S Y) x ∧ k0_pay36 (F := Ideal) (up2 M) (up2 S) (up2 Y) B x = B x + up3 (fun _ => dmat M S Y) x := by
  unfold k0_pay12 k0_pay20 k0_pay28 k0_pay36
  simp only [mats]
  exact ⟨restack _ B x, restack _ B x, restack _ B x, restack _ B x⟩

end Cert.MergeTile

end
-- ==== Proof.MergeRef.lean ====
/- The values of the gated merge's reference, one group of lines at a time, on reals. -/
module

public import proofs.«01_k».proof.Proof.LayerNorm
public import proofs.«01_k».proof.Proof.Lift3
public import proofs.«01_k».proof.Proof.Gen.MergeRefIdeal.Read

@[expose] public section

noncomputable section

namespace Cert.MergeRef

open Idealize.ShloMosaic Cert.Lift Cert.MergeRefIdeal Cert.MergeRefIdeal.Gen Cert.MergeRefIdeal.Read
open Cert.LayerNorm (sig one_add_exp_ne)

variable (D : Fin 8192 → Fin 1024 → ℝ) (Y : Fin 4 → Fin 8192 → Fin 256 → ℝ) (Z : Fin 8192 → Fin 4096 → ℝ) (W : Fin 4 → Fin 256 → Fin 1024 → ℝ) (O : Fin 1024 → Fin 1024 → ℝ)

/-- Column `j` of the gates of branch `b`. -/
def gcol (b : Fin 4) (j : Fin 1024) : Fin 4096 := ⟨b.val * 1024 + j.val, by have := b.isLt; have := j.isLt; omega⟩
/-- The branch a column of the gates belongs to, and the column's place in it. -/
def branch (k : Fin 4096) : Fin 4 := ⟨k.val / 1024, by have := k.isLt; omega⟩
def place (k : Fin 4096) : Fin 1024 := ⟨k.val % 1024, by omega⟩

/-- The gates of branch `b`. -/
abbrev gate (b : Fin 4) (r : Fin 8192) (k : Fin 1024) : ℝ := sig (Z r (gcol b k))
/-- The product of branch `b`. -/
abbrev prod (b : Fin 4) (r : Fin 8192) (k : Fin 1024) : ℝ := ∑ l, Y b r l * W b l k
/-- The merged rows. -/
abbrev merged (r : Fin 8192) (k : Fin 1024) : ℝ :=
  0 + gate Z 0 r k * prod Y W 0 r k + gate Z 1 r k * prod Y W 1 r k + gate Z 2 r k * prod Y W 2 r k + gate Z 3 r k * prod Y W 3 r k
/-- The cotangent of the merged rows. -/
abbrev dm (r : Fin 8192) (k : Fin 1024) : ℝ := ∑ l, D r l * O k l
/-- The cotangent of branch `b`'s product. -/
abbrev cot (b : Fin 4) (r : Fin 8192) (k : Fin 1024) : ℝ := gate Z b r k * dm D O r k
/-- The gradient of branch `b`'s rows. -/
abbrev drow (b : Fin 4) (r : Fin 8192) (j : Fin 256) : ℝ := ∑ k, cot D Z O b r k * W b j k
/-- The gradient of branch `b`'s matrix. -/
abbrev dmat (b : Fin 4) (j : Fin 256) (k : Fin 1024) : ℝ := ∑ r, cot D Z O b r k * Y b r j
/-- The gradient of the output matrix. -/
abbrev dout (j k : Fin 1024) : ℝ := ∑ r, D r k * merged Y Z W r j
/-- The gradient of the gates' arguments. -/
abbrev dz (r : Fin 8192) (k : Fin 4096) : ℝ := dm D O r (place k) * prod Y W (branch k) r (place k) * (sig (Z r k) * (1 - sig (Z r k)))

theorem sig_eq : val_main_v5 (F := Ideal) (up2 Z) = up2 fun r k => sig (Z r k) := by
  unfold val_main_v5 val_main_v4 val_main_v3 val_main_v2 val_main_v1 val_main_v0 val_main_cst val_main_cst_0
  simp (disch := exact fun _ _ => one_add_exp_ne _) only [consts, bcScalar, host2, hostDiv2, vec2]
  rfl

theorem slope_eq : val_main_v8 (F := Ideal) (up2 Z) = up2 fun r k => sig (Z r k) * (1 - sig (Z r k)) := by
  unfold val_main_v8 val_main_v7 val_main_v6 val_main_cst_1
  simp only [sig_eq, consts, bcScalar, vec2]

/-- The four groups of gates. -/
theorem gates_eq : val_main_v9 (F := Ideal) (up2 Z) = up2 (gate Z 0) ∧ val_main_v16 (F := Ideal) (up2 Z) = up2 (gate Z 1)
    ∧ val_main_v22 (F := Ideal) (up2 Z) = up2 (gate Z 2) ∧ val_main_v28 (F := Ideal) (up2 Z) = up2 (gate Z 3) := by
  unfold val_main_v9 val_main_v16 val_main_v22 val_main_v28
  rw [sig_eq, cut2 _ 0 0, cut2 _ 0 1024, cut2 _ 0 2048, cut2 _ 0 3072]
  refine ⟨?_, ?_, ?_, ?_⟩ <;> exact congrArg up2 (funext fun r => funext fun k => congrArg sig (congrArg₂ Z (Fin.ext (Nat.zero_add _)) (Fin.ext rfl)))

/-- The four matrices. -/
theorem mats_eq : val_main_v11 (F := Ideal) (up3 W) = up2 (W 0) ∧ val_main_v18 (F := Ideal) (up3 W) = up2 (W 1)
    ∧ val_main_v24 (F := Ideal) (up3 W) = up2 (W 2) ∧ val_main_v30 (F := Ideal) (up3 W) = up2 (W 3) := by
  unfold val_main_v11 val_main_v18 val_main_v24 val_main_v30 val_main_v10 val_main_v17 val_main_v23 val_main_v29
  rw [cutPage W 0 (by decide), cutPage W 1 (by decide), cutPage W 2 (by decide), cutPage W 3 (by decide)]
  exact ⟨castDrop _ _, castDrop _ _, castDrop _ _, castDrop _ _⟩

/-- The four products. -/
theorem prods_eq : val_main_v12 (F := Ideal) (up2 (Y 0)) (up3 W) = up2 (prod Y W 0) ∧ val_main_v19 (F := Ideal) (up2 (Y 1)) (up3 W) = up2 (prod Y W 1)
    ∧ val_main_v25 (F := Ideal) (up2 (Y 2)) (up3 W) = up2 (prod Y W 2) ∧ val_main_v31 (F := Ideal) (up2 (Y 3)) (up3 W) = up2 (prod Y W 3) := by
  unfold val_main_v12 val_main_v19 val_main_v25 val_main_v31
  simp (disch := exact rfl) only [mats_eq, dotNN _ _ _ (rfl : Axes dot_S8192x256_S256x1024_S8192x1024_1_0_0_1_n_n _ _ _ _), and_self]

theorem merged_eq : val_main_v33 (F := Ideal) (up2 (Y 0)) (up2 (Y 1)) (up2 (Y 2)) (up2 (Y 3)) (up2 Z) (up3 W) = up2 (merged Y Z W) := by
  unfold val_main_v33 val_main_v27 val_main_v21 val_main_v15 val_main_v14 val_main_cst_2 val_main_v13 val_main_v20 val_main_v26 val_main_v32
  simp only [gates_eq, prods_eq, consts, bcScalar, vec2]

theorem dout_eq : val_main_v36 (F := Ideal) (up2 D) (up2 (Y 0)) (up2 (Y 1)) (up2 (Y 2)) (up2 (Y 3)) (up2 Z) (up3 W) = up2 (dout D Y Z W) := by
  unfold val_main_v36 val_main_v35
  simp (disch := exact rfl) only [merged_eq, dotTN _ _ _ (rfl : Axes dot_S8192x1024_S8192x1024_S1024x1024_0_0_1_1_n_n _ _ _ _), transp]

theorem dm_eq : val_main_v37 (F := Ideal) (up2 D) (up2 O) = up2 (dm D O) := by
  unfold val_main_v37
  exact dotNT _ _ _ rfl

theorem cots_eq : val_main_v66 (F := Ideal) (up2 D) (up2 Z) (up2 O) = up2 (cot D Z O 0) ∧ val_main_v56 (F := Ideal) (up2 D) (up2 Z) (up2 O) = up2 (cot D Z O 1)
    ∧ val_main_v46 (F := Ideal) (up2 D) (up2 Z) (up2 O) = up2 (cot D Z O 2) ∧ val_main_v38 (F := Ideal) (up2 D) (up2 Z) (up2 O) = up2 (cot D Z O 3) := by
  unfold val_main_v66 val_main_v56 val_main_v46 val_main_v38
  simp only [gates_eq, dm_eq, vec2, and_self]

/-- The gradients of the branches' rows. -/
theorem rows_eq : val_main_v70 (F := Ideal) (up2 D) (up2 Z) (up3 W) (up2 O) = up2 (drow D Z W O 0) ∧ val_main_v60 (F := Ideal) (up2 D) (up2 Z) (up3 W) (up2 O) = up2 (drow D Z W O 1)
    ∧ val_main_v50 (F := Ideal) (up2 D) (up2 Z) (up3 W) (up2 O) = up2 (drow D Z W O 2) ∧ val_main_v42 (F := Ideal) (up2 D) (up2 Z) (up3 W) (up2 O) = up2 (drow D Z W O 3) := by
  unfold val_main_v70 val_main_v60 val_main_v50 val_main_v42
  simp (disch := exact rfl) only [cots_eq, mats_eq, dotNT _ _ _ (rfl : Axes dot_S8192x1024_S256x1024_S8192x256_1_1_0_0_n_n _ _ _ _), and_self]

/-- The gradients of the branches' matrices, one by one. -/
theorem dmats_eq : val_main_v71 (F := Ideal) (up2 D) (up2 (Y 0)) (up2 Z) (up2 O) = up3 (fun _ => dmat D Y Z O 0) ∧ val_main_v61 (F := Ideal) (up2 D) (up2 (Y 1)) (up2 Z) (up2 O) = up3 (fun _ => dmat D Y Z O 1)
    ∧ val_main_v51 (F := Ideal) (up2 D) (up2 (Y 2)) (up2 Z) (up2 O) = up3 (fun _ => dmat D Y Z O 2) ∧ val_main_v43 (F := Ideal) (up2 D) (up2 (Y 3)) (up2 Z) (up2 O) = up3 (fun _ => dmat D Y Z O 3) := by
  unfold val_main_v71 val_main_v61 val_main_v51 val_main_v43 val_main_v69 val_main_v59 val_main_v49 val_main_v41 val_main_v68 val_main_v58 val_main_v48 val_main_v40
  simp (disch := exact rfl) only [cots_eq, dotTN _ _ _ (rfl : Axes dot_S8192x1024_S8192x256_S1024x256_0_0_1_1_n_n _ _ _ _), transp, bcPage, and_self]

/-- The gradient of the stack of matrices. -/
theorem stack_eq : val_main_v73 (F := Ideal) (up2 D) (up2 (Y 0)) (up2 (Y 1)) (up2 (Y 2)) (up2 (Y 3)) (up2 Z) (up2 O) = up3 (dmat D Y Z O) := by
  unfold val_main_v73 val_main_v63 val_main_v53 val_main_v44 val_main_v52 val_main_v62 val_main_v72 val_main_cst_3 val_main_cst_5 val_main_cst_7 val_main_cst_9
  simp only [dmats_eq, consts]
  rw [padPages _ 3 0, padPages _ 2 1, padPages _ 1 2, padPages _ 0 3, add3, add3, add3]
  refine congrArg up3 (funext fun b => funext fun j => funext fun k => ?_)
  unfold atPage
  fin_cases b <;> simp

/-- The four products of the merged rows' cotangent. -/
theorem pieces_eq : val_main_v67 (F := Ideal) (up2 D) (up2 (Y 0)) (up3 W) (up2 O) = up2 (fun r k => dm D O r k * prod Y W 0 r k) ∧ val_main_v57 (F := Ideal) (up2 D) (up2 (Y 1)) (up3 W) (up2 O) = up2 (fun r k => dm D O r k * prod Y W 1 r k)
    ∧ val_main_v47 (F := Ideal) (up2 D) (up2 (Y 2)) (up3 W) (up2 O) = up2 (fun r k => dm D O r k * prod Y W 2 r k) ∧ val_main_v39 (F := Ideal) (up2 D) (up2 (Y 3)) (up3 W) (up2 O) = up2 (fun r k => dm D O r k * prod Y W 3 r k) := by
  unfold val_main_v67 val_main_v57 val_main_v47 val_main_v39
  simp only [dm_eq, prods_eq, vec2, and_self]

/-- Four groups of 1024 columns put in place and added: every column comes from its group. -/
theorem four (X : Fin 4 → Fin 8192 → Fin 1024 → ℝ) (r : Fin 8192) (k : Fin 4096) :
    atCols 4096 3072 (X 3) r k + atCols 4096 2048 (X 2) r k + atCols 4096 1024 (X 1) r k + atCols 4096 0 (X 0) r k = X (branch k) r (place k) := by
  have hk := k.isLt
  have pick : ∀ b : Fin 4, k.val / 1024 = b.val → ∀ h, X b r ⟨k.val - b.val * 1024, h⟩ = X (branch k) r (place k) := fun b hb h => by
    have e : branch k = b := Fin.ext hb
    rw [e]
    exact congrArg (X b r) (Fin.ext (by show k.val - b.val * 1024 = k.val % 1024; omega))
  have one : ∀ b : Fin 4, atCols 4096 (b.val * 1024) (X b) r k = if k.val / 1024 = b.val then X (branch k) r (place k) else 0 := fun b => by
    unfold atCols
    by_cases hb : k.val / 1024 = b.val
    · rw [dif_pos ⟨by omega, by omega⟩, if_pos hb]
      exact pick b hb _
    · rw [dif_neg (by omega), if_neg hb]
  have e0 : atCols 4096 0 (X 0) r k = if k.val / 1024 = 0 then _ else 0 := one 0
  have e1 : atCols 4096 1024 (X 1) r k = if k.val / 1024 = 1 then _ else 0 := one 1
  have e2 : atCols 4096 2048 (X 2) r k = if k.val / 1024 = 2 then _ else 0 := one 2
  have e3 : atCols 4096 3072 (X 3) r k = if k.val / 1024 = 3 then _ else 0 := one 3
  rw [e0, e1, e2, e3]
  have c : k.val / 1024 = 0 ∨ k.val / 1024 = 1 ∨ k.val / 1024 = 2 ∨ k.val / 1024 = 3 := by omega
  rcases c with c | c | c | c <;> simp [c]

theorem dz_eq : val_main_v77 (F := Ideal) (up2 D) (up2 (Y 0)) (up2 (Y 1)) (up2 (Y 2)) (up2 (Y 3)) (up2 Z) (up3 W) (up2 O) = up2 (dz D Y Z W O) := by
  unfold val_main_v77 val_main_v76 val_main_v75 val_main_v65 val_main_v55 val_main_v45 val_main_v54 val_main_v64 val_main_v74 val_main_cst_4 val_main_cst_6 val_main_cst_8 val_main_cst_10
  simp only [pieces_eq, slope_eq, consts]
  rw [padCols _ 3072 0, padCols _ 2048 1024, padCols _ 1024 2048, padCols _ 0 3072]
  simp only [vec2, casts]
  refine congrArg up2 (funext fun r => funext fun k => ?_)
  exact congrArg (· * _) (four (fun b r k => dm D O r k * prod Y W b r k) r k)

end Cert.MergeRef

end
-- ==== Proof.MergeFinal.lean ====
/- The arrays the gated merge's gradient kernel leaves, on reals. -/
module

public import proofs.«01_k».proof.Proof.MergeKernel
public import proofs.«01_k».proof.Proof.MergeRef
public import proofs.«01_k».proof.Proof.Gen.MergeIdeal.Value
public import Idealize.ShloMosaic.Lib.Claim
public import Idealize.ShloMosaic.Lib.Pipeline.ValueKit

@[expose] public section

set_option maxRecDepth 16384

noncomputable section

namespace Cert.MergeFinal

open Idealize.ShloMosaic Idealize.ShloMosaic.TcCoe Idealize.SL.Sem Cert.Lift Cert.MergeIdeal Cert.MergeIdeal.Gen
open Idealize.ShloMosaic.Pipeline (Dat)
open Cert.MergeRef (gcol branch place gate prod merged dm cot drow dmat dout dz)
open Cert.LayerNorm (sig)

variable (m : (ℓ : Loc nD τ sig) → Buf (Elt Ideal) ℓ) (c : Dev nD)
variable (D : Fin 8192 → Fin 1024 → ℝ) (Y : Fin 4 → Fin 8192 → Fin 256 → ℝ) (Z : Fin 8192 → Fin 4096 → ℝ) (W : Fin 4 → Fin 256 → Fin 1024 → ℝ) (O : Fin 1024 → Fin 1024 → ℝ)

/-- The memory holds the reals `D`, `Y`, `Z`, `W`, `O` in the arguments. -/
structure Holds : Prop where
  h0 : m ((c : Thread nD τ).loc main_arg0) = up2 D
  h1 : m ((c : Thread nD τ).loc main_arg1) = up2 (Y 0)
  h2 : m ((c : Thread nD τ).loc main_arg2) = up2 (Y 1)
  h3 : m ((c : Thread nD τ).loc main_arg3) = up2 (Y 2)
  h4 : m ((c : Thread nD τ).loc main_arg4) = up2 (Y 3)
  h5 : m ((c : Thread nD τ).loc main_arg5) = up2 Z
  h6 : m ((c : Thread nD τ).loc main_arg6) = up3 W
  h7 : m ((c : Thread nD τ).loc main_arg7) = up2 O

/-- Which block each window stages at a point. -/
theorem idx : ∀ t : Fin cfg0.N, (win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![0, 0, 0] ∧ win0_8.index t = ![0, 0] ∧ win0_9.index t = ![t.val, 0])
    ∧ win0_10.index t = ![t.val, 0] ∧ win0_11.index t = ![t.val, 0] ∧ win0_12.index t = ![t.val, 0] ∧ win0_13.index t = ![t.val, 0] ∧ win0_14.index t = ![0, 0, 0] ∧ win0_15.index t = ![0, 0] :=
  (by decide +kernel : ∀ t : Fin grid0.N, (win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![0, 0, 0] ∧ win0_8.index t = ![0, 0] ∧ win0_9.index t = ![t.val, 0])
    ∧ win0_10.index t = ![t.val, 0] ∧ win0_11.index t = ![t.val, 0] ∧ win0_12.index t = ![t.val, 0] ∧ win0_13.index t = ![t.val, 0] ∧ win0_14.index t = ![0, 0, 0] ∧ win0_15.index t = ![0, 0])

/-- Row `r` of point `t`'s tile. -/
def row (t : Fin cfg0.N) (r : Fin 512) : Fin 8192 := ⟨t.val * 512 + r.val, by have h := t.isLt; have := r.isLt; have h2 : cfg0.N = 16 := N_0; omega⟩

section

variable {m c D Y Z W O} (H : Holds m c D Y Z W O)
include H

/-- The gates the host computes. -/
theorem hostGates : V m c main_v41 = up2 fun r k => sig (Z r k) := by
  have e : V m c main_v41 = MergeRefIdeal.Read.val_main_v5 (F := Ideal) (m ((c : Thread nD τ).loc main_arg5)) := by
    simp only [V, hostOps0, List.flatten_cons, List.flatten_nil, List.append_nil, List.cons_append, List.nil_append]
    after_results_simp
    rfl
  rw [e, H.h5, MergeRef.sig_eq]

/-- The merged rows the host computes. -/
theorem hostMerged : V m c main_v42 = up2 (merged Y Z W) := by
  have e : V m c main_v42 = MergeRefIdeal.Read.val_main_v33 (F := Ideal) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
    simp only [V, hostOps0, List.flatten_cons, List.flatten_nil, List.append_nil, List.cons_append, List.nil_append]
    after_results_simp
    rfl
  rw [e, H.h1, H.h2, H.h3, H.h4, H.h5, H.h6, MergeRef.merged_eq]

theorem blk0 (t : Fin cfg0.N) : iblk m c 0 t = up2 fun r k => D (row t r) k := by
  funext y
  refine Eq.trans (b := m ((c : Thread nD τ).loc main_arg0) (ValueIdx.ix2 (row t (y 0)) (y 1))) ?_ (congrFun H.h0 _)
  blk_point [iblk, V, idx t, row]

theorem blk1 (t : Fin cfg0.N) : iblk m c 1 t = up2 fun r k => Y 0 (row t r) k := by
  funext y
  refine Eq.trans (b := m ((c : Thread nD τ).loc main_arg1) (ValueIdx.ix2 (row t (y 0)) (y 1))) ?_ (congrFun H.h1 _)
  blk_point [iblk, V, idx t, row]

theorem blk2 (t : Fin cfg0.N) : iblk m c 2 t = up2 fun r k => Y 1 (row t r) k := by
  funext y
  refine Eq.trans (b := m ((c : Thread nD τ).loc main_arg2) (ValueIdx.ix2 (row t (y 0)) (y 1))) ?_ (congrFun H.h2 _)
  blk_point [iblk, V, idx t, row]

theorem blk3 (t : Fin cfg0.N) : iblk m c 3 t = up2 fun r k => Y 2 (row t r) k := by
  funext y
  refine Eq.trans (b := m ((c : Thread nD τ).loc main_arg3) (ValueIdx.ix2 (row t (y 0)) (y 1))) ?_ (congrFun H.h3 _)
  blk_point [iblk, V, idx t, row]

theorem blk4 (t : Fin cfg0.N) : iblk m c 4 t = up2 fun r k => Y 3 (row t r) k := by
  funext y
  refine Eq.trans (b := m ((c : Thread nD τ).loc main_arg4) (ValueIdx.ix2 (row t (y 0)) (y 1))) ?_ (congrFun H.h4 _)
  blk_point [iblk, V, idx t, row]

theorem blk5 (t : Fin cfg0.N) : iblk m c 5 t = up2 fun r k => sig (Z (row t r) k) := by
  funext y
  refine Eq.trans (b := V m c main_v41 (ValueIdx.ix2 (row t (y 0)) (y 1))) ?_ (congrFun (hostGates H) _)
  blk_ext [iblk, idx t, row]

theorem blk6 (t : Fin cfg0.N) : iblk m c 6 t = up2 fun r k => merged Y Z W (row t r) k := by
  funext y
  refine Eq.trans (b := V m c main_v42 (ValueIdx.ix2 (row t (y 0)) (y 1))) ?_ (congrFun (hostMerged H) _)
  blk_ext [iblk, idx t, row]

theorem blk7 (t : Fin cfg0.N) : iblk m c 7 t = up3 W := by
  funext y
  refine Eq.trans (b := m ((c : Thread nD τ).loc main_arg6) (ValueIdx.ix3 (y 0) (y 1) (y 2))) ?_ (congrFun H.h6 _)
  blk_point [iblk, V, idx t]

theorem blk8 (t : Fin cfg0.N) : iblk m c 8 t = up2 O := by
  funext y
  refine Eq.trans (b := m ((c : Thread nD τ).loc main_arg7) (ValueIdx.ix2 (y 0) (y 1))) ?_ (congrFun H.h7 _)
  blk_point [iblk, V, idx t]

/-- The four groups of gates of a tile, and the four matrices. -/
theorem loads (t : Fin cfg0.N) :
    (View.ld (iblk m c 5 t) (Rect.unit ![0, 0] ![512, 1024] inb_S512x4096_S512x1024_0_0) = up2 (fun r k => gate Z 0 (row t r) k)
      ∧ View.ld (iblk m c 5 t) (Rect.unit ![0, 1024] ![512, 1024] inb_S512x4096_S512x1024_0_1024) = up2 (fun r k => gate Z 1 (row t r) k)
      ∧ View.ld (iblk m c 5 t) (Rect.unit ![0, 2048] ![512, 1024] inb_S512x4096_S512x1024_0_2048) = up2 (fun r k => gate Z 2 (row t r) k)
      ∧ View.ld (iblk m c 5 t) (Rect.unit ![0, 3072] ![512, 1024] inb_S512x4096_S512x1024_0_3072) = up2 (fun r k => gate Z 3 (row t r) k))
    ∧ View.ld (iblk m c 7 t) (Rect.unit ![0, 0, 0] ![1, 256, 1024] inb_S4x256x1024_S1x256x1024_0_0_0) = up3 (fun _ => W 0)
    ∧ View.ld (iblk m c 7 t) (Rect.unit ![1, 0, 0] ![1, 256, 1024] inb_S4x256x1024_S1x256x1024_1_0_0) = up3 (fun _ => W 1)
    ∧ View.ld (iblk m c 7 t) (Rect.unit ![2, 0, 0] ![1, 256, 1024] inb_S4x256x1024_S1x256x1024_2_0_0) = up3 (fun _ => W 2)
    ∧ View.ld (iblk m c 7 t) (Rect.unit ![3, 0, 0] ![1, 256, 1024] inb_S4x256x1024_S1x256x1024_3_0_0) = up3 (fun _ => W 3) := by
  rw [blk5 H, blk7 H]
  refine ⟨⟨?_, ?_, ?_, ?_⟩, loadPage W 0 (by decide) _, loadPage W 1 (by decide) _, loadPage W 2 (by decide) _, loadPage W 3 (by decide) _⟩ <;>
    exact (loadHalf (fun r k => sig (Z (row t r) k)) _ _ _).trans (congrArg up2 (funext fun r => funext fun j => congrArg sig (congrArg₂ Z (congrArg (row t) (Fin.ext (Nat.zero_add _))) (Fin.ext rfl))))

omit H in
/-- A block of one group of the gates' gradient agrees with the tile where the columns do. -/
theorem at_group (b : Fin 4) (t : Fin cfg0.N) (x : (⟨2, ![512, 1024]⟩ : Shape).Idx) (y : (⟨2, ![512, 4096]⟩ : Shape).Idx) (e : (y 0).val = (x 0).val)
    (e' : (y 1).val = b.val * 1024 + (x 1).val) :
    up2 (MergeTile.dgate (fun r k => dm D O (row t r) k) (fun r k => gate Z b (row t r) k) (fun r k => Y b (row t r) k) fun _ => W b) x = up2 (fun r k => dz D Y Z W O (row t r) k) y := by
  have hx : (x 1).val < 1024 := (x 1).isLt
  have a : y 0 = x 0 := Fin.ext e
  have b1 : branch (y 1) = b := Fin.ext (by show (y 1).val / 1024 = b.val; omega)
  have b2 : place (y 1) = x 1 := Fin.ext (by show (y 1).val % 1024 = (x 1).val; omega)
  have b3 : y 1 = gcol b (x 1) := Fin.ext e'
  refine congrArg (fun z : ℝ => (z : EReal)) ?_
  show _ = dz D Y Z W O (row t (y 0)) (y 1)
  unfold dz
  rw [a, b1, b2, b3]
  exact mul_assoc _ _ _

/-- The four blocks of one tile's gradient of the gates' arguments. -/
theorem pieces (t : Fin cfg0.N) (y : (⟨2, ![512, 4096]⟩ : Shape).Idx) :
    View.canon (Val := Elt Ideal) (e := .bf16)
      [⟨Rect.unit ![0, 3072] ![512, 1024] inb_S512x4096_S512x1024_0_3072,
          k0_pay31 (k0_pay2 (iblk m c 0 t) (iblk m c 8 t)) (View.ld (iblk m c 5 t) (Rect.unit ![0, 3072] ![512, 1024] inb_S512x4096_S512x1024_0_3072)) (iblk m c 4 t)
            (View.ld (iblk m c 7 t) (Rect.unit ![3, 0, 0] ![1, 256, 1024] inb_S4x256x1024_S1x256x1024_3_0_0))⟩,
        ⟨Rect.unit ![0, 2048] ![512, 1024] inb_S512x4096_S512x1024_0_2048,
          k0_pay23 (k0_pay2 (iblk m c 0 t) (iblk m c 8 t)) (View.ld (iblk m c 5 t) (Rect.unit ![0, 2048] ![512, 1024] inb_S512x4096_S512x1024_0_2048)) (iblk m c 3 t)
            (View.ld (iblk m c 7 t) (Rect.unit ![2, 0, 0] ![1, 256, 1024] inb_S4x256x1024_S1x256x1024_2_0_0))⟩,
        ⟨Rect.unit ![0, 1024] ![512, 1024] inb_S512x4096_S512x1024_0_1024,
          k0_pay15 (k0_pay2 (iblk m c 0 t) (iblk m c 8 t)) (View.ld (iblk m c 5 t) (Rect.unit ![0, 1024] ![512, 1024] inb_S512x4096_S512x1024_0_1024)) (iblk m c 2 t)
            (View.ld (iblk m c 7 t) (Rect.unit ![1, 0, 0] ![1, 256, 1024] inb_S4x256x1024_S1x256x1024_1_0_0))⟩,
        ⟨Rect.unit ![0, 0] ![512, 1024] inb_S512x4096_S512x1024_0_0,
          k0_pay7 (iblk m c 0 t) (iblk m c 8 t) (View.ld (iblk m c 5 t) (Rect.unit ![0, 0] ![512, 1024] inb_S512x4096_S512x1024_0_0)) (iblk m c 1 t)
            (View.ld (iblk m c 7 t) (Rect.unit ![0, 0, 0] ![1, 256, 1024] inb_S4x256x1024_S1x256x1024_0_0_0))⟩]
      y = up2 (fun r k => dz D Y Z W O (row t r) k) y := by
  obtain ⟨⟨g0, g1, g2, g3⟩, w0, w1, w2, w3⟩ := loads H t
  rw [g0, g1, g2, g3, w0, w1, w2, w3, blk0 H, blk1 H, blk2 H, blk3 H, blk4 H, blk8 H, MergeTile.gate0, MergeTile.pay2, (MergeTile.gates _ _ _ _).1, (MergeTile.gates _ _ _ _).2.1, (MergeTile.gates _ _ _ _).2.2]
  canon_tiles x e
  · exact at_group 3 t x y (by omega) (by show _ = 3 * 1024 + _; omega)
  · exact at_group 2 t x y (by omega) (by show _ = 2 * 1024 + _; omega)
  · exact at_group 1 t x y (by omega) (by show _ = 1 * 1024 + _; omega)
  · exact at_group 0 t x y (by omega) (by show _ = 0 * 1024 + _; omega)

/-- The gradient of the gates' arguments. -/
theorem final9 : (dats m 0 c).arrAt 9 cfg0.N = up2 (dz D Y Z W O) := by
  refine (dats m 0 c).arrAt_eq_of_covers 9 _ (by decide +kernel) fun t hf y => ?_
  have ht : t.val < 16 := lt_of_lt_of_eq t.isLt N_0
  blk_simp
  rw [after0_9]
  refine Eq.trans (b := up2 (fun r k => dz D Y Z W O (row t r) k) y) ?_ ?_
  · by_cases h : t.val % 16 = 0
    · rw [outsAt0_A m c t h (by omega) h (by omega) h (by omega) h (by omega) h (by omega)]
      frame_out
      exact pieces H t y
    · rw [outsAt0_B m c t h (by omega) h (by omega) h (by omega) h (by omega) h (by omega)]
      frame_out
      exact pieces H t y
  · refine Eq.trans (b := up2 (dz D Y Z W O) (ValueIdx.ix2 (row t (y 0)) (y 1))) rfl ?_
    blk_point [idx t, row]

/-- The gradients of the branches' rows, on one tile. -/
theorem tileRows (t : Fin cfg0.N) : (outsAt0 m c t.val t.isLt).2.1 = up2 (fun r j => drow D Z W O 0 (row t r) j) ∧ (outsAt0 m c t.val t.isLt).2.2.1 = up2 (fun r j => drow D Z W O 1 (row t r) j)
    ∧ (outsAt0 m c t.val t.isLt).2.2.2.1 = up2 (fun r j => drow D Z W O 2 (row t r) j) ∧ (outsAt0 m c t.val t.isLt).2.2.2.2.1 = up2 (fun r j => drow D Z W O 3 (row t r) j) := by
  have ht : t.val < 16 := lt_of_lt_of_eq t.isLt N_0
  have turn : ∀ b : Fin 4, up2 (MergeTile.drow (fun r k => dm D O (row t r) k) (fun r k => gate Z b (row t r) k) fun _ => W b) = up2 (fun r j => drow D Z W O b (row t r) j) := fun b =>
    congrArg up2 (funext fun r => funext fun j => Finset.sum_congr rfl fun k _ => congrArg (· * W b j k) (mul_comm _ _))
  obtain ⟨⟨g0, g1, g2, g3⟩, w0, w1, w2, w3⟩ := loads H t
  have r0 : k0_pay9 (k0_pay8 (iblk m c 0 t) (iblk m c 8 t) (View.ld (iblk m c 5 t) (Rect.unit ![0, 0] ![512, 1024] inb_S512x4096_S512x1024_0_0))) (View.ld (iblk m c 7 t) (Rect.unit ![0, 0, 0] ![1, 256, 1024] inb_S4x256x1024_S1x256x1024_0_0_0)) = up2 (fun r j => drow D Z W O 0 (row t r) j) := by
    rw [blk0 H, blk8 H, g0, w0, MergeTile.cot0, (MergeTile.rows _ _ _).1]
    exact turn 0
  have r1 : k0_pay17 (k0_pay2 (iblk m c 0 t) (iblk m c 8 t)) (View.ld (iblk m c 5 t) (Rect.unit ![0, 1024] ![512, 1024] inb_S512x4096_S512x1024_0_1024)) (View.ld (iblk m c 7 t) (Rect.unit ![1, 0, 0] ![1, 256, 1024] inb_S4x256x1024_S1x256x1024_1_0_0)) = up2 (fun r j => drow D Z W O 1 (row t r) j) := by
    rw [blk0 H, blk8 H, g1, w1, MergeTile.pay2, (MergeTile.rows _ _ _).2.1]
    exact turn 1
  have r2 : k0_pay25 (k0_pay2 (iblk m c 0 t) (iblk m c 8 t)) (View.ld (iblk m c 5 t) (Rect.unit ![0, 2048] ![512, 1024] inb_S512x4096_S512x1024_0_2048)) (View.ld (iblk m c 7 t) (Rect.unit ![2, 0, 0] ![1, 256, 1024] inb_S4x256x1024_S1x256x1024_2_0_0)) = up2 (fun r j => drow D Z W O 2 (row t r) j) := by
    rw [blk0 H, blk8 H, g2, w2, MergeTile.pay2, (MergeTile.rows _ _ _).2.2.1]
    exact turn 2
  have r3 : k0_pay33 (k0_pay2 (iblk m c 0 t) (iblk m c 8 t)) (View.ld (iblk m c 5 t) (Rect.unit ![0, 3072] ![512, 1024] inb_S512x4096_S512x1024_0_3072)) (View.ld (iblk m c 7 t) (Rect.unit ![3, 0, 0] ![1, 256, 1024] inb_S4x256x1024_S1x256x1024_3_0_0)) = up2 (fun r j => drow D Z W O 3 (row t r) j) := by
    rw [blk0 H, blk8 H, g3, w3, MergeTile.pay2, (MergeTile.rows _ _ _).2.2.2]
    exact turn 3
  by_cases h : t.val % 16 = 0
  · rw [outsAt0_A m c t h (by omega) h (by omega) h (by omega) h (by omega) h (by omega)]
    refine ⟨funext fun y => ?_, funext fun y => ?_, funext fun y => ?_, funext fun y => ?_⟩ <;> frame_out
    exacts [congrFun r0 y, congrFun r1 y, congrFun r2 y, congrFun r3 y]
  · rw [outsAt0_B m c t h (by omega) h (by omega) h (by omega) h (by omega) h (by omega)]
    refine ⟨funext fun y => ?_, funext fun y => ?_, funext fun y => ?_, funext fun y => ?_⟩ <;> frame_out
    exacts [congrFun r0 y, congrFun r1 y, congrFun r2 y, congrFun r3 y]

/-- The gradients of the branches' rows. -/
theorem final10 : (dats m 0 c).arrAt 10 cfg0.N = up2 (drow D Z W O 0) := by
  refine (dats m 0 c).arrAt_eq_of_covers 10 _ (by decide +kernel) fun t hf y => ?_
  blk_simp
  rw [after0_10, (tileRows H t).1]
  refine Eq.trans (b := up2 (drow D Z W O 0) (ValueIdx.ix2 (row t (y 0)) (y 1))) rfl ?_
  blk_point [idx t, row]

theorem final11 : (dats m 0 c).arrAt 11 cfg0.N = up2 (drow D Z W O 1) := by
  refine (dats m 0 c).arrAt_eq_of_covers 11 _ (by decide +kernel) fun t hf y => ?_
  blk_simp
  rw [after0_11, (tileRows H t).2.1]
  refine Eq.trans (b := up2 (drow D Z W O 1) (ValueIdx.ix2 (row t (y 0)) (y 1))) rfl ?_
  blk_point [idx t, row]

theorem final12 : (dats m 0 c).arrAt 12 cfg0.N = up2 (drow D Z W O 2) := by
  refine (dats m 0 c).arrAt_eq_of_covers 12 _ (by decide +kernel) fun t hf y => ?_
  blk_simp
  rw [after0_12, (tileRows H t).2.2.1]
  refine Eq.trans (b := up2 (drow D Z W O 2) (ValueIdx.ix2 (row t (y 0)) (y 1))) rfl ?_
  blk_point [idx t, row]

theorem final13 : (dats m 0 c).arrAt 13 cfg0.N = up2 (drow D Z W O 3) := by
  refine (dats m 0 c).arrAt_eq_of_covers 13 _ (by decide +kernel) fun t hf y => ?_
  blk_simp
  rw [after0_13, (tileRows H t).2.2.2]
  refine Eq.trans (b := up2 (drow D Z W O 3) (ValueIdx.ix2 (row t (y 0)) (y 1))) rfl ?_
  blk_point [idx t, row]

omit H in
/-- One tile's part of the gradient of the stack of matrices. -/
abbrev part (D : Fin 8192 → Fin 1024 → ℝ) (Y : Fin 4 → Fin 8192 → Fin 256 → ℝ) (Z : Fin 8192 → Fin 4096 → ℝ) (O : Fin 1024 → Fin 1024 → ℝ) (t : Fin cfg0.N) (b : Fin 4) (j : Fin 256) (k : Fin 1024) : ℝ :=
  MergeTile.dmat (fun r k => dm D O (row t r) k) (fun r k => gate Z b (row t r) k) (fun r k => Y b (row t r) k) j k

omit H in
/-- One matrix of a stack stands at its place. -/
theorem at_page (X : Fin 4 → Fin 256 → Fin 1024 → ℝ) (b : Fin 4) (x : (⟨3, ![1, 256, 1024]⟩ : Shape).Idx) (y : (⟨3, ![4, 256, 1024]⟩ : Shape).Idx)
    (e0 : (y 0).val = b.val) (e1 : (y 1).val = (x 1).val) (e2 : (y 2).val = (x 2).val) : up3 (fun _ => X b) x = up3 X y := by
  have a : y 0 = b := Fin.ext e0
  have a1 : y 1 = x 1 := Fin.ext e1
  have a2 : y 2 = x 2 := Fin.ext e2
  show ((X b (x 1) (x 2) : ℝ) : EReal) = ((X (y 0) (y 1) (y 2) : ℝ) : EReal)
  rw [a, a1, a2]

/-- The four matrices the first point stores. -/
theorem pagesFirst (t : Fin cfg0.N) (y : (⟨3, ![4, 256, 1024]⟩ : Shape).Idx) :
    View.canon (Val := Elt Ideal) (e := .f32)
      [⟨Rect.unit ![3, 0, 0] ![1, 256, 1024] inb_S4x256x1024_S1x256x1024_3_0_0, k0_pay35 (k0_pay2 (iblk m c 0 t) (iblk m c 8 t)) (View.ld (iblk m c 5 t) (Rect.unit ![0, 3072] ![512, 1024] inb_S512x4096_S512x1024_0_3072)) (iblk m c 4 t)⟩,
        ⟨Rect.unit ![2, 0, 0] ![1, 256, 1024] inb_S4x256x1024_S1x256x1024_2_0_0, k0_pay27 (k0_pay2 (iblk m c 0 t) (iblk m c 8 t)) (View.ld (iblk m c 5 t) (Rect.unit ![0, 2048] ![512, 1024] inb_S512x4096_S512x1024_0_2048)) (iblk m c 3 t)⟩,
        ⟨Rect.unit ![1, 0, 0] ![1, 256, 1024] inb_S4x256x1024_S1x256x1024_1_0_0, k0_pay19 (k0_pay14 (iblk m c 2 t)) (k0_pay16 (k0_pay2 (iblk m c 0 t) (iblk m c 8 t)) (View.ld (iblk m c 5 t) (Rect.unit ![0, 1024] ![512, 1024] inb_S512x4096_S512x1024_0_1024)))⟩,
        ⟨Rect.unit ![0, 0, 0] ![1, 256, 1024] inb_S4x256x1024_S1x256x1024_0_0_0, k0_pay11 (k0_pay6 (iblk m c 1 t)) (k0_pay8 (iblk m c 0 t) (iblk m c 8 t) (View.ld (iblk m c 5 t) (Rect.unit ![0, 0] ![512, 1024] inb_S512x4096_S512x1024_0_0)))⟩]
      y = up3 (part D Y Z O t) y := by
  obtain ⟨⟨g0, g1, g2, g3⟩, -⟩ := loads H t
  rw [g0, g1, g2, g3, blk0 H, blk1 H, blk2 H, blk3 H, blk4 H, blk8 H, MergeTile.pay2, MergeTile.cot0, (MergeTile.cots _ _).1, (MergeTile.same _).1, (MergeTile.same _).2.1,
    (MergeTile.firsts _ _ _).1, (MergeTile.firsts _ _ _).2.1, (MergeTile.firsts _ _ _).2.2.1, (MergeTile.firsts _ _ _).2.2.2]
  canon_tiles x e
  · exact at_page (part D Y Z O t) 3 x y (by show _ = 3; omega) (by omega) (by omega)
  · exact at_page (part D Y Z O t) 2 x y (by show _ = 2; omega) (by omega) (by omega)
  · exact at_page (part D Y Z O t) 1 x y (by show _ = 1; omega) (by omega) (by omega)
  · exact at_page (part D Y Z O t) 0 x y (by show _ = 0; omega) (by omega) (by omega)

/-- The four matrices a later point stores: what was there and the tile's part. -/
theorem pagesLater (t : Fin cfg0.N) (v : Vec Ideal S4x256x1024 .f32) (y : (⟨3, ![4, 256, 1024]⟩ : Shape).Idx) :
    View.canon (Val := Elt Ideal) (e := .f32)
      [⟨Rect.unit ![3, 0, 0] ![1, 256, 1024] inb_S4x256x1024_S1x256x1024_3_0_0, k0_pay36 (k0_pay2 (iblk m c 0 t) (iblk m c 8 t)) (View.ld (iblk m c 5 t) (Rect.unit ![0, 3072] ![512, 1024] inb_S512x4096_S512x1024_0_3072)) (iblk m c 4 t) (View.ld v (Rect.unit ![3, 0, 0] ![1, 256, 1024] inb_S4x256x1024_S1x256x1024_3_0_0))⟩,
        ⟨Rect.unit ![2, 0, 0] ![1, 256, 1024] inb_S4x256x1024_S1x256x1024_2_0_0, k0_pay28 (k0_pay26 (k0_pay2 (iblk m c 0 t) (iblk m c 8 t)) (View.ld (iblk m c 5 t) (Rect.unit ![0, 2048] ![512, 1024] inb_S512x4096_S512x1024_0_2048)) (iblk m c 3 t)) (View.ld v (Rect.unit ![2, 0, 0] ![1, 256, 1024] inb_S4x256x1024_S1x256x1024_2_0_0))⟩,
        ⟨Rect.unit ![1, 0, 0] ![1, 256, 1024] inb_S4x256x1024_S1x256x1024_1_0_0, k0_pay20 (k0_pay14 (iblk m c 2 t)) (k0_pay16 (k0_pay2 (iblk m c 0 t) (iblk m c 8 t)) (View.ld (iblk m c 5 t) (Rect.unit ![0, 1024] ![512, 1024] inb_S512x4096_S512x1024_0_1024))) (View.ld v (Rect.unit ![1, 0, 0] ![1, 256, 1024] inb_S4x256x1024_S1x256x1024_1_0_0))⟩,
        ⟨Rect.unit ![0, 0, 0] ![1, 256, 1024] inb_S4x256x1024_S1x256x1024_0_0_0, k0_pay12 (k0_pay6 (iblk m c 1 t)) (k0_pay8 (iblk m c 0 t) (iblk m c 8 t) (View.ld (iblk m c 5 t) (Rect.unit ![0, 0] ![512, 1024] inb_S512x4096_S512x1024_0_0))) (View.ld v (Rect.unit ![0, 0, 0] ![1, 256, 1024] inb_S4x256x1024_S1x256x1024_0_0_0))⟩]
      y = v y + up3 (part D Y Z O t) y := by
  obtain ⟨⟨g0, g1, g2, g3⟩, -⟩ := loads H t
  rw [g0, g1, g2, g3, blk0 H, blk1 H, blk2 H, blk3 H, blk4 H, blk8 H, MergeTile.pay2, MergeTile.cot0, (MergeTile.cots _ _).1, (MergeTile.same _).1, (MergeTile.same _).2.1,
    (MergeTile.mats _ _ _).2.2.1]
  canon_tiles x e
  · refine (MergeTile.laters _ _ _ _ _).2.2.2.trans (congrArg₂ (· + ·) ?_ (at_page (part D Y Z O t) 3 x y (by show _ = 3; omega) (by omega) (by omega)))
    exact View.ld_unit_apply_of _ _ _ _ _ _ fun ax => match ax with | ⟨0, _⟩ => e0 | ⟨1, _⟩ => e1.trans (Nat.zero_add _).symm | ⟨2, _⟩ => e2.trans (Nat.zero_add _).symm
  · refine (MergeTile.laters _ _ _ _ _).2.2.1.trans (congrArg₂ (· + ·) ?_ (at_page (part D Y Z O t) 2 x y (by show _ = 2; omega) (by omega) (by omega)))
    exact View.ld_unit_apply_of _ _ _ _ _ _ fun ax => match ax with | ⟨0, _⟩ => e0 | ⟨1, _⟩ => e1.trans (Nat.zero_add _).symm | ⟨2, _⟩ => e2.trans (Nat.zero_add _).symm
  · refine (MergeTile.laters _ _ _ _ _).2.1.trans (congrArg₂ (· + ·) ?_ (at_page (part D Y Z O t) 1 x y (by show _ = 1; omega) (by omega) (by omega)))
    exact View.ld_unit_apply_of _ _ _ _ _ _ fun ax => match ax with | ⟨0, _⟩ => e0 | ⟨1, _⟩ => e1.trans (Nat.zero_add _).symm | ⟨2, _⟩ => e2.trans (Nat.zero_add _).symm
  · refine (MergeTile.laters _ _ _ _ _).1.trans (congrArg₂ (· + ·) ?_ (at_page (part D Y Z O t) 0 x y (by show _ = 0; omega) (by omega) (by omega)))
    exact View.ld_unit_apply_of _ _ _ _ _ _ fun ax => match ax with | ⟨0, _⟩ => e0.trans (Nat.zero_add _).symm | ⟨1, _⟩ => e1.trans (Nat.zero_add _).symm | ⟨2, _⟩ => e2.trans (Nat.zero_add _).symm

/-- The gradient of the stack of matrices. -/
theorem final14 : (dats m 0 c).arrAt 14 cfg0.N = up3 (dmat D Y Z O) := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.1) 16 (fun _ => 0) (fun t => up3 (part D Y Z O t))
    (fun t h y => by
      have ht : t.val < 16 := lt_of_lt_of_eq t.isLt N_0
      rw [outsAt0_A m c t h (by omega) h (by omega) h (by omega) h (by omega) h (by omega)]; frame_out
      exact (pagesFirst H t y).trans (zero_add _).symm)
    (fun t h y => by
      rw [outsAt0_B m c t h (by omega) h (by omega) h (by omega) h (by omega) h (by omega)]; frame_out
      exact pagesLater H t _ y)
    (le_of_eq N_0) t0_15 rfl j, zero_add]
  refine (tile_sum (congrArg (· * 512) N_0) row (fun _ _ => rfl) fun r => Y (j 0) r (j 1) * (dm D O r (j 2) * gate Z (j 0) r (j 2))).trans ?_
  exact congrArg _ (Finset.sum_congr rfl fun r _ => by ring)

/-- The gradient of the output matrix. -/
theorem final15 : (dats m 0 c).arrAt 15 cfg0.N = up2 (dout D Y Z W) := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.2) 16 (fun _ => 0)
    (fun t => up2 fun j k => ∑ r, merged Y Z W (row t r) j * D (row t r) k)
    (fun t h y => by
      have ht : t.val < 16 := lt_of_lt_of_eq t.isLt N_0
      rw [outsAt0_A m c t h (by omega) h (by omega) h (by omega) h (by omega) h (by omega)]; frame_out
      rw [blk0 H, blk6 H, MergeTile.pay3]
      exact (zero_add _).symm)
    (fun t h y => by
      rw [outsAt0_B m c t h (by omega) h (by omega) h (by omega) h (by omega) h (by omega)]; frame_out
      rw [blk0 H, blk6 H, MergeTile.pay4])
    (le_of_eq N_0) t0_15 rfl j, zero_add]
  refine (tile_sum (congrArg (· * 512) N_0) row (fun _ _ => rfl) fun r => merged Y Z W r (j 0) * D r (j 1)).trans ?_
  exact congrArg _ (Finset.sum_congr rfl fun r _ => mul_comm _ _)

end

end Cert.MergeFinal

end
-- ==== Proof.MergeClaim.lean ====
/- The gradient of the gated merge of the branches: the two claims of its pair that no generated theorem states. -/
module

public import proofs.«01_k».proof.Defs
public import proofs.«01_k».proof.Proof.MergeFinal
public import proofs.«01_k».proof.Proof.Gen.Merge.Frame
public import proofs.«01_k».proof.Proof.Gen.MergeIdeal.Frame
public import proofs.«01_k».proof.Proof.Gen.MergeRefIdeal.Run
public import proofs.«01_k».proof.Proof.Gen.Pre_merge_finite

@[expose] public section

set_option maxRecDepth 16384
set_option maxHeartbeats 1000000

noncomputable section

namespace Cert.MergeClaim

open Idealize.ShloMosaic Idealize.SL.Sem Cert.Lift

/-- The precondition says that the eight arguments hold real numbers only. -/
theorem real_args (a0 : Vec Ideal ⟨2, ![8192, 1024]⟩ .f32) (a1 a2 a3 a4 : Vec Ideal ⟨2, ![8192, 256]⟩ .f32) (a5 : Vec Ideal ⟨2, ![8192, 4096]⟩ .f32) (a6 : Vec Ideal ⟨3, ![4, 256, 1024]⟩ .f32)
    (a7 : Vec Ideal ⟨2, ![1024, 1024]⟩ .f32) (j : (⟨0, ![]⟩ : Shape).Idx) (h : Cert.Pre_merge_finite.fn (F := Ideal) a0 a1 a2 a3 a4 a5 a6 a7 j = 1#1) :
    (∃ D, a0 = up2 D) ∧ (∃ Y : Fin 4 → Fin 8192 → Fin 256 → ℝ, a1 = up2 (Y 0) ∧ a2 = up2 (Y 1) ∧ a3 = up2 (Y 2) ∧ a4 = up2 (Y 3)) ∧ (∃ Z, a5 = up2 Z) ∧ (∃ W, a6 = up3 W) ∧ ∃ O, a7 = up2 O := by
  dsimp only [Cert.Pre_merge_finite.fn, Cert.Pre_merge_finite.fn_part1] at h
  obtain ⟨h, h7⟩ := and_one _ _ _ h
  obtain ⟨h, h6⟩ := and_one _ _ _ h
  obtain ⟨h, h5⟩ := and_one _ _ _ h
  obtain ⟨h, h4⟩ := and_one _ _ _ h
  obtain ⟨h, h3⟩ := and_one _ _ _ h
  obtain ⟨h, h2⟩ := and_one _ _ _ h
  obtain ⟨h0, h1⟩ := and_one _ _ _ h
  obtain ⟨Y0, e1⟩ := real2 _ _ _ _ _ _ h1
  obtain ⟨Y1, e2⟩ := real2 _ _ _ _ _ _ h2
  obtain ⟨Y2, e3⟩ := real2 _ _ _ _ _ _ h3
  obtain ⟨Y3, e4⟩ := real2 _ _ _ _ _ _ h4
  exact ⟨real2 _ _ _ _ _ _ h0, ⟨![Y0, Y1, Y2, Y3], e1, e2, e3, e4⟩, real2 _ _ _ _ _ _ h5, real3 _ _ _ _ _ _ h6, real2 _ _ _ _ _ _ h7⟩

/-- The reference runs to the end from every memory, and declares no semaphore. -/
theorem frame_ref : Cert.quiescent_MergeRefIdeal := fun m ρ _ =>
  (θ_run Cert.MergeRefIdeal.defs _ _).mono (fun r h => ⟨fun c => (h c).2.2.2.2.2.2.2, sem_eq_zero_of_no_sems (by decide) r.2⟩)
    (Cert.MergeRefIdeal.Value.run (F := Ideal) m ρ)

/-- Over the reals the kernel's seven results are the derivative of the gated merge of the branches. -/
theorem value : Cert.algebraic_MergeIdeal_MergeRefIdeal_pre_merge_finite := by
  pair_intro
  all_goals have hreal := fun c => real_args _ _ _ _ _ _ _ _ _ (congrFun (hpre c) ValueIdx.ix0)
  run_from Cert.MergeIdeal.Value.run_blocks m g
  run_from Cert.MergeRefIdeal.Value.run m' g'
  all_goals
    obtain ⟨⟨D, h0⟩, ⟨Y, h1, h2, h3, h4⟩, ⟨Z, h5⟩, ⟨W, h6⟩, O, h7⟩ := hreal c
    have H : MergeFinal.Holds m c D Y Z W O := ⟨h0, h1, h2, h3, h4, h5, h6, h7⟩
    obtain ⟨e0, e1, e2, e3, e4, e5, e6, e7⟩ := hagree c
  · rw [MergeRefIdeal.Read.val_main_v77_eq, h0, h1, h2, h3, h4, h5, h6, h7]
    exact (MergeRef.dz_eq D Y Z W O).trans (MergeFinal.final9 H).symm
  · rw [h0, h5, h6, h7]
    exact (MergeRef.rows_eq D Z W O).1.trans (MergeFinal.final10 H).symm
  · rw [h0, h5, h6, h7]
    exact (MergeRef.rows_eq D Z W O).2.1.trans (MergeFinal.final11 H).symm
  · rw [h0, h5, h6, h7]
    exact (MergeRef.rows_eq D Z W O).2.2.1.trans (MergeFinal.final12 H).symm
  · rw [h0, h5, h6, h7]
    exact (MergeRef.rows_eq D Z W O).2.2.2.trans (MergeFinal.final13 H).symm
  · rw [MergeRefIdeal.Read.val_main_v73_eq, h0, h1, h2, h3, h4, h5, h7]
    exact (MergeRef.stack_eq D Y Z O).trans (MergeFinal.final14 H).symm
  · rw [MergeRefIdeal.Read.val_main_v36_eq, h0, h1, h2, h3, h4, h5, h6]
    exact (MergeRef.dout_eq D Y Z W).trans (MergeFinal.final15 H).symm

end Cert.MergeClaim

end
-- ==== Proof.FfnKernel.lean ====
/- The values the gated feed-forward's gradient kernel computes from one tile of rows and one half of the hidden columns, on reals. -/
module

public import proofs.«01_k».proof.Proof.LayerNorm
public import proofs.«01_k».proof.Proof.LiftDot
public import proofs.«01_k».proof.Proof.Gen.FfnIdeal.Skeleton

@[expose] public section

noncomputable section

namespace Cert.FfnTile

open Idealize.ShloMosaic Cert.Lift Cert.FfnIdeal Cert.FfnIdeal.Gen
open Cert.LayerNorm (sig one_add_exp_ne)

variable (D : Fin 512 → Fin 1024 → ℝ) (W : Fin 1408 → Fin 1024 → ℝ) (A B H : Fin 512 → Fin 1408 → ℝ)

/-- The cotangent of the hidden rows. -/
abbrev dact (r : Fin 512) (j : Fin 1408) : ℝ := ∑ k, D r k * W j k
/-- The cotangent of the gate's argument. -/
abbrev dgate (r : Fin 512) (j : Fin 1408) : ℝ := dact D W r j * B r j * (sig (A r j) * (1 + A r j * (1 - sig (A r j))))
/-- The cotangent of the other factor. -/
abbrev dup (r : Fin 512) (j : Fin 1408) : ℝ := dact D W r j * A r j * sig (A r j)
/-- The hidden rows. -/
abbrev hid (r : Fin 512) (j : Fin 1408) : ℝ := A r j * sig (A r j) * B r j

theorem pay4 : k0_pay4 (F := Ideal) (up2 D) = up2 D := rfl

theorem pay5 : k0_pay5 (F := Ideal) (up2 D) (up2 W) = up2 (dact D W) := by
  unfold k0_pay5
  simp (disch := exact rfl) only [pay4, castSelf, mmNT _ _ _ (rfl : Axes dot_S512x1024_S1408x1024_S512x1408_1_1_0_0_n_n _ _ _ _)]

theorem pay6 : k0_pay6 (F := Ideal) (up2 A) = up2 A := by
  unfold k0_pay6
  simp only [castSelf, casts]

theorem pay7 : k0_pay7 (F := Ideal) (up2 A) = up2 fun r j => sig (A r j) := by
  unfold k0_pay7
  simp (disch := exact fun _ _ => by rw [zero_sub]; exact one_add_exp_ne _) only [pay6, vec2, words, scalar_word, splat2, divf2]
  refine congrArg up2 (funext fun r => funext fun k => ?_)
  rw [zero_sub]
  rfl

theorem pay8 : k0_pay8 (F := Ideal) (up2 B) = up2 B := by
  unfold k0_pay8
  simp only [castSelf, casts]

/-- The gradient's block for the gate's columns. -/
theorem pay9 : k0_pay9 (F := Ideal) (up2 D) (up2 W) (up2 A) (up2 B) = up2 (dgate D W A B) := by
  unfold k0_pay9
  simp only [pay5, pay6, pay7, pay8, casts, vec2, words, scalar_word, splat2]

/-- The gradient's block for the other columns. -/
theorem pay10 : k0_pay10 (F := Ideal) (up2 D) (up2 W) (up2 A) = up2 (dup D W A) := by
  unfold k0_pay10
  simp only [pay5, pay6, pay7, casts, vec2]

/-- The tile's part of the gradient of the output projection. -/
theorem pay11 : k0_pay11 (F := Ideal) (up2 D) (up2 A) (up2 B) = up2 fun j k => ∑ r, hid A B r j * D r k := by
  unfold k0_pay11
  simp (disch := exact rfl) only [pay4, pay6, pay7, pay8, casts, vec2, mmTN _ _ _ (rfl : Axes dot_S512x1408_S512x1024_S1408x1024_0_0_1_1_n_n _ _ _ _)]

/-- The first tile's part is stored as it is. -/
theorem pay12 (V : Fin 1408 → Fin 1024 → ℝ) : k0_pay12 (F := Ideal) (up2 V) = up2 V := by
  unfold k0_pay12
  exact castSelf V _

/-- A further tile's part is added. -/
theorem pay13 (V : Fin 1408 → Fin 1024 → ℝ) (w : Vec Ideal S1408x1024 .f32) (i : S1408x1024.Idx) : k0_pay13 (F := Ideal) (up2 V) w i = w i + up2 V i := by
  unfold k0_pay13
  simp only [shapeCast_self]
  rfl

theorem pay14 : k0_pay14 (F := Ideal) (up2 D) (up2 W) = up2 (dact D W) := by
  unfold k0_pay14
  simp (disch := exact rfl) only [castSelf, mmNT _ _ _ (rfl : Axes dot_S512x1024_S1408x1024_S512x1408_1_1_0_0_n_n _ _ _ _)]

theorem pay15 : k0_pay15 (F := Ideal) (up2 A) = up2 A := pay6 A

theorem pay16 : k0_pay16 (F := Ideal) (up2 A) = up2 fun r j => sig (A r j) := pay7 A

theorem pay17 : k0_pay17 (F := Ideal) (up2 B) = up2 B := pay8 B

/-- The second half's block for the gate's columns. -/
theorem pay18 : k0_pay18 (F := Ideal) (up2 D) (up2 W) (up2 A) (up2 B) = up2 (dgate D W A B) := pay9 D W A B

/-- The second half's block for the other columns. -/
theorem pay19 : k0_pay19 (F := Ideal) (up2 D) (up2 W) (up2 A) = up2 (dup D W A) := pay10 D W A

theorem pay20 : k0_pay20 (F := Ideal) (up2 A) (up2 B) = up2 (hid A B) := by
  unfold k0_pay20
  simp only [pay15, pay16, pay17, vec2]

theorem pay1 : k0_pay1 (F := Ideal) (up2 D) (up2 H) = up2 fun j k => ∑ r, H r j * D r k := by
  unfold k0_pay1
  simp (disch := exact rfl) only [casts, mmTN _ _ _ (rfl : Axes dot_S512x1408_S512x1024_S1408x1024_0_0_1_1_n_n _ _ _ _)]

theorem pay2 : k0_pay2 (F := Ideal) (up2 D) (up2 H) = up2 fun j k => ∑ r, H r j * D r k := by
  unfold k0_pay2
  simp only [pay1, castSelf]

theorem pay3 (w : Vec Ideal S1408x1024 .f32) (i : S1408x1024.Idx) : k0_pay3 (F := Ideal) (up2 D) (up2 H) w i = w i + up2 (fun j k => ∑ r, H r j * D r k) i := by
  unfold k0_pay3
  simp only [pay1, shapeCast_self]
  rfl

end Cert.FfnTile

end
-- ==== Proof.FfnRef.lean ====
/- The values of the gated feed-forward's reference, one group of lines at a time, on reals. -/
module

public import proofs.«01_k».proof.Proof.LayerNorm
public import proofs.«01_k».proof.Proof.LiftCut
public import proofs.«01_k».proof.Proof.Gen.FfnRefIdeal.Read

@[expose] public section

noncomputable section

namespace Cert.FfnRef

open Idealize.ShloMosaic Cert.Lift Cert.FfnRefIdeal Cert.FfnRefIdeal.Gen Cert.FfnRefIdeal.Read
open Cert.LayerNorm (sig one_add_exp_ne)

variable (D : Fin 8192 → Fin 1024 → ℝ) (W : Fin 2816 → Fin 1024 → ℝ) (U : Fin 8192 → Fin 5632 → ℝ)

/-- Column `j` of the gate's half. -/
def lo (j : Fin 2816) : Fin 5632 := ⟨j.val, by have := j.isLt; omega⟩
/-- Column `j` of the other half. -/
def hi (j : Fin 2816) : Fin 5632 := ⟨2816 + j.val, by have := j.isLt; omega⟩

/-- The cotangent of the hidden rows. -/
abbrev dact (r : Fin 8192) (j : Fin 2816) : ℝ := ∑ k, D r k * W j k
/-- The hidden rows. -/
abbrev hid (r : Fin 8192) (j : Fin 2816) : ℝ := U r (lo j) * sig (U r (lo j)) * U r (hi j)
/-- The cotangent of the gate's argument. -/
abbrev dgate (r : Fin 8192) (j : Fin 2816) : ℝ :=
  dact D W r j * U r (hi j) * (sig (U r (lo j)) * (1 + U r (lo j) * (1 - sig (U r (lo j)))))
/-- The cotangent of the other factor. -/
abbrev dup (r : Fin 8192) (j : Fin 2816) : ℝ := dact D W r j * U r (lo j) * sig (U r (lo j))
/-- The cotangents side by side. -/
abbrev du : Fin 8192 → Fin 5632 → ℝ := pair (dgate D W U) (dup D W U) rfl

/-- The two halves of the rows. -/
theorem halves : val_main_v0 (F := Ideal) (up2 U) = up2 (fun r j => U r (lo j)) ∧ val_main_v1 (F := Ideal) (up2 U) = up2 (fun r j => U r (hi j)) := by
  unfold val_main_v0 val_main_v1
  rw [cut2 U 0 0, cut2 U 0 2816]
  constructor <;> exact congrArg up2 (funext fun r => funext fun k => congrArg₂ U (Fin.ext (Nat.zero_add _)) (Fin.ext (by first | rfl | exact Nat.zero_add _)))

theorem sig_eq : val_main_v2_2 (F := Ideal) (up2 U) = up2 fun r j => sig (U r (lo j)) := by
  unfold val_main_v2_2 val_main_call0_v4 val_main_call0_v3 val_main_call0_v2 val_main_call0_v1 val_main_call0_v0 val_main_call0_cst val_main_call0_cst_0
  simp (disch := exact fun _ _ => one_add_exp_ne _) only [halves, consts, bcScalar, host2, hostDiv2, vec2]
  rfl

theorem silu_eq : val_main_v2_0 (F := Ideal) (up2 U) = up2 fun r j => U r (lo j) * sig (U r (lo j)) := by
  unfold val_main_v2_0
  simp only [halves, sig_eq, vec2]

/-- The gradient of the output projection. -/
theorem gwo_eq : val_main_v6 (F := Ideal) (up2 D) (up2 U) = up2 fun j k => ∑ r, D r k * hid U r j := by
  unfold val_main_v6 val_main_v5 val_main_v3
  simp (disch := exact rfl) only [halves, silu_eq, vec2, dotTN _ _ _ (rfl : Axes dot_S8192x1024_S8192x2816_S1024x2816_0_0_1_1_n_n _ _ _ _), transp]

theorem dact_eq : val_main_v7 (F := Ideal) (up2 D) (up2 W) = up2 (dact D W) := by
  unfold val_main_v7
  exact dotNT _ _ _ rfl

theorem dup_eq : val_main_v8 (F := Ideal) (up2 D) (up2 W) (up2 U) = up2 (dup D W U) := by
  unfold val_main_v8
  simp only [silu_eq, dact_eq, vec2]
  refine congrArg up2 (funext fun r => funext fun k => ?_)
  ring

theorem dgate_eq : val_main_v10 (F := Ideal) (up2 D) (up2 W) (up2 U) = up2 (dgate D W U) := by
  unfold val_main_v10 val_main_call1_v2 val_main_call1_v1 val_main_call1_v0 val_main_v9 val_main_v2_1 val_main_call0_v7 val_main_call0_v6 val_main_call0_cst_1
  simp only [halves, sig_eq, dact_eq, consts, bcScalar, vec2]
  refine congrArg up2 (funext fun r => funext fun k => ?_)
  ring

/-- The gradient with respect to the rows, its columns in the version's order. -/
theorem du_eq : val_main_v17 (F := Ideal) (up2 D) (up2 W) (up2 U) = up2 fun r k => du D W U r (swap k) := by
  unfold val_main_v17 val_main_v16 val_main_v15 val_main_v14 val_main_v13 val_main_v12
  have e : val_main_v11 (F := Ideal) (up2 D) (up2 W) (up2 U) = up2 (du D W U) := by
    unfold val_main_v11
    rw [dgate_eq, dup_eq]
    exact pairCat (n := 5632) (dgate D W U) (dup D W U) concatenates_S8192x2816_S8192x2816_S8192x5632_d1 rfl
  rw [e]
  simp only [casts, catSwap]

end Cert.FfnRef

end
-- ==== Proof.FfnFinal.lean ====
/- The arrays the gated feed-forward's gradient kernel leaves, on reals. -/
module

public import proofs.«01_k».proof.Proof.FfnKernel
public import proofs.«01_k».proof.Proof.FfnRef
public import proofs.«01_k».proof.Proof.Gen.FfnIdeal.Value
public import proofs.«01_k».proof.Proof.LiftLoad
public import Idealize.ShloMosaic.Lib.Claim
public import Idealize.ShloMosaic.Lib.Pipeline.ValueKit
public import Idealize.ShloMosaic.Lib.Pipeline.ReadBack

@[expose] public section

set_option maxRecDepth 16384

noncomputable section

namespace Cert.FfnFinal

open Idealize.ShloMosaic Idealize.ShloMosaic.TcCoe Idealize.SL.Sem Cert.Lift Cert.FfnIdeal Cert.FfnIdeal.Gen
open Idealize.ShloMosaic.Pipeline (Dat)
open Cert.FfnRef (lo hi du hid dgate dup)

variable (m : (ℓ : Loc nD τ sig) → Buf (Elt Ideal) ℓ) (c : Dev nD)
variable (D : Fin 8192 → Fin 1024 → ℝ) (W : Fin 2816 → Fin 1024 → ℝ) (U : Fin 8192 → Fin 5632 → ℝ)

/-- Which block each window stages at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

/-- Row `r` of point `t`'s tile. -/
def row (t : Fin cfg0.N) (r : Fin 512) : Fin 8192 := ⟨t.val * 512 + r.val, by have h := t.isLt; have := r.isLt; have h2 : cfg0.N = 16 := N_0; omega⟩

section

variable (h0 : m ((c : Thread nD τ).loc main_arg0) = up2 D) (h1 : m ((c : Thread nD τ).loc main_arg1) = up2 W) (h2 : m ((c : Thread nD τ).loc main_arg2) = up2 U)

include h2 in
/-- The columns of the host's operand are in the version's order. -/
theorem hostU : V m c main_v8 = up2 fun r k => U r (swap k) := by
  simp only [V, hostOps0, List.flatten_cons, List.flatten_nil, List.append_nil, List.cons_append, List.nil_append]
  after_results_simp
  refine Eq.trans ?_ (cutSwap U slices_S8192x5632_S8192x2816_0_0 slices_S8192x5632_S8192x2816_0_2816 slices_S8192x2816_S8192x1408_0_0 slices_S8192x2816_S8192x1408_0_1408 concatenates_S8192x1408_S8192x1408_S8192x1408_S8192x1408_S8192x5632_d1)
  rw [← h2]
  rfl

include h0 in
theorem blk0 (t : Fin cfg0.N) : iblk m c 0 t = up2 fun r k => D (row t r) k := by
  funext y
  refine Eq.trans (b := m ((c : Thread nD τ).loc main_arg0) (ValueIdx.ix2 (row t (y 0)) (y 1))) ?_ (congrFun h0 _)
  blk_point [iblk, V, idx t, row]

include h1 in
theorem blk1 (t : Fin cfg0.N) : iblk m c 1 t = up2 W := by
  funext y
  refine Eq.trans (b := m ((c : Thread nD τ).loc main_arg1) (ValueIdx.ix2 (y 0) (y 1))) ?_ (congrFun h1 _)
  blk_point [iblk, V, idx t]

include h2 in
theorem blk2 (t : Fin cfg0.N) : iblk m c 2 t = up2 fun r k => U (row t r) (swap k) := by
  funext y
  refine Eq.trans (b := V m c main_v8 (ValueIdx.ix2 (row t (y 0)) (y 1))) ?_ (congrFun (hostU m c U h2) _)
  blk_ext [iblk, idx t, row]

end

/-- Hidden column `j` of the first half, and of the second. -/
def fst (j : Fin 1408) : Fin 2816 := ⟨j.val, by have := j.isLt; omega⟩
def snd (j : Fin 1408) : Fin 2816 := ⟨1408 + j.val, by have := j.isLt; omega⟩

/-- Where the four column groups of the version's order come from. -/
theorem groups (k : Fin 5632) (j : Fin 1408) : (k.val = j.val → swap k = lo (fst j)) ∧ (k.val = 1408 + j.val → swap k = hi (fst j))
    ∧ (k.val = 2816 + j.val → swap k = lo (snd j)) ∧ (k.val = 4224 + j.val → swap k = hi (snd j)) := by
  have hj := j.isLt
  refine ⟨fun h => Fin.ext ?_, fun h => Fin.ext ?_, fun h => Fin.ext ?_, fun h => Fin.ext ?_⟩ <;>
    (rw [swap_val, h]; simp only [lo, hi, fst, snd]; split_ifs <;> omega)

/-- The cotangents at the two kinds of columns. -/
theorem du_lo (r : Fin 8192) (j : Fin 2816) : du D W U r (lo j) = dgate D W U r j := dif_pos j.isLt
theorem du_hi (r : Fin 8192) (j : Fin 2816) : du D W U r (hi j) = dup D W U r j := by
  refine (dif_neg (Nat.not_lt.mpr (Nat.le_add_right _ _))).trans (congrArg (dup D W U r) (Fin.ext ?_))
  exact Nat.add_sub_cancel_left _ _

/-- A block of one column group agrees with the tile where the columns do. -/
theorem at_group (P : Fin 512 → Fin 1408 → ℝ) (t : Fin cfg0.N) (x : (⟨2, ![512, 1408]⟩ : Shape).Idx) (y : (⟨2, ![512, 5632]⟩ : Shape).Idx) (e : (y 0).val = (x 0).val)
    (h : du D W U (row t (x 0)) (swap (y 1)) = P (x 0) (x 1)) : up2 P x = up2 (fun r k => du D W U (row t r) (swap k)) y := by
  have e' : y 0 = x 0 := Fin.ext e
  show ((P (x 0) (x 1) : ℝ) : EReal) = ((du D W U (row t (y 0)) (swap (y 1)) : ℝ) : EReal)
  rw [e', h]

/-- One tile's part of the gradient of the output projection. -/
abbrev part (t : Fin cfg0.N) (j : Fin 2816) (k : Fin 1024) : ℝ := ∑ r, hid U (row t r) j * D (row t r) k

/-- A block of rows of a tile's part of the projection's gradient. -/
theorem at_rows (t : Fin cfg0.N) (x : (⟨2, ![1408, 1024]⟩ : Shape).Idx) (y : (⟨2, ![2816, 1024]⟩ : Shape).Idx) (j : Fin 2816) (e : (y 0).val = j.val) (e' : (y 1).val = (x 1).val) :
    ((part D U t j (x 1) : ℝ) : EReal) = up2 (part D U t) y := by
  have a : y 0 = j := Fin.ext e
  have b : y 1 = x 1 := Fin.ext e'
  show _ = ((part D U t (y 0) (y 1) : ℝ) : EReal)
  rw [a, b]

section

variable (h0 : m ((c : Thread nD τ).loc main_arg0) = up2 D) (h1 : m ((c : Thread nD τ).loc main_arg1) = up2 W) (h2 : m ((c : Thread nD τ).loc main_arg2) = up2 U)

include h1 in
/-- The rows of the output projection a half of the columns needs. -/
theorem weights (t : Fin cfg0.N) :
    View.ld (iblk m c 1 t) (Rect.unit ![0, 0] ![1408, 1024] inb_S2816x1024_S1408x1024_0_0) = up2 (fun j k => W (fst j) k)
    ∧ View.ld (iblk m c 1 t) (Rect.unit ![1408, 0] ![1408, 1024] inb_S2816x1024_S1408x1024_1408_0) = up2 (fun j k => W (snd j) k) := by
  rw [blk1 m c W h1]
  constructor <;> refine (loadHalf W _ _ _).trans (congrArg up2 (funext fun j => funext fun k => congrArg₂ W (Fin.ext ?_) (Fin.ext (Nat.zero_add _))))
  · exact Nat.zero_add _
  · rfl

include h2 in
/-- The four column groups of the tile of rows. -/
theorem groupsOf (t : Fin cfg0.N) :
    View.ld (iblk m c 2 t) (Rect.unit ![0, 0] ![512, 1408] inb_S512x5632_S512x1408_0_0) = up2 (fun r j => U (row t r) (lo (fst j)))
    ∧ View.ld (iblk m c 2 t) (Rect.unit ![0, 1408] ![512, 1408] inb_S512x5632_S512x1408_0_1408) = up2 (fun r j => U (row t r) (hi (fst j)))
    ∧ View.ld (iblk m c 2 t) (Rect.unit ![0, 2816] ![512, 1408] inb_S512x5632_S512x1408_0_2816) = up2 (fun r j => U (row t r) (lo (snd j)))
    ∧ View.ld (iblk m c 2 t) (Rect.unit ![0, 4224] ![512, 1408] inb_S512x5632_S512x1408_0_4224) = up2 (fun r j => U (row t r) (hi (snd j))) := by
  rw [blk2 m c U h2]
  refine ⟨?_, ?_, ?_, ?_⟩ <;> refine (loadHalf (fun r k => U (row t r) (swap k)) _ _ _).trans (congrArg up2 (funext fun r => funext fun j => congrArg₂ U (congrArg (row t) (Fin.ext (Nat.zero_add _))) ?_))
  · exact (groups _ j).1 (Nat.zero_add _)
  · exact (groups _ j).2.1 rfl
  · exact (groups _ j).2.2.1 rfl
  · exact (groups _ j).2.2.2 rfl

include h0 h1 h2 in
/-- The four blocks of one tile's gradient. -/
theorem pieces (t : Fin cfg0.N) (y : (⟨2, ![512, 5632]⟩ : Shape).Idx) :
    View.canon (Val := Elt Ideal) (e := .bf16)
      [⟨Rect.unit ![0, 4224] ![512, 1408] inb_S512x5632_S512x1408_0_4224,
          k0_pay19 (k0_pay4 (iblk m c 0 t)) (View.ld (iblk m c 1 t) (Rect.unit ![1408, 0] ![1408, 1024] inb_S2816x1024_S1408x1024_1408_0))
            (View.ld (iblk m c 2 t) (Rect.unit ![0, 2816] ![512, 1408] inb_S512x5632_S512x1408_0_2816))⟩,
        ⟨Rect.unit ![0, 2816] ![512, 1408] inb_S512x5632_S512x1408_0_2816,
          k0_pay18 (k0_pay4 (iblk m c 0 t)) (View.ld (iblk m c 1 t) (Rect.unit ![1408, 0] ![1408, 1024] inb_S2816x1024_S1408x1024_1408_0))
            (View.ld (iblk m c 2 t) (Rect.unit ![0, 2816] ![512, 1408] inb_S512x5632_S512x1408_0_2816))
            (View.ld (iblk m c 2 t) (Rect.unit ![0, 4224] ![512, 1408] inb_S512x5632_S512x1408_0_4224))⟩,
        ⟨Rect.unit ![0, 1408] ![512, 1408] inb_S512x5632_S512x1408_0_1408,
          k0_pay10 (iblk m c 0 t) (View.ld (iblk m c 1 t) (Rect.unit ![0, 0] ![1408, 1024] inb_S2816x1024_S1408x1024_0_0))
            (View.ld (iblk m c 2 t) (Rect.unit ![0, 0] ![512, 1408] inb_S512x5632_S512x1408_0_0))⟩,
        ⟨Rect.unit ![0, 0] ![512, 1408] inb_S512x5632_S512x1408_0_0,
          k0_pay9 (iblk m c 0 t) (View.ld (iblk m c 1 t) (Rect.unit ![0, 0] ![1408, 1024] inb_S2816x1024_S1408x1024_0_0))
            (View.ld (iblk m c 2 t) (Rect.unit ![0, 0] ![512, 1408] inb_S512x5632_S512x1408_0_0))
            (View.ld (iblk m c 2 t) (Rect.unit ![0, 1408] ![512, 1408] inb_S512x5632_S512x1408_0_1408))⟩]
      y = up2 (fun r k => du D W U (row t r) (swap k)) y := by
  obtain ⟨w0, w1⟩ := weights m c W h1 t
  obtain ⟨u0, u1, u2, u3⟩ := groupsOf m c U h2 t
  rw [w0, w1, u0, u1, u2, u3, blk0 m c D h0, FfnTile.pay4, FfnTile.pay19, FfnTile.pay18, FfnTile.pay10, FfnTile.pay9]
  canon_tiles x e
  · exact at_group D W U _ t x y (by omega) ((congrArg (du D W U _) ((groups (y 1) (x 1)).2.2.2 (by omega))).trans (du_hi D W U _ _))
  · exact at_group D W U _ t x y (by omega) ((congrArg (du D W U _) ((groups (y 1) (x 1)).2.2.1 (by omega))).trans (du_lo D W U _ _))
  · exact at_group D W U _ t x y (by omega) ((congrArg (du D W U _) ((groups (y 1) (x 1)).2.1 (by omega))).trans (du_hi D W U _ _))
  · exact at_group D W U _ t x y (by omega) ((congrArg (du D W U _) ((groups (y 1) (x 1)).1 (by omega))).trans (du_lo D W U _ _))

include h0 h1 h2 in
/-- The gradient with respect to the rows. -/
theorem final3 : (dats m 0 c).arrAt 3 cfg0.N = up2 fun r k => du D W U r (swap k) := by
  refine (dats m 0 c).arrAt_eq_of_covers 3 _ (by decide +kernel) fun t hf y => ?_
  have ht : t.val < 16 := lt_of_lt_of_eq t.isLt N_0
  blk_simp
  rw [after0_3]
  refine Eq.trans (b := up2 (fun r k => du D W U (row t r) (swap k)) y) ?_ ?_
  · by_cases h : t.val % 16 = 0
    · rw [outsAt0_A m c t h (by omega) h (by omega) (by omega)]
      frame_out
      exact pieces m c D W U h0 h1 h2 t y
    · by_cases h' : t.val % 16 = 15
      · rw [outsAt0_C m c t h (by omega) h (by omega) h']
        frame_out
        exact pieces m c D W U h0 h1 h2 t y
      · rw [outsAt0_B m c t h (by omega) h (by omega) h']
        frame_out
        exact pieces m c D W U h0 h1 h2 t y
  · refine Eq.trans (b := up2 (fun r k => du D W U r (swap k)) (ValueIdx.ix2 (row t (y 0)) (y 1))) rfl ?_
    blk_point [idx t, row]

/-- A point whose number ends the run copies the sums to the result. -/
theorem copied (t : Fin cfg0.N) (a : ¬t.val % 16 = 0) (b : 1 ≤ t.val) (d : t.val % 16 = 15) : (outsAt0 m c t.val t.isLt).2.2 = (outsAt0 m c t.val t.isLt).2.1 := by
  rw [outsAt0_C m c t a b a b d]
  dsimp only
  unfold sout0_C_0
  rw [View.read_writes_eq_canon VS0_0 _ _ (scover0_C_0 _ _ _ _ _ _ _ _ _ _ _ _ _ _ _ _ _ _ _ _ _ _)]
  unfold hbw0_C_0 kernelRun0_C
  dsimp only
  exact (View.read_write_univ (Val := Elt Ideal) (v := View.whole main_v9_1) _ _).trans (View.read_writes_eq_canon (Val := Elt Ideal) (View.whole cc0_scratch0) _ _ fun y => View.cover_of_tiledL (s := S2816x1024) _ S1408x1024.size (by sl_kernel_rfl) y)

include h0 h2 in
/-- The two blocks of rows the first point stores. -/
theorem rowsFirst (t : Fin cfg0.N) (y : (⟨2, ![2816, 1024]⟩ : Shape).Idx) :
    View.canon (Val := Elt Ideal) (e := .f32)
      [⟨Rect.unit ![1408, 0] ![1408, 1024] inb_S2816x1024_S1408x1024_1408_0,
          k0_pay2 (k0_pay4 (iblk m c 0 t)) (k0_pay20 (View.ld (iblk m c 2 t) (Rect.unit ![0, 2816] ![512, 1408] inb_S512x5632_S512x1408_0_2816))
            (View.ld (iblk m c 2 t) (Rect.unit ![0, 4224] ![512, 1408] inb_S512x5632_S512x1408_0_4224)))⟩,
        ⟨Rect.unit ![0, 0] ![1408, 1024] inb_S2816x1024_S1408x1024_0_0,
          k0_pay12 (k0_pay11 (iblk m c 0 t) (View.ld (iblk m c 2 t) (Rect.unit ![0, 0] ![512, 1408] inb_S512x5632_S512x1408_0_0))
            (View.ld (iblk m c 2 t) (Rect.unit ![0, 1408] ![512, 1408] inb_S512x5632_S512x1408_0_1408)))⟩]
      y = up2 (part D U t) y := by
  obtain ⟨u0, u1, u2, u3⟩ := groupsOf m c U h2 t
  rw [u0, u1, u2, u3, blk0 m c D h0, FfnTile.pay4, FfnTile.pay20, FfnTile.pay2, FfnTile.pay11, FfnTile.pay12]
  canon_tiles x e
  · exact at_rows D U t x y (snd (x 0)) (by simp only [snd]; omega) (by omega)
  · exact at_rows D U t x y (fst (x 0)) (by simp only [fst]; omega) (by omega)

include h0 h2 in
/-- The two blocks of rows a later point stores: what the point before left plus the tile's part. -/
theorem rowsLater (t : Fin cfg0.N) (w : Vec Ideal S2816x1024 .f32) (y : (⟨2, ![2816, 1024]⟩ : Shape).Idx) :
    View.canon (Val := Elt Ideal) (e := .f32)
      [⟨Rect.unit ![1408, 0] ![1408, 1024] inb_S2816x1024_S1408x1024_1408_0,
          k0_pay3 (k0_pay4 (iblk m c 0 t)) (k0_pay20 (View.ld (iblk m c 2 t) (Rect.unit ![0, 2816] ![512, 1408] inb_S512x5632_S512x1408_0_2816))
            (View.ld (iblk m c 2 t) (Rect.unit ![0, 4224] ![512, 1408] inb_S512x5632_S512x1408_0_4224)))
            (View.ld w (Rect.unit ![1408, 0] ![1408, 1024] inb_S2816x1024_S1408x1024_1408_0))⟩,
        ⟨Rect.unit ![0, 0] ![1408, 1024] inb_S2816x1024_S1408x1024_0_0,
          k0_pay13 (k0_pay11 (iblk m c 0 t) (View.ld (iblk m c 2 t) (Rect.unit ![0, 0] ![512, 1408] inb_S512x5632_S512x1408_0_0))
            (View.ld (iblk m c 2 t) (Rect.unit ![0, 1408] ![512, 1408] inb_S512x5632_S512x1408_0_1408)))
            (View.ld w (Rect.unit ![0, 0] ![1408, 1024] inb_S2816x1024_S1408x1024_0_0))⟩]
      y = w y + up2 (part D U t) y := by
  obtain ⟨u0, u1, u2, u3⟩ := groupsOf m c U h2 t
  rw [u0, u1, u2, u3, blk0 m c D h0, FfnTile.pay4, FfnTile.pay20, FfnTile.pay11]
  canon_tiles x e
  · refine (FfnTile.pay3 _ _ _ _).trans (congrArg₂ (· + ·) (View.ld_unit_apply_of _ _ _ _ _ _ fun ax => ?_) (at_rows D U t x y (snd (x 0)) (by simp only [snd]; omega) (by omega)))
    match ax with | ⟨0, _⟩ => exact e0 | ⟨1, _⟩ => exact e1.trans (Nat.zero_add _).symm
  · refine (FfnTile.pay13 _ _ _).trans (congrArg₂ (· + ·) (View.ld_unit_apply_of _ _ _ _ _ _ fun ax => ?_) (at_rows D U t x y (fst (x 0)) (by simp only [fst]; omega) (by omega)))
    match ax with | ⟨0, _⟩ => exact e0.trans (Nat.zero_add _).symm | ⟨1, _⟩ => exact e1.trans (Nat.zero_add _).symm

include h0 h2 in
/-- The gradient of the output projection, in the scratch array after the last point. -/
theorem summed (t : Fin cfg0.N) (ht : t.val = 15) (y) : (outsAt0 m c t.val t.isLt).2.1 y = up2 (fun j k => ∑ r, D r k * hid U r j) y := by
  rw [Pipeline.eq_sum_fin_of_reset_step_apply_last (fun n h => (outsAt0 m c n h).2.1) 16 (fun _ => 0) (fun t => up2 (part D U t))
    (fun t h y => by
      have ht : t.val < 16 := lt_of_lt_of_eq t.isLt N_0
      rw [outsAt0_A m c t h (by omega) h (by omega) (by omega)]; frame_out
      exact (rowsFirst m c D U h0 h2 t y).trans (zero_add _).symm)
    (fun t h y => by
      by_cases h' : t.val % 16 = 15
      · rw [outsAt0_C m c t h (by omega) h (by omega) h']; frame_out
        rw [read_unread_whole]
        exact rowsLater m c D U h0 h2 t _ y
      · rw [outsAt0_B m c t h (by omega) h (by omega) h']; frame_out
        rw [read_unread_whole]
        exact rowsLater m c D U h0 h2 t _ y)
    (le_of_eq N_0) t (by have e : cfg0.N = 16 := N_0; omega) y, zero_add]
  refine (tile_sum (congrArg (· * 512) N_0) row (fun _ _ => rfl) fun r => hid U r (y 0) * D r (y 1)).trans ?_
  exact congrArg _ (Finset.sum_congr rfl fun r _ => mul_comm _ _)

include h0 h2 in
/-- The gradient of the output projection. -/
theorem finalH (n : ℕ) (h : n < cfg0.N) (hn : n = 15) : (outsAt0 m c n h).2.2 = up2 fun j k => ∑ r, D r k * hid U r j :=
  (copied m c ⟨n, h⟩ (by dsimp only; omega) (by dsimp only; omega) (by dsimp only; omega)).trans (funext (summed m c D U h0 h2 ⟨n, h⟩ hn))

end

end Cert.FfnFinal

end
-- ==== Proof.FfnClaim.lean ====
/- The gated feed-forward's gradient: the two claims of its pair that no generated theorem states. -/
module

public import proofs.«01_k».proof.Defs
public import proofs.«01_k».proof.Proof.FfnFinal
public import proofs.«01_k».proof.Proof.Gen.Ffn.Frame
public import proofs.«01_k».proof.Proof.Gen.FfnIdeal.Frame
public import proofs.«01_k».proof.Proof.Gen.FfnRefIdeal.Run
public import proofs.«01_k».proof.Proof.Gen.Pre_ffn_finite

@[expose] public section

set_option maxRecDepth 16384
set_option maxHeartbeats 1000000

noncomputable section

namespace Cert.FfnClaim

open Idealize.ShloMosaic Idealize.SL.Sem Cert.Lift

/-- The precondition says that the three arguments hold real numbers only. -/
theorem real_args (a0 : Vec Ideal ⟨2, ![8192, 1024]⟩ .f32) (a1 : Vec Ideal ⟨2, ![2816, 1024]⟩ .f32) (a2 : Vec Ideal ⟨2, ![8192, 5632]⟩ .f32) (j : (⟨0, ![]⟩ : Shape).Idx)
    (h : Cert.Pre_ffn_finite.fn (F := Ideal) a0 a1 a2 j = 1#1) : (∃ D, a0 = up2 D) ∧ (∃ W, a1 = up2 W) ∧ ∃ U, a2 = up2 U := by
  dsimp only [Cert.Pre_ffn_finite.fn] at h
  obtain ⟨h, h2⟩ := and_one _ _ _ h
  obtain ⟨h0, h1⟩ := and_one _ _ _ h
  exact ⟨real2 _ _ _ _ _ _ h0, real2 _ _ _ _ _ _ h1, real2 _ _ _ _ _ _ h2⟩

/-- The reference runs to the end from every memory, and declares no semaphore. -/
theorem frame_ref : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- Over the reals the kernel's two results are the derivative of the gated feed-forward. -/
theorem value : Cert.algebraic_FfnIdeal_FfnRefIdeal_pre_ffn_finite := by
  pair_intro
  all_goals have hreal := fun c => real_args _ _ _ _ (congrFun (hpre c) ValueIdx.ix0)
  run_from Cert.FfnIdeal.Value.run_blocks m g
  run_from Cert.FfnRefIdeal.Value.run m' g'
  all_goals
    obtain ⟨⟨D, h0⟩, ⟨W, h1⟩, U, h2⟩ := hreal c
    obtain ⟨e0, e1, e2⟩ := hagree c
  · rw [FfnRefIdeal.Read.val_main_v17_eq, e0, e1, e2, h0, h1, h2]
    exact (FfnRef.du_eq D W U).trans (FfnFinal.final3 m c D W U h0 h1 h2).symm
  · rw [FfnRefIdeal.Read.val_main_v6_eq, h0, h2]
    have last : (FfnIdeal.Gen.outsAt0 m c 15 (by decide)).2.2 = _ := FfnFinal.finalH m c D U h0 h2 15 (by decide) rfl
    rw [FfnIdeal.Gen.outsAt0_C m c ⟨15, by decide⟩ (by decide) (by decide) (by decide) (by decide) (by decide)] at last
    exact (FfnRef.gwo_eq D U).trans last.symm

end Cert.FfnClaim

end
-- ==== Proof.Gating.lean ====
/- The spatial gating unit of one chunk of 128 rows on reals: the heads' column groups, the causal weights, the mix and its gradient. -/
module

public import proofs.«01_k».proof.Proof.LayerNorm
public import proofs.«01_k».proof.Proof.LiftLoad
public import proofs.«01_k».proof.Proof.Lift3
public import Idealize.ShloMosaic.Lib.WordCmp

@[expose] public section

noncomputable section

namespace Cert.Gating

open Idealize.ShloMosaic Cert.Lift Cert.LayerNorm

/-- The head a column belongs to. -/
def grp (k : Fin 256) : Fin 4 := ⟨k.val / 64, by omega⟩
/-- The columns of a head. -/
def colOf (g : Fin 4) (c : Fin 64) : Fin 256 := ⟨g.val * 64 + c.val, by omega⟩
/-- One on a head's columns, zero elsewhere. -/
def msk (g : Fin 4) (k : Fin 256) : ℝ := if grp k = g then 1 else 0
/-- A square matrix with zeros above the diagonal. -/
def low (X : Fin 128 → Fin 128 → ℝ) (t s : Fin 128) : ℝ := if s.val ≤ t.val then X t s else 0

variable (W : Fin 4 → Fin 128 → Fin 128 → ℝ) (S : Fin 4 → Fin 128 → ℝ) (D U V M N : Fin 128 → Fin 256 → ℝ) (G B : Fin 256 → ℝ)

/-- The normalised gate. -/
def vn (s : Fin 128) (k : Fin 256) : ℝ := aff (V s) G B k
/-- The gate mixed along the chunk. -/
def mixed (t : Fin 128) (k : Fin 256) : ℝ := (∑ s, low (W (grp k)) t s * vn V G B s k) + S (grp k) t
/-- The gradient of the gated half. -/
def du (t : Fin 128) (k : Fin 256) : ℝ := D t k * mixed W S V G B t k
/-- The gradient of the mix. -/
def dmix (t : Fin 128) (k : Fin 256) : ℝ := D t k * U t k
/-- The gradient of the normalised gate. -/
def dvn (s : Fin 128) (k : Fin 256) : ℝ := ∑ t, low (W (grp k)) t s * M t k
/-- A chunk's part of the weights' gradient. -/
def dw (g : Fin 4) : Fin 128 → Fin 128 → ℝ := low fun t s => ∑ c, M t (colOf g c) * N s (colOf g c)
/-- A chunk's part of the bias's gradient. -/
def dbs (t : Fin 128) (g : Fin 4) : ℝ := ∑ c, M t (colOf g c)

theorem grp_colOf (g : Fin 4) (c : Fin 64) : grp (colOf g c) = g := by
  apply Fin.ext
  show (g.val * 64 + c.val) / 64 = g.val
  omega

/-- A sum over all columns under a head's mask is the sum over the head's columns. -/
theorem sum_msk (f : Fin 256 → ℝ) (g : Fin 4) : ∑ k, f k * msk g k = ∑ c, f (colOf g c) := by
  unfold msk
  simp only [mul_ite, mul_one, mul_zero, Finset.sum_ite, Finset.sum_const_zero, add_zero]
  refine (Finset.sum_bij' (fun c _ => colOf g c) (fun k _ => (⟨k.val % 64, Nat.mod_lt _ (by norm_num)⟩ : Fin 64)) (fun c _ => ?_) (fun _ _ => Finset.mem_univ _) (fun c _ => ?_) (fun k hk => ?_)
    fun _ _ => rfl).symm
  · exact Finset.mem_filter.mpr ⟨Finset.mem_univ _, grp_colOf g c⟩
  · apply Fin.ext
    show (g.val * 64 + c.val) % 64 = c.val
    omega
  · have h : k.val / 64 = g.val := congrArg Fin.val (Finset.mem_filter.mp hk).2
    apply Fin.ext
    show g.val * 64 + k.val % 64 = k.val
    omega

/-- Of four terms under the heads' masks one remains. -/
theorem pick (f : Fin 4 → ℝ) (k : Fin 256) : f 0 * msk 0 k + f 1 * msk 1 k + f 2 * msk 2 k + f 3 * msk 3 k = f (grp k) := by
  unfold msk
  generalize grp k = g
  fin_cases g <;> simp

/-- The lower triangle, as the comparison of the two index words selects it. -/
theorem selLow (X : Fin 128 → Fin 128 → ℝ) (h₀ h₁) :
    select (cmpi .sge (iota .tc ⟨2, ![128, 128]⟩ 32 (no_index [0]) h₀) (iota .tc ⟨2, ![128, 128]⟩ 32 (no_index [1]) h₁)) (up2 X) (up2 fun _ _ => 0) = up2 (low X) := by
  funext i
  have h : cmpi .sge (iota .tc (⟨2, ![128, 128]⟩ : Shape) 32 [0] h₀) (iota .tc ⟨2, ![128, 128]⟩ 32 [1] h₁) i = BitVec.ofBool (decide ((i 1).val ≤ (i 0).val)) := by
    have e0 : (i 0).val < 128 := (i 0).isLt
    have e1 : (i 1).val < 128 := (i 1).isLt
    show IntOp.cmpi .sge (BitVec.ofNat 32 (0 * 128 + (i 0).val)) (BitVec.ofNat 32 (0 * 128 + (i 1).val)) = _
    rw [WordCmp.cmpi_sge_ofNat (by omega) (by omega)]
    simp only [Nat.zero_mul, Nat.zero_add]
  show (if cmpi .sge (iota .tc (⟨2, ![128, 128]⟩ : Shape) 32 [0] h₀) (iota .tc ⟨2, ![128, 128]⟩ 32 [1] h₁) i = 1 then up2 X i else up2 (fun _ _ => 0) i) = up2 (low X) i
  rw [h]
  unfold low
  show _ = (((if (i 1).val ≤ (i 0).val then X (i 0) (i 1) else 0 : ℝ)) : EReal)
  by_cases hc : (i 1).val ≤ (i 0).val
  · simp only [hc, decide_true]
    rfl
  · simp only [hc, decide_false]
    rfl

/-- A head's mask, as the comparisons of the column's index word with the head's bounds give it. -/
theorem mask (g : Fin 4) (p q : ℕ) (hp : p = g.val * 64) (hq : q = p + 64) (h₁) (hlt) :
    sitofp (F := Ideal) .f32 (extui 32 (andi (cmpi .sge (iota .tc (⟨2, ![1, 256]⟩ : Shape) 32 [1] h₁) (broadcast ⟨2, ![1, 256]⟩ (BitVec.ofNat 32 p)))
      (cmpi .slt (iota .tc (⟨2, ![1, 256]⟩ : Shape) 32 [1] h₁) (broadcast ⟨2, ![1, 256]⟩ (BitVec.ofNat 32 q)))) hlt) = up2 fun (_ : Fin 1) k => msk g k := by
  funext i
  have e1 : (i 1).val < 256 := (i 1).isLt
  have hg := g.isLt
  show Scalar.sitofp (F := Ideal) .f32 (BitVec.setWidth 32 (IntOp.andi (IntOp.cmpi .sge (BitVec.ofNat 32 (0 * 256 + (i 1).val)) (BitVec.ofNat 32 p))
    (IntOp.cmpi .slt (BitVec.ofNat 32 (0 * 256 + (i 1).val)) (BitVec.ofNat 32 q)))) = ((msk g (i 1) : ℝ) : EReal)
  rw [WordCmp.cmpi_sge_ofNat (by omega) (by omega), WordCmp.cmpi_slt_ofNat (by omega) (by omega), WordCmp.andi_ofBool]
  have hk : (decide (p ≤ 0 * 256 + (i 1).val) && decide (0 * 256 + (i 1).val < q)) = decide (grp (i 1) = g) := by
    rw [← Bool.decide_and]
    refine decide_eq_decide.mpr ⟨fun h => Fin.ext ?_, fun h => ?_⟩
    · show (i 1).val / 64 = g.val
      omega
    · have h' : (i 1).val / 64 = g.val := congrArg Fin.val h
      omega
  rw [hk]
  unfold msk
  by_cases hc : grp (i 1) = g
  · rw [decide_eq_true hc, if_pos hc]
    have e : (BitVec.setWidth 32 (BitVec.ofBool true)).toInt = 1 := by decide
    show (((BitVec.setWidth 32 (BitVec.ofBool true)).toInt : ℝ) : EReal) = _
    rw [e, Int.cast_one]
  · rw [decide_eq_false hc, if_neg hc]
    have e : (BitVec.setWidth 32 (BitVec.ofBool false)).toInt = 0 := by decide
    show (((BitVec.setWidth 32 (BitVec.ofBool false)).toInt : ℝ) : EReal) = _
    rw [e, Int.cast_zero]

end Cert.Gating

end
-- ==== Proof.SguKernel.lean ====
/- The values the spatial-gating gradient kernel computes from one chunk of 128 rows, on reals. -/
module

public import proofs.«01_k».proof.Proof.Gating
public import proofs.«01_k».proof.Proof.Gen.SguIdeal.Skeleton

@[expose] public section

set_option maxRecDepth 16384

noncomputable section

namespace Cert.SguTile

open Idealize.ShloMosaic Cert.Lift Cert.LayerNorm Cert.Gating Cert.SguIdeal Cert.SguIdeal.Gen

variable (W : Fin 4 → Fin 128 → Fin 128 → ℝ) (S : Fin 4 → Fin 128 → ℝ) (D U V M N : Fin 128 → Fin 256 → ℝ) (G B : Fin 1 → Fin 256 → ℝ) (X : Fin 128 → Fin 128 → ℝ)

/-- The product of a square matrix and the chunk. -/
theorem nn (X : Fin 128 → Fin 128 → ℝ) (Y : Fin 128 → Fin 256 → ℝ) :
    matmul (F := Ideal) (φ₁ := .bf16) (φ₂ := .bf16) dot_S128x128_S128x256_S128x256_1_0_0_1_n_n none (up2 X) (up2 Y) (constant S128x256 .f32 0x00000000#32) = up2 fun r k => ∑ l, X r l * Y l k := mmNN _ _ _ rfl
/-- The product of a transposed square matrix and the chunk. -/
theorem tn (X : Fin 128 → Fin 128 → ℝ) (Y : Fin 128 → Fin 256 → ℝ) :
    matmul (F := Ideal) (φ₁ := .bf16) (φ₂ := .bf16) dot_S128x128_S128x256_S128x256_0_0_1_1_n_n none (up2 X) (up2 Y) (constant S128x256 .f32 0x00000000#32) = up2 fun r k => ∑ l, X l r * Y l k := mmTN _ _ _ rfl
/-- The product of two chunks over the columns. -/
theorem nt (X Y : Fin 128 → Fin 256 → ℝ) :
    matmul (F := Ideal) (φ₁ := .bf16) (φ₂ := .bf16) dot_S128x256_S128x256_S128x128_1_1_0_0_n_n none (up2 X) (up2 Y) (constant S128x128 .f32 0x00000000#32) = up2 fun r k => ∑ l, X r l * Y k l := mmNT _ _ _ rfl

/-- The four heads' masks. -/
theorem masks : k0_pay5 (F := Ideal) = up2 (fun _ => msk 0) ∧ k0_pay6 (F := Ideal) = up2 (fun _ => msk 1) ∧ k0_pay7 (F := Ideal) = up2 (fun _ => msk 2) ∧ k0_pay8 (F := Ideal) = up2 (fun _ => msk 3) :=
  ⟨mask 0 0 64 rfl rfl _ _, mask 1 64 128 rfl rfl _ _, mask 2 128 192 rfl rfl _ _, mask 3 192 256 rfl rfl _ _⟩

/-- The iota along the rows. -/
abbrev rowsIota : IVec S128x128 32 := iota .tc S128x128 32 [0] iota_S128x128_d0_w32
/-- The iota along the columns. -/
abbrev colsIota : IVec S128x128 32 := iota .tc S128x128 32 [1] iota_S128x128_d1_w32

/-- The four heads' causal weights. -/
theorem weights : k0_pay9 (F := Ideal) (up3 fun _ => X) = up2 (low X) ∧ k0_pay10 (F := Ideal) (up3 fun _ => X) = up2 (low X)
    ∧ k0_pay11 (F := Ideal) rowsIota colsIota (up3 fun _ => X) = up2 (low X) ∧ k0_pay12 (F := Ideal) rowsIota colsIota (up3 fun _ => X) = up2 (low X) := by
  unfold k0_pay9 k0_pay10 k0_pay11 k0_pay12
  simp only [castDrop, scalar_word, words, splat2, selLow, casts, and_self]

/-- The bias of the mix. -/
theorem bias : k0_pay14 (F := Ideal) (up2 fun _ => msk 0) (up2 fun _ => msk 1) (up2 fun _ => msk 2) (up2 fun _ => msk 3)
    (up2 fun t _ => S 0 t) (up2 fun t _ => S 1 t) (up2 fun t _ => S 2 t) (up2 fun t _ => S 3 t) = up2 fun t k => S (grp k) t := by
  unfold k0_pay14
  simp only [castSelf, bcCol, bcRow, scalar_word, words, splat2, vec2, zero_add]
  exact congrArg up2 (funext fun t => funext fun k => pick (fun g => S g t) k)

/-- The zeros the sums start from. -/
theorem zeros : k0_pay16 (F := Ideal) = up2 (fun _ _ => 0) ∧ k0_pay17 (F := Ideal) = up2 (fun _ _ => 0) ∧ k0_pay18 (F := Ideal) = up2 fun _ _ => 0 := by
  unfold k0_pay16 k0_pay17 k0_pay18
  simp only [words, scalar_word, splat2, castSelf, and_self]

/-- The zero weights the weights' gradient starts from. -/
theorem zeroPages (i : S4x128x128.Idx) : k0_pay15 (F := Ideal) i = 0 := by
  unfold k0_pay15
  show Ideal.ofBits .f32 0x00000000#32 = 0
  rw [words.1]
  rfl

/-- The centred gate rows. -/
theorem cen_eq : k0_pay19 (F := Ideal) (up2 V) = up2 fun r k => cen (V r) k := by
  unfold k0_pay19
  simp (disch := norm_num) only [rowSum, lay2, castSelf, vec2, words, scalar_word, splat2, bcCol, divf2]
  rfl

/-- Their reciprocal standard deviations. -/
theorem rstd_eq : k0_pay20 (F := Ideal) (up2 V) = up2 fun r _ => rstd (V r) := by
  unfold k0_pay20
  simp (disch := norm_num) only [cen_eq, rowSum, lay2, castSelf, vec2, words, scalar_word, splat2, bcCol, divf2]
  exact rsqrt2 _ fun r _ => var_pos (V r)

/-- The normalised gate rows. -/
theorem xh_eq : k0_pay21 (F := Ideal) (up2 V) = up2 fun r k => xh (V r) k := by
  unfold k0_pay21
  simp only [cen_eq, rstd_eq, vec2, bcCol]
  rfl

/-- The normalised, scaled and shifted gate. -/
theorem vn_eq : k0_pay22 (F := Ideal) (up2 V) (up2 G) (up2 B) = up2 (vn V (G 0) (B 0)) ∧ k0_pay23 (F := Ideal) (up2 V) (up2 G) (up2 B) = up2 (vn V (G 0) (B 0)) := by
  have h : k0_pay22 (F := Ideal) (up2 V) (up2 G) (up2 B) = up2 (vn V (G 0) (B 0)) := by
    unfold k0_pay22
    simp only [xh_eq, castSelf, vec2, bcRow]
    rfl
  refine ⟨h, ?_⟩
  unfold k0_pay23
  rw [h]
  rfl

/-- The gated half's gradient, the three first heads' parts of the mix given by their own payload. -/
theorem du_eq : k0_pay26 (F := Ideal) (up2 (low (W 3))) (k0_pay24 (F := Ideal) (up2 fun _ => msk 0) (up2 fun _ => msk 1) (up2 fun _ => msk 2) (up2 (low (W 0))) (up2 (low (W 1))) (up2 (low (W 2)))
      (up2 fun t k => S (grp k) t) (up2 V) (up2 G) (up2 B)) (k0_pay25 (F := Ideal) (up2 fun _ => msk 3) (up2 V) (up2 G) (up2 B)) (up2 D)
    = up2 (du W S D V (G 0) (B 0)) := by
  unfold k0_pay26 k0_pay24 k0_pay25
  simp only [vn_eq, bcRow, vec2, casts, nn]
  refine congrArg up2 (funext fun t => funext fun k => ?_)
  unfold du mixed
  rw [← pick (fun g => ∑ s, low (W g) t s * vn V (G 0) (B 0) s k) k]
  simp only [Finset.sum_mul]
  have e : ∀ g, ∑ s, low (W g) t s * (vn V (G 0) (B 0) s k * msk g k) = ∑ s, low (W g) t s * vn V (G 0) (B 0) s k * msk g k := fun g => Finset.sum_congr rfl fun s _ => (mul_assoc _ _ _).symm
  rw [e, e, e, e]
  ring

/-- The gradient of the mix. -/
theorem dmix_eq : k0_pay27 (F := Ideal) (up2 D) (up2 U) = up2 (dmix D U) := by
  unfold k0_pay27
  simp only [castSelf, vec2]
  rfl

/-- The gradient of the mix added to what the chunks before left. -/
theorem sum_eq (w : Vec Ideal S128x256 .f32) (i : S128x256.Idx) : k0_pay28 (F := Ideal) (up2 D) (up2 U) w i = w i + up2 (dmix D U) i := by
  unfold k0_pay28
  rw [dmix_eq, shapeCast_self]
  rfl

/-- The gradient of the normalised gate. -/
theorem dvn_eq : k0_pay37 (F := Ideal) (up2 fun _ => msk 2) (up2 fun _ => msk 3) (up2 (low (W 2))) (up2 (low (W 3))) (up2 (dmix D U))
      (k0_pay32 (F := Ideal) (up2 fun _ => msk 0) (up2 fun _ => msk 1) (up2 (low (W 0))) (up2 (low (W 1))) (up2 D) (up2 U))
    = up2 (dvn W (dmix D U)) := by
  unfold k0_pay37 k0_pay34 k0_pay36 k0_pay32 k0_pay29 k0_pay31
  simp only [dmix_eq, scalar_word, words, splat2, bcRow, vec2, casts, tn, zero_add]
  refine congrArg up2 (funext fun s => funext fun k => ?_)
  unfold dvn
  rw [← pick (fun g => ∑ t, low (W g) t s * dmix D U t k) k]
  simp only [Finset.sum_mul, mul_assoc]

/-- A page's addition to the weights' gradient. -/
theorem page_add (w : Vec Ideal S1x128x128 .f32) (i : S1x128x128.Idx) (h h') :
    shapeCast S1x128x128 (addf (F := Ideal) (φ := .f32) (shapeCast S128x128 w h) (up2 X)) h' i = w i + up3 (fun (_ : Fin 1) => X) i := by
  have hr : (S128x128.rowMajor (ValueIdx.ix2 (i 1) (i 2))).val = (S1x128x128.rowMajor i).val := by
    refine (Shape.rowMajor_val_two _).trans (Eq.trans ?_ (Shape.rowMajor_val_three _).symm)
    have h0 : (i 0).val = 0 := Nat.lt_one_iff.mp (i 0).isLt
    show (i 1).val * 128 + (i 2).val = ((i 0).val * 128 + (i 1).val) * 128 + (i 2).val
    omega
  refine (shapeCast_apply (addf (F := Ideal) (φ := .f32) (shapeCast S128x128 w h) (up2 X)) h' i (ValueIdx.ix2 (i 1) (i 2)) hr).trans ?_
  show shapeCast S128x128 w h (ValueIdx.ix2 (i 1) (i 2)) + _ = _
  rw [shapeCast_apply w h (ValueIdx.ix2 (i 1) (i 2)) i hr.symm]
  rfl

/-- The product of a head's columns, read off the masked ones. -/
theorem head_eq (g : Fin 4) : (low fun t s => ∑ k, dmix D U t k * msk g k * N s k) = dw (dmix D U) N g := by
  unfold dw
  refine congrArg low (funext fun t => funext fun s => ?_)
  rw [← sum_msk (fun k => dmix D U t k * N s k) g]
  exact Finset.sum_congr rfl fun k _ => by ring

/-- The first head's page. -/
theorem dw0 (w : Vec Ideal S1x128x128 .f32) (i : S1x128x128.Idx) :
    k0_pay30 (F := Ideal) (up2 fun _ => msk 0) (k0_pay13 rowsIota colsIota) (up2 N) (up2 D) (up2 U) w i = w i + up3 (fun (_ : Fin 1) => dw (dmix D U) N 0) i := by
  unfold k0_pay30 k0_pay29 k0_pay13
  simp only [dmix_eq, bcRow, vec2, casts, nt, scalar_word, words, splat2, selLow, head_eq]
  exact page_add _ _ _ _ _

/-- The second head's page. -/
theorem dw1 (w : Vec Ideal S1x128x128 .f32) (i : S1x128x128.Idx) :
    k0_pay33 (F := Ideal) (k0_pay13 rowsIota colsIota) (up2 N) (k0_pay31 (up2 fun _ => msk 1) (up2 D) (up2 U)) w i = w i + up3 (fun (_ : Fin 1) => dw (dmix D U) N 1) i := by
  unfold k0_pay33 k0_pay31 k0_pay13
  simp only [dmix_eq, bcRow, vec2, casts, nt, scalar_word, words, splat2, selLow, head_eq]
  exact page_add _ _ _ _ _

/-- The third head's page. -/
theorem dw2 (w : Vec Ideal S1x128x128 .f32) (i : S1x128x128.Idx) :
    k0_pay35 (F := Ideal) (up2 fun _ => msk 2) (k0_pay13 rowsIota colsIota) (up2 N) (up2 (dmix D U)) w i = w i + up3 (fun (_ : Fin 1) => dw (dmix D U) N 2) i := by
  unfold k0_pay35 k0_pay34 k0_pay13
  simp only [bcRow, vec2, casts, nt, scalar_word, words, splat2, selLow, head_eq]
  exact page_add _ _ _ _ _

/-- The fourth head's page. -/
theorem dw3 (w : Vec Ideal S1x128x128 .f32) (i : S1x128x128.Idx) :
    k0_pay39 (F := Ideal) (k0_pay38 (F := Ideal) (up2 fun _ => msk 3) (k0_pay13 rowsIota colsIota) (up2 N) (up2 (dmix D U)) w) i = w i + up3 (fun (_ : Fin 1) => dw (dmix D U) N 3) i := by
  unfold k0_pay39 k0_pay38 k0_pay36 k0_pay13
  simp only [bcRow, vec2, casts, nt, scalar_word, words, splat2, selLow, head_eq]
  exact page_add _ _ _ _ _

/-- A chunk's addition to the gradient of the gain. -/
theorem gain_eq (w : Vec Ideal S1x256 .f32) (i : S1x256.Idx) : k0_pay40 (F := Ideal) (up2 M) (up2 N) w i = w i + up2 (fun (_ : Fin 1) k => ∑ r, N r k * M r k) i := by
  unfold k0_pay40
  simp only [lay2, shapeCast_self, vec2, colSum]
  rfl

/-- A chunk's addition to the gradient of the bias. -/
theorem shift_eq (w : Vec Ideal S1x256 .f32) (i : S1x256.Idx) : k0_pay41 (F := Ideal) (up2 N) w i = w i + up2 (fun (_ : Fin 1) k => ∑ r, N r k) i := by
  unfold k0_pay41
  simp only [lay2, shapeCast_self, colSum]
  rfl

/-- The gradient of the gate. -/
theorem dv_eq : k0_pay42 (F := Ideal) (up2 fun r _ => rstd (V r)) (up2 fun r k => xh (V r) k) (up2 N) (up2 G)
    = up2 fun r k => back (V r) (fun j => N r j * G 0 j) k := by
  unfold k0_pay42
  simp (disch := norm_num) only [rowSum, lay2, castSelf, vec2, casts, words, scalar_word, splat2, bcCol, bcRow, divf2]
  rfl

/-- The bias's gradient of each head, from the sum of the mix's gradient. -/
theorem dbs_eq : k0_pay1 (F := Ideal) (up2 fun _ => msk 0) (up2 M) = up2 (fun t _ => dbs M t 0) ∧ k0_pay2 (F := Ideal) (up2 fun _ => msk 1) (up2 M) = up2 (fun t _ => dbs M t 1)
    ∧ k0_pay3 (F := Ideal) (up2 fun _ => msk 2) (up2 M) = up2 (fun t _ => dbs M t 2) ∧ k0_pay4 (F := Ideal) (up2 fun _ => msk 3) (up2 M) = up2 (fun t _ => dbs M t 3) := by
  unfold k0_pay1 k0_pay2 k0_pay3 k0_pay4
  simp only [bcRow, vec2, rowSum, lay2, sum_msk]
  exact ⟨rfl, rfl, rfl, rfl⟩

end Cert.SguTile

end
-- ==== Proof.Lift4.lean ====
/- Arrays of chunk, row, head and lane on reals: the split of 8192 rows of 256 columns and its products. -/
module

public import proofs.«01_k».proof.Proof.Gating

@[expose] public section

noncomputable section

namespace Cert.Lift

open Idealize.ShloMosaic Cert.Gating

section

variable {a b d e n : ℕ} {φ φ₁ φ₂ : FTy}

/-- An array of four axes of reals. -/
def up4 (X : Fin a → Fin b → Fin d → Fin e → ℝ) : (⟨4, ![a, b, d, e]⟩ : Shape).Idx → EReal := fun i => ((X (i 0) (i 1) (i 2) (i 3) : ℝ) : EReal)

/-- The sum of two such arrays. -/
theorem add4 (X Y : Fin a → Fin b → Fin d → Fin e → ℝ) : addf (F := Ideal) (φ := φ) (up4 X) (up4 Y) = up4 fun i j k l => X i j k l + Y i j k l := by
  funext i
  exact (EReal.coe_add _ _).symm

/-- Heads first to chunks first. -/
theorem headsLast (X : Fin a → Fin b → Fin d → Fin e → ℝ) (h : (⟨4, ![a, b, d, e]⟩ : Shape).Transposes [1, 3, 0, 2] ⟨4, ![b, e, a, d]⟩) :
    transpose (no_index ⟨4, ![b, e, a, d]⟩) (no_index [1, 3, 0, 2]) (up4 X) h = up4 fun j l i k => X i j k l := by
  funext i
  refine (transpose_apply _ (up4 X) h i (ValueIdx.ix4 (i 2) (i 0) (i 3) (i 1)) fun c => ?_).trans rfl
  match c with | ⟨0, _⟩ => rfl | ⟨1, _⟩ => rfl | ⟨2, _⟩ => rfl | ⟨3, _⟩ => rfl

/-- Chunks first to heads first. -/
theorem headsFirst (X : Fin a → Fin b → Fin d → Fin e → ℝ) (h : (⟨4, ![a, b, d, e]⟩ : Shape).Transposes [2, 0, 3, 1] ⟨4, ![d, a, e, b]⟩) :
    transpose (no_index ⟨4, ![d, a, e, b]⟩) (no_index [2, 0, 3, 1]) (up4 X) h = up4 fun k i l j => X i j k l := by
  funext i
  refine (transpose_apply _ (up4 X) h i (ValueIdx.ix4 (i 1) (i 3) (i 0) (i 2)) fun c => ?_).trans rfl
  match c with | ⟨0, _⟩ => rfl | ⟨1, _⟩ => rfl | ⟨2, _⟩ => rfl | ⟨3, _⟩ => rfl

/-- A matrix of row and head, given a leading and a trailing axis. -/
theorem bcHead (X : Fin b → Fin d → ℝ) (h : (⟨2, ![b, d]⟩ : Shape).BroadcastsInDim ⟨4, ![1, b, d, 1]⟩ ![1, 2]) :
    broadcastInDim (no_index ⟨4, ![1, b, d, 1]⟩) (no_index ![1, 2]) h (up2 X) = up4 fun _ j k _ => X j k := by
  funext i
  rw [broadcastInDim_apply _ h (up2 X) i (ValueIdx.ix2 (i 1) (i 2)) fun ax => ?_]
  · rfl
  · match ax with
    | ⟨0, _⟩ => exact unit_axis (n := b) (i 1)
    | ⟨1, _⟩ => exact unit_axis (n := d) (i 2)

/-- The same array repeated along the leading and the trailing axis. -/
theorem bcAll (X : Fin 1 → Fin b → Fin d → Fin 1 → ℝ) (h : (⟨4, ![1, b, d, 1]⟩ : Shape).BroadcastsInDim ⟨4, ![a, b, d, e]⟩ ![0, 1, 2, 3]) :
    broadcastInDim (no_index ⟨4, ![a, b, d, e]⟩) (no_index ![0, 1, 2, 3]) h (up4 X) = up4 fun _ j k _ => X 0 j k 0 := by
  funext i
  rw [broadcastInDim_apply _ h (up4 X) i (ValueIdx.ix4 0 (i 1) (i 2) 0) fun ax => ?_]
  · rfl
  · match ax with
    | ⟨0, _⟩ => rfl
    | ⟨1, _⟩ => exact unit_axis (n := b) (i 1)
    | ⟨2, _⟩ => exact unit_axis (n := d) (i 2)
    | ⟨3, _⟩ => rfl

/-- The sum over the leading and the trailing axis. -/
theorem sumOuter (X : Fin a → Fin b → Fin d → Fin e → ℝ) (h : (⟨4, ![a, b, d, e]⟩ : Shape).ReducesTo [0, 3] ⟨2, ![b, d]⟩) (hu : 0 < (⟨0, ![]⟩ : Shape).numel) :
    Host.reduceAdd (F := Ideal) (φ := φ) (up4 X) (up0 0) h hu = up2 fun j k => ∑ i, ∑ l, X i j k l := by
  funext t
  have fib : ∀ i : (⟨4, ![a, b, d, e]⟩ : Shape).Idx, h.drop i = t ↔ ∃ k : Fin a × Fin e, ValueIdx.ix4 k.1 (t 0) (t 1) k.2 = i := fun i => by
    constructor
    · intro q
      refine ⟨(i 0, i 3), ?_⟩
      funext c
      apply Fin.ext
      match c with
      | ⟨0, _⟩ => rfl
      | ⟨1, _⟩ => exact (congrArg Fin.val (congrFun q 0)).symm
      | ⟨2, _⟩ => exact (congrArg Fin.val (congrFun q 1)).symm
      | ⟨3, _⟩ => rfl
    · rintro ⟨k, rfl⟩
      funext c
      apply Fin.ext
      match c with
      | ⟨0, _⟩ => rfl
      | ⟨1, _⟩ => rfl
  rw [ValueIdx.hostReduceAdd_apply]
  unfold Ideal.hostReduceAdd
  rw [@Finset.sum_filter_eq_sum_of_fiber _ (Fin a × Fin e) EReal _ _ _ _ (fun i => h.drop i = t) _ (fun k => ValueIdx.ix4 k.1 (t 0) (t 1) k.2)
    (fun _ _ q => Prod.ext (congrFun q 0) (congrFun q 3)) fib (up4 X)]
  show ((0 : ℝ) : EReal) + ∑ k : Fin a × Fin e, ((X k.1 (t 0) (t 1) k.2 : ℝ) : EReal) = ((∑ i, ∑ l, X i (t 0) (t 1) l : ℝ) : EReal)
  rw [coe_sum, EReal.coe_zero, zero_add]
  exact congrArg _ (Fintype.sum_prod_type' fun i l => X i (t 0) (t 1) l)

/-- A matrix of row and head recast with a leading and a trailing axis of one. -/
theorem castHead (X : Fin b → Fin d → ℝ) (h : (⟨2, ![b, d]⟩ : Shape).ShapeCasts ⟨4, ![1, b, d, 1]⟩) :
    shapeCast (no_index ⟨4, ![1, b, d, 1]⟩) (up2 X) h = up4 fun _ j k _ => X j k := by
  funext i
  refine (shapeCast_apply (up2 X) h i (ValueIdx.ix2 (i 1) (i 2)) ?_).trans rfl
  refine (Shape.rowMajor_val_two _).trans (Eq.trans ?_ (Shape.rowMajor_val_four _).symm)
  have h0 : (i 0).val = 0 := Nat.lt_one_iff.mp (i 0).isLt
  have h3 : (i 3).val = 0 := Nat.lt_one_iff.mp (i 3).isLt
  show (i 1).val * d + (i 2).val = (((i 0).val * b + (i 1).val) * d + (i 2).val) * 1 + (i 3).val
  rw [h0, h3, Nat.zero_mul, Nat.zero_add, Nat.mul_one, Nat.add_zero]

end

/-- A row of the array from its chunk and its place in it. -/
def rowOf (n : Fin 64) (t : Fin 128) : Fin 8192 := ⟨n.val * 128 + t.val, by omega⟩
/-- The chunk of a row. -/
def chunk (r : Fin 8192) : Fin 64 := ⟨r.val / 128, by omega⟩
/-- The place of a row in its chunk. -/
def pos (r : Fin 8192) : Fin 128 := ⟨r.val % 128, by omega⟩
/-- The lane of a column in its head. -/
def lane (k : Fin 256) : Fin 64 := ⟨k.val % 64, by omega⟩

theorem rowOf_pos (r : Fin 8192) : rowOf (chunk r) (pos r) = r := Fin.ext (Nat.div_add_mod' r.val 128)
theorem colOf_lane (k : Fin 256) : colOf (grp k) (lane k) = k := Fin.ext (Nat.div_add_mod' k.val 64)
theorem chunk_rowOf (n : Fin 64) (t : Fin 128) : chunk (rowOf n t) = n := Fin.ext (by show (n.val * 128 + t.val) / 128 = n.val; omega)
theorem pos_rowOf (n : Fin 64) (t : Fin 128) : pos (rowOf n t) = t := Fin.ext (by show (n.val * 128 + t.val) % 128 = t.val; omega)

/-- Rows and columns split into chunks, rows, heads and lanes. -/
theorem split4 (X : Fin 8192 → Fin 256 → ℝ) (h : (⟨2, ![8192, 256]⟩ : Shape).ShapeCasts ⟨4, ![64, 128, 4, 64]⟩) :
    shapeCast (no_index ⟨4, ![64, 128, 4, 64]⟩) (up2 X) h = up4 fun n t g c => X (rowOf n t) (colOf g c) := by
  funext i
  refine (shapeCast_apply (up2 X) h i (ValueIdx.ix2 (rowOf (i 0) (i 1)) (colOf (i 2) (i 3))) ?_).trans rfl
  refine (Shape.rowMajor_val_two _).trans (Eq.trans ?_ (Shape.rowMajor_val_four _).symm)
  show ((i 0).val * 128 + (i 1).val) * 256 + ((i 2).val * 64 + (i 3).val) = (((i 0).val * 128 + (i 1).val) * 4 + (i 2).val) * 64 + (i 3).val
  omega

/-- And joined again. -/
theorem join4 (X : Fin 64 → Fin 128 → Fin 4 → Fin 64 → ℝ) (h : (⟨4, ![64, 128, 4, 64]⟩ : Shape).ShapeCasts ⟨2, ![8192, 256]⟩) :
    shapeCast (no_index ⟨2, ![8192, 256]⟩) (up4 X) h = up2 fun r k => X (chunk r) (pos r) (grp k) (lane k) := by
  funext i
  refine (shapeCast_apply (up4 X) h i (ValueIdx.ix4 (chunk (i 0)) (pos (i 0)) (grp (i 1)) (lane (i 1))) ?_).trans rfl
  refine (Shape.rowMajor_val_four _).trans (Eq.trans ?_ (Shape.rowMajor_val_two _).symm)
  show (((i 0).val / 128 * 128 + (i 0).val % 128) * 4 + (i 1).val / 64) * 64 + (i 1).val % 64 = (i 0).val * 256 + (i 1).val
  omega

end Cert.Lift

end
-- ==== Proof.SguRef.lean ====
/- The values of the spatial-gating gradient reference, one group of lines at a time, on reals. -/
module

public import proofs.«01_k».proof.Proof.Lift4
public import proofs.«01_k».proof.Proof.Gen.SguRefIdeal.Read

@[expose] public section

set_option maxRecDepth 16384

noncomputable section

namespace Cert.SguRef

open Idealize.ShloMosaic Cert.Lift Cert.LayerNorm Cert.Gating Cert.SguRefIdeal Cert.SguRefIdeal.Gen Cert.SguRefIdeal.Read

/-- One chunk of an array of rows. -/
abbrev ch (X : Fin 8192 → Fin 256 → ℝ) (n : Fin 64) : Fin 128 → Fin 256 → ℝ := fun t => X (rowOf n t)

variable (D : Fin 8192 → Fin 256 → ℝ) (P : Fin 8192 → Fin 2560 → ℝ) (G B : Fin 256 → ℝ) (W : Fin 4 → Fin 128 → Fin 128 → ℝ) (S : Fin 4 → Fin 128 → ℝ)

/-- The gated half of the projection. -/
def uu (r : Fin 8192) (k : Fin 256) : ℝ := P r ⟨1536 + k.val, by omega⟩
/-- The gate's half of the projection. -/
def vv (r : Fin 8192) (k : Fin 256) : ℝ := P r ⟨1792 + k.val, by omega⟩
/-- The gradient of the mix, by rows. -/
def mm (r : Fin 8192) (k : Fin 256) : ℝ := D r k * uu P r k
/-- The normalised gate, by rows. -/
def nn (r : Fin 8192) (k : Fin 256) : ℝ := aff (vv P r) G B k
/-- The gradient of the gated half, by rows. -/
def duRow (r : Fin 8192) : Fin 256 → ℝ := du W S (ch D (chunk r)) (ch (vv P) (chunk r)) G B (pos r)
/-- The gradient of the normalised gate, by rows. -/
def dnRow (r : Fin 8192) : Fin 256 → ℝ := dvn W (dmix (ch D (chunk r)) (ch (uu P) (chunk r))) (pos r)
/-- The gradient of the gate, by rows. -/
def dvRow (r : Fin 8192) : Fin 256 → ℝ := back (vv P r) fun j => dnRow D P W r j * G j
/-- The gradient of the weights. -/
def dwAll (g : Fin 4) (t s : Fin 128) : ℝ := ∑ n, dw (dmix (ch D n) (ch (uu P) n)) (vn (ch (vv P) n) G B) g t s
/-- The gradient of the mix's bias. -/
def dbsAll (t : Fin 128) (g : Fin 4) : ℝ := ∑ n, dbs (dmix (ch D n) (ch (uu P) n)) t g

/-- The two halves. -/
theorem halves : val_main_v6 (F := Ideal) (up2 P) = up2 (uu P) ∧ val_main_v7 (F := Ideal) (up2 P) = up2 (vv P) := by
  unfold val_main_v6 val_main_v7
  simp only [cut2]
  refine ⟨congrArg up2 (funext fun r => funext fun k => ?_), congrArg up2 (funext fun r => funext fun k => ?_)⟩
  · exact congrArg (P · _) (Fin.ext (Nat.zero_add _))
  · exact congrArg (P · _) (Fin.ext (Nat.zero_add _))

/-- The gate rows' means. -/
theorem mean_eq : val_main_v13 (F := Ideal) (up2 P) = up2 fun r _ => mean (vv P r) := by
  unfold val_main_v13 val_main_v12 val_main_v11 val_main_v10 val_main_cst val_main_cst_0
  simp (disch := norm_num) only [halves, consts, hostRowSum, bcVecRows, bcScalar, hostDiv2]
  rfl

/-- The centred rows, both times the program forms them. -/
theorem cen_eq : val_main_v15 (F := Ideal) (up2 P) = up2 (fun r k => cen (vv P r) k) ∧ val_main_v24 (F := Ideal) (up2 P) = up2 fun r k => cen (vv P r) k := by
  unfold val_main_v15 val_main_v14 val_main_v24 val_main_v23
  simp only [halves, mean_eq, hostBcCol, vec2, and_self]
  rfl

/-- The variances with the stabiliser. -/
theorem var_eq : val_main_v26 (F := Ideal) (up2 P) = up2 fun r _ => var (vv P r) := by
  unfold val_main_v26 val_main_v25 val_main_v22 val_main_v21 val_main_v20 val_main_v19 val_main_v16 val_main_cst_2 val_main_cst_3 val_main_cst_4
  simp (disch := norm_num) only [cen_eq, consts, vec2, hostRowSum, bcVecRows, bcScalar, hostDiv2]
  rfl

/-- The reciprocal standard deviations. -/
theorem rstd_eq : val_main_v27 (F := Ideal) (up2 P) = up2 fun r _ => rstd (vv P r) := by
  unfold val_main_v27
  rw [var_eq]
  exact hostRsqrt2 _ fun r _ => var_pos (vv P r)

/-- The normalised rows. -/
theorem xh_eq : val_main_v32 (F := Ideal) (up2 P) = up2 fun r k => xh (vv P r) k := by
  unfold val_main_v32 val_main_v31
  simp only [cen_eq, rstd_eq, hostBcCol, vec2]
  rfl

/-- The normalised, scaled and shifted rows, split into chunks and heads. -/
theorem nn_eq : val_main_v39 (F := Ideal) (up2 P) (up1 G) (up1 B) = up4 fun n t g c => nn P G B (rowOf n t) (colOf g c) := by
  unfold val_main_v39 val_main_v38 val_main_v37 val_main_v36 val_main_v35 val_main_v34 val_main_v33
  simp only [xh_eq, bcVecCols, hostBcRow, vec2, split4]
  rfl

/-- The lower triangle of each page of the weights, as the program's mask selects it. -/
theorem selPages (Z : Fin 4 → Fin 128 → Fin 128 → ℝ) :
    select (val_main_v44_1 (F := Ideal)) (up3 Z) (up3 fun _ _ _ => 0) = up3 fun g => low (Z g) := by
  funext i
  have e1 : (i 1).val < 128 := (i 1).isLt
  have e2 : (i 2).val < 128 := (i 2).isLt
  have h : val_main_v44_1 (F := Ideal) i = BitVec.ofBool (decide ((i 2).val ≤ (i 1).val)) := by
    have h41 : val_main_v41 (F := Ideal) (ValueIdx.ix2 (i 1) (i 2)) = BitVec.ofBool (decide ((i 2).val ≤ (i 1).val)) := by
      have hc : val_main_call0_v4 (F := Ideal) (ValueIdx.ix2 (i 1) (i 2)) = BitVec.ofBool (decide ((i 2).val ≤ (i 1).val)) := by
        show IntOp.cmpi .sge (BitVec.ofNat 32 (i 1).val + 0#32) (BitVec.ofNat 32 (i 2).val) = _
        rw [BitVec.add_zero, WordCmp.cmpi_sge_ofNat (by omega) (by omega)]
      show (if val_main_call0_v4 (F := Ideal) (ValueIdx.ix2 (i 1) (i 2)) = 1 then 1#1 else 0#1) = _
      rw [hc]
      by_cases hle : (i 2).val ≤ (i 1).val
      · simp only [hle, decide_true]
        rfl
      · simp only [hle, decide_false]
        rfl
    rw [← h41]
    unfold val_main_v44_1 val_main_v42
    refine (broadcastInDim_apply _ bcast_S1x128x128_S4x128x128_0_1_2 _ (i : S4x128x128.Idx) (ValueIdx.ix3 (0 : Fin 1) (i 1) (i 2)) fun ax => ?_).trans
      (broadcastInDim_apply _ bcast_S128x128_S1x128x128_1_2 _ (ValueIdx.ix3 (0 : Fin 1) (i 1) (i 2)) (ValueIdx.ix2 (i 1) (i 2)) fun ax => ?_)
    · match ax with | ⟨0, _⟩ => rfl | ⟨1, _⟩ => rfl | ⟨2, _⟩ => rfl
    · match ax with | ⟨0, _⟩ => rfl | ⟨1, _⟩ => rfl
  show (if val_main_v44_1 (F := Ideal) i = 1 then up3 Z i else up3 (fun _ _ _ => 0) i) = up3 (fun g => low (Z g)) i
  rw [h]
  show _ = (((if (i 2).val ≤ (i 1).val then Z (i 0) (i 1) (i 2) else 0 : ℝ)) : EReal)
  by_cases hc : (i 2).val ≤ (i 1).val
  · simp only [hc, decide_true]
    rfl
  · simp only [hc, decide_false]
    rfl

theorem zero43 : val_main_v43 (F := Ideal) = up3 fun _ _ _ => 0 := by
  unfold val_main_v43 val_main_cst_6
  rw [consts.1]
  rfl

theorem zero2 : val_main_call2_v0 (F := Ideal) = up3 fun _ _ _ => 0 := by
  unfold val_main_call2_v0 val_main_call2_cst
  rw [consts.1]
  rfl

/-- The causal weights. -/
theorem low_eq : val_main_v44_0 (F := Ideal) (up3 W) = up3 fun g => low (W g) := by
  unfold val_main_v44_0
  rw [zero43, selPages]

/-- The product that mixes each chunk's rows, head by head. -/
theorem dotMix (X : Fin 64 → Fin 128 → Fin 4 → Fin 64 → ℝ) (Z : Fin 4 → Fin 128 → Fin 128 → ℝ) :
    Host.dotGeneral (F := Ideal) (φ₁ := .f32) (φ₂ := .f32) dot_S64x128x4x64_S4x128x128_S4x64x64x128_1_2_03_1_2_0 none (up4 X) (up3 Z)
      = up4 fun g n c t => ∑ s, X n s g c * Z g t s := by
  refine (matmul_zero_eq_dotGeneral _ none _ _).symm.trans (funext fun j => ?_)
  refine (Ideal.matmul_apply₁_of (a := 1) (K := 128) _ rfl rfl (up4 X) (up3 Z) _ j (fun l : Fin 128 => ValueIdx.ix4 (j 1) l (j 0) (j 2)) (fun l : Fin 128 => ValueIdx.ix3 (j 0) (j 3) l) (fun l => ?_) fun l => ?_).trans ?_
  · funext ax
    match ax with | ⟨0, _⟩ => rfl | ⟨1, _⟩ => rfl | ⟨2, _⟩ => rfl | ⟨3, _⟩ => rfl
  · funext ax
    match ax with | ⟨0, _⟩ => rfl | ⟨1, _⟩ => rfl | ⟨2, _⟩ => rfl
  · rw [show (constant (F := Ideal) S4x64x64x128 .f32 0x00000000#32) j = ((0 : ℝ) : EReal) from words.1, EReal.coe_zero, zero_add]
    exact coe_sum _ fun l => X (j 1) l (j 0) (j 2) * Z (j 0) (j 3) l

/-- The product of the weights' gradient, over chunks and lanes. -/
theorem dotWeights (X : Fin 4 → Fin 64 → Fin 64 → Fin 128 → ℝ) (Y : Fin 64 → Fin 128 → Fin 4 → Fin 64 → ℝ) :
    Host.dotGeneral (F := Ideal) (φ₁ := .f32) (φ₂ := .f32) dot_S4x64x64x128_S64x128x4x64_S4x128x128_12_03_3_1_0_2 none (up4 X) (up4 Y)
      = up3 fun g t s => ∑ n, ∑ c, X g n c t * Y n s g c := by
  refine (matmul_zero_eq_dotGeneral _ none _ _).symm.trans (funext fun j => ?_)
  refine (Ideal.matmul_apply₂_of (a := 1) (b := 2) (K₁ := 64) (K₂ := 64) _ rfl rfl rfl (up4 X) (up4 Y) _ j (fun n c : Fin 64 => ValueIdx.ix4 (j 0) n c (j 1)) (fun n c : Fin 64 => ValueIdx.ix4 n (j 2) (j 0) c) (fun n c => ?_) fun n c => ?_).trans ?_
  · funext ax
    match ax with | ⟨0, _⟩ => rfl | ⟨1, _⟩ => rfl | ⟨2, _⟩ => rfl | ⟨3, _⟩ => rfl
  · funext ax
    match ax with | ⟨0, _⟩ => rfl | ⟨1, _⟩ => rfl | ⟨2, _⟩ => rfl | ⟨3, _⟩ => rfl
  · rw [show (constant (F := Ideal) S4x128x128 .f32 0x00000000#32) j = ((0 : ℝ) : EReal) from words.1, EReal.coe_zero, zero_add]
    refine Eq.trans (Finset.sum_congr rfl fun n _ => coe_sum _ fun c => X (j 0) n c (j 1) * Y n (j 2) (j 0) c) (coe_sum _ _)

/-- The product that carries the cotangent back through the mix. -/
theorem dotBack (X : Fin 4 → Fin 64 → Fin 64 → Fin 128 → ℝ) (Z : Fin 4 → Fin 128 → Fin 128 → ℝ) :
    Host.dotGeneral (F := Ideal) (φ₁ := .f32) (φ₂ := .f32) dot_S4x64x64x128_S4x128x128_S4x64x64x128_3_1_12_2_0_0 none (up4 X) (up3 Z)
      = up4 fun g n c s => ∑ t, X g n c t * Z g t s := by
  refine (matmul_zero_eq_dotGeneral _ none _ _).symm.trans (funext fun j => ?_)
  refine (Ideal.matmul_apply₁_of (a := 3) (K := 128) _ rfl rfl (up4 X) (up3 Z) _ j (fun l : Fin 128 => ValueIdx.ix4 (j 0) (j 1) (j 2) l) (fun l : Fin 128 => ValueIdx.ix3 (j 0) l (j 3)) (fun l => ?_) fun l => ?_).trans ?_
  · funext ax
    match ax with | ⟨0, _⟩ => rfl | ⟨1, _⟩ => rfl | ⟨2, _⟩ => rfl | ⟨3, _⟩ => rfl
  · funext ax
    match ax with | ⟨0, _⟩ => rfl | ⟨1, _⟩ => rfl | ⟨2, _⟩ => rfl
  · rw [show (constant (F := Ideal) S4x64x64x128 .f32 0x00000000#32) j = ((0 : ℝ) : EReal) from words.1, EReal.coe_zero, zero_add]
    exact coe_sum _ fun l => X (j 0) (j 1) (j 2) l * Z (j 0) l (j 3)

/-- The gradient of the gated half. -/
theorem du_eq : val_main_v54 (F := Ideal) (up2 D) (up2 P) (up1 G) (up1 B) (up3 W) (up2 S) = up2 (duRow D P G B W S) := by
  unfold val_main_v54 val_main_v51 val_main_v50 val_main_v49 val_main_v48 val_main_v47 val_main_v46 val_main_v45
  simp only [nn_eq, low_eq, dotMix, headsLast, transp, bcHead, bcAll, add4, join4, vec2]
  refine congrArg up2 (funext fun r => funext fun k => ?_)
  unfold duRow du mixed
  simp only [colOf_lane, rowOf_pos]
  show _ = D (rowOf (chunk r) (pos r)) k * _
  rw [rowOf_pos]
  refine congrArg (fun z => D r k * (z + S (grp k) (pos r))) (Finset.sum_congr rfl fun s _ => ?_)
  exact mul_comm _ _

/-- The cotangent of the mix, split. -/
theorem mm_eq : val_main_v55 (F := Ideal) (up2 D) (up2 P) = up4 fun n t g c => mm D P (rowOf n t) (colOf g c) := by
  unfold val_main_v55 val_main_v53
  simp only [halves, vec2, split4]
  refine congrArg up4 (funext fun n => funext fun t => funext fun g => funext fun c => ?_)
  exact mul_comm _ _

/-- The gradient of the mix's bias. -/
theorem dbs_eq : val_main_v101 (F := Ideal) (up2 D) (up2 P) = up2 (dbsAll D P) := by
  unfold val_main_v101 val_main_v59 val_main_v58 val_main_v57 val_main_v56 val_main_cst_7 val_main_cst_8
  simp only [mm_eq, consts, sumOuter, castHead, transp, Fin.sum_univ_one]
  rfl

/-- The gradient of the weights. -/
theorem dw_eq : val_main_v64 (F := Ideal) (up2 D) (up2 P) (up1 G) (up1 B) = up3 (dwAll D P G B) := by
  unfold val_main_v64 val_main_v61 val_main_v60
  simp only [mm_eq, nn_eq, headsFirst, dotWeights, zero2, selPages]
  refine congrArg up3 (funext fun g => funext fun t => funext fun s => ?_)
  unfold dwAll dw low
  split
  · rfl
  · exact Finset.sum_const_zero.symm

/-- The gradient of the normalised gate. -/
theorem dn_eq : val_main_v65 (F := Ideal) (up2 D) (up2 P) (up3 W) = up2 (dnRow D P W) := by
  unfold val_main_v65 val_main_v63 val_main_v62 val_main_v60
  simp only [mm_eq, low_eq, headsFirst, dotBack, headsLast, join4]
  refine congrArg up2 (funext fun r => funext fun k => ?_)
  simp only [colOf_lane]
  exact Finset.sum_congr rfl fun t _ => mul_comm _ _

/-- The gradient of the bias. -/
theorem gb_eq : val_main_v103 (F := Ideal) (up2 D) (up2 P) (up3 W) = up2 fun _ k => ∑ r, dnRow D P W r k := by
  unfold val_main_v103 val_main_v68 val_main_v67 val_main_v66 val_main_cst_9 val_main_cst_10
  simp only [dn_eq, consts, hostColSum, lay2, bcVecCols, Fin.sum_univ_one]

/-- The gradient of the gain. -/
theorem gg_eq : val_main_v102 (F := Ideal) (up2 D) (up2 P) (up3 W) = up2 fun _ k => ∑ r, xh (vv P r) k * dnRow D P W r k := by
  unfold val_main_v102 val_main_v74 val_main_v71 val_main_v70 val_main_v69 val_main_cst_11 val_main_cst_12
  simp only [dn_eq, xh_eq, consts, hostColSum, lay2, bcVecCols, vec2, Fin.sum_univ_one]

/-- The cotangent of the normalised rows. -/
theorem e_eq : val_main_v73 (F := Ideal) (up2 D) (up2 P) (up1 G) (up3 W) = up2 fun r k => dnRow D P W r k * G k := by
  unfold val_main_v73 val_main_v72 val_main_v33
  simp only [dn_eq, bcVecCols, hostBcRow, vec2]

/-- Its part through the quotient. -/
theorem quot_eq : val_main_v79 (F := Ideal) (up2 D) (up2 P) (up1 G) (up3 W) = up2 fun r k => dnRow D P W r k * G k * rstd (vv P r) := by
  unfold val_main_v79 val_main_v78
  simp only [e_eq, rstd_eq, hostBcCol, vec2]

/-- Its part through the variance. -/
theorem vpart_eq : val_main_v88 (F := Ideal) (up2 D) (up2 P) (up1 G) (up3 W)
    = up2 fun r k => (∑ j, cen (vv P r) j * (dnRow D P W r j * G j)) * (-(1 / 2) * (rstd (vv P r) / var (vv P r))) / 256 * (2 * cen (vv P r) k) := by
  have h28 : val_main_v28 (F := Ideal) (up2 P) = up2 fun r _ => rstd (vv P r) / var (vv P r) := by
    unfold val_main_v28
    rw [rstd_eq, var_eq]
    exact hostDiv2 _ _ fun r _ => (var_pos (vv P r)).ne'
  unfold val_main_v88 val_main_v87 val_main_v86 val_main_v85 val_main_v84 val_main_v80 val_main_v77 val_main_v76 val_main_v75 val_main_v30 val_main_v29
    val_main_v18 val_main_v17 val_main_cst_1 val_main_cst_5 val_main_cst_13 val_main_cst_15 val_main_cst_16
  simp (disch := norm_num) only [e_eq, cen_eq, h28, consts, bcScalar, bcVecRows, hostRowSum, lay2, vec2, hostDiv2, Fin.sum_univ_one]

/-- The gradient of the gate. -/
theorem dv_eq : val_main_v98 (F := Ideal) (up2 D) (up2 P) (up1 G) (up3 W) = up2 (dvRow D P G W) := by
  unfold val_main_v98 val_main_v97 val_main_v96 val_main_v95 val_main_v94 val_main_v93 val_main_v92 val_main_v91 val_main_v90 val_main_v89
    val_main_v83 val_main_v82 val_main_v81 val_main_cst_14 val_main_cst_17 val_main_cst_18 val_main_cst_19
  simp (disch := norm_num) only [quot_eq, vpart_eq, consts, bcScalar, bcVecRows, hostRowSum, lay2, vec2, host2, hostDiv2, Fin.sum_univ_one]
  exact congrArg up2 (funext fun r => funext fun k => back_eq (vv P r) (fun j => dnRow D P W r j * G j) k _ rfl)

/-- Both halves' gradients side by side. -/
theorem d_eq : val_main_v100 (F := Ideal) (up2 D) (up2 P) (up1 G) (up1 B) (up3 W) (up2 S) = up2 (pair (duRow D P G B W S) (dvRow D P G W) rfl) := by
  unfold val_main_v100 val_main_v99
  rw [du_eq, dv_eq]
  exact pairCat (n := 512) (duRow D P G B W S) (dvRow D P G W) concatenates_S8192x256_S8192x256_S8192x512_d1 rfl

end Cert.SguRef

end
-- ==== Proof.SguFinal.lean ====
/- The arrays the spatial-gating gradient kernel leaves, on reals. -/
module

public import proofs.«01_k».proof.Proof.SguKernel
public import proofs.«01_k».proof.Proof.SguRef
public import proofs.«01_k».proof.Proof.Lift3
public import proofs.«01_k».proof.Proof.LiftLoad
public import proofs.«01_k».proof.Proof.Gen.SguIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.SguFinal

open Idealize.ShloMosaic Idealize.ShloMosaic.TcCoe Idealize.SL.Sem Cert.Lift Cert.SguIdeal Cert.SguIdeal.Gen
open Idealize.ShloMosaic.Pipeline (Dat)
open Cert.LayerNorm Cert.Gating
open Cert.SguTile (rowsIota colsIota)
open Cert.SguRef (ch uu vv duRow dvRow dnRow dwAll dbsAll)

variable (m : (ℓ : Loc nD τ sig) → Buf (Elt Ideal) ℓ) (c : Dev nD)
variable (D : Fin 8192 → Fin 256 → ℝ) (P : Fin 8192 → Fin 2560 → ℝ) (G B : Fin 256 → ℝ) (W : Fin 4 → Fin 128 → Fin 128 → ℝ) (S : Fin 4 → Fin 128 → ℝ)

/-- The memory holds the reals `D`, `P`, `G`, `B`, `W`, `S` in the arguments. -/
structure Holds : Prop where
  h0 : m ((c : Thread nD τ).loc main_arg0) = up2 D
  h1 : m ((c : Thread nD τ).loc main_arg1) = up2 P
  h2 : m ((c : Thread nD τ).loc main_arg2) = up1 G
  h3 : m ((c : Thread nD τ).loc main_arg3) = up1 B
  h4 : m ((c : Thread nD τ).loc main_arg4) = up3 W
  h5 : m ((c : Thread nD τ).loc main_arg5) = up2 S

/-- Which block each window stages at a point. -/
theorem idx : ∀ t : Fin cfg0.N, (win0_0.index t = ![t.val, 0] ∧ win0_1.index t = ![t.val, 3] ∧ win0_2.index t = ![t.val, 4] ∧ win0_3.index t = ![0, 0] ∧ win0_4.index t = ![0, 0] ∧ win0_5.index t = ![0, 0, 0])
    ∧ win0_6.index t = ![0, 0] ∧ win0_7.index t = ![t.val, 0] ∧ win0_8.index t = ![0, 0, 0] ∧ win0_9.index t = ![0, 0] ∧ win0_10.index t = ![0, 0] ∧ win0_11.index t = ![0, 0] :=
  (by decide +kernel : ∀ t : Fin grid0.N, (win0_0.index t = ![t.val, 0] ∧ win0_1.index t = ![t.val, 3] ∧ win0_2.index t = ![t.val, 4] ∧ win0_3.index t = ![0, 0] ∧ win0_4.index t = ![0, 0] ∧ win0_5.index t = ![0, 0, 0])
    ∧ win0_6.index t = ![0, 0] ∧ win0_7.index t = ![t.val, 0] ∧ win0_8.index t = ![0, 0, 0] ∧ win0_9.index t = ![0, 0] ∧ win0_10.index t = ![0, 0] ∧ win0_11.index t = ![0, 0])

/-- Row `r` of point `t`'s tile. -/
def row (t : Fin cfg0.N) (r : Fin 512) : Fin 8192 := ⟨t.val * 512 + r.val, by have h := t.isLt; have := r.isLt; have h2 : cfg0.N = 16 := N_0; omega⟩
/-- Chunk `q` of point `t`'s tile. -/
def cn (t : Fin cfg0.N) (q : Fin 4) : Fin 64 := ⟨t.val * 4 + q.val, by have h := t.isLt; have := q.isLt; have h2 : cfg0.N = 16 := N_0; omega⟩

/-- A tile's rows from a chunk's first row on are the chunk. -/
theorem row_cn (X : Fin 8192 → Fin 256 → ℝ) (t : Fin cfg0.N) (q : Fin 4) (p : ℕ) (hp : p = q.val * 128) (h : ∀ i : Fin 128, p + i.val < 512) (h' : ∀ j : Fin 256, 0 + j.val < 256) :
    (up2 fun (i : Fin 128) (j : Fin 256) => X (row t ⟨p + i.val, h i⟩) ⟨0 + j.val, h' j⟩) = up2 (ch X (cn t q)) := by
  refine congrArg up2 (funext fun i => funext fun j => congrArg₂ X (Fin.ext ?_) (Fin.ext (Nat.zero_add _)))
  show t.val * 512 + (p + i.val) = (t.val * 4 + q.val) * 128 + i.val
  omega

section

variable {m c D P G B W S} (H : Holds m c D P G B W S)
include H

/-- The halves of the projection the host packs. -/
theorem hostHalves (r : Fin 8192) (k : Fin 256) :
    V m c main_v7 (ValueIdx.ix2 r (⟨768 + k.val, by omega⟩ : Fin 1792)) = ((uu P r k : ℝ) : EReal) ∧ V m c main_v7 (ValueIdx.ix2 r (⟨1024 + k.val, by omega⟩ : Fin 1792)) = ((vv P r k : ℝ) : EReal) := by
  let x := m ((c : Thread nD τ).loc main_arg1)
  let ps : List ((s : Shape) × (s.Idx → EReal)) :=
    [⟨S8192x256, extractStridedSlice S8192x256 ![0, 0] x slices_S8192x2560_S8192x256_0_0⟩, ⟨S8192x256, extractStridedSlice S8192x256 ![0, 256] x slices_S8192x2560_S8192x256_0_256⟩,
      ⟨S8192x256, extractStridedSlice S8192x256 ![0, 512] x slices_S8192x2560_S8192x256_0_512⟩, ⟨S8192x256, extractStridedSlice S8192x256 ![0, 1536] x slices_S8192x2560_S8192x256_0_1536⟩,
      ⟨S8192x256, extractStridedSlice S8192x256 ![0, 1792] x slices_S8192x2560_S8192x256_0_1792⟩, ⟨S8192x256, extractStridedSlice S8192x256 ![0, 2048] x slices_S8192x2560_S8192x256_0_2048⟩,
      ⟨S8192x256, extractStridedSlice S8192x256 ![0, 2304] x slices_S8192x2560_S8192x256_0_2304⟩]
  have e : V m c main_v7 = concatenate S8192x1792 1 ps concatenates_S8192x256_S8192x256_S8192x256_S8192x256_S8192x256_S8192x256_S8192x256_S8192x1792_d1 := by
    simp only [V, hostOps0, List.flatten_cons, List.flatten_nil, List.append_nil, List.cons_append, List.nil_append]
    after_results_simp
    rfl
  have hx : x = up2 P := H.h1
  rw [e]
  constructor
  · refine (concatenate_apply_piece (t := S8192x1792) (1 : Fin 2) ps _ _ 3 (by simp [ps]) S8192x256 (extractStridedSlice S8192x256 ![0, 1536] x slices_S8192x2560_S8192x256_0_1536) rfl rfl 768 rfl
      (ValueIdx.ix2 r k) (fun b hb => ?_) rfl).trans ?_
    · match b with
      | ⟨0, _⟩ => rfl
      | ⟨1, _⟩ => exact absurd rfl hb
    · rw [hx]
      refine (congrFun (cut2 P 0 1536 _) _).trans ?_
      exact congrArg (fun q => ((P q ⟨1536 + k.val, by omega⟩ : ℝ) : EReal)) (Fin.ext (Nat.zero_add _))
  · refine (concatenate_apply_piece (t := S8192x1792) (1 : Fin 2) ps _ _ 4 (by simp [ps]) S8192x256 (extractStridedSlice S8192x256 ![0, 1792] x slices_S8192x2560_S8192x256_0_1792) rfl rfl 1024 rfl
      (ValueIdx.ix2 r k) (fun b hb => ?_) rfl).trans ?_
    · match b with
      | ⟨0, _⟩ => rfl
      | ⟨1, _⟩ => exact absurd rfl hb
    · rw [hx]
      refine (congrFun (cut2 P 0 1792 _) _).trans ?_
      exact congrArg (fun q => ((P q ⟨1792 + k.val, by omega⟩ : ℝ) : EReal)) (Fin.ext (Nat.zero_add _))

theorem blk0 (t : Fin cfg0.N) : iblk m c 0 t = up2 fun r k => D (row t r) k := by
  funext y
  refine Eq.trans (b := m ((c : Thread nD τ).loc main_arg0) (ValueIdx.ix2 (row t (y 0)) (y 1))) ?_ (congrFun H.h0 _)
  blk_point [iblk, V, idx t, row]

theorem blk1 (t : Fin cfg0.N) : iblk m c 1 t = up2 fun r k => uu P (row t r) k := by
  funext y
  have hy : (y 1).val < 256 := (y 1).isLt
  refine Eq.trans (b := V m c main_v7 (ValueIdx.ix2 (row t (y 0)) (⟨768 + (y 1).val, by omega⟩ : Fin 1792))) ?_ (hostHalves H _ _).1
  blk_ext [iblk, idx t, row]

theorem blk2 (t : Fin cfg0.N) : iblk m c 2 t = up2 fun r k => vv P (row t r) k := by
  funext y
  have hy : (y 1).val < 256 := (y 1).isLt
  refine Eq.trans (b := V m c main_v7 (ValueIdx.ix2 (row t (y 0)) (⟨1024 + (y 1).val, by omega⟩ : Fin 1792))) ?_ (hostHalves H _ _).2
  blk_ext [iblk, idx t, row]

theorem blk3 (t : Fin cfg0.N) : iblk m c 3 t = up2 fun _ k => G k := by
  funext y
  refine Eq.trans (b := m ((c : Thread nD τ).loc main_arg2) (ValueIdx.ix1 (y 1))) ?_ (congrFun H.h2 _)
  blk_point [iblk, V, idx t]

theorem blk4 (t : Fin cfg0.N) : iblk m c 4 t = up2 fun _ k => B k := by
  funext y
  refine Eq.trans (b := m ((c : Thread nD τ).loc main_arg3) (ValueIdx.ix1 (y 1))) ?_ (congrFun H.h3 _)
  blk_point [iblk, V, idx t]

theorem blk5 (t : Fin cfg0.N) : iblk m c 5 t = up3 W := by
  funext y
  refine Eq.trans (b := m ((c : Thread nD τ).loc main_arg4) (ValueIdx.ix3 (y 0) (y 1) (y 2))) ?_ (congrFun H.h4 _)
  blk_point [iblk, V, idx t]

theorem blk6 (t : Fin cfg0.N) : iblk m c 6 t = up2 fun t g => S g t := by
  funext y
  refine Eq.trans (b := m ((c : Thread nD τ).loc main_arg5) (ValueIdx.ix2 (y 1) (y 0))) ?_ (congrFun H.h5 _)
  blk_point [iblk, V, idx t]

/-- The four chunks of a tile's cotangent, of its gated half and of its gate. -/
theorem loads (t : Fin cfg0.N) :
    (View.ld (iblk m c 0 t) (Rect.unit ![0, 0] ![128, 256] inb_S512x256_S128x256_0_0) = up2 (ch D (cn t 0))
      ∧ View.ld (iblk m c 0 t) (Rect.unit ![128, 0] ![128, 256] inb_S512x256_S128x256_128_0) = up2 (ch D (cn t 1))
      ∧ View.ld (iblk m c 0 t) (Rect.unit ![256, 0] ![128, 256] inb_S512x256_S128x256_256_0) = up2 (ch D (cn t 2))
      ∧ View.ld (iblk m c 0 t) (Rect.unit ![384, 0] ![128, 256] inb_S512x256_S128x256_384_0) = up2 (ch D (cn t 3)))
    ∧ (View.ld (iblk m c 1 t) (Rect.unit ![0, 0] ![128, 256] inb_S512x256_S128x256_0_0) = up2 (ch (uu P) (cn t 0))
      ∧ View.ld (iblk m c 1 t) (Rect.unit ![128, 0] ![128, 256] inb_S512x256_S128x256_128_0) = up2 (ch (uu P) (cn t 1))
      ∧ View.ld (iblk m c 1 t) (Rect.unit ![256, 0] ![128, 256] inb_S512x256_S128x256_256_0) = up2 (ch (uu P) (cn t 2))
      ∧ View.ld (iblk m c 1 t) (Rect.unit ![384, 0] ![128, 256] inb_S512x256_S128x256_384_0) = up2 (ch (uu P) (cn t 3)))
    ∧ (View.ld (iblk m c 2 t) (Rect.unit ![0, 0] ![128, 256] inb_S512x256_S128x256_0_0) = up2 (ch (vv P) (cn t 0))
      ∧ View.ld (iblk m c 2 t) (Rect.unit ![128, 0] ![128, 256] inb_S512x256_S128x256_128_0) = up2 (ch (vv P) (cn t 1))
      ∧ View.ld (iblk m c 2 t) (Rect.unit ![256, 0] ![128, 256] inb_S512x256_S128x256_256_0) = up2 (ch (vv P) (cn t 2))
      ∧ View.ld (iblk m c 2 t) (Rect.unit ![384, 0] ![128, 256] inb_S512x256_S128x256_384_0) = up2 (ch (vv P) (cn t 3))) := by
  rw [blk0 H, blk1 H, blk2 H]
  refine ⟨⟨?_, ?_, ?_, ?_⟩, ⟨?_, ?_, ?_, ?_⟩, ?_, ?_, ?_, ?_⟩

  · exact (load2 (fun r k => D (row t r) k) 0 0 _).trans (row_cn D t 0 0 rfl _ _)
  · exact (load2 (fun r k => D (row t r) k) 128 0 _).trans (row_cn D t 1 128 rfl _ _)
  · exact (load2 (fun r k => D (row t r) k) 256 0 _).trans (row_cn D t 2 256 rfl _ _)
  · exact (load2 (fun r k => D (row t r) k) 384 0 _).trans (row_cn D t 3 384 rfl _ _)
  · exact (load2 (fun r k => (uu P) (row t r) k) 0 0 _).trans (row_cn (uu P) t 0 0 rfl _ _)
  · exact (load2 (fun r k => (uu P) (row t r) k) 128 0 _).trans (row_cn (uu P) t 1 128 rfl _ _)
  · exact (load2 (fun r k => (uu P) (row t r) k) 256 0 _).trans (row_cn (uu P) t 2 256 rfl _ _)
  · exact (load2 (fun r k => (uu P) (row t r) k) 384 0 _).trans (row_cn (uu P) t 3 384 rfl _ _)
  · exact (load2 (fun r k => (vv P) (row t r) k) 0 0 _).trans (row_cn (vv P) t 0 0 rfl _ _)
  · exact (load2 (fun r k => (vv P) (row t r) k) 128 0 _).trans (row_cn (vv P) t 1 128 rfl _ _)
  · exact (load2 (fun r k => (vv P) (row t r) k) 256 0 _).trans (row_cn (vv P) t 2 256 rfl _ _)
  · exact (load2 (fun r k => (vv P) (row t r) k) 384 0 _).trans (row_cn (vv P) t 3 384 rfl _ _)

/-- The four heads' weights and biases. -/
theorem pages (t : Fin cfg0.N) :
    (View.ld (iblk m c 5 t) (Rect.unit ![0, 0, 0] ![1, 128, 128] inb_S4x128x128_S1x128x128_0_0_0) = up3 (fun _ => W 0)
      ∧ View.ld (iblk m c 5 t) (Rect.unit ![1, 0, 0] ![1, 128, 128] inb_S4x128x128_S1x128x128_1_0_0) = up3 (fun _ => W 1)
      ∧ View.ld (iblk m c 5 t) (Rect.unit ![2, 0, 0] ![1, 128, 128] inb_S4x128x128_S1x128x128_2_0_0) = up3 (fun _ => W 2)
      ∧ View.ld (iblk m c 5 t) (Rect.unit ![3, 0, 0] ![1, 128, 128] inb_S4x128x128_S1x128x128_3_0_0) = up3 (fun _ => W 3))
    ∧ View.ld (iblk m c 6 t) (Rect.unit ![0, 0] ![128, 1] inb_S128x4_S128x1_0_0) = up2 (fun t _ => S 0 t)
    ∧ View.ld (iblk m c 6 t) (Rect.unit ![0, 1] ![128, 1] inb_S128x4_S128x1_0_1) = up2 (fun t _ => S 1 t)
    ∧ View.ld (iblk m c 6 t) (Rect.unit ![0, 2] ![128, 1] inb_S128x4_S128x1_0_2) = up2 (fun t _ => S 2 t)
    ∧ View.ld (iblk m c 6 t) (Rect.unit ![0, 3] ![128, 1] inb_S128x4_S128x1_0_3) = up2 (fun t _ => S 3 t) := by
  rw [blk5 H, blk6 H]
  refine ⟨⟨loadPage W 0 (by decide) _, loadPage W 1 (by decide) _, loadPage W 2 (by decide) _, loadPage W 3 (by decide) _⟩, ?_, ?_, ?_, ?_⟩ <;>
    exact (load2 (fun t g => S g t) 0 _ _).trans (congrArg up2 (funext fun i => funext fun j => congrArg₂ S (Fin.ext (by have := j.isLt; show _ + j.val = _; omega)) (Fin.ext (Nat.zero_add _))))

omit H in
/-- Each chunk computes by the same functions. -/
theorem same :
    (@k0_pay44 Ideal = @k0_pay20 Ideal ∧ @k0_pay45 Ideal = @k0_pay21 Ideal ∧ @k0_pay46 Ideal = @k0_pay22 Ideal ∧ @k0_pay47 Ideal = @k0_pay23 Ideal ∧ @k0_pay48 Ideal = @k0_pay24 Ideal ∧ @k0_pay49 Ideal = @k0_pay25 Ideal ∧ @k0_pay50 Ideal = @k0_pay26 Ideal ∧ @k0_pay51 Ideal = @k0_pay27 Ideal ∧ @k0_pay52 Ideal = @k0_pay28 Ideal ∧ @k0_pay54 Ideal = @k0_pay30 Ideal ∧ @k0_pay55 Ideal = @k0_pay31 Ideal ∧ @k0_pay56 Ideal = @k0_pay32 Ideal ∧ @k0_pay57 Ideal = @k0_pay33 Ideal ∧ @k0_pay59 Ideal = @k0_pay35 Ideal ∧ @k0_pay61 Ideal = @k0_pay37 Ideal ∧ @k0_pay62 Ideal = @k0_pay38 Ideal ∧ @k0_pay63 Ideal = @k0_pay39 Ideal ∧ @k0_pay64 Ideal = @k0_pay40 Ideal ∧ @k0_pay65 Ideal = @k0_pay41 Ideal ∧ @k0_pay66 Ideal = @k0_pay42 Ideal)
    ∧ (@k0_pay68 Ideal = @k0_pay20 Ideal ∧ @k0_pay69 Ideal = @k0_pay21 Ideal ∧ @k0_pay70 Ideal = @k0_pay22 Ideal ∧ @k0_pay71 Ideal = @k0_pay23 Ideal ∧ @k0_pay72 Ideal = @k0_pay24 Ideal ∧ @k0_pay73 Ideal = @k0_pay25 Ideal ∧ @k0_pay74 Ideal = @k0_pay26 Ideal ∧ @k0_pay75 Ideal = @k0_pay27 Ideal ∧ @k0_pay76 Ideal = @k0_pay28 Ideal ∧ @k0_pay78 Ideal = @k0_pay30 Ideal ∧ @k0_pay79 Ideal = @k0_pay31 Ideal ∧ @k0_pay80 Ideal = @k0_pay32 Ideal ∧ @k0_pay81 Ideal = @k0_pay33 Ideal ∧ @k0_pay83 Ideal = @k0_pay35 Ideal ∧ @k0_pay85 Ideal = @k0_pay37 Ideal ∧ @k0_pay86 Ideal = @k0_pay38 Ideal ∧ @k0_pay87 Ideal = @k0_pay39 Ideal ∧ @k0_pay88 Ideal = @k0_pay40 Ideal ∧ @k0_pay89 Ideal = @k0_pay41 Ideal ∧ @k0_pay90 Ideal = @k0_pay42 Ideal)
    ∧ (@k0_pay92 Ideal = @k0_pay20 Ideal ∧ @k0_pay93 Ideal = @k0_pay21 Ideal ∧ @k0_pay94 Ideal = @k0_pay22 Ideal ∧ @k0_pay95 Ideal = @k0_pay23 Ideal ∧ @k0_pay96 Ideal = @k0_pay24 Ideal ∧ @k0_pay97 Ideal = @k0_pay25 Ideal ∧ @k0_pay98 Ideal = @k0_pay26 Ideal ∧ @k0_pay99 Ideal = @k0_pay27 Ideal ∧ @k0_pay100 Ideal = @k0_pay28 Ideal ∧ @k0_pay102 Ideal = @k0_pay30 Ideal ∧ @k0_pay103 Ideal = @k0_pay31 Ideal ∧ @k0_pay104 Ideal = @k0_pay32 Ideal ∧ @k0_pay105 Ideal = @k0_pay33 Ideal ∧ @k0_pay107 Ideal = @k0_pay35 Ideal ∧ @k0_pay109 Ideal = @k0_pay37 Ideal ∧ @k0_pay110 Ideal = @k0_pay38 Ideal ∧ @k0_pay111 Ideal = @k0_pay39 Ideal ∧ @k0_pay112 Ideal = @k0_pay40 Ideal ∧ @k0_pay113 Ideal = @k0_pay41 Ideal ∧ @k0_pay114 Ideal = @k0_pay42 Ideal) := by
  refine ⟨⟨?_, ?_, ?_, ?_, ?_, ?_, ?_, ?_, ?_, ?_, ?_, ?_, ?_, ?_, ?_, ?_, ?_, ?_, ?_, ?_⟩, ⟨?_, ?_, ?_, ?_, ?_, ?_, ?_, ?_, ?_, ?_, ?_, ?_, ?_, ?_, ?_, ?_, ?_, ?_, ?_, ?_⟩, ?_, ?_, ?_, ?_, ?_, ?_, ?_, ?_, ?_, ?_, ?_, ?_, ?_, ?_, ?_, ?_, ?_, ?_, ?_, ?_⟩ <;> rfl

/-- The normalised gate's gradients of the four chunks. -/
theorem dvns (t : Fin cfg0.N) :
    (k0_pay37 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay27 (View.ld (iblk m c 0 t) (Rect.unit ![0, 0] ![128, 256] inb_S512x256_S128x256_0_0)) (View.ld (iblk m c 1 t) (Rect.unit ![0, 0] ![128, 256] inb_S512x256_S128x256_0_0))) (k0_pay32 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![0, 0] ![128, 256] inb_S512x256_S128x256_0_0)) (View.ld (iblk m c 1 t) (Rect.unit ![0, 0] ![128, 256] inb_S512x256_S128x256_0_0)))) = up2 (dvn W (dmix (ch D (cn t 0)) (ch (uu P) (cn t 0))))
    ∧ (k0_pay61 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay51 (View.ld (iblk m c 0 t) (Rect.unit ![128, 0] ![128, 256] inb_S512x256_S128x256_128_0)) (View.ld (iblk m c 1 t) (Rect.unit ![128, 0] ![128, 256] inb_S512x256_S128x256_128_0))) (k0_pay56 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![128, 0] ![128, 256] inb_S512x256_S128x256_128_0)) (View.ld (iblk m c 1 t) (Rect.unit ![128, 0] ![128, 256] inb_S512x256_S128x256_128_0)))) = up2 (dvn W (dmix (ch D (cn t 1)) (ch (uu P) (cn t 1))))
    ∧ (k0_pay85 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay75 (View.ld (iblk m c 0 t) (Rect.unit ![256, 0] ![128, 256] inb_S512x256_S128x256_256_0)) (View.ld (iblk m c 1 t) (Rect.unit ![256, 0] ![128, 256] inb_S512x256_S128x256_256_0))) (k0_pay80 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![256, 0] ![128, 256] inb_S512x256_S128x256_256_0)) (View.ld (iblk m c 1 t) (Rect.unit ![256, 0] ![128, 256] inb_S512x256_S128x256_256_0)))) = up2 (dvn W (dmix (ch D (cn t 2)) (ch (uu P) (cn t 2))))
    ∧ (k0_pay109 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay99 (View.ld (iblk m c 0 t) (Rect.unit ![384, 0] ![128, 256] inb_S512x256_S128x256_384_0)) (View.ld (iblk m c 1 t) (Rect.unit ![384, 0] ![128, 256] inb_S512x256_S128x256_384_0))) (k0_pay104 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![384, 0] ![128, 256] inb_S512x256_S128x256_384_0)) (View.ld (iblk m c 1 t) (Rect.unit ![384, 0] ![128, 256] inb_S512x256_S128x256_384_0)))) = up2 (dvn W (dmix (ch D (cn t 3)) (ch (uu P) (cn t 3)))) := by
  obtain ⟨⟨d0, d1, d2, d3⟩, ⟨u0, u1, u2, u3⟩, v0, v1, v2, v3⟩ := loads H t
  obtain ⟨⟨w0, w1, w2, w3⟩, -⟩ := pages H t
  simp only [d0, d1, d2, d3, u0, u1, u2, u3, w0, w1, w2, w3, same, SguTile.masks, SguTile.weights, SguTile.dmix_eq, SguTile.dvn_eq, and_self]

/-- The gradients of the gated halves of the four chunks. -/
theorem dus (t : Fin cfg0.N) :
    k0_pay26 (k0_pay12 rowsIota colsIota (View.ld (iblk m c 5 t) (Rect.unit ![3, 0, 0] ![1, 128, 128] inb_S4x128x128_S1x128x128_3_0_0))) (k0_pay24 k0_pay5 k0_pay6 k0_pay7 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (k0_pay11 rowsIota colsIota (View.ld (iblk m c 5 t) (Rect.unit ![2, 0, 0] ![1, 128, 128] inb_S4x128x128_S1x128x128_2_0_0))) (k0_pay14 k0_pay5 k0_pay6 k0_pay7 k0_pay8 (View.ld (iblk m c 6 t) (Rect.unit ![0, 0] ![128, 1] inb_S128x4_S128x1_0_0)) (View.ld (iblk m c 6 t) (Rect.unit ![0, 1] ![128, 1] inb_S128x4_S128x1_0_1)) (View.ld (iblk m c 6 t) (Rect.unit ![0, 2] ![128, 1] inb_S128x4_S128x1_0_2)) (View.ld (iblk m c 6 t) (Rect.unit ![0, 3] ![128, 1] inb_S128x4_S128x1_0_3))) (View.ld (iblk m c 2 t) (Rect.unit ![0, 0] ![128, 256] inb_S512x256_S128x256_0_0)) (iblk m c 3 t) (iblk m c 4 t)) (k0_pay25 k0_pay8 (View.ld (iblk m c 2 t) (Rect.unit ![0, 0] ![128, 256] inb_S512x256_S128x256_0_0)) (iblk m c 3 t) (iblk m c 4 t)) (View.ld (iblk m c 0 t) (Rect.unit ![0, 0] ![128, 256] inb_S512x256_S128x256_0_0)) = up2 (du W S (ch D (cn t 0)) (ch (vv P) (cn t 0)) G B)
    ∧ k0_pay50 (k0_pay12 rowsIota colsIota (View.ld (iblk m c 5 t) (Rect.unit ![3, 0, 0] ![1, 128, 128] inb_S4x128x128_S1x128x128_3_0_0))) (k0_pay48 k0_pay5 k0_pay6 k0_pay7 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (k0_pay11 rowsIota colsIota (View.ld (iblk m c 5 t) (Rect.unit ![2, 0, 0] ![1, 128, 128] inb_S4x128x128_S1x128x128_2_0_0))) (k0_pay14 k0_pay5 k0_pay6 k0_pay7 k0_pay8 (View.ld (iblk m c 6 t) (Rect.unit ![0, 0] ![128, 1] inb_S128x4_S128x1_0_0)) (View.ld (iblk m c 6 t) (Rect.unit ![0, 1] ![128, 1] inb_S128x4_S128x1_0_1)) (View.ld (iblk m c 6 t) (Rect.unit ![0, 2] ![128, 1] inb_S128x4_S128x1_0_2)) (View.ld (iblk m c 6 t) (Rect.unit ![0, 3] ![128, 1] inb_S128x4_S128x1_0_3))) (View.ld (iblk m c 2 t) (Rect.unit ![128, 0] ![128, 256] inb_S512x256_S128x256_128_0)) (iblk m c 3 t) (iblk m c 4 t)) (k0_pay49 k0_pay8 (View.ld (iblk m c 2 t) (Rect.unit ![128, 0] ![128, 256] inb_S512x256_S128x256_128_0)) (iblk m c 3 t) (iblk m c 4 t)) (View.ld (iblk m c 0 t) (Rect.unit ![128, 0] ![128, 256] inb_S512x256_S128x256_128_0)) = up2 (du W S (ch D (cn t 1)) (ch (vv P) (cn t 1)) G B)
    ∧ k0_pay74 (k0_pay12 rowsIota colsIota (View.ld (iblk m c 5 t) (Rect.unit ![3, 0, 0] ![1, 128, 128] inb_S4x128x128_S1x128x128_3_0_0))) (k0_pay72 k0_pay5 k0_pay6 k0_pay7 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (k0_pay11 rowsIota colsIota (View.ld (iblk m c 5 t) (Rect.unit ![2, 0, 0] ![1, 128, 128] inb_S4x128x128_S1x128x128_2_0_0))) (k0_pay14 k0_pay5 k0_pay6 k0_pay7 k0_pay8 (View.ld (iblk m c 6 t) (Rect.unit ![0, 0] ![128, 1] inb_S128x4_S128x1_0_0)) (View.ld (iblk m c 6 t) (Rect.unit ![0, 1] ![128, 1] inb_S128x4_S128x1_0_1)) (View.ld (iblk m c 6 t) (Rect.unit ![0, 2] ![128, 1] inb_S128x4_S128x1_0_2)) (View.ld (iblk m c 6 t) (Rect.unit ![0, 3] ![128, 1] inb_S128x4_S128x1_0_3))) (View.ld (iblk m c 2 t) (Rect.unit ![256, 0] ![128, 256] inb_S512x256_S128x256_256_0)) (iblk m c 3 t) (iblk m c 4 t)) (k0_pay73 k0_pay8 (View.ld (iblk m c 2 t) (Rect.unit ![256, 0] ![128, 256] inb_S512x256_S128x256_256_0)) (iblk m c 3 t) (iblk m c 4 t)) (View.ld (iblk m c 0 t) (Rect.unit ![256, 0] ![128, 256] inb_S512x256_S128x256_256_0)) = up2 (du W S (ch D (cn t 2)) (ch (vv P) (cn t 2)) G B)
    ∧ k0_pay98 (k0_pay12 rowsIota colsIota (View.ld (iblk m c 5 t) (Rect.unit ![3, 0, 0] ![1, 128, 128] inb_S4x128x128_S1x128x128_3_0_0))) (k0_pay96 k0_pay5 k0_pay6 k0_pay7 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (k0_pay11 rowsIota colsIota (View.ld (iblk m c 5 t) (Rect.unit ![2, 0, 0] ![1, 128, 128] inb_S4x128x128_S1x128x128_2_0_0))) (k0_pay14 k0_pay5 k0_pay6 k0_pay7 k0_pay8 (View.ld (iblk m c 6 t) (Rect.unit ![0, 0] ![128, 1] inb_S128x4_S128x1_0_0)) (View.ld (iblk m c 6 t) (Rect.unit ![0, 1] ![128, 1] inb_S128x4_S128x1_0_1)) (View.ld (iblk m c 6 t) (Rect.unit ![0, 2] ![128, 1] inb_S128x4_S128x1_0_2)) (View.ld (iblk m c 6 t) (Rect.unit ![0, 3] ![128, 1] inb_S128x4_S128x1_0_3))) (View.ld (iblk m c 2 t) (Rect.unit ![384, 0] ![128, 256] inb_S512x256_S128x256_384_0)) (iblk m c 3 t) (iblk m c 4 t)) (k0_pay97 k0_pay8 (View.ld (iblk m c 2 t) (Rect.unit ![384, 0] ![128, 256] inb_S512x256_S128x256_384_0)) (iblk m c 3 t) (iblk m c 4 t)) (View.ld (iblk m c 0 t) (Rect.unit ![384, 0] ![128, 256] inb_S512x256_S128x256_384_0)) = up2 (du W S (ch D (cn t 3)) (ch (vv P) (cn t 3)) G B) := by
  obtain ⟨⟨d0, d1, d2, d3⟩, -, v0, v1, v2, v3⟩ := loads H t
  obtain ⟨⟨w0, w1, w2, w3⟩, b0, b1, b2, b3⟩ := pages H t
  simp only [d0, d1, d2, d3, v0, v1, v2, v3, w0, w1, w2, w3, b0, b1, b2, b3, blk3 H, blk4 H, same, SguTile.masks, SguTile.weights, SguTile.bias, SguTile.du_eq, and_self]

/-- The gradients of the gates of the four chunks. -/
theorem dvs (t : Fin cfg0.N) :
    k0_pay42 (k0_pay20 (View.ld (iblk m c 2 t) (Rect.unit ![0, 0] ![128, 256] inb_S512x256_S128x256_0_0))) (k0_pay21 (View.ld (iblk m c 2 t) (Rect.unit ![0, 0] ![128, 256] inb_S512x256_S128x256_0_0))) (k0_pay37 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay27 (View.ld (iblk m c 0 t) (Rect.unit ![0, 0] ![128, 256] inb_S512x256_S128x256_0_0)) (View.ld (iblk m c 1 t) (Rect.unit ![0, 0] ![128, 256] inb_S512x256_S128x256_0_0))) (k0_pay32 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![0, 0] ![128, 256] inb_S512x256_S128x256_0_0)) (View.ld (iblk m c 1 t) (Rect.unit ![0, 0] ![128, 256] inb_S512x256_S128x256_0_0)))) (iblk m c 3 t) = up2 (fun r k => back (ch (vv P) (cn t 0) r) (fun j => dvn W (dmix (ch D (cn t 0)) (ch (uu P) (cn t 0))) r j * G j) k)
    ∧ k0_pay66 (k0_pay44 (View.ld (iblk m c 2 t) (Rect.unit ![128, 0] ![128, 256] inb_S512x256_S128x256_128_0))) (k0_pay45 (View.ld (iblk m c 2 t) (Rect.unit ![128, 0] ![128, 256] inb_S512x256_S128x256_128_0))) (k0_pay61 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay51 (View.ld (iblk m c 0 t) (Rect.unit ![128, 0] ![128, 256] inb_S512x256_S128x256_128_0)) (View.ld (iblk m c 1 t) (Rect.unit ![128, 0] ![128, 256] inb_S512x256_S128x256_128_0))) (k0_pay56 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![128, 0] ![128, 256] inb_S512x256_S128x256_128_0)) (View.ld (iblk m c 1 t) (Rect.unit ![128, 0] ![128, 256] inb_S512x256_S128x256_128_0)))) (iblk m c 3 t) = up2 (fun r k => back (ch (vv P) (cn t 1) r) (fun j => dvn W (dmix (ch D (cn t 1)) (ch (uu P) (cn t 1))) r j * G j) k)
    ∧ k0_pay90 (k0_pay68 (View.ld (iblk m c 2 t) (Rect.unit ![256, 0] ![128, 256] inb_S512x256_S128x256_256_0))) (k0_pay69 (View.ld (iblk m c 2 t) (Rect.unit ![256, 0] ![128, 256] inb_S512x256_S128x256_256_0))) (k0_pay85 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay75 (View.ld (iblk m c 0 t) (Rect.unit ![256, 0] ![128, 256] inb_S512x256_S128x256_256_0)) (View.ld (iblk m c 1 t) (Rect.unit ![256, 0] ![128, 256] inb_S512x256_S128x256_256_0))) (k0_pay80 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![256, 0] ![128, 256] inb_S512x256_S128x256_256_0)) (View.ld (iblk m c 1 t) (Rect.unit ![256, 0] ![128, 256] inb_S512x256_S128x256_256_0)))) (iblk m c 3 t) = up2 (fun r k => back (ch (vv P) (cn t 2) r) (fun j => dvn W (dmix (ch D (cn t 2)) (ch (uu P) (cn t 2))) r j * G j) k)
    ∧ k0_pay114 (k0_pay92 (View.ld (iblk m c 2 t) (Rect.unit ![384, 0] ![128, 256] inb_S512x256_S128x256_384_0))) (k0_pay93 (View.ld (iblk m c 2 t) (Rect.unit ![384, 0] ![128, 256] inb_S512x256_S128x256_384_0))) (k0_pay109 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay99 (View.ld (iblk m c 0 t) (Rect.unit ![384, 0] ![128, 256] inb_S512x256_S128x256_384_0)) (View.ld (iblk m c 1 t) (Rect.unit ![384, 0] ![128, 256] inb_S512x256_S128x256_384_0))) (k0_pay104 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![384, 0] ![128, 256] inb_S512x256_S128x256_384_0)) (View.ld (iblk m c 1 t) (Rect.unit ![384, 0] ![128, 256] inb_S512x256_S128x256_384_0)))) (iblk m c 3 t) = up2 (fun r k => back (ch (vv P) (cn t 3) r) (fun j => dvn W (dmix (ch D (cn t 3)) (ch (uu P) (cn t 3))) r j * G j) k) := by
  obtain ⟨-, -, v0, v1, v2, v3⟩ := loads H t
  obtain ⟨n0, n1, n2, n3⟩ := dvns H t
  rw [n0, n1, n2, n3]
  simp only [v0, v1, v2, v3, blk3 H, same, SguTile.rstd_eq, SguTile.xh_eq, SguTile.dv_eq, and_self]

omit H in
/-- Half `h` of chunk `q`'s gradient stands at its place. -/
theorem at_half (X : Fin 8192 → Fin 256 → ℝ) (A Z : Fin 8192 → Fin 256 → ℝ) (p : ℕ) (hp : p = 0 ∧ X = A ∨ p = 256 ∧ X = Z) (q : Fin 4) (t : Fin cfg0.N)
    (x : (⟨2, ![128, 256]⟩ : Shape).Idx) (y : (⟨2, ![512, 512]⟩ : Shape).Idx) (e : (y 0).val = q.val * 128 + (x 0).val) (e' : (y 1).val = p + (x 1).val) :
    up2 (ch X (cn t q)) x = up2 (fun r k => pair A Z rfl (row t r) k) y := by
  have h0 : (x 0).val < 128 := (x 0).isLt
  have h1 : (x 1).val < 256 := (x 1).isLt
  have er : rowOf (cn t q) (x 0) = row t (y 0) := Fin.ext (by show (t.val * 4 + q.val) * 128 + (x 0).val = t.val * 512 + (y 0).val; omega)
  refine congrArg (fun z : ℝ => (z : EReal)) ?_
  show X (rowOf (cn t q) (x 0)) (x 1) = pair A Z rfl (row t (y 0)) (y 1)
  rw [er]
  unfold pair
  rcases hp with ⟨rfl, rfl⟩ | ⟨rfl, rfl⟩
  · rw [dif_pos (show (y 1).val < 256 by omega)]
    exact congrArg (X _) (Fin.ext (by show (x 1).val = (y 1).val; omega))
  · rw [dif_neg (show ¬ (y 1).val < 256 by omega)]
    exact congrArg (X _) (Fin.ext (by show (x 1).val = (y 1).val - 256; omega))

omit H in
/-- The gated half's gradient of a chunk, by rows. -/
theorem du_rows (n : Fin 64) : du W S (ch D n) (ch (vv P) n) G B = ch (duRow D P G B W S) n := by
  funext r
  show _ = du W S (ch D (chunk (rowOf n r))) (ch (vv P) (chunk (rowOf n r))) G B (pos (rowOf n r))
  rw [chunk_rowOf, pos_rowOf]

omit H in
/-- The normalised gate's gradient of a chunk, by rows. -/
theorem dn_rows (n : Fin 64) : dvn W (dmix (ch D n) (ch (uu P) n)) = ch (dnRow D P W) n := by
  funext r
  show _ = dvn W (dmix (ch D (chunk (rowOf n r))) (ch (uu P) (chunk (rowOf n r)))) (pos (rowOf n r))
  rw [chunk_rowOf, pos_rowOf]

/-- The eight blocks of one tile's gradient. -/
theorem pieces (t : Fin cfg0.N) (y : (⟨2, ![512, 512]⟩ : Shape).Idx) :
    View.canon (Val := Elt Ideal) (e := .bf16)
      [⟨Rect.unit ![384, 256] ![128, 256] inb_S512x512_S128x256_384_256, k0_pay114 (k0_pay92 (View.ld (iblk m c 2 t) (Rect.unit ![384, 0] ![128, 256] inb_S512x256_S128x256_384_0))) (k0_pay93 (View.ld (iblk m c 2 t) (Rect.unit ![384, 0] ![128, 256] inb_S512x256_S128x256_384_0))) (k0_pay109 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay99 (View.ld (iblk m c 0 t) (Rect.unit ![384, 0] ![128, 256] inb_S512x256_S128x256_384_0)) (View.ld (iblk m c 1 t) (Rect.unit ![384, 0] ![128, 256] inb_S512x256_S128x256_384_0))) (k0_pay104 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![384, 0] ![128, 256] inb_S512x256_S128x256_384_0)) (View.ld (iblk m c 1 t) (Rect.unit ![384, 0] ![128, 256] inb_S512x256_S128x256_384_0)))) (iblk m c 3 t)⟩,
        ⟨Rect.unit ![384, 0] ![128, 256] inb_S512x512_S128x256_384_0, k0_pay98 (k0_pay12 rowsIota colsIota (View.ld (iblk m c 5 t) (Rect.unit ![3, 0, 0] ![1, 128, 128] inb_S4x128x128_S1x128x128_3_0_0))) (k0_pay96 k0_pay5 k0_pay6 k0_pay7 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (k0_pay11 rowsIota colsIota (View.ld (iblk m c 5 t) (Rect.unit ![2, 0, 0] ![1, 128, 128] inb_S4x128x128_S1x128x128_2_0_0))) (k0_pay14 k0_pay5 k0_pay6 k0_pay7 k0_pay8 (View.ld (iblk m c 6 t) (Rect.unit ![0, 0] ![128, 1] inb_S128x4_S128x1_0_0)) (View.ld (iblk m c 6 t) (Rect.unit ![0, 1] ![128, 1] inb_S128x4_S128x1_0_1)) (View.ld (iblk m c 6 t) (Rect.unit ![0, 2] ![128, 1] inb_S128x4_S128x1_0_2)) (View.ld (iblk m c 6 t) (Rect.unit ![0, 3] ![128, 1] inb_S128x4_S128x1_0_3))) (View.ld (iblk m c 2 t) (Rect.unit ![384, 0] ![128, 256] inb_S512x256_S128x256_384_0)) (iblk m c 3 t) (iblk m c 4 t)) (k0_pay97 k0_pay8 (View.ld (iblk m c 2 t) (Rect.unit ![384, 0] ![128, 256] inb_S512x256_S128x256_384_0)) (iblk m c 3 t) (iblk m c 4 t)) (View.ld (iblk m c 0 t) (Rect.unit ![384, 0] ![128, 256] inb_S512x256_S128x256_384_0))⟩,
        ⟨Rect.unit ![256, 256] ![128, 256] inb_S512x512_S128x256_256_256, k0_pay90 (k0_pay68 (View.ld (iblk m c 2 t) (Rect.unit ![256, 0] ![128, 256] inb_S512x256_S128x256_256_0))) (k0_pay69 (View.ld (iblk m c 2 t) (Rect.unit ![256, 0] ![128, 256] inb_S512x256_S128x256_256_0))) (k0_pay85 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay75 (View.ld (iblk m c 0 t) (Rect.unit ![256, 0] ![128, 256] inb_S512x256_S128x256_256_0)) (View.ld (iblk m c 1 t) (Rect.unit ![256, 0] ![128, 256] inb_S512x256_S128x256_256_0))) (k0_pay80 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![256, 0] ![128, 256] inb_S512x256_S128x256_256_0)) (View.ld (iblk m c 1 t) (Rect.unit ![256, 0] ![128, 256] inb_S512x256_S128x256_256_0)))) (iblk m c 3 t)⟩,
        ⟨Rect.unit ![256, 0] ![128, 256] inb_S512x512_S128x256_256_0, k0_pay74 (k0_pay12 rowsIota colsIota (View.ld (iblk m c 5 t) (Rect.unit ![3, 0, 0] ![1, 128, 128] inb_S4x128x128_S1x128x128_3_0_0))) (k0_pay72 k0_pay5 k0_pay6 k0_pay7 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (k0_pay11 rowsIota colsIota (View.ld (iblk m c 5 t) (Rect.unit ![2, 0, 0] ![1, 128, 128] inb_S4x128x128_S1x128x128_2_0_0))) (k0_pay14 k0_pay5 k0_pay6 k0_pay7 k0_pay8 (View.ld (iblk m c 6 t) (Rect.unit ![0, 0] ![128, 1] inb_S128x4_S128x1_0_0)) (View.ld (iblk m c 6 t) (Rect.unit ![0, 1] ![128, 1] inb_S128x4_S128x1_0_1)) (View.ld (iblk m c 6 t) (Rect.unit ![0, 2] ![128, 1] inb_S128x4_S128x1_0_2)) (View.ld (iblk m c 6 t) (Rect.unit ![0, 3] ![128, 1] inb_S128x4_S128x1_0_3))) (View.ld (iblk m c 2 t) (Rect.unit ![256, 0] ![128, 256] inb_S512x256_S128x256_256_0)) (iblk m c 3 t) (iblk m c 4 t)) (k0_pay73 k0_pay8 (View.ld (iblk m c 2 t) (Rect.unit ![256, 0] ![128, 256] inb_S512x256_S128x256_256_0)) (iblk m c 3 t) (iblk m c 4 t)) (View.ld (iblk m c 0 t) (Rect.unit ![256, 0] ![128, 256] inb_S512x256_S128x256_256_0))⟩,
        ⟨Rect.unit ![128, 256] ![128, 256] inb_S512x512_S128x256_128_256, k0_pay66 (k0_pay44 (View.ld (iblk m c 2 t) (Rect.unit ![128, 0] ![128, 256] inb_S512x256_S128x256_128_0))) (k0_pay45 (View.ld (iblk m c 2 t) (Rect.unit ![128, 0] ![128, 256] inb_S512x256_S128x256_128_0))) (k0_pay61 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay51 (View.ld (iblk m c 0 t) (Rect.unit ![128, 0] ![128, 256] inb_S512x256_S128x256_128_0)) (View.ld (iblk m c 1 t) (Rect.unit ![128, 0] ![128, 256] inb_S512x256_S128x256_128_0))) (k0_pay56 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![128, 0] ![128, 256] inb_S512x256_S128x256_128_0)) (View.ld (iblk m c 1 t) (Rect.unit ![128, 0] ![128, 256] inb_S512x256_S128x256_128_0)))) (iblk m c 3 t)⟩,
        ⟨Rect.unit ![128, 0] ![128, 256] inb_S512x512_S128x256_128_0, k0_pay50 (k0_pay12 rowsIota colsIota (View.ld (iblk m c 5 t) (Rect.unit ![3, 0, 0] ![1, 128, 128] inb_S4x128x128_S1x128x128_3_0_0))) (k0_pay48 k0_pay5 k0_pay6 k0_pay7 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (k0_pay11 rowsIota colsIota (View.ld (iblk m c 5 t) (Rect.unit ![2, 0, 0] ![1, 128, 128] inb_S4x128x128_S1x128x128_2_0_0))) (k0_pay14 k0_pay5 k0_pay6 k0_pay7 k0_pay8 (View.ld (iblk m c 6 t) (Rect.unit ![0, 0] ![128, 1] inb_S128x4_S128x1_0_0)) (View.ld (iblk m c 6 t) (Rect.unit ![0, 1] ![128, 1] inb_S128x4_S128x1_0_1)) (View.ld (iblk m c 6 t) (Rect.unit ![0, 2] ![128, 1] inb_S128x4_S128x1_0_2)) (View.ld (iblk m c 6 t) (Rect.unit ![0, 3] ![128, 1] inb_S128x4_S128x1_0_3))) (View.ld (iblk m c 2 t) (Rect.unit ![128, 0] ![128, 256] inb_S512x256_S128x256_128_0)) (iblk m c 3 t) (iblk m c 4 t)) (k0_pay49 k0_pay8 (View.ld (iblk m c 2 t) (Rect.unit ![128, 0] ![128, 256] inb_S512x256_S128x256_128_0)) (iblk m c 3 t) (iblk m c 4 t)) (View.ld (iblk m c 0 t) (Rect.unit ![128, 0] ![128, 256] inb_S512x256_S128x256_128_0))⟩,
        ⟨Rect.unit ![0, 256] ![128, 256] inb_S512x512_S128x256_0_256, k0_pay42 (k0_pay20 (View.ld (iblk m c 2 t) (Rect.unit ![0, 0] ![128, 256] inb_S512x256_S128x256_0_0))) (k0_pay21 (View.ld (iblk m c 2 t) (Rect.unit ![0, 0] ![128, 256] inb_S512x256_S128x256_0_0))) (k0_pay37 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay27 (View.ld (iblk m c 0 t) (Rect.unit ![0, 0] ![128, 256] inb_S512x256_S128x256_0_0)) (View.ld (iblk m c 1 t) (Rect.unit ![0, 0] ![128, 256] inb_S512x256_S128x256_0_0))) (k0_pay32 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![0, 0] ![128, 256] inb_S512x256_S128x256_0_0)) (View.ld (iblk m c 1 t) (Rect.unit ![0, 0] ![128, 256] inb_S512x256_S128x256_0_0)))) (iblk m c 3 t)⟩,
        ⟨Rect.unit ![0, 0] ![128, 256] inb_S512x512_S128x256_0_0, k0_pay26 (k0_pay12 rowsIota colsIota (View.ld (iblk m c 5 t) (Rect.unit ![3, 0, 0] ![1, 128, 128] inb_S4x128x128_S1x128x128_3_0_0))) (k0_pay24 k0_pay5 k0_pay6 k0_pay7 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (k0_pay11 rowsIota colsIota (View.ld (iblk m c 5 t) (Rect.unit ![2, 0, 0] ![1, 128, 128] inb_S4x128x128_S1x128x128_2_0_0))) (k0_pay14 k0_pay5 k0_pay6 k0_pay7 k0_pay8 (View.ld (iblk m c 6 t) (Rect.unit ![0, 0] ![128, 1] inb_S128x4_S128x1_0_0)) (View.ld (iblk m c 6 t) (Rect.unit ![0, 1] ![128, 1] inb_S128x4_S128x1_0_1)) (View.ld (iblk m c 6 t) (Rect.unit ![0, 2] ![128, 1] inb_S128x4_S128x1_0_2)) (View.ld (iblk m c 6 t) (Rect.unit ![0, 3] ![128, 1] inb_S128x4_S128x1_0_3))) (View.ld (iblk m c 2 t) (Rect.unit ![0, 0] ![128, 256] inb_S512x256_S128x256_0_0)) (iblk m c 3 t) (iblk m c 4 t)) (k0_pay25 k0_pay8 (View.ld (iblk m c 2 t) (Rect.unit ![0, 0] ![128, 256] inb_S512x256_S128x256_0_0)) (iblk m c 3 t) (iblk m c 4 t)) (View.ld (iblk m c 0 t) (Rect.unit ![0, 0] ![128, 256] inb_S512x256_S128x256_0_0))⟩] y
      = up2 (fun r k => pair (duRow D P G B W S) (dvRow D P G W) rfl (row t r) k) y := by
  obtain ⟨a0, a1, a2, a3⟩ := dus H t
  obtain ⟨b0, b1, b2, b3⟩ := dvs H t
  rw [a0, a1, a2, a3, b0, b1, b2, b3]
  simp only [du_rows, dn_rows]
  canon_tiles x e
  · exact at_half _ (duRow D P G B W S) (dvRow D P G W) 256 (.inr ⟨rfl, rfl⟩) 3 t x y (by show _ = 3 * 128 + _; omega) (by omega)
  · exact at_half _ (duRow D P G B W S) (dvRow D P G W) 0 (.inl ⟨rfl, rfl⟩) 3 t x y (by show _ = 3 * 128 + _; omega) (by omega)
  · exact at_half _ (duRow D P G B W S) (dvRow D P G W) 256 (.inr ⟨rfl, rfl⟩) 2 t x y (by show _ = 2 * 128 + _; omega) (by omega)
  · exact at_half _ (duRow D P G B W S) (dvRow D P G W) 0 (.inl ⟨rfl, rfl⟩) 2 t x y (by show _ = 2 * 128 + _; omega) (by omega)
  · exact at_half _ (duRow D P G B W S) (dvRow D P G W) 256 (.inr ⟨rfl, rfl⟩) 1 t x y (by show _ = 1 * 128 + _; omega) (by omega)
  · exact at_half _ (duRow D P G B W S) (dvRow D P G W) 0 (.inl ⟨rfl, rfl⟩) 1 t x y (by show _ = 1 * 128 + _; omega) (by omega)
  · exact at_half _ (duRow D P G B W S) (dvRow D P G W) 256 (.inr ⟨rfl, rfl⟩) 0 t x y (by show _ = 0 * 128 + _; omega) (by omega)
  · exact at_half _ (duRow D P G B W S) (dvRow D P G W) 0 (.inl ⟨rfl, rfl⟩) 0 t x y (by show _ = 0 * 128 + _; omega) (by omega)

/-- The gradient of the projection's two halves. -/
theorem final7 : (dats m 0 c).arrAt 7 cfg0.N = up2 (pair (duRow D P G B W S) (dvRow D P G W) rfl) := by
  refine (dats m 0 c).arrAt_eq_of_covers 7 _ (by decide +kernel) fun t hf y => ?_
  have ht : t.val < 16 := lt_of_lt_of_eq t.isLt N_0
  blk_simp
  rw [after0_7]
  refine Eq.trans (b := up2 (fun r k => pair (duRow D P G B W S) (dvRow D P G W) rfl (row t r) k) y) ?_ ?_
  · by_cases h : t.val % 16 = 0
    · rw [outsAt0_A m c t h (by omega)]
      frame_out
      exact pieces H t y
    · by_cases h' : t.val % 16 = 15
      · rw [outsAt0_C m c t h h']
        frame_out
        exact pieces H t y
      · rw [outsAt0_B m c t h h']
        frame_out
        exact pieces H t y
  · refine Eq.trans (b := up2 (pair (duRow D P G B W S) (dvRow D P G W) rfl) (ValueIdx.ix2 (row t (y 0)) (y 1))) rfl ?_
    blk_point [idx t, row]

/-- The chunks' additions to each head's page. -/
theorem pageSums (t : Fin cfg0.N) (w : Vec Ideal S1x128x128 .f32) (i : S1x128x128.Idx) :
    (k0_pay102 k0_pay5 (k0_pay13 rowsIota colsIota) (k0_pay95 (View.ld (iblk m c 2 t) (Rect.unit ![384, 0] ![128, 256] inb_S512x256_S128x256_384_0)) (iblk m c 3 t) (iblk m c 4 t)) (View.ld (iblk m c 0 t) (Rect.unit ![384, 0] ![128, 256] inb_S512x256_S128x256_384_0)) (View.ld (iblk m c 1 t) (Rect.unit ![384, 0] ![128, 256] inb_S512x256_S128x256_384_0)) (k0_pay78 k0_pay5 (k0_pay13 rowsIota colsIota) (k0_pay71 (View.ld (iblk m c 2 t) (Rect.unit ![256, 0] ![128, 256] inb_S512x256_S128x256_256_0)) (iblk m c 3 t) (iblk m c 4 t)) (View.ld (iblk m c 0 t) (Rect.unit ![256, 0] ![128, 256] inb_S512x256_S128x256_256_0)) (View.ld (iblk m c 1 t) (Rect.unit ![256, 0] ![128, 256] inb_S512x256_S128x256_256_0)) (k0_pay54 k0_pay5 (k0_pay13 rowsIota colsIota) (k0_pay47 (View.ld (iblk m c 2 t) (Rect.unit ![128, 0] ![128, 256] inb_S512x256_S128x256_128_0)) (iblk m c 3 t) (iblk m c 4 t)) (View.ld (iblk m c 0 t) (Rect.unit ![128, 0] ![128, 256] inb_S512x256_S128x256_128_0)) (View.ld (iblk m c 1 t) (Rect.unit ![128, 0] ![128, 256] inb_S512x256_S128x256_128_0)) (k0_pay30 k0_pay5 (k0_pay13 rowsIota colsIota) (k0_pay23 (View.ld (iblk m c 2 t) (Rect.unit ![0, 0] ![128, 256] inb_S512x256_S128x256_0_0)) (iblk m c 3 t) (iblk m c 4 t)) (View.ld (iblk m c 0 t) (Rect.unit ![0, 0] ![128, 256] inb_S512x256_S128x256_0_0)) (View.ld (iblk m c 1 t) (Rect.unit ![0, 0] ![128, 256] inb_S512x256_S128x256_0_0)) w)))) i = w i + up3 (fun (_ : Fin 1) => dw (dmix (ch D (cn t 0)) (ch (uu P) (cn t 0))) (vn (ch (vv P) (cn t 0)) G B) 0) i + up3 (fun (_ : Fin 1) => dw (dmix (ch D (cn t 1)) (ch (uu P) (cn t 1))) (vn (ch (vv P) (cn t 1)) G B) 0) i + up3 (fun (_ : Fin 1) => dw (dmix (ch D (cn t 2)) (ch (uu P) (cn t 2))) (vn (ch (vv P) (cn t 2)) G B) 0) i + up3 (fun (_ : Fin 1) => dw (dmix (ch D (cn t 3)) (ch (uu P) (cn t 3))) (vn (ch (vv P) (cn t 3)) G B) 0) i
    ∧ (k0_pay105 (k0_pay13 rowsIota colsIota) (k0_pay95 (View.ld (iblk m c 2 t) (Rect.unit ![384, 0] ![128, 256] inb_S512x256_S128x256_384_0)) (iblk m c 3 t) (iblk m c 4 t)) (k0_pay103 k0_pay6 (View.ld (iblk m c 0 t) (Rect.unit ![384, 0] ![128, 256] inb_S512x256_S128x256_384_0)) (View.ld (iblk m c 1 t) (Rect.unit ![384, 0] ![128, 256] inb_S512x256_S128x256_384_0))) (k0_pay81 (k0_pay13 rowsIota colsIota) (k0_pay71 (View.ld (iblk m c 2 t) (Rect.unit ![256, 0] ![128, 256] inb_S512x256_S128x256_256_0)) (iblk m c 3 t) (iblk m c 4 t)) (k0_pay79 k0_pay6 (View.ld (iblk m c 0 t) (Rect.unit ![256, 0] ![128, 256] inb_S512x256_S128x256_256_0)) (View.ld (iblk m c 1 t) (Rect.unit ![256, 0] ![128, 256] inb_S512x256_S128x256_256_0))) (k0_pay57 (k0_pay13 rowsIota colsIota) (k0_pay47 (View.ld (iblk m c 2 t) (Rect.unit ![128, 0] ![128, 256] inb_S512x256_S128x256_128_0)) (iblk m c 3 t) (iblk m c 4 t)) (k0_pay55 k0_pay6 (View.ld (iblk m c 0 t) (Rect.unit ![128, 0] ![128, 256] inb_S512x256_S128x256_128_0)) (View.ld (iblk m c 1 t) (Rect.unit ![128, 0] ![128, 256] inb_S512x256_S128x256_128_0))) (k0_pay33 (k0_pay13 rowsIota colsIota) (k0_pay23 (View.ld (iblk m c 2 t) (Rect.unit ![0, 0] ![128, 256] inb_S512x256_S128x256_0_0)) (iblk m c 3 t) (iblk m c 4 t)) (k0_pay31 k0_pay6 (View.ld (iblk m c 0 t) (Rect.unit ![0, 0] ![128, 256] inb_S512x256_S128x256_0_0)) (View.ld (iblk m c 1 t) (Rect.unit ![0, 0] ![128, 256] inb_S512x256_S128x256_0_0))) w)))) i = w i + up3 (fun (_ : Fin 1) => dw (dmix (ch D (cn t 0)) (ch (uu P) (cn t 0))) (vn (ch (vv P) (cn t 0)) G B) 1) i + up3 (fun (_ : Fin 1) => dw (dmix (ch D (cn t 1)) (ch (uu P) (cn t 1))) (vn (ch (vv P) (cn t 1)) G B) 1) i + up3 (fun (_ : Fin 1) => dw (dmix (ch D (cn t 2)) (ch (uu P) (cn t 2))) (vn (ch (vv P) (cn t 2)) G B) 1) i + up3 (fun (_ : Fin 1) => dw (dmix (ch D (cn t 3)) (ch (uu P) (cn t 3))) (vn (ch (vv P) (cn t 3)) G B) 1) i
    ∧ (k0_pay107 k0_pay7 (k0_pay13 rowsIota colsIota) (k0_pay95 (View.ld (iblk m c 2 t) (Rect.unit ![384, 0] ![128, 256] inb_S512x256_S128x256_384_0)) (iblk m c 3 t) (iblk m c 4 t)) (k0_pay99 (View.ld (iblk m c 0 t) (Rect.unit ![384, 0] ![128, 256] inb_S512x256_S128x256_384_0)) (View.ld (iblk m c 1 t) (Rect.unit ![384, 0] ![128, 256] inb_S512x256_S128x256_384_0))) (k0_pay83 k0_pay7 (k0_pay13 rowsIota colsIota) (k0_pay71 (View.ld (iblk m c 2 t) (Rect.unit ![256, 0] ![128, 256] inb_S512x256_S128x256_256_0)) (iblk m c 3 t) (iblk m c 4 t)) (k0_pay75 (View.ld (iblk m c 0 t) (Rect.unit ![256, 0] ![128, 256] inb_S512x256_S128x256_256_0)) (View.ld (iblk m c 1 t) (Rect.unit ![256, 0] ![128, 256] inb_S512x256_S128x256_256_0))) (k0_pay59 k0_pay7 (k0_pay13 rowsIota colsIota) (k0_pay47 (View.ld (iblk m c 2 t) (Rect.unit ![128, 0] ![128, 256] inb_S512x256_S128x256_128_0)) (iblk m c 3 t) (iblk m c 4 t)) (k0_pay51 (View.ld (iblk m c 0 t) (Rect.unit ![128, 0] ![128, 256] inb_S512x256_S128x256_128_0)) (View.ld (iblk m c 1 t) (Rect.unit ![128, 0] ![128, 256] inb_S512x256_S128x256_128_0))) (k0_pay35 k0_pay7 (k0_pay13 rowsIota colsIota) (k0_pay23 (View.ld (iblk m c 2 t) (Rect.unit ![0, 0] ![128, 256] inb_S512x256_S128x256_0_0)) (iblk m c 3 t) (iblk m c 4 t)) (k0_pay27 (View.ld (iblk m c 0 t) (Rect.unit ![0, 0] ![128, 256] inb_S512x256_S128x256_0_0)) (View.ld (iblk m c 1 t) (Rect.unit ![0, 0] ![128, 256] inb_S512x256_S128x256_0_0))) w)))) i = w i + up3 (fun (_ : Fin 1) => dw (dmix (ch D (cn t 0)) (ch (uu P) (cn t 0))) (vn (ch (vv P) (cn t 0)) G B) 2) i + up3 (fun (_ : Fin 1) => dw (dmix (ch D (cn t 1)) (ch (uu P) (cn t 1))) (vn (ch (vv P) (cn t 1)) G B) 2) i + up3 (fun (_ : Fin 1) => dw (dmix (ch D (cn t 2)) (ch (uu P) (cn t 2))) (vn (ch (vv P) (cn t 2)) G B) 2) i + up3 (fun (_ : Fin 1) => dw (dmix (ch D (cn t 3)) (ch (uu P) (cn t 3))) (vn (ch (vv P) (cn t 3)) G B) 2) i
    ∧ (k0_pay111 (k0_pay110 k0_pay8 (k0_pay13 rowsIota colsIota) (k0_pay95 (View.ld (iblk m c 2 t) (Rect.unit ![384, 0] ![128, 256] inb_S512x256_S128x256_384_0)) (iblk m c 3 t) (iblk m c 4 t)) (k0_pay99 (View.ld (iblk m c 0 t) (Rect.unit ![384, 0] ![128, 256] inb_S512x256_S128x256_384_0)) (View.ld (iblk m c 1 t) (Rect.unit ![384, 0] ![128, 256] inb_S512x256_S128x256_384_0))) (k0_pay87 (k0_pay86 k0_pay8 (k0_pay13 rowsIota colsIota) (k0_pay71 (View.ld (iblk m c 2 t) (Rect.unit ![256, 0] ![128, 256] inb_S512x256_S128x256_256_0)) (iblk m c 3 t) (iblk m c 4 t)) (k0_pay75 (View.ld (iblk m c 0 t) (Rect.unit ![256, 0] ![128, 256] inb_S512x256_S128x256_256_0)) (View.ld (iblk m c 1 t) (Rect.unit ![256, 0] ![128, 256] inb_S512x256_S128x256_256_0))) (k0_pay63 (k0_pay62 k0_pay8 (k0_pay13 rowsIota colsIota) (k0_pay47 (View.ld (iblk m c 2 t) (Rect.unit ![128, 0] ![128, 256] inb_S512x256_S128x256_128_0)) (iblk m c 3 t) (iblk m c 4 t)) (k0_pay51 (View.ld (iblk m c 0 t) (Rect.unit ![128, 0] ![128, 256] inb_S512x256_S128x256_128_0)) (View.ld (iblk m c 1 t) (Rect.unit ![128, 0] ![128, 256] inb_S512x256_S128x256_128_0))) (k0_pay39 (k0_pay38 k0_pay8 (k0_pay13 rowsIota colsIota) (k0_pay23 (View.ld (iblk m c 2 t) (Rect.unit ![0, 0] ![128, 256] inb_S512x256_S128x256_0_0)) (iblk m c 3 t) (iblk m c 4 t)) (k0_pay27 (View.ld (iblk m c 0 t) (Rect.unit ![0, 0] ![128, 256] inb_S512x256_S128x256_0_0)) (View.ld (iblk m c 1 t) (Rect.unit ![0, 0] ![128, 256] inb_S512x256_S128x256_0_0))) w)))))))) i = w i + up3 (fun (_ : Fin 1) => dw (dmix (ch D (cn t 0)) (ch (uu P) (cn t 0))) (vn (ch (vv P) (cn t 0)) G B) 3) i + up3 (fun (_ : Fin 1) => dw (dmix (ch D (cn t 1)) (ch (uu P) (cn t 1))) (vn (ch (vv P) (cn t 1)) G B) 3) i + up3 (fun (_ : Fin 1) => dw (dmix (ch D (cn t 2)) (ch (uu P) (cn t 2))) (vn (ch (vv P) (cn t 2)) G B) 3) i + up3 (fun (_ : Fin 1) => dw (dmix (ch D (cn t 3)) (ch (uu P) (cn t 3))) (vn (ch (vv P) (cn t 3)) G B) 3) i := by
  obtain ⟨⟨d0, d1, d2, d3⟩, ⟨u0, u1, u2, u3⟩, v0, v1, v2, v3⟩ := loads H t
  simp only [d0, d1, d2, d3, u0, u1, u2, u3, v0, v1, v2, v3, blk3 H, blk4 H, same, SguTile.masks, SguTile.vn_eq, SguTile.dmix_eq, SguTile.dw0, SguTile.dw1, SguTile.dw2, SguTile.dw3, and_self]

/-- The chunks' additions to the gain's gradient, the bias's and the mix's. -/
theorem rowSums (t : Fin cfg0.N) (w : Vec Ideal S1x256 .f32) (i : S1x256.Idx) (z : Vec Ideal S128x256 .f32) (j : S128x256.Idx) :
    (k0_pay112 (k0_pay93 (View.ld (iblk m c 2 t) (Rect.unit ![384, 0] ![128, 256] inb_S512x256_S128x256_384_0))) (k0_pay109 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay99 (View.ld (iblk m c 0 t) (Rect.unit ![384, 0] ![128, 256] inb_S512x256_S128x256_384_0)) (View.ld (iblk m c 1 t) (Rect.unit ![384, 0] ![128, 256] inb_S512x256_S128x256_384_0))) (k0_pay104 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![384, 0] ![128, 256] inb_S512x256_S128x256_384_0)) (View.ld (iblk m c 1 t) (Rect.unit ![384, 0] ![128, 256] inb_S512x256_S128x256_384_0)))) (k0_pay88 (k0_pay69 (View.ld (iblk m c 2 t) (Rect.unit ![256, 0] ![128, 256] inb_S512x256_S128x256_256_0))) (k0_pay85 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay75 (View.ld (iblk m c 0 t) (Rect.unit ![256, 0] ![128, 256] inb_S512x256_S128x256_256_0)) (View.ld (iblk m c 1 t) (Rect.unit ![256, 0] ![128, 256] inb_S512x256_S128x256_256_0))) (k0_pay80 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![256, 0] ![128, 256] inb_S512x256_S128x256_256_0)) (View.ld (iblk m c 1 t) (Rect.unit ![256, 0] ![128, 256] inb_S512x256_S128x256_256_0)))) (k0_pay64 (k0_pay45 (View.ld (iblk m c 2 t) (Rect.unit ![128, 0] ![128, 256] inb_S512x256_S128x256_128_0))) (k0_pay61 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay51 (View.ld (iblk m c 0 t) (Rect.unit ![128, 0] ![128, 256] inb_S512x256_S128x256_128_0)) (View.ld (iblk m c 1 t) (Rect.unit ![128, 0] ![128, 256] inb_S512x256_S128x256_128_0))) (k0_pay56 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![128, 0] ![128, 256] inb_S512x256_S128x256_128_0)) (View.ld (iblk m c 1 t) (Rect.unit ![128, 0] ![128, 256] inb_S512x256_S128x256_128_0)))) (k0_pay40 (k0_pay21 (View.ld (iblk m c 2 t) (Rect.unit ![0, 0] ![128, 256] inb_S512x256_S128x256_0_0))) (k0_pay37 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay27 (View.ld (iblk m c 0 t) (Rect.unit ![0, 0] ![128, 256] inb_S512x256_S128x256_0_0)) (View.ld (iblk m c 1 t) (Rect.unit ![0, 0] ![128, 256] inb_S512x256_S128x256_0_0))) (k0_pay32 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![0, 0] ![128, 256] inb_S512x256_S128x256_0_0)) (View.ld (iblk m c 1 t) (Rect.unit ![0, 0] ![128, 256] inb_S512x256_S128x256_0_0)))) w)))) i = w i + up2 (fun (_ : Fin 1) k => ∑ r, dvn W (dmix (ch D (cn t 0)) (ch (uu P) (cn t 0))) r k * xh (ch (vv P) (cn t 0) r) k) i + up2 (fun (_ : Fin 1) k => ∑ r, dvn W (dmix (ch D (cn t 1)) (ch (uu P) (cn t 1))) r k * xh (ch (vv P) (cn t 1) r) k) i + up2 (fun (_ : Fin 1) k => ∑ r, dvn W (dmix (ch D (cn t 2)) (ch (uu P) (cn t 2))) r k * xh (ch (vv P) (cn t 2) r) k) i + up2 (fun (_ : Fin 1) k => ∑ r, dvn W (dmix (ch D (cn t 3)) (ch (uu P) (cn t 3))) r k * xh (ch (vv P) (cn t 3) r) k) i
    ∧ (k0_pay113 (k0_pay109 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay99 (View.ld (iblk m c 0 t) (Rect.unit ![384, 0] ![128, 256] inb_S512x256_S128x256_384_0)) (View.ld (iblk m c 1 t) (Rect.unit ![384, 0] ![128, 256] inb_S512x256_S128x256_384_0))) (k0_pay104 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![384, 0] ![128, 256] inb_S512x256_S128x256_384_0)) (View.ld (iblk m c 1 t) (Rect.unit ![384, 0] ![128, 256] inb_S512x256_S128x256_384_0)))) (k0_pay89 (k0_pay85 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay75 (View.ld (iblk m c 0 t) (Rect.unit ![256, 0] ![128, 256] inb_S512x256_S128x256_256_0)) (View.ld (iblk m c 1 t) (Rect.unit ![256, 0] ![128, 256] inb_S512x256_S128x256_256_0))) (k0_pay80 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![256, 0] ![128, 256] inb_S512x256_S128x256_256_0)) (View.ld (iblk m c 1 t) (Rect.unit ![256, 0] ![128, 256] inb_S512x256_S128x256_256_0)))) (k0_pay65 (k0_pay61 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay51 (View.ld (iblk m c 0 t) (Rect.unit ![128, 0] ![128, 256] inb_S512x256_S128x256_128_0)) (View.ld (iblk m c 1 t) (Rect.unit ![128, 0] ![128, 256] inb_S512x256_S128x256_128_0))) (k0_pay56 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![128, 0] ![128, 256] inb_S512x256_S128x256_128_0)) (View.ld (iblk m c 1 t) (Rect.unit ![128, 0] ![128, 256] inb_S512x256_S128x256_128_0)))) (k0_pay41 (k0_pay37 k0_pay7 k0_pay8 (k0_pay11 rowsIota colsIota (View.ld (iblk m c 5 t) (Rect.unit ![2, 0, 0] ![1, 128, 128] inb_S4x128x128_S1x128x128_2_0_0))) (k0_pay12 rowsIota colsIota (View.ld (iblk m c 5 t) (Rect.unit ![3, 0, 0] ![1, 128, 128] inb_S4x128x128_S1x128x128_3_0_0))) (k0_pay27 (View.ld (iblk m c 0 t) (Rect.unit ![0, 0] ![128, 256] inb_S512x256_S128x256_0_0)) (View.ld (iblk m c 1 t) (Rect.unit ![0, 0] ![128, 256] inb_S512x256_S128x256_0_0))) (k0_pay32 k0_pay5 k0_pay6 (k0_pay9 (View.ld (iblk m c 5 t) (Rect.unit ![0, 0, 0] ![1, 128, 128] inb_S4x128x128_S1x128x128_0_0_0))) (k0_pay10 (View.ld (iblk m c 5 t) (Rect.unit ![1, 0, 0] ![1, 128, 128] inb_S4x128x128_S1x128x128_1_0_0))) (View.ld (iblk m c 0 t) (Rect.unit ![0, 0] ![128, 256] inb_S512x256_S128x256_0_0)) (View.ld (iblk m c 1 t) (Rect.unit ![0, 0] ![128, 256] inb_S512x256_S128x256_0_0)))) w)))) i = w i + up2 (fun (_ : Fin 1) k => ∑ r, dvn W (dmix (ch D (cn t 0)) (ch (uu P) (cn t 0))) r k) i + up2 (fun (_ : Fin 1) k => ∑ r, dvn W (dmix (ch D (cn t 1)) (ch (uu P) (cn t 1))) r k) i + up2 (fun (_ : Fin 1) k => ∑ r, dvn W (dmix (ch D (cn t 2)) (ch (uu P) (cn t 2))) r k) i + up2 (fun (_ : Fin 1) k => ∑ r, dvn W (dmix (ch D (cn t 3)) (ch (uu P) (cn t 3))) r k) i
    ∧ (k0_pay100 (View.ld (iblk m c 0 t) (Rect.unit ![384, 0] ![128, 256] inb_S512x256_S128x256_384_0)) (View.ld (iblk m c 1 t) (Rect.unit ![384, 0] ![128, 256] inb_S512x256_S128x256_384_0)) (k0_pay76 (View.ld (iblk m c 0 t) (Rect.unit ![256, 0] ![128, 256] inb_S512x256_S128x256_256_0)) (View.ld (iblk m c 1 t) (Rect.unit ![256, 0] ![128, 256] inb_S512x256_S128x256_256_0)) (k0_pay52 (View.ld (iblk m c 0 t) (Rect.unit ![128, 0] ![128, 256] inb_S512x256_S128x256_128_0)) (View.ld (iblk m c 1 t) (Rect.unit ![128, 0] ![128, 256] inb_S512x256_S128x256_128_0)) (k0_pay28 (View.ld (iblk m c 0 t) (Rect.unit ![0, 0] ![128, 256] inb_S512x256_S128x256_0_0)) (View.ld (iblk m c 1 t) (Rect.unit ![0, 0] ![128, 256] inb_S512x256_S128x256_0_0)) z)))) j = z j + up2 (dmix (ch D (cn t 0)) (ch (uu P) (cn t 0))) j + up2 (dmix (ch D (cn t 1)) (ch (uu P) (cn t 1))) j + up2 (dmix (ch D (cn t 2)) (ch (uu P) (cn t 2))) j + up2 (dmix (ch D (cn t 3)) (ch (uu P) (cn t 3))) j := by
  obtain ⟨⟨d0, d1, d2, d3⟩, ⟨u0, u1, u2, u3⟩, v0, v1, v2, v3⟩ := loads H t
  obtain ⟨n0, n1, n2, n3⟩ := dvns H t
  rw [n0, n1, n2, n3]
  simp only [d0, d1, d2, d3, u0, u1, u2, u3, v0, v1, v2, v3, same, SguTile.xh_eq, SguTile.sum_eq, SguTile.gain_eq, SguTile.shift_eq, and_self]

omit H in
/-- One matrix of a stack stands at its place. -/
theorem at_page (X : Fin 4 → Fin 128 → Fin 128 → ℝ) (b : Fin 4) (x : S1x128x128.Idx) (y : S4x128x128.Idx)
    (e0 : (y 0).val = b.val) (e1 : (y 1).val = (x 1).val) (e2 : (y 2).val = (x 2).val) : up3 (fun _ => X b) x = up3 X y := by
  have a : y 0 = b := Fin.ext e0
  have a1 : y 1 = x 1 := Fin.ext e1
  have a2 : y 2 = x 2 := Fin.ext e2
  show ((X b (x 1) (x 2) : ℝ) : EReal) = ((X (y 0) (y 1) (y 2) : ℝ) : EReal)
  rw [a, a1, a2]

omit H in
/-- One tile's part of the weights' gradient. -/
abbrev part (D : Fin 8192 → Fin 256 → ℝ) (P : Fin 8192 → Fin 2560 → ℝ) (G B : Fin 256 → ℝ) (t : Fin cfg0.N) (g : Fin 4) (a b : Fin 128) : ℝ :=
  ∑ q, dw (dmix (ch D (cn t q)) (ch (uu P) (cn t q))) (vn (ch (vv P) (cn t q)) G B) g a b

omit H in
/-- What stores older than a cover hold is not read. -/
theorem canon_drop (L' : List (View.Piece (Elt Ideal) S4x128x128 .f32)) : ∀ (L : List (View.Piece (Elt Ideal) S4x128x128 .f32)) (y : S4x128x128.Idx), (∃ p ∈ L, y ∈ p.1.set) →
    View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem p _ hm, View.canon_cons_of_not_mem p _ hm]
      refine canon_drop L' L y ?_
      obtain ⟨q, hq, hy'⟩ := hy
      rcases List.mem_cons.mp hq with rfl | hq
      · exact absurd hy' hm
      · exact ⟨q, hq, hy'⟩

/-- The four matrices a point stores: what was there and the tile's part. -/
theorem pagesStored (t : Fin cfg0.N) (v : Vec Ideal S4x128x128 .f32) (y : S4x128x128.Idx) (L : List (View.Piece (Elt Ideal) S4x128x128 .f32)) :
    View.canon (Val := Elt Ideal) (e := .f32)
      (⟨Rect.unit ![3, 0, 0] ![1, 128, 128] inb_S4x128x128_S1x128x128_3_0_0, (k0_pay111 (k0_pay110 k0_pay8 (k0_pay13 rowsIota colsIota) (k0_pay95 (View.ld (iblk m c 2 t) (Rect.unit ![384, 0] ![128, 256] inb_S512x256_S128x256_384_0)) (iblk m c 3 t) (iblk m c 4 t)) (k0_pay99 (View.ld (iblk m c 0 t) (Rect.unit ![384, 0] ![128, 256] inb_S512x256_S128x256_384_0)) (View.ld (iblk m c 1 t) (Rect.unit ![384, 0] ![128, 256] inb_S512x256_S128x256_384_0))) (k0_pay87 (k0_pay86 k0_pay8 (k0_pay13 rowsIota colsIota) (k0_pay71 (View.ld (iblk m c 2 t) (Rect.unit ![256, 0] ![128, 256] inb_S512x256_S128x256_256_0)) (iblk m c 3 t) (iblk m c 4 t)) (k0_pay75 (View.ld (iblk m c 0 t) (Rect.unit ![256, 0] ![128, 256] inb_S512x256_S128x256_256_0)) (View.ld (iblk m c 1 t) (Rect.unit ![256, 0] ![128, 256] inb_S512x256_S128x256_256_0))) (k0_pay63 (k0_pay62 k0_pay8 (k0_pay13 rowsIota colsIota) (k0_pay47 (View.ld (iblk m c 2 t) (Rect.unit ![128, 0] ![128, 256] inb_S512x256_S128x256_128_0)) (iblk m c 3 t) (iblk m c 4 t)) (k0_pay51 (View.ld (iblk m c 0 t) (Rect.unit ![128, 0] ![128, 256] inb_S512x256_S128x256_128_0)) (View.ld (iblk m c 1 t) (Rect.unit ![128, 0] ![128, 256] inb_S512x256_S128x256_128_0))) (k0_pay39 (k0_pay38 k0_pay8 (k0_pay13 rowsIota colsIota) (k0_pay23 (View.ld (iblk m c 2 t) (Rect.unit ![0, 0] ![128, 256] inb_S512x256_S128x256_0_0)) (iblk m c 3 t) (iblk m c 4 t)) (k0_pay27 (View.ld (iblk m c 0 t) (Rect.unit ![0, 0] ![128, 256] inb_S512x256_S128x256_0_0)) (View.ld (iblk m c 1 t) (Rect.unit ![0, 0] ![128, 256] inb_S512x256_S128x256_0_0))) (View.ld v (Rect.unit ![3, 0, 0] ![1, 128, 128] inb_S4x128x128_S1x128x128_3_0_0))))))))))⟩ :: ⟨Rect.unit ![2, 0, 0] ![1, 128, 128] inb_S4x128x128_S1x128x128_2_0_0, (k0_pay107 k0_pay7 (k0_pay13 rowsIota colsIota) (k0_pay95 (View.ld (iblk m c 2 t) (Rect.unit ![384, 0] ![128, 256] inb_S512x256_S128x256_384_0)) (iblk m c 3 t) (iblk m c 4 t)) (k0_pay99 (View.ld (iblk m c 0 t) (Rect.unit ![384, 0] ![128, 256] inb_S512x256_S128x256_384_0)) (View.ld (iblk m c 1 t) (Rect.unit ![384, 0] ![128, 256] inb_S512x256_S128x256_384_0))) (k0_pay83 k0_pay7 (k0_pay13 rowsIota colsIota) (k0_pay71 (View.ld (iblk m c 2 t) (Rect.unit ![256, 0] ![128, 256] inb_S512x256_S128x256_256_0)) (iblk m c 3 t) (iblk m c 4 t)) (k0_pay75 (View.ld (iblk m c 0 t) (Rect.unit ![256, 0] ![128, 256] inb_S512x256_S128x256_256_0)) (View.ld (iblk m c 1 t) (Rect.unit ![256, 0] ![128, 256] inb_S512x256_S128x256_256_0))) (k0_pay59 k0_pay7 (k0_pay13 rowsIota colsIota) (k0_pay47 (View.ld (iblk m c 2 t) (Rect.unit ![128, 0] ![128, 256] inb_S512x256_S128x256_128_0)) (iblk m c 3 t) (iblk m c 4 t)) (k0_pay51 (View.ld (iblk m c 0 t) (Rect.unit ![128, 0] ![128, 256] inb_S512x256_S128x256_128_0)) (View.ld (iblk m c 1 t) (Rect.unit ![128, 0] ![128, 256] inb_S512x256_S128x256_128_0))) (k0_pay35 k0_pay7 (k0_pay13 rowsIota colsIota) (k0_pay23 (View.ld (iblk m c 2 t) (Rect.unit ![0, 0] ![128, 256] inb_S512x256_S128x256_0_0)) (iblk m c 3 t) (iblk m c 4 t)) (k0_pay27 (View.ld (iblk m c 0 t) (Rect.unit ![0, 0] ![128, 256] inb_S512x256_S128x256_0_0)) (View.ld (iblk m c 1 t) (Rect.unit ![0, 0] ![128, 256] inb_S512x256_S128x256_0_0))) (View.ld v (Rect.unit ![2, 0, 0] ![1, 128, 128] inb_S4x128x128_S1x128x128_2_0_0))))))⟩ :: ⟨Rect.unit ![1, 0, 0] ![1, 128, 128] inb_S4x128x128_S1x128x128_1_0_0, (k0_pay105 (k0_pay13 rowsIota colsIota) (k0_pay95 (View.ld (iblk m c 2 t) (Rect.unit ![384, 0] ![128, 256] inb_S512x256_S128x256_384_0)) (iblk m c 3 t) (iblk m c 4 t)) (k0_pay103 k0_pay6 (View.ld (iblk m c 0 t) (Rect.unit ![384, 0] ![128, 256] inb_S512x256_S128x256_384_0)) (View.ld (iblk m c 1 t) (Rect.unit ![384, 0] ![128, 256] inb_S512x256_S128x256_384_0))) (k0_pay81 (k0_pay13 rowsIota colsIota) (k0_pay71 (View.ld (iblk m c 2 t) (Rect.unit ![256, 0] ![128, 256] inb_S512x256_S128x256_256_0)) (iblk m c 3 t) (iblk m c 4 t)) (k0_pay79 k0_pay6 (View.ld (iblk m c 0 t) (Rect.unit ![256, 0] ![128, 256] inb_S512x256_S128x256_256_0)) (View.ld (iblk m c 1 t) (Rect.unit ![256, 0] ![128, 256] inb_S512x256_S128x256_256_0))) (k0_pay57 (k0_pay13 rowsIota colsIota) (k0_pay47 (View.ld (iblk m c 2 t) (Rect.unit ![128, 0] ![128, 256] inb_S512x256_S128x256_128_0)) (iblk m c 3 t) (iblk m c 4 t)) (k0_pay55 k0_pay6 (View.ld (iblk m c 0 t) (Rect.unit ![128, 0] ![128, 256] inb_S512x256_S128x256_128_0)) (View.ld (iblk m c 1 t) (Rect.unit ![128, 0] ![128, 256] inb_S512x256_S128x256_128_0))) (k0_pay33 (k0_pay13 rowsIota colsIota) (k0_pay23 (View.ld (iblk m c 2 t) (Rect.unit ![0, 0] ![128, 256] inb_S512x256_S128x256_0_0)) (iblk m c 3 t) (iblk m c 4 t)) (k0_pay31 k0_pay6 (View.ld (iblk m c 0 t) (Rect.unit ![0, 0] ![128, 256] inb_S512x256_S128x256_0_0)) (View.ld (iblk m c 1 t) (Rect.unit ![0, 0] ![128, 256] inb_S512x256_S128x256_0_0))) (View.ld v (Rect.unit ![1, 0, 0] ![1, 128, 128] inb_S4x128x128_S1x128x128_1_0_0))))))⟩ :: ⟨Rect.unit ![0, 0, 0] ![1, 128, 128] inb_S4x128x128_S1x128x128_0_0_0, (k0_pay102 k0_pay5 (k0_pay13 rowsIota colsIota) (k0_pay95 (View.ld (iblk m c 2 t) (Rect.unit ![384, 0] ![128, 256] inb_S512x256_S128x256_384_0)) (iblk m c 3 t) (iblk m c 4 t)) (View.ld (iblk m c 0 t) (Rect.unit ![384, 0] ![128, 256] inb_S512x256_S128x256_384_0)) (View.ld (iblk m c 1 t) (Rect.unit ![384, 0] ![128, 256] inb_S512x256_S128x256_384_0)) (k0_pay78 k0_pay5 (k0_pay13 rowsIota colsIota) (k0_pay71 (View.ld (iblk m c 2 t) (Rect.unit ![256, 0] ![128, 256] inb_S512x256_S128x256_256_0)) (iblk m c 3 t) (iblk m c 4 t)) (View.ld (iblk m c 0 t) (Rect.unit ![256, 0] ![128, 256] inb_S512x256_S128x256_256_0)) (View.ld (iblk m c 1 t) (Rect.unit ![256, 0] ![128, 256] inb_S512x256_S128x256_256_0)) (k0_pay54 k0_pay5 (k0_pay13 rowsIota colsIota) (k0_pay47 (View.ld (iblk m c 2 t) (Rect.unit ![128, 0] ![128, 256] inb_S512x256_S128x256_128_0)) (iblk m c 3 t) (iblk m c 4 t)) (View.ld (iblk m c 0 t) (Rect.unit ![128, 0] ![128, 256] inb_S512x256_S128x256_128_0)) (View.ld (iblk m c 1 t) (Rect.unit ![128, 0] ![128, 256] inb_S512x256_S128x256_128_0)) (k0_pay30 k0_pay5 (k0_pay13 rowsIota colsIota) (k0_pay23 (View.ld (iblk m c 2 t) (Rect.unit ![0, 0] ![128, 256] inb_S512x256_S128x256_0_0)) (iblk m c 3 t) (iblk m c 4 t)) (View.ld (iblk m c 0 t) (Rect.unit ![0, 0] ![128, 256] inb_S512x256_S128x256_0_0)) (View.ld (iblk m c 1 t) (Rect.unit ![0, 0] ![128, 256] inb_S512x256_S128x256_0_0)) (View.ld v (Rect.unit ![0, 0, 0] ![1, 128, 128] inb_S4x128x128_S1x128x128_0_0_0))))))⟩ :: L) y
      = v y + up3 (part D P G B t) y := by
  have hs : up3 (part D P G B t) y = up3 (dw (dmix (ch D (cn t 0)) (ch (uu P) (cn t 0))) (vn (ch (vv P) (cn t 0)) G B)) y + up3 (dw (dmix (ch D (cn t 1)) (ch (uu P) (cn t 1))) (vn (ch (vv P) (cn t 1)) G B)) y + up3 (dw (dmix (ch D (cn t 2)) (ch (uu P) (cn t 2))) (vn (ch (vv P) (cn t 2)) G B)) y + up3 (dw (dmix (ch D (cn t 3)) (ch (uu P) (cn t 3))) (vn (ch (vv P) (cn t 3)) G B)) y := by
    unfold up3 part
    rw [Fin.sum_univ_four, EReal.coe_add, EReal.coe_add, EReal.coe_add]
  rw [hs, ← add_assoc, ← add_assoc, ← add_assoc]
  refine (canon_drop L [_, _, _, _] y (View.cover_of_tiled_head _ _ _ (by rfl) y)).trans ?_
  canon_tiles x e
  · refine (pageSums H t _ x).2.2.2.trans ?_
    rw [at_page _ 3 x y (by show _ = 3; omega) (by omega) (by omega), at_page _ 3 x y (by show _ = 3; omega) (by omega) (by omega), at_page _ 3 x y (by show _ = 3; omega) (by omega) (by omega), at_page _ 3 x y (by show _ = 3; omega) (by omega) (by omega)]
    refine congrArg (fun z : EReal => z + _ + _ + _ + _) ?_
    exact View.ld_unit_apply_of _ _ _ _ _ _ fun ax => match ax with | ⟨0, _⟩ => by show (y 0).val = 3 + (x 0).val; omega | ⟨1, _⟩ => e1.trans (Nat.zero_add _).symm | ⟨2, _⟩ => e2.trans (Nat.zero_add _).symm
  · refine (pageSums H t _ x).2.2.1.trans ?_
    rw [at_page _ 2 x y (by show _ = 2; omega) (by omega) (by omega), at_page _ 2 x y (by show _ = 2; omega) (by omega) (by omega), at_page _ 2 x y (by show _ = 2; omega) (by omega) (by omega), at_page _ 2 x y (by show _ = 2; omega) (by omega) (by omega)]
    refine congrArg (fun z : EReal => z + _ + _ + _ + _) ?_
    exact View.ld_unit_apply_of _ _ _ _ _ _ fun ax => match ax with | ⟨0, _⟩ => by show (y 0).val = 2 + (x 0).val; omega | ⟨1, _⟩ => e1.trans (Nat.zero_add _).symm | ⟨2, _⟩ => e2.trans (Nat.zero_add _).symm
  · refine (pageSums H t _ x).2.1.trans ?_
    rw [at_page _ 1 x y (by show _ = 1; omega) (by omega) (by omega), at_page _ 1 x y (by show _ = 1; omega) (by omega) (by omega), at_page _ 1 x y (by show _ = 1; omega) (by omega) (by omega), at_page _ 1 x y (by show _ = 1; omega) (by omega) (by omega)]
    refine congrArg (fun z : EReal => z + _ + _ + _ + _) ?_
    exact View.ld_unit_apply_of _ _ _ _ _ _ fun ax => match ax with | ⟨0, _⟩ => by show (y 0).val = 1 + (x 0).val; omega | ⟨1, _⟩ => e1.trans (Nat.zero_add _).symm | ⟨2, _⟩ => e2.trans (Nat.zero_add _).symm
  · refine (pageSums H t _ x).1.trans ?_
    rw [at_page _ 0 x y (by show _ = 0; omega) (by omega) (by omega), at_page _ 0 x y (by show _ = 0; omega) (by omega) (by omega), at_page _ 0 x y (by show _ = 0; omega) (by omega) (by omega), at_page _ 0 x y (by show _ = 0; omega) (by omega) (by omega)]
    refine congrArg (fun z : EReal => z + _ + _ + _ + _) ?_
    exact View.ld_unit_apply_of _ _ _ _ _ _ fun ax => match ax with | ⟨0, _⟩ => by show (y 0).val = 0 + (x 0).val; omega | ⟨1, _⟩ => e1.trans (Nat.zero_add _).symm | ⟨2, _⟩ => e2.trans (Nat.zero_add _).symm

/-- The gradient of the weights. -/
theorem final8 : (dats m 0 c).arrAt 8 cfg0.N = up3 (dwAll D P G B) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0) (fun t => up3 (part D P G B t))
    (fun t h y => by
      rw [outsAt0_A m c t h (by omega)]
      frame_out
      simp (disch := first | rfl | decide) only [↓View.readCov_skip, ↓View.readCov_cons_toLoadRect, ↓View.readCov_fill]
      exact (pagesStored H t _ y _).trans (congrArg (· + _) (SguTile.zeroPages y)))
    (fun t h y => by
      by_cases h' : t.val % 16 = 15
      · rw [outsAt0_C m c t h h']
        frame_out
        simp (disch := first | rfl | decide) only [↓View.readCov_skip, ↓View.readCov_cons_toLoadRect]
        exact pagesStored H t _ y _
      · rw [outsAt0_B m c t h h']
        frame_out
        simp (disch := first | rfl | decide) only [↓View.readCov_skip, ↓View.readCov_cons_toLoadRect]
        exact pagesStored H t _ y _)
    (le_of_eq N_0) t0_15 rfl j, zero_add]
  exact tile_sum (congrArg (· * 4) N_0) cn (fun _ _ => rfl) fun n => dw (dmix (ch D n) (ch (uu P) n)) (vn (ch (vv P) n) G B) (j 0) (j 1) (j 2)

omit H in
/-- The tiles' sums over their chunks' rows are the sum over all rows. -/
theorem all_rows (f : Fin 8192 → ℝ) : ∑ t : Fin cfg0.N, ((∑ q, ∑ r, f (rowOf (cn t q) r) : ℝ) : EReal) = ((∑ r, f r : ℝ) : EReal) :=
  (tile_sum (congrArg (· * 4) N_0) cn (fun _ _ => rfl) fun n => ∑ r, f (rowOf n r)).trans ((coe_sum _ _).symm.trans (tile_sum (N := 64) (n := 128) rfl rowOf (fun _ _ => rfl) f))

omit H in
/-- A sum of four, one by one. -/
theorem four (w : EReal) (a : Fin 4 → ℝ) : w + ((∑ q, a q : ℝ) : EReal) = w + (a 0 : EReal) + (a 1 : EReal) + (a 2 : EReal) + (a 3 : EReal) := by
  rw [Fin.sum_univ_four, EReal.coe_add, EReal.coe_add, EReal.coe_add, add_assoc, add_assoc, add_assoc, add_assoc, add_assoc]

/-- The gradient of the gain. -/
theorem final10 : (dats m 0 c).arrAt 10 cfg0.N = up2 fun _ k => ∑ r, xh (vv P r) k * dnRow D P W r k := by
  refine (dats m 0 c).arrAt_eq_of_after_last 10 t0_15 (by decide +kernel) _ fun j => ?_
  blk_simp
  have hs : ∀ (t : Fin cfg0.N) (i : S1x256.Idx) (w : EReal), w + up2 (fun (_ : Fin 1) k => ∑ q, ∑ r, dnRow D P W (rowOf (cn t q) r) k * xh (vv P (rowOf (cn t q) r)) k) i
      = w + up2 (fun (_ : Fin 1) k => ∑ r, dvn W (dmix (ch D (cn t 0)) (ch (uu P) (cn t 0))) r k * xh (ch (vv P) (cn t 0) r) k) i
        + up2 (fun (_ : Fin 1) k => ∑ r, dvn W (dmix (ch D (cn t 1)) (ch (uu P) (cn t 1))) r k * xh (ch (vv P) (cn t 1) r) k) i
        + up2 (fun (_ : Fin 1) k => ∑ r, dvn W (dmix (ch D (cn t 2)) (ch (uu P) (cn t 2))) r k * xh (ch (vv P) (cn t 2) r) k) i
        + up2 (fun (_ : Fin 1) k => ∑ r, dvn W (dmix (ch D (cn t 3)) (ch (uu P) (cn t 3))) r k * xh (ch (vv P) (cn t 3) r) k) i := fun t i w => by
    simp only [dn_rows]
    exact four w fun q => ∑ r, dnRow D P W (rowOf (cn t q) r) (i 1) * xh (vv P (rowOf (cn t q) r)) (i 1)
  rw [after0_10, Pipeline.eq_sum_fin_of_reset_step_apply_last (fun n h => (outsAt0 m c n h).2.2.2.1) 16 (fun _ => 0)
    (fun t => up2 (fun (_ : Fin 1) k => ∑ q, ∑ r, dnRow D P W (rowOf (cn t q) r) k * xh (vv P (rowOf (cn t q) r)) k))
    (fun t h y => by
      rw [outsAt0_A m c t h (by omega), hs]
      frame_out
      refine (rowSums H t _ y (fun _ => 0) (ValueIdx.ix2 0 0)).1.trans ?_
      rw [SguTile.zeros.1]
      rfl)
    (fun t h y => by
      rw [hs]
      by_cases h' : t.val % 16 = 15
      · rw [outsAt0_C m c t h h']
        frame_out
        exact (rowSums H t _ y (fun _ => 0) (ValueIdx.ix2 0 0)).1
      · rw [outsAt0_B m c t h h']
        frame_out
        exact (rowSums H t _ y (fun _ => 0) (ValueIdx.ix2 0 0)).1)
    (le_of_eq N_0) t0_15 rfl j, zero_add]
  exact (all_rows fun r => dnRow D P W r (j 1) * xh (vv P r) (j 1)).trans (congrArg _ (Finset.sum_congr rfl fun r _ => mul_comm _ _))

/-- The gradient of the shift. -/
theorem final11 : (dats m 0 c).arrAt 11 cfg0.N = up2 fun _ k => ∑ r, dnRow D P W r k := by
  refine (dats m 0 c).arrAt_eq_of_after_last 11 t0_15 (by decide +kernel) _ fun j => ?_
  blk_simp
  have hs : ∀ (t : Fin cfg0.N) (i : S1x256.Idx) (w : EReal), w + up2 (fun (_ : Fin 1) k => ∑ q, ∑ r, dnRow D P W (rowOf (cn t q) r) k) i
      = w + up2 (fun (_ : Fin 1) k => ∑ r, dvn W (dmix (ch D (cn t 0)) (ch (uu P) (cn t 0))) r k) i
        + up2 (fun (_ : Fin 1) k => ∑ r, dvn W (dmix (ch D (cn t 1)) (ch (uu P) (cn t 1))) r k) i
        + up2 (fun (_ : Fin 1) k => ∑ r, dvn W (dmix (ch D (cn t 2)) (ch (uu P) (cn t 2))) r k) i
        + up2 (fun (_ : Fin 1) k => ∑ r, dvn W (dmix (ch D (cn t 3)) (ch (uu P) (cn t 3))) r k) i := fun t i w => by
    simp only [dn_rows]
    exact four w fun q => ∑ r, dnRow D P W (rowOf (cn t q) r) (i 1)
  rw [after0_11, Pipeline.eq_sum_fin_of_reset_step_apply_last (fun n h => (outsAt0 m c n h).2.2.2.2.1) 16 (fun _ => 0)
    (fun t => up2 (fun (_ : Fin 1) k => ∑ q, ∑ r, dnRow D P W (rowOf (cn t q) r) k))
    (fun t h y => by
      rw [outsAt0_A m c t h (by omega), hs]
      frame_out
      refine (rowSums H t _ y (fun _ => 0) (ValueIdx.ix2 0 0)).2.1.trans ?_
      rw [SguTile.zeros.2.1]
      rfl)
    (fun t h y => by
      rw [hs]
      by_cases h' : t.val % 16 = 15
      · rw [outsAt0_C m c t h h']
        frame_out
        exact (rowSums H t _ y (fun _ => 0) (ValueIdx.ix2 0 0)).2.1
      · rw [outsAt0_B m c t h h']
        frame_out
        exact (rowSums H t _ y (fun _ => 0) (ValueIdx.ix2 0 0)).2.1)
    (le_of_eq N_0) t0_15 rfl j, zero_add]
  exact all_rows fun r => dnRow D P W r (j 1)

/-- What the mix's gradient sums to, place by place in the chunks. -/
theorem carried (t : Fin cfg0.N) (ht : t.val = 15) (j : S128x256.Idx) :
    (outsAt0 m c t.val t.isLt).2.2.2.2.2 j = up2 (fun r k => ∑ n, dmix (ch D n) (ch (uu P) n) r k) j := by
  have hs : ∀ (t : Fin cfg0.N) (i : S128x256.Idx) (w : EReal), w + up2 (fun r k => ∑ q, dmix (ch D (cn t q)) (ch (uu P) (cn t q)) r k) i
      = w + up2 (dmix (ch D (cn t 0)) (ch (uu P) (cn t 0))) i + up2 (dmix (ch D (cn t 1)) (ch (uu P) (cn t 1))) i + up2 (dmix (ch D (cn t 2)) (ch (uu P) (cn t 2))) i
        + up2 (dmix (ch D (cn t 3)) (ch (uu P) (cn t 3))) i := fun t i w =>
    four w fun q => dmix (ch D (cn t q)) (ch (uu P) (cn t q)) (i 0) (i 1)
  rw [Pipeline.eq_sum_fin_of_reset_step_apply_last (fun n h => (outsAt0 m c n h).2.2.2.2.2) 16 (fun _ => 0)
    (fun t => up2 (fun r k => ∑ q, dmix (ch D (cn t q)) (ch (uu P) (cn t q)) r k))
    (fun t h y => by
      rw [outsAt0_A m c t h (by omega), hs]
      frame_out
      refine (rowSums H t (fun _ => 0) (ValueIdx.ix2 0 0) _ y).2.2.trans ?_
      rw [SguTile.zeros.2.2]
      rfl)
    (fun t h y => by
      rw [hs]
      by_cases h' : t.val % 16 = 15
      · rw [outsAt0_C m c t h h']
        frame_out
        rw [read_unread_whole]
        exact (rowSums H t (fun _ => 0) (ValueIdx.ix2 0 0) _ y).2.2
      · rw [outsAt0_B m c t h h']
        frame_out
        rw [read_unread_whole]
        exact (rowSums H t (fun _ => 0) (ValueIdx.ix2 0 0) _ y).2.2)
    (le_of_eq N_0) t (by rw [ht]; exact N_0.symm) j, zero_add]
  exact tile_sum (congrArg (· * 4) N_0) cn (fun _ _ => rfl) fun n => dmix (ch D n) (ch (uu P) n) (j 0) (j 1)

omit H in
/-- The four columns of the mix's bias's gradient, from the sum `w` of the mix's gradient. -/
theorem bias_cols (t : Fin cfg0.N) (w : Vec Ideal S128x256 .f32) (hw : (k0_pay100 (View.ld (iblk m c 0 t) (Rect.unit ![384, 0] ![128, 256] inb_S512x256_S128x256_384_0)) (View.ld (iblk m c 1 t) (Rect.unit ![384, 0] ![128, 256] inb_S512x256_S128x256_384_0)) (k0_pay76 (View.ld (iblk m c 0 t) (Rect.unit ![256, 0] ![128, 256] inb_S512x256_S128x256_256_0)) (View.ld (iblk m c 1 t) (Rect.unit ![256, 0] ![128, 256] inb_S512x256_S128x256_256_0)) (k0_pay52 (View.ld (iblk m c 0 t) (Rect.unit ![128, 0] ![128, 256] inb_S512x256_S128x256_128_0)) (View.ld (iblk m c 1 t) (Rect.unit ![128, 0] ![128, 256] inb_S512x256_S128x256_128_0)) (k0_pay28 (View.ld (iblk m c 0 t) (Rect.unit ![0, 0] ![128, 256] inb_S512x256_S128x256_0_0)) (View.ld (iblk m c 1 t) (Rect.unit ![0, 0] ![128, 256] inb_S512x256_S128x256_0_0)) w)))) = up2 (fun r k => ∑ n, dmix (ch D n) (ch (uu P) n) r k)) (y : S128x4.Idx) :
    View.canon (Val := Elt Ideal) (e := .f32)
      [⟨Rect.unit ![0, 3] ![128, 1] inb_S128x4_S128x1_0_3, k0_pay4 k0_pay8 (k0_pay100 (View.ld (iblk m c 0 t) (Rect.unit ![384, 0] ![128, 256] inb_S512x256_S128x256_384_0)) (View.ld (iblk m c 1 t) (Rect.unit ![384, 0] ![128, 256] inb_S512x256_S128x256_384_0)) (k0_pay76 (View.ld (iblk m c 0 t) (Rect.unit ![256, 0] ![128, 256] inb_S512x256_S128x256_256_0)) (View.ld (iblk m c 1 t) (Rect.unit ![256, 0] ![128, 256] inb_S512x256_S128x256_256_0)) (k0_pay52 (View.ld (iblk m c 0 t) (Rect.unit ![128, 0] ![128, 256] inb_S512x256_S128x256_128_0)) (View.ld (iblk m c 1 t) (Rect.unit ![128, 0] ![128, 256] inb_S512x256_S128x256_128_0)) (k0_pay28 (View.ld (iblk m c 0 t) (Rect.unit ![0, 0] ![128, 256] inb_S512x256_S128x256_0_0)) (View.ld (iblk m c 1 t) (Rect.unit ![0, 0] ![128, 256] inb_S512x256_S128x256_0_0)) w))))⟩, ⟨Rect.unit ![0, 2] ![128, 1] inb_S128x4_S128x1_0_2, k0_pay3 k0_pay7 (k0_pay100 (View.ld (iblk m c 0 t) (Rect.unit ![384, 0] ![128, 256] inb_S512x256_S128x256_384_0)) (View.ld (iblk m c 1 t) (Rect.unit ![384, 0] ![128, 256] inb_S512x256_S128x256_384_0)) (k0_pay76 (View.ld (iblk m c 0 t) (Rect.unit ![256, 0] ![128, 256] inb_S512x256_S128x256_256_0)) (View.ld (iblk m c 1 t) (Rect.unit ![256, 0] ![128, 256] inb_S512x256_S128x256_256_0)) (k0_pay52 (View.ld (iblk m c 0 t) (Rect.unit ![128, 0] ![128, 256] inb_S512x256_S128x256_128_0)) (View.ld (iblk m c 1 t) (Rect.unit ![128, 0] ![128, 256] inb_S512x256_S128x256_128_0)) (k0_pay28 (View.ld (iblk m c 0 t) (Rect.unit ![0, 0] ![128, 256] inb_S512x256_S128x256_0_0)) (View.ld (iblk m c 1 t) (Rect.unit ![0, 0] ![128, 256] inb_S512x256_S128x256_0_0)) w))))⟩, ⟨Rect.unit ![0, 1] ![128, 1] inb_S128x4_S128x1_0_1, k0_pay2 k0_pay6 (k0_pay100 (View.ld (iblk m c 0 t) (Rect.unit ![384, 0] ![128, 256] inb_S512x256_S128x256_384_0)) (View.ld (iblk m c 1 t) (Rect.unit ![384, 0] ![128, 256] inb_S512x256_S128x256_384_0)) (k0_pay76 (View.ld (iblk m c 0 t) (Rect.unit ![256, 0] ![128, 256] inb_S512x256_S128x256_256_0)) (View.ld (iblk m c 1 t) (Rect.unit ![256, 0] ![128, 256] inb_S512x256_S128x256_256_0)) (k0_pay52 (View.ld (iblk m c 0 t) (Rect.unit ![128, 0] ![128, 256] inb_S512x256_S128x256_128_0)) (View.ld (iblk m c 1 t) (Rect.unit ![128, 0] ![128, 256] inb_S512x256_S128x256_128_0)) (k0_pay28 (View.ld (iblk m c 0 t) (Rect.unit ![0, 0] ![128, 256] inb_S512x256_S128x256_0_0)) (View.ld (iblk m c 1 t) (Rect.unit ![0, 0] ![128, 256] inb_S512x256_S128x256_0_0)) w))))⟩, ⟨Rect.unit ![0, 0] ![128, 1] inb_S128x4_S128x1_0_0, k0_pay1 k0_pay5 (k0_pay100 (View.ld (iblk m c 0 t) (Rect.unit ![384, 0] ![128, 256] inb_S512x256_S128x256_384_0)) (View.ld (iblk m c 1 t) (Rect.unit ![384, 0] ![128, 256] inb_S512x256_S128x256_384_0)) (k0_pay76 (View.ld (iblk m c 0 t) (Rect.unit ![256, 0] ![128, 256] inb_S512x256_S128x256_256_0)) (View.ld (iblk m c 1 t) (Rect.unit ![256, 0] ![128, 256] inb_S512x256_S128x256_256_0)) (k0_pay52 (View.ld (iblk m c 0 t) (Rect.unit ![128, 0] ![128, 256] inb_S512x256_S128x256_128_0)) (View.ld (iblk m c 1 t) (Rect.unit ![128, 0] ![128, 256] inb_S512x256_S128x256_128_0)) (k0_pay28 (View.ld (iblk m c 0 t) (Rect.unit ![0, 0] ![128, 256] inb_S512x256_S128x256_0_0)) (View.ld (iblk m c 1 t) (Rect.unit ![0, 0] ![128, 256] inb_S512x256_S128x256_0_0)) w))))⟩] y = up2 (dbsAll D P) y := by
  rw [hw, SguTile.masks.1, SguTile.masks.2.1, SguTile.masks.2.2.1, SguTile.masks.2.2.2, (SguTile.dbs_eq _).1, (SguTile.dbs_eq _).2.1, (SguTile.dbs_eq _).2.2.1, (SguTile.dbs_eq _).2.2.2]
  have at_col : ∀ (g : Fin 4) (x : (⟨2, ![128, 1]⟩ : Shape).Idx), (y 0).val = (x 0).val → (y 1).val = g.val →
      up2 (fun (s : Fin 128) (_ : Fin 1) => dbs (fun r k => ∑ n, dmix (ch D n) (ch (uu P) n) r k) s g) x = up2 (dbsAll D P) y := fun g x e0 e1 => by
    have a0 : y 0 = x 0 := Fin.ext e0
    have a1 : y 1 = g := Fin.ext e1
    refine congrArg (fun z : ℝ => (z : EReal)) ?_
    show _ = dbsAll D P (y 0) (y 1)
    rw [a0, a1]
    exact Finset.sum_comm
  canon_tiles x e
  · exact at_col 3 x (by omega) (by have := (x 1).isLt; show _ = 3; omega)
  · exact at_col 2 x (by omega) (by have := (x 1).isLt; show _ = 2; omega)
  · exact at_col 1 x (by omega) (by have := (x 1).isLt; show _ = 1; omega)
  · exact at_col 0 x (by omega) (by have := (x 1).isLt; show _ = 0; omega)

/-- The gradient of the mix's bias, stored by the last point. -/
theorem last9 (t : Fin cfg0.N) (ht : t.val = 15) (y : S128x4.Idx) : (outsAt0 m c t.val t.isLt).2.2.1 y = up2 (dbsAll D P) y := by
  have hc : (k0_pay100 (View.ld (iblk m c 0 t) (Rect.unit ![384, 0] ![128, 256] inb_S512x256_S128x256_384_0)) (View.ld (iblk m c 1 t) (Rect.unit ![384, 0] ![128, 256] inb_S512x256_S128x256_384_0)) (k0_pay76 (View.ld (iblk m c 0 t) (Rect.unit ![256, 0] ![128, 256] inb_S512x256_S128x256_256_0)) (View.ld (iblk m c 1 t) (Rect.unit ![256, 0] ![128, 256] inb_S512x256_S128x256_256_0)) (k0_pay52 (View.ld (iblk m c 0 t) (Rect.unit ![128, 0] ![128, 256] inb_S512x256_S128x256_128_0)) (View.ld (iblk m c 1 t) (Rect.unit ![128, 0] ![128, 256] inb_S512x256_S128x256_128_0)) (k0_pay28 (View.ld (iblk m c 0 t) (Rect.unit ![0, 0] ![128, 256] inb_S512x256_S128x256_0_0)) (View.ld (iblk m c 1 t) (Rect.unit ![0, 0] ![128, 256] inb_S512x256_S128x256_0_0)) (outsAt0 m c (t.val - 1) (Nat.lt_of_le_of_lt (Nat.sub_le _ _) t.isLt)).2.2.2.2.2)))) = up2 (fun r k => ∑ n, dmix (ch D n) (ch (uu P) n) r k) := funext fun j => by
    refine Eq.trans (Eq.symm ?_) (carried H t ht j)
    rw [outsAt0_C m c t (by omega) (by omega)]
    frame_out
    rw [read_unread_whole]
    rfl
  rw [outsAt0_C m c t (by omega) (by omega)]
  frame_out
  rw [read_unread_whole]
  exact bias_cols t _ hc y

/-- The gradient of the mix's bias. -/
theorem final9 : (dats m 0 c).arrAt 9 cfg0.N = up2 (dbsAll D P) := by
  refine (dats m 0 c).arrAt_eq_of_after_last 9 t0_15 (by decide +kernel) _ fun j => ?_
  blk_simp
  rw [after0_9]
  exact last9 H t0_15 rfl j

end

end Cert.SguFinal

end
-- ==== Proof.SguClaim.lean ====
/- The gradient of the spatial gating: the two claims of its pair that no generated theorem states. -/
module

public import proofs.«01_k».proof.Defs
public import proofs.«01_k».proof.Proof.SguFinal
public import proofs.«01_k».proof.Proof.Gen.Sgu.Frame
public import proofs.«01_k».proof.Proof.Gen.SguIdeal.Frame
public import proofs.«01_k».proof.Proof.Gen.SguRefIdeal.Run
public import proofs.«01_k».proof.Proof.Gen.Pre_sgu_finite

@[expose] public section

set_option maxRecDepth 16384
set_option maxHeartbeats 1000000

noncomputable section

namespace Cert.SguClaim

open Idealize.ShloMosaic Idealize.SL.Sem Cert.Lift

/-- The precondition says that the six arguments hold real numbers only. -/
theorem real_args (a0 : Vec Ideal ⟨2, ![8192, 256]⟩ .f32) (a1 : Vec Ideal ⟨2, ![8192, 2560]⟩ .f32) (a2 a3 : Vec Ideal ⟨1, ![256]⟩ .f32) (a4 : Vec Ideal ⟨3, ![4, 128, 128]⟩ .f32)
    (a5 : Vec Ideal ⟨2, ![4, 128]⟩ .f32) (j : (⟨0, ![]⟩ : Shape).Idx) (h : Cert.Pre_sgu_finite.fn (F := Ideal) a0 a1 a2 a3 a4 a5 j = 1#1) :
    (∃ D, a0 = up2 D) ∧ (∃ P, a1 = up2 P) ∧ (∃ G, a2 = up1 G) ∧ (∃ B, a3 = up1 B) ∧ (∃ W, a4 = up3 W) ∧ ∃ S, a5 = up2 S := by
  dsimp only [Cert.Pre_sgu_finite.fn, Cert.Pre_sgu_finite.fn_part1] at h
  obtain ⟨h, h5⟩ := and_one _ _ _ h
  obtain ⟨h, h4⟩ := and_one _ _ _ h
  obtain ⟨h, h3⟩ := and_one _ _ _ h
  obtain ⟨h, h2⟩ := and_one _ _ _ h
  obtain ⟨h0, h1⟩ := and_one _ _ _ h
  exact ⟨real2 _ _ _ _ _ _ h0, real2 _ _ _ _ _ _ h1, real1 _ _ _ _ _ _ h2, real1 _ _ _ _ _ _ h3, real3 _ _ _ _ _ _ h4, real2 _ _ _ _ _ _ h5⟩

/-- The reference runs to the end from every memory, and declares no semaphore. -/
theorem frame_ref : Cert.quiescent_SguRefIdeal := fun m ρ _ =>
  (θ_run Cert.SguRefIdeal.defs _ _).mono (fun r h => ⟨fun c => (h c).2.2.2.2.2, sem_eq_zero_of_no_sems (by decide) r.2⟩)
    (Cert.SguRefIdeal.Value.run (F := Ideal) m ρ)

/-- Over the reals the kernel's five results are the derivative of the spatial gating. -/
theorem value : Cert.algebraic_SguIdeal_SguRefIdeal_pre_sgu_finite := by
  pair_intro
  all_goals have hreal := fun c => real_args _ _ _ _ _ _ _ (congrFun (hpre c) ValueIdx.ix0)
  run_from Cert.SguIdeal.Value.run_blocks m g
  run_from Cert.SguRefIdeal.Value.run m' g'
  all_goals
    obtain ⟨⟨D, h0⟩, ⟨P, h1⟩, ⟨G, h2⟩, ⟨B, h3⟩, ⟨W, h4⟩, S, h5⟩ := hreal c
    have H : SguFinal.Holds m c D P G B W S := ⟨h0, h1, h2, h3, h4, h5⟩
    obtain ⟨e0, e1, e2, e3, e4, e5⟩ := hagree c
  · rw [SguRefIdeal.Read.val_main_v100_eq, e0, e1, e2, e3, e4, e5, h0, h1, h2, h3, h4, h5]
    exact (SguRef.d_eq D P G B W S).trans (SguFinal.final7 H).symm
  · rw [SguRefIdeal.Read.val_main_v64_eq, h0, h1, h2, h3]
    exact (SguRef.dw_eq D P G B).trans (SguFinal.final8 H).symm
  · rw [SguRefIdeal.Read.val_main_v101_eq, h0, h1]
    exact (SguRef.dbs_eq D P).trans (SguFinal.final9 H).symm
  · rw [SguRefIdeal.Read.val_main_v102_eq, h0, h1, h4]
    exact (SguRef.gg_eq D P W).trans (SguFinal.final10 H).symm
  · rw [SguRefIdeal.Read.val_main_v103_eq, h0, h1, h4]
    exact (SguRef.gb_eq D P W).trans (SguFinal.final11 H).symm

end Cert.SguClaim

end
-- ==== Proof.LiftMask.lean ====
/- Arrays of reals with entries hidden at minus infinity, as a softmax over some of the keys has them. -/
module

public import proofs.«01_k».proof.Proof.Lift3

@[expose] public section

noncomputable section

namespace Cert.Lift

open Idealize.ShloMosaic

variable {a b d n : ℕ} {φ φ₁ φ₂ : FTy}

/-- A real where the bit is set, minus infinity elsewhere. -/
def hide (p : Bool) (x : ℝ) : EReal := if p = true then (x : EReal) else ⊥
/-- The matrix with the reals `X r k` where `A r k`, minus infinity elsewhere. -/
def hid2 (A : Fin a → Fin b → Bool) (X : Fin a → Fin b → ℝ) : (⟨2, ![a, b]⟩ : Shape).Idx → EReal := fun i => hide (A (i 0) (i 1)) (X (i 0) (i 1))
/-- A stack of such matrices with the same places hidden. -/
def hid3 (A : Fin a → Fin b → Bool) (X : Fin d → Fin a → Fin b → ℝ) : (⟨3, ![d, a, b]⟩ : Shape).Idx → EReal :=
  fun i => hide (A (i 1) (i 2)) (X (i 0) (i 1) (i 2))
/-- The scalar array with minus infinity. -/
def down0 : (⟨0, ![]⟩ : Shape).Idx → EReal := fun _ => ⊥

/-- The greatest of the reals that are not hidden. -/
def top (A : Fin n → Bool) (x : Fin n → ℝ) : ℝ := (Finset.univ.fold max (⊥ : EReal) fun k => hide (A k) (x k)).toReal

/-- Where something is not hidden the greatest entry is a real. -/
theorem fold_top (A : Fin n → Bool) (x : Fin n → ℝ) (h : ∃ k, A k = true) : (Finset.univ.fold max (⊥ : EReal) fun k => hide (A k) (x k)) = (top A x : EReal) := by
  refine (EReal.coe_toReal (ne_of_lt ?_) (ne_of_gt ?_)).symm
  · refine (Finset.fold_max_lt _).mpr ⟨bot_lt_top, fun k _ => ?_⟩
    unfold hide
    split
    · exact EReal.coe_lt_top _
    · exact bot_lt_top
  · obtain ⟨k, hk⟩ := h
    refine (Finset.lt_fold_max _).mpr (Or.inr ⟨k, Finset.mem_univ _, ?_⟩)
    unfold hide
    rw [if_pos hk]
    exact EReal.bot_lt_coe _

theorem word_bot : Ideal.ofBits .f32 0xFF800000#32 = ⊥ := by simp [Ideal.ofBits, Ideal.ieee]

/-- The float word of minus infinity. -/
theorem const_bot : constant (F := Ideal) (⟨0, ![]⟩ : Shape) .f32 0xFF800000#32 = down0 := funext fun _ => word_bot

/-! ## One entry -/

theorem hide_sub (p : Bool) (x y : ℝ) : hide p x - (y : EReal) = hide p (x - y) := by
  unfold hide
  split
  · exact (EReal.coe_sub _ _).symm
  · exact EReal.bot_sub _

theorem add_hide (p : Bool) (x y : ℝ) : (x : EReal) + hide p y = hide p (x + y) := by
  unfold hide
  split
  · exact (EReal.coe_add _ _).symm
  · exact EReal.add_bot _

theorem exp_hide (p : Bool) (x : ℝ) : Ideal.exp (hide p x) = ((if p = true then Real.exp x else 0 : ℝ) : EReal) := by
  unfold hide
  split
  · exact Ideal.exp_coe _
  · exact Ideal.exp_bot

/-- The logarithm of a positive real is the real one. -/
theorem log_coe {x : ℝ} (h : 0 < x) : Ideal.log (x : EReal) = ((Real.log x : ℝ) : EReal) := if_neg (not_le.mpr h)

/-! ## Matrices, as the kernel has them -/

/-- The greatest entry of each row. -/
theorem rowTop (A : Fin a → Fin b → Bool) (X : Fin a → Fin b → ℝ) (h : (⟨2, ![a, b]⟩ : Shape).Reduces [1] ⟨1, ![a]⟩) (hA : ∀ r, ∃ k, A r k = true) :
    multiReduction (F := Ideal) (φ := .f32) .maximumf (no_index [1]) (no_index ⟨1, ![a]⟩) (hid2 A X) 0xFF800000#32 h (.inl rfl) rfl = up1 fun r => top (A r) (X r) := by
  funext j
  refine (Ideal.multiReduction_maximumf_single _ _ h _ _ j).trans ?_
  rw [show (FloatOps.ofBits (F := Ideal) .f32 0xFF800000#32) = (⊥ : EReal) from word_bot]
  exact fold_top (A (j 0)) (X (j 0)) (hA _)

theorem hidVec2 : (∀ (A : Fin a → Fin b → Bool) (X Y : Fin a → Fin b → ℝ), subf (F := Ideal) (φ := φ) (hid2 A X) (up2 Y) = hid2 A fun r k => X r k - Y r k)
    ∧ (∀ (A : Fin a → Fin b → Bool) (X Y : Fin a → Fin b → ℝ), addf (F := Ideal) (φ := φ) (up2 X) (hid2 A Y) = hid2 A fun r k => X r k + Y r k)
    ∧ (∀ (A : Fin a → Fin b → Bool) (X : Fin a → Fin b → ℝ), exp (F := Ideal) (φ := φ) (hid2 A X) = up2 fun r k => if A r k = true then Real.exp (X r k) else 0) := by
  refine ⟨fun A X Y => ?_, fun A X Y => ?_, fun A X => ?_⟩ <;> funext i
  · exact hide_sub _ _ _
  · exact add_hide _ _ _
  · exact exp_hide _ _

/-- The logarithm of a matrix of positive reals. -/
theorem logf2 (X : Fin a → Fin b → ℝ) (h : ∀ r k, 0 < X r k) : log (F := Ideal) (φ := φ) (up2 X) = up2 fun r k => Real.log (X r k) := by
  funext i
  exact log_coe (h _ _)

/-! ## Stacks, as the host has them -/

/-- The pointwise operations on stacks. -/
theorem hostVec3 : (∀ X Y : Fin d → Fin a → Fin b → ℝ, mulf (F := Ideal) (φ := φ) (up3 X) (up3 Y) = up3 fun s r k => X s r k * Y s r k)
    ∧ (∀ X Y : Fin d → Fin a → Fin b → ℝ, subf (F := Ideal) (φ := φ) (up3 X) (up3 Y) = up3 fun s r k => X s r k - Y s r k)
    ∧ (∀ X Y : Fin d → Fin a → Fin b → ℝ, maximumf (F := Ideal) (φ := φ) (up3 X) (up3 Y) = up3 fun s r k => max (X s r k) (Y s r k))
    ∧ (∀ X : Fin d → Fin a → Fin b → ℝ, Host.exp (F := Ideal) (φ := φ) (up3 X) = up3 fun s r k => Real.exp (X s r k))
    ∧ (∀ (A : Fin a → Fin b → Bool) (X Y : Fin d → Fin a → Fin b → ℝ), subf (F := Ideal) (φ := φ) (hid3 A X) (up3 Y) = hid3 A fun s r k => X s r k - Y s r k)
    ∧ (∀ (A : Fin a → Fin b → Bool) (X : Fin d → Fin a → Fin b → ℝ), Host.exp (F := Ideal) (φ := φ) (hid3 A X) = up3 fun s r k => if A r k = true then Real.exp (X s r k) else 0) := by
  refine ⟨fun X Y => ?_, fun X Y => ?_, fun X Y => ?_, fun X => ?_, fun A X Y => ?_, fun A X => ?_⟩ <;> funext i
  · exact (EReal.coe_mul _ _).symm
  · exact (EReal.coe_sub _ _).symm
  · exact (EReal.coe_strictMono.monotone.map_max).symm
  · exact Ideal.exp_coe _
  · exact hide_sub _ _ _
  · exact exp_hide _ _

/-- The quotient of stacks whose divisor has no zero, and the logarithm of a stack of positive reals. -/
theorem hostDiv3 (X Y : Fin d → Fin a → Fin b → ℝ) (h : ∀ s r k, Y s r k ≠ 0) : Host.divf (F := Ideal) (φ := φ) (up3 X) (up3 Y) = up3 fun s r k => X s r k / Y s r k := by
  funext i
  exact div_coe _ (h _ _ _)

theorem hostLog3 (X : Fin d → Fin a → Fin b → ℝ) (h : ∀ s r k, 0 < X s r k) : Host.log (F := Ideal) (φ := φ) (up3 X) = up3 fun s r k => Real.log (X s r k) := by
  funext i
  exact log_coe (h _ _ _)

/-- The greatest entry along the last axis. -/
theorem hostTop3 (A : Fin a → Fin b → Bool) (X : Fin d → Fin a → Fin b → ℝ) (h : (⟨3, ![d, a, b]⟩ : Shape).ReducesTo [2] ⟨2, ![d, a]⟩) (hu : 0 < (⟨0, ![]⟩ : Shape).numel)
    (hA : ∀ r, ∃ k, A r k = true) : Host.reduce (α := EReal) (FloatOps.maximumf (F := Ideal) (φ := .f32)) (hid3 A X) down0 h hu = up2 fun s r => top (A r) (X s r) := by
  funext j
  refine (Host.reduce_eq_fold_single (α := EReal) max (hid3 A X) down0 h ⟨h.1, Nat.two_pos, h.2⟩ hu j).trans ?_
  exact fold_top (A (j 1)) (X (j 0) (j 1)) (hA _)

/-- The sum along the last axis. -/
theorem hostSum3 (X : Fin d → Fin a → Fin b → ℝ) (h : (⟨3, ![d, a, b]⟩ : Shape).ReducesTo [2] ⟨2, ![d, a]⟩) (hu : 0 < (⟨0, ![]⟩ : Shape).numel) :
    Host.reduceAdd (F := Ideal) (φ := φ) (up3 X) (up0 0) h hu = up2 fun s r => ∑ k, X s r k := by
  funext j
  rw [ValueIdx.hostReduceAdd_apply, Ideal.hostReduceAdd_single h ⟨h.1, Nat.two_pos, h.2⟩]
  exact (zero_add _).trans (coe_sum _ _)

/-- A matrix given a last axis, a last axis repeated, and a scalar in every entry. -/
theorem bcLast (X : Fin d → Fin a → ℝ) (h : (⟨2, ![d, a]⟩ : Shape).BroadcastsInDim ⟨3, ![d, a, 1]⟩ ![0, 1]) :
    broadcastInDim (no_index ⟨3, ![d, a, 1]⟩) (no_index ![0, 1]) h (up2 X) = up3 fun s r _ => X s r := by
  funext i
  rw [broadcastInDim_apply _ h (up2 X) i (ValueIdx.ix2 (i 0) (i 1)) fun ax => ?_]
  · rfl
  · match ax with
    | ⟨0, _⟩ => exact unit_axis (n := d) (i 0)
    | ⟨1, _⟩ => exact unit_axis (n := a) (i 1)

theorem bcAlong (X : Fin d → Fin a → Fin 1 → ℝ) (h : (⟨3, ![d, a, 1]⟩ : Shape).BroadcastsInDim ⟨3, ![d, a, b]⟩ ![0, 1, 2]) :
    broadcastInDim (no_index ⟨3, ![d, a, b]⟩) (no_index ![0, 1, 2]) h (up3 X) = up3 fun s r _ => X s r 0 := by
  funext i
  rw [broadcastInDim_apply _ h (up3 X) i (ValueIdx.ix3 (i 0) (i 1) (0 : Fin 1)) fun ax => ?_]
  · rfl
  · match ax with
    | ⟨0, _⟩ => exact unit_axis (n := d) (i 0)
    | ⟨1, _⟩ => exact unit_axis (n := a) (i 1)
    | ⟨2, _⟩ => rfl

theorem bcScalar3 (c : ℝ) (h : (⟨0, ![]⟩ : Shape).BroadcastsInDim ⟨3, ![d, a, b]⟩ ![]) : broadcastInDim (no_index ⟨3, ![d, a, b]⟩) (no_index ![]) h (up0 c) = up3 fun _ _ _ => c := rfl

/-- The first two axes of a stack exchanged. -/
theorem swap3 (X : Fin d → Fin a → Fin b → ℝ) (h : (⟨3, ![d, a, b]⟩ : Shape).Transposes [1, 0, 2] ⟨3, ![a, d, b]⟩) :
    transpose (no_index ⟨3, ![a, d, b]⟩) (no_index [1, 0, 2]) (up3 X) h = up3 fun r s k => X s r k := by
  funext i
  refine (transpose_apply _ (up3 X) h i (ValueIdx.ix3 (i 1) (i 0) (i 2)) fun c => ?_).trans rfl
  match c with | ⟨0, _⟩ => rfl | ⟨1, _⟩ => rfl | ⟨2, _⟩ => rfl

/-- A last axis of one dropped. -/
theorem castLast (X : Fin d → Fin a → Fin 1 → ℝ) (h : (⟨3, ![d, a, 1]⟩ : Shape).ShapeCasts ⟨2, ![d, a]⟩) :
    shapeCast (no_index ⟨2, ![d, a]⟩) (up3 X) h = up2 fun s r => X s r 0 := by
  funext i
  refine (shapeCast_apply (up3 X) h i (ValueIdx.ix3 (i 0) (i 1) (0 : Fin 1)) ?_).trans rfl
  refine (Shape.rowMajor_val_three _).trans (Eq.trans ?_ (Shape.rowMajor_val_two _).symm)
  show ((i 0).val * a + (i 1).val) * 1 + 0 = (i 0).val * a + (i 1).val
  omega

/-- Which axes a product of two stacks contracts and keeps, the first axis of each shared. -/
def Axes3 {sl sr so : Shape} (m : DotDims sl sr so) (x y : List (Fin sl.rank)) (z w : List (Fin sr.rank)) (p : List (Fin sl.rank)) (q : List (Fin sr.rank)) : Prop :=
  (m.lhsContracting, m.rhsContracting, m.lhsNonContracting, m.rhsNonContracting, m.lhsBatch, m.rhsBatch) = (x, z, y, w, p, q)

/-- The host's products of stacks, matrix by matrix: `X Yᵀ` and `X Y`. -/
theorem dotStackNT (m : DotDims ⟨3, ![d, a, n]⟩ ⟨3, ![d, b, n]⟩ ⟨3, ![d, a, b]⟩) (X : Fin d → Fin a → Fin n → ℝ) (Y : Fin d → Fin b → Fin n → ℝ) (h : Axes3 m [2] [1] [2] [1] [0] [0]) :
    Host.dotGeneral (F := Ideal) (φ₁ := φ₁) (φ₂ := φ₂) m none (up3 X) (up3 Y) = up3 fun s r k => ∑ l, X s r l * Y s k l := by
  obtain ⟨_, _, _, _, _, _, wf⟩ := m
  simp only [Axes3, Prod.mk.injEq] at h
  obtain ⟨rfl, rfl, rfl, rfl, rfl, rfl⟩ := h
  refine (matmul_zero_eq_dotGeneral _ none _ _).symm.trans (funext fun j => ?_)
  refine (Ideal.matmul_apply₁_of (a := 2) (K := n) _ rfl rfl (up3 X) (up3 Y) _ j (fun l : Fin n => ValueIdx.ix3 (j 0 : Fin d) (j 1 : Fin a) l) (fun l : Fin n => ValueIdx.ix3 (j 0 : Fin d) (j 2 : Fin b) l) (fun l => ?_) fun l => ?_).trans ?_
  · funext ax
    match ax with | ⟨0, _⟩ => rfl | ⟨1, _⟩ => rfl | ⟨2, _⟩ => rfl
  · funext ax
    match ax with | ⟨0, _⟩ => rfl | ⟨1, _⟩ => rfl | ⟨2, _⟩ => rfl
  · rw [show (constant (F := Ideal) (⟨3, ![d, a, b]⟩ : Shape) .f32 0x00000000#32) j = ((0 : ℝ) : EReal) from words.1, EReal.coe_zero, zero_add]
    exact coe_sum _ fun l => X (j 0) (j 1) l * Y (j 0) (j 2) l

theorem dotStackNN (m : DotDims ⟨3, ![d, a, n]⟩ ⟨3, ![d, n, b]⟩ ⟨3, ![d, a, b]⟩) (X : Fin d → Fin a → Fin n → ℝ) (Y : Fin d → Fin n → Fin b → ℝ) (h : Axes3 m [2] [1] [1] [2] [0] [0]) :
    Host.dotGeneral (F := Ideal) (φ₁ := φ₁) (φ₂ := φ₂) m none (up3 X) (up3 Y) = up3 fun s r k => ∑ l, X s r l * Y s l k := by
  obtain ⟨_, _, _, _, _, _, wf⟩ := m
  simp only [Axes3, Prod.mk.injEq] at h
  obtain ⟨rfl, rfl, rfl, rfl, rfl, rfl⟩ := h
  refine (matmul_zero_eq_dotGeneral _ none _ _).symm.trans (funext fun j => ?_)
  refine (Ideal.matmul_apply₁_of (a := 2) (K := n) _ rfl rfl (up3 X) (up3 Y) _ j (fun l : Fin n => ValueIdx.ix3 (j 0 : Fin d) (j 1 : Fin a) l) (fun l : Fin n => ValueIdx.ix3 (j 0 : Fin d) l (j 2 : Fin b)) (fun l => ?_) fun l => ?_).trans ?_
  · funext ax
    match ax with | ⟨0, _⟩ => rfl | ⟨1, _⟩ => rfl | ⟨2, _⟩ => rfl
  · funext ax
    match ax with | ⟨0, _⟩ => rfl | ⟨1, _⟩ => rfl | ⟨2, _⟩ => rfl
  · rw [show (constant (F := Ideal) (⟨3, ![d, a, b]⟩ : Shape) .f32 0x00000000#32) j = ((0 : ℝ) : EReal) from words.1, EReal.coe_zero, zero_add]
    exact coe_sum _ fun l => X (j 0) (j 1) l * Y (j 0) l (j 2)

end Cert.Lift

end
-- ==== Proof.Attend.lean ====
/- Which keys a query attends to, as index words decide it, and the real sums of a softmax over the attended keys. -/
module

public import Idealize.ShloMosaic.Lib.WordCmp
public import proofs.«01_k».proof.Proof.LiftMask

@[expose] public section

noncomputable section

namespace Cert.Attend

open Idealize.ShloMosaic Cert.Lift

/-! ## The keys of a query -/

/-- Query `t` attends to the keys `t`, `t - d`, `t - 2 d`, down to `t - W`. -/
def att (W d t s : ℕ) : Bool := decide (s ≤ t ∧ t ≤ s + W ∧ d ∣ t - s)

/-- Every query attends to its own key. -/
theorem att_self (W d t : ℕ) : att W d t t = true := by simp [att]

/-- The relation depends on the distance only. -/
theorem att_shift (W d : ℕ) {t s t' s' : ℕ} (h : t + s' = t' + s) : att W d t s = att W d t' s' := by
  unfold att
  refine decide_eq_decide.mpr ?_
  by_cases hs : s ≤ t
  · have e : t - s = t' - s' := by omega
    rw [e]
    constructor <;> rintro ⟨h₁, h₂, h₃⟩ <;> exact ⟨by omega, by omega, h₃⟩
  · constructor <;> rintro ⟨h₁, -⟩ <;> omega

/-- In how many of the three groups query `t` attends to key `s`. -/
def count (t s : ℕ) : ℕ := (att 128 1 t s).toNat + (att 512 4 t s).toNat + (att 2048 16 t s).toNat

theorem count_shift {t s t' s' : ℕ} (h : t + s' = t' + s) : count t s = count t' s' := by
  unfold count
  rw [att_shift 128 1 h, att_shift 512 4 h, att_shift 2048 16 h]

theorem count_self (t : ℕ) : count t t = 3 := by
  unfold count
  rw [att_self, att_self, att_self]
  rfl

/-- No group reaches later keys or keys more than 2048 back. -/
theorem count_far {t s : ℕ} (h : t < s ∨ s + 2048 < t) : count t s = 0 := by
  have e (W d : ℕ) (hW : W ≤ 2048) : att W d t s = false := decide_eq_false fun ⟨h₁, h₂, _⟩ => by omega
  unfold count
  rw [e 128 1 (by omega), e 512 4 (by omega), e 2048 16 (by omega)]
  rfl

/-! ## The words -/

/-- One of the three dilations. -/
def Dil (d : ℕ) : Prop := d = 1 ∨ d = 4 ∨ d = 16

/-- Away from the two corners the host's remainder is the signed one. -/
theorem rem_eq (w : BitVec 32) {d : ℕ} (hd : Dil d) : IntOp.remsi .host w (BitVec.ofNat 32 d) = w.srem (BitVec.ofNat 32 d) := by
  refine if_neg fun h => ?_
  rcases hd with rfl | rfl | rfl <;> rcases h with h | ⟨-, h⟩ <;> exact absurd h (by decide)

/-- The remainder as an integer. -/
theorem rem_int (w : BitVec 32) {d : ℕ} (hd : Dil d) : (IntOp.remsi .host w (BitVec.ofNat 32 d)).toInt = w.toInt.tmod d := by
  rw [rem_eq w hd, BitVec.toInt_srem]
  rcases hd with rfl | rfl | rfl <;> rfl

/-- The remainder is zero at the multiples of the dilation. -/
theorem rem_zero (w : BitVec 32) {d : ℕ} (hd : Dil d) :
    IntOp.cmpi .eq (IntOp.remsi .host w (BitVec.ofNat 32 d)) 0#32 = BitVec.ofBool (decide ((d : ℤ) ∣ w.toInt)) := by
  refine congrArg BitVec.ofBool (Bool.eq_iff_iff.mpr ?_)
  rw [beq_iff_eq, decide_eq_true_iff, ← BitVec.toInt_inj, rem_int w hd]
  exact (Int.dvd_iff_tmod_eq_zero).symm

/-- The remainder of the floor division, as the host computes it from the other one. -/
def modWord (w d : BitVec 32) : BitVec 32 :=
  let e := Scalar.select (IntOp.cmpi .eq d 0#32) 1#32 d
  let r := IntOp.remsi .host w e
  Scalar.select (IntOp.andi (IntOp.cmpi .ne (IntOp.cmpi .slt r 0#32) (IntOp.cmpi .slt e 0#32)) (IntOp.cmpi .ne r 0#32)) (IntOp.addi r e) r

/-- It is zero at the same words. -/
theorem mod_zero (w : BitVec 32) {d : ℕ} (hd : Dil d) :
    IntOp.cmpi .eq (modWord w (BitVec.ofNat 32 d)) 0#32 = BitVec.ofBool (decide ((d : ℤ) ∣ w.toInt)) := by
  have he : Scalar.select (IntOp.cmpi .eq (BitVec.ofNat 32 d) 0#32) 1#32 (BitVec.ofNat 32 d) = BitVec.ofNat 32 d := by
    rcases hd with rfl | rfl | rfl <;> decide
  rw [← rem_zero w hd]
  unfold modWord
  simp only [he]
  have hr := rem_int w hd
  have hlow : -(d : ℤ) < w.toInt.tmod d := by
    have hpos : (0 : ℤ) < d := by rcases hd with rfl | rfl | rfl <;> decide
    exact Int.neg_lt_of_neg_lt (lt_of_le_of_lt (neg_le_abs _) (by
      rw [← Int.natCast_natAbs, Int.natAbs_tmod]
      exact_mod_cast Nat.mod_lt _ (by exact_mod_cast hpos)))
  generalize IntOp.remsi .host w (BitVec.ofNat 32 d) = r at hr
  unfold Scalar.select
  split
  · have hne : r + BitVec.ofNat 32 d ≠ 0#32 := fun h0 => by
      have h1 : r = -BitVec.ofNat 32 d := by
        rw [← BitVec.add_left_inj (BitVec.ofNat 32 d), h0, BitVec.add_comm, BitVec.add_right_neg]
      rw [h1] at hr
      have h2 : (-BitVec.ofNat 32 d).toInt = -(d : ℤ) := by rcases hd with rfl | rfl | rfl <;> decide
      omega
    rename_i hc
    have hr0 : r ≠ 0#32 := fun h0 => by
      rw [h0] at hc
      revert hc
      have : IntOp.cmpi .ne (0#32) (0#32) = 0#1 := by decide
      rw [this]
      unfold IntOp.andi
      rw [BitVec.and_zero]
      decide
    exact congrArg BitVec.ofBool ((beq_eq_false_iff_ne.mpr hne).trans (beq_eq_false_iff_ne.mpr hr0).symm)
  · rfl

/-- The comparisons of a word that holds `t - s`, with the divisibility by the dilation, decide whether `t` attends to `s`. -/
theorem bits (w : BitVec 32) {W d t s : ℕ} (hW : W < 2 ^ 31) (hw : w.toInt = (t : ℤ) - s) {e : BitVec 1} (he : e = BitVec.ofBool (decide ((d : ℤ) ∣ w.toInt))) :
    IntOp.andi (IntOp.andi (IntOp.cmpi .sge w 0#32) (IntOp.cmpi .sle w (BitVec.ofNat 32 W))) e = BitVec.ofBool (att W d t s) := by
  rw [he, WordCmp.cmpi_sge_eq, WordCmp.cmpi_sle_eq, WordCmp.andi_ofBool, WordCmp.andi_ofBool, WordCmp.toInt_ofNat_of_lt (w := 32) (a := W) hW, hw, BitVec.toInt_zero]
  refine congrArg BitVec.ofBool ?_
  unfold att
  rw [← Bool.decide_and, ← Bool.decide_and]
  refine decide_eq_decide.mpr ⟨fun ⟨⟨h₁, h₂⟩, h₃⟩ => ⟨by omega, by omega, ?_⟩, fun ⟨h₁, h₂, h₃⟩ => ⟨⟨by omega, by omega⟩, ?_⟩⟩
  · rw [← Int.natCast_dvd_natCast, Nat.cast_sub (by omega)]
    exact h₃
  · rw [← Nat.cast_sub h₁]
    exact Int.natCast_dvd_natCast.mpr h₃

/-- The difference of two small index words, as an integer. -/
theorem toInt_sub (t s : ℕ) (ht : t < 2 ^ 30) (hs : s < 2 ^ 30) : (BitVec.ofNat 32 t - BitVec.ofNat 32 s).toInt = (t : ℤ) - s := by
  rw [BitVec.toInt_sub, WordCmp.toInt_ofNat_of_lt (by omega), WordCmp.toInt_ofNat_of_lt (by omega)]
  refine Int.bmod_eq_of_le ?_ ?_ <;> omega

/-! ## The sums of a softmax -/

variable {n : ℕ}

/-- The sum of the exponentials of the attended scores, each with its factor. -/
def expSum (A : Fin n → Bool) (x v : Fin n → ℝ) : ℝ := ∑ k, if A k = true then Real.exp (x k) * v k else 0

theorem expSum_pos (A : Fin n → Bool) (x : Fin n → ℝ) (h : ∃ k, A k = true) : 0 < expSum A x fun _ => 1 := by
  obtain ⟨k, hk⟩ := h
  refine Finset.sum_pos' (fun j _ => ?_) ⟨k, Finset.mem_univ _, ?_⟩
  · split
    · positivity
    · exact le_rfl
  · rw [if_pos hk]
    positivity

/-- A common amount taken from every score comes out as a factor. -/
theorem sum_shift (A : Fin n → Bool) (x v : Fin n → ℝ) (m : ℝ) :
    ∑ k, (if A k = true then Real.exp (x k - m) else 0) * v k = Real.exp (-m) * expSum A x v := by
  unfold expSum
  rw [Finset.mul_sum]
  refine Finset.sum_congr rfl fun k _ => ?_
  split
  · rw [sub_eq_add_neg, Real.exp_add]
    ring
  · ring

theorem sum_shift_one (A : Fin n → Bool) (x : Fin n → ℝ) (m : ℝ) :
    ∑ k, (if A k = true then Real.exp (x k - m) else 0) = Real.exp (-m) * expSum A x fun _ => 1 := by
  rw [← sum_shift]
  exact Finset.sum_congr rfl fun k _ => (mul_one _).symm

theorem soft_pos (A : Fin n → Bool) (x : Fin n → ℝ) (m : ℝ) (h : ∃ k, A k = true) : 0 < ∑ k, if A k = true then Real.exp (x k - m) else 0 := by
  rw [sum_shift_one]
  exact mul_pos (Real.exp_pos _) (expSum_pos A x h)

/-- The softmax average does not depend on the amount taken from the scores. -/
theorem soft_out (A : Fin n → Bool) (x v : Fin n → ℝ) (m : ℝ) :
    (∑ k, (if A k = true then Real.exp (x k - m) else 0) * v k) / (∑ k, if A k = true then Real.exp (x k - m) else 0) = expSum A x v / expSum A x fun _ => 1 := by
  rw [sum_shift, sum_shift_one]
  exact mul_div_mul_left _ _ (Real.exp_pos _).ne'

/-- The logarithm of the sum of exponentials does not either. -/
theorem soft_lse (A : Fin n → Bool) (x : Fin n → ℝ) (m : ℝ) (h : ∃ k, A k = true) :
    m + Real.log (∑ k, if A k = true then Real.exp (x k - m) else 0) = Real.log (expSum A x fun _ => 1) := by
  rw [sum_shift_one, Real.log_mul (Real.exp_pos _).ne' (expSum_pos A x h).ne', Real.log_exp]
  ring

/-- Three softmax averages weighted by the softmax of their logarithms of sums are one average over all their terms. -/
theorem mix_out {z₁ z₂ z₃ : ℝ} (h₁ : 0 < z₁) (h₂ : 0 < z₂) (h₃ : 0 < z₃) (n₁ n₂ n₃ m : ℝ) :
    0 + Real.exp (Real.log z₁ - m) / (0 + Real.exp (Real.log z₁ - m) + Real.exp (Real.log z₂ - m) + Real.exp (Real.log z₃ - m)) * (n₁ / z₁)
      + Real.exp (Real.log z₂ - m) / (0 + Real.exp (Real.log z₁ - m) + Real.exp (Real.log z₂ - m) + Real.exp (Real.log z₃ - m)) * (n₂ / z₂)
      + Real.exp (Real.log z₃ - m) / (0 + Real.exp (Real.log z₁ - m) + Real.exp (Real.log z₂ - m) + Real.exp (Real.log z₃ - m)) * (n₃ / z₃)
      = (n₁ + n₂ + n₃) / (z₁ + z₂ + z₃) := by
  rw [Real.exp_sub, Real.exp_sub, Real.exp_sub, Real.exp_log h₁, Real.exp_log h₂, Real.exp_log h₃]
  have hm := Real.exp_pos m
  have hz : 0 < z₁ + z₂ + z₃ := by positivity
  have e : 0 + z₁ / Real.exp m + z₂ / Real.exp m + z₃ / Real.exp m = (z₁ + z₂ + z₃) / Real.exp m := by ring
  rw [e]
  field_simp
  ring

theorem mix_lse {z₁ z₂ z₃ : ℝ} (h₁ : 0 < z₁) (h₂ : 0 < z₂) (h₃ : 0 < z₃) (m : ℝ) :
    m + Real.log (0 + Real.exp (Real.log z₁ - m) + Real.exp (Real.log z₂ - m) + Real.exp (Real.log z₃ - m)) = Real.log (z₁ + z₂ + z₃) := by
  rw [Real.exp_sub, Real.exp_sub, Real.exp_sub, Real.exp_log h₁, Real.exp_log h₂, Real.exp_log h₃]
  have e : 0 + z₁ / Real.exp m + z₂ / Real.exp m + z₃ / Real.exp m = (z₁ + z₂ + z₃) / Real.exp m := by ring
  rw [e, Real.log_div (by positivity) (Real.exp_pos m).ne', Real.log_exp]
  ring

/-! ## The window of a block of queries -/

/-- The keys of a block's window that are real keys and that some group attends to. -/
def seen (i : ℕ) (r : Fin 128) (j : Fin 2176) : Bool := decide (2048 ≤ 128 * i + j.val) && decide (0 < count (r.val + 2048) j.val)
/-- The logarithm of the number of groups that attend to a key of the window. -/
def logCount (r : Fin 128) (j : Fin 2176) : ℝ := Real.log (max (count (r.val + 2048) j.val : ℝ) 1)

theorem seen_self (i : ℕ) (r : Fin 128) : seen i r ⟨r.val + 2048, by omega⟩ = true := by
  unfold seen
  rw [count_self]
  simp only [Bool.and_eq_true, decide_eq_true_eq]
  omega

/-- The sum over the window, each key weighted by the number of its groups, is the sum of the three groups' sums over all keys. -/
theorem window (i : Fin 64) (r : Fin 128) (t : Fin 8192) (ht : t.val = 128 * i.val + r.val) (x v : Fin 8192 → ℝ) (x' v' : Fin 2176 → ℝ)
    (hx : ∀ (j : Fin 2176) (s : Fin 8192), s.val + 2048 = 128 * i.val + j.val → x' j = x s) (hv : ∀ (j : Fin 2176) (s : Fin 8192), s.val + 2048 = 128 * i.val + j.val → v' j = v s) :
    expSum (seen i.val r) (fun j => x' j + logCount r j) v'
      = expSum (fun s => att 128 1 t.val s.val) x v + expSum (fun s => att 512 4 t.val s.val) x v + expSum (fun s => att 2048 16 t.val s.val) x v := by
  have hr : expSum (fun s => att 128 1 t.val s.val) x v + expSum (fun s => att 512 4 t.val s.val) x v + expSum (fun s => att 2048 16 t.val s.val) x v
      = ∑ s : Fin 8192, (count t.val s.val : ℝ) * (Real.exp (x s) * v s) := by
    unfold expSum
    rw [← Finset.sum_add_distrib, ← Finset.sum_add_distrib]
    refine Finset.sum_congr rfl fun s _ => ?_
    unfold count
    beta_reduce
    cases att 128 1 t.val s.val <;> cases att 512 4 t.val s.val <;> cases att 2048 16 t.val s.val <;> simp <;> ring
  rw [hr]
  unfold expSum
  have hl : ∀ j ∈ (Finset.univ : Finset (Fin 2176)), (if seen i.val r j = true then Real.exp (x' j + logCount r j) * v' j else 0)
      = if 2048 ≤ 128 * i.val + j.val then (count (r.val + 2048) j.val : ℝ) * (Real.exp (x' j) * v' j) else 0 := fun j _ => by
    unfold seen logCount
    simp only [Bool.and_eq_true, decide_eq_true_eq]
    by_cases h₁ : 2048 ≤ 128 * i.val + j.val
    · by_cases h₂ : 0 < count (r.val + 2048) j.val
      · have h₃ : (1 : ℝ) ≤ count (r.val + 2048) j.val := by exact_mod_cast h₂
        rw [if_pos ⟨h₁, h₂⟩, if_pos h₁, max_eq_left h₃, Real.exp_add, Real.exp_log (by linarith)]
        ring
      · rw [if_neg fun h => h₂ h.2, if_pos h₁, Nat.eq_zero_of_not_pos h₂]
        simp
    · rw [if_neg fun h => h₁ h.1, if_neg h₁]
  rw [Finset.sum_congr rfl hl, ← Finset.sum_filter]
  symm
  have hs : ∑ s : Fin 8192, (count t.val s.val : ℝ) * (Real.exp (x s) * v s)
      = ∑ s ∈ Finset.univ.filter fun s : Fin 8192 => 128 * i.val ≤ s.val + 2048 ∧ s.val < 128 * i.val + 128, (count t.val s.val : ℝ) * (Real.exp (x s) * v s) := by
    refine (Finset.sum_filter_of_ne fun s _ hne => ?_).symm
    by_contra hc
    refine hne ?_
    rw [count_far (by omega)]
    simp
  rw [hs]
  have hi := i.isLt
  refine Finset.sum_bij (fun s _ => ⟨(s.val + 2048 - 128 * i.val) % 2176, Nat.mod_lt _ (by omega)⟩) (fun s h => ?_) (fun s h s' h' e => ?_) (fun j h => ?_) fun s h => ?_
  · simp only [Finset.mem_filter, Finset.mem_univ, true_and] at h ⊢
    omega
  · simp only [Finset.mem_filter, Finset.mem_univ, true_and, Fin.mk.injEq] at h h' e
    exact Fin.ext (by omega)
  · simp only [Finset.mem_filter, Finset.mem_univ, true_and] at h
    have hj := j.isLt
    refine ⟨⟨128 * i.val + j.val - 2048, by omega⟩, ?_, Fin.ext ?_⟩
    · simp only [Finset.mem_filter, Finset.mem_univ, true_and]
      omega
    · show (128 * i.val + j.val - 2048 + 2048 - 128 * i.val) % 2176 = j.val
      omega
  · simp only [Finset.mem_filter, Finset.mem_univ, true_and] at h
    have e : (s.val + 2048 - 128 * i.val) % 2176 = s.val + 2048 - 128 * i.val := by omega
    have hk : s.val + 2048 = 128 * i.val + (s.val + 2048 - 128 * i.val) % 2176 := by omega
    rw [hx ⟨(s.val + 2048 - 128 * i.val) % 2176, Nat.mod_lt _ (by omega)⟩ s hk, hv ⟨(s.val + 2048 - 128 * i.val) % 2176, Nat.mod_lt _ (by omega)⟩ s hk]
    refine congrArg (fun c : ℕ => (c : ℝ) * (Real.exp (x s) * v s)) (count_shift ?_)
    show t.val + (s.val + 2048 - 128 * i.val) % 2176 = r.val + 2048 + s.val
    omega

end Cert.Attend

end
-- ==== Proof.AttKernel.lean ====
/- The values the attention kernel computes from one block of 128 queries and its window of 2176 keys, on reals. -/
module

public import proofs.«01_k».proof.Proof.Gating
public import proofs.«01_k».proof.Proof.Attend
public import proofs.«01_k».proof.Proof.Gen.AttIdeal.Skeleton

@[expose] public section

set_option maxRecDepth 16384

noncomputable section

namespace Cert.AttTile

open Idealize.ShloMosaic Cert.Lift Cert.Attend Cert.AttIdeal Cert.AttIdeal.Gen

/-- The named constant of the mask is minus infinity. -/
theorem named_mask : Named.named (F := Ideal) (φ := .f32) κ "mask" 0xF149F2CA#32 = (⊥ : EReal) := rfl

/-- The bias of a block: the table where the key is a real one, minus infinity before the first key. -/
theorem bias (i : grid0.Coords) (L : Fin 128 → Fin 2176 → ℝ) :
    k0_pay2 (F := Ideal) i (hid2 (fun r j => decide (0 < Attend.count (r.val + 2048) j.val)) L) = hid2 (seen (i 0).val) L := by
  unfold k0_pay2
  simp only [shapeCast_self]
  funext y
  have hi : (i 0).val < 64 := (i 0).isLt
  have hj : (y 1).val < 2176 := (y 1).isLt
  have e : IntOp.cmpi .sge (IntOp.addi (BitVec.ofNat 32 (0 * 2176 + (y 1).val)) (IntOp.muli (BitVec.ofNat 32 (i 0).val) (BitVec.ofNat 32 128))) (BitVec.ofNat 32 2048)
      = BitVec.ofBool (decide (2048 ≤ 128 * (i 0).val + (y 1).val)) := by
    rw [WordCmp.muli_ofNat, WordCmp.addi_ofNat, WordCmp.cmpi_sge_ofNat (by omega) (by omega)]
    refine congrArg BitVec.ofBool (decide_eq_decide.mpr ?_)
    omega
  show (if IntOp.cmpi .sge (IntOp.addi (BitVec.ofNat 32 (0 * 2176 + (y 1).val)) (IntOp.muli (BitVec.ofNat 32 (i 0).val) (BitVec.ofNat 32 128))) (BitVec.ofNat 32 2048) = 1
    then hide (decide (0 < Attend.count ((y 0).val + 2048) (y 1).val)) (L (y 0) (y 1)) else ⊥) = hide (seen (i 0).val (y 0) (y 1)) (L (y 0) (y 1))
  rw [e]
  unfold seen hide
  by_cases h₁ : 2048 ≤ 128 * (i 0).val + (y 1).val
  · rw [decide_eq_true h₁, Bool.true_and]
    exact if_pos rfl
  · rw [decide_eq_false h₁, Bool.false_and]
    rfl

variable (A : Fin 128 → Fin 2176 → Bool) (L : Fin 128 → Fin 2176 → ℝ) (Q : Fin 128 → Fin 64 → ℝ) (K U : Fin 2176 → Fin 64 → ℝ)

/-- A head's scores with the bias added. -/
def scored (r : Fin 128) (j : Fin 2176) : ℝ := (∑ c, Q r c * (1 / 8) * K j c) + L r j

theorem word_eighth16 : Scalar.ofBits (F := Ideal) .bf16 0x3E00#16 = ((1 / 8 : ℝ) : EReal) := by
  show Ideal.ofBits .bf16 0x3E00#16 = _
  simp [Ideal.ofBits, Ideal.ieee]
  rw [← EReal.coe_mul]
  norm_num

/-- The product over the columns of a head. -/
theorem nt (X : Fin 128 → Fin 64 → ℝ) (Y : Fin 2176 → Fin 64 → ℝ) :
    matmul (F := Ideal) (φ₁ := .bf16) (φ₂ := .bf16) dot_S128x64_S2176x64_S128x2176_1_1_0_0_n_n none (up2 X) (up2 Y) (constant S128x2176 .f32 0x00000000#32) = up2 fun r k => ∑ l, X r l * Y k l := mmNT _ _ _ rfl
/-- The product over the keys. -/
theorem nn (X : Fin 128 → Fin 2176 → ℝ) (Y : Fin 2176 → Fin 64 → ℝ) :
    matmul (F := Ideal) (φ₁ := .bf16) (φ₂ := .bf16) dot_S128x2176_S2176x64_S128x64_1_0_0_1_n_n none (up2 X) (up2 Y) (constant S128x64 .f32 0x00000000#32) = up2 fun r k => ∑ l, X r l * Y l k := mmNN _ _ _ rfl

/-- The scores. -/
theorem scores : k0_pay9 (F := Ideal) (hid2 A L) (up2 Q) (up2 K) = hid2 A (scored L Q K) := by
  unfold k0_pay9
  simp only [castSelf, word_eighth16, splat2, vec2, nt, hidVec2]
  rfl

variable {A} (hA : ∀ r, ∃ k, A r k = true)
include hA

/-- The greatest score of every query. -/
theorem tops : k0_pay10 (F := Ideal) (hid2 A L) (up2 Q) (up2 K) = up2 fun r _ => top (A r) (scored L Q K r) := by
  unfold k0_pay10
  simp (disch := exact hA) only [scores, rowTop, lay2]

/-- The exponentials. -/
theorem exps : k0_pay11 (F := Ideal) (hid2 A L) (up2 Q) (up2 K) = up2 fun r j => if A r j = true then Real.exp (scored L Q K r j - top (A r) (scored L Q K r)) else 0 := by
  unfold k0_pay11
  simp only [scores, tops L Q K hA, bcCol, hidVec2]

/-- Their sums. -/
theorem sums : k0_pay12 (F := Ideal) (hid2 A L) (up2 Q) (up2 K) = up2 fun r _ => ∑ j, if A r j = true then Real.exp (scored L Q K r j - top (A r) (scored L Q K r)) else 0 := by
  unfold k0_pay12
  simp only [exps L Q K hA, rowSum, lay2]

/-- A head's softmax average over the window. -/
theorem outs : k0_pay13 (F := Ideal) (hid2 A L) (up2 Q) (up2 K) (up2 U) = up2 fun r c => expSum (A r) (scored L Q K r) (fun j => U j c) / expSum (A r) (scored L Q K r) fun _ => 1 := by
  unfold k0_pay13
  simp (disch := exact fun r _ => (soft_pos _ _ _ (hA r)).ne') only [exps L Q K hA, sums L Q K hA, casts, castSelf, nn, bcCol, divf2]
  exact congrArg up2 (funext fun r => funext fun c => soft_out _ _ _ _)

/-- A head's logarithms of the sums. -/
theorem lses : k0_pay14 (F := Ideal) (hid2 A L) (up2 Q) (up2 K) = up2 fun r _ => Real.log (expSum (A r) (scored L Q K r) fun _ => 1) := by
  unfold k0_pay14
  simp (disch := exact fun r _ => soft_pos _ _ _ (hA r)) only [tops L Q K hA, sums L Q K hA, logf2, vec2]
  exact congrArg up2 (funext fun r => funext fun c => soft_lse _ _ _ (hA r))

end Cert.AttTile

end
-- ==== Proof.AttRef.lean ====
/- The values of the plain dilated attention: three masked softmax attentions over all keys, joined by the softmax of their logarithms of sums, on reals. -/
module

public import proofs.«01_k».proof.Proof.Lift4
public import proofs.«01_k».proof.Proof.Attend
public import proofs.«01_k».proof.Proof.Gen.AttRefIdeal.Read

@[expose] public section

set_option maxRecDepth 16384

noncomputable section

namespace Cert.AttRef

open Idealize.ShloMosaic Cert.Lift Cert.Gating Cert.Attend Cert.AttRefIdeal Cert.AttRefIdeal.Gen Cert.AttRefIdeal.Read

variable (Q K V : Fin 8192 → Fin 256 → ℝ)

/-- The columns of a head. -/
def heads (X : Fin 8192 → Fin 256 → ℝ) (g : Fin 4) (t : Fin 8192) (c : Fin 64) : ℝ := X t (colOf g c)
/-- The scores of a head. -/
def score (g : Fin 4) (t s : Fin 8192) : ℝ := (∑ c, heads Q g t c * heads K g s c) * (1 / 8)
/-- The keys a query attends to in a group. -/
def keys (W d : ℕ) (t s : Fin 8192) : Bool := att W d t.val s.val
/-- A group's sum of exponentials, and the one with the values as factors. -/
def den (W d : ℕ) (g : Fin 4) (t : Fin 8192) : ℝ := expSum (keys W d t) (score Q K g t) fun _ => 1
def num (W d : ℕ) (g : Fin 4) (t : Fin 8192) (c : Fin 64) : ℝ := expSum (keys W d t) (score Q K g t) fun s => heads V g s c
/-- The sums over the three groups. -/
def denAll (g : Fin 4) (t : Fin 8192) : ℝ := den Q K 128 1 g t + den Q K 512 4 g t + den Q K 2048 16 g t
def numAll (g : Fin 4) (t : Fin 8192) (c : Fin 64) : ℝ := num Q K V 128 1 g t c + num Q K V 512 4 g t c + num Q K V 2048 16 g t c

theorem keys_some (W d : ℕ) (t : Fin 8192) : ∃ s, keys W d t s = true := ⟨t, att_self W d t.val⟩

theorem den_pos (W d : ℕ) (g : Fin 4) (t : Fin 8192) : 0 < den Q K W d g t := expSum_pos _ _ (keys_some W d t)

theorem splitHeads (X : Fin 8192 → Fin 256 → ℝ) (h : (⟨2, ![8192, 256]⟩ : Shape).ShapeCasts ⟨3, ![8192, 4, 64]⟩) :
    shapeCast (no_index ⟨3, ![8192, 4, 64]⟩) (up2 X) h = up3 fun t g c => X t (colOf g c) := by
  funext i
  refine (shapeCast_apply (up2 X) h i (ValueIdx.ix2 (i 0) (colOf (i 1) (i 2))) ?_).trans rfl
  refine (Shape.rowMajor_val_two _).trans (Eq.trans ?_ (Shape.rowMajor_val_three _).symm)
  show (i 0).val * 256 + ((i 1).val * 64 + (i 2).val) = ((i 0).val * 4 + (i 1).val) * 64 + (i 2).val
  omega

theorem joinHeads (X : Fin 8192 → Fin 4 → Fin 64 → ℝ) (h : (⟨3, ![8192, 4, 64]⟩ : Shape).ShapeCasts ⟨2, ![8192, 256]⟩) :
    shapeCast (no_index ⟨2, ![8192, 256]⟩) (up3 X) h = up2 fun t k => X t (grp k) (lane k) := by
  funext i
  refine (shapeCast_apply (up3 X) h i (ValueIdx.ix3 (i 0) (grp (i 1)) (lane (i 1))) ?_).trans rfl
  refine (Shape.rowMajor_val_three _).trans (Eq.trans ?_ (Shape.rowMajor_val_two _).symm)
  show ((i 0).val * 4 + (i 1).val / 64) * 64 + (i 1).val % 64 = (i 0).val * 256 + (i 1).val
  omega

/-- The three arguments by heads. -/
theorem heads_eq (X : Fin 8192 → Fin 256 → ℝ) : val_main_v1 (F := Ideal) (up2 X) = up3 (heads X) ∧ val_main_v3 (F := Ideal) (up2 X) = up3 (heads X) ∧ val_main_v5 (F := Ideal) (up2 X) = up3 (heads X) := by
  unfold val_main_v1 val_main_v0 val_main_v3 val_main_v2 val_main_v5 val_main_v4
  simp only [splitHeads, swap3, and_self]
  rfl

theorem word_eighth : Ideal.ofBits .f32 0x3E000000#32 = ((1 / 8 : ℝ) : EReal) := by
  simp [Ideal.ofBits, Ideal.ieee, Float.ofBits]
  rw [← EReal.coe_mul]
  norm_num

/-- The scores. -/
theorem score_eq : val_main_v8 (F := Ideal) (up2 Q) (up2 K) = up3 (score Q K) := by
  unfold val_main_v8 val_main_v7 val_main_cst val_main_v6
  simp only [heads_eq, dotStackNT dot_S4x8192x64_S4x8192x64_S4x8192x8192_2_2_1_1_0_0 _ _ (rfl : Axes3 _ _ _ _ _ _ _), const_up0 _ _ word_eighth, bcScalar3, hostVec3]
  rfl

/-- The difference of a query's and a key's position. -/
theorem delta_eq (t s : Fin 8192) : val_main_v15 (F := Ideal) (ValueIdx.ix2 t s) = BitVec.ofNat 32 t.val - BitVec.ofNat 32 s.val := rfl

/-- The bits of the three groups. -/
theorem bits_eq (t s : Fin 8192) : val_main_v25 (F := Ideal) (ValueIdx.ix2 t s) = BitVec.ofBool (keys 128 1 t s)
    ∧ val_main_v50 (F := Ideal) (ValueIdx.ix2 t s) = BitVec.ofBool (keys 512 4 t s) ∧ val_main_v75 (F := Ideal) (ValueIdx.ix2 t s) = BitVec.ofBool (keys 2048 16 t s) := by
  have hw := toInt_sub t.val s.val (by omega) (by omega)
  rw [← delta_eq t s] at hw
  exact ⟨bits _ (by omega) hw (rem_zero _ (d := 1) (.inl rfl)), bits _ (by omega) hw (rem_zero _ (d := 4) (.inr (.inl rfl))),
    bits _ (by omega) hw (rem_zero _ (d := 16) (.inr (.inr rfl)))⟩

/-- Where a group's bit is unset the score is minus infinity. -/
theorem hide_eq (M : IVec S8192x8192 1) (A : Fin 8192 → Fin 8192 → Bool) (hM : ∀ t s, M (ValueIdx.ix2 t s) = BitVec.ofBool (A t s)) (X : Fin 4 → Fin 8192 → Fin 8192 → ℝ) :
    select (broadcastInDim S4x8192x8192 ![1, 2] bcast_S8192x8192_S4x8192x8192_1_2 M) (up3 X) (broadcastInDim S4x8192x8192 ![] bcast_S_S4x8192x8192 down0) = hid3 A X := by
  funext i
  have e : broadcastInDim S4x8192x8192 ![1, 2] bcast_S8192x8192_S4x8192x8192_1_2 M i = BitVec.ofBool (A (i 1) (i 2)) := by
    refine (broadcastInDim_apply _ bcast_S8192x8192_S4x8192x8192_1_2 M i (ValueIdx.ix2 (i 1) (i 2)) fun ax => ?_).trans (hM _ _)
    match ax with | ⟨0, _⟩ => rfl | ⟨1, _⟩ => rfl
  show (if broadcastInDim S4x8192x8192 ![1, 2] bcast_S8192x8192_S4x8192x8192_1_2 M i = 1 then ((X (i 0) (i 1) (i 2) : ℝ) : EReal) else ⊥) = hide (A (i 1) (i 2)) (X (i 0) (i 1) (i 2))
  rw [e]
  unfold hide
  cases A (i 1) (i 2) <;> rfl

/-- The scores of the three groups. -/
theorem hidden_eq : val_main_v28 (F := Ideal) (up2 Q) (up2 K) = hid3 (keys 128 1) (score Q K)
    ∧ val_main_v53 (F := Ideal) (up2 Q) (up2 K) = hid3 (keys 512 4) (score Q K) ∧ val_main_v78 (F := Ideal) (up2 Q) (up2 K) = hid3 (keys 2048 16) (score Q K) := by
  unfold val_main_v28 val_main_v26 val_main_v27 val_main_cst_3 val_main_v53 val_main_v51 val_main_v52 val_main_cst_10 val_main_v78 val_main_v76 val_main_v77 val_main_cst_17
  rw [score_eq, show constant (F := Ideal) S_ .f32 0xFF800000#32 = down0 from const_bot]
  exact ⟨hide_eq _ _ (fun t s => (bits_eq t s).1) _, hide_eq _ _ (fun t s => (bits_eq t s).2.1) _, hide_eq _ _ (fun t s => (bits_eq t s).2.2) _⟩

/-- One group: its softmax average and its logarithm of the sum, from its scores. -/
theorem soft (W d : ℕ) (X : Fin 4 → Fin 8192 → Fin 8192 → ℝ) (U : Fin 4 → Fin 8192 → Fin 64 → ℝ) (S : FVec Ideal S4x8192x8192 .f32) (hS : S = hid3 (keys W d) X) :
    let M := broadcastInDim S4x8192x1 ![0, 1] bcast_S4x8192_S4x8192x1_0_1 (Host.reduce FloatOps.maximumf S (constant (F := Ideal) S_ .f32 0xFF800000#32) reducesTo_S4x8192x8192_S4x8192_d2 h_S_)
    let E : FVec Ideal S4x8192x8192 .f32 := Host.exp (subf S (broadcastInDim S4x8192x8192 ![0, 1, 2] bcast_S4x8192x1_S4x8192x8192_0_1_2 M))
    let L := broadcastInDim S4x8192x1 ![0, 1] bcast_S4x8192_S4x8192x1_0_1 (Host.reduceAdd E (constant (F := Ideal) S_ .f32 0x00000000#32) reducesTo_S4x8192x8192_S4x8192_d2 h_S_)
    Host.divf (Host.dotGeneral (φ₁ := .f32) (φ₂ := .f32) dot_S4x8192x8192_S4x8192x64_S4x8192x64_2_1_1_2_0_0 none E (up3 U)) (broadcastInDim S4x8192x64 ![0, 1, 2] bcast_S4x8192x1_S4x8192x64_0_1_2 L)
        = up3 (fun g t c => expSum (keys W d t) (X g t) (fun s => U g s c) / expSum (keys W d t) (X g t) fun _ => 1)
      ∧ addf M (Host.log L) = up3 fun g t (_ : Fin 1) => Real.log (expSum (keys W d t) (X g t) fun _ => 1) := by
  intro M E L
  have hM : M = up3 fun g t (_ : Fin 1) => top (keys W d t) (X g t) := by
    show broadcastInDim S4x8192x1 ![0, 1] bcast_S4x8192_S4x8192x1_0_1 (Host.reduce FloatOps.maximumf S (constant (F := Ideal) S_ .f32 0xFF800000#32) reducesTo_S4x8192x8192_S4x8192_d2 h_S_) = _
    rw [hS, show constant (F := Ideal) S_ .f32 0xFF800000#32 = down0 from const_bot, hostTop3 _ _ _ _ (keys_some W d)]
    exact bcLast _ _
  have hE : E = up3 fun g t s => if keys W d t s = true then Real.exp (X g t s - top (keys W d t) (X g t)) else 0 := by
    show Host.exp (subf S (broadcastInDim S4x8192x8192 ![0, 1, 2] bcast_S4x8192x1_S4x8192x8192_0_1_2 M)) = _
    rw [hM, hS]
    simp only [bcAlong, hostVec3]
  have hL : L = up3 fun g t (_ : Fin 1) => ∑ s, if keys W d t s = true then Real.exp (X g t s - top (keys W d t) (X g t)) else 0 := by
    show broadcastInDim S4x8192x1 ![0, 1] bcast_S4x8192_S4x8192x1_0_1 (Host.reduceAdd E (constant (F := Ideal) S_ .f32 0x00000000#32) reducesTo_S4x8192x8192_S4x8192_d2 h_S_) = _
    rw [hE]
    simp only [consts, hostSum3, bcLast]
  rw [hE, hL, hM]
  constructor
  · rw [dotStackNN dot_S4x8192x8192_S4x8192x64_S4x8192x64_2_1_1_2_0_0 _ _ (rfl : Axes3 _ _ _ _ _ _ _)]
    rw [show broadcastInDim S4x8192x64 ![0, 1, 2] bcast_S4x8192x1_S4x8192x64_0_1_2 (up3 fun g t (_ : Fin 1) => ∑ s, if keys W d t s = true then Real.exp (X g t s - top (keys W d t) (X g t)) else 0)
      = up3 fun g t (_ : Fin 64) => ∑ s, if keys W d t s = true then Real.exp (X g t s - top (keys W d t) (X g t)) else 0 from bcAlong _ _]
    rw [hostDiv3 _ _ fun g t _ => (soft_pos _ _ _ (keys_some W d t)).ne']
    refine congrArg up3 (funext fun g => funext fun t => funext fun c => ?_)
    exact soft_out _ _ _ _
  · rw [hostLog3 _ fun g t _ => soft_pos _ _ _ (keys_some W d t), add3]
    refine congrArg up3 (funext fun g => funext fun t => funext fun _ => ?_)
    exact soft_lse _ _ _ (keys_some W d t)

/-- The three groups' averages. -/
theorem out_eq : val_main_v38 (F := Ideal) (up2 Q) (up2 K) (up2 V) = up3 (fun g t c => num Q K V 128 1 g t c / den Q K 128 1 g t)
    ∧ val_main_v63 (F := Ideal) (up2 Q) (up2 K) (up2 V) = up3 (fun g t c => num Q K V 512 4 g t c / den Q K 512 4 g t)
    ∧ val_main_v88 (F := Ideal) (up2 Q) (up2 K) (up2 V) = up3 (fun g t c => num Q K V 2048 16 g t c / den Q K 2048 16 g t) := by
  unfold val_main_v38 val_main_v37 val_main_v36 val_main_v35 val_main_v34 val_main_v33 val_main_v32 val_main_v31 val_main_v30 val_main_v29
  unfold val_main_v63 val_main_v62 val_main_v61 val_main_v60 val_main_v59 val_main_v58 val_main_v57 val_main_v56 val_main_v55 val_main_v54
  unfold val_main_v88 val_main_v87 val_main_v86 val_main_v85 val_main_v84 val_main_v83 val_main_v82 val_main_v81 val_main_v80 val_main_v79
  rw [(heads_eq V).2.2]
  exact ⟨(soft _ _ _ (heads V) _ (hidden_eq Q K).1).1, (soft _ _ _ (heads V) _ (hidden_eq Q K).2.1).1, (soft _ _ _ (heads V) _ (hidden_eq Q K).2.2).1⟩

/-- The three groups' logarithms of sums. -/
theorem lse_eq : val_main_v40 (F := Ideal) (up2 Q) (up2 K) = up3 (fun g t _ => Real.log (den Q K 128 1 g t))
    ∧ val_main_v65 (F := Ideal) (up2 Q) (up2 K) = up3 (fun g t _ => Real.log (den Q K 512 4 g t))
    ∧ val_main_v90 (F := Ideal) (up2 Q) (up2 K) = up3 (fun g t _ => Real.log (den Q K 2048 16 g t)) := by
  unfold val_main_v40 val_main_v39 val_main_v35 val_main_v34 val_main_v33 val_main_v32 val_main_v31 val_main_v30 val_main_v29
  unfold val_main_v65 val_main_v64 val_main_v60 val_main_v59 val_main_v58 val_main_v57 val_main_v56 val_main_v55 val_main_v54
  unfold val_main_v90 val_main_v89 val_main_v85 val_main_v84 val_main_v83 val_main_v82 val_main_v81 val_main_v80 val_main_v79
  exact ⟨(soft _ _ _ (heads Q) _ (hidden_eq Q K).1).2, (soft _ _ _ (heads Q) _ (hidden_eq Q K).2.1).2, (soft _ _ _ (heads Q) _ (hidden_eq Q K).2.2).2⟩

/-- The greatest of the three logarithms of sums. -/
def peak (g : Fin 4) (t : Fin 8192) : ℝ := max (max (Real.log (den Q K 128 1 g t)) (Real.log (den Q K 512 4 g t))) (Real.log (den Q K 2048 16 g t))
/-- The three weights' sum before the division. -/
def weights (g : Fin 4) (t : Fin 8192) : ℝ :=
  0 + Real.exp (Real.log (den Q K 128 1 g t) - peak Q K g t) + Real.exp (Real.log (den Q K 512 4 g t) - peak Q K g t) + Real.exp (Real.log (den Q K 2048 16 g t) - peak Q K g t)

theorem weights_pos (g : Fin 4) (t : Fin 8192) : 0 < weights Q K g t := by unfold weights; positivity

theorem peak_eq : val_main_v92 (F := Ideal) (up2 Q) (up2 K) = up3 fun g t _ => peak Q K g t := by
  unfold val_main_v92 val_main_v91
  simp only [lse_eq Q K, hostVec3]
  rfl

theorem exp_eq : val_main_v94 (F := Ideal) (up2 Q) (up2 K) = up3 (fun g t _ => Real.exp (Real.log (den Q K 128 1 g t) - peak Q K g t))
    ∧ val_main_v96 (F := Ideal) (up2 Q) (up2 K) = up3 (fun g t _ => Real.exp (Real.log (den Q K 512 4 g t) - peak Q K g t))
    ∧ val_main_v98 (F := Ideal) (up2 Q) (up2 K) = up3 (fun g t _ => Real.exp (Real.log (den Q K 2048 16 g t) - peak Q K g t)) := by
  unfold val_main_v94 val_main_v93 val_main_v96 val_main_v95 val_main_v98 val_main_v97
  simp only [lse_eq Q K, peak_eq, hostVec3, and_self]

theorem weights_eq : val_main_v102 (F := Ideal) (up2 Q) (up2 K) = up3 fun g t _ => weights Q K g t := by
  unfold val_main_v102 val_main_v101 val_main_v100 val_main_v99 val_main_cst_20
  simp only [exp_eq, consts, bcScalar3, add3]
  rfl

/-- The attention's result. -/
theorem o_eq : val_main_v117 (F := Ideal) (up2 Q) (up2 K) (up2 V) = up2 fun t k => numAll Q K V (grp k) t (lane k) / denAll Q K (grp k) t := by
  unfold val_main_v117 val_main_v116 val_main_v115 val_main_v114 val_main_v113 val_main_v112 val_main_v111 val_main_v110 val_main_v109 val_main_v108 val_main_v107 val_main_v106 val_main_cst_21 val_main_v105 val_main_v104 val_main_v103
  simp (disch := exact fun g t _ => (weights_pos Q K g t).ne') only [exp_eq, weights_eq, out_eq, hostDiv3, bcAlong, bcScalar3, consts, hostVec3, add3, swap3, joinHeads]
  refine congrArg up2 (funext fun t => funext fun k => ?_)
  exact mix_out (den_pos Q K 128 1 _ t) (den_pos Q K 512 4 _ t) (den_pos Q K 2048 16 _ t) _ _ _ _

/-- The logarithms of the sums. -/
theorem lseAll_eq : val_main_v121 (F := Ideal) (up2 Q) (up2 K) = up2 fun t g => Real.log (denAll Q K g t) := by
  unfold val_main_v121 val_main_v120 val_main_v119 val_main_v118
  simp (disch := exact fun g t _ => weights_pos Q K g t) only [weights_eq, peak_eq, hostLog3, add3, castLast, transp]
  refine congrArg up2 (funext fun t => funext fun g => ?_)
  exact mix_lse (den_pos Q K 128 1 _ t) (den_pos Q K 512 4 _ t) (den_pos Q K 2048 16 _ t) _

end Cert.AttRef

end
-- ==== Proof.AttTable.lean ====
/- The table of logarithms of multiplicities the host prepares for the attention kernel, on reals. -/
module

public import proofs.«01_k».proof.Proof.Attend
public import proofs.«01_k».proof.Proof.Gen.AttIdeal.Value
public import Idealize.ShloMosaic.Lib.Claim
public import Idealize.ShloMosaic.Lib.Pipeline.ValueKit
public import Idealize.ShloMosaic.Lib.Pipeline.ReadBack

@[expose] public section

set_option maxRecDepth 16384
set_option maxHeartbeats 1000000

noncomputable section

namespace Cert.AttTable

open Idealize.ShloMosaic Idealize.ShloMosaic.TcCoe Idealize.SL.Sem Cert.Lift Cert.Attend Cert.AttIdeal Cert.AttIdeal.Gen

/-- The word that holds the distance of a query of the block and a key of the window. -/
def far (r : Fin 128) (j : Fin 2176) : BitVec 32 := IntOp.subi (IntOp.addi (BitVec.ofNat 32 r.val) 2048#32) (BitVec.ofNat 32 j.val)

/-- Whether the query attends to the key in a group, as the host computes it. -/
def bit (W d : BitVec 32) (r : Fin 128) (j : Fin 2176) : BitVec 1 :=
  IntOp.andi (IntOp.andi (IntOp.cmpi .sge (far r j) 0#32) (IntOp.cmpi .sle (far r j) W)) (IntOp.cmpi .eq (modWord (far r j) d) 0#32)

theorem bit_eq (W d : ℕ) (hW : W < 2 ^ 31) (hd : Dil d) (r : Fin 128) (j : Fin 2176) : bit (BitVec.ofNat 32 W) (BitVec.ofNat 32 d) r j = BitVec.ofBool (att W d (r.val + 2048) j.val) := by
  have e : far r j = BitVec.ofNat 32 (r.val + 2048) - BitVec.ofNat 32 j.val := congrArg (· - BitVec.ofNat 32 j.val) (WordCmp.addi_ofNat (w := 32) r.val 2048)
  have hw := toInt_sub (r.val + 2048) j.val (by omega) (by omega)
  unfold bit
  rw [e]
  exact bits _ hW hw (mod_zero _ hd)

/-- In how many groups the query attends to the key, as the host adds the bits up. -/
def sum (r : Fin 128) (j : Fin 2176) : Ideal .f32 :=
  FloatOps.addf (FloatOps.addf (FloatOps.addf (Ideal.ofBits .f32 0x00000000#32) (FloatOps.uitofp (F := Ideal) .f32 (bit 128#32 1#32 r j))) (FloatOps.uitofp (F := Ideal) .f32 (bit 512#32 4#32 r j)))
    (FloatOps.uitofp (F := Ideal) .f32 (bit 2048#32 16#32 r j))

/-- An entry of the table, as the host computes it. -/
def entry (r : Fin 128) (j : Fin 2176) : Ideal .f32 :=
  Scalar.select (FloatOps.cmpf .ogt (sum r j) (Ideal.ofBits .f32 0x00000000#32)) (FloatOps.hostUnary .log (FloatOps.maximumf (sum r j) (Ideal.ofBits .f32 0x3F800000#32))) (Ideal.ofBits .f32 0xFF800000#32)

/-- The table before the region runs, entry by entry. -/
theorem table_words (m : (ℓ : Loc nD τ sig) → Buf (Elt Ideal) ℓ) (c : Dev nD) : V m c main_v48 = fun y => entry (y 0) (y 1) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  simp only [StableHlo.TRef.ofBuf_toBuf, id_eq]
  funext y
  rfl

/-- The sum is the number of groups. -/
theorem sum_eq (r : Fin 128) (j : Fin 2176) : sum r j = ((Attend.count (r.val + 2048) j.val : ℝ) : EReal) := by
  have e (b : Bool) : FloatOps.uitofp (F := Ideal) .f32 (BitVec.ofBool b) = ((b.toNat : ℝ) : EReal) := by cases b <;> rfl
  have h₁ := bit_eq 128 1 (by omega) (.inl rfl) r j
  have h₂ := bit_eq 512 4 (by omega) (.inr (.inl rfl)) r j
  have h₃ := bit_eq 2048 16 (by omega) (.inr (.inr rfl)) r j
  unfold sum
  rw [show bit 128#32 1#32 r j = _ from h₁, show bit 512#32 4#32 r j = _ from h₂, show bit 2048#32 16#32 r j = _ from h₃, e, e, e]
  unfold Attend.count
  rw [Nat.cast_add, Nat.cast_add, EReal.coe_add, EReal.coe_add]
  refine congrArg (· + _) (congrArg (· + _) ?_)
  show Ideal.ofBits .f32 0x00000000#32 + (((att 128 1 (r.val + 2048) j.val).toNat : ℝ) : EReal) = _
  rw [Ideal.ofBits_zero_f32, zero_add]

/-- An entry: the logarithm of the number of groups where there is one, minus infinity elsewhere. -/
theorem entry_eq (r : Fin 128) (j : Fin 2176) : entry r j = hide (decide (0 < Attend.count (r.val + 2048) j.val)) (logCount r j) := by
  have h1 : Ideal.ofBits .f32 0x3F800000#32 = ((1 : ℝ) : EReal) := (words).2.1
  unfold entry logCount
  rw [sum_eq, h1, Ideal.ofBits_zero_f32, word_bot]
  generalize Attend.count (r.val + 2048) j.val = n
  show Scalar.select (Ideal.cmp .ogt ((n : ℝ) : EReal) 0) (Ideal.log (max ((n : ℝ) : EReal) ((1 : ℝ) : EReal))) ⊥ = _
  have hm : max ((n : ℝ) : EReal) ((1 : ℝ) : EReal) = ((max (n : ℝ) 1 : ℝ) : EReal) := (EReal.coe_strictMono.monotone.map_max).symm
  have hp : (0 : ℝ) < max (n : ℝ) 1 := lt_max_of_lt_right one_pos
  rw [hm, log_coe hp]
  have hc : Ideal.cmp .ogt ((n : ℝ) : EReal) 0 = BitVec.ofBool (decide (0 < n)) := by
    refine congrArg BitVec.ofBool (decide_eq_decide.mpr ?_)
    exact (EReal.coe_pos (x := (n : ℝ))).trans Nat.cast_pos
  rw [hc]
  unfold hide
  cases decide (0 < n) <;> rfl

/-- The table before the region runs. -/
theorem table_eq (m : (ℓ : Loc nD τ sig) → Buf (Elt Ideal) ℓ) (c : Dev nD) : V m c main_v48 = hid2 (fun r j => decide (0 < Attend.count (r.val + 2048) j.val)) logCount := by
  rw [table_words]
  exact funext fun y => entry_eq (y 0) (y 1)

end Cert.AttTable

end
-- ==== Proof.AttFinal.lean ====
/- The arrays the attention kernel leaves, on reals. -/
module

public import proofs.«01_k».proof.Proof.AttKernel
public import proofs.«01_k».proof.Proof.AttRef
public import proofs.«01_k».proof.Proof.AttTable
public import proofs.«01_k».proof.Proof.LiftLoad
public import proofs.«01_k».proof.Proof.LiftCut

@[expose] public section

set_option maxRecDepth 16384

noncomputable section

namespace Cert.AttFinal

open Idealize.ShloMosaic Idealize.ShloMosaic.TcCoe Idealize.SL.Sem Cert.Lift Cert.Gating Cert.Attend Cert.AttIdeal Cert.AttIdeal.Gen
open Idealize.ShloMosaic.Pipeline (Dat)
open Cert.AttRef (score heads keys den num denAll numAll)
open Cert.AttTile (scored)

variable (m : (ℓ : Loc nD τ sig) → Buf (Elt Ideal) ℓ) (c : Dev nD)
variable (Q K U : Fin 8192 → Fin 256 → ℝ)

/-- The memory holds the reals `Q`, `K`, `U` in the arguments. -/
structure Holds : Prop where
  h0 : m ((c : Thread nD τ).loc main_arg0) = up2 Q
  h1 : m ((c : Thread nD τ).loc main_arg1) = up2 K
  h2 : m ((c : Thread nD τ).loc main_arg2) = up2 U

/-- Which block each window stages at a point. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0] ∧ win0_5.index t = ![t.val, 0])

/-- The grid coordinate of a point, and where its windows of keys begin. -/
theorem offs : ∀ t : Fin cfg0.N, (grid0.coords t 0).val = t.val ∧ k0_off1 (grid0.coords t) = ![128 * t.val, 64 * (0 : Fin 4).val] ∧ k0_off2 (grid0.coords t) = ![128 * t.val, 64 * (1 : Fin 4).val]
    ∧ k0_off3 (grid0.coords t) = ![128 * t.val, 64 * (2 : Fin 4).val] ∧ k0_off4 (grid0.coords t) = ![128 * t.val, 64 * (3 : Fin 4).val] :=
  (by decide +kernel : ∀ t : Fin grid0.N, (grid0.coords t 0).val = t.val ∧ k0_off1 (grid0.coords t) = ![128 * t.val, 64 * (0 : Fin 4).val] ∧ k0_off2 (grid0.coords t) = ![128 * t.val, 64 * (1 : Fin 4).val]
    ∧ k0_off3 (grid0.coords t) = ![128 * t.val, 64 * (2 : Fin 4).val] ∧ k0_off4 (grid0.coords t) = ![128 * t.val, 64 * (3 : Fin 4).val])

/-- Row `r` of point `t`'s block of queries. -/
def row (t : Fin cfg0.N) (r : Fin 128) : Fin 8192 := ⟨t.val * 128 + r.val, by have h := t.isLt; have := r.isLt; have h2 : cfg0.N = 64 := N_0; omega⟩
/-- Row `j` of point `t`'s window of padded keys. -/
def win (t : Fin cfg0.N) (j : Fin 2176) : Fin 10240 := ⟨128 * t.val + j.val, by have h := t.isLt; have := j.isLt; have h2 : cfg0.N = 64 := N_0; omega⟩
/-- 2048 rows of zeros before an array. -/
def padded (X : Fin 8192 → Fin 256 → ℝ) (s : Fin 10240) (k : Fin 256) : ℝ := if h : s.val < 2048 then 0 else X ⟨s.val - 2048, by have := s.isLt; omega⟩ k

theorem padCat (X : Fin 8192 → Fin 256 → ℝ) (h) :
    concatenate S10240x256 0 [⟨S2048x256, up2 fun _ _ => 0⟩, ⟨S8192x256, up2 X⟩] h = up2 (padded X) := by
  funext j
  obtain ⟨r, k, rfl⟩ : ∃ r k, j = ValueIdx.ix2 r k := ⟨_, _, ValueIdx.eq_ix2 j⟩
  have hr : r.val < 10240 := r.isLt
  show _ = ((padded X r k : ℝ) : EReal)
  unfold padded
  by_cases h₁ : r.val < 2048
  · rw [dif_pos h₁]
    exact concatenate_apply_piece (t := S10240x256) (0 : Fin 2) [⟨S2048x256, up2 fun _ _ => 0⟩, ⟨S8192x256, up2 X⟩] h (ValueIdx.ix2 r k) 0 (by simp) S2048x256 (up2 fun _ _ => 0) rfl rfl 0 (by simp) (ValueIdx.ix2 ⟨r.val, h₁⟩ k)
      (fun ax hax => by match ax with | ⟨1, _⟩ => rfl | ⟨0, _⟩ => exact absurd rfl hax) (Nat.zero_add _)
  · rw [dif_neg h₁]
    exact concatenate_apply_piece (t := S10240x256) (0 : Fin 2) [⟨S2048x256, up2 fun _ _ => 0⟩, ⟨S8192x256, up2 X⟩] h (ValueIdx.ix2 r k) 1 (by simp) S8192x256 (up2 X) rfl rfl 2048 (by simp) (ValueIdx.ix2 ⟨r.val - 2048, by omega⟩ k)
      (fun ax hax => by match ax with | ⟨1, _⟩ => rfl | ⟨0, _⟩ => exact absurd rfl hax) (show 2048 + (r.val - 2048) = r.val by omega)

theorem loadKeys (X : Fin 10240 → Fin 256 → ℝ) (t : Fin cfg0.N) (g : Fin 4) (off : Fin 2 → ℕ) (inb) (h : off = ![128 * t.val, 64 * g.val]) :
    View.ld (Val := Elt Ideal) (e' := .bf16) (up2 X) (Rect.unit (s := S10240x256) off ![2176, 64] inb) = up2 fun j k => X (win t j) (colOf g k) := by
  subst h
  refine (loadHalf X _ _ inb).trans (congrArg up2 (funext fun j => funext fun k => congrArg (X _) (Fin.ext ?_)))
  show 64 * g.val + k.val = g.val * 64 + k.val
  omega

theorem loadQueries (X : Fin 128 → Fin 256 → ℝ) (g : Fin 4) (p : ℕ) (hp : p = g.val * 64) (inb) :
    View.ld (Val := Elt Ideal) (e' := .bf16) (up2 X) (Rect.unit (s := S128x256) ![0, p] ![128, 64] inb) = up2 fun r k => X r (colOf g k) := by
  subst hp
  exact (loadHalf X _ _ inb).trans (congrArg up2 (funext fun r => funext fun k => congrArg₂ X (Fin.ext (Nat.zero_add _)) rfl))

section

variable {m c Q K U} (H : Holds m c Q K U)
include H

/-- The queries and the padded keys and values the host prepares. -/
theorem host : V m c main_v49 = up2 Q ∧ V m c main_v52 = up2 (padded K) ∧ V m c main_v55 = up2 (padded U) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results_simp
  have hz : broadcastInDim S2048x256 ![] bcast_S_S2048x256 (constant (F := Ideal) S_ .bf16 0x0000#16) = up2 fun _ _ => 0 := by
    funext y
    show Ideal.ofBits .bf16 0x0000#16 = ((0 : ℝ) : EReal)
    simp [Ideal.ofBits, Ideal.ieee]
  refine ⟨H.h0, ?_, ?_⟩
  · exact (congrArg₂ (fun (a : FVec Ideal S2048x256 .bf16) (b : FVec Ideal S8192x256 .bf16) => concatenate S10240x256 0 [⟨S2048x256, a⟩, ⟨S8192x256, b⟩] concatenates_S2048x256_S8192x256_S10240x256_d0) hz H.h1).trans (padCat K _)
  · exact (congrArg₂ (fun (a : FVec Ideal S2048x256 .bf16) (b : FVec Ideal S8192x256 .bf16) => concatenate S10240x256 0 [⟨S2048x256, a⟩, ⟨S8192x256, b⟩] concatenates_S2048x256_S8192x256_S10240x256_d0) hz H.h2).trans (padCat U _)

theorem blk0 (t : Fin cfg0.N) : iblk m c 0 t = up2 fun r k => Q (row t r) k := by
  funext y
  refine Eq.trans (b := V m c main_v49 (ValueIdx.ix2 (row t (y 0)) (y 1))) ?_ (congrFun (host H).1 _)
  blk_ext [iblk, idx t, row]

theorem blk1 (t : Fin cfg0.N) : iblk m c 1 t = up2 (padded K) := by
  funext y
  refine Eq.trans (b := V m c main_v52 (ValueIdx.ix2 (y 0) (y 1))) ?_ (congrFun (host H).2.1 _)
  blk_ext [iblk, idx t]

theorem blk2 (t : Fin cfg0.N) : iblk m c 2 t = up2 (padded U) := by
  funext y
  refine Eq.trans (b := V m c main_v55 (ValueIdx.ix2 (y 0) (y 1))) ?_ (congrFun (host H).2.2 _)
  blk_ext [iblk, idx t]

omit H in
theorem blk3 (t : Fin cfg0.N) : iblk m c 3 t = hid2 (fun r j => decide (0 < Attend.count (r.val + 2048) j.val)) logCount := by
  funext y
  refine Eq.trans (b := V m c main_v48 (ValueIdx.ix2 (y 0) (y 1))) ?_ (congrFun (AttTable.table_eq m c) _)
  blk_ext [iblk, idx t]

omit H in
/-- The scores of a block with the bias added, row by row, in the reference's terms: the window's sums are those of the three groups. -/
theorem sums (X W : Fin 8192 → Fin 256 → ℝ) (t : Fin cfg0.N) (g : Fin 4) (r : Fin 128) (v : Fin 8192 → ℝ) (v' : Fin 2176 → ℝ)
    (hv : ∀ (j : Fin 2176) (s : Fin 8192), s.val + 2048 = 128 * t.val + j.val → v' j = v s) :
    expSum (seen t.val r) (scored logCount (fun r k => X (row t r) (colOf g k)) (fun j k => padded W (win t j) (colOf g k)) r) v'
      = expSum (keys 128 1 (row t r)) (score X W g (row t r)) v + expSum (keys 512 4 (row t r)) (score X W g (row t r)) v + expSum (keys 2048 16 (row t r)) (score X W g (row t r)) v := by
  have ht : t.val < 64 := lt_of_lt_of_eq t.isLt N_0
  refine window ⟨t.val, ht⟩ r (row t r) (by show t.val * 128 + r.val = 128 * t.val + r.val; omega) _ v (fun j => ∑ k, X (row t r) (colOf g k) * (1 / 8) * padded W (win t j) (colOf g k)) v' (fun j s hs => ?_) hv
  have e (k : Fin 256) : padded W (win t j) k = W s k := by
    have hs' : s.val + 2048 = 128 * t.val + j.val := hs
    unfold padded
    rw [dif_neg (show ¬ (win t j).val < 2048 by show ¬ 128 * t.val + j.val < 2048; omega)]
    exact congrArg (fun q => W q k) (Fin.ext (by show 128 * t.val + j.val - 2048 = s.val; omega))
  unfold score heads
  rw [Finset.sum_mul]
  refine Finset.sum_congr rfl fun k _ => ?_
  rw [e]
  ring

omit H in
theorem seen_some (t : Fin cfg0.N) (r : Fin 128) : ∃ j, seen t.val r j = true := ⟨_, seen_self t.val r⟩

omit H in
/-- The bias at a point. -/
theorem biasAt (t : Fin cfg0.N) : k0_pay2 (grid0.coords t) (iblk m c 3 t) = hid2 (seen t.val) logCount := by
  rw [blk3, AttTile.bias, (offs t).1]

/-- One head's block of the result. -/
theorem blockOut (t : Fin cfg0.N) (g : Fin 4) (off : Fin 2 → ℕ) (inb) (h : off = ![128 * t.val, 64 * g.val]) (p : ℕ) (hp : p = g.val * 64) (inb') :
    k0_pay13 (k0_pay2 (grid0.coords t) (iblk m c 3 t)) (View.ld (iblk m c 0 t) (Rect.unit (s := S128x256) ![0, p] ![128, 64] inb'))
        (View.ld (iblk m c 1 t) (Rect.unit (s := S10240x256) off ![2176, 64] inb)) (View.ld (iblk m c 2 t) (Rect.unit (s := S10240x256) off ![2176, 64] inb))
      = up2 fun r k => numAll Q K U g (row t r) k / denAll Q K g (row t r) := by
  rw [blk0 H, blk1 H, blk2 H, biasAt]
  refine (congr (congrArg₂ (k0_pay13 _) (loadQueries (fun r k => Q (row t r) k) g p hp inb') (loadKeys (padded K) t g off inb h)) (loadKeys (padded U) t g off inb h)).trans ?_
  refine (AttTile.outs _ _ _ _ (seen_some t)).trans (congrArg up2 (funext fun r => funext fun k => congrArg₂ (· / ·) ?_ ?_))
  · refine sums Q K t g r (fun s => heads U g s k) _ fun j s hs => ?_
    unfold padded
    rw [dif_neg (show ¬ (win t j).val < 2048 by show ¬ 128 * t.val + j.val < 2048; omega)]
    exact congrArg (fun q => U q (colOf g k)) (Fin.ext (by show 128 * t.val + j.val - 2048 = s.val; omega))
  · exact sums Q K t g r _ _ fun _ _ _ => rfl

/-- One head's column of the logarithms of sums. -/
theorem blockLse (t : Fin cfg0.N) (g : Fin 4) (off : Fin 2 → ℕ) (inb) (h : off = ![128 * t.val, 64 * g.val]) (p : ℕ) (hp : p = g.val * 64) (inb') :
    k0_pay14 (k0_pay2 (grid0.coords t) (iblk m c 3 t)) (View.ld (iblk m c 0 t) (Rect.unit (s := S128x256) ![0, p] ![128, 64] inb')) (View.ld (iblk m c 1 t) (Rect.unit (s := S10240x256) off ![2176, 64] inb))
      = up2 fun r _ => Real.log (denAll Q K g (row t r)) := by
  rw [blk0 H, blk1 H, biasAt]
  refine (congrArg₂ (k0_pay14 _) (loadQueries (fun r k => Q (row t r) k) g p hp inb') (loadKeys (padded K) t g off inb h)).trans ?_
  refine (AttTile.lses _ _ _ (seen_some t)).trans (congrArg up2 (funext fun r => funext fun k => congrArg Real.log ?_))
  exact sums Q K t g r _ _ fun _ _ _ => rfl

omit H in
/-- A head's columns stand at their place. -/
theorem at_head (X : Fin 4 → Fin 8192 → Fin 64 → ℝ) (t : Fin cfg0.N) (g : Fin 4) (x : (⟨2, ![128, 64]⟩ : Shape).Idx) (y : (⟨2, ![128, 256]⟩ : Shape).Idx) (e : (y 0).val = (x 0).val) (e' : (y 1).val = g.val * 64 + (x 1).val) :
    up2 (fun r k => X g (row t r) k) x = up2 (fun r k => X (grp k) (row t r) (lane k)) y := by
  have h1 : (x 1).val < 64 := (x 1).isLt
  have e0 : y 0 = x 0 := Fin.ext e
  have e1 : grp (y 1) = g := Fin.ext (by show (y 1).val / 64 = g.val; omega)
  have e2 : lane (y 1) = x 1 := Fin.ext (by show (y 1).val % 64 = (x 1).val; omega)
  refine congrArg (fun z : ℝ => (z : EReal)) ?_
  show X g (row t (x 0)) (x 1) = X (grp (y 1)) (row t (y 0)) (lane (y 1))
  rw [e0, e1, e2]

/-- The attention's result. -/
theorem final4 : (dats m 0 c).arrAt 4 cfg0.N = up2 fun t k => numAll Q K U (grp k) t (lane k) / denAll Q K (grp k) t := by
  refine (dats m 0 c).arrAt_eq_of_covers 4 _ (by decide +kernel) fun t hf y => ?_
  have ht : t.val < 64 := lt_of_lt_of_eq t.isLt N_0
  blk_simp
  rw [after0_4]
  unfold outsAt0
  frame_out
  refine Eq.trans (b := up2 (fun r k => (fun g t c => numAll Q K U g t c / denAll Q K g t) (grp k) (row t r) (lane k)) y) ?_ ?_
  · canon_tiles x e
    · exact (congrFun (blockOut H t 3 _ _ (offs t).2.2.2.2 192 rfl _) x).trans (at_head (fun g t c => numAll Q K U g t c / denAll Q K g t) t 3 x y (by omega) (by show _ = 3 * 64 + _; omega))
    · exact (congrFun (blockOut H t 2 _ _ (offs t).2.2.2.1 128 rfl _) x).trans (at_head (fun g t c => numAll Q K U g t c / denAll Q K g t) t 2 x y (by omega) (by show _ = 2 * 64 + _; omega))
    · exact (congrFun (blockOut H t 1 _ _ (offs t).2.2.1 64 rfl _) x).trans (at_head (fun g t c => numAll Q K U g t c / denAll Q K g t) t 1 x y (by omega) (by show _ = 1 * 64 + _; omega))
    · exact (congrFun (blockOut H t 0 _ _ (offs t).2.1 0 rfl _) x).trans (at_head (fun g t c => numAll Q K U g t c / denAll Q K g t) t 0 x y (by omega) (by show _ = 0 * 64 + _; omega))
  · refine Eq.trans (b := up2 (fun t k => numAll Q K U (grp k) t (lane k) / denAll Q K (grp k) t) (ValueIdx.ix2 (row t (y 0)) (y 1))) rfl ?_
    blk_point [idx t, row]

omit H in
/-- A head's column stands at its place. -/
theorem at_column (X : Fin 8192 → Fin 4 → ℝ) (t : Fin cfg0.N) (g : Fin 4) (x : (⟨2, ![128, 1]⟩ : Shape).Idx) (y : (⟨2, ![128, 4]⟩ : Shape).Idx) (e : (y 0).val = (x 0).val) (e' : (y 1).val = g.val + (x 1).val) :
    up2 (fun r _ => X (row t r) g) x = up2 (fun r g => X (row t r) g) y := by
  have h1 : (x 1).val < 1 := (x 1).isLt
  have e0 : y 0 = x 0 := Fin.ext e
  have e1 : y 1 = g := Fin.ext (by omega)
  refine congrArg (fun z : ℝ => (z : EReal)) ?_
  show X (row t (x 0)) g = X (row t (y 0)) (y 1)
  rw [e0, e1]

/-- The logarithms of the sums. -/
theorem final5 : (dats m 0 c).arrAt 5 cfg0.N = up2 fun t g => Real.log (denAll Q K g t) := by
  refine (dats m 0 c).arrAt_eq_of_covers 5 _ (by decide +kernel) fun t hf y => ?_
  have ht : t.val < 64 := lt_of_lt_of_eq t.isLt N_0
  blk_simp
  rw [after0_5]
  unfold outsAt0
  frame_out
  refine Eq.trans (b := up2 (fun r g => (fun t g => Real.log (denAll Q K g t)) (row t r) g) y) ?_ ?_
  · canon_tiles x e
    · exact (congrFun (blockLse H t 3 _ _ (offs t).2.2.2.2 192 rfl _) x).trans (at_column (fun t g => Real.log (denAll Q K g t)) t 3 x y (by omega) (by show _ = 3 + _; omega))
    · exact (congrFun (blockLse H t 2 _ _ (offs t).2.2.2.1 128 rfl _) x).trans (at_column (fun t g => Real.log (denAll Q K g t)) t 2 x y (by omega) (by show _ = 2 + _; omega))
    · exact (congrFun (blockLse H t 1 _ _ (offs t).2.2.1 64 rfl _) x).trans (at_column (fun t g => Real.log (denAll Q K g t)) t 1 x y (by omega) (by show _ = 1 + _; omega))
    · exact (congrFun (blockLse H t 0 _ _ (offs t).2.1 0 rfl _) x).trans (at_column (fun t g => Real.log (denAll Q K g t)) t 0 x y (by omega) (by show _ = 0 + _; omega))
  · refine Eq.trans (b := up2 (fun t g => Real.log (denAll Q K g t)) (ValueIdx.ix2 (row t (y 0)) (y 1))) rfl ?_
    blk_point [idx t, row]

end

end Cert.AttFinal

end
-- ==== Proof.AttClaim.lean ====
/- The dilated attention: the three claims of its pair that no generated theorem states. -/
module

public import proofs.«01_k».proof.Defs
public import proofs.«01_k».proof.Proof.AttFinal
public import proofs.«01_k».proof.Proof.Gen.Att.Frame
public import proofs.«01_k».proof.Proof.Gen.AttIdeal.Frame
public import proofs.«01_k».proof.Proof.Gen.AttRefIdeal.Run
public import proofs.«01_k».proof.Proof.Gen.Pre_att_finite

@[expose] public section

set_option maxRecDepth 16384
set_option maxHeartbeats 1000000

noncomputable section

namespace Cert.AttClaim

open Idealize.ShloMosaic Idealize.SL.Sem Cert.Lift

/-- The precondition says that the three arguments hold real numbers only. -/
theorem real_args (a0 a1 a2 : Vec Ideal ⟨2, ![8192, 256]⟩ .f32) (j : (⟨0, ![]⟩ : Shape).Idx) (h : Cert.Pre_att_finite.fn (F := Ideal) a0 a1 a2 j = 1#1) :
    (∃ Q, a0 = up2 Q) ∧ (∃ K, a1 = up2 K) ∧ ∃ U, a2 = up2 U := by
  dsimp only [Cert.Pre_att_finite.fn] at h
  obtain ⟨h, h2⟩ := and_one _ _ _ h
  obtain ⟨h0, h1⟩ := and_one _ _ _ h
  exact ⟨real2 _ _ _ _ _ _ h0, real2 _ _ _ _ _ _ h1, real2 _ _ _ _ _ _ h2⟩

/-- The reference runs to the end from every memory, and declares no semaphore. -/
theorem frame_ref : Cert.quiescent_AttRefIdeal := fun m ρ _ =>
  (θ_run Cert.AttRefIdeal.defs _ _).mono (fun r h => ⟨fun c => (h c).2.2, sem_eq_zero_of_no_sems (by decide) r.2⟩)
    (Cert.AttRefIdeal.Value.run (F := Ideal) m ρ)

/-- The mask's word stands for minus infinity in the kernel read over the reals. -/
theorem preserves : Cert.preserves_Att_AttIdeal := IdealRules.named_const.statement Cert.AttIdeal.κ "mask" .f32 0xF149F2CA#32 ⊥ rfl

/-- Over the reals the kernel's two results are the attention and the logarithms of its sums. -/
theorem value : Cert.algebraic_AttIdeal_AttRefIdeal_pre_att_finite := by
  pair_intro
  all_goals have hreal := fun c => real_args _ _ _ _ (congrFun (hpre c) ValueIdx.ix0)
  run_from Cert.AttIdeal.Value.run_blocks m g
  all_goals try refine θ_run_mono (Cert.AttRefIdeal.Value.run m' g') fun r hr c => ?_
  all_goals
    obtain ⟨⟨Q, h0⟩, ⟨K, h1⟩, U, h2⟩ := hreal c
    have H : AttFinal.Holds m c Q K U := ⟨h0, h1, h2⟩
    obtain ⟨e0, e1, e2⟩ := hagree c
    obtain ⟨r0, r1, r2⟩ := hr c
    refine ⟨r0.trans ((AttRefIdeal.Read.val_main_v117_eq _).trans ?_), r1.trans ((AttRefIdeal.Read.val_main_v121_eq _).trans ?_), r2⟩
  · have e : AttRefIdeal.Read.val_main_v117 (F := Ideal) (m' ((c.tc : Thread AttRefIdeal.nD AttRefIdeal.τ).loc AttRefIdeal.main_arg0)) (m' ((c.tc : Thread AttRefIdeal.nD AttRefIdeal.τ).loc AttRefIdeal.main_arg1))
        (m' ((c.tc : Thread AttRefIdeal.nD AttRefIdeal.τ).loc AttRefIdeal.main_arg2)) = (AttIdeal.Gen.dats m 0 c).arrAt 4 AttIdeal.cfg0.N := by
      rw [e0, e1, e2, h0, h1, h2]
      exact (AttRef.o_eq Q K U).trans (AttFinal.final4 H).symm
    exact e
  · have e : AttRefIdeal.Read.val_main_v121 (F := Ideal) (m' ((c.tc : Thread AttRefIdeal.nD AttRefIdeal.τ).loc AttRefIdeal.main_arg0)) (m' ((c.tc : Thread AttRefIdeal.nD AttRefIdeal.τ).loc AttRefIdeal.main_arg1))
        = (AttIdeal.Gen.dats m 0 c).arrAt 5 AttIdeal.cfg0.N := by
      rw [e0, e1, h0, h1]
      exact (AttRef.lseAll_eq Q K).trans (AttFinal.final5 H).symm
    exact e

end Cert.AttClaim

end
-- ==== Proof.MixKernel.lean ====
/- The values the mixers' input products' gradient kernel computes from one tile of rows, on reals. -/
module

public import proofs.«01_k».proof.Proof.RmsNorm
public import proofs.«01_k».proof.Proof.LiftDot
public import proofs.«01_k».proof.Proof.Gen.MixIdeal.Skeleton

@[expose] public section

noncomputable section

namespace Cert.MixTile

open Idealize.ShloMosaic Cert.Lift Cert.RmsNorm Cert.MixIdeal Cert.MixIdeal.Gen

variable (A : Fin 512 → Fin 1792 → ℝ) (WA : Fin 1024 → Fin 1792 → ℝ) (B : Fin 512 → Fin 768 → ℝ) (WB : Fin 1024 → Fin 768 → ℝ)
  (Z : Fin 512 → Fin 4096 → ℝ) (WZ : Fin 1024 → Fin 4096 → ℝ) (X D : Fin 512 → Fin 1024 → ℝ) (G : Fin 1 → Fin 1024 → ℝ)

/-- The cotangent of the normalised and scaled rows. -/
abbrev dh (r : Fin 512) (k : Fin 1024) : ℝ := (∑ l, A r l * WA k l) + (∑ l, B r l * WB k l) + ∑ l, Z r l * WZ k l

theorem pay3 : k0_pay3 (F := Ideal) (up2 A) (up2 WA) (up2 B) (up2 WB) (up2 Z) (up2 WZ) = up2 (dh A WA B WB Z WZ) := by
  unfold k0_pay3
  simp (disch := exact rfl) only [castSelf, vec2, mmNT _ _ _ (rfl : Axes dot_S512x1792_S1024x1792_S512x1024_1_1_0_0_n_n _ _ _ _),
    mmNT _ _ _ (rfl : Axes dot_S512x768_S1024x768_S512x1024_1_1_0_0_n_n _ _ _ _), mmNT _ _ _ (rfl : Axes dot_S512x4096_S1024x4096_S512x1024_1_1_0_0_n_n _ _ _ _)]

/-- The reciprocal root mean squares. -/
theorem pay4 : k0_pay4 (F := Ideal) (up2 X) = up2 fun r _ => rr (X r) := by
  unfold k0_pay4
  simp (disch := norm_num) only [rowSum, lay2, vec2, words, scalar_word, splat2, divf2]
  exact rsqrt2 _ fun r _ => ms_pos (X r)

/-- The normalised rows. -/
theorem pay5 : k0_pay5 (F := Ideal) (up2 X) = up2 fun r k => xh (X r) k := by
  unfold k0_pay5
  simp only [pay4, bcCol, vec2]
  rfl

/-- The tile's part of the gradient of the gain. -/
theorem pay6 : k0_pay6 (F := Ideal) (up2 A) (up2 WA) (up2 B) (up2 WB) (up2 Z) (up2 WZ) (up2 X) = up2 fun _ k => ∑ r, dh A WA B WB Z WZ r k * xh (X r) k := by
  unfold k0_pay6
  simp only [pay3, pay5, vec2, colSum, lay2]

/-- The gradient of the gain so far and the tile's part. -/
theorem pay1 (P : Fin 1 → Fin 1024 → ℝ) (w : Vec Ideal S1x1024 .f32) (i : S1x1024.Idx) : k0_pay1 (F := Ideal) (up2 P) w i = w i + up2 P i := by
  unfold k0_pay1
  simp only [shapeCast_self]
  rfl

/-- The gradient with respect to the rows: the cotangent of the residual plus the norm's gradient. -/
theorem pay2 (H : Fin 512 → Fin 1024 → ℝ) : k0_pay2 (F := Ideal) (up2 H) (up2 fun r _ => rr (X r)) (up2 fun r k => xh (X r) k) (up2 G) (up2 D)
    = up2 fun r k => D r k + back (X r) (fun j => H r j * G 0 j) k := by
  unfold k0_pay2
  simp (disch := norm_num) only [castSelf, bcRow, rowSum, lay2, vec2, words, scalar_word, splat2, bcCol, divf2]
  rfl

end Cert.MixTile

end
-- ==== Proof.LiftPick.lean ====
/- Groups of columns put side by side: the version's packed projections, and sums over them. -/
module

public import proofs.«01_k».proof.Proof.LiftCut
public import proofs.«01_k».proof.Proof.Lift3

@[expose] public section

noncomputable section

namespace Cert.Lift

open Idealize.ShloMosaic

variable {a n : ℕ}

/-- An entry of groups of 256 columns put side by side, in the group that starts at column `q` of the matrix and at column `off` of the result. -/
theorem at_piece (X : Fin a → Fin 2560 → ℝ) (L : List ((s : Shape) × (s.Idx → EReal))) (h : Shape.Concatenates (L.map (·.1)) ⟨2, ![a, n]⟩ 1)
    (r : Fin a) (k : Fin n) (i : ℕ) (hi : i < L.length) (q off : ℕ) (hs)
    (hL : L[i] = ⟨⟨2, ![a, 256]⟩, extractStridedSlice ⟨2, ![a, 256]⟩ ![0, q] (up2 X) hs⟩)
    (hoff : (((L.take i).map (·.1)).map fun s => if h : s.rank = 2 then s.size ((1 : Fin 2).cast h.symm) else 0).sum = off)
    (l : Fin 256) (hk : off + l.val = k.val) (p : Fin 2560) (hp : q + l.val = p.val) :
    concatenate ⟨2, ![a, n]⟩ 1 L h (ValueIdx.ix2 r k) = ((X r p : ℝ) : EReal) := by
  rw [cut2 X 0 q hs] at hL
  refine (concatenate_apply_piece (t := ⟨2, ![a, n]⟩) (1 : Fin 2) L h (ValueIdx.ix2 r k) i hi ⟨2, ![a, 256]⟩ _ hL rfl off hoff (ValueIdx.ix2 r l)
    (fun ax hax => by match ax with | ⟨0, _⟩ => rfl | ⟨1, _⟩ => exact absurd rfl hax) hk).trans ?_
  exact congrArg ((↑) : ℝ → EReal) (congrArg₂ X (Fin.ext (Nat.zero_add _)) (Fin.ext hp))

/-- The column of the problem's projection at column `k` of the seven blocks that are not the attention's. -/
def pickA (k : Fin 1792) : Fin 2560 := if h : k.val < 768 then ⟨k.val, by omega⟩ else ⟨k.val + 768, by omega⟩

/-- The same for the attention's three blocks. -/
def pickB (k : Fin 768) : Fin 2560 := ⟨k.val + 768, by omega⟩

theorem pickA_val (k : Fin 1792) : (pickA k).val = if k.val < 768 then k.val else k.val + 768 := by
  unfold pickA
  split_ifs <;> rfl

/-- The seven blocks side by side. -/
theorem catA (X : Fin a → Fin 2560 → ℝ) (h₀ h₁ h₂ h₃ h₄ h₅ h₆) (h) :
    concatenate ⟨2, ![a, 1792]⟩ 1
      [⟨⟨2, ![a, 256]⟩, extractStridedSlice ⟨2, ![a, 256]⟩ ![0, 0] (up2 X) h₀⟩, ⟨⟨2, ![a, 256]⟩, extractStridedSlice ⟨2, ![a, 256]⟩ ![0, 256] (up2 X) h₁⟩,
       ⟨⟨2, ![a, 256]⟩, extractStridedSlice ⟨2, ![a, 256]⟩ ![0, 512] (up2 X) h₂⟩, ⟨⟨2, ![a, 256]⟩, extractStridedSlice ⟨2, ![a, 256]⟩ ![0, 1536] (up2 X) h₃⟩,
       ⟨⟨2, ![a, 256]⟩, extractStridedSlice ⟨2, ![a, 256]⟩ ![0, 1792] (up2 X) h₄⟩, ⟨⟨2, ![a, 256]⟩, extractStridedSlice ⟨2, ![a, 256]⟩ ![0, 2048] (up2 X) h₅⟩,
       ⟨⟨2, ![a, 256]⟩, extractStridedSlice ⟨2, ![a, 256]⟩ ![0, 2304] (up2 X) h₆⟩] h
      = up2 fun r k => X r (pickA k) := by
  funext j
  obtain ⟨r, k, rfl⟩ : ∃ r k, j = ValueIdx.ix2 r k := ⟨_, _, ValueIdx.eq_ix2 j⟩
  have hk := k.isLt
  have hp := pickA_val k
  have hq : k.val / 256 = 0 ∨ k.val / 256 = 1 ∨ k.val / 256 = 2 ∨ k.val / 256 = 3 ∨ k.val / 256 = 4 ∨ k.val / 256 = 5 ∨ k.val / 256 = 6 := by omega
  have hl := Nat.mod_lt k.val (by norm_num : 0 < 256)
  have hd := Nat.div_add_mod k.val 256
  split_ifs at hp <;> rcases hq with e | e | e | e | e | e | e <;> first
    | omega
    | exact at_piece X _ h r k 0 (by simp) 0 0 h₀ rfl rfl ⟨_, hl⟩ (by simp only; omega) (pickA k) (by simp only; omega)
    | exact at_piece X _ h r k 1 (by simp) 256 256 h₁ rfl rfl ⟨_, hl⟩ (by simp only; omega) (pickA k) (by simp only; omega)
    | exact at_piece X _ h r k 2 (by simp) 512 512 h₂ rfl rfl ⟨_, hl⟩ (by simp only; omega) (pickA k) (by simp only; omega)
    | exact at_piece X _ h r k 3 (by simp) 1536 768 h₃ rfl rfl ⟨_, hl⟩ (by simp only; omega) (pickA k) (by simp only; omega)
    | exact at_piece X _ h r k 4 (by simp) 1792 1024 h₄ rfl rfl ⟨_, hl⟩ (by simp only; omega) (pickA k) (by simp only; omega)
    | exact at_piece X _ h r k 5 (by simp) 2048 1280 h₅ rfl rfl ⟨_, hl⟩ (by simp only; omega) (pickA k) (by simp only; omega)
    | exact at_piece X _ h r k 6 (by simp) 2304 1536 h₆ rfl rfl ⟨_, hl⟩ (by simp only; omega) (pickA k) (by simp only; omega)

/-- The attention's three blocks side by side. -/
theorem catB (X : Fin a → Fin 2560 → ℝ) (h₀ h₁ h₂) (h) :
    concatenate ⟨2, ![a, 768]⟩ 1
      [⟨⟨2, ![a, 256]⟩, extractStridedSlice ⟨2, ![a, 256]⟩ ![0, 768] (up2 X) h₀⟩, ⟨⟨2, ![a, 256]⟩, extractStridedSlice ⟨2, ![a, 256]⟩ ![0, 1024] (up2 X) h₁⟩,
       ⟨⟨2, ![a, 256]⟩, extractStridedSlice ⟨2, ![a, 256]⟩ ![0, 1280] (up2 X) h₂⟩] h
      = up2 fun r k => X r (pickB k) := by
  funext j
  obtain ⟨r, k, rfl⟩ : ∃ r k, j = ValueIdx.ix2 r k := ⟨_, _, ValueIdx.eq_ix2 j⟩
  have hk := k.isLt
  have hp : (pickB k).val = k.val + 768 := rfl
  have hq : k.val / 256 = 0 ∨ k.val / 256 = 1 ∨ k.val / 256 = 2 := by omega
  have hl := Nat.mod_lt k.val (by norm_num : 0 < 256)
  have hd := Nat.div_add_mod k.val 256
  rcases hq with e | e | e
  · exact at_piece X _ h r k 0 (by simp) 768 0 h₀ rfl rfl ⟨_, hl⟩ (by simp only; omega) (pickB k) (by simp only; omega)
  · exact at_piece X _ h r k 1 (by simp) 1024 256 h₁ rfl rfl ⟨_, hl⟩ (by simp only; omega) (pickB k) (by simp only; omega)
  · exact at_piece X _ h r k 2 (by simp) 1280 512 h₂ rfl rfl ⟨_, hl⟩ (by simp only; omega) (pickB k) (by simp only; omega)

/-- The blocks together are all columns. -/
theorem sum_pick (f : Fin 2560 → ℝ) : (∑ k, f (pickA k)) + ∑ k, f (pickB k) = ∑ k, f k := by
  have hA : ∑ k, f (pickA k) = (∑ i : Fin 768, f ⟨i.val, by omega⟩) + ∑ i : Fin 1024, f ⟨1536 + i.val, by omega⟩ := by
    refine (Fin.sum_univ_add (a := 768) (b := 1024) fun k : Fin (768 + 1024) => f (pickA k)).trans ?_
    refine congrArg₂ (· + ·) (Finset.sum_congr rfl fun i _ => congrArg f (Fin.ext ?_)) (Finset.sum_congr rfl fun i _ => congrArg f (Fin.ext ?_)) <;>
      (rw [pickA_val]; simp only [Fin.val_castAdd, Fin.val_natAdd]; split_ifs <;> omega)
  have hS : ∑ k, f k = ((∑ i : Fin 768, f ⟨i.val, by omega⟩) + ∑ i : Fin 768, f ⟨768 + i.val, by omega⟩) + ∑ i : Fin 1024, f ⟨1536 + i.val, by omega⟩ := by
    refine (Fin.sum_univ_add (a := 1536) (b := 1024) fun k : Fin (1536 + 1024) => f k).trans ?_
    exact congrArg₂ (· + ·) (Fin.sum_univ_add (a := 768) (b := 768) fun k : Fin (768 + 768) => f ⟨k.val, by omega⟩) rfl
  have hB : ∑ k, f (pickB k) = ∑ i : Fin 768, f ⟨768 + i.val, by omega⟩ := Finset.sum_congr rfl fun i _ => congrArg f (Fin.ext (Nat.add_comm _ _))
  rw [hA, hB, hS]
  ring

/-- Four matrices cut out of a stack and put side by side. -/
theorem catPages (X : Fin 4 → Fin a → Fin 1024 → ℝ) (h₀ h₁ h₂ h₃) (c) (h) :
    concatenate ⟨2, ![a, 4096]⟩ 1
      [⟨⟨2, ![a, 1024]⟩, shapeCast ⟨2, ![a, 1024]⟩ (extractStridedSlice ⟨3, ![1, a, 1024]⟩ ![0, 0, 0] (up3 X) h₀) c⟩,
       ⟨⟨2, ![a, 1024]⟩, shapeCast ⟨2, ![a, 1024]⟩ (extractStridedSlice ⟨3, ![1, a, 1024]⟩ ![1, 0, 0] (up3 X) h₁) c⟩,
       ⟨⟨2, ![a, 1024]⟩, shapeCast ⟨2, ![a, 1024]⟩ (extractStridedSlice ⟨3, ![1, a, 1024]⟩ ![2, 0, 0] (up3 X) h₂) c⟩,
       ⟨⟨2, ![a, 1024]⟩, shapeCast ⟨2, ![a, 1024]⟩ (extractStridedSlice ⟨3, ![1, a, 1024]⟩ ![3, 0, 0] (up3 X) h₃) c⟩] h
      = up2 (beside (X 0) (X 1) (X 2) (X 3) rfl) := by
  rw [cutPage X 0 (by norm_num), cutPage X 1 (by norm_num), cutPage X 2 (by norm_num), cutPage X 3 (by norm_num), castDrop, castDrop, castDrop, castDrop]
  exact cat4 (n := 4096) _ _ _ _ h rfl

/-- A product with four matrices side by side is the sum of the four products. -/
theorem sum_beside (Z : Fin 4096 → ℝ) (X : Fin 4 → Fin a → Fin 1024 → ℝ) (r : Fin a) :
    ∑ k, Z k * beside (X 0) (X 1) (X 2) (X 3) rfl r k = ∑ p : Fin 4, ∑ l : Fin 1024, Z ⟨p.val * 1024 + l.val, by omega⟩ * X p r l := by
  have e := tile_sum (n := 1024) (by norm_num) (fun (p : Fin 4) (l : Fin 1024) => (⟨p.val * 1024 + l.val, by omega⟩ : Fin 4096)) (fun _ _ => rfl) fun k => Z k * beside (X 0) (X 1) (X 2) (X 3) rfl r k
  rw [coe_sum] at e
  rw [← EReal.coe_injective e]
  refine Finset.sum_congr rfl fun p _ => Finset.sum_congr rfl fun l _ => congrArg (Z _ * ·) ?_
  have hl := l.isLt
  unfold beside
  match p with
  | 0 => rw [dif_pos (by simp)]; exact congrArg (X 0 r) (Fin.ext (by simp))
  | 1 => rw [dif_neg (by simp <;> omega), dif_pos (by simp <;> omega)]; exact congrArg (X 1 r) (Fin.ext (by simp))
  | 2 => rw [dif_neg (by simp <;> omega), dif_neg (by simp <;> omega), dif_pos (by simp <;> omega)]; exact congrArg (X 2 r) (Fin.ext (by simp))
  | 3 => rw [dif_neg (by simp <;> omega), dif_neg (by simp <;> omega), dif_neg (by simp <;> omega)]; exact congrArg (X 3 r) (Fin.ext (by simp))

end Cert.Lift

end
-- ==== Proof.MixFinal.lean ====
/- The arrays the mixers' input products' gradient kernel leaves, on reals. -/
module

public import proofs.«01_k».proof.Proof.MixKernel
public import proofs.«01_k».proof.Proof.LiftPick
public import proofs.«01_k».proof.Proof.Gen.MixIdeal.Value
public import Idealize.ShloMosaic.Lib.Claim
public import Idealize.ShloMosaic.Lib.Pipeline.ValueKit

@[expose] public section

set_option maxRecDepth 16384

noncomputable section

namespace Cert.MixFinal

open Idealize.ShloMosaic Idealize.ShloMosaic.TcCoe Idealize.SL.Sem Cert.Lift Cert.RmsNorm Cert.MixIdeal Cert.MixIdeal.Gen
open Idealize.ShloMosaic.Pipeline (Dat)

variable (m : (ℓ : Loc nD τ sig) → Buf (Elt Ideal) ℓ) (c : Dev nD)
variable (U : Fin 8192 → Fin 2560 → ℝ) (Z : Fin 8192 → Fin 4096 → ℝ) (W : Fin 1024 → Fin 2560 → ℝ) (Wz : Fin 4 → Fin 1024 → Fin 1024 → ℝ)
  (X D : Fin 8192 → Fin 1024 → ℝ) (G : Fin 1024 → ℝ)

/-- Which block each window stages at a point. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![0, 0]
    ∧ win0_6.index t = ![t.val, 0] ∧ win0_7.index t = ![0, 0] ∧ win0_8.index t = ![t.val, 0] ∧ win0_9.index t = ![t.val, 0] ∧ win0_10.index t = ![0, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![0, 0]
    ∧ win0_6.index t = ![t.val, 0] ∧ win0_7.index t = ![0, 0] ∧ win0_8.index t = ![t.val, 0] ∧ win0_9.index t = ![t.val, 0] ∧ win0_10.index t = ![0, 0])

/-- Row `r` of point `t`'s tile. -/
def row (t : Fin cfg0.N) (r : Fin 512) : Fin 8192 := ⟨t.val * 512 + r.val, by have h := t.isLt; have := r.isLt; have h2 : cfg0.N = 16 := N_0; omega⟩

/-- The first point is the only one whose number is a multiple of 16. -/
theorem first (t : Fin cfg0.N) (h : t.val % 16 = 0) : ¬1 ≤ t.val := by have h1 := t.isLt; have h2 : cfg0.N = 16 := N_0; omega
theorem later (t : Fin cfg0.N) (h : ¬t.val % 16 = 0) : 1 ≤ t.val := by omega

section

variable (h0 : m ((c : Thread nD τ).loc main_arg0) = up2 U) (h1 : m ((c : Thread nD τ).loc main_arg1) = up2 Z)
  (h2 : m ((c : Thread nD τ).loc main_arg2) = up2 W) (h3 : m ((c : Thread nD τ).loc main_arg3) = up3 Wz)
  (h4 : m ((c : Thread nD τ).loc main_arg4) = up2 X) (h5 : m ((c : Thread nD τ).loc main_arg5) = up1 G) (h6 : m ((c : Thread nD τ).loc main_arg6) = up2 D)

include h0 in
/-- The cotangent the host hands to the kernel, without the attention's columns. -/
theorem hostA : V m c main_v37 = up2 fun r k => U r (pickA k) := by
  simp only [V, hostOps0, List.flatten_cons, List.flatten_nil, List.append_nil, List.cons_append, List.nil_append]
  after_results_simp
  refine Eq.trans ?_ (catA U slices_S8192x2560_S8192x256_0_0 slices_S8192x2560_S8192x256_0_256 slices_S8192x2560_S8192x256_0_512 slices_S8192x2560_S8192x256_0_1536 slices_S8192x2560_S8192x256_0_1792 slices_S8192x2560_S8192x256_0_2048 slices_S8192x2560_S8192x256_0_2304 concatenates_S8192x256_S8192x256_S8192x256_S8192x256_S8192x256_S8192x256_S8192x256_S8192x1792_d1)
  rw [← h0]
  rfl

include h2 in
/-- The weights of these columns. -/
theorem hostWA : V m c main_v13 = up2 fun r k => W r (pickA k) := by
  simp only [V, hostOps0, List.flatten_cons, List.flatten_nil, List.append_nil, List.cons_append, List.nil_append]
  after_results_simp
  refine Eq.trans ?_ (catA W slices_S1024x2560_S1024x256_0_0 slices_S1024x2560_S1024x256_0_256 slices_S1024x2560_S1024x256_0_512 slices_S1024x2560_S1024x256_0_1536 slices_S1024x2560_S1024x256_0_1792 slices_S1024x2560_S1024x256_0_2048 slices_S1024x2560_S1024x256_0_2304 concatenates_S1024x256_S1024x256_S1024x256_S1024x256_S1024x256_S1024x256_S1024x256_S1024x1792_d1)
  rw [← h2]
  rfl

include h0 in
/-- The cotangent of the attention's columns. -/
theorem hostB : V m c main_v4 = up2 fun r k => U r (pickB k) := by
  simp only [V, hostOps0, List.flatten_cons, List.flatten_nil, List.append_nil, List.cons_append, List.nil_append]
  after_results_simp
  refine Eq.trans ?_ (catB U slices_S8192x2560_S8192x256_0_768 slices_S8192x2560_S8192x256_0_1024 slices_S8192x2560_S8192x256_0_1280 concatenates_S8192x256_S8192x256_S8192x256_S8192x768_d1)
  rw [← h0]
  rfl

include h2 in
/-- The weights of these columns. -/
theorem hostWB : V m c main_v18 = up2 fun r k => W r (pickB k) := by
  simp only [V, hostOps0, List.flatten_cons, List.flatten_nil, List.append_nil, List.cons_append, List.nil_append]
  after_results_simp
  refine Eq.trans ?_ (catB W slices_S1024x2560_S1024x256_0_768 slices_S1024x2560_S1024x256_0_1024 slices_S1024x2560_S1024x256_0_1280 concatenates_S1024x256_S1024x256_S1024x256_S1024x768_d1)
  rw [← h2]
  rfl

include h3 in
/-- The four gates' weights side by side. -/
theorem hostWZ : V m c main_v28 = up2 (beside (Wz 0) (Wz 1) (Wz 2) (Wz 3) rfl) := by
  simp only [V, hostOps0, List.flatten_cons, List.flatten_nil, List.append_nil, List.cons_append, List.nil_append]
  after_results_simp
  refine Eq.trans ?_ (catPages Wz slices_S4x1024x1024_S1x1024x1024_0_0_0 slices_S4x1024x1024_S1x1024x1024_1_0_0 slices_S4x1024x1024_S1x1024x1024_2_0_0 slices_S4x1024x1024_S1x1024x1024_3_0_0 shapeCasts_S1x1024x1024_S1024x1024 concatenates_S1024x1024_S1024x1024_S1024x1024_S1024x1024_S1024x4096_d1)
  rw [← h3]
  rfl

include h0 in
theorem blk0 (t : Fin cfg0.N) : iblk m c 0 t = up2 fun r k => U (row t r) (pickA k) := by
  funext y
  refine Eq.trans (b := V m c main_v37 (ValueIdx.ix2 (row t (y 0)) (y 1))) ?_ (congrFun (hostA m c U h0) _)
  blk_ext [iblk, idx t, row]

include h2 in
theorem blk1 (t : Fin cfg0.N) : iblk m c 1 t = up2 fun r k => W r (pickA k) := by
  funext y
  refine Eq.trans (b := V m c main_v13 (ValueIdx.ix2 (y 0) (y 1))) ?_ (congrFun (hostWA m c W h2) _)
  blk_ext [iblk, idx t]

include h0 in
theorem blk2 (t : Fin cfg0.N) : iblk m c 2 t = up2 fun r k => U (row t r) (pickB k) := by
  funext y
  refine Eq.trans (b := V m c main_v4 (ValueIdx.ix2 (row t (y 0)) (y 1))) ?_ (congrFun (hostB m c U h0) _)
  blk_ext [iblk, idx t, row]

include h2 in
theorem blk3 (t : Fin cfg0.N) : iblk m c 3 t = up2 fun r k => W r (pickB k) := by
  funext y
  refine Eq.trans (b := V m c main_v18 (ValueIdx.ix2 (y 0) (y 1))) ?_ (congrFun (hostWB m c W h2) _)
  blk_ext [iblk, idx t]

include h1 in
theorem blk4 (t : Fin cfg0.N) : iblk m c 4 t = up2 fun r k => Z (row t r) k := by
  funext y
  refine Eq.trans (b := m ((c : Thread nD τ).loc main_arg1) (ValueIdx.ix2 (row t (y 0)) (y 1))) ?_ (congrFun h1 _)
  blk_point [iblk, V, idx t, row]

include h3 in
theorem blk5 (t : Fin cfg0.N) : iblk m c 5 t = up2 (beside (Wz 0) (Wz 1) (Wz 2) (Wz 3) rfl) := by
  funext y
  refine Eq.trans (b := V m c main_v28 (ValueIdx.ix2 (y 0) (y 1))) ?_ (congrFun (hostWZ m c Wz h3) _)
  blk_ext [iblk, idx t]

include h4 in
theorem blk6 (t : Fin cfg0.N) : iblk m c 6 t = up2 fun r k => X (row t r) k := by
  funext y
  refine Eq.trans (b := m ((c : Thread nD τ).loc main_arg4) (ValueIdx.ix2 (row t (y 0)) (y 1))) ?_ (congrFun h4 _)
  blk_point [iblk, V, idx t, row]

include h5 in
theorem blk7 (t : Fin cfg0.N) : iblk m c 7 t = up2 fun _ k => G k := by
  funext y
  refine Eq.trans (b := m ((c : Thread nD τ).loc main_arg5) (ValueIdx.ix1 (y 1))) ?_ (congrFun h5 _)
  blk_point [iblk, V, idx t]

include h6 in
theorem blk8 (t : Fin cfg0.N) : iblk m c 8 t = up2 fun r k => D (row t r) k := by
  funext y
  refine Eq.trans (b := m ((c : Thread nD τ).loc main_arg6) (ValueIdx.ix2 (row t (y 0)) (y 1))) ?_ (congrFun h6 _)
  blk_point [iblk, V, idx t, row]

/-- The cotangent of the normalised and scaled rows. -/
abbrev dh (r : Fin 8192) (k : Fin 1024) : ℝ := (∑ l, U r l * W k l) + ∑ p : Fin 4, ∑ l : Fin 1024, Z r ⟨p.val * 1024 + l.val, by omega⟩ * Wz p k l

/-- The tile's three products are the product with the projection's weights and the four with the gates'. -/
theorem dh_pick (t : Fin cfg0.N) : MixTile.dh (fun r k => U (row t r) (pickA k)) (fun r k => W r (pickA k)) (fun r k => U (row t r) (pickB k)) (fun r k => W r (pickB k)) (fun r k => Z (row t r) k) (beside (Wz 0) (Wz 1) (Wz 2) (Wz 3) rfl) = fun r k => dh U Z W Wz (row t r) k := by
  funext r k
  exact congrArg₂ (· + ·) (sum_pick fun l => U (row t r) l * W k l) (sum_beside (fun l => Z (row t r) l) Wz k)

include h0 h1 h2 h3 h4 h5 h6

/-- The gradient with respect to the rows. -/
theorem final9 : (dats m 0 c).arrAt 9 cfg0.N = up2 fun r k => D r k + back (X r) (fun j => dh U Z W Wz r j * G j) k := by
  refine (dats m 0 c).arrAt_eq_of_covers 9 _ (by decide +kernel) fun t hf y => ?_
  blk_simp
  rw [after0_9]
  by_cases h : t.val % 16 = 0
  · rw [outsAt0_A m c t h (first t h)]
    frame_out
    rw [blk0 m c U h0, blk1 m c W h2, blk2 m c U h0, blk3 m c W h2, blk4 m c Z h1, blk5 m c Wz h3, blk6 m c X h4, blk7 m c G h5, blk8 m c D h6, MixTile.pay3, MixTile.pay4, MixTile.pay5, dh_pick, MixTile.pay2 (fun r k => X (row t r) k) (fun r k => D (row t r) k) (fun _ k => G k)]
    refine Eq.trans (b := up2 (fun r k => D r k + back (X r) (fun j => dh U Z W Wz r j * G j) k) (ValueIdx.ix2 (row t (y 0)) (y 1))) rfl ?_
    blk_point [idx t, row]
  · rw [outsAt0_B m c t h (later t h)]
    frame_out
    rw [blk0 m c U h0, blk1 m c W h2, blk2 m c U h0, blk3 m c W h2, blk4 m c Z h1, blk5 m c Wz h3, blk6 m c X h4, blk7 m c G h5, blk8 m c D h6, MixTile.pay3, MixTile.pay4, MixTile.pay5, dh_pick, MixTile.pay2 (fun r k => X (row t r) k) (fun r k => D (row t r) k) (fun _ k => G k)]
    refine Eq.trans (b := up2 (fun r k => D r k + back (X r) (fun j => dh U Z W Wz r j * G j) k) (ValueIdx.ix2 (row t (y 0)) (y 1))) rfl ?_
    blk_point [idx t, row]

omit h5 h6 in
/-- The gradient of the gain. -/
theorem final10 : (dats m 0 c).arrAt 10 cfg0.N = up2 fun _ k => ∑ r, xh (X r) k * dh U Z W Wz r k := by
  refine (dats m 0 c).arrAt_eq_of_after_last 10 t0_15 (by decide +kernel) _ fun j => ?_
  blk_simp
  rw [after0_10, Pipeline.eq_sum_fin_of_reset_step_apply_last (fun n h => (outsAt0 m c n h).2) 16 (fun _ => 0)
    (fun t => up2 fun _ k => ∑ r, dh U Z W Wz (row t r) k * xh (X (row t r)) k)
    (fun t h j => by
      rw [outsAt0_A m c t h (first t h)]; frame_out
      rw [blk0 m c U h0, blk1 m c W h2, blk2 m c U h0, blk3 m c W h2, blk4 m c Z h1, blk5 m c Wz h3, blk6 m c X h4, MixTile.pay6, dh_pick]
      exact (zero_add _).symm)
    (fun t h j => by
      rw [outsAt0_B m c t h (later t h)]; frame_out
      rw [blk0 m c U h0, blk1 m c W h2, blk2 m c U h0, blk3 m c W h2, blk4 m c Z h1, blk5 m c Wz h3, blk6 m c X h4, MixTile.pay6, dh_pick, MixTile.pay1])
    (le_of_eq N_0) t0_15 rfl j, zero_add]
  refine (tile_sum (congrArg (· * 512) N_0) row (fun _ _ => rfl) fun r => dh U Z W Wz r (j 1) * xh (X r) (j 1)).trans ?_
  exact congrArg _ (Finset.sum_congr rfl fun r _ => mul_comm _ _)

end

end Cert.MixFinal

end
-- ==== Proof.MixRef.lean ====
/- The values of the reference of the mixers' input products and their norm, one group of lines at a time, on reals. -/
module

public import proofs.«01_k».proof.Proof.RmsNorm
public import proofs.«01_k».proof.Proof.LiftPick
public import proofs.«01_k».proof.Proof.Gen.MixRefIdeal.Read

@[expose] public section

noncomputable section

namespace Cert.MixRef

open Idealize.ShloMosaic Cert.Lift Cert.RmsNorm Cert.MixRefIdeal Cert.MixRefIdeal.Gen Cert.MixRefIdeal.Read

variable (U : Fin 8192 → Fin 2560 → ℝ) (Z : Fin 8192 → Fin 4096 → ℝ) (W : Fin 1024 → Fin 2560 → ℝ) (Wz : Fin 4 → Fin 1024 → Fin 1024 → ℝ)
  (X D : Fin 8192 → Fin 1024 → ℝ) (G : Fin 1024 → ℝ)

/-- The cotangent of the normalised and scaled rows. -/
abbrev dh (r : Fin 8192) (k : Fin 1024) : ℝ := (∑ l, U r l * W k l) + ∑ p : Fin 4, ∑ l : Fin 1024, Z r ⟨p.val * 1024 + l.val, by omega⟩ * Wz p k l

/-- The mean squares. -/
theorem ms_eq : val_main_v6 (F := Ideal) (up2 X) = up2 fun r _ => ms (X r) := by
  unfold val_main_v6 val_main_v5 val_main_v4 val_main_v3 val_main_v2 val_main_v1 val_main_v0 val_main_cst val_main_cst_0 val_main_cst_1
  simp (disch := norm_num) only [consts, hostRowSum, bcVecRows, bcScalar, hostDiv2, vec2]
  rfl

/-- The reciprocal root mean squares. -/
theorem rr_eq : val_main_v7 (F := Ideal) (up2 X) = up2 fun r _ => rr (X r) := by
  unfold val_main_v7
  rw [ms_eq]
  exact hostRsqrt2 _ fun r _ => ms_pos (X r)

/-- The derivative of the reciprocal root. -/
theorem drr_eq : val_main_v10 (F := Ideal) (up2 X) = up2 fun r _ => -(1 / 2) * (rr (X r) / ms (X r)) := by
  unfold val_main_v10 val_main_v9 val_main_v8 val_main_cst_2
  simp (disch := exact fun r _ => ms_ne _) only [rr_eq, ms_eq, consts, bcScalar, hostDiv2, vec2]

/-- The normalised rows. -/
theorem xh_eq : val_main_v12 (F := Ideal) (up2 X) = up2 fun r k => xh (X r) k := by
  unfold val_main_v12 val_main_v11
  simp only [rr_eq, hostBcCol, vec2]
  rfl

/-- The part of it that comes from the arguments of gate `p`. -/
abbrev gate (r : Fin 8192) (k : Fin 1024) (p : Fin 4) : ℝ := ∑ l : Fin 1024, Z r ⟨p.val * 1024 + l.val, by omega⟩ * Wz p k l

/-- The cotangent of the normalised and scaled rows. -/
theorem dh_eq : val_main_v41 (F := Ideal) (up2 U) (up2 Z) (up2 W) (up3 Wz) = up2 (dh U Z W Wz) := by
  unfold val_main_v41 val_main_v40 val_main_v39 val_main_v38 val_main_v37 val_main_v36 val_main_v35 val_main_v34 val_main_v33 val_main_v32 val_main_v31 val_main_v30 val_main_v29 val_main_v27 val_main_v26 val_main_v24 val_main_v23 val_main_v21 val_main_v20 val_main_v18 val_main_v17
  rw [cutPage Wz 0 (by norm_num), cutPage Wz 1 (by norm_num), cutPage Wz 2 (by norm_num), cutPage Wz 3 (by norm_num)]
  simp (disch := exact rfl) only [castDrop, cut2, vec2, dotNT _ _ _ (rfl : Axes dot_S8192x1024_S1024x1024_S8192x1024_1_1_0_0_n_n _ _ _ _),
    dotNT _ _ _ (rfl : Axes dot_S8192x2560_S1024x2560_S8192x1024_1_1_0_0_n_n _ _ _ _)]
  refine congrArg up2 (funext fun r => funext fun k => ?_)
  have er : ∀ h, (⟨0 + r.val, h⟩ : Fin 8192) = r := fun _ => Fin.ext (Nat.zero_add _)
  simp only [er]
  refine Eq.trans (b := gate Z Wz r k 3 + gate Z Wz r k 2 + gate Z Wz r k 1 + gate Z Wz r k 0 + ∑ l, U r l * W k l) rfl ?_
  rw [dh, Fin.sum_univ_four]
  ring

/-- The gradient of the gain. -/
theorem gg_eq : val_main_v63 (F := Ideal) (up2 U) (up2 Z) (up2 W) (up3 Wz) (up2 X) = up2 fun _ k => ∑ r, xh (X r) k * dh U Z W Wz r k := by
  unfold val_main_v63 val_main_v47 val_main_v44 val_main_v43 val_main_v42 val_main_cst_3 val_main_cst_4
  simp only [dh_eq, xh_eq, consts, hostColSum, lay2, bcVecCols, vec2, Fin.sum_univ_one]

/-- The cotangent of the normalised rows. -/
theorem e_eq : val_main_v46 (F := Ideal) (up2 U) (up2 Z) (up2 W) (up3 Wz) (up1 G) = up2 fun r k => dh U Z W Wz r k * G k := by
  unfold val_main_v46 val_main_v45 val_main_v13
  simp only [dh_eq, bcVecCols, hostBcRow, vec2]

/-- The gradient with respect to the rows. -/
theorem dx_eq : val_main_v62 (F := Ideal) (up2 U) (up2 Z) (up2 W) (up3 Wz) (up2 X) (up1 G) (up2 D)
    = up2 fun r k => D r k + back (X r) (fun j => dh U Z W Wz r j * G j) k := by
  unfold val_main_v62 val_main_v61 val_main_v60 val_main_v59 val_main_v58 val_main_v57 val_main_v56 val_main_v55 val_main_v54 val_main_v53 val_main_v52 val_main_v51 val_main_v50 val_main_v49 val_main_v48 val_main_cst_5 val_main_cst_6 val_main_cst_7
  simp (disch := norm_num) only [e_eq, rr_eq, drr_eq, consts, hostRowSum, lay2, bcScalar, bcVecRows, hostBcCol, hostDiv2, vec2, Fin.sum_univ_one]
  refine congrArg up2 (funext fun r => funext fun k => ?_)
  rw [← back_eq (X r) (fun j => dh U Z W Wz r j * G j) k _ rfl]
  ring

end Cert.MixRef

end
-- ==== Proof.MixClaim.lean ====
/- The mixers' input products' gradient with their norm's: the two claims of its pair that no generated theorem states. -/
module

public import proofs.«01_k».proof.Defs
public import proofs.«01_k».proof.Proof.MixFinal
public import proofs.«01_k».proof.Proof.MixRef
public import proofs.«01_k».proof.Proof.Gen.Mix.Frame
public import proofs.«01_k».proof.Proof.Gen.MixIdeal.Frame
public import proofs.«01_k».proof.Proof.Gen.MixRefIdeal.Run
public import proofs.«01_k».proof.Proof.Gen.Pre_mix_finite

@[expose] public section

set_option maxRecDepth 16384
set_option maxHeartbeats 1000000

noncomputable section

namespace Cert.MixClaim

open Idealize.ShloMosaic Idealize.SL.Sem Cert.Lift Cert.RmsNorm

/-- The precondition says that the seven arguments hold real numbers only. -/
theorem real_args (a0 : Vec Ideal ⟨2, ![8192, 2560]⟩ .f32) (a1 : Vec Ideal ⟨2, ![8192, 4096]⟩ .f32) (a2 : Vec Ideal ⟨2, ![1024, 2560]⟩ .f32)
    (a3 : Vec Ideal ⟨3, ![4, 1024, 1024]⟩ .f32) (a4 a6 : Vec Ideal ⟨2, ![8192, 1024]⟩ .f32) (a5 : Vec Ideal ⟨1, ![1024]⟩ .f32) (j : (⟨0, ![]⟩ : Shape).Idx)
    (h : Cert.Pre_mix_finite.fn (F := Ideal) a0 a1 a2 a3 a4 a5 a6 j = 1#1) :
    (∃ U, a0 = up2 U) ∧ (∃ Z, a1 = up2 Z) ∧ (∃ W, a2 = up2 W) ∧ (∃ Wz, a3 = up3 Wz) ∧ (∃ X, a4 = up2 X) ∧ (∃ G, a5 = up1 G) ∧ ∃ D, a6 = up2 D := by
  dsimp only [Cert.Pre_mix_finite.fn, Cert.Pre_mix_finite.fn_part1] at h
  obtain ⟨h, h6⟩ := and_one _ _ _ h
  obtain ⟨h, h5⟩ := and_one _ _ _ h
  obtain ⟨h, h4⟩ := and_one _ _ _ h
  obtain ⟨h, h3⟩ := and_one _ _ _ h
  obtain ⟨h, h2⟩ := and_one _ _ _ h
  obtain ⟨h0, h1⟩ := and_one _ _ _ h
  exact ⟨real2 _ _ _ _ _ _ h0, real2 _ _ _ _ _ _ h1, real2 _ _ _ _ _ _ h2, real3 _ _ _ _ _ _ h3, real2 _ _ _ _ _ _ h4, real1 _ _ _ _ _ _ h5, real2 _ _ _ _ _ _ h6⟩

/-- The reference runs to the end from every memory, and declares no semaphore. -/
theorem frame_ref : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- Over the reals the kernel's two results are the derivative of the norm followed by the products. -/
theorem value : Cert.algebraic_MixIdeal_MixRefIdeal_pre_mix_finite := by
  pair_intro
  all_goals have hreal := fun c => real_args _ _ _ _ _ _ _ _ (congrFun (hpre c) ValueIdx.ix0)
  run_from Cert.MixIdeal.Value.run_blocks m g
  run_from Cert.MixRefIdeal.Value.run m' g'
  all_goals
    obtain ⟨⟨U, h0⟩, ⟨Z, h1⟩, ⟨W, h2⟩, ⟨Wz, h3⟩, ⟨X, h4⟩, ⟨G, h5⟩, D, h6⟩ := hreal c
    obtain ⟨e0, e1, e2, e3, e4, e5, e6⟩ := hagree c
  · rw [MixRefIdeal.Read.val_main_v62_eq, e0, e1, e2, e3, e4, e5, e6, h0, h1, h2, h3, h4, h5, h6]
    exact (MixRef.dx_eq U Z W Wz X D G).trans (MixFinal.final9 m c U Z W Wz X D G h0 h1 h2 h3 h4 h5 h6).symm
  · rw [MixRefIdeal.Read.val_main_v63_eq, h0, h1, h2, h3, h4]
    exact (MixRef.gg_eq U Z W Wz X).trans (MixFinal.final10 m c U Z W Wz X h0 h1 h2 h3 h4).symm

end Cert.MixClaim

end
-- ==== Proof.LiftRows.lean ====
/- Rows of zeros about a matrix of reals, matrices below one another, and the stored parts of a scratch array read back. -/
module

public import Idealize.ShloMosaic.Lib.WritesUnit
public import proofs.«01_k».proof.Proof.LiftCut
public import proofs.«01_k».proof.Proof.Lift3
public import Idealize.ShloMosaic.Lib.Pipeline.ReadBack

@[expose] public section

noncomputable section

namespace Cert.Lift

open Idealize.ShloMosaic

variable {a b d n : ℕ}

/-- The matrix `X` at rows `p, p + 1, …`, zero elsewhere. -/
def atRows (n p : ℕ) (X : Fin a → Fin b → ℝ) (r : Fin n) (k : Fin b) : ℝ :=
  if h : p ≤ r.val ∧ r.val - p < a then X ⟨r.val - p, h.2⟩ k else 0

/-- The host's padding of a matrix by rows of zeros. -/
theorem padRows (X : Fin a → Fin b → ℝ) (p q : ℕ) (h : (⟨2, ![a, b]⟩ : Shape).Pads ![p, 0] ![q, 0] ![0, 0] ⟨2, ![n, b]⟩) (hu : 0 < (⟨0, ![]⟩ : Shape).numel) :
    pad (no_index ⟨2, ![n, b]⟩) (no_index ![p, 0]) (no_index ![q, 0]) (no_index ![0, 0]) (up2 X) (up0 0) h hu = up2 (atRows n p X) := by
  funext i
  show _ = ((atRows n p X (i 0) (i 1) : ℝ) : EReal)
  unfold atRows
  split
  · rename_i hk
    refine (pad_apply_of_inside _ _ _ (up2 X) (up0 0) h hu i (ValueIdx.ix2 ⟨(i 0).val - p, hk.2⟩ (i 1)) fun ax => ?_).trans rfl
    match ax with
    | ⟨0, _⟩ =>
      have e := hk.1
      show (i 0).val = p + ((i 0).val - p) * (0 + 1)
      omega
    | ⟨1, _⟩ => show (i 1).val = 0 + (i 1).val * (0 + 1); omega
  · rename_i hk
    refine (pad_apply_of_not_inside _ _ _ (up2 X) (up0 0) h hu i 0 fun hin => hk ⟨hin.1, ?_⟩).trans rfl
    exact lt_of_eq_of_lt (Nat.div_one _).symm hin.2.2

/-- Two matrices below one another: the entries. -/
def below {e f : ℕ} (A : Fin e → Fin b → ℝ) (B : Fin f → Fin b → ℝ) (hn : n = e + f) (r : Fin n) (k : Fin b) : ℝ :=
  if hr : r.val < e then A ⟨r.val, hr⟩ k else B ⟨r.val - e, by have := r.isLt; omega⟩ k

/-- Two matrices below one another. -/
theorem catBelow {e f : ℕ} (A : Fin e → Fin b → ℝ) (B : Fin f → Fin b → ℝ) (h) (hn : n = e + f) :
    concatenate (no_index ⟨2, ![n, b]⟩) 0 [⟨⟨2, ![e, b]⟩, up2 A⟩, ⟨⟨2, ![f, b]⟩, up2 B⟩] h = up2 (below A B hn) := by
  funext j
  obtain ⟨r, k, rfl⟩ : ∃ r k, j = ValueIdx.ix2 r k := ⟨_, _, ValueIdx.eq_ix2 j⟩
  have hr := r.isLt
  show _ = ((below A B hn r k : ℝ) : EReal)
  unfold below
  by_cases h₁ : r.val < e
  · rw [dif_pos h₁]
    exact concatenate_apply_piece (t := ⟨2, ![n, b]⟩) (0 : Fin 2) [⟨⟨2, ![e, b]⟩, up2 A⟩, ⟨⟨2, ![f, b]⟩, up2 B⟩] h (ValueIdx.ix2 r k) 0 (by simp) ⟨2, ![e, b]⟩ (up2 A) rfl rfl 0 (by simp) (ValueIdx.ix2 ⟨r.val, h₁⟩ k)
      (fun ax hax => by match ax with | ⟨0, _⟩ => exact absurd rfl hax | ⟨1, _⟩ => rfl) (Nat.zero_add _)
  · rw [dif_neg h₁]
    exact concatenate_apply_piece (t := ⟨2, ![n, b]⟩) (0 : Fin 2) [⟨⟨2, ![e, b]⟩, up2 A⟩, ⟨⟨2, ![f, b]⟩, up2 B⟩] h (ValueIdx.ix2 r k) 1 (by simp) ⟨2, ![f, b]⟩ (up2 B) rfl rfl e (by simp) (ValueIdx.ix2 ⟨r.val - e, by omega⟩ k)
      (fun ax hax => by match ax with | ⟨0, _⟩ => exact absurd rfl hax | ⟨1, _⟩ => rfl) (show e + (r.val - e) = r.val by omega)

/-- Three matrices of one width side by side: the entries. -/
def three (A B C : Fin a → Fin b → ℝ) (hn : n = 3 * b) (r : Fin a) (k : Fin n) : ℝ :=
  if h₁ : k.val < b then A r ⟨k.val, h₁⟩ else if h₂ : k.val < 2 * b then B r ⟨k.val - b, by omega⟩ else C r ⟨k.val - 2 * b, by have := k.isLt; omega⟩

/-- Three matrices of one width side by side. -/
theorem cat3 (A B C : Fin a → Fin b → ℝ) (h : Shape.Concatenates [⟨2, ![a, b]⟩, ⟨2, ![a, b]⟩, ⟨2, ![a, b]⟩] ⟨2, ![a, n]⟩ 1) (hn : n = 3 * b) :
    concatenate (no_index ⟨2, ![a, n]⟩) 1 [⟨⟨2, ![a, b]⟩, up2 A⟩, ⟨⟨2, ![a, b]⟩, up2 B⟩, ⟨⟨2, ![a, b]⟩, up2 C⟩] h = up2 (three A B C hn) := by
  funext j
  obtain ⟨r, k, rfl⟩ : ∃ r k, j = ValueIdx.ix2 r k := ⟨_, _, ValueIdx.eq_ix2 j⟩
  have hk := k.isLt
  show _ = ((three A B C hn r k : ℝ) : EReal)
  unfold three
  split_ifs with h₁ h₂
  · exact concatenate_apply_piece (t := ⟨2, ![a, n]⟩) (1 : Fin 2) [⟨⟨2, ![a, b]⟩, up2 A⟩, ⟨⟨2, ![a, b]⟩, up2 B⟩, ⟨⟨2, ![a, b]⟩, up2 C⟩] h (ValueIdx.ix2 r k) 0 (by simp) ⟨2, ![a, b]⟩ (up2 A) rfl rfl 0 (by simp) (ValueIdx.ix2 r ⟨k.val, h₁⟩)
      (fun ax hax => by match ax with | ⟨0, _⟩ => rfl | ⟨1, _⟩ => exact absurd rfl hax) (Nat.zero_add _)
  · exact concatenate_apply_piece (t := ⟨2, ![a, n]⟩) (1 : Fin 2) [⟨⟨2, ![a, b]⟩, up2 A⟩, ⟨⟨2, ![a, b]⟩, up2 B⟩, ⟨⟨2, ![a, b]⟩, up2 C⟩] h (ValueIdx.ix2 r k) 1 (by simp) ⟨2, ![a, b]⟩ (up2 B) rfl rfl b (by simp) (ValueIdx.ix2 r ⟨k.val - b, by omega⟩)
      (fun ax hax => by match ax with | ⟨0, _⟩ => rfl | ⟨1, _⟩ => exact absurd rfl hax) (show b + (k.val - b) = k.val by omega)
  · exact concatenate_apply_piece (t := ⟨2, ![a, n]⟩) (1 : Fin 2) [⟨⟨2, ![a, b]⟩, up2 A⟩, ⟨⟨2, ![a, b]⟩, up2 B⟩, ⟨⟨2, ![a, b]⟩, up2 C⟩] h (ValueIdx.ix2 r k) 2 (by simp) ⟨2, ![a, b]⟩ (up2 C) rfl rfl (2 * b) (by simp; omega) (ValueIdx.ix2 r ⟨k.val - 2 * b, by omega⟩)
      (fun ax hax => by match ax with | ⟨0, _⟩ => rfl | ⟨1, _⟩ => exact absurd rfl hax) (show 2 * b + (k.val - 2 * b) = k.val by omega)

/-- A row as a vector. -/
theorem castVec (X : Fin 1 → Fin b → ℝ) (h : (⟨2, ![1, b]⟩ : Shape).ShapeCasts ⟨1, ![b]⟩) : shapeCast (no_index ⟨1, ![b]⟩) (up2 X) h = up1 (X 0) := by
  funext i
  rw [ValueIdx.eq_ix1 i]
  exact ValueIdx.shapeCast_1a_a_apply _ h _

/-- The rows `q, q + 1, …` of a matrix whose rows go on for ever. -/
def part (n : ℕ) (F : ℕ → Fin b → ℝ) (q : ℕ) : (⟨2, ![n, b]⟩ : Shape).Idx → EReal := up2 fun (i : Fin n) j => F (q + i.val) j

/-- The same as a stack of one matrix. -/
def page (n : ℕ) (F : ℕ → Fin b → ℝ) (q : ℕ) : (⟨3, ![1, n, b]⟩ : Shape).Idx → EReal := up3 fun (_ : Fin 1) (i : Fin n) j => F (q + i.val) j

variable {sig : RefSig} {κ : Kind} {sp : Space}

/-- A load of a rectangle that stored parts of one array cover is a load of that array. -/
theorem readCov_pieces {s : Shape} {e : EltTy} (v : View sig κ sp s e) (G : s.Idx → Elt Ideal e) (L : List (View.Piece (Elt Ideal) s e)) (r : Rect s)
    (h : View.PiecesOf G L) (hc : ∀ x : r.shape.Idx, ∃ p ∈ L, r.idx x ∈ p.1.set) : v.readCov L r.toLoadRect = View.ld G r := by
  rw [View.readCov_eq_canon']
  funext x
  have e := View.canon_append_of_piecesOf G [] L h (r.idx x) (hc x)
  rw [List.append_nil] at e
  exact e

/-- Stored parts of one array leave that array wherever one of them was stored. -/
theorem canon_pieces {s : Shape} {e : EltTy} (G : s.Idx → Elt Ideal e) (L : List (View.Piece (Elt Ideal) s e)) (h : View.PiecesOf G L) (y : s.Idx)
    (hc : ∃ p ∈ L, y ∈ p.1.set) : View.canon L y = G y := by
  have e := View.canon_append_of_piecesOf G [] L h y hc
  rw [List.append_nil] at e
  exact e

/-- A stored part is a part of the whole. -/
theorem part_idx (F : ℕ → Fin b → ℝ) (q : ℕ) (inb) (x : (⟨2, ![n, b]⟩ : Shape).Idx) :
    part n F q x = up2 (fun (i : Fin a) j => F i.val j) ((Rect.unit (s := ⟨2, ![a, b]⟩) ![q, 0] ![n, b] inb).idx x) := by
  have h0 := Rect.idx_unit_val (s := ⟨2, ![a, b]⟩) ![q, 0] ![n, b] inb x 0
  have h1 := Rect.idx_unit_val (s := ⟨2, ![a, b]⟩) ![q, 0] ![n, b] inb x 1
  exact congrArg ((↑) : ℝ → EReal) (congrArg₂ F h0.symm (Fin.ext (h1.trans (Nat.zero_add _)).symm))

/-- A load of rows of the whole is a part. -/
theorem ld_part (F : ℕ → Fin b → ℝ) (p : ℕ) (inb) :
    View.ld (Val := Elt Ideal) (e' := .f32) (up2 fun (i : Fin a) j => F i.val j) (Rect.unit (s := ⟨2, ![a, b]⟩) ![p, 0] ![n, b] inb) = part n F p :=
  funext fun x => (part_idx F p inb x).symm

/-- The entries of a band of rows. -/
theorem mem_band (q m : ℕ) (inb) (y : (⟨2, ![a, b]⟩ : Shape).Idx) (h : q ≤ (y 0).val ∧ (y 0).val < q + m) : y ∈ (Rect.unit (s := ⟨2, ![a, b]⟩) ![q, 0] ![m, b] inb).set :=
  Rect.mem_set_unit.mpr fun ax => match ax with
    | ⟨0, _⟩ => h
    | ⟨1, _⟩ => ⟨Nat.zero_le _, lt_of_lt_of_eq (y 1).isLt (Nat.zero_add b).symm⟩

/-- A scratch array stored in two parts, the rows from `q` on last. -/
theorem loadTwo (v : View sig κ sp ⟨2, ![a, b]⟩ .f32) (F : ℕ → Fin b → ℝ) (q n₁ p : ℕ) (i₁ i₂ inb) (ha : a = q + n₁) :
    v.readCov (Val := Elt Ideal) [⟨Rect.unit (no_index ![q, 0]) (no_index ![n₁, b]) i₁, part n₁ F q⟩, ⟨Rect.unit (no_index ![0, 0]) (no_index ![q, b]) i₂, part q F 0⟩]
      (Rect.unit (no_index ![p, 0]) (no_index ![n, b]) inb).toLoadRect = part n F p := by
  refine (readCov_pieces v (up2 fun (i : Fin a) j => F i.val j) _ _ ?_ fun x => ?_).trans (ld_part F p inb)
  · exact ⟨fun x => part_idx F q i₁ x, fun x => part_idx F 0 i₂ x, trivial⟩
  generalize (Rect.unit (s := ⟨2, ![a, b]⟩) ![p, 0] ![n, b] inb).idx x = y
  have h0 : (y 0).val < a := (y 0).isLt
  by_cases h : (y 0).val < q
  · exact ⟨_, List.mem_cons_of_mem _ (List.mem_singleton_self _), mem_band 0 q i₂ y ⟨Nat.zero_le _, by omega⟩⟩
  · exact ⟨_, List.mem_cons_self, mem_band q n₁ i₁ y (by omega)⟩

/-- A load of rows of a part. -/
theorem ld_rows (F : ℕ → Fin b → ℝ) (p : ℕ) (inb) :
    View.ld (Val := Elt Ideal) (e' := .f32) (part a F 0) (Rect.unit (s := ⟨2, ![a, b]⟩) ![p, 0] ![n, b] inb) = part n F p := by
  refine Eq.trans (congrArg (View.ld (Val := Elt Ideal) (e' := .f32) · _) ?_) (ld_part F p inb)
  exact congrArg up2 (funext fun i => funext fun j => congrArg (F · j) (Nat.zero_add _))

/-- A load of rows of a matrix another one was stored after. -/
theorem loadMiss (v : View sig κ sp ⟨3, ![d, a, b]⟩ .f32) (g g' m q : ℕ) (i₁ inb) (w : (⟨3, ![1, m, b]⟩ : Shape).Idx → EReal)
    (L : List (View.Piece (Elt Ideal) ⟨3, ![d, a, b]⟩ .f32)) (h : g ≠ g') :
    v.readCov (Val := Elt Ideal) (⟨Rect.unit (no_index ![g', 0, 0]) (no_index ![1, m, b]) i₁, w⟩ :: L) (Rect.unit (no_index ![g, q, 0]) (no_index ![1, n, b]) inb).toLoadRect
      = v.readCov (Val := Elt Ideal) L (Rect.unit (no_index ![g, q, 0]) (no_index ![1, n, b]) inb).toLoadRect := by
  rw [View.readCov_eq_canon', View.readCov_eq_canon']
  funext x
  refine View.canon_cons_of_not_mem _ L fun hm => h ?_
  have e := (Rect.mem_set_unit (inb := i₁)).mp hm 0
  have ex := Rect.idx_unit_val (s := ⟨3, ![d, a, b]⟩) ![g, q, 0] ![1, n, b] inb x 0
  have hx : (x 0).val < 1 := (x 0).isLt
  have e₁ : g' ≤ _ := e.1
  have e₂ : _ < g' + 1 := e.2
  have e₃ : _ = g + (x 0).val := ex
  omega

/-- A load of rows of the matrix stored last. -/
theorem loadHit (v : View sig κ sp ⟨3, ![d, a, b]⟩ .f32) (F : ℕ → Fin b → ℝ) (g m p q : ℕ) (i₁ inb) (L : List (View.Piece (Elt Ideal) ⟨3, ![d, a, b]⟩ .f32)) (h : q + n ≤ m) :
    v.readCov (Val := Elt Ideal) (⟨Rect.unit (no_index ![g, 0, 0]) (no_index ![1, m, b]) i₁, page m F p⟩ :: L) (Rect.unit (no_index ![g, q, 0]) (no_index ![1, n, b]) inb).toLoadRect
      = page n F (p + q) := by
  rw [View.readCov_eq_canon']
  funext x
  refine (View.canon_append_of_piecesOf (fun y => ((F (p + (y 1).val) (y 2) : ℝ) : EReal)) L [⟨Rect.unit ![g, 0, 0] ![1, m, b] i₁, page m F p⟩] ?_ _ ?_).trans ?_
  · refine ⟨fun y => ?_, trivial⟩
    have h1 := Rect.idx_unit_val (s := ⟨3, ![d, a, b]⟩) ![g, 0, 0] ![1, m, b] i₁ y 1
    have h2 := Rect.idx_unit_val (s := ⟨3, ![d, a, b]⟩) ![g, 0, 0] ![1, m, b] i₁ y 2
    exact congrArg ((↑) : ℝ → EReal) (congrArg₂ F (congrArg (p + ·) (h1.trans (Nat.zero_add _)).symm) (Fin.ext (h2.trans (Nat.zero_add _)).symm))
  · refine ⟨_, List.mem_singleton_self _, (Rect.mem_set_unit (inb := i₁)).mpr fun ax => ?_⟩
    have e := Rect.idx_unit_val (s := ⟨3, ![d, a, b]⟩) ![g, q, 0] ![1, n, b] inb x ax
    have hx := (x ax).isLt
    match ax with
    | ⟨0, _⟩ => exact ⟨le_of_le_of_eq (Nat.le_add_right _ _) e.symm, lt_of_eq_of_lt e (Nat.add_lt_add_left hx g)⟩
    | ⟨1, _⟩ => exact ⟨Nat.zero_le _, lt_of_eq_of_lt e (lt_of_lt_of_le (Nat.add_lt_add_left hx q) (le_of_le_of_eq h (Nat.zero_add m).symm))⟩
    | ⟨2, _⟩ => exact ⟨Nat.zero_le _, lt_of_eq_of_lt e (Nat.add_lt_add_left hx 0)⟩
  · have h1 := Rect.idx_unit_val (s := ⟨3, ![d, a, b]⟩) ![g, q, 0] ![1, n, b] inb x 1
    have h2 := Rect.idx_unit_val (s := ⟨3, ![d, a, b]⟩) ![g, q, 0] ![1, n, b] inb x 2
    exact congrArg ((↑) : ℝ → EReal) (congrArg₂ F ((congrArg (p + ·) h1).trans (Nat.add_assoc _ _ _).symm) (Fin.ext (h2.trans (Nat.zero_add _))))

/-- An entry of an array one row of which was stored last. -/
theorem canonRow (q : ℕ) (i₁) (w : (⟨2, ![1, b]⟩ : Shape).Idx → EReal) (L : List (View.Piece (Elt Ideal) ⟨2, ![a, b]⟩ .f32)) (y : (⟨2, ![a, b]⟩ : Shape).Idx) :
    View.canon (Val := Elt Ideal) (e := .f32) (⟨Rect.unit (no_index ![q, 0]) (no_index ![1, b]) i₁, w⟩ :: L) y
      = if (y 0).val = q then w (ValueIdx.ix2 0 (y 1)) else View.canon (Val := Elt Ideal) (e := .f32) L y := by
  split_ifs with h
  · have e : y = (Rect.unit (s := ⟨2, ![a, b]⟩) ![q, 0] ![1, b] i₁).emb (ValueIdx.ix2 0 (y 1)) := by
      refine funext fun ax => match ax with
        | ⟨0, _⟩ => Fin.ext (h.trans (Rect.idx_unit_val (s := ⟨2, ![a, b]⟩) ![q, 0] ![1, b] i₁ (ValueIdx.ix2 0 (y 1)) 0).symm)
        | ⟨1, _⟩ => Fin.ext ((Nat.zero_add _).symm.trans (Rect.idx_unit_val (s := ⟨2, ![a, b]⟩) ![q, 0] ![1, b] i₁ (ValueIdx.ix2 0 (y 1)) 1).symm)
    refine (congrArg (View.canon (Val := Elt Ideal) (e := .f32) _) e).trans ?_
    exact View.canon_cons_emb (Rect.unit (s := ⟨2, ![a, b]⟩) ![q, 0] ![1, b] i₁) w L (ValueIdx.ix2 0 (y 1))
  · refine View.canon_cons_of_not_mem _ L fun hm => h ?_
    have e := (Rect.mem_set_unit (inb := i₁)).mp hm 0
    have e₁ : q ≤ (y 0).val := e.1
    have e₂ : (y 0).val < q + 1 := e.2
    omega

/-- The same over what an array held before. -/
theorem readRow (v : View sig κ sp ⟨2, ![a, b]⟩ .f32) (f : v.ty.Contents (Elt Ideal)) (q : ℕ) (i₁) (w : (⟨2, ![1, b]⟩ : Shape).Idx → EReal)
    (L : List (View.Piece (Elt Ideal) ⟨2, ![a, b]⟩ .f32)) (y : (⟨2, ![a, b]⟩ : Shape).Idx) :
    v.read (Elt Ideal) (v.writes (Elt Ideal) f (⟨Rect.unit (no_index ![q, 0]) (no_index ![1, b]) i₁, w⟩ :: L)) y
      = if (y 0).val = q then w (ValueIdx.ix2 0 (y 1)) else v.read (Elt Ideal) (v.writes (Elt Ideal) f L) y := by
  split_ifs with h
  · exact View.read_writes_cons_rows_of_mem (o := q) v f i₁ w L y (ValueIdx.ix2 0 (y 1)) rfl h rfl
  · exact View.read_writes_cons_rows_of_not_mem (o := q) (W := 1) v f i₁ w L y rfl rfl (by omega)

/-- A load of rows of an array stored as a whole. -/
theorem loadTop (v : View sig κ sp ⟨2, ![a, b]⟩ .f32) (F : ℕ → Fin b → ℝ) (p : ℕ) (i₁ inb) :
    v.readCov (Val := Elt Ideal) [⟨Rect.unit (no_index ![0, 0]) (no_index ![a, b]) i₁, part a F 0⟩] (Rect.unit (no_index ![p, 0]) (no_index ![n, b]) inb).toLoadRect = part n F p := by
  refine (readCov_pieces v (up2 fun (i : Fin a) j => F i.val j) _ _ ?_ fun x => ?_).trans (ld_part F p inb)
  · exact ⟨fun x => part_idx F 0 i₁ x, trivial⟩
  · exact ⟨_, List.getElem_mem (n := 0) (by simp), mem_band 0 a i₁ _ ⟨Nat.zero_le _, lt_of_lt_of_eq (((Rect.unit (s := ⟨2, ![a, b]⟩) ![p, 0] ![n, b] inb).idx x) 0).isLt (Nat.zero_add a).symm⟩⟩

/-- An array stored as a whole. -/
theorem canonTop (F : ℕ → Fin b → ℝ) (i₁) (y : (⟨2, ![a, b]⟩ : Shape).Idx) :
    View.canon (Val := Elt Ideal) (e := .f32) [⟨Rect.unit (no_index ![0, 0]) (no_index ![a, b]) i₁, part a F 0⟩] y = part a F 0 y := by
  refine (canon_pieces (e := .f32) (up2 fun (i : Fin a) j => F i.val j) _ ?_ y ?_).trans ?_
  · exact ⟨fun x => part_idx F 0 i₁ x, trivial⟩
  · exact ⟨_, List.getElem_mem (n := 0) (by simp), mem_band 0 a i₁ _ ⟨Nat.zero_le _, lt_of_lt_of_eq (y 0).isLt (Nat.zero_add a).symm⟩⟩
  · exact congrArg ((↑) : ℝ → EReal) (congrArg (F · (y 1)) (Nat.zero_add _).symm)

/-- An entry of a loaded row. -/
theorem ldRow (X : (⟨2, ![a, b]⟩ : Shape).Idx → EReal) (q : ℕ) (inb) (y : (⟨2, ![a, b]⟩ : Shape).Idx) (h : (y 0).val = q) :
    View.ld (Val := Elt Ideal) (e' := .f32) X (Rect.unit (s := ⟨2, ![a, b]⟩) ![q, 0] ![1, b] inb) (ValueIdx.ix2 0 (y 1)) = X y := by
  refine congrArg X (funext fun ax => match ax with
    | ⟨0, _⟩ => Fin.ext ((Rect.idx_unit_val (s := ⟨2, ![a, b]⟩) ![q, 0] ![1, b] inb (ValueIdx.ix2 0 (y 1)) 0).trans h.symm)
    | ⟨1, _⟩ => Fin.ext ((Rect.idx_unit_val (s := ⟨2, ![a, b]⟩) ![q, 0] ![1, b] inb (ValueIdx.ix2 0 (y 1)) 1).trans (Nat.zero_add _)))

end Cert.Lift

end
-- ==== Proof.BraLoad.lean ====
/- The scratch arrays and the block of results of the gated short convolution's gradient kernel, which are stored in bands of rows. -/
module

public import proofs.«01_k».proof.Proof.LiftRows

@[expose] public section

noncomputable section

namespace Cert.BraLoad

open Idealize.ShloMosaic Cert.Lift

variable {sig : RefSig} {κ : Kind} {sp : Space}

/-- A number below 512 is in one of eight bands. -/
theorem bands (r : ℕ) (h : r < 512) : (448 ≤ r ∧ r < 448 + 64) ∨ (384 ≤ r ∧ r < 384 + 64) ∨ (320 ≤ r ∧ r < 320 + 64) ∨ (256 ≤ r ∧ r < 256 + 64) ∨ (192 ≤ r ∧ r < 192 + 64)
    ∨ (128 ≤ r ∧ r < 128 + 64) ∨ (64 ≤ r ∧ r < 64 + 64) ∨ (0 ≤ r ∧ r < 0 + 64) := by omega

/-- A scratch array stored in eight bands and read as a whole. -/
theorem loadEight (v : View sig κ sp ⟨2, ![512, 256]⟩ .f32) (F : ℕ → Fin 256 → ℝ) (i0 i1 i2 i3 i4 i5 i6 i7 inb) :
    v.readCov (Val := Elt Ideal) [⟨Rect.unit (no_index ![448, 0]) (no_index ![64, 256]) i0, part 64 F 448⟩,
       ⟨Rect.unit (no_index ![384, 0]) (no_index ![64, 256]) i1, part 64 F 384⟩,
       ⟨Rect.unit (no_index ![320, 0]) (no_index ![64, 256]) i2, part 64 F 320⟩,
       ⟨Rect.unit (no_index ![256, 0]) (no_index ![64, 256]) i3, part 64 F 256⟩,
       ⟨Rect.unit (no_index ![192, 0]) (no_index ![64, 256]) i4, part 64 F 192⟩,
       ⟨Rect.unit (no_index ![128, 0]) (no_index ![64, 256]) i5, part 64 F 128⟩,
       ⟨Rect.unit (no_index ![64, 0]) (no_index ![64, 256]) i6, part 64 F 64⟩,
       ⟨Rect.unit (no_index ![0, 0]) (no_index ![64, 256]) i7, part 64 F 0⟩]
      (Rect.unit (no_index ![0, 0]) (no_index ![512, 256]) inb).toLoadRect = part 512 F 0 := by
  refine (readCov_pieces v (up2 fun (i : Fin 512) j => F i.val j) _ _ ?_ fun x => ?_).trans (ld_part F 0 inb)
  · exact ⟨part_idx F 448 i0, part_idx F 384 i1, part_idx F 320 i2, part_idx F 256 i3, part_idx F 192 i4, part_idx F 128 i5, part_idx F 64 i6, part_idx F 0 i7, trivial⟩
  · have h0 : (((Rect.unit (s := ⟨2, ![512, 256]⟩) ![0, 0] ![512, 256] inb).idx x) 0).val < 512 := Fin.isLt _
    rcases bands _ h0 with h | h | h | h | h | h | h | h
    · exact ⟨_, List.getElem_mem (n := 0) (by simp), mem_band 448 64 i0 _ h⟩
    · exact ⟨_, List.getElem_mem (n := 1) (by simp), mem_band 384 64 i1 _ h⟩
    · exact ⟨_, List.getElem_mem (n := 2) (by simp), mem_band 320 64 i2 _ h⟩
    · exact ⟨_, List.getElem_mem (n := 3) (by simp), mem_band 256 64 i3 _ h⟩
    · exact ⟨_, List.getElem_mem (n := 4) (by simp), mem_band 192 64 i4 _ h⟩
    · exact ⟨_, List.getElem_mem (n := 5) (by simp), mem_band 128 64 i5 _ h⟩
    · exact ⟨_, List.getElem_mem (n := 6) (by simp), mem_band 64 64 i6 _ h⟩
    · exact ⟨_, List.getElem_mem (n := 7) (by simp), mem_band 0 64 i7 _ h⟩

variable (F₀ F₁ F₂ : ℕ → Fin 256 → ℝ)

/-- The three results side by side. -/
def out : Fin 512 → Fin 768 → ℝ := three (fun i j => F₀ i.val j) (fun i j => F₁ i.val j) (fun i j => F₂ i.val j) rfl

/-- A stored band of one of the three results is a part of the block. -/
theorem out_idx {n : ℕ} (F : ℕ → Fin 256 → ℝ) (q p : ℕ) (inb) (x : (⟨2, ![n, 256]⟩ : Shape).Idx)
    (hF : ∀ (i : Fin 512) (j : Fin 256) (k : Fin 768), k.val = p + j.val → out F₀ F₁ F₂ i k = F i.val j) :
    part n F q x = up2 (out F₀ F₁ F₂) ((Rect.unit (s := ⟨2, ![512, 768]⟩) ![q, p] ![n, 256] inb).idx x) := by
  have h0 := Rect.idx_unit_val (s := ⟨2, ![512, 768]⟩) ![q, p] ![n, 256] inb x 0
  have h1 := Rect.idx_unit_val (s := ⟨2, ![512, 768]⟩) ![q, p] ![n, 256] inb x 1
  exact congrArg ((↑) : ℝ → EReal) ((congrArg (F · (x 1)) h0.symm).trans (hF _ (x 1) _ h1).symm)

theorem out₀ (i : Fin 512) (j : Fin 256) (k : Fin 768) (h : k.val = 0 + j.val) : out F₀ F₁ F₂ i k = F₀ i.val j := by
  unfold out three
  rw [dif_pos (by omega)]
  exact congrArg (F₀ i.val) (Fin.ext (by dsimp only; omega))

theorem out₁ (i : Fin 512) (j : Fin 256) (k : Fin 768) (h : k.val = 256 + j.val) : out F₀ F₁ F₂ i k = F₁ i.val j := by
  unfold out three
  rw [dif_neg (by omega), dif_pos (by omega)]
  exact congrArg (F₁ i.val) (Fin.ext (by dsimp only; omega))

theorem out₂ (i : Fin 512) (j : Fin 256) (k : Fin 768) (h : k.val = 512 + j.val) : out F₀ F₁ F₂ i k = F₂ i.val j := by
  unfold out three
  rw [dif_neg (by omega), dif_neg (by omega)]
  exact congrArg (F₂ i.val) (Fin.ext (by dsimp only; omega))

/-- The entries of a band of one of the three results. -/
theorem mem_part (q m p : ℕ) (inb) (y : (⟨2, ![512, 768]⟩ : Shape).Idx) (h : q ≤ (y 0).val ∧ (y 0).val < q + m) (hk : p ≤ (y 1).val ∧ (y 1).val < p + 256) :
    y ∈ (Rect.unit (s := ⟨2, ![512, 768]⟩) ![q, p] ![m, 256] inb).set :=
  Rect.mem_set_unit.mpr fun ax => match ax with | ⟨0, _⟩ => h | ⟨1, _⟩ => hk

/-- The block of results: the first stored in eight bands, the other two at once. -/
theorem canonOut (i0 i1 i2 i3 i4 i5 i6 i7 k₁ k₂) (y : (⟨2, ![512, 768]⟩ : Shape).Idx) :
    View.canon (Val := Elt Ideal) (e := .bf16) (s := ⟨2, ![512, 768]⟩)
      [⟨Rect.unit ![0, 512] ![512, 256] k₂, part 512 F₂ 0⟩, ⟨Rect.unit ![0, 256] ![512, 256] k₁, part 512 F₁ 0⟩,
       ⟨Rect.unit ![448, 0] ![64, 256] i0, part 64 F₀ 448⟩,
       ⟨Rect.unit ![384, 0] ![64, 256] i1, part 64 F₀ 384⟩,
       ⟨Rect.unit ![320, 0] ![64, 256] i2, part 64 F₀ 320⟩,
       ⟨Rect.unit ![256, 0] ![64, 256] i3, part 64 F₀ 256⟩,
       ⟨Rect.unit ![192, 0] ![64, 256] i4, part 64 F₀ 192⟩,
       ⟨Rect.unit ![128, 0] ![64, 256] i5, part 64 F₀ 128⟩,
       ⟨Rect.unit ![64, 0] ![64, 256] i6, part 64 F₀ 64⟩,
       ⟨Rect.unit ![0, 0] ![64, 256] i7, part 64 F₀ 0⟩] y = up2 (out F₀ F₁ F₂) y := by
  have h0 : (y 0).val < 512 := (y 0).isLt
  have h1 : (y 1).val < 768 := (y 1).isLt
  refine canon_pieces (e := .bf16) (up2 (out F₀ F₁ F₂)) _ ?_ y ?_
  · exact ⟨out_idx F₀ F₁ F₂ F₂ 0 512 k₂ (hF := out₂ F₀ F₁ F₂), out_idx F₀ F₁ F₂ F₁ 0 256 k₁ (hF := out₁ F₀ F₁ F₂),
      out_idx F₀ F₁ F₂ F₀ 448 0 i0 (hF := out₀ F₀ F₁ F₂), out_idx F₀ F₁ F₂ F₀ 384 0 i1 (hF := out₀ F₀ F₁ F₂), out_idx F₀ F₁ F₂ F₀ 320 0 i2 (hF := out₀ F₀ F₁ F₂), out_idx F₀ F₁ F₂ F₀ 256 0 i3 (hF := out₀ F₀ F₁ F₂), out_idx F₀ F₁ F₂ F₀ 192 0 i4 (hF := out₀ F₀ F₁ F₂), out_idx F₀ F₁ F₂ F₀ 128 0 i5 (hF := out₀ F₀ F₁ F₂), out_idx F₀ F₁ F₂ F₀ 64 0 i6 (hF := out₀ F₀ F₁ F₂), out_idx F₀ F₁ F₂ F₀ 0 0 i7 (hF := out₀ F₀ F₁ F₂), trivial⟩
  · by_cases hk : (y 1).val < 256
    · rcases bands _ h0 with h | h | h | h | h | h | h | h
      · exact ⟨_, List.getElem_mem (n := 2) (by simp), mem_part 448 64 0 i0 _ h (by omega)⟩
      · exact ⟨_, List.getElem_mem (n := 3) (by simp), mem_part 384 64 0 i1 _ h (by omega)⟩
      · exact ⟨_, List.getElem_mem (n := 4) (by simp), mem_part 320 64 0 i2 _ h (by omega)⟩
      · exact ⟨_, List.getElem_mem (n := 5) (by simp), mem_part 256 64 0 i3 _ h (by omega)⟩
      · exact ⟨_, List.getElem_mem (n := 6) (by simp), mem_part 192 64 0 i4 _ h (by omega)⟩
      · exact ⟨_, List.getElem_mem (n := 7) (by simp), mem_part 128 64 0 i5 _ h (by omega)⟩
      · exact ⟨_, List.getElem_mem (n := 8) (by simp), mem_part 64 64 0 i6 _ h (by omega)⟩
      · exact ⟨_, List.getElem_mem (n := 9) (by simp), mem_part 0 64 0 i7 _ h (by omega)⟩
    · by_cases hk' : (y 1).val < 512
      · exact ⟨_, List.getElem_mem (n := 1) (by simp), mem_part 0 512 256 k₁ _ (by omega) (by omega)⟩
      · exact ⟨_, List.getElem_mem (n := 0) (by simp), mem_part 0 512 512 k₂ _ (by omega) (by omega)⟩

end Cert.BraLoad

end
-- ==== Proof.BraMath.lean ====
/- The gated short convolution and its gradient on matrices of reals. -/
module

public import proofs.«01_k».proof.Proof.LiftRows

@[expose] public section

noncomputable section

namespace Cert.BraMath

open Idealize.ShloMosaic Cert.Lift

variable (Y : Fin 8192 → Fin 256 → ℝ) (P : Fin 8192 → Fin 2560 → ℝ) (W : Fin 3 → Fin 256 → ℝ) (w F : ℕ → Fin 256 → ℝ)

/-- A matrix with rows of zeros after its last row. -/
def ext {a : ℕ} (X : Fin a → Fin 256 → ℝ) (r : ℕ) (k : Fin 256) : ℝ := if h : r < a then X ⟨r, h⟩ k else 0

/-- The same with eight rows of zeros before its first row too. -/
def late {a : ℕ} (X : Fin a → Fin 256 → ℝ) (r : ℕ) (k : Fin 256) : ℝ := if 8 ≤ r then ext X (r - 8) k else 0

/-- The rows from point `t`'s tile on. -/
def from_ (F : ℕ → Fin 256 → ℝ) (t : ℕ) (r : ℕ) (k : Fin 256) : ℝ := F (t * 512 + r) k

/-- The columns of the projection the gate, its factor and the convolution's rows take. -/
abbrev pb (r : Fin 8192) (k : Fin 256) : ℝ := P r ⟨k.val, by omega⟩
abbrev pc (r : Fin 8192) (k : Fin 256) : ℝ := P r ⟨256 + k.val, by omega⟩
abbrev px (r : Fin 8192) (k : Fin 256) : ℝ := P r ⟨512 + k.val, by omega⟩

/-- The rows the convolution reads. -/
abbrev cx (r : Fin 8192) (k : Fin 256) : ℝ := pc P r k * px P r k

/-- The cotangent of the convolution's result. -/
abbrev dz (r : Fin 8192) (k : Fin 256) : ℝ := Y r k * pb P r k

theorem ext_lt {a : ℕ} (X : Fin a → Fin 256 → ℝ) (i : Fin a) (j : Fin 256) : X i j = ext X (0 + i.val) j := by
  unfold ext
  rw [dif_pos (by omega)]
  exact congrArg (X · j) (Fin.ext (Nat.zero_add _).symm)

/-- The convolution of three taps, of which the first reads six rows further. -/
def conv (r : ℕ) (j : Fin 256) : ℝ := w 0 j * F (r + 6) j + w 1 j * F (r + 7) j + w 2 j * F (r + 8) j

/-- The convolution reversed in time. -/
def vnoc (r : ℕ) (j : Fin 256) : ℝ := w 0 j * F (r + 2) j + w 1 j * F (r + 1) j + w 2 j * F r j

/-- The gradients of the gate, its factor and the rows, side by side. -/
def whole : Fin 8192 → Fin 768 → ℝ :=
  three (fun r j => Y r j * conv (ext W) (late (cx P)) r.val j) (fun r j => vnoc (ext W) (ext (dz Y P)) r.val j * px P r j) (fun r j => vnoc (ext W) (ext (dz Y P)) r.val j * pc P r j) rfl

/-- The gradient of the taps, of which there are three, in eight rows. -/
def allTaps (i : Fin 8) (j : Fin 256) : ℝ := if i.val < 3 then ∑ r : Fin 8192, dz Y P r j * late (cx P) (r.val + 6 + i.val) j else 0

end Cert.BraMath

end
-- ==== Proof.BraTile.lean ====
/- The values the gated short convolution's gradient kernel computes from one tile of rows, on reals. -/
module

public import proofs.«01_k».proof.Proof.BraLoad
public import proofs.«01_k».proof.Proof.BraMath
public import proofs.«01_k».proof.Proof.Gen.BraIdeal.Skeleton

@[expose] public section

noncomputable section

namespace Cert.BraTile

open Idealize.ShloMosaic Cert.Lift Cert.BraMath Cert.BraIdeal Cert.BraIdeal.Gen

variable (w F G D M : ℕ → Fin 256 → ℝ) (p q a b : ℕ)

/-- A copy of a part. -/
theorem copies : k0_pay10 (F := Ideal) (part 512 F q) = page 512 F q ∧ k0_pay11 (F := Ideal) (part 512 F q) = page 512 F q
    ∧ k0_pay12 (F := Ideal) (part 512 F q) = page 512 F q ∧ k0_pay13 (F := Ideal) (part 512 F q) = page 512 F q := by
  refine ⟨?_, ?_, ?_, ?_⟩ <;> exact castAdd (fun (i : Fin 512) j => F (q + i.val) j) _

/-- Eight bands of the first result: the convolution times the cotangent. -/
theorem bandsOut (ha : a = q + 6) (hb : b = q + 7) (hp : p = q + 8) :
    k0_pay15 (F := Ideal) (k0_pay14 (F := Ideal) (part 1 w 0) (page 64 F a)) (part 1 w 1) (page 64 F b) (part 1 w 2) (part 64 F p) (part 64 G q) = part 64 (fun r j => G r j * conv w F r j) q
    ∧ k0_pay17 (F := Ideal) (k0_pay16 (F := Ideal) (part 1 w 0) (page 64 F a) (part 1 w 1) (page 64 F b) (part 1 w 2) (part 64 F p)) (part 64 G q) = part 64 (fun r j => G r j * conv w F r j) q
    ∧ k0_pay18 (F := Ideal) (part 1 w 0) (page 64 F a) (part 1 w 1) (page 64 F b) (part 1 w 2) (part 64 F p) (part 64 G q) = part 64 (fun r j => G r j * conv w F r j) q
    ∧ k0_pay20 (F := Ideal) (k0_pay19 (F := Ideal) (part 1 w 0) (page 64 F a)) (part 1 w 1) (page 64 F b) (part 1 w 2) (part 64 F p) (part 64 G q) = part 64 (fun r j => G r j * conv w F r j) q
    ∧ k0_pay21 (F := Ideal) (part 1 w 0) (page 64 F a) (part 1 w 1) (page 64 F b) (part 1 w 2) (part 64 F p) (part 64 G q) = part 64 (fun r j => G r j * conv w F r j) q
    ∧ k0_pay22 (F := Ideal) (part 1 w 0) (page 64 F a) (part 1 w 1) (page 64 F b) (part 1 w 2) (part 64 F p) (part 64 G q) = part 64 (fun r j => G r j * conv w F r j) q
    ∧ k0_pay24 (F := Ideal) (k0_pay23 (F := Ideal) (part 1 w 0) (page 64 F a)) (part 1 w 1) (page 64 F b) (part 1 w 2) (part 64 F p) (part 64 G q) = part 64 (fun r j => G r j * conv w F r j) q
    ∧ k0_pay25 (F := Ideal) (part 1 w 0) (page 64 F a) (part 1 w 1) (page 64 F b) (part 1 w 2) (part 64 F p) (part 64 G q) = part 64 (fun r j => G r j * conv w F r j) q := by
  subst ha hb hp
  refine ⟨?_, ?_, ?_, ?_, ?_, ?_, ?_, ?_⟩ <;>
    simp only [k0_pay14, k0_pay15, k0_pay16, k0_pay17, k0_pay18, k0_pay19, k0_pay20, k0_pay21, k0_pay22, k0_pay23, k0_pay24, k0_pay25, part, page, castDrop, bcRow, vec2, conv, Nat.add_right_comm _ _ (Fin.val _)] <;> rfl

/-- Eight bands of the cotangent of the gated rows. -/
theorem bandsIn (ha : a = q + 2) (hb : b = q + 1) :
    k0_pay26 (F := Ideal) (part 1 w 0) (page 64 F a) (part 1 w 1) (page 64 F b) (part 1 w 2) (part 64 F q) = part 64 (vnoc w F) q
    ∧ k0_pay28 (F := Ideal) (k0_pay27 (F := Ideal) (part 1 w 0) (page 64 F a) (part 1 w 1) (page 64 F b)) (part 1 w 2) (part 64 F q) = part 64 (vnoc w F) q
    ∧ k0_pay29 (F := Ideal) (part 1 w 0) (page 64 F a) (part 1 w 1) (page 64 F b) (part 1 w 2) (part 64 F q) = part 64 (vnoc w F) q
    ∧ k0_pay31 (F := Ideal) (k0_pay30 (F := Ideal) (part 1 w 0) (page 64 F a)) (part 1 w 1) (page 64 F b) (part 1 w 2) (part 64 F q) = part 64 (vnoc w F) q
    ∧ k0_pay32 (F := Ideal) (part 1 w 0) (page 64 F a) (part 1 w 1) (page 64 F b) (part 1 w 2) (part 64 F q) = part 64 (vnoc w F) q
    ∧ k0_pay33 (F := Ideal) (part 1 w 0) (page 64 F a) (part 1 w 1) (page 64 F b) (part 1 w 2) (part 64 F q) = part 64 (vnoc w F) q
    ∧ k0_pay35 (F := Ideal) (k0_pay34 (F := Ideal) (part 1 w 0) (page 64 F a) (part 1 w 1) (page 64 F b)) (part 1 w 2) (part 64 F q) = part 64 (vnoc w F) q
    ∧ k0_pay36 (F := Ideal) (part 1 w 0) (page 64 F a) (part 1 w 1) (page 64 F b) (part 1 w 2) (part 64 F q) = part 64 (vnoc w F) q := by
  subst ha hb
  refine ⟨?_, ?_, ?_, ?_, ?_, ?_, ?_, ?_⟩ <;>
    simp only [k0_pay26, k0_pay27, k0_pay28, k0_pay29, k0_pay30, k0_pay31, k0_pay32, k0_pay33, k0_pay34, k0_pay35, k0_pay36, part, page, castDrop, castSelf, bcRow, vec2, vnoc, Nat.add_right_comm _ _ (Fin.val _)] <;> rfl

/-- The other two results. -/
theorem pay37 : k0_pay37 (F := Ideal) (part 512 F 0) (part 512 G 0) = part 512 (fun r j => F r j * G r j) 0 ∧ k0_pay38 (F := Ideal) (part 512 F 0) (part 512 G 0) = part 512 (fun r j => F r j * G r j) 0 := by
  refine ⟨?_, ?_⟩ <;> simp only [k0_pay37, k0_pay38, part, castSelf, vec2] <;> rfl

/-- A sum over eight bands is the sum over all rows. -/
theorem sum_bands (f : ℕ → ℝ) : ∑ i : Fin 64, (f (0 + i.val) + f (64 + i.val) + f (128 + i.val) + f (192 + i.val) + f (256 + i.val) + f (320 + i.val) + f (384 + i.val) + f (448 + i.val))
    = ∑ r : Fin 512, f r.val := by
  rw [Fin.sum_univ_eq_sum_range (fun r => f r) 512]
  have e (n : ℕ) : ∑ i ∈ Finset.range (n + 64), f i = ∑ i ∈ Finset.range n, f i + ∑ i : Fin 64, f (n + i.val) := by
    rw [Finset.sum_range_add, Fin.sum_univ_eq_sum_range (fun i => f (n + i)) 64]
  rw [e 448, e 384, e 320, e 256, e 192, e 128, e 64, show (64 : ℕ) = 0 + 64 from rfl, e 0, Finset.sum_range_zero, zero_add]
  simp only [Finset.sum_add_distrib, zero_add]

/-- The tile's part of the gradient of tap `k`. -/
def tap (k : ℕ) (j : Fin 256) : ℝ := ∑ r : Fin 512, D r.val j * M (r.val + 6 + k) j

/-- The tile's parts of the gradients of the first two taps. -/
theorem pay41 : k0_pay41 (F := Ideal) (k0_pay39 (F := Ideal) (part 64 D 0) (page 64 M 6) (part 64 D 64) (page 64 M 70) (part 64 D 128) (page 64 M 134) (part 64 D 192) (page 64 M 198)) (k0_pay40 (F := Ideal) (part 64 D 256) (page 64 M 262)) (part 64 D 320) (page 64 M 326) (part 64 D 384) (page 64 M 390) (part 64 D 448) (page 64 M 454) = up2 fun _ j => tap D M 0 j := by
  simp only [k0_pay39, k0_pay40, k0_pay41, part, page, castDrop, vec2, colSum, lay2]
  refine congrArg up2 (funext fun _ => funext fun j => (Eq.trans (Finset.sum_congr rfl fun i _ => ?_) (sum_bands fun r => D r j * M (r + 6 + 0) j)))
  ring_nf

theorem pay43 : k0_pay43 (F := Ideal) (k0_pay42 (F := Ideal) (part 64 D 0) (page 64 M 7) (part 64 D 64) (page 64 M 71)) (part 64 D 128) (page 64 M 135) (part 64 D 192) (page 64 M 199) (part 64 D 256) (page 64 M 263) (part 64 D 320) (page 64 M 327) (part 64 D 384) (page 64 M 391) (part 64 D 448) (page 64 M 455) = up2 fun _ j => tap D M 1 j := by
  simp only [k0_pay42, k0_pay43, part, page, castDrop, vec2, colSum, lay2]
  refine congrArg up2 (funext fun _ => funext fun j => (Eq.trans (Finset.sum_congr rfl fun i _ => ?_) (sum_bands fun r => D r j * M (r + 6 + 1) j)))
  ring_nf

/-- The gradient of a tap so far and the tile's part. -/
theorem acc (T : Fin 1 → Fin 256 → ℝ) (u : Vec Ideal S1x256 .f32) (i : S1x256.Idx) : k0_pay2 (F := Ideal) (up2 T) u i = u i + up2 T i ∧ k0_pay3 (F := Ideal) (up2 T) u i = u i + up2 T i := by
  unfold k0_pay2 k0_pay3
  simp only [shapeCast_self]
  exact ⟨rfl, rfl⟩

/-- The same for the last tap. -/
theorem pay4 (u : Vec Ideal S1x256 .f32) (i : S1x256.Idx) :
    k0_pay4 (F := Ideal) (k0_pay44 (F := Ideal) (part 64 D 0) (part 64 M 8) (part 64 D 64) (part 64 M 72) (part 64 D 128) (part 64 M 136) (part 64 D 192) (part 64 M 200) (part 64 D 256) (part 64 M 264) (part 64 D 320) (part 64 M 328) (part 64 D 384) (part 64 M 392) (part 64 D 448) (part 64 M 456)) u i = u i + up2 (fun (_ : Fin 1) j => tap D M 2 j) i := by
  have e : shapeCast S1x256 (multiReduction (F := Ideal) .add [0] S256 (k0_pay44 (F := Ideal) (part 64 D 0) (part 64 M 8) (part 64 D 64) (part 64 M 72) (part 64 D 128) (part 64 M 136) (part 64 D 192) (part 64 M 200) (part 64 D 256) (part 64 M 264) (part 64 D 320) (part 64 M 328) (part 64 D 384) (part 64 M 392) (part 64 D 448) (part 64 M 456)) 0x00000000#32 reduces_S64x256_S256 (.inl rfl) rfl) shapeCasts_S256_S1x256
      = up2 fun _ j => tap D M 2 j := by
    simp only [k0_pay44, part, vec2, colSum, lay2]
    refine congrArg up2 (funext fun _ => funext fun j => (Eq.trans (Finset.sum_congr rfl fun i _ => ?_) (sum_bands fun r => D r j * M (r + 6 + 2) j)))
    ring_nf
  unfold k0_pay4
  simp only [shapeCast_self, e]
  rfl

/-- The gradient of the taps starts at zero. -/
theorem pay1 : k0_pay1 (F := Ideal) = part 8 (fun _ _ => 0) 0 :=
  funext fun y => Eq.trans (b := Ideal.ofBits .f32 0x00000000#32) rfl words.1

/-- The tile's part of the gradient of the taps, of which there are three, in eight rows. -/
def taps (i : Fin 8) (j : Fin 256) : ℝ := if i.val < 3 then tap D M i.val j else 0

theorem taps_eq (y : S8x256.Idx) (k : ℕ) (hk : k < 3) (h : (y 0).val = k) : up2 (fun (_ : Fin 1) j => tap D M k j) (ValueIdx.ix2 0 (y 1)) = up2 (taps D M) y := by
  subst h
  exact congrArg ((↑) : ℝ → EReal) (if_pos hk).symm

theorem taps_rest (y : S8x256.Idx) (h0 : (y 0).val ≠ 0) (h1 : (y 0).val ≠ 1) (h2 : (y 0).val ≠ 2) : up2 (taps D M) y = 0 :=
  (congrArg ((↑) : ℝ → EReal) (if_neg (by omega))).trans EReal.coe_zero

end Cert.BraTile

end
-- ==== Proof.BraFinal.lean ====
/- The arrays the gated short convolution's gradient kernel leaves, on reals. -/
module

public import proofs.«01_k».proof.Proof.LiftPick
public import proofs.«01_k».proof.Proof.BraTile
public import proofs.«01_k».proof.Proof.Gen.BraIdeal.Value
public import Idealize.ShloMosaic.Lib.Claim
public import Idealize.ShloMosaic.Lib.Pipeline.ValueKit

@[expose] public section

set_option maxRecDepth 16384

noncomputable section

namespace Cert.BraFinal

open Idealize.ShloMosaic Idealize.ShloMosaic.TcCoe Idealize.SL.Sem Cert.Lift Cert.BraMath Cert.BraIdeal Cert.BraIdeal.Gen
open Idealize.ShloMosaic.Pipeline (Dat)

variable (m : (ℓ : Loc nD τ sig) → Buf (Elt Ideal) ℓ) (c : Dev nD)
variable (Y : Fin 8192 → Fin 256 → ℝ) (P : Fin 8192 → Fin 2560 → ℝ) (W : Fin 3 → Fin 256 → ℝ)

/-- Which block each window stages at a point. -/
theorem idx : ∀ t : Fin cfg0.N, win0_0.index t = ![t.val, 0] ∧ win0_1.index t = ![t.val, 0] ∧ win0_2.index t = ![t.val, 1] ∧ win0_3.index t = ![t.val, 2] ∧ win0_4.index t = ![t.val * 64 - 1, 1] ∧ win0_5.index t = ![t.val * 64 - 1, 2]
    ∧ win0_6.index t = ![min ((t.val + 1) * 64) 1023, 0] ∧ win0_7.index t = ![min ((t.val + 1) * 64) 1023, 0] ∧ win0_8.index t = ![0, 0] ∧ win0_9.index t = ![t.val, 0] ∧ win0_10.index t = ![0, 0] :=
  (by decide +kernel : ∀ t : Fin grid0.N, win0_0.index t = ![t.val, 0] ∧ win0_1.index t = ![t.val, 0] ∧ win0_2.index t = ![t.val, 1] ∧ win0_3.index t = ![t.val, 2] ∧ win0_4.index t = ![t.val * 64 - 1, 1] ∧ win0_5.index t = ![t.val * 64 - 1, 2]
    ∧ win0_6.index t = ![min ((t.val + 1) * 64) 1023, 0] ∧ win0_7.index t = ![min ((t.val + 1) * 64) 1023, 0] ∧ win0_8.index t = ![0, 0] ∧ win0_9.index t = ![t.val, 0] ∧ win0_10.index t = ![0, 0])

/-- Row `r` of point `t`'s tile. -/
def row (t : Fin cfg0.N) (r : Fin 512) : Fin 8192 := ⟨t.val * 512 + r.val, by have h := t.isLt; have := r.isLt; have h2 : cfg0.N = 16 := N_0; omega⟩

/-- The first point is the only one whose number is a multiple of 16. -/
theorem first (t : Fin cfg0.N) (h : t.val % 16 = 0) : ¬1 ≤ t.val := by have h1 := t.isLt; have h2 : cfg0.N = 16 := N_0; omega
theorem later (t : Fin cfg0.N) (h : ¬t.val % 16 = 0) : 1 ≤ t.val := by omega

theorem ext_row (X : Fin 8192 → Fin 256 → ℝ) (t : Fin cfg0.N) (i : Fin 512) (j : Fin 256) : from_ (ext X) t.val i.val j = X (row t i) j :=
  dif_pos (row t i).isLt

section

variable (h0 : m ((c : Thread nD τ).loc main_arg0) = up2 Y) (h1 : m ((c : Thread nD τ).loc main_arg1) = up2 P) (h2 : m ((c : Thread nD τ).loc main_arg2) = up2 W)

include h1 in
/-- The projection's columns the host hands to the kernel. -/
theorem hostA : V m c main_v7 = up2 fun r k => P r (pickA k) := by
  simp only [V, hostOps0, List.flatten_cons, List.flatten_nil, List.append_nil, List.cons_append, List.nil_append]
  after_results_simp
  refine Eq.trans ?_ (catA P slices_S8192x2560_S8192x256_0_0 slices_S8192x2560_S8192x256_0_256 slices_S8192x2560_S8192x256_0_512 slices_S8192x2560_S8192x256_0_1536 slices_S8192x2560_S8192x256_0_1792 slices_S8192x2560_S8192x256_0_2048 slices_S8192x2560_S8192x256_0_2304 concatenates_S8192x256_S8192x256_S8192x256_S8192x256_S8192x256_S8192x256_S8192x256_S8192x1792_d1)
  rw [← h1]
  rfl

include h1 in
/-- An entry of the first three groups of columns. -/
theorem hostAt (r : Fin 8192) (k : Fin 1792) (q : Fin 2560) (hk : k.val < 768) (hq : q.val = k.val) : V m c main_v7 (ValueIdx.ix2 r k) = ((P r q : ℝ) : EReal) := by
  refine (congrFun (hostA m c P h1) _).trans (congrArg ((↑) : ℝ → EReal) (congrArg (P r) (Fin.ext ?_)))
  exact (pickA_val k).trans ((if_pos hk).trans hq.symm)

include h0 in
theorem blk0 (t : Fin cfg0.N) : iblk m c 0 t = part 512 (from_ (ext Y) t.val) 0 := by
  funext y
  refine Eq.trans (b := m ((c : Thread nD τ).loc main_arg0) (ValueIdx.ix2 (row t (y 0)) (y 1))) ?_ ((congrFun h0 _).trans (congrArg ((↑) : ℝ → EReal) ?_))
  · blk_point [iblk, V, idx t, row]
  · exact (ext_row Y t (y 0) (y 1)).symm.trans (congrArg (from_ (ext Y) t.val · (y 1)) (Nat.zero_add _).symm)

include h1 in
theorem blk1 (t : Fin cfg0.N) : iblk m c 1 t = part 512 (from_ (ext (pb P)) t.val) 0 := by
  funext y
  have hy : (y 1).val < 256 := (y 1).isLt
  refine Eq.trans (b := V m c main_v7 (ValueIdx.ix2 (row t (y 0)) (⟨(y 1).val, by omega⟩ : Fin 1792))) ?_ ((hostAt m c P h1 _ _ ⟨(y 1).val, by omega⟩ (by dsimp only; omega) rfl).trans (congrArg ((↑) : ℝ → EReal) ?_))
  · blk_ext [iblk, idx t, row]
  · exact (ext_row (pb P) t (y 0) (y 1)).symm.trans (congrArg (from_ (ext (pb P)) t.val · (y 1)) (Nat.zero_add _).symm)

include h1 in
theorem blk2 (t : Fin cfg0.N) : iblk m c 2 t = part 512 (from_ (ext (pc P)) t.val) 0 := by
  funext y
  have hy : (y 1).val < 256 := (y 1).isLt
  refine Eq.trans (b := V m c main_v7 (ValueIdx.ix2 (row t (y 0)) (⟨256 + (y 1).val, by omega⟩ : Fin 1792))) ?_ ((hostAt m c P h1 _ _ ⟨256 + (y 1).val, by omega⟩ (by dsimp only; omega) rfl).trans (congrArg ((↑) : ℝ → EReal) ?_))
  · blk_ext [iblk, idx t, row]
  · exact (ext_row (pc P) t (y 0) (y 1)).symm.trans (congrArg (from_ (ext (pc P)) t.val · (y 1)) (Nat.zero_add _).symm)

include h1 in
theorem blk3 (t : Fin cfg0.N) : iblk m c 3 t = part 512 (from_ (ext (px P)) t.val) 0 := by
  funext y
  have hy : (y 1).val < 256 := (y 1).isLt
  refine Eq.trans (b := V m c main_v7 (ValueIdx.ix2 (row t (y 0)) (⟨512 + (y 1).val, by omega⟩ : Fin 1792))) ?_ ((hostAt m c P h1 _ _ ⟨512 + (y 1).val, by omega⟩ (by dsimp only; omega) rfl).trans (congrArg ((↑) : ℝ → EReal) ?_))
  · blk_ext [iblk, idx t, row]
  · exact (ext_row (px P) t (y 0) (y 1)).symm.trans (congrArg (from_ (ext (px P)) t.val · (y 1)) (Nat.zero_add _).symm)

/-- Row `r` of the eight rows before point `t`'s tile. -/
def before (t : Fin cfg0.N) (h : 1 ≤ t.val) (r : Fin 8) : Fin 8192 := ⟨(t.val * 64 - 1) * 8 + r.val, by have h := t.isLt; have := r.isLt; have h2 : cfg0.N = 16 := N_0; omega⟩

/-- Row `r` of the eight rows after it. -/
def after_ (t : Fin cfg0.N) (r : Fin 8) : Fin 8192 := ⟨min ((t.val + 1) * 64) 1023 * 8 + r.val, by have := r.isLt; omega⟩

include h1 in
theorem blk4 (t : Fin cfg0.N) (h : 1 ≤ t.val) : iblk m c 4 t = up2 fun (r : Fin 8) k => pc P (before t h r) k := by
  funext y
  have hy : (y 1).val < 256 := (y 1).isLt
  refine Eq.trans (b := V m c main_v7 (ValueIdx.ix2 (before t h (y 0)) (⟨256 + (y 1).val, by omega⟩ : Fin 1792))) ?_ (hostAt m c P h1 _ _ ⟨256 + (y 1).val, by omega⟩ (by dsimp only; omega) rfl)
  blk_ext [iblk, idx t, before]

include h1 in
theorem blk5 (t : Fin cfg0.N) (h : 1 ≤ t.val) : iblk m c 5 t = up2 fun (r : Fin 8) k => px P (before t h r) k := by
  funext y
  have hy : (y 1).val < 256 := (y 1).isLt
  refine Eq.trans (b := V m c main_v7 (ValueIdx.ix2 (before t h (y 0)) (⟨512 + (y 1).val, by omega⟩ : Fin 1792))) ?_ (hostAt m c P h1 _ _ ⟨512 + (y 1).val, by omega⟩ (by dsimp only; omega) rfl)
  blk_ext [iblk, idx t, before]

include h0 in
theorem blk6 (t : Fin cfg0.N) : iblk m c 6 t = up2 fun (r : Fin 8) k => Y (after_ t r) k := by
  funext y
  refine Eq.trans (b := m ((c : Thread nD τ).loc main_arg0) (ValueIdx.ix2 (after_ t (y 0)) (y 1))) ?_ (congrFun h0 _)
  blk_point [iblk, V, idx t, after_]

include h1 in
theorem blk7 (t : Fin cfg0.N) : iblk m c 7 t = up2 fun (r : Fin 8) k => pb P (after_ t r) k := by
  funext y
  have hy : (y 1).val < 256 := (y 1).isLt
  refine Eq.trans (b := V m c main_v7 (ValueIdx.ix2 (after_ t (y 0)) (⟨(y 1).val, by omega⟩ : Fin 1792))) ?_ (hostAt m c P h1 _ _ ⟨(y 1).val, by omega⟩ (by dsimp only; omega) rfl)
  blk_ext [iblk, idx t, after_]

include h2 in
theorem blk8 (t : Fin cfg0.N) : iblk m c 8 t = part 3 (ext W) 0 := by
  funext y
  refine Eq.trans (b := m ((c : Thread nD τ).loc main_arg2) (ValueIdx.ix2 (y 0) (y 1))) ?_ ((congrFun h2 _).trans (congrArg ((↑) : ℝ → EReal) (ext_lt W (y 0) (y 1))))
  blk_point [iblk, V, idx t]

/-- The point's number as the body compares it. -/
theorem points : ∀ t : Fin cfg0.N, Scalar.cmpi CmpIPredicate.sgt (BitVec.ofNat 32 (grid0.coords t 0).val) 0#32 = (if t.val = 0 then 0#1 else 1#1)
    ∧ Scalar.cmpi CmpIPredicate.slt (BitVec.ofNat 32 (grid0.coords t 0).val) 15#32 = (if t.val = 15 then 0#1 else 1#1) :=
  (by decide +kernel : ∀ t : Fin grid0.N, Scalar.cmpi CmpIPredicate.sgt (BitVec.ofNat 32 (grid0.coords t 0).val) 0#32 = (if t.val = 0 then 0#1 else 1#1)
    ∧ Scalar.cmpi CmpIPredicate.slt (BitVec.ofNat 32 (grid0.coords t 0).val) 15#32 = (if t.val = 15 then 0#1 else 1#1))

/-- What the scratch arrays hold: the rows the convolution reads, with the eight rows before the tile. -/
abbrev scrM (t : ℕ) : ℕ → Fin 256 → ℝ := from_ (late (cx P)) t

/-- The cotangent of the convolution's result, with the eight rows after the tile. -/
abbrev scrD (t : ℕ) : ℕ → Fin 256 → ℝ := from_ (ext (dz Y P)) t

theorem mul_ext (A B : Fin 8192 → Fin 256 → ℝ) (r : ℕ) (k : Fin 256) : ext A r k * ext B r k = ext (fun r k => A r k * B r k) r k := by
  unfold ext
  split_ifs
  · rfl
  · exact zero_mul _

theorem pay6 (t : ℕ) : k0_pay6 (F := Ideal) (part 512 (from_ (ext (pc P)) t) 0) (part 512 (from_ (ext (px P)) t) 0) = part 512 (scrM P t) 8 := by
  simp only [k0_pay6, part, castSelf, vec2]
  refine congrArg up2 (funext fun i => funext fun j => (mul_ext _ _ _ _).trans ?_)
  show _ = late (cx P) (t * 512 + (8 + i.val)) j
  unfold late
  rw [if_pos (by omega), show t * 512 + (8 + i.val) - 8 = t * 512 + (0 + i.val) by omega]

theorem pay7 (t : ℕ) : k0_pay7 (F := Ideal) (part 512 (from_ (ext Y) t) 0) (part 512 (from_ (ext (pb P)) t) 0) = part 512 (scrD Y P t) 0 := by
  simp only [k0_pay7, part, castSelf, vec2]
  exact congrArg up2 (funext fun i => funext fun j => mul_ext _ _ _ _)

include h1 in
/-- The eight rows before the tile; there are none before the first. -/
theorem pay5 (t : Fin cfg0.N) : k0_pay5 (grid0.coords t) (iblk m c 4 t) (iblk m c 5 t) = part 8 (scrM P t.val) 0 := by
  unfold k0_pay5
  simp only [(points t).1]
  by_cases h : t.val = 0
  · simp only [if_pos h, shapeCast_self]
    funext y
    refine Eq.trans (b := Ideal.ofBits .f32 0x00000000#32) rfl (words.1.trans (congrArg ((↑) : ℝ → EReal) ?_))
    show 0 = late (cx P) (t.val * 512 + (0 + (y 0).val)) (y 1)
    have hy : (y 0).val < 8 := (y 0).isLt
    unfold late
    rw [if_neg (by omega)]
  · have ht : 1 ≤ t.val := Nat.one_le_iff_ne_zero.mpr h
    simp only [if_neg h, shapeCast_self, blk4 m c P h1 t ht, blk5 m c P h1 t ht, vec2]
    funext y
    refine congrArg ((↑) : ℝ → EReal) ?_
    show cx P (before t ht (y 0)) (y 1) = late (cx P) (t.val * 512 + (0 + (y 0).val)) (y 1)
    have hy : (y 0).val < 8 := (y 0).isLt
    have hb : (before t ht (y 0)).val = (t.val * 64 - 1) * 8 + (y 0).val := rfl
    unfold late ext
    rw [if_pos (by omega), dif_pos (by have := (before t ht (y 0)).isLt; omega)]
    exact congrArg (cx P · (y 1)) (Fin.ext (hb.trans (by show _ = t.val * 512 + (0 + (y 0).val) - 8; omega)))

include h0 h1 in
/-- The eight rows after the tile; there are none after the last. -/
theorem pay9 (t : Fin cfg0.N) : k0_pay9 (Scalar.cmpi CmpIPredicate.slt (BitVec.ofNat 32 (grid0.coords t 0).val) 15#32) (k0_pay8 (iblk m c 6 t) (iblk m c 7 t)) = part 8 (scrD Y P t.val) 512 := by
  have hn : t.val < 16 := lt_of_lt_of_eq t.isLt N_0
  unfold k0_pay9 k0_pay8
  simp only [(points t).2]
  by_cases h : t.val = 15
  · simp only [if_pos h, shapeCast_self]
    funext y
    refine Eq.trans (b := Ideal.ofBits .f32 0x00000000#32) rfl (words.1.trans (congrArg ((↑) : ℝ → EReal) ?_))
    show 0 = ext (dz Y P) (t.val * 512 + (512 + (y 0).val)) (y 1)
    unfold ext
    rw [dif_neg (by omega)]
  · simp only [if_neg h, shapeCast_self, blk6 m c Y h0 t, blk7 m c P h1 t, vec2]
    funext y
    refine congrArg ((↑) : ℝ → EReal) ?_
    show dz Y P (after_ t (y 0)) (y 1) = ext (dz Y P) (t.val * 512 + (512 + (y 0).val)) (y 1)
    have hy : (y 0).val < 8 := (y 0).isLt
    have hb : (after_ t (y 0)).val = min ((t.val + 1) * 64) 1023 * 8 + (y 0).val := rfl
    unfold ext
    rw [dif_pos (by omega)]
    exact congrArg (dz Y P · (y 1)) (Fin.ext (by rw [hb]; dsimp only; omega))

/-- The three results in one tile. -/
abbrev outT (t : ℕ) : Fin 512 → Fin 768 → ℝ :=
  BraLoad.out (fun r j => from_ (ext Y) t r j * conv (ext W) (scrM P t) r j) (fun r j => vnoc (ext W) (scrD Y P t) r j * from_ (ext (px P)) t r j)
    (fun r j => vnoc (ext W) (scrD Y P t) r j * from_ (ext (pc P)) t r j)

include h0 h1 h2 in
theorem outs (t : Fin cfg0.N) (y) : (outsAt0 m c t.val t.isLt).1 y = up2 (outT Y P W t.val) y := by
  by_cases h : t.val % 16 = 0
  · rw [outsAt0_A m c t h]
    frame_out
    simp only [blk0 m c Y h0 t, blk1 m c P h1 t, blk2 m c P h1 t, blk3 m c P h1 t, blk8 m c W h2 t, pay5 m c P h1 t, pay6, pay7, pay9 m c Y P h0 h1 t, ld_rows]
    simp (disch := decide) only [loadTwo, BraTile.copies, loadHit, loadMiss, Nat.reduceAdd]
    simp (disch := decide) only [BraTile.bandsOut, BraTile.bandsIn, BraLoad.loadEight, BraTile.pay37]
    exact BraLoad.canonOut _ _ _ _ _ _ _ _ _ _ _ _ _ y
  · rw [outsAt0_B m c t h]
    frame_out
    simp only [blk0 m c Y h0 t, blk1 m c P h1 t, blk2 m c P h1 t, blk3 m c P h1 t, blk8 m c W h2 t, pay5 m c P h1 t, pay6, pay7, pay9 m c Y P h0 h1 t, ld_rows]
    simp (disch := decide) only [loadTwo, BraTile.copies, loadHit, loadMiss, Nat.reduceAdd]
    simp (disch := decide) only [BraTile.bandsOut, BraTile.bandsIn, BraLoad.loadEight, BraTile.pay37]
    exact BraLoad.canonOut _ _ _ _ _ _ _ _ _ _ _ _ _ y

include h0 h1 h2 in
/-- The gradient of the taps after the first tile. -/
theorem taps_first (t : Fin cfg0.N) (h : t.val % 16 = 0) (y) : (outsAt0 m c t.val t.isLt).2 y = up2 (BraTile.taps (scrD Y P t.val) (scrM P t.val)) y := by
  rw [outsAt0_A m c t h]
  frame_out
  simp only [blk0 m c Y h0 t, blk1 m c P h1 t, blk2 m c P h1 t, blk3 m c P h1 t, pay5 m c P h1 t, pay6, pay7, pay9 m c Y P h0 h1 t]
  simp (disch := decide) only [loadTwo, BraTile.copies, loadHit, loadMiss, Nat.reduceAdd, BraTile.pay1]
  simp (disch := decide) only [BraTile.pay41, BraTile.pay43, View.readCov_skip, loadTop, canonRow, canonTop, BraTile.acc, BraTile.pay4]
  split_ifs with k2 k1 k0
  · exact (zero_add _).trans (BraTile.taps_eq _ _ y 2 (by norm_num) k2)
  · exact (zero_add _).trans (BraTile.taps_eq _ _ y 1 (by norm_num) k1)
  · exact (zero_add _).trans (BraTile.taps_eq _ _ y 0 (by norm_num) k0)
  · exact (BraTile.taps_rest _ _ y k0 k1 k2).symm

include h0 h1 h2 in
/-- The gradient of the taps after a later tile. -/
theorem taps_later (t : Fin cfg0.N) (h : ¬ t.val % 16 = 0) (y) :
    (outsAt0 m c t.val t.isLt).2 y = (outsAt0 m c (t.val - 1) (Nat.lt_of_le_of_lt (Nat.sub_le _ _) t.isLt)).2 y + up2 (BraTile.taps (scrD Y P t.val) (scrM P t.val)) y := by
  rw [outsAt0_B m c t h]
  frame_out
  simp only [blk0 m c Y h0 t, blk1 m c P h1 t, blk2 m c P h1 t, blk3 m c P h1 t, pay5 m c P h1 t, pay6, pay7, pay9 m c Y P h0 h1 t]
  simp (disch := decide) only [loadTwo, BraTile.copies, loadHit, loadMiss, Nat.reduceAdd]
  simp (disch := decide) only [BraTile.pay41, BraTile.pay43, readRow, BraTile.acc, BraTile.pay4]
  split_ifs with k2 k1 k0
  · exact congrArg₂ (· + ·) (ldRow _ 2 _ y k2) (BraTile.taps_eq _ _ y 2 (by norm_num) k2)
  · exact congrArg₂ (· + ·) (ldRow _ 1 _ y k1) (BraTile.taps_eq _ _ y 1 (by norm_num) k1)
  · exact congrArg₂ (· + ·) (ldRow _ 0 _ y k0) (BraTile.taps_eq _ _ y 0 (by norm_num) k0)
  · rw [BraTile.taps_rest _ _ y k0 k1 k2, add_zero, View.writes_nil]
    exact congrFun (Memref.IsWhole.read_unread _ _) y

/-- A tile's results are its rows of the whole results. -/
theorem outT_eq (t : Fin cfg0.N) (i : Fin 512) (k : Fin 768) : outT Y P W t.val i k = whole Y P W (row t i) k := by
  have ec (j) : conv (ext W) (scrM P t.val) i.val j = conv (ext W) (late (cx P)) (row t i).val j := rfl
  have ev (j) : vnoc (ext W) (scrD Y P t.val) i.val j = vnoc (ext W) (ext (dz Y P)) (row t i).val j := rfl
  unfold outT BraLoad.out whole three
  simp only [ec, ev, ext_row]

include h0 h1 h2

/-- The gradients of the gate, its factor and the rows. -/
theorem final9 : (dats m 0 c).arrAt 9 cfg0.N = up2 (whole Y P W) := by
  refine (dats m 0 c).arrAt_eq_of_covers 9 _ (by decide +kernel) fun t hf y => ?_
  blk_simp
  rw [after0_9]
  refine (outs m c Y P W h0 h1 h2 t y).trans ?_
  refine Eq.trans (b := up2 (whole Y P W) (ValueIdx.ix2 (row t (y 0)) (y 1))) (congrArg ((↑) : ℝ → EReal) (outT_eq Y P W t (y 0) (y 1))) ?_
  blk_point [idx t, row]

/-- The gradient of the taps. -/
theorem final10 : (dats m 0 c).arrAt 10 cfg0.N = up2 (allTaps Y P) := by
  refine (dats m 0 c).arrAt_eq_of_after_last 10 t0_15 (by decide +kernel) _ fun j => ?_
  blk_simp
  rw [after0_10, Pipeline.eq_sum_fin_of_reset_step_apply_last (fun n h => (outsAt0 m c n h).2) 16 (fun _ => 0)
    (fun t => up2 (BraTile.taps (scrD Y P t.val) (scrM P t.val)))
    (fun t h j => (taps_first m c Y P W h0 h1 h2 t h j).trans (zero_add _).symm)
    (fun t h j => taps_later m c Y P W h0 h1 h2 t h j)
    (le_of_eq N_0) t0_15 rfl j, zero_add]
  by_cases h : (j 0).val < 3
  · have e : ∀ t : Fin cfg0.N, up2 (BraTile.taps (scrD Y P t.val) (scrM P t.val)) j = ((∑ r : Fin 512, dz Y P (row t r) (j 1) * late (cx P) ((row t r).val + 6 + (j 0).val) (j 1) : ℝ) : EReal) := fun t => by
      refine congrArg ((↑) : ℝ → EReal) ((if_pos h).trans (Finset.sum_congr rfl fun r _ => congrArg₂ (· * ·) (ext_row (dz Y P) t r (j 1)) ?_))
      exact congrArg (late (cx P) · (j 1)) (by show t.val * 512 + (r.val + 6 + (j 0).val) = t.val * 512 + r.val + 6 + (j 0).val; omega)
    refine (Finset.sum_congr rfl fun t _ => e t).trans ?_
    refine (tile_sum (congrArg (· * 512) N_0) row (fun _ _ => rfl) fun r => dz Y P r (j 1) * late (cx P) (r.val + 6 + (j 0).val) (j 1)).trans ?_
    refine Eq.trans (b := up2 (allTaps Y P) j) (congrArg ((↑) : ℝ → EReal) (if_pos h).symm) ?_
    blk_point [idx t0_15]
  · have e : ∀ t : Fin cfg0.N, up2 (BraTile.taps (scrD Y P t.val) (scrM P t.val)) j = 0 := fun t =>
      (congrArg ((↑) : ℝ → EReal) (if_neg h)).trans EReal.coe_zero
    refine (Finset.sum_congr rfl fun t _ => e t).trans (Finset.sum_const_zero.trans ?_)
    refine Eq.trans (b := up2 (allTaps Y P) j) ((congrArg ((↑) : ℝ → EReal) (if_neg h)).trans EReal.coe_zero).symm ?_
    blk_point [idx t0_15]

end

end Cert.BraFinal
-- ==== Proof.BraRef.lean ====
/- The values of the reference of the gated short convolution's gradient, one group of lines at a time, on reals. -/
module

public import proofs.«01_k».proof.Proof.BraMath
public import proofs.«01_k».proof.Proof.Gen.BraRefIdeal.Read

@[expose] public section

noncomputable section

namespace Cert.BraRef

open Idealize.ShloMosaic Cert.Lift Cert.BraMath Cert.BraRefIdeal Cert.BraRefIdeal.Gen Cert.BraRefIdeal.Read

variable (Y : Fin 8192 → Fin 256 → ℝ) (P : Fin 8192 → Fin 2560 → ℝ) (W : Fin 3 → Fin 256 → ℝ)

/-- The gate's, its factor's and the rows' columns. -/
theorem cols : val_main_v0 (F := Ideal) (up2 P) = up2 (pb P) ∧ val_main_v1 (F := Ideal) (up2 P) = up2 (pc P) ∧ val_main_v2 (F := Ideal) (up2 P) = up2 (px P) := by
  unfold val_main_v0 val_main_v1 val_main_v2
  simp only [cut2]
  refine ⟨?_, ?_, ?_⟩ <;> refine congrArg up2 (funext fun r => funext fun k => congrArg₂ P (Fin.ext (Nat.zero_add _)) (Fin.ext ?_))
  · exact Nat.zero_add _
  · rfl
  · rfl

/-- Two rows of zeros above a matrix. -/
theorem below_late (X : Fin 8192 → Fin 256 → ℝ) (k : Fin 8194) (j j' : Fin 256) (n : ℕ) (hk : k.val + 6 = n) (hj : j.val = j'.val) :
    below (fun (_ : Fin 2) (_ : Fin 256) => (0 : ℝ)) X rfl k j = late X n j' := by
  obtain rfl : j = j' := Fin.ext hj
  have := k.isLt
  unfold below late ext
  split_ifs with a b c d
  · omega
  · omega
  · rfl
  · exact congrArg (X · j) (Fin.ext (by dsimp only; omega))
  · omega
  · omega

/-- The rows the convolution's taps read. -/
theorem reads : val_main_v16 (F := Ideal) (up2 P) = up2 (fun r j => late (cx P) (r.val + 6) j) ∧ val_main_v24 (F := Ideal) (up2 P) = up2 (fun r j => late (cx P) (r.val + 7) j)
    ∧ val_main_v31 (F := Ideal) (up2 P) = up2 (fun r j => late (cx P) (r.val + 8) j) := by
  have e₁ : val_main_v11 (F := Ideal) = up2 fun _ _ => 0 := by
    unfold val_main_v11 val_main_cst
    simp only [consts, bcScalar]
  have e₂ : val_main_v10 (F := Ideal) (up2 P) = up2 (cx P) := by
    unfold val_main_v10
    simp only [cols, vec2]
  unfold val_main_v16 val_main_v24 val_main_v31 val_main_v12
  rw [e₁, e₂, catBelow (n := 8194) (fun _ _ => 0) (cx P) concatenates_S2x256_S8192x256_S8194x256_d0 rfl]
  simp only [cut2]
  refine ⟨?_, ?_, ?_⟩ <;> refine congrArg up2 (funext fun r => funext fun k => below_late _ _ _ k _ ?_ (Nat.zero_add k.val)) <;> dsimp only <;> omega

/-- The taps. -/
theorem weights : val_main_v17 (F := Ideal) (up2 W) = up2 (fun _ j => ext W 0 j) ∧ val_main_v25 (F := Ideal) (up2 W) = up2 (fun _ j => ext W 1 j)
    ∧ val_main_v32 (F := Ideal) (up2 W) = up2 (fun _ j => ext W 2 j) := by
  unfold val_main_v17 val_main_v25 val_main_v32 val_main_v15 val_main_v23 val_main_v30 val_main_v14 val_main_v22 val_main_v29
  simp only [cut2, castVec, bcVecCols]
  refine ⟨?_, ?_, ?_⟩ <;> exact congrArg up2 (funext fun r => funext fun k => congrArg₂ W (Fin.ext rfl) (Fin.ext (Nat.zero_add _)))

/-- The convolution. -/
theorem conv_eq : val_main_v35 (F := Ideal) (up2 P) (up2 W) = up2 fun r j => conv (ext W) (late (cx P)) r.val j := by
  unfold val_main_v35 val_main_v34 val_main_v33 val_main_v28 val_main_v27 val_main_v26 val_main_v21 val_main_v20 val_main_v19 val_main_v18 val_main_cst_1
  simp only [reads, weights, hostBcRow, vec2, consts, bcScalar, zero_add]
  rfl

/-- The cotangent of the convolution's result. -/
theorem dz_eq : val_main_v37 (F := Ideal) (up2 Y) (up2 P) = up2 (dz Y P) := by
  unfold val_main_v37
  simp only [cols, vec2]
  exact congrArg up2 (funext fun r => funext fun k => mul_comm _ _)

/-- A product with rows of zeros about it. -/
theorem atRows_ext (v : Fin 256 → ℝ) (X : Fin 8192 → Fin 256 → ℝ) (p n : ℕ) (k : Fin 8194) (j j' : Fin 256) (hk : k.val = p + n) (hj : j.val = j'.val) :
    atRows 8194 p (fun r j => v j * X r j) k j = v j' * ext X n j' := by
  obtain rfl : j = j' := Fin.ext hj
  unfold atRows ext
  split_ifs with a b c
  · exact congrArg (v j * X · j) (Fin.ext (by dsimp only; omega))
  · omega
  · omega
  · exact (mul_zero _).symm

/-- The cotangent of the rows the convolution reads. -/
theorem dm_eq : val_main_v71 (F := Ideal) (up2 Y) (up2 P) (up2 W) = up2 fun r j => vnoc (ext W) (ext (dz Y P)) r.val j := by
  unfold val_main_v71 val_main_v66 val_main_v65 val_main_v60 val_main_v59 val_main_v55 val_main_v54 val_main_v49 val_main_v48 val_main_v45 val_main_v40 val_main_v39 val_main_cst_4 val_main_cst_8 val_main_cst_12
  simp only [dz_eq, weights, hostBcRow, vec2, consts, padRows, cut2]
  refine congrArg up2 (funext fun r => funext fun k => ?_)
  rw [atRows_ext (fun j => ext W 2 j) (dz Y P) 2 r.val _ _ k rfl (Nat.zero_add _), atRows_ext (fun j => ext W 1 j) (dz Y P) 1 (r.val + 1) _ _ k (by dsimp only; omega) (Nat.zero_add _),
    atRows_ext (fun j => ext W 0 j) (dz Y P) 0 (r.val + 2) _ _ k (by dsimp only; omega) (Nat.zero_add _)]
  unfold vnoc
  ring

/-- The gradients of the gate, its factor and the rows. -/
theorem whole_eq : val_main_v75 (F := Ideal) (up2 Y) (up2 P) (up2 W) = up2 (whole Y P W) := by
  have e₁ : val_main_v38 (F := Ideal) (up2 Y) (up2 P) (up2 W) = up2 fun r j => Y r j * conv (ext W) (late (cx P)) r.val j := by
    unfold val_main_v38
    simp only [conv_eq, vec2]
  have e₂ : val_main_v73 (F := Ideal) (up2 Y) (up2 P) (up2 W) = up2 fun r j => vnoc (ext W) (ext (dz Y P)) r.val j * px P r j := by
    unfold val_main_v73
    simp only [cols, dm_eq, vec2]
  have e₃ : val_main_v72 (F := Ideal) (up2 Y) (up2 P) (up2 W) = up2 fun r j => vnoc (ext W) (ext (dz Y P)) r.val j * pc P r j := by
    unfold val_main_v72
    simp only [cols, dm_eq, vec2, mul_comm (pc P _ _)]
  refine Eq.trans (b := val_main_v74 (F := Ideal) (up2 Y) (up2 P) (up2 W)) rfl ?_
  unfold val_main_v74
  rw [e₁, e₂, e₃]
  exact cat3 (n := 768) _ _ _ concatenates_S8192x256_S8192x256_S8192x256_S8192x768_d1 rfl

/-- Three rows, each from its own array, and five rows of zeros. -/
theorem rows3 (S : ℕ → Fin 256 → ℝ) : (below (fun (r : Fin 3) j => atRows 3 2 (fun (_ : Fin 1) j => S 2 j) r j + atRows 3 1 (fun (_ : Fin 1) j => S 1 j) r j + atRows 3 0 (fun (_ : Fin 1) j => S 0 j) r j)
    (fun (_ : Fin 5) (_ : Fin 256) => (0 : ℝ)) rfl : Fin 8 → Fin 256 → ℝ) = fun i j => if i.val < 3 then S i.val j else 0 := by
  funext i j
  fin_cases i <;> simp [below, atRows]

/-- The gradient of tap `k`. -/
def S (k : ℕ) (j : Fin 256) : ℝ := ∑ r : Fin 8192, dz Y P r j * late (cx P) (r.val + 6 + k) j

/-- The gradient of the taps. -/
theorem taps_eq : val_main_v77 (F := Ideal) (up2 Y) (up2 P) = up2 (allTaps Y P) := by
  have e₁ : val_main_v76 (F := Ideal) = up2 fun _ _ => 0 := by
    unfold val_main_v76 val_main_cst_14
    simp only [consts, bcScalar]
  have e₂ : val_main_v69 (F := Ideal) (up2 Y) (up2 P) = up2 fun r j => atRows 3 2 (fun (_ : Fin 1) j => S Y P 2 j) r j + atRows 3 1 (fun (_ : Fin 1) j => S Y P 1 j) r j + atRows 3 0 (fun (_ : Fin 1) j => S Y P 0 j) r j := by
    unfold val_main_v69 val_main_v68 val_main_v67 val_main_v64 val_main_v63 val_main_v62 val_main_v61 val_main_v58 val_main_v57 val_main_v56 val_main_v53 val_main_v52 val_main_v51 val_main_v50
      val_main_v47 val_main_v46 val_main_v44 val_main_v43 val_main_v42 val_main_v41 val_main_cst_2 val_main_cst_3 val_main_cst_5 val_main_cst_6 val_main_cst_7 val_main_cst_9 val_main_cst_10 val_main_cst_11 val_main_cst_13
    simp only [dz_eq, reads, vec2, consts, hostColSum, lay2, bcVecCols, padRows, Fin.sum_univ_one]
    rfl
  unfold val_main_v77
  rw [e₁, e₂]
  exact (catBelow (n := 8) _ _ concatenates_S3x256_S5x256_S8x256_d0 rfl).trans (congrArg up2 (rows3 (S Y P)))

end Cert.BraRef

end
-- ==== Proof.BraClaim.lean ====
/- The gated short convolution's gradient: the two claims of its pair that no generated theorem states. -/
module

public import proofs.«01_k».proof.Defs
public import proofs.«01_k».proof.Proof.BraFinal
public import proofs.«01_k».proof.Proof.BraRef
public import proofs.«01_k».proof.Proof.Gen.Bra.Frame
public import proofs.«01_k».proof.Proof.Gen.BraIdeal.Frame
public import proofs.«01_k».proof.Proof.Gen.BraRefIdeal.Run
public import proofs.«01_k».proof.Proof.Gen.Pre_bra_finite

@[expose] public section

set_option maxRecDepth 16384
set_option maxHeartbeats 1000000

noncomputable section

namespace Cert.BraClaim

open Idealize.ShloMosaic Idealize.SL.Sem Cert.Lift

/-- The precondition says that the three arguments hold real numbers only. -/
theorem real_args (a0 : Vec Ideal ⟨2, ![8192, 256]⟩ .f32) (a1 : Vec Ideal ⟨2, ![8192, 2560]⟩ .f32) (a2 : Vec Ideal ⟨2, ![3, 256]⟩ .f32) (j : (⟨0, ![]⟩ : Shape).Idx)
    (h : Cert.Pre_bra_finite.fn (F := Ideal) a0 a1 a2 j = 1#1) : (∃ Y, a0 = up2 Y) ∧ (∃ P, a1 = up2 P) ∧ ∃ W, a2 = up2 W := by
  dsimp only [Cert.Pre_bra_finite.fn] at h
  obtain ⟨h, h2⟩ := and_one _ _ _ h
  obtain ⟨h0, h1⟩ := and_one _ _ _ h
  exact ⟨real2 _ _ _ _ _ _ h0, real2 _ _ _ _ _ _ h1, real2 _ _ _ _ _ _ h2⟩

/-- The reference runs to the end from every memory, and declares no semaphore. -/
theorem frame_ref : Cert.quiescent_BraRefIdeal := fun m ρ _ =>
  (θ_run Cert.BraRefIdeal.defs _ _).mono (fun r h => ⟨fun c => (h c).2.2, sem_eq_zero_of_no_sems (by decide) r.2⟩)
    (Cert.BraRefIdeal.Value.run (F := Ideal) m ρ)

/-- Over the reals the kernel's two results are the derivative of the gated short convolution. -/
theorem value : Cert.algebraic_BraIdeal_BraRefIdeal_pre_bra_finite := by
  pair_intro
  all_goals have hreal := fun c => real_args _ _ _ _ (congrFun (hpre c) ValueIdx.ix0)
  run_from Cert.BraIdeal.Value.run_blocks m g
  run_from Cert.BraRefIdeal.Value.run m' g'
  all_goals
    obtain ⟨⟨Y, h0⟩, ⟨P, h1⟩, W, h2⟩ := hreal c
    obtain ⟨e0, e1, e2⟩ := hagree c
  · rw [BraRefIdeal.Read.val_main_v75_eq, e0, e1, e2, h0, h1, h2]
    exact (BraRef.whole_eq Y P W).trans (BraFinal.final9 m c Y P W h0 h1 h2).symm
  · rw [BraRefIdeal.Read.val_main_v77_eq, h0, h1]
    exact (BraRef.taps_eq Y P).trans (BraFinal.final10 m c Y P W h0 h1 h2).symm

end Cert.BraClaim

end
-- ==== Proof.SgufKernel.lean ====
/- The values the forward spatial-gating kernel computes from one chunk of 128 rows, on reals. -/
module

public import proofs.«01_k».proof.Proof.Gating
public import proofs.«01_k».proof.Proof.Gen.SgufIdeal.Skeleton

@[expose] public section

set_option maxRecDepth 16384

noncomputable section

namespace Cert.SgufTile

open Idealize.ShloMosaic Cert.Lift Cert.LayerNorm Cert.Gating Cert.SgufIdeal Cert.SgufIdeal.Gen

variable (W : Fin 4 → Fin 128 → Fin 128 → ℝ) (S : Fin 4 → Fin 128 → ℝ) (U V : Fin 128 → Fin 256 → ℝ) (G B : Fin 1 → Fin 256 → ℝ) (X : Fin 128 → Fin 128 → ℝ)

/-- The product of a square matrix and the chunk. -/
theorem nn (X : Fin 128 → Fin 128 → ℝ) (Y : Fin 128 → Fin 256 → ℝ) :
    matmul (F := Ideal) (φ₁ := .bf16) (φ₂ := .bf16) dot_S128x128_S128x256_S128x256_1_0_0_1_n_n none (up2 X) (up2 Y) (constant S128x256 .f32 0x00000000#32) = up2 fun r k => ∑ l, X r l * Y l k := mmNN _ _ _ rfl

/-- The four heads' masks. -/
theorem masks : k0_pay2 (F := Ideal) = up2 (fun _ => msk 0) ∧ k0_pay3 (F := Ideal) = up2 (fun _ => msk 1) ∧ k0_pay4 (F := Ideal) = up2 (fun _ => msk 2) ∧ k0_pay5 (F := Ideal) = up2 (fun _ => msk 3) :=
  ⟨mask 0 0 64 rfl rfl _ _, mask 1 64 128 rfl rfl _ _, mask 2 128 192 rfl rfl _ _, mask 3 192 256 rfl rfl _ _⟩

/-- The four heads' causal weights. -/
theorem weights : k0_pay6 (F := Ideal) (up3 fun _ => X) = up2 (low X) ∧ k0_pay7 (F := Ideal) (up3 fun _ => X) = up2 (low X)
    ∧ k0_pay8 (F := Ideal) (iota .tc S128x128 32 [0] iota_S128x128_d0_w32) (iota .tc S128x128 32 [1] iota_S128x128_d1_w32) (up3 fun _ => X) = up2 (low X) ∧ k0_pay9 (F := Ideal) (iota .tc S128x128 32 [0] iota_S128x128_d0_w32) (iota .tc S128x128 32 [1] iota_S128x128_d1_w32) (up3 fun _ => X) = up2 (low X) := by
  unfold k0_pay6 k0_pay7 k0_pay8 k0_pay9
  simp only [castDrop, scalar_word, words, splat2, selLow, casts, and_self]

/-- The bias of the mix. -/
theorem bias : k0_pay10 (F := Ideal) (up2 fun _ => msk 0) (up2 fun _ => msk 1) (up2 fun _ => msk 2) (up2 fun _ => msk 3)
    (up2 fun t _ => S 0 t) (up2 fun t _ => S 1 t) (up2 fun t _ => S 2 t) (up2 fun t _ => S 3 t) = up2 fun t k => S (grp k) t := by
  unfold k0_pay10
  simp only [castSelf, bcCol, bcRow, scalar_word, words, splat2, vec2, zero_add]
  exact congrArg up2 (funext fun t => funext fun k => pick (fun g => S g t) k)

/-- The normalised gate rows, as the last chunk forms them. -/
theorem xh_eq : k0_pay23 (F := Ideal) (up2 V) = up2 fun r k => xh (V r) k := by
  unfold k0_pay23
  simp (disch := norm_num) only [rowSum, lay2, castSelf, vec2, words, scalar_word, splat2, bcCol, divf2]
  exact (congrArg (fun z => mulf (F := Ideal) (φ := .f32) (up2 fun r k => cen (V r) k) (broadcastTo S128x256 z broadcasts_S128x1_S128x256)) (rsqrt2 _ fun r _ => var_pos (V r))).trans
    ((congrArg (mulf (F := Ideal) (φ := .f32) (up2 fun r k => cen (V r) k)) (bcCol _ _)).trans (vec2.1 _ _))

/-- The normalised gate scaled and shifted, as a chunk's payload forms it. -/
theorem vn_eq : k0_pay14 (F := Ideal) (up2 V) (up2 G) (up2 B) = up2 (vn V (G 0) (B 0)) := by
  show addf (mulf (k0_pay23 (F := Ideal) (up2 V)) (broadcastTo S128x256 (shapeCast S1x256 (up2 G) shapeCasts_S1x256_S1x256) broadcasts_S1x256_S128x256)) (broadcastTo S128x256 (shapeCast S1x256 (up2 B) shapeCasts_S1x256_S1x256) broadcasts_S1x256_S128x256) = _
  simp only [xh_eq, castSelf, vec2, bcRow]
  rfl

/-- One chunk's rows of the gated half times the mixed gate. -/
theorem gate : (up2 fun t k => U t k * (S (grp k) t + (∑ l, low (W 0) t l * (vn V (G 0) (B 0) l k * msk 0 k)) + (∑ l, low (W 1) t l * (vn V (G 0) (B 0) l k * msk 1 k))
      + (∑ l, low (W 2) t l * (vn V (G 0) (B 0) l k * msk 2 k)) + ∑ l, low (W 3) t l * (vn V (G 0) (B 0) l k * msk 3 k))) = up2 (du W S U V (G 0) (B 0)) := by
  refine congrArg up2 (funext fun t => funext fun k => ?_)
  unfold du mixed
  rw [← pick (fun g => ∑ s, low (W g) t s * vn V (G 0) (B 0) s k) k]
  simp only [Finset.sum_mul]
  have e : ∀ g, ∑ s, low (W g) t s * (vn V (G 0) (B 0) s k * msk g k) = ∑ s, low (W g) t s * vn V (G 0) (B 0) s k * msk g k := fun g => Finset.sum_congr rfl fun s _ => (mul_assoc _ _ _).symm
  rw [e, e, e, e]
  ring

/-- What the second chunk stores. -/
theorem out_eq : k0_pay16 (F := Ideal) (up2 fun _ => msk 3) (up2 (low (W 3))) (up2 (vn V (G 0) (B 0)))
      (k0_pay15 (F := Ideal) (up2 fun _ => msk 0) (up2 fun _ => msk 1) (up2 fun _ => msk 2) (up2 (low (W 0))) (up2 (low (W 1))) (up2 (low (W 2))) (up2 fun t k => S (grp k) t) (up2 V) (up2 G) (up2 B)) (up2 U)
    = up2 (du W S U V (G 0) (B 0)) := by
  unfold k0_pay16 k0_pay15
  simp only [vn_eq, castSelf, bcRow, vec2, casts, nn]
  exact gate W S U V G B

/-- The other three chunks compute by the same function, cut differently into payloads. -/
theorem same (m0 m1 m2 m3 : FVec Ideal S1x256 .f32) (w0 w1 w2 w3 : FVec Ideal S128x128 .bf16) (b : FVec Ideal S128x256 .f32) (u v : Vec Ideal S128x256 .f32) (g s : Vec Ideal S1x256 .f32) :
    k0_pay13 (k0_pay12 m0 m1 m2 m3 w0 w1 w2 w3 b (k0_pay11 v) g s u) = k0_pay16 m3 w3 (k0_pay14 v g s) (k0_pay15 m0 m1 m2 w0 w1 w2 b v g s) u
    ∧ k0_pay20 m2 m3 w1 w2 w3 (k0_pay17 v g s) (k0_pay18 m0 w0 b v g s) (k0_pay19 m1) u = k0_pay16 m3 w3 (k0_pay14 v g s) (k0_pay15 m0 m1 m2 w0 w1 w2 b v g s) u
    ∧ k0_pay1 m0 m1 m2 m3 w0 w1 w2 w3 b (k0_pay21 g) (k0_pay22 s) (k0_pay23 v) u = k0_pay16 m3 w3 (k0_pay14 v g s) (k0_pay15 m0 m1 m2 w0 w1 w2 b v g s) u := by
  refine ⟨?_, ?_, ?_⟩ <;> rfl

end Cert.SgufTile

end
-- ==== Proof.SgufFinal.lean ====
/- The array the forward spatial-gating kernel leaves, on reals. -/
module

public import proofs.«01_k».proof.Proof.SgufKernel
public import proofs.«01_k».proof.Proof.SguRef
public import proofs.«01_k».proof.Proof.Lift3
public import proofs.«01_k».proof.Proof.LiftLoad
public import proofs.«01_k».proof.Proof.Gen.SgufIdeal.Value
public import Idealize.ShloMosaic.Lib.Claim
public import Idealize.ShloMosaic.Lib.Pipeline.ValueKit
public import Idealize.ShloMosaic.Lib.Pipeline.ReadBack

@[expose] public section

set_option maxRecDepth 16384

noncomputable section

namespace Cert.SgufFinal

open Idealize.ShloMosaic Idealize.ShloMosaic.TcCoe Idealize.SL.Sem Cert.Lift Cert.SgufIdeal Cert.SgufIdeal.Gen
open Idealize.ShloMosaic.Pipeline (Dat)
open Cert.LayerNorm Cert.Gating
open Cert.SguRef (ch uu vv duRow)

variable (m : (ℓ : Loc nD τ sig) → Buf (Elt Ideal) ℓ) (c : Dev nD)
variable (P : Fin 8192 → Fin 2560 → ℝ) (G B : Fin 256 → ℝ) (W : Fin 4 → Fin 128 → Fin 128 → ℝ) (S : Fin 4 → Fin 128 → ℝ)

/-- The memory holds the reals `P`, `G`, `B`, `W`, `S` in the arguments. -/
structure Holds : Prop where
  h0 : m ((c : Thread nD τ).loc main_arg0) = up2 P
  h1 : m ((c : Thread nD τ).loc main_arg1) = up1 G
  h2 : m ((c : Thread nD τ).loc main_arg2) = up1 B
  h3 : m ((c : Thread nD τ).loc main_arg3) = up3 W
  h4 : m ((c : Thread nD τ).loc main_arg4) = up2 S

/-- Which block each window stages at a point. -/
theorem idx : ∀ t : Fin cfg0.N, win0_0.index t = ![t.val, 3] ∧ win0_1.index t = ![t.val, 4] ∧ win0_2.index t = ![0, 0] ∧ win0_3.index t = ![0, 0] ∧ win0_4.index t = ![0, 0, 0]
    ∧ win0_5.index t = ![0, 0] ∧ win0_6.index t = ![t.val, 0] := by
  decide +kernel

/-- Row `r` of point `t`'s tile. -/
def row (t : Fin cfg0.N) (r : Fin 512) : Fin 8192 := ⟨t.val * 512 + r.val, by have h := t.isLt; have := r.isLt; have h2 : cfg0.N = 16 := N_0; omega⟩
/-- Chunk `q` of point `t`'s tile. -/
def cn (t : Fin cfg0.N) (q : Fin 4) : Fin 64 := ⟨t.val * 4 + q.val, by have h := t.isLt; have := q.isLt; have h2 : cfg0.N = 16 := N_0; omega⟩

/-- A tile's rows from a chunk's first row on are the chunk. -/
theorem row_cn (X : Fin 8192 → Fin 256 → ℝ) (t : Fin cfg0.N) (q : Fin 4) (p : ℕ) (hp : p = q.val * 128) (h : ∀ i : Fin 128, p + i.val < 512) (h' : ∀ j : Fin 256, 0 + j.val < 256) :
    (up2 fun (i : Fin 128) (j : Fin 256) => X (row t ⟨p + i.val, h i⟩) ⟨0 + j.val, h' j⟩) = up2 (ch X (cn t q)) := by
  refine congrArg up2 (funext fun i => funext fun j => congrArg₂ X (Fin.ext ?_) (Fin.ext (Nat.zero_add _)))
  show t.val * 512 + (p + i.val) = (t.val * 4 + q.val) * 128 + i.val
  omega

section

variable {m c P G B W S} (H : Holds m c P G B W S)
include H

/-- The halves of the projection the host packs. -/
theorem hostHalves (r : Fin 8192) (k : Fin 256) :
    V m c main_v7 (ValueIdx.ix2 r (⟨768 + k.val, by omega⟩ : Fin 1792)) = ((uu P r k : ℝ) : EReal) ∧ V m c main_v7 (ValueIdx.ix2 r (⟨1024 + k.val, by omega⟩ : Fin 1792)) = ((vv P r k : ℝ) : EReal) := by
  let x := m ((c : Thread nD τ).loc main_arg0)
  let ps : List ((s : Shape) × (s.Idx → EReal)) :=
    [⟨S8192x256, extractStridedSlice S8192x256 ![0, 0] x slices_S8192x2560_S8192x256_0_0⟩, ⟨S8192x256, extractStridedSlice S8192x256 ![0, 256] x slices_S8192x2560_S8192x256_0_256⟩,
      ⟨S8192x256, extractStridedSlice S8192x256 ![0, 512] x slices_S8192x2560_S8192x256_0_512⟩, ⟨S8192x256, extractStridedSlice S8192x256 ![0, 1536] x slices_S8192x2560_S8192x256_0_1536⟩,
      ⟨S8192x256, extractStridedSlice S8192x256 ![0, 1792] x slices_S8192x2560_S8192x256_0_1792⟩, ⟨S8192x256, extractStridedSlice S8192x256 ![0, 2048] x slices_S8192x2560_S8192x256_0_2048⟩,
      ⟨S8192x256, extractStridedSlice S8192x256 ![0, 2304] x slices_S8192x2560_S8192x256_0_2304⟩]
  have e : V m c main_v7 = concatenate S8192x1792 1 ps concatenates_S8192x256_S8192x256_S8192x256_S8192x256_S8192x256_S8192x256_S8192x256_S8192x1792_d1 := by
    simp only [V, hostOps0]
    after_results_simp
    rfl
  have hx : x = up2 P := H.h0
  rw [e]
  constructor
  · refine (concatenate_apply_piece (t := S8192x1792) (1 : Fin 2) ps _ _ 3 (by simp [ps]) S8192x256 (extractStridedSlice S8192x256 ![0, 1536] x slices_S8192x2560_S8192x256_0_1536) rfl rfl 768 rfl
      (ValueIdx.ix2 r k) (fun b hb => ?_) rfl).trans ?_
    · match b with
      | ⟨0, _⟩ => rfl
      | ⟨1, _⟩ => exact absurd rfl hb
    · rw [hx]
      refine (congrFun (cut2 P 0 1536 _) _).trans ?_
      exact congrArg (fun q => ((P q ⟨1536 + k.val, by omega⟩ : ℝ) : EReal)) (Fin.ext (Nat.zero_add _))
  · refine (concatenate_apply_piece (t := S8192x1792) (1 : Fin 2) ps _ _ 4 (by simp [ps]) S8192x256 (extractStridedSlice S8192x256 ![0, 1792] x slices_S8192x2560_S8192x256_0_1792) rfl rfl 1024 rfl
      (ValueIdx.ix2 r k) (fun b hb => ?_) rfl).trans ?_
    · match b with
      | ⟨0, _⟩ => rfl
      | ⟨1, _⟩ => exact absurd rfl hb
    · rw [hx]
      refine (congrFun (cut2 P 0 1792 _) _).trans ?_
      exact congrArg (fun q => ((P q ⟨1792 + k.val, by omega⟩ : ℝ) : EReal)) (Fin.ext (Nat.zero_add _))

theorem blk0 (t : Fin cfg0.N) : iblk m c 0 t = up2 fun r k => uu P (row t r) k := by
  funext y
  have hy : (y 1).val < 256 := (y 1).isLt
  refine Eq.trans (b := V m c main_v7 (ValueIdx.ix2 (row t (y 0)) (⟨768 + (y 1).val, by omega⟩ : Fin 1792))) ?_ (hostHalves H _ _).1
  blk_ext [iblk, idx t, row]

theorem blk1 (t : Fin cfg0.N) : iblk m c 1 t = up2 fun r k => vv P (row t r) k := by
  funext y
  have hy : (y 1).val < 256 := (y 1).isLt
  refine Eq.trans (b := V m c main_v7 (ValueIdx.ix2 (row t (y 0)) (⟨1024 + (y 1).val, by omega⟩ : Fin 1792))) ?_ (hostHalves H _ _).2
  blk_ext [iblk, idx t, row]

theorem blk2 (t : Fin cfg0.N) : iblk m c 2 t = up2 fun _ k => G k := by
  funext y
  refine Eq.trans (b := m ((c : Thread nD τ).loc main_arg1) (ValueIdx.ix1 (y 1))) ?_ (congrFun H.h1 _)
  blk_point [iblk, V, idx t]

theorem blk3 (t : Fin cfg0.N) : iblk m c 3 t = up2 fun _ k => B k := by
  funext y
  refine Eq.trans (b := m ((c : Thread nD τ).loc main_arg2) (ValueIdx.ix1 (y 1))) ?_ (congrFun H.h2 _)
  blk_point [iblk, V, idx t]

theorem blk4 (t : Fin cfg0.N) : iblk m c 4 t = up3 W := by
  funext y
  refine Eq.trans (b := m ((c : Thread nD τ).loc main_arg3) (ValueIdx.ix3 (y 0) (y 1) (y 2))) ?_ (congrFun H.h3 _)
  blk_point [iblk, V, idx t]

theorem blk5 (t : Fin cfg0.N) : iblk m c 5 t = up2 fun t g => S g t := by
  funext y
  refine Eq.trans (b := m ((c : Thread nD τ).loc main_arg4) (ValueIdx.ix2 (y 1) (y 0))) ?_ (congrFun H.h4 _)
  blk_point [iblk, V, idx t]

omit H in
/-- A load of a chunk's rows from a tile of reals. -/
theorem chunks (X : Fin 8192 → Fin 256 → ℝ) (t : Fin cfg0.N) :
    View.ld (Val := Elt Ideal) (e' := .f32) (up2 fun r k => X (row t r) k) (Rect.unit ![0, 0] ![128, 256] inb_S512x256_S128x256_0_0) = up2 (ch X (cn t 0))
    ∧ View.ld (Val := Elt Ideal) (e' := .f32) (up2 fun r k => X (row t r) k) (Rect.unit ![128, 0] ![128, 256] inb_S512x256_S128x256_128_0) = up2 (ch X (cn t 1))
    ∧ View.ld (Val := Elt Ideal) (e' := .f32) (up2 fun r k => X (row t r) k) (Rect.unit ![256, 0] ![128, 256] inb_S512x256_S128x256_256_0) = up2 (ch X (cn t 2))
    ∧ View.ld (Val := Elt Ideal) (e' := .f32) (up2 fun r k => X (row t r) k) (Rect.unit ![384, 0] ![128, 256] inb_S512x256_S128x256_384_0) = up2 (ch X (cn t 3)) :=
  ⟨(load2 (fun r k => X (row t r) k) 0 0 _).trans (row_cn X t 0 0 rfl _ _), (load2 (fun r k => X (row t r) k) 128 0 _).trans (row_cn X t 1 128 rfl _ _),
    (load2 (fun r k => X (row t r) k) 256 0 _).trans (row_cn X t 2 256 rfl _ _), (load2 (fun r k => X (row t r) k) 384 0 _).trans (row_cn X t 3 384 rfl _ _)⟩

omit H in
/-- The four heads' weights and biases. -/
theorem pages (W : Fin 4 → Fin 128 → Fin 128 → ℝ) (S : Fin 4 → Fin 128 → ℝ) :
    (View.ld (Val := Elt Ideal) (e' := .f32) (up3 W) (Rect.unit ![0, 0, 0] ![1, 128, 128] inb_S4x128x128_S1x128x128_0_0_0) = up3 (fun _ => W 0)
      ∧ View.ld (Val := Elt Ideal) (e' := .f32) (up3 W) (Rect.unit ![1, 0, 0] ![1, 128, 128] inb_S4x128x128_S1x128x128_1_0_0) = up3 (fun _ => W 1)
      ∧ View.ld (Val := Elt Ideal) (e' := .f32) (up3 W) (Rect.unit ![2, 0, 0] ![1, 128, 128] inb_S4x128x128_S1x128x128_2_0_0) = up3 (fun _ => W 2)
      ∧ View.ld (Val := Elt Ideal) (e' := .f32) (up3 W) (Rect.unit ![3, 0, 0] ![1, 128, 128] inb_S4x128x128_S1x128x128_3_0_0) = up3 (fun _ => W 3))
    ∧ View.ld (Val := Elt Ideal) (e' := .f32) (up2 fun t g => S g t) (Rect.unit ![0, 0] ![128, 1] inb_S128x4_S128x1_0_0) = up2 (fun t _ => S 0 t)
    ∧ View.ld (Val := Elt Ideal) (e' := .f32) (up2 fun t g => S g t) (Rect.unit ![0, 1] ![128, 1] inb_S128x4_S128x1_0_1) = up2 (fun t _ => S 1 t)
    ∧ View.ld (Val := Elt Ideal) (e' := .f32) (up2 fun t g => S g t) (Rect.unit ![0, 2] ![128, 1] inb_S128x4_S128x1_0_2) = up2 (fun t _ => S 2 t)
    ∧ View.ld (Val := Elt Ideal) (e' := .f32) (up2 fun t g => S g t) (Rect.unit ![0, 3] ![128, 1] inb_S128x4_S128x1_0_3) = up2 (fun t _ => S 3 t) := by
  refine ⟨⟨loadPage W 0 (by decide) _, loadPage W 1 (by decide) _, loadPage W 2 (by decide) _, loadPage W 3 (by decide) _⟩, ?_, ?_, ?_, ?_⟩ <;>
    exact (load2 (fun t g => S g t) 0 _ _).trans (congrArg up2 (funext fun i => funext fun j => congrArg₂ S (Fin.ext (by have := j.isLt; show _ + j.val = _; omega)) (Fin.ext (Nat.zero_add _))))

omit H in
/-- The gated rows of a chunk, by rows of the array. -/
theorem du_rows (n : Fin 64) : du W S (ch (uu P) n) (ch (vv P) n) G B = ch (duRow (uu P) P G B W S) n := by
  funext r
  show _ = du W S (ch (uu P) (chunk (rowOf n r))) (ch (vv P) (chunk (rowOf n r))) G B (pos (rowOf n r))
  rw [chunk_rowOf, pos_rowOf]

omit H in
/-- Chunk `q` of a tile stands at its rows. -/
theorem at_chunk (X : Fin 8192 → Fin 256 → ℝ) (q : Fin 4) (t : Fin cfg0.N) (x : (⟨2, ![128, 256]⟩ : Shape).Idx) (y : (⟨2, ![512, 256]⟩ : Shape).Idx) (e : (y 0).val = q.val * 128 + (x 0).val)
    (e' : (y 1).val = (x 1).val) : up2 (ch X (cn t q)) x = up2 (fun r k => X (row t r) k) y := by
  have h0 : (x 0).val < 128 := (x 0).isLt
  refine congrArg (fun z : ℝ => (z : EReal)) (congrArg₂ X (Fin.ext ?_) (Fin.ext e'.symm))
  show (t.val * 4 + q.val) * 128 + (x 0).val = t.val * 512 + (y 0).val
  omega

omit H in
/-- The four chunks of a tile, from the blocks the tile reads. -/
theorem tile (t : Fin cfg0.N) (y : (⟨2, ![512, 256]⟩ : Shape).Idx) :
    out0_6 (F := Ideal) (up2 fun r k => uu P (row t r) k) (up2 fun r k => vv P (row t r) k) (up2 fun _ k => G k) (up2 fun _ k => B k) (up3 W) (up2 fun t g => S g t) y
      = up2 (fun r k => duRow (uu P) P G B W S (row t r) k) y := by
  obtain ⟨⟨w0, w1, w2, w3⟩, b0, b1, b2, b3⟩ := pages W S
  obtain ⟨u0, u1, u2, u3⟩ := chunks (uu P) t
  obtain ⟨v0, v1, v2, v3⟩ := chunks (vv P) t
  frame_out
  unfold k0_pay34 k0_pay33 k0_pay32 k0_pay31 k0_pay30 k0_pay29 k0_pay28 k0_pay27 k0_pay26 k0_pay25 k0_pay24
  simp only [w0, w1, w2, w3, b0, b1, b2, b3, u0, u1, u2, u3, v0, v1, v2, v3, (SgufTile.same _ _ _ _ _ _ _ _ _ _ _ _ _).1, (SgufTile.same _ _ _ _ _ _ _ _ _ _ _ _ _).2.1,
    (SgufTile.same _ _ _ _ _ _ _ _ _ _ _ _ _).2.2, SgufTile.masks, SgufTile.weights, SgufTile.bias, SgufTile.vn_eq]
  rw [(SgufTile.weights (W 2)).2.2.1, (SgufTile.weights (W 3)).2.2.2]
  have o : ∀ q : Fin 4, _ := fun q => (SgufTile.out_eq W S (ch (uu P) (cn t q)) (ch (vv P) (cn t q)) (fun _ k => G k) fun _ k => B k).trans (congrArg up2 (du_rows (cn t q)))
  canon_tiles x e
  · exact (congrFun (o 3) x).trans (at_chunk _ 3 t x y (by show _ = 3 * 128 + _; omega) (by omega))
  · exact (congrFun (o 2) x).trans (at_chunk _ 2 t x y (by show _ = 2 * 128 + _; omega) (by omega))
  · exact (congrFun (o 1) x).trans (at_chunk _ 1 t x y (by show _ = 1 * 128 + _; omega) (by omega))
  · exact (congrFun (o 0) x).trans (at_chunk _ 0 t x y (by show _ = 0 * 128 + _; omega) (by omega))

/-- The gated rows. -/
theorem final6 : (dats m 0 c).arrAt 6 cfg0.N = up2 (duRow (uu P) P G B W S) := by
  refine (dats m 0 c).arrAt_eq_of_covers 6 _ (by decide +kernel) fun t hf y => ?_
  have ht : t.val < 16 := lt_of_lt_of_eq t.isLt N_0
  blk_simp
  rw [after0_6, blk0 H, blk1 H, blk2 H, blk3 H, blk4 H, blk5 H]
  refine (tile t y).trans ?_
  refine Eq.trans (b := up2 (duRow (uu P) P G B W S) (ValueIdx.ix2 (row t (y 0)) (y 1))) rfl ?_
  blk_point [idx t, row]

end

end Cert.SgufFinal

end
-- ==== Proof.SgufRef.lean ====
/- The gated rows the forward reference of the spatial gating computes, on reals. -/
module

public import proofs.«01_k».proof.Proof.SguRef
public import proofs.«01_k».proof.Proof.Gen.SgufRefIdeal.Read

@[expose] public section

set_option maxRecDepth 16384

noncomputable section

namespace Cert.SgufRef

open Idealize.ShloMosaic Cert.Lift Cert.Gating Cert.SgufRefIdeal Cert.SgufRefIdeal.Gen Cert.SgufRefIdeal.Read
open Cert.SguRef (uu vv duRow)

variable (P : Fin 8192 → Fin 2560 → ℝ) (G B : Fin 256 → ℝ) (W : Fin 4 → Fin 128 → Fin 128 → ℝ) (S : Fin 4 → Fin 128 → ℝ)

/-- The gated half. -/
theorem half : val_main_v6 (F := Ideal) (up2 P) = up2 (uu P) := SguRef.halves P |>.1

/-- The normalised, scaled and shifted rows are those the derivative's program forms. -/
theorem nn_same (x0 : Vec Ideal ⟨2, ![8192, 2560]⟩ .f32) (x1 x2 : Vec Ideal ⟨1, ![256]⟩ .f32) : val_main_v34 (F := Ideal) x0 x1 x2 = SguRefIdeal.Read.val_main_v39 (F := Ideal) x0 x1 x2 := rfl

/-- So are the causal weights. -/
theorem low_same (x3 : Vec Ideal ⟨3, ![4, 128, 128]⟩ .f32) : val_main_v39 (F := Ideal) x3 = SguRefIdeal.Read.val_main_v44_0 (F := Ideal) x3 := rfl

/-- The gated rows: the derivative's program forms them from a cotangent, here the gated half stands in its place. -/
theorem out_eq : val_main_v48 (F := Ideal) (up2 P) (up1 G) (up1 B) (up3 W) (up2 S) = up2 (duRow (uu P) P G B W S) := by
  rw [← SguRef.du_eq (uu P) P G B W S]
  unfold val_main_v48 val_main_v47 val_main_v46 val_main_v45 val_main_v44 val_main_v43 val_main_v42 val_main_v41 val_main_v40
  rw [half, nn_same, low_same]
  rfl

end Cert.SgufRef

end
-- ==== Proof.SgufClaim.lean ====
/- The forward spatial gating: the two claims of its pair that no generated theorem states. -/
module

public import proofs.«01_k».proof.Defs
public import proofs.«01_k».proof.Proof.SgufFinal
public import proofs.«01_k».proof.Proof.SgufRef
public import proofs.«01_k».proof.Proof.Gen.Sguf.Frame
public import proofs.«01_k».proof.Proof.Gen.SgufIdeal.Frame
public import proofs.«01_k».proof.Proof.Gen.SgufRefIdeal.Run
public import proofs.«01_k».proof.Proof.Gen.Pre_sguf_finite

@[expose] public section

set_option maxRecDepth 16384
set_option maxHeartbeats 1000000

noncomputable section

namespace Cert.SgufClaim

open Idealize.ShloMosaic Idealize.SL.Sem Cert.Lift

/-- The precondition says that the five arguments hold real numbers only. -/
theorem real_args (a0 : Vec Ideal ⟨2, ![8192, 2560]⟩ .f32) (a1 a2 : Vec Ideal ⟨1, ![256]⟩ .f32) (a3 : Vec Ideal ⟨3, ![4, 128, 128]⟩ .f32)
    (a4 : Vec Ideal ⟨2, ![4, 128]⟩ .f32) (j : (⟨0, ![]⟩ : Shape).Idx) (h : Cert.Pre_sguf_finite.fn (F := Ideal) a0 a1 a2 a3 a4 j = 1#1) :
    (∃ P, a0 = up2 P) ∧ (∃ G, a1 = up1 G) ∧ (∃ B, a2 = up1 B) ∧ (∃ W, a3 = up3 W) ∧ ∃ S, a4 = up2 S := by
  dsimp only [Cert.Pre_sguf_finite.fn, Cert.Pre_sguf_finite.fn_part1] at h
  obtain ⟨h, h4⟩ := and_one _ _ _ h
  obtain ⟨h, h3⟩ := and_one _ _ _ h
  obtain ⟨h, h2⟩ := and_one _ _ _ h
  obtain ⟨h0, h1⟩ := and_one _ _ _ h
  exact ⟨real2 _ _ _ _ _ _ h0, real1 _ _ _ _ _ _ h1, real1 _ _ _ _ _ _ h2, real3 _ _ _ _ _ _ h3, real2 _ _ _ _ _ _ h4⟩

/-- The reference runs to the end from every memory, and declares no semaphore. -/
theorem frame_ref : Cert.quiescent_SgufRefIdeal := fun m ρ _ =>
  (θ_run Cert.SgufRefIdeal.defs _ _).mono (fun r h => ⟨fun c => (h c).2, sem_eq_zero_of_no_sems (by decide) r.2⟩)
    (Cert.SgufRefIdeal.Value.run (F := Ideal) m ρ)

/-- Over the reals the kernel's result is the spatial gating. -/
theorem value : Cert.algebraic_SgufIdeal_SgufRefIdeal_pre_sguf_finite := by
  pair_intro
  all_goals have hreal := fun c => real_args _ _ _ _ _ _ (congrFun (hpre c) ValueIdx.ix0)
  run_from Cert.SgufIdeal.Value.run_blocks m g
  run_from Cert.SgufRefIdeal.Value.run m' g'
  all_goals
    obtain ⟨⟨P, h0⟩, ⟨G, h1⟩, ⟨B, h2⟩, ⟨W, h3⟩, S, h4⟩ := hreal c
    have H : SgufFinal.Holds m c P G B W S := ⟨h0, h1, h2, h3, h4⟩
    obtain ⟨e0, e1, e2, e3, e4⟩ := hagree c
  · rw [SgufRefIdeal.Read.val_main_v48_eq, h0, h1, h2, h3, h4]
    exact (SgufRef.out_eq P G B W S).trans (SgufFinal.final6 H).symm

end Cert.SgufClaim

end
-- ==== Proof.BrafTile.lean ====
/- The values the forward kernel of the gated short convolution computes from one tile of rows, on reals. -/
module

public import proofs.«01_k».proof.Proof.BraLoad
public import proofs.«01_k».proof.Proof.BraMath
public import proofs.«01_k».proof.Proof.Gen.BrafIdeal.Skeleton

@[expose] public section

noncomputable section

namespace Cert.BrafTile

open Idealize.ShloMosaic Cert.Lift Cert.BraMath Cert.BraLoad Cert.BrafIdeal Cert.BrafIdeal.Gen

variable (w F G : ℕ → Fin 256 → ℝ) (p q a b : ℕ)

/-- A copy of a part. -/
theorem copies : k0_pay4 (F := Ideal) (part 512 F q) = page 512 F q ∧ k0_pay5 (F := Ideal) (part 512 F q) = page 512 F q := by
  refine ⟨?_, ?_⟩ <;> exact castAdd (fun (i : Fin 512) j => F (q + i.val) j) _

/-- The eight bands of the result: the convolution times the gate. -/
theorem bandsOut (ha : a = q + 6) (hb : b = q + 7) (hp : p = q + 8) :
    k0_pay6 (F := Ideal) (part 1 w 0) (page 64 F a) (part 1 w 1) (page 64 F b) (part 1 w 2) (part 64 F p) (part 64 G q) = part 64 (fun r j => G r j * conv w F r j) q
    ∧ k0_pay8 (F := Ideal) (k0_pay7 (F := Ideal) (part 1 w 0) (page 64 F a) (part 1 w 1) (page 64 F b)) (part 1 w 2) (part 64 F p) (part 64 G q) = part 64 (fun r j => G r j * conv w F r j) q
    ∧ k0_pay9 (F := Ideal) (part 1 w 0) (page 64 F a) (part 1 w 1) (page 64 F b) (part 1 w 2) (part 64 F p) (part 64 G q) = part 64 (fun r j => G r j * conv w F r j) q
    ∧ k0_pay10 (F := Ideal) (part 1 w 0) (page 64 F a) (part 1 w 1) (page 64 F b) (part 1 w 2) (part 64 F p) (part 64 G q) = part 64 (fun r j => G r j * conv w F r j) q
    ∧ k0_pay12 (F := Ideal) (k0_pay11 (F := Ideal) (part 1 w 0) (page 64 F a) (part 1 w 1) (page 64 F b)) (part 1 w 2) (part 64 F p) (part 64 G q) = part 64 (fun r j => G r j * conv w F r j) q
    ∧ k0_pay13 (F := Ideal) (part 1 w 0) (page 64 F a) (part 1 w 1) (page 64 F b) (part 1 w 2) (part 64 F p) (part 64 G q) = part 64 (fun r j => G r j * conv w F r j) q
    ∧ k0_pay14 (F := Ideal) (part 1 w 0) (page 64 F a) (part 1 w 1) (page 64 F b) (part 1 w 2) (part 64 F p) (part 64 G q) = part 64 (fun r j => G r j * conv w F r j) q
    ∧ k0_pay1 (F := Ideal) (k0_pay15 (F := Ideal) (part 1 w 0) (page 64 F a) (part 1 w 1) (page 64 F b)) (part 1 w 2) (part 64 F p) (part 64 G q) = part 64 (fun r j => G r j * conv w F r j) q := by
  subst ha hb hp
  refine ⟨?_, ?_, ?_, ?_, ?_, ?_, ?_, ?_⟩ <;>
    simp only [k0_pay1, k0_pay6, k0_pay7, k0_pay8, k0_pay9, k0_pay10, k0_pay11, k0_pay12, k0_pay13, k0_pay14, k0_pay15, part, page, castDrop, castSelf, bcRow, vec2, conv, Nat.add_right_comm _ _ (Fin.val _)] <;> rfl

/-- The block of results, stored in eight bands. -/
theorem canonOut (i0 i1 i2 i3 i4 i5 i6 i7) (y : (⟨2, ![512, 256]⟩ : Shape).Idx) :
    View.canon (Val := Elt Ideal) (e := .bf16) (s := ⟨2, ![512, 256]⟩)
      [⟨Rect.unit ![448, 0] ![64, 256] i0, part 64 F 448⟩, ⟨Rect.unit ![384, 0] ![64, 256] i1, part 64 F 384⟩, ⟨Rect.unit ![320, 0] ![64, 256] i2, part 64 F 320⟩,
       ⟨Rect.unit ![256, 0] ![64, 256] i3, part 64 F 256⟩, ⟨Rect.unit ![192, 0] ![64, 256] i4, part 64 F 192⟩, ⟨Rect.unit ![128, 0] ![64, 256] i5, part 64 F 128⟩,
       ⟨Rect.unit ![64, 0] ![64, 256] i6, part 64 F 64⟩, ⟨Rect.unit ![0, 0] ![64, 256] i7, part 64 F 0⟩] y = up2 (fun (i : Fin 512) j => F i.val j) y := by
  refine canon_pieces (e := .bf16) (up2 fun (i : Fin 512) j => F i.val j) _ ?_ y ?_
  · exact ⟨part_idx F 448 i0, part_idx F 384 i1, part_idx F 320 i2, part_idx F 256 i3, part_idx F 192 i4, part_idx F 128 i5, part_idx F 64 i6, part_idx F 0 i7, trivial⟩
  · rcases bands _ (show (y 0).val < 512 from (y 0).isLt) with h | h | h | h | h | h | h | h
    · exact ⟨_, List.getElem_mem (n := 0) (by simp), mem_band 448 64 i0 _ h⟩
    · exact ⟨_, List.getElem_mem (n := 1) (by simp), mem_band 384 64 i1 _ h⟩
    · exact ⟨_, List.getElem_mem (n := 2) (by simp), mem_band 320 64 i2 _ h⟩
    · exact ⟨_, List.getElem_mem (n := 3) (by simp), mem_band 256 64 i3 _ h⟩
    · exact ⟨_, List.getElem_mem (n := 4) (by simp), mem_band 192 64 i4 _ h⟩
    · exact ⟨_, List.getElem_mem (n := 5) (by simp), mem_band 128 64 i5 _ h⟩
    · exact ⟨_, List.getElem_mem (n := 6) (by simp), mem_band 64 64 i6 _ h⟩
    · exact ⟨_, List.getElem_mem (n := 7) (by simp), mem_band 0 64 i7 _ h⟩

end Cert.BrafTile

end
-- ==== Proof.BrafFinal.lean ====
/- The array the forward kernel of the gated short convolution leaves, on reals. -/
module

public import proofs.«01_k».proof.Proof.LiftPick
public import proofs.«01_k».proof.Proof.BrafTile
public import proofs.«01_k».proof.Proof.Gen.BrafIdeal.Value
public import Idealize.ShloMosaic.Lib.Claim
public import Idealize.ShloMosaic.Lib.Pipeline.ValueKit

@[expose] public section

set_option maxRecDepth 16384

noncomputable section

namespace Cert.BrafFinal

open Idealize.ShloMosaic Idealize.ShloMosaic.TcCoe Idealize.SL.Sem Cert.Lift Cert.BraMath Cert.BrafIdeal Cert.BrafIdeal.Gen
open Idealize.ShloMosaic.Pipeline (Dat)

variable (m : (ℓ : Loc nD τ sig) → Buf (Elt Ideal) ℓ) (c : Dev nD)
variable (Y : Fin 8192 → Fin 256 → ℝ) (P : Fin 8192 → Fin 2560 → ℝ) (W : Fin 3 → Fin 256 → ℝ)

/-- Which block each window stages at a point. -/
theorem idx : ∀ t : Fin cfg0.N, win0_0.index t = ![t.val, 0] ∧ win0_1.index t = ![t.val, 1] ∧ win0_2.index t = ![t.val, 2] ∧ win0_3.index t = ![t.val * 64 - 1, 1] ∧ win0_4.index t = ![t.val * 64 - 1, 2]
    ∧ win0_5.index t = ![0, 0] ∧ win0_6.index t = ![t.val, 0] :=
  (by decide +kernel : ∀ t : Fin grid0.N, win0_0.index t = ![t.val, 0] ∧ win0_1.index t = ![t.val, 1] ∧ win0_2.index t = ![t.val, 2] ∧ win0_3.index t = ![t.val * 64 - 1, 1] ∧ win0_4.index t = ![t.val * 64 - 1, 2]
    ∧ win0_5.index t = ![0, 0] ∧ win0_6.index t = ![t.val, 0])

/-- Row `r` of point `t`'s tile. -/
def row (t : Fin cfg0.N) (r : Fin 512) : Fin 8192 := ⟨t.val * 512 + r.val, by have h := t.isLt; have := r.isLt; have h2 : cfg0.N = 16 := N_0; omega⟩
theorem ext_row (X : Fin 8192 → Fin 256 → ℝ) (t : Fin cfg0.N) (i : Fin 512) (j : Fin 256) : from_ (ext X) t.val i.val j = X (row t i) j :=
  dif_pos (row t i).isLt
section

variable (h0 : m ((c : Thread nD τ).loc main_arg0) = up2 P) (h1 : m ((c : Thread nD τ).loc main_arg1) = up2 W)

include h0 in
/-- The projection's columns the host hands to the kernel. -/
theorem hostA : V m c main_v7 = up2 fun r k => P r (pickA k) := by
  simp only [V, hostOps0, List.flatten_cons, List.flatten_nil, List.append_nil, List.cons_append, List.nil_append]
  after_results_simp
  refine Eq.trans ?_ (catA P slices_S8192x2560_S8192x256_0_0 slices_S8192x2560_S8192x256_0_256 slices_S8192x2560_S8192x256_0_512 slices_S8192x2560_S8192x256_0_1536 slices_S8192x2560_S8192x256_0_1792 slices_S8192x2560_S8192x256_0_2048 slices_S8192x2560_S8192x256_0_2304 concatenates_S8192x256_S8192x256_S8192x256_S8192x256_S8192x256_S8192x256_S8192x256_S8192x1792_d1)
  rw [← h0]
  rfl

include h0 in
/-- An entry of the first three groups of columns. -/
theorem hostAt (r : Fin 8192) (k : Fin 1792) (q : Fin 2560) (hk : k.val < 768) (hq : q.val = k.val) : V m c main_v7 (ValueIdx.ix2 r k) = ((P r q : ℝ) : EReal) := by
  refine (congrFun (hostA m c P h0) _).trans (congrArg ((↑) : ℝ → EReal) (congrArg (P r) (Fin.ext ?_)))
  exact (pickA_val k).trans ((if_pos hk).trans hq.symm)

include h0 in
theorem blk0 (t : Fin cfg0.N) : iblk m c 0 t = part 512 (from_ (ext (pb P)) t.val) 0 := by
  funext y
  have hy : (y 1).val < 256 := (y 1).isLt
  refine Eq.trans (b := V m c main_v7 (ValueIdx.ix2 (row t (y 0)) (⟨(y 1).val, by omega⟩ : Fin 1792))) ?_ ((hostAt m c P h0 _ _ ⟨(y 1).val, by omega⟩ (by dsimp only; omega) rfl).trans (congrArg ((↑) : ℝ → EReal) ?_))
  · blk_ext [iblk, idx t, row]
  · exact (ext_row (pb P) t (y 0) (y 1)).symm.trans (congrArg (from_ (ext (pb P)) t.val · (y 1)) (Nat.zero_add _).symm)

include h0 in
theorem blk1 (t : Fin cfg0.N) : iblk m c 1 t = part 512 (from_ (ext (pc P)) t.val) 0 := by
  funext y
  have hy : (y 1).val < 256 := (y 1).isLt
  refine Eq.trans (b := V m c main_v7 (ValueIdx.ix2 (row t (y 0)) (⟨256 + (y 1).val, by omega⟩ : Fin 1792))) ?_ ((hostAt m c P h0 _ _ ⟨256 + (y 1).val, by omega⟩ (by dsimp only; omega) rfl).trans (congrArg ((↑) : ℝ → EReal) ?_))
  · blk_ext [iblk, idx t, row]
  · exact (ext_row (pc P) t (y 0) (y 1)).symm.trans (congrArg (from_ (ext (pc P)) t.val · (y 1)) (Nat.zero_add _).symm)

include h0 in
theorem blk2 (t : Fin cfg0.N) : iblk m c 2 t = part 512 (from_ (ext (px P)) t.val) 0 := by
  funext y
  have hy : (y 1).val < 256 := (y 1).isLt
  refine Eq.trans (b := V m c main_v7 (ValueIdx.ix2 (row t (y 0)) (⟨512 + (y 1).val, by omega⟩ : Fin 1792))) ?_ ((hostAt m c P h0 _ _ ⟨512 + (y 1).val, by omega⟩ (by dsimp only; omega) rfl).trans (congrArg ((↑) : ℝ → EReal) ?_))
  · blk_ext [iblk, idx t, row]
  · exact (ext_row (px P) t (y 0) (y 1)).symm.trans (congrArg (from_ (ext (px P)) t.val · (y 1)) (Nat.zero_add _).symm)

/-- Row `r` of the eight rows before point `t`'s tile. -/
def before (t : Fin cfg0.N) (h : 1 ≤ t.val) (r : Fin 8) : Fin 8192 := ⟨(t.val * 64 - 1) * 8 + r.val, by have h := t.isLt; have := r.isLt; have h1 : cfg0.N = 16 := N_0; omega⟩

include h0 in
theorem blk3 (t : Fin cfg0.N) (h : 1 ≤ t.val) : iblk m c 3 t = up2 fun (r : Fin 8) k => pc P (before t h r) k := by
  funext y
  have hy : (y 1).val < 256 := (y 1).isLt
  refine Eq.trans (b := V m c main_v7 (ValueIdx.ix2 (before t h (y 0)) (⟨256 + (y 1).val, by omega⟩ : Fin 1792))) ?_ (hostAt m c P h0 _ _ ⟨256 + (y 1).val, by omega⟩ (by dsimp only; omega) rfl)
  blk_ext [iblk, idx t, before]

include h0 in
theorem blk4 (t : Fin cfg0.N) (h : 1 ≤ t.val) : iblk m c 4 t = up2 fun (r : Fin 8) k => px P (before t h r) k := by
  funext y
  have hy : (y 1).val < 256 := (y 1).isLt
  refine Eq.trans (b := V m c main_v7 (ValueIdx.ix2 (before t h (y 0)) (⟨512 + (y 1).val, by omega⟩ : Fin 1792))) ?_ (hostAt m c P h0 _ _ ⟨512 + (y 1).val, by omega⟩ (by dsimp only; omega) rfl)
  blk_ext [iblk, idx t, before]

include h1 in
theorem blk5 (t : Fin cfg0.N) : iblk m c 5 t = part 3 (ext W) 0 := by
  funext y
  refine Eq.trans (b := m ((c : Thread nD τ).loc main_arg1) (ValueIdx.ix2 (y 0) (y 1))) ?_ ((congrFun h1 _).trans (congrArg ((↑) : ℝ → EReal) (ext_lt W (y 0) (y 1))))
  blk_point [iblk, V, idx t]

/-- The point's number as the body compares it. -/
theorem points : ∀ t : Fin cfg0.N, Scalar.cmpi CmpIPredicate.sgt (BitVec.ofNat 32 (grid0.coords t 0).val) 0#32 = (if t.val = 0 then 0#1 else 1#1) :=
  (by decide +kernel : ∀ t : Fin grid0.N, Scalar.cmpi CmpIPredicate.sgt (BitVec.ofNat 32 (grid0.coords t 0).val) 0#32 = (if t.val = 0 then 0#1 else 1#1))

/-- What the scratch arrays hold: the rows the convolution reads, with the eight rows before the tile. -/
abbrev scrM (t : ℕ) : ℕ → Fin 256 → ℝ := from_ (late (cx P)) t

theorem mul_ext (A B : Fin 8192 → Fin 256 → ℝ) (r : ℕ) (k : Fin 256) : ext A r k * ext B r k = ext (fun r k => A r k * B r k) r k := by
  unfold ext
  split_ifs
  · rfl
  · exact zero_mul _

theorem pay3 (t : ℕ) : k0_pay3 (F := Ideal) (part 512 (from_ (ext (pc P)) t) 0) (part 512 (from_ (ext (px P)) t) 0) = part 512 (scrM P t) 8 := by
  simp only [k0_pay3, part, castSelf, vec2]
  refine congrArg up2 (funext fun i => funext fun j => (mul_ext _ _ _ _).trans ?_)
  show _ = late (cx P) (t * 512 + (8 + i.val)) j
  unfold late
  rw [if_pos (by omega), show t * 512 + (8 + i.val) - 8 = t * 512 + (0 + i.val) by omega]

include h0 in
/-- The eight rows before the tile; there are none before the first. -/
theorem pay2 (t : Fin cfg0.N) : k0_pay2 (grid0.coords t) (iblk m c 3 t) (iblk m c 4 t) = part 8 (scrM P t.val) 0 := by
  unfold k0_pay2
  simp only [points t]
  by_cases h : t.val = 0
  · simp only [if_pos h, shapeCast_self]
    funext y
    refine Eq.trans (b := Ideal.ofBits .f32 0x00000000#32) rfl (words.1.trans (congrArg ((↑) : ℝ → EReal) ?_))
    show 0 = late (cx P) (t.val * 512 + (0 + (y 0).val)) (y 1)
    have hy : (y 0).val < 8 := (y 0).isLt
    unfold late
    rw [if_neg (by omega)]
  · have ht : 1 ≤ t.val := Nat.one_le_iff_ne_zero.mpr h
    simp only [if_neg h, shapeCast_self, blk3 m c P h0 t ht, blk4 m c P h0 t ht, vec2]
    funext y
    refine congrArg ((↑) : ℝ → EReal) ?_
    show cx P (before t ht (y 0)) (y 1) = late (cx P) (t.val * 512 + (0 + (y 0).val)) (y 1)
    have hy : (y 0).val < 8 := (y 0).isLt
    have hb : (before t ht (y 0)).val = (t.val * 64 - 1) * 8 + (y 0).val := rfl
    unfold late ext
    rw [if_pos (by omega), dif_pos (by have := (before t ht (y 0)).isLt; omega)]
    exact congrArg (cx P · (y 1)) (Fin.ext (hb.trans (by show _ = t.val * 512 + (0 + (y 0).val) - 8; omega)))

/-- The gated convolution of one tile's rows. -/
abbrev outT (t : ℕ) : ℕ → Fin 256 → ℝ := fun r j => from_ (ext (pb P)) t r j * conv (ext W) (scrM P t) r j

include h0 h1 in
theorem outs (t : Fin cfg0.N) (y) : outsAt0 m c t y = up2 (fun (i : Fin 512) j => outT P W t.val i.val j) y := by
  unfold outsAt0
  frame_out
  simp only [blk0 m c P h0 t, blk1 m c P h0 t, blk2 m c P h0 t, blk5 m c W h1 t, pay2 m c P h0 t, pay3, ld_rows]
  simp (disch := decide) only [loadTwo, BrafTile.copies, loadHit, loadMiss, Nat.reduceAdd]
  simp (disch := decide) only [BrafTile.bandsOut]
  exact BrafTile.canonOut _ _ _ _ _ _ _ _ _ y

include h0 h1 in
/-- The gated convolution. -/
theorem final6 : (dats m 0 c).arrAt 6 cfg0.N = up2 fun r j => pb P r j * conv (ext W) (late (cx P)) r.val j := by
  refine (dats m 0 c).arrAt_eq_of_covers 6 _ (by decide +kernel) fun t hf y => ?_
  blk_simp
  rw [after0_6]
  refine (outs m c P W h0 h1 t y).trans ?_
  refine Eq.trans (b := up2 (fun (r : Fin 8192) j => pb P r j * conv (ext W) (late (cx P)) r.val j) (ValueIdx.ix2 (row t (y 0)) (y 1))) (congrArg ((↑) : ℝ → EReal) ?_) ?_
  · exact congrArg (· * conv (ext W) (late (cx P)) (row t (y 0)).val (y 1)) (ext_row (pb P) t (y 0) (y 1))
  · blk_point [idx t, row]

end

end Cert.BrafFinal

end
-- ==== Proof.BrafRef.lean ====
/- The gated convolution the forward reference computes, on reals. -/
module

public import proofs.«01_k».proof.Proof.BraRef
public import proofs.«01_k».proof.Proof.Gen.BrafRefIdeal.Read

@[expose] public section

noncomputable section

namespace Cert.BrafRef

open Idealize.ShloMosaic Cert.Lift Cert.BraMath Cert.BrafRefIdeal Cert.BrafRefIdeal.Gen Cert.BrafRefIdeal.Read

variable (P : Fin 8192 → Fin 2560 → ℝ) (W : Fin 3 → Fin 256 → ℝ)

/-- The convolution is the one the derivative's program forms. -/
theorem conv_same (x0 : Vec Ideal ⟨2, ![8192, 2560]⟩ .f32) (x1 : Vec Ideal ⟨2, ![3, 256]⟩ .f32) : val_main_v34 (F := Ideal) x0 x1 = BraRefIdeal.Read.val_main_v35 (F := Ideal) x0 x1 := rfl

/-- The gate's columns. -/
theorem gate : val_main_v0 (F := Ideal) (up2 P) = up2 (pb P) := (BraRef.cols P).1

/-- The gate times the convolution. -/
theorem out_eq : val_main_v36 (F := Ideal) (up2 P) (up2 W) = up2 fun r j => pb P r j * conv (ext W) (late (cx P)) r.val j := by
  unfold val_main_v36 val_main_v35
  rw [conv_same, gate, BraRef.conv_eq]
  simp only [vec2]
  rfl

end Cert.BrafRef

end
-- ==== Proof.BrafClaim.lean ====
/- The forward gated short convolution: the two claims of its pair that no generated theorem states. -/
module

public import proofs.«01_k».proof.Defs
public import proofs.«01_k».proof.Proof.BrafFinal
public import proofs.«01_k».proof.Proof.BrafRef
public import proofs.«01_k».proof.Proof.Gen.Braf.Frame
public import proofs.«01_k».proof.Proof.Gen.BrafIdeal.Frame
public import proofs.«01_k».proof.Proof.Gen.BrafRefIdeal.Run
public import proofs.«01_k».proof.Proof.Gen.Pre_braf_finite

@[expose] public section

set_option maxRecDepth 16384
set_option maxHeartbeats 1000000

noncomputable section

namespace Cert.BrafClaim

open Idealize.ShloMosaic Idealize.SL.Sem Cert.Lift

/-- The precondition says that the two arguments hold real numbers only. -/
theorem real_args (a0 : Vec Ideal ⟨2, ![8192, 2560]⟩ .f32) (a1 : Vec Ideal ⟨2, ![3, 256]⟩ .f32) (j : (⟨0, ![]⟩ : Shape).Idx)
    (h : Cert.Pre_braf_finite.fn (F := Ideal) a0 a1 j = 1#1) : (∃ P, a0 = up2 P) ∧ ∃ W, a1 = up2 W := by
  dsimp only [Cert.Pre_braf_finite.fn] at h
  obtain ⟨h0, h1⟩ := and_one _ _ _ h
  exact ⟨real2 _ _ _ _ _ _ h0, real2 _ _ _ _ _ _ h1⟩

/-- The reference runs to the end from every memory, and declares no semaphore. -/
theorem frame_ref : Cert.quiescent_BrafRefIdeal := fun m ρ _ =>
  (θ_run Cert.BrafRefIdeal.defs _ _).mono (fun r h => ⟨fun c => (h c).2, sem_eq_zero_of_no_sems (by decide) r.2⟩)
    (Cert.BrafRefIdeal.Value.run (F := Ideal) m ρ)

/-- Over the reals the kernel's result is the gated short convolution. -/
theorem value : Cert.algebraic_BrafIdeal_BrafRefIdeal_pre_braf_finite := by
  pair_intro
  all_goals have hreal := fun c => real_args _ _ _ (congrFun (hpre c) ValueIdx.ix0)
  run_from Cert.BrafIdeal.Value.run_blocks m g
  run_from Cert.BrafRefIdeal.Value.run m' g'
  all_goals
    obtain ⟨⟨P, h0⟩, W, h1⟩ := hreal c
    obtain ⟨e0, e1⟩ := hagree c
  · rw [BrafRefIdeal.Read.val_main_v36_eq, h0, h1]
    exact (BrafRef.out_eq P W).trans (BrafFinal.final6 m c P W h0 h1).symm

end Cert.BrafClaim

end
-- ==== Proof.MergefKernel.lean ====
/- The values the gated merge's forward kernel computes from one tile of rows, on reals. -/
module

public import proofs.«01_k».proof.Proof.Lift3
public import proofs.«01_k».proof.Proof.Gen.MergefIdeal.Skeleton

@[expose] public section

noncomputable section

namespace Cert.MergefTile

open Idealize.ShloMosaic Cert.Lift Cert.MergefIdeal Cert.MergefIdeal.Gen

variable (S : Fin 4 → Fin 512 → Fin 1024 → ℝ) (Y : Fin 4 → Fin 512 → Fin 256 → ℝ) (W : Fin 4 → Fin 256 → Fin 1024 → ℝ)
variable (X M : Fin 512 → Fin 1024 → ℝ) (O : Fin 1024 → Fin 1024 → ℝ)

/-- One branch's gated product. -/
abbrev part (b : Fin 4) (r : Fin 512) (k : Fin 1024) : ℝ := S b r k * ∑ l, Y b r l * W b l k

/-- The sum over the first three branches. -/
theorem pay3 : k0_pay3 (F := Ideal) (up2 (S 0)) (up2 (Y 0)) (up3 fun _ => W 0) (up2 (S 1)) (up2 (Y 1)) (up3 fun _ => W 1) (up2 (S 2)) (up2 (Y 2)) (up3 fun _ => W 2)
    = up2 fun r k => part S Y W 0 r k + part S Y W 1 r k + part S Y W 2 r k := by
  unfold k0_pay3
  simp (disch := exact rfl) only [castSelf, castDrop, casts, vec2, mmNN _ _ _ (rfl : Axes dot_S512x256_S256x1024_S512x1024_1_0_0_1_n_n _ _ _ _)]

theorem pay4 : k0_pay4 (F := Ideal) (up2 M) = up2 M := by
  unfold k0_pay4
  simp only [castSelf, casts]

/-- The sum over all four. -/
theorem pay1 : k0_pay1 (F := Ideal) (up2 M) (up2 (S 3)) (up2 (Y 3)) (up3 fun _ => W 3) = up2 fun r k => M r k + part S Y W 3 r k := by
  unfold k0_pay1
  simp (disch := exact rfl) only [castSelf, castDrop, casts, vec2, mmNN _ _ _ (rfl : Axes dot_S512x256_S256x1024_S512x1024_1_0_0_1_n_n _ _ _ _)]

/-- The rows plus the merged rows times the output matrix. -/
theorem pay2 : k0_pay2 (F := Ideal) (up2 M) (up2 (S 3)) (up2 (Y 3)) (up3 fun _ => W 3) (up2 X) (up2 O) = up2 fun r k => X r k + ∑ l, (M r l + part S Y W 3 r l) * O l k := by
  unfold k0_pay2
  simp (disch := exact rfl) only [pay1 S Y W, castSelf, casts, vec2, mmNN _ _ _ (rfl : Axes dot_S512x1024_S1024x1024_S512x1024_1_0_0_1_n_n _ _ _ _)]

end Cert.MergefTile

end
-- ==== Proof.MergefFinal.lean ====
/- The arrays the gated merge's forward kernel leaves, on reals. -/
module

public import proofs.«01_k».proof.Proof.MergefKernel
public import proofs.«01_k».proof.Proof.MergeRef
public import proofs.«01_k».proof.Proof.Gen.MergefIdeal.Value
public import Idealize.ShloMosaic.Lib.Claim
public import Idealize.ShloMosaic.Lib.Pipeline.ValueKit

@[expose] public section

set_option maxRecDepth 16384

noncomputable section

namespace Cert.MergefFinal

open Idealize.ShloMosaic Idealize.ShloMosaic.TcCoe Idealize.SL.Sem Cert.Lift Cert.MergefIdeal Cert.MergefIdeal.Gen
open Idealize.ShloMosaic.Pipeline (Dat)
open Cert.MergeRef (gcol gate prod merged)
open Cert.LayerNorm (sig)

variable (m : (ℓ : Loc nD τ sig) → Buf (Elt Ideal) ℓ) (c : Dev nD)
variable (X : Fin 8192 → Fin 1024 → ℝ) (Y : Fin 4 → Fin 8192 → Fin 256 → ℝ) (Z : Fin 8192 → Fin 4096 → ℝ) (W : Fin 4 → Fin 256 → Fin 1024 → ℝ) (O : Fin 1024 → Fin 1024 → ℝ)

/-- The memory holds the reals `X`, `Y`, `Z`, `W`, `O` in the arguments. -/
structure Holds : Prop where
  h0 : m ((c : Thread nD τ).loc main_arg0) = up2 X
  h1 : m ((c : Thread nD τ).loc main_arg1) = up2 (Y 0)
  h2 : m ((c : Thread nD τ).loc main_arg2) = up2 (Y 1)
  h3 : m ((c : Thread nD τ).loc main_arg3) = up2 (Y 2)
  h4 : m ((c : Thread nD τ).loc main_arg4) = up2 (Y 3)
  h5 : m ((c : Thread nD τ).loc main_arg5) = up2 Z
  h6 : m ((c : Thread nD τ).loc main_arg6) = up3 W
  h7 : m ((c : Thread nD τ).loc main_arg7) = up2 O

/-- Which block each window stages at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0, 0] ∧ win0_6.index t = ![0, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0, 0] ∧ win0_6.index t = ![0, 0] ∧ win0_7.index t = ![t.val, 0] ∧ win0_8.index t = ![t.val, 0] ∧ win0_9.index t = ![t.val, 0])

/-- Row `r` of point `t`'s tile. -/
def row (t : Fin cfg0.N) (r : Fin 512) : Fin 8192 := ⟨t.val * 512 + r.val, by have h := t.isLt; have := r.isLt; have h2 : cfg0.N = 16 := N_0; omega⟩

section

variable {m c X Y Z W O} (H : Holds m c X Y Z W O)
include H

/-- The gates the host computes, rounded. -/
theorem hostGates : V m c main_v9 = up2 fun r k => sig (Z r k) := by
  have e : V m c main_v9 = MergeRefIdeal.Read.val_main_v5 (F := Ideal) (m ((c : Thread nD τ).loc main_arg5)) := by
    simp only [V, hostOps0, List.flatten_cons, List.flatten_nil, List.append_nil, List.cons_append, List.nil_append]
    after_results_simp
    rfl
  rw [e, H.h5, MergeRef.sig_eq]

theorem blk0 (t : Fin cfg0.N) : iblk m c 0 t = up2 fun r k => Y 0 (row t r) k := by
  funext y
  refine Eq.trans (b := m ((c : Thread nD τ).loc main_arg1) (ValueIdx.ix2 (row t (y 0)) (y 1))) ?_ (congrFun H.h1 _)
  blk_point [iblk, V, idx t, row]

theorem blk1 (t : Fin cfg0.N) : iblk m c 1 t = up2 fun r k => Y 1 (row t r) k := by
  funext y
  refine Eq.trans (b := m ((c : Thread nD τ).loc main_arg2) (ValueIdx.ix2 (row t (y 0)) (y 1))) ?_ (congrFun H.h2 _)
  blk_point [iblk, V, idx t, row]

theorem blk2 (t : Fin cfg0.N) : iblk m c 2 t = up2 fun r k => Y 2 (row t r) k := by
  funext y
  refine Eq.trans (b := m ((c : Thread nD τ).loc main_arg3) (ValueIdx.ix2 (row t (y 0)) (y 1))) ?_ (congrFun H.h3 _)
  blk_point [iblk, V, idx t, row]

theorem blk3 (t : Fin cfg0.N) : iblk m c 3 t = up2 fun r k => Y 3 (row t r) k := by
  funext y
  refine Eq.trans (b := m ((c : Thread nD τ).loc main_arg4) (ValueIdx.ix2 (row t (y 0)) (y 1))) ?_ (congrFun H.h4 _)
  blk_point [iblk, V, idx t, row]

theorem blk4 (t : Fin cfg0.N) : iblk m c 4 t = up2 fun r k => sig (Z (row t r) k) := by
  funext y
  refine Eq.trans (b := V m c main_v9 (ValueIdx.ix2 (row t (y 0)) (y 1))) ?_ (congrFun (hostGates H) _)
  blk_ext [iblk, idx t, row]

theorem blk5 (t : Fin cfg0.N) : iblk m c 5 t = up3 W := by
  funext y
  refine Eq.trans (b := m ((c : Thread nD τ).loc main_arg6) (ValueIdx.ix3 (y 0) (y 1) (y 2))) ?_ (congrFun H.h6 _)
  blk_point [iblk, V, idx t]

theorem blk6 (t : Fin cfg0.N) : iblk m c 6 t = up2 O := by
  funext y
  refine Eq.trans (b := m ((c : Thread nD τ).loc main_arg7) (ValueIdx.ix2 (y 0) (y 1))) ?_ (congrFun H.h7 _)
  blk_point [iblk, V, idx t]

theorem blk7 (t : Fin cfg0.N) : iblk m c 7 t = up2 fun r k => X (row t r) k := by
  funext y
  refine Eq.trans (b := m ((c : Thread nD τ).loc main_arg0) (ValueIdx.ix2 (row t (y 0)) (y 1))) ?_ (congrFun H.h0 _)
  blk_point [iblk, V, idx t, row]

omit H in
/-- The four groups of gates of a tile, and the four matrices. -/
theorem loads (t : Fin cfg0.N) :
    (View.ld (Val := Elt Ideal) (e' := .bf16) (up2 fun r k => sig (Z (row t r) k)) r0_0 = up2 (fun r k => gate Z 0 (row t r) k)
      ∧ View.ld (Val := Elt Ideal) (e' := .bf16) (up2 fun r k => sig (Z (row t r) k)) r0_3 = up2 (fun r k => gate Z 1 (row t r) k)
      ∧ View.ld (Val := Elt Ideal) (e' := .bf16) (up2 fun r k => sig (Z (row t r) k)) r0_5 = up2 (fun r k => gate Z 2 (row t r) k)
      ∧ View.ld (Val := Elt Ideal) (e' := .bf16) (up2 fun r k => sig (Z (row t r) k)) r0_7 = up2 (fun r k => gate Z 3 (row t r) k))
    ∧ View.ld (Val := Elt Ideal) (e' := .bf16) (up3 W) r0_2 = up3 (fun _ => W 0)
    ∧ View.ld (Val := Elt Ideal) (e' := .bf16) (up3 W) r0_4 = up3 (fun _ => W 1)
    ∧ View.ld (Val := Elt Ideal) (e' := .bf16) (up3 W) r0_6 = up3 (fun _ => W 2)
    ∧ View.ld (Val := Elt Ideal) (e' := .bf16) (up3 W) r0_8 = up3 (fun _ => W 3) := by
  refine ⟨⟨?_, ?_, ?_, ?_⟩, loadPage W 0 (by decide) _, loadPage W 1 (by decide) _, loadPage W 2 (by decide) _, loadPage W 3 (by decide) _⟩ <;>
    exact (loadHalf (fun r k => sig (Z (row t r) k)) _ _ _).trans (congrArg up2 (funext fun r => funext fun j => congrArg sig (congrArg₂ Z (congrArg (row t) (Fin.ext (Nat.zero_add _))) (Fin.ext rfl))))

omit H in
/-- The four branches' parts of a tile's row add up to the merged row. -/
theorem total (t : Fin cfg0.N) (r : Fin 512) (k : Fin 1024) :
    MergefTile.part (fun b r k => gate Z b (row t r) k) (fun b r k => Y b (row t r) k) W 0 r k + MergefTile.part (fun b r k => gate Z b (row t r) k) (fun b r k => Y b (row t r) k) W 1 r k
      + MergefTile.part (fun b r k => gate Z b (row t r) k) (fun b r k => Y b (row t r) k) W 2 r k + MergefTile.part (fun b r k => gate Z b (row t r) k) (fun b r k => Y b (row t r) k) W 3 r k
      = merged Y Z W (row t r) k := by
  show _ = 0 + _ + _ + _ + _
  rw [zero_add]

/-- The rows plus the merged rows times the output matrix. -/
theorem final8 : (dats m 0 c).arrAt 8 cfg0.N = up2 fun r k => X r k + ∑ l, merged Y Z W r l * O l k := by
  refine (dats m 0 c).arrAt_eq_of_covers 8 _ (by decide +kernel) fun t hf y => ?_
  blk_simp
  rw [after0_8]
  obtain ⟨⟨g0, g1, g2, g3⟩, w0, w1, w2, w3⟩ := loads (Z := Z) (W := W) t
  unfold_out out0_8
  frame_out
  rw [blk0 H, blk1 H, blk2 H, blk3 H, blk4 H, blk5 H, g0, g1, g2, g3, w0, w1, w2, w3, blk6 H, blk7 H, MergefTile.pay4]
  refine (congrFun ((congrArg (fun v => k0_pay2 (F := Ideal) v _ _ _ _ _) (MergefTile.pay3 (fun b r k => gate Z b (row t r) k) (fun b r k => Y b (row t r) k) W)).trans
    (MergefTile.pay2 (fun b r k => gate Z b (row t r) k) (fun b r k => Y b (row t r) k) W (fun r k => X (row t r) k) _ O)) _).trans ?_
  simp only [total]
  refine Eq.trans (b := up2 (fun r k => X r k + ∑ l, merged Y Z W r l * O l k) (ValueIdx.ix2 (row t (y 0)) (y 1))) rfl ?_
  blk_point [idx t, row]

/-- The merged rows the backward pass is given. -/
theorem final9 : (dats m 0 c).arrAt 9 cfg0.N = up2 (merged Y Z W) := by
  refine (dats m 0 c).arrAt_eq_of_covers 9 _ (by decide +kernel) fun t hf y => ?_
  blk_simp
  rw [after0_9]
  obtain ⟨⟨g0, g1, g2, g3⟩, w0, w1, w2, w3⟩ := loads (Z := Z) (W := W) t
  unfold_out out0_9
  frame_out
  rw [blk0 H, blk1 H, blk2 H, blk3 H, blk4 H, blk5 H, g0, g1, g2, g3, w0, w1, w2, w3, MergefTile.pay4]
  refine (congrFun ((congrArg (fun v => k0_pay1 (F := Ideal) v _ _ _) (MergefTile.pay3 (fun b r k => gate Z b (row t r) k) (fun b r k => Y b (row t r) k) W)).trans
    (MergefTile.pay1 (fun b r k => gate Z b (row t r) k) (fun b r k => Y b (row t r) k) W _)) _).trans ?_
  simp only [total]
  refine Eq.trans (b := up2 (merged Y Z W) (ValueIdx.ix2 (row t (y 0)) (y 1))) rfl ?_
  blk_point [idx t, row]

end

end Cert.MergefFinal

end
-- ==== Proof.MergefRef.lean ====
/- The values of the gated merge's forward reference on reals: its merged rows are those of the gradient's reference. -/
module

public import proofs.«01_k».proof.Proof.MergeRef
public import proofs.«01_k».proof.Proof.Gen.MergefRefIdeal.Read

@[expose] public section

noncomputable section

namespace Cert.MergefRef

open Idealize.ShloMosaic Cert.Lift Cert.MergefRefIdeal Cert.MergefRefIdeal.Gen Cert.MergefRefIdeal.Read
open Cert.MergeRef (merged)

variable (X : Fin 8192 → Fin 1024 → ℝ) (Y : Fin 4 → Fin 8192 → Fin 256 → ℝ) (Z : Fin 8192 → Fin 4096 → ℝ) (W : Fin 4 → Fin 256 → Fin 1024 → ℝ) (O : Fin 1024 → Fin 1024 → ℝ)

theorem merged_eq : val_main_v30 (F := Ideal) (up2 (Y 0)) (up2 (Y 1)) (up2 (Y 2)) (up2 (Y 3)) (up2 Z) (up3 W) = up2 (merged Y Z W) :=
  Eq.trans (b := MergeRefIdeal.Read.val_main_v33 (F := Ideal) (up2 (Y 0)) (up2 (Y 1)) (up2 (Y 2)) (up2 (Y 3)) (up2 Z) (up3 W)) rfl (MergeRef.merged_eq Y Z W)

/-- The rows plus the merged rows times the output matrix. -/
theorem out_eq : val_main_v32 (F := Ideal) (up2 X) (up2 (Y 0)) (up2 (Y 1)) (up2 (Y 2)) (up2 (Y 3)) (up2 Z) (up3 W) (up2 O) = up2 fun r k => X r k + ∑ l, merged Y Z W r l * O l k := by
  unfold val_main_v32 val_main_v31
  simp (disch := exact rfl) only [merged_eq, dotNN _ _ _ (rfl : Axes dot_S8192x1024_S1024x1024_S8192x1024_1_0_0_1_n_n _ _ _ _), vec2]

/-- The rounded merged rows are the merged rows. -/
theorem rows_eq : val_main_v33 (F := Ideal) (up2 (Y 0)) (up2 (Y 1)) (up2 (Y 2)) (up2 (Y 3)) (up2 Z) (up3 W) = up2 (merged Y Z W) := by
  unfold val_main_v33
  simp only [merged_eq, casts]

end Cert.MergefRef

end
-- ==== Proof.MergefClaim.lean ====
/- The gated merge of the branches, forward: the two claims of its pair that no generated theorem states. -/
module

public import proofs.«01_k».proof.Defs
public import proofs.«01_k».proof.Proof.MergefFinal
public import proofs.«01_k».proof.Proof.MergefRef
public import proofs.«01_k».proof.Proof.Gen.Mergef.Frame
public import proofs.«01_k».proof.Proof.Gen.MergefIdeal.Frame
public import proofs.«01_k».proof.Proof.Gen.MergefRefIdeal.Run
public import proofs.«01_k».proof.Proof.Gen.Pre_mergef_finite

@[expose] public section

set_option maxRecDepth 16384
set_option maxHeartbeats 1000000

noncomputable section

namespace Cert.MergefClaim

open Idealize.ShloMosaic Idealize.SL.Sem Cert.Lift

/-- The precondition says that the eight arguments hold real numbers only. -/
theorem real_args (a0 : Vec Ideal ⟨2, ![8192, 1024]⟩ .f32) (a1 a2 a3 a4 : Vec Ideal ⟨2, ![8192, 256]⟩ .f32) (a5 : Vec Ideal ⟨2, ![8192, 4096]⟩ .f32) (a6 : Vec Ideal ⟨3, ![4, 256, 1024]⟩ .f32)
    (a7 : Vec Ideal ⟨2, ![1024, 1024]⟩ .f32) (j : (⟨0, ![]⟩ : Shape).Idx) (h : Cert.Pre_mergef_finite.fn (F := Ideal) a0 a1 a2 a3 a4 a5 a6 a7 j = 1#1) :
    (∃ X, a0 = up2 X) ∧ (∃ Y : Fin 4 → Fin 8192 → Fin 256 → ℝ, a1 = up2 (Y 0) ∧ a2 = up2 (Y 1) ∧ a3 = up2 (Y 2) ∧ a4 = up2 (Y 3)) ∧ (∃ Z, a5 = up2 Z) ∧ (∃ W, a6 = up3 W) ∧ ∃ O, a7 = up2 O := by
  dsimp only [Cert.Pre_mergef_finite.fn, Cert.Pre_mergef_finite.fn_part1] at h
  obtain ⟨h, h7⟩ := and_one _ _ _ h
  obtain ⟨h, h6⟩ := and_one _ _ _ h
  obtain ⟨h, h5⟩ := and_one _ _ _ h
  obtain ⟨h, h4⟩ := and_one _ _ _ h
  obtain ⟨h, h3⟩ := and_one _ _ _ h
  obtain ⟨h, h2⟩ := and_one _ _ _ h
  obtain ⟨h0, h1⟩ := and_one _ _ _ h
  obtain ⟨Y0, e1⟩ := real2 _ _ _ _ _ _ h1
  obtain ⟨Y1, e2⟩ := real2 _ _ _ _ _ _ h2
  obtain ⟨Y2, e3⟩ := real2 _ _ _ _ _ _ h3
  obtain ⟨Y3, e4⟩ := real2 _ _ _ _ _ _ h4
  exact ⟨real2 _ _ _ _ _ _ h0, ⟨![Y0, Y1, Y2, Y3], e1, e2, e3, e4⟩, real2 _ _ _ _ _ _ h5, real3 _ _ _ _ _ _ h6, real2 _ _ _ _ _ _ h7⟩

/-- The reference runs to the end from every memory, and declares no semaphore. -/
theorem frame_ref : Cert.quiescent_MergefRefIdeal := fun m ρ _ =>
  (θ_run Cert.MergefRefIdeal.defs _ _).mono (fun r h => ⟨fun c => (h c).2.2, sem_eq_zero_of_no_sems (by decide) r.2⟩)
    (Cert.MergefRefIdeal.Value.run (F := Ideal) m ρ)

/-- Over the reals the kernel's two results are the rows with the merge added and the merged rows. -/
theorem value : Cert.algebraic_MergefIdeal_MergefRefIdeal_pre_mergef_finite := by
  pair_intro
  all_goals have hreal := fun c => real_args _ _ _ _ _ _ _ _ _ (congrFun (hpre c) ValueIdx.ix0)
  run_from Cert.MergefIdeal.Value.run_blocks m g
  run_from Cert.MergefRefIdeal.Value.run m' g'
  all_goals
    obtain ⟨⟨X, h0⟩, ⟨Y, h1, h2, h3, h4⟩, ⟨Z, h5⟩, ⟨W, h6⟩, O, h7⟩ := hreal c
    have H : MergefFinal.Holds m c X Y Z W O := ⟨h0, h1, h2, h3, h4, h5, h6, h7⟩
  · rw [MergefRefIdeal.Read.val_main_v32_eq, h0, h1, h2, h3, h4, h5, h6, h7]
    exact (MergefRef.out_eq X Y Z W O).trans (MergefFinal.final8 H).symm
  · rw [MergefRefIdeal.Read.val_main_v33_eq, h1, h2, h3, h4, h5, h6]
    exact (MergefRef.rows_eq Y Z W).trans (MergefFinal.final9 H).symm

end Cert.MergefClaim

end
-- ==== Proof.PlefKernel.lean ====
/- The values the gated embedding's forward kernel computes from one tile of rows, on reals. -/
module

public import proofs.«01_k».proof.Proof.RmsNorm
public import proofs.«01_k».proof.Proof.LayerNorm
public import proofs.«01_k».proof.Proof.LiftDot
public import proofs.«01_k».proof.Proof.Gen.PlefIdeal.Skeleton

@[expose] public section

noncomputable section

namespace Cert.PlefTile

open Idealize.ShloMosaic Cert.Lift Cert.RmsNorm Cert.PlefIdeal Cert.PlefIdeal.Gen
open Cert.LayerNorm (sig one_add_exp_ne)

variable (X : Fin 512 → Fin 1024 → ℝ) (P : Fin 512 → Fin 256 → ℝ) (Wp : Fin 256 → Fin 1024 → ℝ) (Wg : Fin 1024 → Fin 1024 → ℝ) (G : Fin 1024 → ℝ)

/-- The gate of a tile's rows. -/
abbrev gate (r : Fin 512) (k : Fin 1024) : ℝ := sig (∑ l, nrm (X r) G l * Wg l k)

/-- The rows divided by their root mean square and scaled by the gain. -/
theorem pay1 : k0_pay1 (F := Ideal) (up2 X) (up2 fun _ k => G k) = up2 fun r k => nrm (X r) G k := by
  unfold k0_pay1
  have e : rsqrt (F := Ideal) (φ := .f32) (up2 fun (r : Fin 512) (_ : Fin 1) => (∑ k, X r k * X r k) / 1024 + eps) = up2 fun r _ => rr (X r) := rsqrt2 _ fun r _ => ms_pos (X r)
  simp (disch := norm_num) only [rowSum, lay2, castSelf, vec2, words, scalar_word, splat2, divf2]
  rw [e]
  simp only [bcCol, bcRow, casts, vec2]
  rfl

/-- The gate. -/
theorem pay2 : k0_pay2 (F := Ideal) (up2 X) (up2 fun _ k => G k) (up2 Wg) = up2 (gate X Wg G) := by
  unfold k0_pay2
  simp (disch := first | exact rfl | exact fun _ _ => one_add_exp_ne _) only [pay1, castSelf, mmNN _ _ _ (rfl : Axes dot_S512x1024_S1024x1024_S512x1024_1_0_0_1_n_n _ _ _ _), vec2, words, scalar_word,
    splat2, exp2, divf2, zero_sub]
  rfl

/-- The rows plus the gated product of the embedding. -/
theorem pay3 : k0_pay3 (F := Ideal) (up2 X) (up2 fun _ k => G k) (up2 Wg) (up2 P) (up2 Wp) = up2 fun r k => X r k + gate X Wg G r k * ∑ l, P r l * Wp l k := by
  unfold k0_pay3
  simp (disch := exact rfl) only [pay2, castSelf, casts, mmNN _ _ _ (rfl : Axes dot_S512x256_S256x1024_S512x1024_1_0_0_1_n_n _ _ _ _), vec2]

end Cert.PlefTile

end
-- ==== Proof.PlefFinal.lean ====
/- The arrays the gated embedding's forward kernel leaves, on reals. -/
module

public import proofs.«01_k».proof.Proof.PlefKernel
public import proofs.«01_k».proof.Proof.PleRef
public import proofs.«01_k».proof.Proof.Gen.PlefIdeal.Value
public import Idealize.ShloMosaic.Lib.Claim
public import Idealize.ShloMosaic.Lib.Pipeline.ValueKit

@[expose] public section

set_option maxRecDepth 16384

noncomputable section

namespace Cert.PlefFinal

open Idealize.ShloMosaic Idealize.ShloMosaic.TcCoe Idealize.SL.Sem Cert.Lift Cert.RmsNorm Cert.PlefIdeal Cert.PlefIdeal.Gen
open Idealize.ShloMosaic.Pipeline (Dat)
open Cert.PleRef (gate)

variable (m : (ℓ : Loc nD τ sig) → Buf (Elt Ideal) ℓ) (c : Dev nD)
variable (X : Fin 8192 → Fin 1024 → ℝ) (G : Fin 1024 → ℝ) (Wg : Fin 1024 → Fin 1024 → ℝ) (P : Fin 8192 → Fin 256 → ℝ) (Wp : Fin 256 → Fin 1024 → ℝ)

/-- The memory holds the reals `X`, `G`, `Wg`, `P`, `Wp` in the arguments. -/
structure Holds : Prop where
  h0 : m ((c : Thread nD τ).loc main_arg0) = up2 X
  h1 : m ((c : Thread nD τ).loc main_arg1) = up1 G
  h2 : m ((c : Thread nD τ).loc main_arg2) = up2 Wg
  h3 : m ((c : Thread nD τ).loc main_arg3) = up2 P
  h4 : m ((c : Thread nD τ).loc main_arg4) = up2 Wp

/-- Which block each window stages at a point. -/
theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![0, 0] ∧ win0_2.index t = ![0, 0] ∧ win0_3.index t = ![t.val, 0]
    ∧ win0_4.index t = ![0, 0] ∧ win0_5.index t = ![t.val, 0] ∧ win0_6.index t = ![t.val, 0] ∧ win0_7.index t = ![t.val, 0])

/-- Row `r` of point `t`'s tile. -/
def row (t : Fin cfg0.N) (r : Fin 512) : Fin 8192 := ⟨t.val * 512 + r.val, by have h := t.isLt; have := r.isLt; have h2 : cfg0.N = 16 := N_0; omega⟩

section

variable {m c X G Wg P Wp} (H : Holds m c X G Wg P Wp)
include H

theorem blk0 (t : Fin cfg0.N) : iblk m c 0 t = up2 fun r k => X (row t r) k := by
  funext y
  refine Eq.trans (b := m ((c : Thread nD τ).loc main_arg0) (ValueIdx.ix2 (row t (y 0)) (y 1))) ?_ (congrFun H.h0 _)
  blk_point [iblk, V, idx t, row]

theorem blk1 (t : Fin cfg0.N) : iblk m c 1 t = up2 fun _ k => G k := by
  funext y
  refine Eq.trans (b := m ((c : Thread nD τ).loc main_arg1) (ValueIdx.ix1 (y 1))) ?_ (congrFun H.h1 _)
  blk_point [iblk, V, idx t]

theorem blk2 (t : Fin cfg0.N) : iblk m c 2 t = up2 Wg := by
  funext y
  refine Eq.trans (b := m ((c : Thread nD τ).loc main_arg2) (ValueIdx.ix2 (y 0) (y 1))) ?_ (congrFun H.h2 _)
  blk_point [iblk, V, idx t]

theorem blk3 (t : Fin cfg0.N) : iblk m c 3 t = up2 fun r k => P (row t r) k := by
  funext y
  refine Eq.trans (b := m ((c : Thread nD τ).loc main_arg3) (ValueIdx.ix2 (row t (y 0)) (y 1))) ?_ (congrFun H.h3 _)
  blk_point [iblk, V, idx t, row]

theorem blk4 (t : Fin cfg0.N) : iblk m c 4 t = up2 Wp := by
  funext y
  refine Eq.trans (b := m ((c : Thread nD τ).loc main_arg4) (ValueIdx.ix2 (y 0) (y 1))) ?_ (congrFun H.h4 _)
  blk_point [iblk, V, idx t]

/-- The rows with the gated embedding added. -/
theorem final5 : (dats m 0 c).arrAt 5 cfg0.N = up2 fun r k => X r k + gate X Wg G r k * ∑ l, P r l * Wp l k := by
  refine (dats m 0 c).arrAt_eq_of_covers 5 _ (by decide +kernel) fun t hf y => ?_
  blk_simp
  rw [after0_5]
  unfold out0_5
  frame_out
  rw [blk0 H, blk1 H, blk2 H, blk3 H, blk4 H, PlefTile.pay3]
  refine Eq.trans (b := up2 (fun r k => X r k + gate X Wg G r k * ∑ l, P r l * Wp l k) (ValueIdx.ix2 (row t (y 0)) (y 1))) rfl ?_
  blk_point [idx t, row]

/-- The gate the backward pass is given. -/
theorem final6 : (dats m 0 c).arrAt 6 cfg0.N = up2 (gate X Wg G) := by
  refine (dats m 0 c).arrAt_eq_of_covers 6 _ (by decide +kernel) fun t hf y => ?_
  blk_simp
  rw [after0_6]
  unfold out0_6
  frame_out
  rw [blk0 H, blk1 H, blk2 H, PlefTile.pay2]
  refine Eq.trans (b := up2 (gate X Wg G) (ValueIdx.ix2 (row t (y 0)) (y 1))) rfl ?_
  blk_point [idx t, row]

/-- The normalised and scaled rows the backward pass is given. -/
theorem final7 : (dats m 0 c).arrAt 7 cfg0.N = up2 fun r k => nrm (X r) G k := by
  refine (dats m 0 c).arrAt_eq_of_covers 7 _ (by decide +kernel) fun t hf y => ?_
  blk_simp
  rw [after0_7]
  unfold out0_7
  frame_out
  rw [blk0 H, blk1 H, PlefTile.pay1]
  refine Eq.trans (b := up2 (fun r k => nrm (X r) G k) (ValueIdx.ix2 (row t (y 0)) (y 1))) rfl ?_
  blk_point [idx t, row]

end

end Cert.PlefFinal

end
-- ==== Proof.PlefRef.lean ====
/- The values of the gated embedding's forward reference on reals: its gate and its normalised rows are those of the gradient's reference. -/
module

public import proofs.«01_k».proof.Proof.PleRef
public import proofs.«01_k».proof.Proof.Gen.PlefRefIdeal.Read

@[expose] public section

noncomputable section

namespace Cert.PlefRef

open Idealize.ShloMosaic Cert.Lift Cert.RmsNorm Cert.PlefRefIdeal Cert.PlefRefIdeal.Gen Cert.PlefRefIdeal.Read
open Cert.PleRef (gate)

variable (X : Fin 8192 → Fin 1024 → ℝ) (G : Fin 1024 → ℝ) (Wg : Fin 1024 → Fin 1024 → ℝ) (P : Fin 8192 → Fin 256 → ℝ) (Wp : Fin 256 → Fin 1024 → ℝ)

theorem nrm_eq : val_main_v12 (F := Ideal) (up2 X) (up1 G) = up2 fun r k => nrm (X r) G k :=
  Eq.trans (b := PleRefIdeal.Read.val_main_v15 (F := Ideal) (up2 X) (up1 G)) rfl (PleRef.nrm_eq X G)

theorem gate_eq : val_main_v19 (F := Ideal) (up2 X) (up1 G) (up2 Wg) = up2 (gate X Wg G) :=
  Eq.trans (b := PleRefIdeal.Read.val_main_v22 (F := Ideal) (up2 Wg) (up2 X) (up1 G)) rfl (PleRef.gate_eq X Wg G)

/-- The rows with the gated embedding added. -/
theorem out_eq : val_main_v22 (F := Ideal) (up2 X) (up1 G) (up2 Wg) (up2 P) (up2 Wp) = up2 fun r k => X r k + gate X Wg G r k * ∑ l, P r l * Wp l k := by
  unfold val_main_v22 val_main_v21 val_main_v20
  simp (disch := exact rfl) only [gate_eq, dotNN _ _ _ (rfl : Axes dot_S8192x256_S256x1024_S8192x1024_1_0_0_1_n_n _ _ _ _), vec2]

/-- The rounded rows are the rows. -/
theorem rows_eq : val_main_v23 (F := Ideal) (up2 X) (up1 G) = up2 fun r k => nrm (X r) G k := by
  unfold val_main_v23
  simp only [nrm_eq, casts]

end Cert.PlefRef

end
-- ==== Proof.PlefClaim.lean ====
/- The gated embedding, forward: the two claims of its pair that no generated theorem states. -/
module

public import proofs.«01_k».proof.Defs
public import proofs.«01_k».proof.Proof.PlefFinal
public import proofs.«01_k».proof.Proof.PlefRef
public import proofs.«01_k».proof.Proof.Gen.Plef.Frame
public import proofs.«01_k».proof.Proof.Gen.PlefRefIdeal.Run
public import proofs.«01_k».proof.Proof.Gen.Pre_plef_finite

@[expose] public section

set_option maxRecDepth 16384
set_option maxHeartbeats 1000000

noncomputable section

namespace Cert.PlefClaim

open Idealize.ShloMosaic Idealize.SL.Sem Cert.Lift

/-- The precondition says that the five arguments hold real numbers only. -/
theorem real_args (a0 : Vec Ideal ⟨2, ![8192, 1024]⟩ .f32) (a1 : Vec Ideal ⟨1, ![1024]⟩ .f32) (a2 : Vec Ideal ⟨2, ![1024, 1024]⟩ .f32) (a3 : Vec Ideal ⟨2, ![8192, 256]⟩ .f32)
    (a4 : Vec Ideal ⟨2, ![256, 1024]⟩ .f32) (j : (⟨0, ![]⟩ : Shape).Idx) (h : Cert.Pre_plef_finite.fn (F := Ideal) a0 a1 a2 a3 a4 j = 1#1) :
    (∃ X, a0 = up2 X) ∧ (∃ G, a1 = up1 G) ∧ (∃ Wg, a2 = up2 Wg) ∧ (∃ P, a3 = up2 P) ∧ ∃ Wp, a4 = up2 Wp := by
  dsimp only [Cert.Pre_plef_finite.fn, Cert.Pre_plef_finite.fn_part1] at h
  obtain ⟨h, h4⟩ := and_one _ _ _ h
  obtain ⟨h, h3⟩ := and_one _ _ _ h
  obtain ⟨h, h2⟩ := and_one _ _ _ h
  obtain ⟨h0, h1⟩ := and_one _ _ _ h
  exact ⟨real2 _ _ _ _ _ _ h0, real1 _ _ _ _ _ _ h1, real2 _ _ _ _ _ _ h2, real2 _ _ _ _ _ _ h3, real2 _ _ _ _ _ _ h4⟩

/-- The reference runs to the end from every memory, and declares no semaphore. -/
theorem frame_ref : Cert.quiescent_PlefRefIdeal := fun m ρ _ =>
  (θ_run Cert.PlefRefIdeal.defs _ _).mono (fun r h => ⟨fun c => (h c).2.2.2, sem_eq_zero_of_no_sems (by decide) r.2⟩)
    (Cert.PlefRefIdeal.Value.run (F := Ideal) m ρ)

/-- Over the reals the kernel's three results are the rows with the gated embedding added, the gate and the normalised rows. -/
theorem value : Cert.algebraic_PlefIdeal_PlefRefIdeal_pre_plef_finite := by
  pair_intro
  all_goals have hreal := fun c => real_args _ _ _ _ _ _ (congrFun (hpre c) ValueIdx.ix0)
  run_from Cert.PlefIdeal.Value.run_blocks m g
  run_from Cert.PlefRefIdeal.Value.run m' g'
  all_goals
    obtain ⟨⟨X, h0⟩, ⟨G, h1⟩, ⟨Wg, h2⟩, ⟨P, h3⟩, Wp, h4⟩ := hreal c
    have H : PlefFinal.Holds m c X G Wg P Wp := ⟨h0, h1, h2, h3, h4⟩
  · rw [PlefRefIdeal.Read.val_main_v22_eq, h0, h1, h2, h3, h4]
    exact (PlefRef.out_eq X G Wg P Wp).trans (PlefFinal.final5 H).symm
  · rw [PlefRefIdeal.Read.val_main_v19_eq, h0, h1, h2]
    exact (PlefRef.gate_eq X G Wg).trans (PlefFinal.final6 H).symm
  · rw [PlefRefIdeal.Read.val_main_v23_eq, h0, h1]
    exact (PlefRef.rows_eq X G).trans (PlefFinal.final7 H).symm

end Cert.PlefClaim

end
-- ==== Proof.FfnfKernel.lean ====
/- The values the gated feed-forward's forward kernel computes from one tile of rows, on reals. -/
module

public import proofs.«01_k».proof.Proof.RmsNorm
public import proofs.«01_k».proof.Proof.LayerNorm
public import proofs.«01_k».proof.Proof.LiftDot
public import proofs.«01_k».proof.Proof.Gen.FfnfIdeal.Skeleton

@[expose] public section

noncomputable section

namespace Cert.FfnfTile

open Idealize.ShloMosaic Cert.Lift Cert.RmsNorm Cert.FfnfIdeal Cert.FfnfIdeal.Gen
open Cert.LayerNorm (sig one_add_exp_ne)

variable (X H : Fin 512 → Fin 1024 → ℝ) (G : Fin 1024 → ℝ) (A B : Fin 1024 → Fin 1408 → ℝ) (P Q : Fin 512 → Fin 1408 → ℝ) (V W : Fin 1408 → Fin 1024 → ℝ)

/-- Rows times one group of the input projection's columns. -/
abbrev proj (r : Fin 512) (j : Fin 1408) : ℝ := ∑ l, H r l * A l j
/-- The hidden rows of one half. -/
abbrev hid (r : Fin 512) (j : Fin 1408) : ℝ := P r j * sig (P r j) * Q r j

/-- The rows divided by their root mean square and scaled by the gain. -/
theorem pay1 : k0_pay1 (F := Ideal) (up2 X) (up2 fun _ k => G k) = up2 fun r k => nrm (X r) G k := by
  unfold k0_pay1
  have e : rsqrt (F := Ideal) (φ := .f32) (up2 fun (r : Fin 512) (_ : Fin 1) => (∑ k, X r k * X r k) / 1024 + eps) = up2 fun r _ => rr (X r) := rsqrt2 _ fun r _ => ms_pos (X r)
  simp (disch := norm_num) only [rowSum, lay2, castSelf, vec2, words, scalar_word, splat2, divf2]
  rw [e]
  simp only [bcCol, bcRow, casts, vec2]
  rfl

/-- The first half's gates and factors. -/
theorem pay23 : k0_pay2 (F := Ideal) (up2 X) (up2 fun _ k => G k) (up2 A) = up2 (proj (fun r k => nrm (X r) G k) A)
    ∧ k0_pay3 (F := Ideal) (up2 X) (up2 fun _ k => G k) (up2 A) = up2 (proj (fun r k => nrm (X r) G k) A) := by
  unfold k0_pay2 k0_pay3
  simp (disch := exact rfl) only [pay1, castSelf, casts, mmNN _ _ _ (rfl : Axes dot_S512x1024_S1024x1408_S512x1408_1_0_0_1_n_n _ _ _ _), and_self]

/-- The second half's. -/
theorem pay78 : k0_pay7 (F := Ideal) (up2 H) (up2 A) = up2 (proj H A) ∧ k0_pay8 (F := Ideal) (up2 H) (up2 A) = up2 (proj H A) := by
  unfold k0_pay7 k0_pay8
  simp (disch := exact rfl) only [castSelf, casts, mmNN _ _ _ (rfl : Axes dot_S512x1024_S1024x1408_S512x1408_1_0_0_1_n_n _ _ _ _), and_self]

theorem pay4 : k0_pay4 (F := Ideal) (up2 X) (up2 fun _ k => G k) (up2 A) = up2 (proj (fun r k => nrm (X r) G k) A) := by
  unfold k0_pay4
  rw [(pay23 X G A).1]
  simp only [casts]

/-- The first half's sigmoids' denominators and numerators. -/
theorem pay5 : k0_pay5 (F := Ideal) (up2 X) (up2 fun _ k => G k) (up2 A) = up2 fun r j => 1 + Real.exp (-proj (fun r k => nrm (X r) G k) A r j) := by
  unfold k0_pay5
  simp only [pay4, vec2, words, scalar_word, splat2, zero_sub]

theorem pay6 : k0_pay6 (F := Ideal) = up2 fun _ _ => 1 := by
  unfold k0_pay6
  simp only [words, scalar_word, splat2]

/-- The rows plus the two halves' products with the output projection. -/
theorem pay9 : k0_pay9 (F := Ideal) (up2 X) (up2 H) (up2 Q) (up2 P) (up2 fun r j => 1 + Real.exp (-P r j)) (up2 fun _ _ => 1) (up2 V) (up2 A) (up2 B) (up2 W)
    = up2 fun r k => X r k + ∑ j, hid P Q r j * V j k + ∑ j, hid (proj H A) (proj H B) r j * W j k := by
  unfold k0_pay9
  simp (disch := first | exact rfl | exact fun _ _ => one_add_exp_ne _ | exact fun _ _ => by rw [zero_sub]; exact one_add_exp_ne _) only [pay78, castSelf, casts, vec2, words, scalar_word, splat2, divf2,
    mmNN _ _ _ (rfl : Axes dot_S512x1408_S1408x1024_S512x1024_1_0_0_1_n_n _ _ _ _)]
  simp only [zero_sub]
  rfl

end Cert.FfnfTile

end
-- ==== Proof.FfnfRef.lean ====
/- The values of the gated feed-forward's forward reference, one group of lines at a time, on reals. -/
module

public import proofs.«01_k».proof.Proof.PleRef
public import proofs.«01_k».proof.Proof.FfnRef
public import proofs.«01_k».proof.Proof.Gen.FfnfRefIdeal.Read

@[expose] public section

noncomputable section

namespace Cert.FfnfRef

open Idealize.ShloMosaic Cert.Lift Cert.RmsNorm Cert.FfnfRefIdeal Cert.FfnfRefIdeal.Gen Cert.FfnfRefIdeal.Read
open Cert.LayerNorm (sig one_add_exp_ne)
open Cert.FfnRef (lo hi hid)

variable (X : Fin 8192 → Fin 1024 → ℝ) (G : Fin 1024 → ℝ) (Wi : Fin 1024 → Fin 5632 → ℝ) (Wo : Fin 2816 → Fin 1024 → ℝ)

/-- The gates' arguments and the other factors, in reference order. -/
abbrev pre (r : Fin 8192) (k : Fin 5632) : ℝ := ∑ l, nrm (X r) G l * Wi l k

theorem nrm_eq : val_main_v12 (F := Ideal) (up2 X) (up1 G) = up2 fun r k => nrm (X r) G k :=
  Eq.trans (b := PleRefIdeal.Read.val_main_v15 (F := Ideal) (up2 X) (up1 G)) rfl (PleRef.nrm_eq X G)

theorem pre_eq : val_main_v13 (F := Ideal) (up2 X) (up1 G) (up2 Wi) = up2 (pre X G Wi) := by
  unfold val_main_v13
  rw [nrm_eq]
  exact dotNN _ _ _ rfl

/-- The two halves of the columns. -/
theorem halves : val_main_v18 (F := Ideal) (up2 X) (up1 G) (up2 Wi) = up2 (fun r j => pre X G Wi r (lo j))
    ∧ val_main_v19 (F := Ideal) (up2 X) (up1 G) (up2 Wi) = up2 (fun r j => pre X G Wi r (hi j)) := by
  unfold val_main_v18 val_main_v19
  rw [pre_eq, cut2 (pre X G Wi) 0 0, cut2 (pre X G Wi) 0 2816]
  constructor <;> exact congrArg up2 (funext fun r => funext fun k => congrArg₂ (pre X G Wi) (Fin.ext (Nat.zero_add _)) (Fin.ext (by first | rfl | exact Nat.zero_add _)))

theorem sig_eq : val_main_call0_v5 (F := Ideal) (up2 X) (up1 G) (up2 Wi) = up2 fun r j => sig (pre X G Wi r (lo j)) := by
  unfold val_main_call0_v5 val_main_call0_v4 val_main_call0_v3 val_main_call0_v2 val_main_call0_v1 val_main_call0_v0 val_main_call0_cst val_main_call0_cst_0
  simp (disch := exact fun _ _ => one_add_exp_ne _) only [halves, consts, bcScalar, host2, hostDiv2, vec2]
  rfl

/-- The rows with the feed-forward added. -/
theorem out_eq : val_main_v23 (F := Ideal) (up2 X) (up1 G) (up2 Wi) (up2 Wo) = up2 fun r k => X r k + ∑ j, hid (pre X G Wi) r j * Wo j k := by
  unfold val_main_v23 val_main_v22 val_main_v21 val_main_v20
  simp (disch := exact rfl) only [halves, sig_eq, dotNN _ _ _ (rfl : Axes dot_S8192x2816_S2816x1024_S8192x1024_1_0_0_1_n_n _ _ _ _), vec2]

/-- The gates' arguments and the other factors in the version's order. -/
theorem cols_eq : val_main_v25 (F := Ideal) (up2 X) (up1 G) (up2 Wi) = up2 fun r k => pre X G Wi r (swap k) := by
  unfold val_main_v25 val_main_v24 val_main_v17 val_main_v16 val_main_v15 val_main_v14
  rw [pre_eq]
  simp only [casts, catSwap]

/-- The rounded rows are the rows. -/
theorem rows_eq : val_main_v26 (F := Ideal) (up2 X) (up1 G) = up2 fun r k => nrm (X r) G k := by
  unfold val_main_v26
  simp only [nrm_eq, casts]

end Cert.FfnfRef

end
-- ==== Proof.FfnfFinal.lean ====
/- The arrays the gated feed-forward's forward kernel leaves, on reals. -/
module

public import proofs.«01_k».proof.Proof.FfnfKernel
public import proofs.«01_k».proof.Proof.FfnfRef
public import proofs.«01_k».proof.Proof.FfnFinal
public import proofs.«01_k».proof.Proof.Gen.FfnfIdeal.Value
public import Idealize.ShloMosaic.Lib.Claim
public import Idealize.ShloMosaic.Lib.Pipeline.ValueKit

@[expose] public section

set_option maxRecDepth 16384

noncomputable section

namespace Cert.FfnfFinal

open Idealize.ShloMosaic Idealize.ShloMosaic.TcCoe Idealize.SL.Sem Cert.Lift Cert.RmsNorm Cert.FfnfIdeal Cert.FfnfIdeal.Gen
open Idealize.ShloMosaic.Pipeline (Dat)
open Cert.FfnRef (lo hi hid)
open Cert.FfnFinal (fst snd groups)
open Cert.FfnfRef (pre)

variable (m : (ℓ : Loc nD τ sig) → Buf (Elt Ideal) ℓ) (c : Dev nD)
variable (X : Fin 8192 → Fin 1024 → ℝ) (G : Fin 1024 → ℝ) (Wi : Fin 1024 → Fin 5632 → ℝ) (Wo : Fin 2816 → Fin 1024 → ℝ)

/-- The memory holds the reals `X`, `G`, `Wi`, `Wo` in the arguments. -/
structure Holds : Prop where
  h0 : m ((c : Thread nD τ).loc main_arg0) = up2 X
  h1 : m ((c : Thread nD τ).loc main_arg1) = up1 G
  h2 : m ((c : Thread nD τ).loc main_arg2) = up2 Wi
  h3 : m ((c : Thread nD τ).loc main_arg3) = up2 Wo

/-- Which block each window stages at a point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0])

/-- Row `r` of point `t`'s tile. -/
def row (t : Fin cfg0.N) (r : Fin 512) : Fin 8192 := ⟨t.val * 512 + r.val, by have h := t.isLt; have := r.isLt; have h2 : cfg0.N = 16 := N_0; omega⟩

/-- A sum over the hidden columns is the sum over the first half plus the sum over the second. -/
theorem sum_halves (f : Fin 2816 → ℝ) : ∑ j, f j = (∑ j, f (fst j)) + ∑ j, f (snd j) := Fin.sum_univ_add (a := 1408) (b := 1408) f

section

variable {m c X G Wi Wo} (H : Holds m c X G Wi Wo)
include H

/-- The columns of the host's projection are in the version's order. -/
theorem hostW : V m c main_v7 = up2 fun r k => Wi r (swap k) := by
  simp only [V, hostOps0, List.flatten_cons, List.flatten_nil, List.append_nil, List.cons_append, List.nil_append]
  after_results_simp
  refine Eq.trans ?_ (cutSwap Wi slices_S1024x5632_S1024x2816_0_0 slices_S1024x5632_S1024x2816_0_2816 slices_S1024x2816_S1024x1408_0_0 slices_S1024x2816_S1024x1408_0_1408 concatenates_S1024x1408_S1024x1408_S1024x1408_S1024x1408_S1024x5632_d1)
  rw [← H.h2]
  rfl

theorem blk0 (t : Fin cfg0.N) : iblk m c 0 t = up2 fun r k => X (row t r) k := by
  funext y
  refine Eq.trans (b := m ((c : Thread nD τ).loc main_arg0) (ValueIdx.ix2 (row t (y 0)) (y 1))) ?_ (congrFun H.h0 _)
  blk_point [iblk, V, idx t, row]

theorem blk1 (t : Fin cfg0.N) : iblk m c 1 t = up2 fun _ k => G k := by
  funext y
  refine Eq.trans (b := m ((c : Thread nD τ).loc main_arg1) (ValueIdx.ix1 (y 1))) ?_ (congrFun H.h1 _)
  blk_point [iblk, V, idx t]

theorem blk2 (t : Fin cfg0.N) : iblk m c 2 t = up2 fun r k => Wi r (swap k) := by
  funext y
  refine Eq.trans (b := V m c main_v7 (ValueIdx.ix2 (y 0) (y 1))) ?_ (congrFun (hostW H) _)
  blk_ext [iblk, idx t]

theorem blk3 (t : Fin cfg0.N) : iblk m c 3 t = up2 Wo := by
  funext y
  refine Eq.trans (b := m ((c : Thread nD τ).loc main_arg3) (ValueIdx.ix2 (y 0) (y 1))) ?_ (congrFun H.h3 _)
  blk_point [iblk, V, idx t]

omit H in
/-- The four column groups of the input projection, and the two halves of the output projection. -/
theorem loads :
    View.ld (Val := Elt Ideal) (e' := .bf16) (up2 fun l k => Wi l (swap k)) r0_2 = up2 (fun l j => Wi l (lo (fst j))) ∧ View.ld (Val := Elt Ideal) (e' := .bf16) (up2 fun l k => Wi l (swap k)) r0_3 = up2 (fun l j => Wi l (hi (fst j)))
    ∧ View.ld (Val := Elt Ideal) (e' := .bf16) (up2 fun l k => Wi l (swap k)) r0_7 = up2 (fun l j => Wi l (lo (snd j))) ∧ View.ld (Val := Elt Ideal) (e' := .bf16) (up2 fun l k => Wi l (swap k)) r0_8 = up2 (fun l j => Wi l (hi (snd j)))
    ∧ View.ld (Val := Elt Ideal) (e' := .bf16) (up2 Wo) r0_6 = up2 (fun j k => Wo (fst j) k) ∧ View.ld (Val := Elt Ideal) (e' := .bf16) (up2 Wo) r0_11 = up2 (fun j k => Wo (snd j) k) := by
  refine ⟨?_, ?_, ?_, ?_, (loadHalf Wo _ _ _).trans (congrArg up2 (funext fun j => funext fun k => congrArg₂ Wo (Fin.ext (Nat.zero_add _)) (Fin.ext (Nat.zero_add _)))),
    (loadHalf Wo _ _ _).trans (congrArg up2 (funext fun j => funext fun k => congrArg₂ Wo (Fin.ext rfl) (Fin.ext (Nat.zero_add _))))⟩ <;>
    refine (loadHalf (fun r k => Wi r (swap k)) _ _ _).trans (congrArg up2 (funext fun r => funext fun j => congrArg₂ Wi (Fin.ext (Nat.zero_add _)) ?_))
  · exact (groups _ j).1 (Nat.zero_add _)
  · exact (groups _ j).2.1 rfl
  · exact (groups _ j).2.2.1 rfl
  · exact (groups _ j).2.2.2 rfl

omit H in
/-- A block of one column group agrees with the tile where the columns do. -/
theorem at_group (A : Fin 1024 → Fin 1408 → ℝ) (t : Fin cfg0.N) (x : (⟨2, ![512, 1408]⟩ : Shape).Idx) (y : (⟨2, ![512, 5632]⟩ : Shape).Idx) (e : (y 0).val = (x 0).val)
    (h : ∀ l, Wi l (swap (y 1)) = A l (x 1)) : up2 (FfnfTile.proj (fun r k => nrm (X (row t r)) G k) A) x = up2 (fun r k => pre X G Wi (row t r) (swap k)) y := by
  have e' : y 0 = x 0 := Fin.ext e
  show ((FfnfTile.proj (fun r k => nrm (X (row t r)) G k) A (x 0) (x 1) : ℝ) : EReal) = ((pre X G Wi (row t (y 0)) (swap (y 1)) : ℝ) : EReal)
  simp only [e', FfnfTile.proj, pre, h]

omit H in
/-- A tile's two halves add up to the feed-forward of its rows. -/
theorem total (t : Fin cfg0.N) (r : Fin 512) (k : Fin 1024) :
    X (row t r) k + (∑ j, FfnfTile.hid (FfnfTile.proj (fun r k => nrm (X (row t r)) G k) fun l j => Wi l (lo (fst j))) (FfnfTile.proj (fun r k => nrm (X (row t r)) G k) fun l j => Wi l (hi (fst j))) r j * Wo (fst j) k)
      + (∑ j, FfnfTile.hid (FfnfTile.proj (fun r k => nrm (X (row t r)) G k) fun l j => Wi l (lo (snd j))) (FfnfTile.proj (fun r k => nrm (X (row t r)) G k) fun l j => Wi l (hi (snd j))) r j * Wo (snd j) k)
      = X (row t r) k + ∑ j, hid (pre X G Wi) (row t r) j * Wo j k := by
  rw [sum_halves]
  exact add_assoc _ _ _

/-- The rows with the feed-forward added. -/
theorem final4 : (dats m 0 c).arrAt 4 cfg0.N = up2 fun r k => X r k + ∑ j, hid (pre X G Wi) r j * Wo j k := by
  refine (dats m 0 c).arrAt_eq_of_covers 4 _ (by decide +kernel) fun t hf y => ?_
  blk_simp
  rw [after0_4]
  obtain ⟨w0, w1, w2, w3, o0, o1⟩ := loads (Wi := Wi) (Wo := Wo)
  unfold_out out0_4
  frame_out
  rw [blk0 H, blk1 H, blk2 H, blk3 H, w0, w1, w2, w3, o0, o1, FfnfTile.pay1, (FfnfTile.pay23 _ _ _).2, FfnfTile.pay4, FfnfTile.pay5, FfnfTile.pay6, FfnfTile.pay9]
  refine Eq.trans (b := up2 (fun r k => X r k + ∑ j, hid (pre X G Wi) r j * Wo j k) (ValueIdx.ix2 (row t (y 0)) (y 1))) (congrArg (fun s : ℝ => (s : EReal)) (total t (y 0) (y 1))) ?_
  blk_point [idx t, row]

/-- The gates' arguments and the other factors the backward pass is given. -/
theorem final5 : (dats m 0 c).arrAt 5 cfg0.N = up2 fun r k => pre X G Wi r (swap k) := by
  refine (dats m 0 c).arrAt_eq_of_covers 5 _ (by decide +kernel) fun t hf y => ?_
  blk_simp
  rw [after0_5]
  obtain ⟨w0, w1, w2, w3, -, -⟩ := loads (Wi := Wi) (Wo := Wo)
  unfold_out out0_5
  frame_out
  rw [blk0 H, blk1 H, blk2 H, w0, w1, w2, w3, FfnfTile.pay1, (FfnfTile.pay23 _ _ _).1, (FfnfTile.pay23 _ _ _).2, (FfnfTile.pay78 _ _).1, (FfnfTile.pay78 _ _).2]
  refine Eq.trans (b := up2 (fun r k => pre X G Wi (row t r) (swap k)) y) ?_ ?_
  · canon_tiles x e
    · exact at_group _ t x y (by omega) fun l => congrArg (Wi l) ((groups (y 1) (x 1)).2.2.2 (by omega))
    · exact at_group _ t x y (by omega) fun l => congrArg (Wi l) ((groups (y 1) (x 1)).2.2.1 (by omega))
    · exact at_group _ t x y (by omega) fun l => congrArg (Wi l) ((groups (y 1) (x 1)).2.1 (by omega))
    · exact at_group _ t x y (by omega) fun l => congrArg (Wi l) ((groups (y 1) (x 1)).1 (by omega))
  · refine Eq.trans (b := up2 (fun r k => pre X G Wi r (swap k)) (ValueIdx.ix2 (row t (y 0)) (y 1))) rfl ?_
    blk_point [idx t, row]

/-- The normalised and scaled rows the backward pass is given. -/
theorem final6 : (dats m 0 c).arrAt 6 cfg0.N = up2 fun r k => nrm (X r) G k := by
  refine (dats m 0 c).arrAt_eq_of_covers 6 _ (by decide +kernel) fun t hf y => ?_
  blk_simp
  rw [after0_6]
  unfold out0_6
  frame_out
  rw [blk0 H, blk1 H, FfnfTile.pay1]
  refine Eq.trans (b := up2 (fun r k => nrm (X r) G k) (ValueIdx.ix2 (row t (y 0)) (y 1))) rfl ?_
  blk_point [idx t, row]

end

end Cert.FfnfFinal

end
-- ==== Proof.FfnfClaim.lean ====
/- The gated feed-forward, forward: the two claims of its pair that no generated theorem states. -/
module

public import proofs.«01_k».proof.Defs
public import proofs.«01_k».proof.Proof.FfnfFinal
public import proofs.«01_k».proof.Proof.FfnfRef
public import proofs.«01_k».proof.Proof.Gen.Ffnf.Frame
public import proofs.«01_k».proof.Proof.Gen.FfnfRefIdeal.Run
public import proofs.«01_k».proof.Proof.Gen.Pre_ffnf_finite

@[expose] public section

set_option maxRecDepth 16384
set_option maxHeartbeats 1000000

noncomputable section

namespace Cert.FfnfClaim

open Idealize.ShloMosaic Idealize.SL.Sem Cert.Lift

/-- The precondition says that the four arguments hold real numbers only. -/
theorem real_args (a0 : Vec Ideal ⟨2, ![8192, 1024]⟩ .f32) (a1 : Vec Ideal ⟨1, ![1024]⟩ .f32) (a2 : Vec Ideal ⟨2, ![1024, 5632]⟩ .f32) (a3 : Vec Ideal ⟨2, ![2816, 1024]⟩ .f32)
    (j : (⟨0, ![]⟩ : Shape).Idx) (h : Cert.Pre_ffnf_finite.fn (F := Ideal) a0 a1 a2 a3 j = 1#1) :
    (∃ X, a0 = up2 X) ∧ (∃ G, a1 = up1 G) ∧ (∃ Wi, a2 = up2 Wi) ∧ ∃ Wo, a3 = up2 Wo := by
  dsimp only [Cert.Pre_ffnf_finite.fn, Cert.Pre_ffnf_finite.fn_part1] at h
  obtain ⟨h, h3⟩ := and_one _ _ _ h
  obtain ⟨h, h2⟩ := and_one _ _ _ h
  obtain ⟨h0, h1⟩ := and_one _ _ _ h
  exact ⟨real2 _ _ _ _ _ _ h0, real1 _ _ _ _ _ _ h1, real2 _ _ _ _ _ _ h2, real2 _ _ _ _ _ _ h3⟩

/-- The reference runs to the end from every memory, and declares no semaphore. -/
theorem frame_ref : Cert.quiescent_FfnfRefIdeal := fun m ρ _ =>
  (θ_run Cert.FfnfRefIdeal.defs _ _).mono (fun r h => ⟨fun c => (h c).2.2.2, sem_eq_zero_of_no_sems (by decide) r.2⟩)
    (Cert.FfnfRefIdeal.Value.run (F := Ideal) m ρ)

/-- Over the reals the kernel's three results are the rows with the feed-forward added, the input product and the normalised rows. -/
theorem value : Cert.algebraic_FfnfIdeal_FfnfRefIdeal_pre_ffnf_finite := by
  pair_intro
  all_goals have hreal := fun c => real_args _ _ _ _ _ (congrFun (hpre c) ValueIdx.ix0)
  run_from Cert.FfnfIdeal.Value.run_blocks m g
  run_from Cert.FfnfRefIdeal.Value.run m' g'
  all_goals
    obtain ⟨⟨X, h0⟩, ⟨G, h1⟩, ⟨Wi, h2⟩, Wo, h3⟩ := hreal c
    have H : FfnfFinal.Holds m c X G Wi Wo := ⟨h0, h1, h2, h3⟩
  · rw [FfnfRefIdeal.Read.val_main_v23_eq, h0, h1, h2, h3]
    exact (FfnfRef.out_eq X G Wi Wo).trans (FfnfFinal.final4 H).symm
  · rw [FfnfRefIdeal.Read.val_main_v25_eq, h0, h1, h2]
    exact (FfnfRef.cols_eq X G Wi).trans (FfnfFinal.final5 H).symm
  · rw [FfnfRefIdeal.Read.val_main_v26_eq, h0, h1]
    exact (FfnfRef.rows_eq X G).trans (FfnfFinal.final6 H).symm

end Cert.FfnfClaim

end
-- ==== Proof.lean ====
module

public import proofs.«01_k».proof.Defs
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Pre_norm_finite
public import proofs.«01_k».proof.Proof.NormClaim
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.LossClaim
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Gen.Pre_ple_finite
public import proofs.«01_k».proof.Proof.PleClaim
public import proofs.«01_k».proof.Proof.Gen.Rmsb
public import proofs.«01_k».proof.Proof.Gen.Rmsb.Frame
public import proofs.«01_k».proof.Proof.Gen.RmsbIdeal
public import proofs.«01_k».proof.Proof.Gen.RmsbIdeal.Frame
public import proofs.«01_k».proof.Proof.Gen.RmsbIdeal.Value
public import proofs.«01_k».proof.Proof.Gen.RmsbRefIdeal
public import proofs.«01_k».proof.Proof.Gen.RmsbRefIdeal.Run
public import proofs.«01_k».proof.Proof.Gen.RmsbRefIdeal.Read
public import proofs.«01_k».proof.Proof.Gen.Pre_rmsb_finite
public import proofs.«01_k».proof.Proof.RmsbClaim
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Pre_merge_finite
public import proofs.«01_k».proof.Proof.MergeClaim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.FfnClaim
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Gen.Pre_sgu_finite
public import proofs.«01_k».proof.Proof.SguClaim
public import proofs.«01_k».proof.Proof.Gen.Att
public import proofs.«01_k».proof.Proof.Gen.Att.Frame
public import proofs.«01_k».proof.Proof.Gen.AttIdeal
public import proofs.«01_k».proof.Proof.Gen.AttIdeal.Frame
public import proofs.«01_k».proof.Proof.Gen.AttIdeal.Value
public import proofs.«01_k».proof.Proof.Gen.AttRefIdeal
public import proofs.«01_k».proof.Proof.Gen.AttRefIdeal.Run
public import proofs.«01_k».proof.Proof.Gen.AttRefIdeal.Read
public import proofs.«01_k».proof.Proof.Gen.Pre_att_finite
public import proofs.«01_k».proof.Proof.AttClaim
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_mix_finite
public import proofs.«01_k».proof.Proof.MixClaim
public import proofs.«01_k».proof.Proof.Gen.Bra
public import proofs.«01_k».proof.Proof.Gen.Bra.Frame
public import proofs.«01_k».proof.Proof.Gen.BraIdeal
public import proofs.«01_k».proof.Proof.Gen.BraIdeal.Frame
public import proofs.«01_k».proof.Proof.Gen.BraIdeal.Value
public import proofs.«01_k».proof.Proof.Gen.BraRefIdeal
public import proofs.«01_k».proof.Proof.Gen.BraRefIdeal.Run
public import proofs.«01_k».proof.Proof.Gen.BraRefIdeal.Read
public import proofs.«01_k».proof.Proof.Gen.Pre_bra_finite
public import proofs.«01_k».proof.Proof.BraClaim
public import proofs.«01_k».proof.Proof.Gen.Sguf
public import proofs.«01_k».proof.Proof.Gen.Sguf.Frame
public import proofs.«01_k».proof.Proof.Gen.SgufIdeal
public import proofs.«01_k».proof.Proof.Gen.SgufIdeal.Frame
public import proofs.«01_k».proof.Proof.Gen.SgufIdeal.Value
public import proofs.«01_k».proof.Proof.Gen.SgufRefIdeal
public import proofs.«01_k».proof.Proof.Gen.SgufRefIdeal.Run
public import proofs.«01_k».proof.Proof.Gen.SgufRefIdeal.Read
public import proofs.«01_k».proof.Proof.Gen.Pre_sguf_finite
public import proofs.«01_k».proof.Proof.SgufClaim
public import proofs.«01_k».proof.Proof.Gen.Braf
public import proofs.«01_k».proof.Proof.Gen.Braf.Frame
public import proofs.«01_k».proof.Proof.Gen.BrafIdeal
public import proofs.«01_k».proof.Proof.Gen.BrafIdeal.Frame
public import proofs.«01_k».proof.Proof.Gen.BrafIdeal.Value
public import proofs.«01_k».proof.Proof.Gen.BrafRefIdeal
public import proofs.«01_k».proof.Proof.Gen.BrafRefIdeal.Run
public import proofs.«01_k».proof.Proof.Gen.BrafRefIdeal.Read
public import proofs.«01_k».proof.Proof.Gen.Pre_braf_finite
public import proofs.«01_k».proof.Proof.BrafClaim
public import proofs.«01_k».proof.Proof.Gen.Mergef
public import proofs.«01_k».proof.Proof.Gen.Mergef.Frame
public import proofs.«01_k».proof.Proof.Gen.MergefIdeal
public import proofs.«01_k».proof.Proof.Gen.MergefIdeal.Frame
public import proofs.«01_k».proof.Proof.Gen.MergefIdeal.Value
public import proofs.«01_k».proof.Proof.Gen.MergefRefIdeal
public import proofs.«01_k».proof.Proof.Gen.MergefRefIdeal.Run
public import proofs.«01_k».proof.Proof.Gen.MergefRefIdeal.Read
public import proofs.«01_k».proof.Proof.Gen.Pre_mergef_finite
public import proofs.«01_k».proof.Proof.MergefClaim
public import proofs.«01_k».proof.Proof.Gen.Plef
public import proofs.«01_k».proof.Proof.Gen.Plef.Frame
public import proofs.«01_k».proof.Proof.Gen.PlefIdeal
public import proofs.«01_k».proof.Proof.Gen.PlefIdeal.Frame
public import proofs.«01_k».proof.Proof.Gen.PlefIdeal.Value
public import proofs.«01_k».proof.Proof.Gen.PlefRefIdeal
public import proofs.«01_k».proof.Proof.Gen.PlefRefIdeal.Run
public import proofs.«01_k».proof.Proof.Gen.PlefRefIdeal.Read
public import proofs.«01_k».proof.Proof.Gen.Pre_plef_finite
public import proofs.«01_k».proof.Proof.PlefClaim
public import proofs.«01_k».proof.Proof.Gen.Ffnf
public import proofs.«01_k».proof.Proof.Gen.Ffnf.Frame
public import proofs.«01_k».proof.Proof.Gen.FfnfIdeal
public import proofs.«01_k».proof.Proof.Gen.FfnfIdeal.Frame
public import proofs.«01_k».proof.Proof.Gen.FfnfIdeal.Value
public import proofs.«01_k».proof.Proof.Gen.FfnfRefIdeal
public import proofs.«01_k».proof.Proof.Gen.FfnfRefIdeal.Run
public import proofs.«01_k».proof.Proof.Gen.FfnfRefIdeal.Read
public import proofs.«01_k».proof.Proof.Gen.Pre_ffnf_finite
public import proofs.«01_k».proof.Proof.FfnfClaim
public import proofs.«01_k».proof.Proof.Gen.Conf
public import proofs.«01_k».proof.Proof.Gen.Conf.Frame
public import proofs.«01_k».proof.Proof.Gen.ConfIdeal
public import proofs.«01_k».proof.Proof.Gen.ConfIdeal.Frame

@[expose] public section

noncomputable section

namespace Cert.Proof

open Idealize.ShloMosaic Idealize.SL.Sem

/-- Every claim of the certificate: for each call its frames, the reading over the reals, and the value. -/
theorem claim : Cert.Claim := ⟨Cert.Norm.Gen.facts, Cert.NormIdeal.Gen.facts, Cert.NormRefIdeal.Gen.facts, Cert.Loss.Gen.facts, Cert.LossIdeal.Gen.facts, Cert.LossRefIdeal.Gen.facts, Cert.Ple.Gen.facts, Cert.PleIdeal.Gen.facts, Cert.PleRefIdeal.Gen.facts, Cert.Rmsb.Gen.facts, Cert.RmsbIdeal.Gen.facts, Cert.RmsbRefIdeal.Gen.facts, Cert.Merge.Gen.facts, Cert.MergeIdeal.Gen.facts, Cert.MergeRefIdeal.Gen.facts, Cert.Ffn.Gen.facts, Cert.FfnIdeal.Gen.facts, Cert.FfnRefIdeal.Gen.facts, Cert.Sgu.Gen.facts, Cert.SguIdeal.Gen.facts, Cert.SguRefIdeal.Gen.facts, Cert.Att.Gen.facts, Cert.AttIdeal.Gen.facts, Cert.AttRefIdeal.Gen.facts, Cert.Mix.Gen.facts, Cert.MixIdeal.Gen.facts, Cert.MixRefIdeal.Gen.facts, Cert.Bra.Gen.facts, Cert.BraIdeal.Gen.facts, Cert.BraRefIdeal.Gen.facts, Cert.Sguf.Gen.facts, Cert.SgufIdeal.Gen.facts, Cert.SgufRefIdeal.Gen.facts, Cert.Braf.Gen.facts, Cert.BrafIdeal.Gen.facts, Cert.BrafRefIdeal.Gen.facts, Cert.Mergef.Gen.facts, Cert.MergefIdeal.Gen.facts, Cert.MergefRefIdeal.Gen.facts, Cert.Plef.Gen.facts, Cert.PlefIdeal.Gen.facts, Cert.PlefRefIdeal.Gen.facts, Cert.Ffnf.Gen.facts, Cert.FfnfIdeal.Gen.facts, Cert.FfnfRefIdeal.Gen.facts, Cert.Conf.Gen.facts, Cert.ConfIdeal.Gen.facts, Cert.Pre_norm_finite.Gen.facts, Cert.Pre_loss_finite.Gen.facts, Cert.Pre_ple_finite.Gen.facts, Cert.Pre_rmsb_finite.Gen.facts, Cert.Pre_merge_finite.Gen.facts, Cert.Pre_ffn_finite.Gen.facts, Cert.Pre_sgu_finite.Gen.facts, Cert.Pre_att_finite.Gen.facts, Cert.Pre_mix_finite.Gen.facts, Cert.Pre_bra_finite.Gen.facts, Cert.Pre_sguf_finite.Gen.facts, Cert.Pre_braf_finite.Gen.facts, Cert.Pre_mergef_finite.Gen.facts, Cert.Pre_plef_finite.Gen.facts, Cert.Pre_ffnf_finite.Gen.facts,
  fun m ρ _ => Cert.Norm.Gen.frame m ρ, fun m ρ _ => Cert.NormIdeal.Gen.frame m ρ, fun m ρ _ => Cert.NormIdeal.Gen.frame m ρ,
  NormClaim.frame_ref, fun m ρ _ => NormClaim.frame_ref m ρ trivial,
  fun m ρ _ => Cert.Loss.Gen.frame m ρ, fun m ρ _ => Cert.LossIdeal.Gen.frame m ρ, fun m ρ _ => Cert.LossIdeal.Gen.frame m ρ,
  LossClaim.frame_ref, fun m ρ _ => LossClaim.frame_ref m ρ trivial,
  fun m ρ _ => Cert.Ple.Gen.frame m ρ, fun m ρ _ => Cert.PleIdeal.Gen.frame m ρ, fun m ρ _ => Cert.PleIdeal.Gen.frame m ρ,
  PleClaim.frame_ref, fun m ρ _ => PleClaim.frame_ref m ρ trivial,
  fun m ρ _ => Cert.Rmsb.Gen.frame m ρ, fun m ρ _ => Cert.RmsbIdeal.Gen.frame m ρ, fun m ρ _ => Cert.RmsbIdeal.Gen.frame m ρ,
  RmsbClaim.frame_ref, fun m ρ _ => RmsbClaim.frame_ref m ρ trivial,
  fun m ρ _ => Cert.Merge.Gen.frame m ρ, fun m ρ _ => Cert.MergeIdeal.Gen.frame m ρ, fun m ρ _ => Cert.MergeIdeal.Gen.frame m ρ,
  MergeClaim.frame_ref, fun m ρ _ => MergeClaim.frame_ref m ρ trivial,
  fun m ρ _ => Cert.Ffn.Gen.frame m ρ, fun m ρ _ => Cert.FfnIdeal.Gen.frame m ρ, fun m ρ _ => Cert.FfnIdeal.Gen.frame m ρ,
  FfnClaim.frame_ref, fun m ρ _ => FfnClaim.frame_ref m ρ trivial,
  fun m ρ _ => Cert.Sgu.Gen.frame m ρ, fun m ρ _ => Cert.SguIdeal.Gen.frame m ρ, fun m ρ _ => Cert.SguIdeal.Gen.frame m ρ,
  SguClaim.frame_ref, fun m ρ _ => SguClaim.frame_ref m ρ trivial,
  fun m ρ _ => Cert.Att.Gen.frame m ρ, fun m ρ _ => Cert.AttIdeal.Gen.frame m ρ, fun m ρ _ => Cert.AttIdeal.Gen.frame m ρ,
  AttClaim.frame_ref, fun m ρ _ => AttClaim.frame_ref m ρ trivial,
  fun m ρ _ => Cert.Mix.Gen.frame m ρ, fun m ρ _ => Cert.MixIdeal.Gen.frame m ρ, fun m ρ _ => Cert.MixIdeal.Gen.frame m ρ,
  MixClaim.frame_ref, fun m ρ _ => MixClaim.frame_ref m ρ trivial,
  fun m ρ _ => Cert.Bra.Gen.frame m ρ, fun m ρ _ => Cert.BraIdeal.Gen.frame m ρ, fun m ρ _ => Cert.BraIdeal.Gen.frame m ρ,
  BraClaim.frame_ref, fun m ρ _ => BraClaim.frame_ref m ρ trivial,
  fun m ρ _ => Cert.Sguf.Gen.frame m ρ, fun m ρ _ => Cert.SgufIdeal.Gen.frame m ρ, fun m ρ _ => Cert.SgufIdeal.Gen.frame m ρ,
  SgufClaim.frame_ref, fun m ρ _ => SgufClaim.frame_ref m ρ trivial,
  fun m ρ _ => Cert.Braf.Gen.frame m ρ, fun m ρ _ => Cert.BrafIdeal.Gen.frame m ρ, fun m ρ _ => Cert.BrafIdeal.Gen.frame m ρ,
  BrafClaim.frame_ref, fun m ρ _ => BrafClaim.frame_ref m ρ trivial,
  fun m ρ _ => Cert.Mergef.Gen.frame m ρ, fun m ρ _ => Cert.MergefIdeal.Gen.frame m ρ, fun m ρ _ => Cert.MergefIdeal.Gen.frame m ρ,
  MergefClaim.frame_ref, fun m ρ _ => MergefClaim.frame_ref m ρ trivial,
  fun m ρ _ => Cert.Plef.Gen.frame m ρ, fun m ρ _ => Cert.PlefIdeal.Gen.frame m ρ, fun m ρ _ => Cert.PlefIdeal.Gen.frame m ρ,
  PlefClaim.frame_ref, fun m ρ _ => PlefClaim.frame_ref m ρ trivial,
  fun m ρ _ => Cert.Ffnf.Gen.frame m ρ, fun m ρ _ => Cert.FfnfIdeal.Gen.frame m ρ, fun m ρ _ => Cert.FfnfIdeal.Gen.frame m ρ,
  FfnfClaim.frame_ref, fun m ρ _ => FfnfClaim.frame_ref m ρ trivial,
  fun m ρ _ => Cert.Conf.Gen.frame m ρ, fun m ρ _ => Cert.ConfIdeal.Gen.frame m ρ,
  trivial, NormClaim.value, trivial, LossClaim.value, trivial, PleClaim.value, trivial, RmsbClaim.value, trivial, MergeClaim.value, trivial, FfnClaim.value, trivial, SguClaim.value, AttClaim.preserves, AttClaim.value, trivial, MixClaim.value, trivial, BraClaim.value, trivial, SgufClaim.value, trivial, BrafClaim.value, trivial, MergefClaim.value, trivial, PlefClaim.value, trivial, FfnfClaim.value, trivial⟩

end Cert.Proof

end
